-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDownDx (m : (ℓ : Loc Cert.MlpDownDx.nD Cert.MlpDownDx.τ Cert.MlpDownDx.sig) → Buf (Elt Bits) ℓ) : Prop :=
  True

def Pre_MlpDownDxIdeal (m : (ℓ : Loc Cert.MlpDownDxIdeal.nD Cert.MlpDownDxIdeal.τ Cert.MlpDownDxIdeal.sig) → Buf (Elt Ideal) ℓ) : Prop :=
  True

def Pre_MlpDownDxRefIdeal (m : (ℓ : Loc Cert.MlpDownDxRefIdeal.nD Cert.MlpDownDxRefIdeal.τ Cert.MlpDownDxRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_MlpUpDxRefIdeal (m : (ℓ : Loc Cert.MlpUpDxRefIdeal.nD Cert.MlpUpDxRefIdeal.τ Cert.MlpUpDxRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_WOutDx (m : (ℓ : Loc Cert.WOutDx.nD Cert.WOutDx.τ Cert.WOutDx.sig) → Buf (Elt Bits) ℓ) : Prop :=
  True

def Pre_WOutDxIdeal (m : (ℓ : Loc Cert.WOutDxIdeal.nD Cert.WOutDxIdeal.τ Cert.WOutDxIdeal.sig) → Buf (Elt Ideal) ℓ) : Prop :=
  True

def Pre_WOutDxRefIdeal (m : (ℓ : Loc Cert.WOutDxRefIdeal.nD Cert.WOutDxRefIdeal.τ Cert.WOutDxRefIdeal.sig) → Buf (Elt Ideal) ℓ) : Prop :=
  True

def Pre_WOutDw (m : (ℓ : Loc Cert.WOutDw.nD Cert.WOutDw.τ Cert.WOutDw.sig) → Buf (Elt Bits) ℓ) : Prop :=
  True

def Pre_WOutDwIdeal (m : (ℓ : Loc Cert.WOutDwIdeal.nD Cert.WOutDwIdeal.τ Cert.WOutDwIdeal.sig) → Buf (Elt Ideal) ℓ) : Prop :=
  True

def Pre_WOutDwRefIdeal (m : (ℓ : Loc Cert.WOutDwRefIdeal.nD Cert.WOutDwRefIdeal.τ Cert.WOutDwRefIdeal.sig) → Buf (Elt Ideal) ℓ) : Prop :=
  True

def Pre_SsmUp (m : (ℓ : Loc Cert.SsmUp.nD Cert.SsmUp.τ Cert.SsmUp.sig) → Buf (Elt Bits) ℓ) : Prop :=
  True

def Pre_SsmUpIdeal (m : (ℓ : Loc Cert.SsmUpIdeal.nD Cert.SsmUpIdeal.τ Cert.SsmUpIdeal.sig) → Buf (Elt Ideal) ℓ) : Prop :=
  True

def Pre_SsmUpRefIdeal (m : (ℓ : Loc Cert.SsmUpRefIdeal.nD Cert.SsmUpRefIdeal.τ Cert.SsmUpRefIdeal.sig) → Buf (Elt Ideal) ℓ) : Prop :=
  True

def Pre_GdnUp (m : (ℓ : Loc Cert.GdnUp.nD Cert.GdnUp.τ Cert.GdnUp.sig) → Buf (Elt Bits) ℓ) : Prop :=
  True

def Pre_GdnUpIdeal (m : (ℓ : Loc Cert.GdnUpIdeal.nD Cert.GdnUpIdeal.τ Cert.GdnUpIdeal.sig) → Buf (Elt Ideal) ℓ) : Prop :=
  True

def Pre_GdnUpRefIdeal (m : (ℓ : Loc Cert.GdnUpRefIdeal.nD Cert.GdnUpRefIdeal.τ Cert.GdnUpRefIdeal.sig) → Buf (Elt Ideal) ℓ) : Prop :=
  True

def Pre_SsmUpDx (m : (ℓ : Loc Cert.SsmUpDx.nD Cert.SsmUpDx.τ Cert.SsmUpDx.sig) → Buf (Elt Bits) ℓ) : Prop :=
  True

def Pre_SsmUpDxIdeal (m : (ℓ : Loc Cert.SsmUpDxIdeal.nD Cert.SsmUpDxIdeal.τ Cert.SsmUpDxIdeal.sig) → Buf (Elt Ideal) ℓ) : Prop :=
  True

def Pre_SsmUpDxRefIdeal (m : (ℓ : Loc Cert.SsmUpDxRefIdeal.nD Cert.SsmUpDxRefIdeal.τ Cert.SsmUpDxRefIdeal.sig) → Buf (Elt Ideal) ℓ) : Prop :=
  True

def Pre_GdnUpDx (m : (ℓ : Loc Cert.GdnUpDx.nD Cert.GdnUpDx.τ Cert.GdnUpDx.sig) → Buf (Elt Bits) ℓ) : Prop :=
  True

def Pre_GdnUpDxIdeal (m : (ℓ : Loc Cert.GdnUpDxIdeal.nD Cert.GdnUpDxIdeal.τ Cert.GdnUpDxIdeal.sig) → Buf (Elt Ideal) ℓ) : Prop :=
  True

def Pre_GdnUpDxRefIdeal (m : (ℓ : Loc Cert.GdnUpDxRefIdeal.nD Cert.GdnUpDxRefIdeal.τ Cert.GdnUpDxRefIdeal.sig) → Buf (Elt Ideal) ℓ) : Prop :=
  True

def Pre_GdnUpDw (m : (ℓ : Loc Cert.GdnUpDw.nD Cert.GdnUpDw.τ Cert.GdnUpDw.sig) → Buf (Elt Bits) ℓ) : Prop :=
  True

def Pre_GdnUpDwIdeal (m : (ℓ : Loc Cert.GdnUpDwIdeal.nD Cert.GdnUpDwIdeal.τ Cert.GdnUpDwIdeal.sig) → Buf (Elt Ideal) ℓ) : Prop :=
  True

def Pre_GdnUpDwRefIdeal (m : (ℓ : Loc Cert.GdnUpDwRefIdeal.nD Cert.GdnUpDwRefIdeal.τ Cert.GdnUpDwRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_SsmUpDw (m : (ℓ : Loc Cert.SsmUpDw.nD Cert.SsmUpDw.τ Cert.SsmUpDw.sig) → Buf (Elt Bits) ℓ) : Prop :=
  True

def Pre_SsmUpDwIdeal (m : (ℓ : Loc Cert.SsmUpDwIdeal.nD Cert.SsmUpDwIdeal.τ Cert.SsmUpDwIdeal.sig) → Buf (Elt Ideal) ℓ) : Prop :=
  True

def Pre_SsmUpDwRefIdeal (m : (ℓ : Loc Cert.SsmUpDwRefIdeal.nD Cert.SsmUpDwRefIdeal.τ Cert.SsmUpDwRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_PremixBwd (m : (ℓ : Loc Cert.PremixBwd.nD Cert.PremixBwd.τ Cert.PremixBwd.sig) → Buf (Elt Bits) ℓ) : Prop :=
  True

def Pre_PremixBwdIdeal (m : (ℓ : Loc Cert.PremixBwdIdeal.nD Cert.PremixBwdIdeal.τ Cert.PremixBwdIdeal.sig) → Buf (Elt Ideal) ℓ) : Prop :=
  True

def Pre_PremixBwdRefIdeal (m : (ℓ : Loc Cert.PremixBwdRefIdeal.nD Cert.PremixBwdRefIdeal.τ Cert.PremixBwdRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamSsmUp (m : (ℓ : Loc Cert.AdamSsmUp.nD Cert.AdamSsmUp.τ Cert.AdamSsmUp.sig) → Buf (Elt Bits) ℓ) : Prop :=
  True

def Pre_AdamSsmUpIdeal (m : (ℓ : Loc Cert.AdamSsmUpIdeal.nD Cert.AdamSsmUpIdeal.τ Cert.AdamSsmUpIdeal.sig) → Buf (Elt Ideal) ℓ) : Prop :=
  True

def Pre_AdamSsmUpRefIdeal (m : (ℓ : Loc Cert.AdamSsmUpRefIdeal.nD Cert.AdamSsmUpRefIdeal.τ Cert.AdamSsmUpRefIdeal.sig) → Buf (Elt Ideal) ℓ) : Prop :=
  True

def Pre_AdamGdnUp (m : (ℓ : Loc Cert.AdamGdnUp.nD Cert.AdamGdnUp.τ Cert.AdamGdnUp.sig) → Buf (Elt Bits) ℓ) : Prop :=
  True

def Pre_AdamGdnUpIdeal (m : (ℓ : Loc Cert.AdamGdnUpIdeal.nD Cert.AdamGdnUpIdeal.τ Cert.AdamGdnUpIdeal.sig) → Buf (Elt Ideal) ℓ) : Prop :=
  True

def Pre_AdamGdnUpRefIdeal (m : (ℓ : Loc Cert.AdamGdnUpRefIdeal.nD Cert.AdamGdnUpRefIdeal.τ Cert.AdamGdnUpRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamMlpUp (m : (ℓ : Loc Cert.AdamMlpUp.nD Cert.AdamMlpUp.τ Cert.AdamMlpUp.sig) → Buf (Elt Bits) ℓ) : Prop :=
  True

def Pre_AdamMlpUpIdeal (m : (ℓ : Loc Cert.AdamMlpUpIdeal.nD Cert.AdamMlpUpIdeal.τ Cert.AdamMlpUpIdeal.sig) → Buf (Elt Ideal) ℓ) : Prop :=
  True

def Pre_AdamMlpUpRefIdeal (m : (ℓ : Loc Cert.AdamMlpUpRefIdeal.nD Cert.AdamMlpUpRefIdeal.τ Cert.AdamMlpUpRefIdeal.sig) → Buf (Elt Ideal) ℓ) : Prop :=
  True

def Pre_AdamMlpDown (m : (ℓ : Loc Cert.AdamMlpDown.nD Cert.AdamMlpDown.τ Cert.AdamMlpDown.sig) → Buf (Elt Bits) ℓ) : Prop :=
  True

def Pre_AdamMlpDownIdeal (m : (ℓ : Loc Cert.AdamMlpDownIdeal.nD Cert.AdamMlpDownIdeal.τ Cert.AdamMlpDownIdeal.sig) → Buf (Elt Ideal) ℓ) : Prop :=
  True

def Pre_AdamMlpDownRefIdeal (m : (ℓ : Loc Cert.AdamMlpDownRefIdeal.nD Cert.AdamMlpDownRefIdeal.τ Cert.AdamMlpDownRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_SumIn [hPre_place_in : Cert.Pre_place_in.Facts] (m : (ℓ : Loc Cert.SumIn.nD Cert.SumIn.τ Cert.SumIn.sig) → Buf (Elt Bits) ℓ) : Prop :=
  ∀ c : Dev Cert.SumIn.nD,
    (Cert.Pre_place_in.fn (F := Bits) (m ((c.tc : Thread Cert.SumIn.nD Cert.SumIn.τ).loc Cert.SumIn.main_arg0)) (m ((c.tc : Thread Cert.SumIn.nD Cert.SumIn.τ).loc Cert.SumIn.main_arg1)) (m ((c.tc : Thread Cert.SumIn.nD Cert.SumIn.τ).loc Cert.SumIn.main_arg2))) = (fun _ => 1#1)

def Pre_SumInIdeal [hPre_place_in : Cert.Pre_place_in.Facts] (m : (ℓ : Loc Cert.SumInIdeal.nD Cert.SumInIdeal.τ Cert.SumInIdeal.sig) → Buf (Elt Ideal) ℓ) : Prop :=
  ∀ c : Dev Cert.SumInIdeal.nD,
    (Cert.Pre_place_in.fn (F := Ideal) (m ((c.tc : Thread Cert.SumInIdeal.nD Cert.SumInIdeal.τ).loc Cert.SumInIdeal.main_arg0)) (m ((c.tc : Thread Cert.SumInIdeal.nD Cert.SumInIdeal.τ).loc Cert.SumInIdeal.main_arg1)) (m ((c.tc : Thread Cert.SumInIdeal.nD Cert.SumInIdeal.τ).loc Cert.SumInIdeal.main_arg2))) = (fun _ => 1#1)

def Pre_SumInRefIdeal (m : (ℓ : Loc Cert.SumInRefIdeal.nD Cert.SumInRefIdeal.τ Cert.SumInRefIdeal.sig) → Buf (Elt Ideal) ℓ) : Prop :=
  True

def Pre_SumInRefIdeal_place_in [hPre_place_in : Cert.Pre_place_in.Facts] (m : (ℓ : Loc Cert.SumInRefIdeal.nD Cert.SumInRefIdeal.τ Cert.SumInRefIdeal.sig) → Buf (Elt Ideal) ℓ) : Prop :=
  ∀ c : Dev Cert.SumInRefIdeal.nD,
    (Cert.Pre_place_in.fn (F := Ideal) (m ((c.tc : Thread Cert.SumInRefIdeal.nD Cert.SumInRefIdeal.τ).loc Cert.SumInRefIdeal.main_arg0)) (m ((c.tc : Thread Cert.SumInRefIdeal.nD Cert.SumInRefIdeal.τ).loc Cert.SumInRefIdeal.main_arg1)) (m ((c.tc : Thread Cert.SumInRefIdeal.nD Cert.SumInRefIdeal.τ).loc Cert.SumInRefIdeal.main_arg2))) = (fun _ => 1#1)

def Pre_SumUp [hPre_place_up : Cert.Pre_place_up.Facts] (m : (ℓ : Loc Cert.SumUp.nD Cert.SumUp.τ Cert.SumUp.sig) → Buf (Elt Bits) ℓ) : Prop :=
  ∀ c : Dev Cert.SumUp.nD,
    (Cert.Pre_place_up.fn (F := Bits) (m ((c.tc : Thread Cert.SumUp.nD Cert.SumUp.τ).loc Cert.SumUp.main_arg0)) (m ((c.tc : Thread Cert.SumUp.nD Cert.SumUp.τ).loc Cert.SumUp.main_arg1)) (m ((c.tc : Thread Cert.SumUp.nD Cert.SumUp.τ).loc Cert.SumUp.main_arg2))) = (fun _ => 1#1)

def Pre_SumUpIdeal [hPre_place_up : Cert.Pre_place_up.Facts] (m : (ℓ : Loc Cert.SumUpIdeal.nD Cert.SumUpIdeal.τ Cert.SumUpIdeal.sig) → Buf (Elt Ideal) ℓ) : Prop :=
  ∀ c : Dev Cert.SumUpIdeal.nD,
    (Cert.Pre_place_up.fn (F := Ideal) (m ((c.tc : Thread Cert.SumUpIdeal.nD Cert.SumUpIdeal.τ).loc Cert.SumUpIdeal.main_arg0)) (m ((c.tc : Thread Cert.SumUpIdeal.nD Cert.SumUpIdeal.τ).loc Cert.SumUpIdeal.main_arg1)) (m ((c.tc : Thread Cert.SumUpIdeal.nD Cert.SumUpIdeal.τ).loc Cert.SumUpIdeal.main_arg2))) = (fun _ => 1#1)

def Pre_SumUpRefIdeal (m : (ℓ : Loc Cert.SumUpRefIdeal.nD Cert.SumUpRefIdeal.τ Cert.SumUpRefIdeal.sig) → Buf (Elt Ideal) ℓ) : Prop :=
  True

def Pre_SumUpRefIdeal_place_up [hPre_place_up : Cert.Pre_place_up.Facts] (m : (ℓ : Loc Cert.SumUpRefIdeal.nD Cert.SumUpRefIdeal.τ Cert.SumUpRefIdeal.sig) → Buf (Elt Ideal) ℓ) : Prop :=
  ∀ c : Dev Cert.SumUpRefIdeal.nD,
    (Cert.Pre_place_up.fn (F := Ideal) (m ((c.tc : Thread Cert.SumUpRefIdeal.nD Cert.SumUpRefIdeal.τ).loc Cert.SumUpRefIdeal.main_arg0)) (m ((c.tc : Thread Cert.SumUpRefIdeal.nD Cert.SumUpRefIdeal.τ).loc Cert.SumUpRefIdeal.main_arg1)) (m ((c.tc : Thread Cert.SumUpRefIdeal.nD Cert.SumUpRefIdeal.τ).loc Cert.SumUpRefIdeal.main_arg2))) = (fun _ => 1#1)

def Pre_SumOut [hPre_place_out : Cert.Pre_place_out.Facts] (m : (ℓ : Loc Cert.SumOut.nD Cert.SumOut.τ Cert.SumOut.sig) → Buf (Elt Bits) ℓ) : Prop :=
  ∀ c : Dev Cert.SumOut.nD,
    (Cert.Pre_place_out.fn (F := Bits) (m ((c.tc : Thread Cert.SumOut.nD Cert.SumOut.τ).loc Cert.SumOut.main_arg0)) (m ((c.tc : Thread Cert.SumOut.nD Cert.SumOut.τ).loc Cert.SumOut.main_arg1)) (m ((c.tc : Thread Cert.SumOut.nD Cert.SumOut.τ).loc Cert.SumOut.main_arg2))) = (fun _ => 1#1)

def Pre_SumOutIdeal [hPre_place_out : Cert.Pre_place_out.Facts] (m : (ℓ : Loc Cert.SumOutIdeal.nD Cert.SumOutIdeal.τ Cert.SumOutIdeal.sig) → Buf (Elt Ideal) ℓ) : Prop :=
  ∀ c : Dev Cert.SumOutIdeal.nD,
    (Cert.Pre_place_out.fn (F := Ideal) (m ((c.tc : Thread Cert.SumOutIdeal.nD Cert.SumOutIdeal.τ).loc Cert.SumOutIdeal.main_arg0)) (m ((c.tc : Thread Cert.SumOutIdeal.nD Cert.SumOutIdeal.τ).loc Cert.SumOutIdeal.main_arg1)) (m ((c.tc : Thread Cert.SumOutIdeal.nD Cert.SumOutIdeal.τ).loc Cert.SumOutIdeal.main_arg2))) = (fun _ => 1#1)

def Pre_SumOutRefIdeal (m : (ℓ : Loc Cert.SumOutRefIdeal.nD Cert.SumOutRefIdeal.τ Cert.SumOutRefIdeal.sig) → Buf (Elt Ideal) ℓ) : Prop :=
  True

def Pre_SumOutRefIdeal_place_out [hPre_place_out : Cert.Pre_place_out.Facts] (m : (ℓ : Loc Cert.SumOutRefIdeal.nD Cert.SumOutRefIdeal.τ Cert.SumOutRefIdeal.sig) → Buf (Elt Ideal) ℓ) : Prop :=
  ∀ c : Dev Cert.SumOutRefIdeal.nD,
    (Cert.Pre_place_out.fn (F := Ideal) (m ((c.tc : Thread Cert.SumOutRefIdeal.nD Cert.SumOutRefIdeal.τ).loc Cert.SumOutRefIdeal.main_arg0)) (m ((c.tc : Thread Cert.SumOutRefIdeal.nD Cert.SumOutRefIdeal.τ).loc Cert.SumOutRefIdeal.main_arg1)) (m ((c.tc : Thread Cert.SumOutRefIdeal.nD Cert.SumOutRefIdeal.τ).loc Cert.SumOutRefIdeal.main_arg2))) = (fun _ => 1#1)

def Pre_SumMlp [hPre_place_mlp : Cert.Pre_place_mlp.Facts] (m : (ℓ : Loc Cert.SumMlp.nD Cert.SumMlp.τ Cert.SumMlp.sig) → Buf (Elt Bits) ℓ) : Prop :=
  ∀ c : Dev Cert.SumMlp.nD,
    (Cert.Pre_place_mlp.fn (F := Bits) (m ((c.tc : Thread Cert.SumMlp.nD Cert.SumMlp.τ).loc Cert.SumMlp.main_arg0)) (m ((c.tc : Thread Cert.SumMlp.nD Cert.SumMlp.τ).loc Cert.SumMlp.main_arg1)) (m ((c.tc : Thread Cert.SumMlp.nD Cert.SumMlp.τ).loc Cert.SumMlp.main_arg2))) = (fun _ => 1#1)

def Pre_SumMlpIdeal [hPre_place_mlp : Cert.Pre_place_mlp.Facts] (m : (ℓ : Loc Cert.SumMlpIdeal.nD Cert.SumMlpIdeal.τ Cert.SumMlpIdeal.sig) → Buf (Elt Ideal) ℓ) : Prop :=
  ∀ c : Dev Cert.SumMlpIdeal.nD,
    (Cert.Pre_place_mlp.fn (F := Ideal) (m ((c.tc : Thread Cert.SumMlpIdeal.nD Cert.SumMlpIdeal.τ).loc Cert.SumMlpIdeal.main_arg0)) (m ((c.tc : Thread Cert.SumMlpIdeal.nD Cert.SumMlpIdeal.τ).loc Cert.SumMlpIdeal.main_arg1)) (m ((c.tc : Thread Cert.SumMlpIdeal.nD Cert.SumMlpIdeal.τ).loc Cert.SumMlpIdeal.main_arg2))) = (fun _ => 1#1)

def Pre_SumMlpRefIdeal (m : (ℓ : Loc Cert.SumMlpRefIdeal.nD Cert.SumMlpRefIdeal.τ Cert.SumMlpRefIdeal.sig) → Buf (Elt Ideal) ℓ) : Prop :=
  True

def Pre_SumMlpRefIdeal_place_mlp [hPre_place_mlp : Cert.Pre_place_mlp.Facts] (m : (ℓ : Loc Cert.SumMlpRefIdeal.nD Cert.SumMlpRefIdeal.τ Cert.SumMlpRefIdeal.sig) → Buf (Elt Ideal) ℓ) : Prop :=
  ∀ c : Dev Cert.SumMlpRefIdeal.nD,
    (Cert.Pre_place_mlp.fn (F := Ideal) (m ((c.tc : Thread Cert.SumMlpRefIdeal.nD Cert.SumMlpRefIdeal.τ).loc Cert.SumMlpRefIdeal.main_arg0)) (m ((c.tc : Thread Cert.SumMlpRefIdeal.nD Cert.SumMlpRefIdeal.τ).loc Cert.SumMlpRefIdeal.main_arg1)) (m ((c.tc : Thread Cert.SumMlpRefIdeal.nD Cert.SumMlpRefIdeal.τ).loc Cert.SumMlpRefIdeal.main_arg2))) = (fun _ => 1#1)

def Pre_AddIn [hPre_core_in : Cert.Pre_core_in.Facts] (m : (ℓ : Loc Cert.AddIn.nD Cert.AddIn.τ Cert.AddIn.sig) → Buf (Elt Bits) ℓ) : Prop :=
  ∀ c : Dev Cert.AddIn.nD,
    (Cert.Pre_core_in.fn (F := Bits) (m ((c.tc : Thread Cert.AddIn.nD Cert.AddIn.τ).loc Cert.AddIn.main_arg0)) (m ((c.tc : Thread Cert.AddIn.nD Cert.AddIn.τ).loc Cert.AddIn.main_arg1)) (m ((c.tc : Thread Cert.AddIn.nD Cert.AddIn.τ).loc Cert.AddIn.main_arg2))) = (fun _ => 1#1)

def Pre_AddInIdeal [hPre_core_in : Cert.Pre_core_in.Facts] (m : (ℓ : Loc Cert.AddInIdeal.nD Cert.AddInIdeal.τ Cert.AddInIdeal.sig) → Buf (Elt Ideal) ℓ) : Prop :=
  ∀ c : Dev Cert.AddInIdeal.nD,
    (Cert.Pre_core_in.fn (F := Ideal) (m ((c.tc : Thread Cert.AddInIdeal.nD Cert.AddInIdeal.τ).loc Cert.AddInIdeal.main_arg0)) (m ((c.tc : Thread Cert.AddInIdeal.nD Cert.AddInIdeal.τ).loc Cert.AddInIdeal.main_arg1)) (m ((c.tc : Thread Cert.AddInIdeal.nD Cert.AddInIdeal.τ).loc Cert.AddInIdeal.main_arg2))) = (fun _ => 1#1)

def Pre_AddInRefIdeal (m : (ℓ : Loc Cert.AddInRefIdeal.nD Cert.AddInRefIdeal.τ Cert.AddInRefIdeal.sig) → Buf (Elt Ideal) ℓ) : Prop :=
  True

def Pre_AddInRefIdeal_core_in [hPre_core_in : Cert.Pre_core_in.Facts] (m : (ℓ : Loc Cert.AddInRefIdeal.nD Cert.AddInRefIdeal.τ Cert.AddInRefIdeal.sig) → Buf (Elt Ideal) ℓ) : Prop :=
  ∀ c : Dev Cert.AddInRefIdeal.nD,
    (Cert.Pre_core_in.fn (F := Ideal) (m ((c.tc : Thread Cert.AddInRefIdeal.nD Cert.AddInRefIdeal.τ).loc Cert.AddInRefIdeal.main_arg0)) (m ((c.tc : Thread Cert.AddInRefIdeal.nD Cert.AddInRefIdeal.τ).loc Cert.AddInRefIdeal.main_arg1)) (m ((c.tc : Thread Cert.AddInRefIdeal.nD Cert.AddInRefIdeal.τ).loc Cert.AddInRefIdeal.main_arg2))) = (fun _ => 1#1)

def Pre_AddUp [hPre_core_up : Cert.Pre_core_up.Facts] (m : (ℓ : Loc Cert.AddUp.nD Cert.AddUp.τ Cert.AddUp.sig) → Buf (Elt Bits) ℓ) : Prop :=
  ∀ c : Dev Cert.AddUp.nD,
    (Cert.Pre_core_up.fn (F := Bits) (m ((c.tc : Thread Cert.AddUp.nD Cert.AddUp.τ).loc Cert.AddUp.main_arg0)) (m ((c.tc : Thread Cert.AddUp.nD Cert.AddUp.τ).loc Cert.AddUp.main_arg1)) (m ((c.tc : Thread Cert.AddUp.nD Cert.AddUp.τ).loc Cert.AddUp.main_arg2))) = (fun _ => 1#1)

def Pre_AddUpIdeal [hPre_core_up : Cert.Pre_core_up.Facts] (m : (ℓ : Loc Cert.AddUpIdeal.nD Cert.AddUpIdeal.τ Cert.AddUpIdeal.sig) → Buf (Elt Ideal) ℓ) : Prop :=
  ∀ c : Dev Cert.AddUpIdeal.nD,
    (Cert.Pre_core_up.fn (F := Ideal) (m ((c.tc : Thread Cert.AddUpIdeal.nD Cert.AddUpIdeal.τ).loc Cert.AddUpIdeal.main_arg0)) (m ((c.tc : Thread Cert.AddUpIdeal.nD Cert.AddUpIdeal.τ).loc Cert.AddUpIdeal.main_arg1)) (m ((c.tc : Thread Cert.AddUpIdeal.nD Cert.AddUpIdeal.τ).loc Cert.AddUpIdeal.main_arg2))) = (fun _ => 1#1)

def Pre_AddUpRefIdeal (m : (ℓ : Loc Cert.AddUpRefIdeal.nD Cert.AddUpRefIdeal.τ Cert.AddUpRefIdeal.sig) → Buf (Elt Ideal) ℓ) : Prop :=
  True

def Pre_AddUpRefIdeal_core_up [hPre_core_up : Cert.Pre_core_up.Facts] (m : (ℓ : Loc Cert.AddUpRefIdeal.nD Cert.AddUpRefIdeal.τ Cert.AddUpRefIdeal.sig) → Buf (Elt Ideal) ℓ) : Prop :=
  ∀ c : Dev Cert.AddUpRefIdeal.nD,
    (Cert.Pre_core_up.fn (F := Ideal) (m ((c.tc : Thread Cert.AddUpRefIdeal.nD Cert.AddUpRefIdeal.τ).loc Cert.AddUpRefIdeal.main_arg0)) (m ((c.tc : Thread Cert.AddUpRefIdeal.nD Cert.AddUpRefIdeal.τ).loc Cert.AddUpRefIdeal.main_arg1)) (m ((c.tc : Thread Cert.AddUpRefIdeal.nD Cert.AddUpRefIdeal.τ).loc Cert.AddUpRefIdeal.main_arg2))) = (fun _ => 1#1)

def Pre_AddOut [hPre_core_out : Cert.Pre_core_out.Facts] (m : (ℓ : Loc Cert.AddOut.nD Cert.AddOut.τ Cert.AddOut.sig) → Buf (Elt Bits) ℓ) : Prop :=
  ∀ c : Dev Cert.AddOut.nD,
    (Cert.Pre_core_out.fn (F := Bits) (m ((c.tc : Thread Cert.AddOut.nD Cert.AddOut.τ).loc Cert.AddOut.main_arg0)) (m ((c.tc : Thread Cert.AddOut.nD Cert.AddOut.τ).loc Cert.AddOut.main_arg1)) (m ((c.tc : Thread Cert.AddOut.nD Cert.AddOut.τ).loc Cert.AddOut.main_arg2))) = (fun _ => 1#1)

def Pre_AddOutIdeal [hPre_core_out : Cert.Pre_core_out.Facts] (m : (ℓ : Loc Cert.AddOutIdeal.nD Cert.AddOutIdeal.τ Cert.AddOutIdeal.sig) → Buf (Elt Ideal) ℓ) : Prop :=
  ∀ c : Dev Cert.AddOutIdeal.nD,
    (Cert.Pre_core_out.fn (F := Ideal) (m ((c.tc : Thread Cert.AddOutIdeal.nD Cert.AddOutIdeal.τ).loc Cert.AddOutIdeal.main_arg0)) (m ((c.tc : Thread Cert.AddOutIdeal.nD Cert.AddOutIdeal.τ).loc Cert.AddOutIdeal.main_arg1)) (m ((c.tc : Thread Cert.AddOutIdeal.nD Cert.AddOutIdeal.τ).loc Cert.AddOutIdeal.main_arg2))) = (fun _ => 1#1)

def Pre_AddOutRefIdeal (m : (ℓ : Loc Cert.AddOutRefIdeal.nD Cert.AddOutRefIdeal.τ Cert.AddOutRefIdeal.sig) → Buf (Elt Ideal) ℓ) : Prop :=
  True

def Pre_AddOutRefIdeal_core_out [hPre_core_out : Cert.Pre_core_out.Facts] (m : (ℓ : Loc Cert.AddOutRefIdeal.nD Cert.AddOutRefIdeal.τ Cert.AddOutRefIdeal.sig) → Buf (Elt Ideal) ℓ) : Prop :=
  ∀ c : Dev Cert.AddOutRefIdeal.nD,
    (Cert.Pre_core_out.fn (F := Ideal) (m ((c.tc : Thread Cert.AddOutRefIdeal.nD Cert.AddOutRefIdeal.τ).loc Cert.AddOutRefIdeal.main_arg0)) (m ((c.tc : Thread Cert.AddOutRefIdeal.nD Cert.AddOutRefIdeal.τ).loc Cert.AddOutRefIdeal.main_arg1)) (m ((c.tc : Thread Cert.AddOutRefIdeal.nD Cert.AddOutRefIdeal.τ).loc Cert.AddOutRefIdeal.main_arg2))) = (fun _ => 1#1)

def Pre_AddMlp [hPre_core_mlp : Cert.Pre_core_mlp.Facts] (m : (ℓ : Loc Cert.AddMlp.nD Cert.AddMlp.τ Cert.AddMlp.sig) → Buf (Elt Bits) ℓ) : Prop :=
  ∀ c : Dev Cert.AddMlp.nD,
    (Cert.Pre_core_mlp.fn (F := Bits) (m ((c.tc : Thread Cert.AddMlp.nD Cert.AddMlp.τ).loc Cert.AddMlp.main_arg0)) (m ((c.tc : Thread Cert.AddMlp.nD Cert.AddMlp.τ).loc Cert.AddMlp.main_arg1)) (m ((c.tc : Thread Cert.AddMlp.nD Cert.AddMlp.τ).loc Cert.AddMlp.main_arg2))) = (fun _ => 1#1)

def Pre_AddMlpIdeal [hPre_core_mlp : Cert.Pre_core_mlp.Facts] (m : (ℓ : Loc Cert.AddMlpIdeal.nD Cert.AddMlpIdeal.τ Cert.AddMlpIdeal.sig) → Buf (Elt Ideal) ℓ) : Prop :=
  ∀ c : Dev Cert.AddMlpIdeal.nD,
    (Cert.Pre_core_mlp.fn (F := Ideal) (m ((c.tc : Thread Cert.AddMlpIdeal.nD Cert.AddMlpIdeal.τ).loc Cert.AddMlpIdeal.main_arg0)) (m ((c.tc : Thread Cert.AddMlpIdeal.nD Cert.AddMlpIdeal.τ).loc Cert.AddMlpIdeal.main_arg1)) (m ((c.tc : Thread Cert.AddMlpIdeal.nD Cert.AddMlpIdeal.τ).loc Cert.AddMlpIdeal.main_arg2))) = (fun _ => 1#1)

def Pre_AddMlpRefIdeal (m : (ℓ : Loc Cert.AddMlpRefIdeal.nD Cert.AddMlpRefIdeal.τ Cert.AddMlpRefIdeal.sig) → Buf (Elt Ideal) ℓ) : Prop :=
  True

def Pre_AddMlpRefIdeal_core_mlp [hPre_core_mlp : Cert.Pre_core_mlp.Facts] (m : (ℓ : Loc Cert.AddMlpRefIdeal.nD Cert.AddMlpRefIdeal.τ Cert.AddMlpRefIdeal.sig) → Buf (Elt Ideal) ℓ) : Prop :=
  ∀ c : Dev Cert.AddMlpRefIdeal.nD,
    (Cert.Pre_core_mlp.fn (F := Ideal) (m ((c.tc : Thread Cert.AddMlpRefIdeal.nD Cert.AddMlpRefIdeal.τ).loc Cert.AddMlpRefIdeal.main_arg0)) (m ((c.tc : Thread Cert.AddMlpRefIdeal.nD Cert.AddMlpRefIdeal.τ).loc Cert.AddMlpRefIdeal.main_arg1)) (m ((c.tc : Thread Cert.AddMlpRefIdeal.nD Cert.AddMlpRefIdeal.τ).loc Cert.AddMlpRefIdeal.main_arg2))) = (fun _ => 1#1)

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixRefIdeal (m : (ℓ : Loc Cert.PremixRefIdeal.nD Cert.PremixRefIdeal.τ Cert.PremixRefIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_Postmix (m : (ℓ : Loc Cert.Postmix.nD Cert.Postmix.τ Cert.Postmix.sig) → Buf (Elt Bits) ℓ) : Prop :=
  True

def Pre_PostmixIdeal (m : (ℓ : Loc Cert.PostmixIdeal.nD Cert.PostmixIdeal.τ Cert.PostmixIdeal.sig) → Buf (Elt Ideal) ℓ) : Prop :=
  True

def Pre_PostmixRefIdeal (m : (ℓ : Loc Cert.PostmixRefIdeal.nD Cert.PostmixRefIdeal.τ Cert.PostmixRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_PostmixBwd (m : (ℓ : Loc Cert.PostmixBwd.nD Cert.PostmixBwd.τ Cert.PostmixBwd.sig) → Buf (Elt Bits) ℓ) : Prop :=
  True

def Pre_PostmixBwdIdeal (m : (ℓ : Loc Cert.PostmixBwdIdeal.nD Cert.PostmixBwdIdeal.τ Cert.PostmixBwdIdeal.sig) → Buf (Elt Ideal) ℓ) : Prop :=
  True

def Pre_PostmixBwdRefIdeal (m : (ℓ : Loc Cert.PostmixBwdRefIdeal.nD Cert.PostmixBwdRefIdeal.τ Cert.PostmixBwdRefIdeal.sig) → Buf (Elt Ideal) ℓ) : Prop :=
  True

def Pre_SmallCols (m : (ℓ : Loc Cert.SmallCols.nD Cert.SmallCols.τ Cert.SmallCols.sig) → Buf (Elt Bits) ℓ) : Prop :=
  True

def Pre_SmallColsIdeal (m : (ℓ : Loc Cert.SmallColsIdeal.nD Cert.SmallColsIdeal.τ Cert.SmallColsIdeal.sig) → Buf (Elt Ideal) ℓ) : Prop :=
  True

def Pre_SmallColsRefIdeal (m : (ℓ : Loc Cert.SmallColsRefIdeal.nD Cert.SmallColsRefIdeal.τ Cert.SmallColsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDownDx [hMlpDownDx : Cert.MlpDownDx.Facts] : Prop :=
  ∀ (m : (ℓ : Loc Cert.MlpDownDx.nD Cert.MlpDownDx.τ Cert.MlpDownDx.sig) → Buf (Elt Bits) ℓ) (g : Dev Cert.MlpDownDx.nD → PrngReg), Pre_MlpDownDx m →
    θ_run (Cert.MlpDownDx.defs (F := Bits)) (onTc (τ := Cert.MlpDownDx.τ) (Cert.MlpDownDx.main (F := Bits))) ⟨m, fun _ => 0, g⟩ (fun r => (∀ c : Dev Cert.MlpDownDx.nD,
      r.2.mem ((c.tc : Thread Cert.MlpDownDx.nD Cert.MlpDownDx.τ).loc Cert.MlpDownDx.main_arg0) = m ((c.tc : Thread Cert.MlpDownDx.nD Cert.MlpDownDx.τ).loc Cert.MlpDownDx.main_arg0)
      ∧ r.2.mem ((c.tc : Thread Cert.MlpDownDx.nD Cert.MlpDownDx.τ).loc Cert.MlpDownDx.main_arg1) = m ((c.tc : Thread Cert.MlpDownDx.nD Cert.MlpDownDx.τ).loc Cert.MlpDownDx.main_arg1)
      ∧ r.2.mem ((c.tc : Thread Cert.MlpDownDx.nD Cert.MlpDownDx.τ).loc Cert.MlpDownDx.main_arg2) = m ((c.tc : Thread Cert.MlpDownDx.nD Cert.MlpDownDx.τ).loc Cert.MlpDownDx.main_arg2))
      ∧ r.2.sem = fun _ => 0)

def quiescent_MlpDownDxIdeal [hMlpDownDxIdeal : Cert.MlpDownDxIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg), Pre_MlpDownDxIdeal m →
    θ_run (Cert.MlpDownDxIdeal.defs (F := Ideal)) (onTc (τ := Cert.MlpDownDxIdeal.τ) (Cert.MlpDownDxIdeal.main (F := Ideal))) ⟨m, fun _ => 0, g⟩ (fun r => (∀ c : Dev Cert.MlpDownDxIdeal.nD,
      r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
      ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
      ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ r.2.sem = fun _ => 0)

def quiescent_MlpDownDxRefIdeal [hMlpDownDxRefIdeal : Cert.MlpDownDxRefIdeal.Facts] : Prop :=
  ∀ (m : (ℓ : Loc Cert.MlpDownDxRefIdeal.nD Cert.MlpDownDxRefIdeal.τ Cert.MlpDownDxRefIdeal.sig) → Buf (Elt Ideal) ℓ) (g : Dev Cert.MlpDownDxRefIdeal.nD → PrngReg), Pre_MlpDownDxRefIdeal m →
    θ_run (Cert.MlpDownDxRefIdeal.defs (F := Ideal)) (onTc (τ := Cert.MlpDownDxRefIdeal.τ) (Cert.MlpDownDxRefIdeal.main (F := Ideal))) ⟨m, fun _ => 0, g⟩ (fun r => (∀ c : Dev Cert.MlpDownDxRefIdeal.nD,
      r.2.mem ((c.tc : Thread Cert.MlpDownDxRefIdeal.nD Cert.MlpDownDxRefIdeal.τ).loc Cert.MlpDownDxRefIdeal.main_arg0) = m ((c.tc : Thread Cert.MlpDownDxRefIdeal.nD Cert.MlpDownDxRefIdeal.τ).loc Cert.MlpDownDxRefIdeal.main_arg0)
      ∧ r.2.mem ((c.tc : Thread Cert.MlpDownDxRefIdeal.nD Cert.MlpDownDxRefIdeal.τ).loc Cert.MlpDownDxRefIdeal.main_arg1) = m ((c.tc : Thread Cert.MlpDownDxRefIdeal.nD Cert.MlpDownDxRefIdeal.τ).loc Cert.MlpDownDxRefIdeal.main_arg1)
      ∧ r.2.mem ((c.tc : Thread Cert.MlpDownDxRefIdeal.nD Cert.MlpDownDxRefIdeal.τ).loc Cert.MlpDownDxRefIdeal.main_arg2) = m ((c.tc : Thread Cert.MlpDownDxRefIdeal.nD Cert.MlpDownDxRefIdeal.τ).loc Cert.MlpDownDxRefIdeal.main_arg2))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ r.2.sem = fun _ => 0)

def quiescent_MlpUpDxRefIdeal [hMlpUpDxRefIdeal : Cert.MlpUpDxRefIdeal.Facts] : Prop :=
  ∀ (m : (ℓ : Loc Cert.MlpUpDxRefIdeal.nD Cert.MlpUpDxRefIdeal.τ Cert.MlpUpDxRefIdeal.sig) → Buf (Elt Ideal) ℓ) (g : Dev Cert.MlpUpDxRefIdeal.nD → PrngReg), Pre_MlpUpDxRefIdeal m →
    θ_run (Cert.MlpUpDxRefIdeal.defs (F := Ideal)) (onTc (τ := Cert.MlpUpDxRefIdeal.τ) (Cert.MlpUpDxRefIdeal.main (F := Ideal))) ⟨m, fun _ => 0, g⟩ (fun r => (∀ c : Dev Cert.MlpUpDxRefIdeal.nD,
      r.2.mem ((c.tc : Thread Cert.MlpUpDxRefIdeal.nD Cert.MlpUpDxRefIdeal.τ).loc Cert.MlpUpDxRefIdeal.main_arg0) = m ((c.tc : Thread Cert.MlpUpDxRefIdeal.nD Cert.MlpUpDxRefIdeal.τ).loc Cert.MlpUpDxRefIdeal.main_arg0)
      ∧ r.2.mem ((c.tc : Thread Cert.MlpUpDxRefIdeal.nD Cert.MlpUpDxRefIdeal.τ).loc Cert.MlpUpDxRefIdeal.main_arg1) = m ((c.tc : Thread Cert.MlpUpDxRefIdeal.nD Cert.MlpUpDxRefIdeal.τ).loc Cert.MlpUpDxRefIdeal.main_arg1))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1))
      ∧ r.2.sem = fun _ => 0)

def quiescent_WOutDx [hWOutDx : Cert.WOutDx.Facts] : Prop :=
  ∀ (m : (ℓ : Loc Cert.WOutDx.nD Cert.WOutDx.τ Cert.WOutDx.sig) → Buf (Elt Bits) ℓ) (g : Dev Cert.WOutDx.nD → PrngReg), Pre_WOutDx m →
    θ_run (Cert.WOutDx.defs (F := Bits)) (onTc (τ := Cert.WOutDx.τ) (Cert.WOutDx.main (F := Bits))) ⟨m, fun _ => 0, g⟩ (fun r => (∀ c : Dev Cert.WOutDx.nD,
      r.2.mem ((c.tc : Thread Cert.WOutDx.nD Cert.WOutDx.τ).loc Cert.WOutDx.main_arg0) = m ((c.tc : Thread Cert.WOutDx.nD Cert.WOutDx.τ).loc Cert.WOutDx.main_arg0)
      ∧ r.2.mem ((c.tc : Thread Cert.WOutDx.nD Cert.WOutDx.τ).loc Cert.WOutDx.main_arg1) = m ((c.tc : Thread Cert.WOutDx.nD Cert.WOutDx.τ).loc Cert.WOutDx.main_arg1))
      ∧ r.2.sem = fun _ => 0)

def quiescent_WOutDxIdeal [hWOutDxIdeal : Cert.WOutDxIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg), Pre_WOutDxIdeal m →
    θ_run (Cert.WOutDxIdeal.defs (F := Ideal)) (onTc (τ := Cert.WOutDxIdeal.τ) (Cert.WOutDxIdeal.main (F := Ideal))) ⟨m, fun _ => 0, g⟩ (fun r => (∀ c : Dev Cert.WOutDxIdeal.nD,
      r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
      ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1))
      ∧ r.2.sem = fun _ => 0)

def quiescent_WOutDxRefIdeal [hWOutDxRefIdeal : Cert.WOutDxRefIdeal.Facts] : Prop :=
  ∀ (m : (ℓ : Loc Cert.WOutDxRefIdeal.nD Cert.WOutDxRefIdeal.τ Cert.WOutDxRefIdeal.sig) → Buf (Elt Ideal) ℓ) (g : Dev Cert.WOutDxRefIdeal.nD → PrngReg), Pre_WOutDxRefIdeal m →
    θ_run (Cert.WOutDxRefIdeal.defs (F := Ideal)) (onTc (τ := Cert.WOutDxRefIdeal.τ) (Cert.WOutDxRefIdeal.main (F := Ideal))) ⟨m, fun _ => 0, g⟩ (fun r => (∀ c : Dev Cert.WOutDxRefIdeal.nD,
      r.2.mem ((c.tc : Thread Cert.WOutDxRefIdeal.nD Cert.WOutDxRefIdeal.τ).loc Cert.WOutDxRefIdeal.main_arg0) = m ((c.tc : Thread Cert.WOutDxRefIdeal.nD Cert.WOutDxRefIdeal.τ).loc Cert.WOutDxRefIdeal.main_arg0)
      ∧ r.2.mem ((c.tc : Thread Cert.WOutDxRefIdeal.nD Cert.WOutDxRefIdeal.τ).loc Cert.WOutDxRefIdeal.main_arg1) = m ((c.tc : Thread Cert.WOutDxRefIdeal.nD Cert.WOutDxRefIdeal.τ).loc Cert.WOutDxRefIdeal.main_arg1))
      ∧ r.2.sem = fun _ => 0)

def quiescent_WOutDw [hWOutDw : Cert.WOutDw.Facts] : Prop :=
  ∀ (m : (ℓ : Loc Cert.WOutDw.nD Cert.WOutDw.τ Cert.WOutDw.sig) → Buf (Elt Bits) ℓ) (g : Dev Cert.WOutDw.nD → PrngReg), Pre_WOutDw m →
    θ_run (Cert.WOutDw.defs (F := Bits)) (onTc (τ := Cert.WOutDw.τ) (Cert.WOutDw.main (F := Bits))) ⟨m, fun _ => 0, g⟩ (fun r => (∀ c : Dev Cert.WOutDw.nD,
      r.2.mem ((c.tc : Thread Cert.WOutDw.nD Cert.WOutDw.τ).loc Cert.WOutDw.main_arg0) = m ((c.tc : Thread Cert.WOutDw.nD Cert.WOutDw.τ).loc Cert.WOutDw.main_arg0)
      ∧ r.2.mem ((c.tc : Thread Cert.WOutDw.nD Cert.WOutDw.τ).loc Cert.WOutDw.main_arg1) = m ((c.tc : Thread Cert.WOutDw.nD Cert.WOutDw.τ).loc Cert.WOutDw.main_arg1))
      ∧ r.2.sem = fun _ => 0)

def quiescent_WOutDwIdeal [hWOutDwIdeal : Cert.WOutDwIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg), Pre_WOutDwIdeal m →
    θ_run (Cert.WOutDwIdeal.defs (F := Ideal)) (onTc (τ := Cert.WOutDwIdeal.τ) (Cert.WOutDwIdeal.main (F := Ideal))) ⟨m, fun _ => 0, g⟩ (fun r => (∀ c : Dev Cert.WOutDwIdeal.nD,
      r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
      ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1))
      ∧ r.2.sem = fun _ => 0)

def quiescent_WOutDwRefIdeal [hWOutDwRefIdeal : Cert.WOutDwRefIdeal.Facts] : Prop :=
  ∀ (m : (ℓ : Loc Cert.WOutDwRefIdeal.nD Cert.WOutDwRefIdeal.τ Cert.WOutDwRefIdeal.sig) → Buf (Elt Ideal) ℓ) (g : Dev Cert.WOutDwRefIdeal.nD → PrngReg), Pre_WOutDwRefIdeal m →
    θ_run (Cert.WOutDwRefIdeal.defs (F := Ideal)) (onTc (τ := Cert.WOutDwRefIdeal.τ) (Cert.WOutDwRefIdeal.main (F := Ideal))) ⟨m, fun _ => 0, g⟩ (fun r => (∀ c : Dev Cert.WOutDwRefIdeal.nD,
      r.2.mem ((c.tc : Thread Cert.WOutDwRefIdeal.nD Cert.WOutDwRefIdeal.τ).loc Cert.WOutDwRefIdeal.main_arg0) = m ((c.tc : Thread Cert.WOutDwRefIdeal.nD Cert.WOutDwRefIdeal.τ).loc Cert.WOutDwRefIdeal.main_arg0)
      ∧ r.2.mem ((c.tc : Thread Cert.WOutDwRefIdeal.nD Cert.WOutDwRefIdeal.τ).loc Cert.WOutDwRefIdeal.main_arg1) = m ((c.tc : Thread Cert.WOutDwRefIdeal.nD Cert.WOutDwRefIdeal.τ).loc Cert.WOutDwRefIdeal.main_arg1))
      ∧ r.2.sem = fun _ => 0)

def quiescent_SsmUp [hSsmUp : Cert.SsmUp.Facts] : Prop :=
  ∀ (m : (ℓ : Loc Cert.SsmUp.nD Cert.SsmUp.τ Cert.SsmUp.sig) → Buf (Elt Bits) ℓ) (g : Dev Cert.SsmUp.nD → PrngReg), Pre_SsmUp m →
    θ_run (Cert.SsmUp.defs (F := Bits)) (onTc (τ := Cert.SsmUp.τ) (Cert.SsmUp.main (F := Bits))) ⟨m, fun _ => 0, g⟩ (fun r => (∀ c : Dev Cert.SsmUp.nD,
      r.2.mem ((c.tc : Thread Cert.SsmUp.nD Cert.SsmUp.τ).loc Cert.SsmUp.main_arg0) = m ((c.tc : Thread Cert.SsmUp.nD Cert.SsmUp.τ).loc Cert.SsmUp.main_arg0)
      ∧ r.2.mem ((c.tc : Thread Cert.SsmUp.nD Cert.SsmUp.τ).loc Cert.SsmUp.main_arg1) = m ((c.tc : Thread Cert.SsmUp.nD Cert.SsmUp.τ).loc Cert.SsmUp.main_arg1))
      ∧ r.2.sem = fun _ => 0)

def quiescent_SsmUpIdeal [hSsmUpIdeal : Cert.SsmUpIdeal.Facts] : Prop :=
  ∀ (m : (ℓ : Loc Cert.SsmUpIdeal.nD Cert.SsmUpIdeal.τ Cert.SsmUpIdeal.sig) → Buf (Elt Ideal) ℓ) (g : Dev Cert.SsmUpIdeal.nD → PrngReg), Pre_SsmUpIdeal m →
    θ_run (Cert.SsmUpIdeal.defs (F := Ideal)) (onTc (τ := Cert.SsmUpIdeal.τ) (Cert.SsmUpIdeal.main (F := Ideal))) ⟨m, fun _ => 0, g⟩ (fun r => (∀ c : Dev Cert.SsmUpIdeal.nD,
      r.2.mem ((c.tc : Thread Cert.SsmUpIdeal.nD Cert.SsmUpIdeal.τ).loc Cert.SsmUpIdeal.main_arg0) = m ((c.tc : Thread Cert.SsmUpIdeal.nD Cert.SsmUpIdeal.τ).loc Cert.SsmUpIdeal.main_arg0)
      ∧ r.2.mem ((c.tc : Thread Cert.SsmUpIdeal.nD Cert.SsmUpIdeal.τ).loc Cert.SsmUpIdeal.main_arg1) = m ((c.tc : Thread Cert.SsmUpIdeal.nD Cert.SsmUpIdeal.τ).loc Cert.SsmUpIdeal.main_arg1))
      ∧ r.2.sem = fun _ => 0)

def quiescent_SsmUpRefIdeal [hSsmUpRefIdeal : Cert.SsmUpRefIdeal.Facts] : Prop :=
  ∀ (m : (ℓ : Loc Cert.SsmUpRefIdeal.nD Cert.SsmUpRefIdeal.τ Cert.SsmUpRefIdeal.sig) → Buf (Elt Ideal) ℓ) (g : Dev Cert.SsmUpRefIdeal.nD → PrngReg), Pre_SsmUpRefIdeal m →
    θ_run (Cert.SsmUpRefIdeal.defs (F := Ideal)) (onTc (τ := Cert.SsmUpRefIdeal.τ) (Cert.SsmUpRefIdeal.main (F := Ideal))) ⟨m, fun _ => 0, g⟩ (fun r => (∀ c : Dev Cert.SsmUpRefIdeal.nD,
      r.2.mem ((c.tc : Thread Cert.SsmUpRefIdeal.nD Cert.SsmUpRefIdeal.τ).loc Cert.SsmUpRefIdeal.main_arg0) = m ((c.tc : Thread Cert.SsmUpRefIdeal.nD Cert.SsmUpRefIdeal.τ).loc Cert.SsmUpRefIdeal.main_arg0)
      ∧ r.2.mem ((c.tc : Thread Cert.SsmUpRefIdeal.nD Cert.SsmUpRefIdeal.τ).loc Cert.SsmUpRefIdeal.main_arg1) = m ((c.tc : Thread Cert.SsmUpRefIdeal.nD Cert.SsmUpRefIdeal.τ).loc Cert.SsmUpRefIdeal.main_arg1))
      ∧ r.2.sem = fun _ => 0)

def quiescent_GdnUp [hGdnUp : Cert.GdnUp.Facts] : Prop :=
  ∀ (m : (ℓ : Loc Cert.GdnUp.nD Cert.GdnUp.τ Cert.GdnUp.sig) → Buf (Elt Bits) ℓ) (g : Dev Cert.GdnUp.nD → PrngReg), Pre_GdnUp m →
    θ_run (Cert.GdnUp.defs (F := Bits)) (onTc (τ := Cert.GdnUp.τ) (Cert.GdnUp.main (F := Bits))) ⟨m, fun _ => 0, g⟩ (fun r => (∀ c : Dev Cert.GdnUp.nD,
      r.2.mem ((c.tc : Thread Cert.GdnUp.nD Cert.GdnUp.τ).loc Cert.GdnUp.main_arg0) = m ((c.tc : Thread Cert.GdnUp.nD Cert.GdnUp.τ).loc Cert.GdnUp.main_arg0)
      ∧ r.2.mem ((c.tc : Thread Cert.GdnUp.nD Cert.GdnUp.τ).loc Cert.GdnUp.main_arg1) = m ((c.tc : Thread Cert.GdnUp.nD Cert.GdnUp.τ).loc Cert.GdnUp.main_arg1))
      ∧ r.2.sem = fun _ => 0)

def quiescent_GdnUpIdeal [hGdnUpIdeal : Cert.GdnUpIdeal.Facts] : Prop :=
  ∀ (m : (ℓ : Loc Cert.GdnUpIdeal.nD Cert.GdnUpIdeal.τ Cert.GdnUpIdeal.sig) → Buf (Elt Ideal) ℓ) (g : Dev Cert.GdnUpIdeal.nD → PrngReg), Pre_GdnUpIdeal m →
    θ_run (Cert.GdnUpIdeal.defs (F := Ideal)) (onTc (τ := Cert.GdnUpIdeal.τ) (Cert.GdnUpIdeal.main (F := Ideal))) ⟨m, fun _ => 0, g⟩ (fun r => (∀ c : Dev Cert.GdnUpIdeal.nD,
      r.2.mem ((c.tc : Thread Cert.GdnUpIdeal.nD Cert.GdnUpIdeal.τ).loc Cert.GdnUpIdeal.main_arg0) = m ((c.tc : Thread Cert.GdnUpIdeal.nD Cert.GdnUpIdeal.τ).loc Cert.GdnUpIdeal.main_arg0)
      ∧ r.2.mem ((c.tc : Thread Cert.GdnUpIdeal.nD Cert.GdnUpIdeal.τ).loc Cert.GdnUpIdeal.main_arg1) = m ((c.tc : Thread Cert.GdnUpIdeal.nD Cert.GdnUpIdeal.τ).loc Cert.GdnUpIdeal.main_arg1))
      ∧ r.2.sem = fun _ => 0)

def quiescent_GdnUpRefIdeal [hGdnUpRefIdeal : Cert.GdnUpRefIdeal.Facts] : Prop :=
  ∀ (m : (ℓ : Loc Cert.GdnUpRefIdeal.nD Cert.GdnUpRefIdeal.τ Cert.GdnUpRefIdeal.sig) → Buf (Elt Ideal) ℓ) (g : Dev Cert.GdnUpRefIdeal.nD → PrngReg), Pre_GdnUpRefIdeal m →
    θ_run (Cert.GdnUpRefIdeal.defs (F := Ideal)) (onTc (τ := Cert.GdnUpRefIdeal.τ) (Cert.GdnUpRefIdeal.main (F := Ideal))) ⟨m, fun _ => 0, g⟩ (fun r => (∀ c : Dev Cert.GdnUpRefIdeal.nD,
      r.2.mem ((c.tc : Thread Cert.GdnUpRefIdeal.nD Cert.GdnUpRefIdeal.τ).loc Cert.GdnUpRefIdeal.main_arg0) = m ((c.tc : Thread Cert.GdnUpRefIdeal.nD Cert.GdnUpRefIdeal.τ).loc Cert.GdnUpRefIdeal.main_arg0)
      ∧ r.2.mem ((c.tc : Thread Cert.GdnUpRefIdeal.nD Cert.GdnUpRefIdeal.τ).loc Cert.GdnUpRefIdeal.main_arg1) = m ((c.tc : Thread Cert.GdnUpRefIdeal.nD Cert.GdnUpRefIdeal.τ).loc Cert.GdnUpRefIdeal.main_arg1))
      ∧ r.2.sem = fun _ => 0)

def quiescent_SsmUpDx [hSsmUpDx : Cert.SsmUpDx.Facts] : Prop :=
  ∀ (m : (ℓ : Loc Cert.SsmUpDx.nD Cert.SsmUpDx.τ Cert.SsmUpDx.sig) → Buf (Elt Bits) ℓ) (g : Dev Cert.SsmUpDx.nD → PrngReg), Pre_SsmUpDx m →
    θ_run (Cert.SsmUpDx.defs (F := Bits)) (onTc (τ := Cert.SsmUpDx.τ) (Cert.SsmUpDx.main (F := Bits))) ⟨m, fun _ => 0, g⟩ (fun r => (∀ c : Dev Cert.SsmUpDx.nD,
      r.2.mem ((c.tc : Thread Cert.SsmUpDx.nD Cert.SsmUpDx.τ).loc Cert.SsmUpDx.main_arg0) = m ((c.tc : Thread Cert.SsmUpDx.nD Cert.SsmUpDx.τ).loc Cert.SsmUpDx.main_arg0)
      ∧ r.2.mem ((c.tc : Thread Cert.SsmUpDx.nD Cert.SsmUpDx.τ).loc Cert.SsmUpDx.main_arg1) = m ((c.tc : Thread Cert.SsmUpDx.nD Cert.SsmUpDx.τ).loc Cert.SsmUpDx.main_arg1))
      ∧ r.2.sem = fun _ => 0)

def quiescent_SsmUpDxIdeal [hSsmUpDxIdeal : Cert.SsmUpDxIdeal.Facts] : Prop :=
  ∀ (m : (ℓ : Loc Cert.SsmUpDxIdeal.nD Cert.SsmUpDxIdeal.τ Cert.SsmUpDxIdeal.sig) → Buf (Elt Ideal) ℓ) (g : Dev Cert.SsmUpDxIdeal.nD → PrngReg), Pre_SsmUpDxIdeal m →
    θ_run (Cert.SsmUpDxIdeal.defs (F := Ideal)) (onTc (τ := Cert.SsmUpDxIdeal.τ) (Cert.SsmUpDxIdeal.main (F := Ideal))) ⟨m, fun _ => 0, g⟩ (fun r => (∀ c : Dev Cert.SsmUpDxIdeal.nD,
      r.2.mem ((c.tc : Thread Cert.SsmUpDxIdeal.nD Cert.SsmUpDxIdeal.τ).loc Cert.SsmUpDxIdeal.main_arg0) = m ((c.tc : Thread Cert.SsmUpDxIdeal.nD Cert.SsmUpDxIdeal.τ).loc Cert.SsmUpDxIdeal.main_arg0)
      ∧ r.2.mem ((c.tc : Thread Cert.SsmUpDxIdeal.nD Cert.SsmUpDxIdeal.τ).loc Cert.SsmUpDxIdeal.main_arg1) = m ((c.tc : Thread Cert.SsmUpDxIdeal.nD Cert.SsmUpDxIdeal.τ).loc Cert.SsmUpDxIdeal.main_arg1))
      ∧ r.2.sem = fun _ => 0)

def quiescent_SsmUpDxRefIdeal [hSsmUpDxRefIdeal : Cert.SsmUpDxRefIdeal.Facts] : Prop :=
  ∀ (m : (ℓ : Loc Cert.SsmUpDxRefIdeal.nD Cert.SsmUpDxRefIdeal.τ Cert.SsmUpDxRefIdeal.sig) → Buf (Elt Ideal) ℓ) (g : Dev Cert.SsmUpDxRefIdeal.nD → PrngReg), Pre_SsmUpDxRefIdeal m →
    θ_run (Cert.SsmUpDxRefIdeal.defs (F := Ideal)) (onTc (τ := Cert.SsmUpDxRefIdeal.τ) (Cert.SsmUpDxRefIdeal.main (F := Ideal))) ⟨m, fun _ => 0, g⟩ (fun r => (∀ c : Dev Cert.SsmUpDxRefIdeal.nD,
      r.2.mem ((c.tc : Thread Cert.SsmUpDxRefIdeal.nD Cert.SsmUpDxRefIdeal.τ).loc Cert.SsmUpDxRefIdeal.main_arg0) = m ((c.tc : Thread Cert.SsmUpDxRefIdeal.nD Cert.SsmUpDxRefIdeal.τ).loc Cert.SsmUpDxRefIdeal.main_arg0)
      ∧ r.2.mem ((c.tc : Thread Cert.SsmUpDxRefIdeal.nD Cert.SsmUpDxRefIdeal.τ).loc Cert.SsmUpDxRefIdeal.main_arg1) = m ((c.tc : Thread Cert.SsmUpDxRefIdeal.nD Cert.SsmUpDxRefIdeal.τ).loc Cert.SsmUpDxRefIdeal.main_arg1))
      ∧ r.2.sem = fun _ => 0)

def quiescent_GdnUpDx [hGdnUpDx : Cert.GdnUpDx.Facts] : Prop :=
  ∀ (m : (ℓ : Loc Cert.GdnUpDx.nD Cert.GdnUpDx.τ Cert.GdnUpDx.sig) → Buf (Elt Bits) ℓ) (g : Dev Cert.GdnUpDx.nD → PrngReg), Pre_GdnUpDx m →
    θ_run (Cert.GdnUpDx.defs (F := Bits)) (onTc (τ := Cert.GdnUpDx.τ) (Cert.GdnUpDx.main (F := Bits))) ⟨m, fun _ => 0, g⟩ (fun r => (∀ c : Dev Cert.GdnUpDx.nD,
      r.2.mem ((c.tc : Thread Cert.GdnUpDx.nD Cert.GdnUpDx.τ).loc Cert.GdnUpDx.main_arg0) = m ((c.tc : Thread Cert.GdnUpDx.nD Cert.GdnUpDx.τ).loc Cert.GdnUpDx.main_arg0)
      ∧ r.2.mem ((c.tc : Thread Cert.GdnUpDx.nD Cert.GdnUpDx.τ).loc Cert.GdnUpDx.main_arg1) = m ((c.tc : Thread Cert.GdnUpDx.nD Cert.GdnUpDx.τ).loc Cert.GdnUpDx.main_arg1))
      ∧ r.2.sem = fun _ => 0)

def quiescent_GdnUpDxIdeal [hGdnUpDxIdeal : Cert.GdnUpDxIdeal.Facts] : Prop :=
  ∀ (m : (ℓ : Loc Cert.GdnUpDxIdeal.nD Cert.GdnUpDxIdeal.τ Cert.GdnUpDxIdeal.sig) → Buf (Elt Ideal) ℓ) (g : Dev Cert.GdnUpDxIdeal.nD → PrngReg), Pre_GdnUpDxIdeal m →
    θ_run (Cert.GdnUpDxIdeal.defs (F := Ideal)) (onTc (τ := Cert.GdnUpDxIdeal.τ) (Cert.GdnUpDxIdeal.main (F := Ideal))) ⟨m, fun _ => 0, g⟩ (fun r => (∀ c : Dev Cert.GdnUpDxIdeal.nD,
      r.2.mem ((c.tc : Thread Cert.GdnUpDxIdeal.nD Cert.GdnUpDxIdeal.τ).loc Cert.GdnUpDxIdeal.main_arg0) = m ((c.tc : Thread Cert.GdnUpDxIdeal.nD Cert.GdnUpDxIdeal.τ).loc Cert.GdnUpDxIdeal.main_arg0)
      ∧ r.2.mem ((c.tc : Thread Cert.GdnUpDxIdeal.nD Cert.GdnUpDxIdeal.τ).loc Cert.GdnUpDxIdeal.main_arg1) = m ((c.tc : Thread Cert.GdnUpDxIdeal.nD Cert.GdnUpDxIdeal.τ).loc Cert.GdnUpDxIdeal.main_arg1))
      ∧ r.2.sem = fun _ => 0)

def quiescent_GdnUpDxRefIdeal [hGdnUpDxRefIdeal : Cert.GdnUpDxRefIdeal.Facts] : Prop :=
  ∀ (m : (ℓ : Loc Cert.GdnUpDxRefIdeal.nD Cert.GdnUpDxRefIdeal.τ Cert.GdnUpDxRefIdeal.sig) → Buf (Elt Ideal) ℓ) (g : Dev Cert.GdnUpDxRefIdeal.nD → PrngReg), Pre_GdnUpDxRefIdeal m →
    θ_run (Cert.GdnUpDxRefIdeal.defs (F := Ideal)) (onTc (τ := Cert.GdnUpDxRefIdeal.τ) (Cert.GdnUpDxRefIdeal.main (F := Ideal))) ⟨m, fun _ => 0, g⟩ (fun r => (∀ c : Dev Cert.GdnUpDxRefIdeal.nD,
      r.2.mem ((c.tc : Thread Cert.GdnUpDxRefIdeal.nD Cert.GdnUpDxRefIdeal.τ).loc Cert.GdnUpDxRefIdeal.main_arg0) = m ((c.tc : Thread Cert.GdnUpDxRefIdeal.nD Cert.GdnUpDxRefIdeal.τ).loc Cert.GdnUpDxRefIdeal.main_arg0)
      ∧ r.2.mem ((c.tc : Thread Cert.GdnUpDxRefIdeal.nD Cert.GdnUpDxRefIdeal.τ).loc Cert.GdnUpDxRefIdeal.main_arg1) = m ((c.tc : Thread Cert.GdnUpDxRefIdeal.nD Cert.GdnUpDxRefIdeal.τ).loc Cert.GdnUpDxRefIdeal.main_arg1))
      ∧ r.2.sem = fun _ => 0)

def quiescent_GdnUpDw [hGdnUpDw : Cert.GdnUpDw.Facts] : Prop :=
  ∀ (m : (ℓ : Loc Cert.GdnUpDw.nD Cert.GdnUpDw.τ Cert.GdnUpDw.sig) → Buf (Elt Bits) ℓ) (g : Dev Cert.GdnUpDw.nD → PrngReg), Pre_GdnUpDw m →
    θ_run (Cert.GdnUpDw.defs (F := Bits)) (onTc (τ := Cert.GdnUpDw.τ) (Cert.GdnUpDw.main (F := Bits))) ⟨m, fun _ => 0, g⟩ (fun r => (∀ c : Dev Cert.GdnUpDw.nD,
      r.2.mem ((c.tc : Thread Cert.GdnUpDw.nD Cert.GdnUpDw.τ).loc Cert.GdnUpDw.main_arg0) = m ((c.tc : Thread Cert.GdnUpDw.nD Cert.GdnUpDw.τ).loc Cert.GdnUpDw.main_arg0)
      ∧ r.2.mem ((c.tc : Thread Cert.GdnUpDw.nD Cert.GdnUpDw.τ).loc Cert.GdnUpDw.main_arg1) = m ((c.tc : Thread Cert.GdnUpDw.nD Cert.GdnUpDw.τ).loc Cert.GdnUpDw.main_arg1))
      ∧ r.2.sem = fun _ => 0)

def quiescent_GdnUpDwIdeal [hGdnUpDwIdeal : Cert.GdnUpDwIdeal.Facts] : Prop :=
  ∀ (m : (ℓ : Loc Cert.GdnUpDwIdeal.nD Cert.GdnUpDwIdeal.τ Cert.GdnUpDwIdeal.sig) → Buf (Elt Ideal) ℓ) (g : Dev Cert.GdnUpDwIdeal.nD → PrngReg), Pre_GdnUpDwIdeal m →
    θ_run (Cert.GdnUpDwIdeal.defs (F := Ideal)) (onTc (τ := Cert.GdnUpDwIdeal.τ) (Cert.GdnUpDwIdeal.main (F := Ideal))) ⟨m, fun _ => 0, g⟩ (fun r => (∀ c : Dev Cert.GdnUpDwIdeal.nD,
      r.2.mem ((c.tc : Thread Cert.GdnUpDwIdeal.nD Cert.GdnUpDwIdeal.τ).loc Cert.GdnUpDwIdeal.main_arg0) = m ((c.tc : Thread Cert.GdnUpDwIdeal.nD Cert.GdnUpDwIdeal.τ).loc Cert.GdnUpDwIdeal.main_arg0)
      ∧ r.2.mem ((c.tc : Thread Cert.GdnUpDwIdeal.nD Cert.GdnUpDwIdeal.τ).loc Cert.GdnUpDwIdeal.main_arg1) = m ((c.tc : Thread Cert.GdnUpDwIdeal.nD Cert.GdnUpDwIdeal.τ).loc Cert.GdnUpDwIdeal.main_arg1))
      ∧ r.2.sem = fun _ => 0)

def quiescent_GdnUpDwRefIdeal [hGdnUpDwRefIdeal : Cert.GdnUpDwRefIdeal.Facts] : Prop :=
  ∀ (m : (ℓ : Loc Cert.GdnUpDwRefIdeal.nD Cert.GdnUpDwRefIdeal.τ Cert.GdnUpDwRefIdeal.sig) → Buf (Elt Ideal) ℓ) (g : Dev Cert.GdnUpDwRefIdeal.nD → PrngReg), Pre_GdnUpDwRefIdeal m →
    θ_run (Cert.GdnUpDwRefIdeal.defs (F := Ideal)) (onTc (τ := Cert.GdnUpDwRefIdeal.τ) (Cert.GdnUpDwRefIdeal.main (F := Ideal))) ⟨m, fun _ => 0, g⟩ (fun r => (∀ c : Dev Cert.GdnUpDwRefIdeal.nD,
      r.2.mem ((c.tc : Thread Cert.GdnUpDwRefIdeal.nD Cert.GdnUpDwRefIdeal.τ).loc Cert.GdnUpDwRefIdeal.main_arg0) = m ((c.tc : Thread Cert.GdnUpDwRefIdeal.nD Cert.GdnUpDwRefIdeal.τ).loc Cert.GdnUpDwRefIdeal.main_arg0)
      ∧ r.2.mem ((c.tc : Thread Cert.GdnUpDwRefIdeal.nD Cert.GdnUpDwRefIdeal.τ).loc Cert.GdnUpDwRefIdeal.main_arg1) = m ((c.tc : Thread Cert.GdnUpDwRefIdeal.nD Cert.GdnUpDwRefIdeal.τ).loc Cert.GdnUpDwRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_SsmUpDw [hSsmUpDw : Cert.SsmUpDw.Facts] : Prop :=
  ∀ (m : (ℓ : Loc Cert.SsmUpDw.nD Cert.SsmUpDw.τ Cert.SsmUpDw.sig) → Buf (Elt Bits) ℓ) (g : Dev Cert.SsmUpDw.nD → PrngReg), Pre_SsmUpDw m →
    θ_run (Cert.SsmUpDw.defs (F := Bits)) (onTc (τ := Cert.SsmUpDw.τ) (Cert.SsmUpDw.main (F := Bits))) ⟨m, fun _ => 0, g⟩ (fun r => (∀ c : Dev Cert.SsmUpDw.nD,
      r.2.mem ((c.tc : Thread Cert.SsmUpDw.nD Cert.SsmUpDw.τ).loc Cert.SsmUpDw.main_arg0) = m ((c.tc : Thread Cert.SsmUpDw.nD Cert.SsmUpDw.τ).loc Cert.SsmUpDw.main_arg0)
      ∧ r.2.mem ((c.tc : Thread Cert.SsmUpDw.nD Cert.SsmUpDw.τ).loc Cert.SsmUpDw.main_arg1) = m ((c.tc : Thread Cert.SsmUpDw.nD Cert.SsmUpDw.τ).loc Cert.SsmUpDw.main_arg1))
      ∧ r.2.sem = fun _ => 0)

def quiescent_SsmUpDwIdeal [hSsmUpDwIdeal : Cert.SsmUpDwIdeal.Facts] : Prop :=
  ∀ (m : (ℓ : Loc Cert.SsmUpDwIdeal.nD Cert.SsmUpDwIdeal.τ Cert.SsmUpDwIdeal.sig) → Buf (Elt Ideal) ℓ) (g : Dev Cert.SsmUpDwIdeal.nD → PrngReg), Pre_SsmUpDwIdeal m →
    θ_run (Cert.SsmUpDwIdeal.defs (F := Ideal)) (onTc (τ := Cert.SsmUpDwIdeal.τ) (Cert.SsmUpDwIdeal.main (F := Ideal))) ⟨m, fun _ => 0, g⟩ (fun r => (∀ c : Dev Cert.SsmUpDwIdeal.nD,
      r.2.mem ((c.tc : Thread Cert.SsmUpDwIdeal.nD Cert.SsmUpDwIdeal.τ).loc Cert.SsmUpDwIdeal.main_arg0) = m ((c.tc : Thread Cert.SsmUpDwIdeal.nD Cert.SsmUpDwIdeal.τ).loc Cert.SsmUpDwIdeal.main_arg0)
      ∧ r.2.mem ((c.tc : Thread Cert.SsmUpDwIdeal.nD Cert.SsmUpDwIdeal.τ).loc Cert.SsmUpDwIdeal.main_arg1) = m ((c.tc : Thread Cert.SsmUpDwIdeal.nD Cert.SsmUpDwIdeal.τ).loc Cert.SsmUpDwIdeal.main_arg1))
      ∧ r.2.sem = fun _ => 0)

def quiescent_SsmUpDwRefIdeal [hSsmUpDwRefIdeal : Cert.SsmUpDwRefIdeal.Facts] : Prop :=
  ∀ (m : (ℓ : Loc Cert.SsmUpDwRefIdeal.nD Cert.SsmUpDwRefIdeal.τ Cert.SsmUpDwRefIdeal.sig) → Buf (Elt Ideal) ℓ) (g : Dev Cert.SsmUpDwRefIdeal.nD → PrngReg), Pre_SsmUpDwRefIdeal m →
    θ_run (Cert.SsmUpDwRefIdeal.defs (F := Ideal)) (onTc (τ := Cert.SsmUpDwRefIdeal.τ) (Cert.SsmUpDwRefIdeal.main (F := Ideal))) ⟨m, fun _ => 0, g⟩ (fun r => (∀ c : Dev Cert.SsmUpDwRefIdeal.nD,
      r.2.mem ((c.tc : Thread Cert.SsmUpDwRefIdeal.nD Cert.SsmUpDwRefIdeal.τ).loc Cert.SsmUpDwRefIdeal.main_arg0) = m ((c.tc : Thread Cert.SsmUpDwRefIdeal.nD Cert.SsmUpDwRefIdeal.τ).loc Cert.SsmUpDwRefIdeal.main_arg0)
      ∧ r.2.mem ((c.tc : Thread Cert.SsmUpDwRefIdeal.nD Cert.SsmUpDwRefIdeal.τ).loc Cert.SsmUpDwRefIdeal.main_arg1) = m ((c.tc : Thread Cert.SsmUpDwRefIdeal.nD Cert.SsmUpDwRefIdeal.τ).loc Cert.SsmUpDwRefIdeal.main_arg1))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2))
      ∧ r.2.sem = fun _ => 0)

def quiescent_PremixBwd [hPremixBwd : Cert.PremixBwd.Facts] : Prop :=
  ∀ (m : (ℓ : Loc Cert.PremixBwd.nD Cert.PremixBwd.τ Cert.PremixBwd.sig) → Buf (Elt Bits) ℓ) (g : Dev Cert.PremixBwd.nD → PrngReg), Pre_PremixBwd m →
    θ_run (Cert.PremixBwd.defs (F := Bits)) (onTc (τ := Cert.PremixBwd.τ) (Cert.PremixBwd.main (F := Bits))) ⟨m, fun _ => 0, g⟩ (fun r => (∀ c : Dev Cert.PremixBwd.nD,
      r.2.mem ((c.tc : Thread Cert.PremixBwd.nD Cert.PremixBwd.τ).loc Cert.PremixBwd.main_arg0) = m ((c.tc : Thread Cert.PremixBwd.nD Cert.PremixBwd.τ).loc Cert.PremixBwd.main_arg0)
      ∧ r.2.mem ((c.tc : Thread Cert.PremixBwd.nD Cert.PremixBwd.τ).loc Cert.PremixBwd.main_arg1) = m ((c.tc : Thread Cert.PremixBwd.nD Cert.PremixBwd.τ).loc Cert.PremixBwd.main_arg1)
      ∧ r.2.mem ((c.tc : Thread Cert.PremixBwd.nD Cert.PremixBwd.τ).loc Cert.PremixBwd.main_arg2) = m ((c.tc : Thread Cert.PremixBwd.nD Cert.PremixBwd.τ).loc Cert.PremixBwd.main_arg2)
      ∧ r.2.mem ((c.tc : Thread Cert.PremixBwd.nD Cert.PremixBwd.τ).loc Cert.PremixBwd.main_arg3) = m ((c.tc : Thread Cert.PremixBwd.nD Cert.PremixBwd.τ).loc Cert.PremixBwd.main_arg3)
      ∧ r.2.mem ((c.tc : Thread Cert.PremixBwd.nD Cert.PremixBwd.τ).loc Cert.PremixBwd.main_arg4) = m ((c.tc : Thread Cert.PremixBwd.nD Cert.PremixBwd.τ).loc Cert.PremixBwd.main_arg4)
      ∧ r.2.mem ((c.tc : Thread Cert.PremixBwd.nD Cert.PremixBwd.τ).loc Cert.PremixBwd.main_arg5) = m ((c.tc : Thread Cert.PremixBwd.nD Cert.PremixBwd.τ).loc Cert.PremixBwd.main_arg5))
      ∧ r.2.sem = fun _ => 0)

def quiescent_PremixBwdIdeal [hPremixBwdIdeal : Cert.PremixBwdIdeal.Facts] : Prop :=
  ∀ (m : (ℓ : Loc Cert.PremixBwdIdeal.nD Cert.PremixBwdIdeal.τ Cert.PremixBwdIdeal.sig) → Buf (Elt Ideal) ℓ) (g : Dev Cert.PremixBwdIdeal.nD → PrngReg), Pre_PremixBwdIdeal m →
    θ_run (Cert.PremixBwdIdeal.defs (F := Ideal)) (onTc (τ := Cert.PremixBwdIdeal.τ) (Cert.PremixBwdIdeal.main (F := Ideal))) ⟨m, fun _ => 0, g⟩ (fun r => (∀ c : Dev Cert.PremixBwdIdeal.nD,
      r.2.mem ((c.tc : Thread Cert.PremixBwdIdeal.nD Cert.PremixBwdIdeal.τ).loc Cert.PremixBwdIdeal.main_arg0) = m ((c.tc : Thread Cert.PremixBwdIdeal.nD Cert.PremixBwdIdeal.τ).loc Cert.PremixBwdIdeal.main_arg0)
      ∧ r.2.mem ((c.tc : Thread Cert.PremixBwdIdeal.nD Cert.PremixBwdIdeal.τ).loc Cert.PremixBwdIdeal.main_arg1) = m ((c.tc : Thread Cert.PremixBwdIdeal.nD Cert.PremixBwdIdeal.τ).loc Cert.PremixBwdIdeal.main_arg1)
      ∧ r.2.mem ((c.tc : Thread Cert.PremixBwdIdeal.nD Cert.PremixBwdIdeal.τ).loc Cert.PremixBwdIdeal.main_arg2) = m ((c.tc : Thread Cert.PremixBwdIdeal.nD Cert.PremixBwdIdeal.τ).loc Cert.PremixBwdIdeal.main_arg2)
      ∧ r.2.mem ((c.tc : Thread Cert.PremixBwdIdeal.nD Cert.PremixBwdIdeal.τ).loc Cert.PremixBwdIdeal.main_arg3) = m ((c.tc : Thread Cert.PremixBwdIdeal.nD Cert.PremixBwdIdeal.τ).loc Cert.PremixBwdIdeal.main_arg3)
      ∧ r.2.mem ((c.tc : Thread Cert.PremixBwdIdeal.nD Cert.PremixBwdIdeal.τ).loc Cert.PremixBwdIdeal.main_arg4) = m ((c.tc : Thread Cert.PremixBwdIdeal.nD Cert.PremixBwdIdeal.τ).loc Cert.PremixBwdIdeal.main_arg4)
      ∧ r.2.mem ((c.tc : Thread Cert.PremixBwdIdeal.nD Cert.PremixBwdIdeal.τ).loc Cert.PremixBwdIdeal.main_arg5) = m ((c.tc : Thread Cert.PremixBwdIdeal.nD Cert.PremixBwdIdeal.τ).loc Cert.PremixBwdIdeal.main_arg5))
      ∧ r.2.sem = fun _ => 0)

def quiescent_PremixBwdRefIdeal [hPremixBwdRefIdeal : Cert.PremixBwdRefIdeal.Facts] : Prop :=
  ∀ (m : (ℓ : Loc Cert.PremixBwdRefIdeal.nD Cert.PremixBwdRefIdeal.τ Cert.PremixBwdRefIdeal.sig) → Buf (Elt Ideal) ℓ) (g : Dev Cert.PremixBwdRefIdeal.nD → PrngReg), Pre_PremixBwdRefIdeal m →
    θ_run (Cert.PremixBwdRefIdeal.defs (F := Ideal)) (onTc (τ := Cert.PremixBwdRefIdeal.τ) (Cert.PremixBwdRefIdeal.main (F := Ideal))) ⟨m, fun _ => 0, g⟩ (fun r => (∀ c : Dev Cert.PremixBwdRefIdeal.nD,
      r.2.mem ((c.tc : Thread Cert.PremixBwdRefIdeal.nD Cert.PremixBwdRefIdeal.τ).loc Cert.PremixBwdRefIdeal.main_arg0) = m ((c.tc : Thread Cert.PremixBwdRefIdeal.nD Cert.PremixBwdRefIdeal.τ).loc Cert.PremixBwdRefIdeal.main_arg0)
      ∧ r.2.mem ((c.tc : Thread Cert.PremixBwdRefIdeal.nD Cert.PremixBwdRefIdeal.τ).loc Cert.PremixBwdRefIdeal.main_arg1) = m ((c.tc : Thread Cert.PremixBwdRefIdeal.nD Cert.PremixBwdRefIdeal.τ).loc Cert.PremixBwdRefIdeal.main_arg1)
      ∧ r.2.mem ((c.tc : Thread Cert.PremixBwdRefIdeal.nD Cert.PremixBwdRefIdeal.τ).loc Cert.PremixBwdRefIdeal.main_arg2) = m ((c.tc : Thread Cert.PremixBwdRefIdeal.nD Cert.PremixBwdRefIdeal.τ).loc Cert.PremixBwdRefIdeal.main_arg2)
      ∧ r.2.mem ((c.tc : Thread Cert.PremixBwdRefIdeal.nD Cert.PremixBwdRefIdeal.τ).loc Cert.PremixBwdRefIdeal.main_arg3) = m ((c.tc : Thread Cert.PremixBwdRefIdeal.nD Cert.PremixBwdRefIdeal.τ).loc Cert.PremixBwdRefIdeal.main_arg3)
      ∧ r.2.mem ((c.tc : Thread Cert.PremixBwdRefIdeal.nD Cert.PremixBwdRefIdeal.τ).loc Cert.PremixBwdRefIdeal.main_arg4) = m ((c.tc : Thread Cert.PremixBwdRefIdeal.nD Cert.PremixBwdRefIdeal.τ).loc Cert.PremixBwdRefIdeal.main_arg4)
      ∧ r.2.mem ((c.tc : Thread Cert.PremixBwdRefIdeal.nD Cert.PremixBwdRefIdeal.τ).loc Cert.PremixBwdRefIdeal.main_arg5) = m ((c.tc : Thread Cert.PremixBwdRefIdeal.nD Cert.PremixBwdRefIdeal.τ).loc Cert.PremixBwdRefIdeal.main_arg5))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4)
      ∧ r.2.mem ((c.tc : Thread Cert.AdamWIn.nD Cert.AdamWIn.τ).loc Cert.AdamWIn.main_arg5) = m ((c.tc : Thread Cert.AdamWIn.nD Cert.AdamWIn.τ).loc Cert.AdamWIn.main_arg5))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4)
      ∧ r.2.mem ((c.tc : Thread Cert.AdamWInIdeal.nD Cert.AdamWInIdeal.τ).loc Cert.AdamWInIdeal.main_arg5) = m ((c.tc : Thread Cert.AdamWInIdeal.nD Cert.AdamWInIdeal.τ).loc Cert.AdamWInIdeal.main_arg5))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4)
      ∧ r.2.mem ((c.tc : Thread Cert.AdamWInRefIdeal.nD Cert.AdamWInRefIdeal.τ).loc Cert.AdamWInRefIdeal.main_arg5) = m ((c.tc : Thread Cert.AdamWInRefIdeal.nD Cert.AdamWInRefIdeal.τ).loc Cert.AdamWInRefIdeal.main_arg5))
      ∧ r.2.sem = fun _ => 0)

def quiescent_AdamSsmUp [hAdamSsmUp : Cert.AdamSsmUp.Facts] : Prop :=
  ∀ (m : (ℓ : Loc Cert.AdamSsmUp.nD Cert.AdamSsmUp.τ Cert.AdamSsmUp.sig) → Buf (Elt Bits) ℓ) (g : Dev Cert.AdamSsmUp.nD → PrngReg), Pre_AdamSsmUp m →
    θ_run (Cert.AdamSsmUp.defs (F := Bits)) (onTc (τ := Cert.AdamSsmUp.τ) (Cert.AdamSsmUp.main (F := Bits))) ⟨m, fun _ => 0, g⟩ (fun r => (∀ c : Dev Cert.AdamSsmUp.nD,
      r.2.mem ((c.tc : Thread Cert.AdamSsmUp.nD Cert.AdamSsmUp.τ).loc Cert.AdamSsmUp.main_arg0) = m ((c.tc : Thread Cert.AdamSsmUp.nD Cert.AdamSsmUp.τ).loc Cert.AdamSsmUp.main_arg0)
      ∧ r.2.mem ((c.tc : Thread Cert.AdamSsmUp.nD Cert.AdamSsmUp.τ).loc Cert.AdamSsmUp.main_arg1) = m ((c.tc : Thread Cert.AdamSsmUp.nD Cert.AdamSsmUp.τ).loc Cert.AdamSsmUp.main_arg1)
      ∧ r.2.mem ((c.tc : Thread Cert.AdamSsmUp.nD Cert.AdamSsmUp.τ).loc Cert.AdamSsmUp.main_arg2) = m ((c.tc : Thread Cert.AdamSsmUp.nD Cert.AdamSsmUp.τ).loc Cert.AdamSsmUp.main_arg2)
      ∧ r.2.mem ((c.tc : Thread Cert.AdamSsmUp.nD Cert.AdamSsmUp.τ).loc Cert.AdamSsmUp.main_arg3) = m ((c.tc : Thread Cert.AdamSsmUp.nD Cert.AdamSsmUp.τ).loc Cert.AdamSsmUp.main_arg3)
      ∧ r.2.mem ((c.tc : Thread Cert.AdamSsmUp.nD Cert.AdamSsmUp.τ).loc Cert.AdamSsmUp.main_arg4) = m ((c.tc : Thread Cert.AdamSsmUp.nD Cert.AdamSsmUp.τ).loc Cert.AdamSsmUp.main_arg4)
      ∧ r.2.mem ((c.tc : Thread Cert.AdamSsmUp.nD Cert.AdamSsmUp.τ).loc Cert.AdamSsmUp.main_arg5) = m ((c.tc : Thread Cert.AdamSsmUp.nD Cert.AdamSsmUp.τ).loc Cert.AdamSsmUp.main_arg5))
      ∧ r.2.sem = fun _ => 0)

def quiescent_AdamSsmUpIdeal [hAdamSsmUpIdeal : Cert.AdamSsmUpIdeal.Facts] : Prop :=
  ∀ (m : (ℓ : Loc Cert.AdamSsmUpIdeal.nD Cert.AdamSsmUpIdeal.τ Cert.AdamSsmUpIdeal.sig) → Buf (Elt Ideal) ℓ) (g : Dev Cert.AdamSsmUpIdeal.nD → PrngReg), Pre_AdamSsmUpIdeal m →
    θ_run (Cert.AdamSsmUpIdeal.defs (F := Ideal)) (onTc (τ := Cert.AdamSsmUpIdeal.τ) (Cert.AdamSsmUpIdeal.main (F := Ideal))) ⟨m, fun _ => 0, g⟩ (fun r => (∀ c : Dev Cert.AdamSsmUpIdeal.nD,
      r.2.mem ((c.tc : Thread Cert.AdamSsmUpIdeal.nD Cert.AdamSsmUpIdeal.τ).loc Cert.AdamSsmUpIdeal.main_arg0) = m ((c.tc : Thread Cert.AdamSsmUpIdeal.nD Cert.AdamSsmUpIdeal.τ).loc Cert.AdamSsmUpIdeal.main_arg0)
      ∧ r.2.mem ((c.tc : Thread Cert.AdamSsmUpIdeal.nD Cert.AdamSsmUpIdeal.τ).loc Cert.AdamSsmUpIdeal.main_arg1) = m ((c.tc : Thread Cert.AdamSsmUpIdeal.nD Cert.AdamSsmUpIdeal.τ).loc Cert.AdamSsmUpIdeal.main_arg1)
      ∧ r.2.mem ((c.tc : Thread Cert.AdamSsmUpIdeal.nD Cert.AdamSsmUpIdeal.τ).loc Cert.AdamSsmUpIdeal.main_arg2) = m ((c.tc : Thread Cert.AdamSsmUpIdeal.nD Cert.AdamSsmUpIdeal.τ).loc Cert.AdamSsmUpIdeal.main_arg2)
      ∧ r.2.mem ((c.tc : Thread Cert.AdamSsmUpIdeal.nD Cert.AdamSsmUpIdeal.τ).loc Cert.AdamSsmUpIdeal.main_arg3) = m ((c.tc : Thread Cert.AdamSsmUpIdeal.nD Cert.AdamSsmUpIdeal.τ).loc Cert.AdamSsmUpIdeal.main_arg3)
      ∧ r.2.mem ((c.tc : Thread Cert.AdamSsmUpIdeal.nD Cert.AdamSsmUpIdeal.τ).loc Cert.AdamSsmUpIdeal.main_arg4) = m ((c.tc : Thread Cert.AdamSsmUpIdeal.nD Cert.AdamSsmUpIdeal.τ).loc Cert.AdamSsmUpIdeal.main_arg4)
      ∧ r.2.mem ((c.tc : Thread Cert.AdamSsmUpIdeal.nD Cert.AdamSsmUpIdeal.τ).loc Cert.AdamSsmUpIdeal.main_arg5) = m ((c.tc : Thread Cert.AdamSsmUpIdeal.nD Cert.AdamSsmUpIdeal.τ).loc Cert.AdamSsmUpIdeal.main_arg5))
      ∧ r.2.sem = fun _ => 0)

def quiescent_AdamSsmUpRefIdeal [hAdamSsmUpRefIdeal : Cert.AdamSsmUpRefIdeal.Facts] : Prop :=
  ∀ (m : (ℓ : Loc Cert.AdamSsmUpRefIdeal.nD Cert.AdamSsmUpRefIdeal.τ Cert.AdamSsmUpRefIdeal.sig) → Buf (Elt Ideal) ℓ) (g : Dev Cert.AdamSsmUpRefIdeal.nD → PrngReg), Pre_AdamSsmUpRefIdeal m →
    θ_run (Cert.AdamSsmUpRefIdeal.defs (F := Ideal)) (onTc (τ := Cert.AdamSsmUpRefIdeal.τ) (Cert.AdamSsmUpRefIdeal.main (F := Ideal))) ⟨m, fun _ => 0, g⟩ (fun r => (∀ c : Dev Cert.AdamSsmUpRefIdeal.nD,
      r.2.mem ((c.tc : Thread Cert.AdamSsmUpRefIdeal.nD Cert.AdamSsmUpRefIdeal.τ).loc Cert.AdamSsmUpRefIdeal.main_arg0) = m ((c.tc : Thread Cert.AdamSsmUpRefIdeal.nD Cert.AdamSsmUpRefIdeal.τ).loc Cert.AdamSsmUpRefIdeal.main_arg0)
      ∧ r.2.mem ((c.tc : Thread Cert.AdamSsmUpRefIdeal.nD Cert.AdamSsmUpRefIdeal.τ).loc Cert.AdamSsmUpRefIdeal.main_arg1) = m ((c.tc : Thread Cert.AdamSsmUpRefIdeal.nD Cert.AdamSsmUpRefIdeal.τ).loc Cert.AdamSsmUpRefIdeal.main_arg1)
      ∧ r.2.mem ((c.tc : Thread Cert.AdamSsmUpRefIdeal.nD Cert.AdamSsmUpRefIdeal.τ).loc Cert.AdamSsmUpRefIdeal.main_arg2) = m ((c.tc : Thread Cert.AdamSsmUpRefIdeal.nD Cert.AdamSsmUpRefIdeal.τ).loc Cert.AdamSsmUpRefIdeal.main_arg2)
      ∧ r.2.mem ((c.tc : Thread Cert.AdamSsmUpRefIdeal.nD Cert.AdamSsmUpRefIdeal.τ).loc Cert.AdamSsmUpRefIdeal.main_arg3) = m ((c.tc : Thread Cert.AdamSsmUpRefIdeal.nD Cert.AdamSsmUpRefIdeal.τ).loc Cert.AdamSsmUpRefIdeal.main_arg3)
      ∧ r.2.mem ((c.tc : Thread Cert.AdamSsmUpRefIdeal.nD Cert.AdamSsmUpRefIdeal.τ).loc Cert.AdamSsmUpRefIdeal.main_arg4) = m ((c.tc : Thread Cert.AdamSsmUpRefIdeal.nD Cert.AdamSsmUpRefIdeal.τ).loc Cert.AdamSsmUpRefIdeal.main_arg4)
      ∧ r.2.mem ((c.tc : Thread Cert.AdamSsmUpRefIdeal.nD Cert.AdamSsmUpRefIdeal.τ).loc Cert.AdamSsmUpRefIdeal.main_arg5) = m ((c.tc : Thread Cert.AdamSsmUpRefIdeal.nD Cert.AdamSsmUpRefIdeal.τ).loc Cert.AdamSsmUpRefIdeal.main_arg5))
      ∧ r.2.sem = fun _ => 0)

def quiescent_AdamGdnUp [hAdamGdnUp : Cert.AdamGdnUp.Facts] : Prop :=
  ∀ (m : (ℓ : Loc Cert.AdamGdnUp.nD Cert.AdamGdnUp.τ Cert.AdamGdnUp.sig) → Buf (Elt Bits) ℓ) (g : Dev Cert.AdamGdnUp.nD → PrngReg), Pre_AdamGdnUp m →
    θ_run (Cert.AdamGdnUp.defs (F := Bits)) (onTc (τ := Cert.AdamGdnUp.τ) (Cert.AdamGdnUp.main (F := Bits))) ⟨m, fun _ => 0, g⟩ (fun r => (∀ c : Dev Cert.AdamGdnUp.nD,
      r.2.mem ((c.tc : Thread Cert.AdamGdnUp.nD Cert.AdamGdnUp.τ).loc Cert.AdamGdnUp.main_arg0) = m ((c.tc : Thread Cert.AdamGdnUp.nD Cert.AdamGdnUp.τ).loc Cert.AdamGdnUp.main_arg0)
      ∧ r.2.mem ((c.tc : Thread Cert.AdamGdnUp.nD Cert.AdamGdnUp.τ).loc Cert.AdamGdnUp.main_arg1) = m ((c.tc : Thread Cert.AdamGdnUp.nD Cert.AdamGdnUp.τ).loc Cert.AdamGdnUp.main_arg1)
      ∧ r.2.mem ((c.tc : Thread Cert.AdamGdnUp.nD Cert.AdamGdnUp.τ).loc Cert.AdamGdnUp.main_arg2) = m ((c.tc : Thread Cert.AdamGdnUp.nD Cert.AdamGdnUp.τ).loc Cert.AdamGdnUp.main_arg2)
      ∧ r.2.mem ((c.tc : Thread Cert.AdamGdnUp.nD Cert.AdamGdnUp.τ).loc Cert.AdamGdnUp.main_arg3) = m ((c.tc : Thread Cert.AdamGdnUp.nD Cert.AdamGdnUp.τ).loc Cert.AdamGdnUp.main_arg3)
      ∧ r.2.mem ((c.tc : Thread Cert.AdamGdnUp.nD Cert.AdamGdnUp.τ).loc Cert.AdamGdnUp.main_arg4) = m ((c.tc : Thread Cert.AdamGdnUp.nD Cert.AdamGdnUp.τ).loc Cert.AdamGdnUp.main_arg4)
      ∧ r.2.mem ((c.tc : Thread Cert.AdamGdnUp.nD Cert.AdamGdnUp.τ).loc Cert.AdamGdnUp.main_arg5) = m ((c.tc : Thread Cert.AdamGdnUp.nD Cert.AdamGdnUp.τ).loc Cert.AdamGdnUp.main_arg5))
      ∧ r.2.sem = fun _ => 0)

def quiescent_AdamGdnUpIdeal [hAdamGdnUpIdeal : Cert.AdamGdnUpIdeal.Facts] : Prop :=
  ∀ (m : (ℓ : Loc Cert.AdamGdnUpIdeal.nD Cert.AdamGdnUpIdeal.τ Cert.AdamGdnUpIdeal.sig) → Buf (Elt Ideal) ℓ) (g : Dev Cert.AdamGdnUpIdeal.nD → PrngReg), Pre_AdamGdnUpIdeal m →
    θ_run (Cert.AdamGdnUpIdeal.defs (F := Ideal)) (onTc (τ := Cert.AdamGdnUpIdeal.τ) (Cert.AdamGdnUpIdeal.main (F := Ideal))) ⟨m, fun _ => 0, g⟩ (fun r => (∀ c : Dev Cert.AdamGdnUpIdeal.nD,
      r.2.mem ((c.tc : Thread Cert.AdamGdnUpIdeal.nD Cert.AdamGdnUpIdeal.τ).loc Cert.AdamGdnUpIdeal.main_arg0) = m ((c.tc : Thread Cert.AdamGdnUpIdeal.nD Cert.AdamGdnUpIdeal.τ).loc Cert.AdamGdnUpIdeal.main_arg0)
      ∧ r.2.mem ((c.tc : Thread Cert.AdamGdnUpIdeal.nD Cert.AdamGdnUpIdeal.τ).loc Cert.AdamGdnUpIdeal.main_arg1) = m ((c.tc : Thread Cert.AdamGdnUpIdeal.nD Cert.AdamGdnUpIdeal.τ).loc Cert.AdamGdnUpIdeal.main_arg1)
      ∧ r.2.mem ((c.tc : Thread Cert.AdamGdnUpIdeal.nD Cert.AdamGdnUpIdeal.τ).loc Cert.AdamGdnUpIdeal.main_arg2) = m ((c.tc : Thread Cert.AdamGdnUpIdeal.nD Cert.AdamGdnUpIdeal.τ).loc Cert.AdamGdnUpIdeal.main_arg2)
      ∧ r.2.mem ((c.tc : Thread Cert.AdamGdnUpIdeal.nD Cert.AdamGdnUpIdeal.τ).loc Cert.AdamGdnUpIdeal.main_arg3) = m ((c.tc : Thread Cert.AdamGdnUpIdeal.nD Cert.AdamGdnUpIdeal.τ).loc Cert.AdamGdnUpIdeal.main_arg3)
      ∧ r.2.mem ((c.tc : Thread Cert.AdamGdnUpIdeal.nD Cert.AdamGdnUpIdeal.τ).loc Cert.AdamGdnUpIdeal.main_arg4) = m ((c.tc : Thread Cert.AdamGdnUpIdeal.nD Cert.AdamGdnUpIdeal.τ).loc Cert.AdamGdnUpIdeal.main_arg4)
      ∧ r.2.mem ((c.tc : Thread Cert.AdamGdnUpIdeal.nD Cert.AdamGdnUpIdeal.τ).loc Cert.AdamGdnUpIdeal.main_arg5) = m ((c.tc : Thread Cert.AdamGdnUpIdeal.nD Cert.AdamGdnUpIdeal.τ).loc Cert.AdamGdnUpIdeal.main_arg5))
      ∧ r.2.sem = fun _ => 0)

def quiescent_AdamGdnUpRefIdeal [hAdamGdnUpRefIdeal : Cert.AdamGdnUpRefIdeal.Facts] : Prop :=
  ∀ (m : (ℓ : Loc Cert.AdamGdnUpRefIdeal.nD Cert.AdamGdnUpRefIdeal.τ Cert.AdamGdnUpRefIdeal.sig) → Buf (Elt Ideal) ℓ) (g : Dev Cert.AdamGdnUpRefIdeal.nD → PrngReg), Pre_AdamGdnUpRefIdeal m →
    θ_run (Cert.AdamGdnUpRefIdeal.defs (F := Ideal)) (onTc (τ := Cert.AdamGdnUpRefIdeal.τ) (Cert.AdamGdnUpRefIdeal.main (F := Ideal))) ⟨m, fun _ => 0, g⟩ (fun r => (∀ c : Dev Cert.AdamGdnUpRefIdeal.nD,
      r.2.mem ((c.tc : Thread Cert.AdamGdnUpRefIdeal.nD Cert.AdamGdnUpRefIdeal.τ).loc Cert.AdamGdnUpRefIdeal.main_arg0) = m ((c.tc : Thread Cert.AdamGdnUpRefIdeal.nD Cert.AdamGdnUpRefIdeal.τ).loc Cert.AdamGdnUpRefIdeal.main_arg0)
      ∧ r.2.mem ((c.tc : Thread Cert.AdamGdnUpRefIdeal.nD Cert.AdamGdnUpRefIdeal.τ).loc Cert.AdamGdnUpRefIdeal.main_arg1) = m ((c.tc : Thread Cert.AdamGdnUpRefIdeal.nD Cert.AdamGdnUpRefIdeal.τ).loc Cert.AdamGdnUpRefIdeal.main_arg1)
      ∧ r.2.mem ((c.tc : Thread Cert.AdamGdnUpRefIdeal.nD Cert.AdamGdnUpRefIdeal.τ).loc Cert.AdamGdnUpRefIdeal.main_arg2) = m ((c.tc : Thread Cert.AdamGdnUpRefIdeal.nD Cert.AdamGdnUpRefIdeal.τ).loc Cert.AdamGdnUpRefIdeal.main_arg2)
      ∧ r.2.mem ((c.tc : Thread Cert.AdamGdnUpRefIdeal.nD Cert.AdamGdnUpRefIdeal.τ).loc Cert.AdamGdnUpRefIdeal.main_arg3) = m ((c.tc : Thread Cert.AdamGdnUpRefIdeal.nD Cert.AdamGdnUpRefIdeal.τ).loc Cert.AdamGdnUpRefIdeal.main_arg3)
      ∧ r.2.mem ((c.tc : Thread Cert.AdamGdnUpRefIdeal.nD Cert.AdamGdnUpRefIdeal.τ).loc Cert.AdamGdnUpRefIdeal.main_arg4) = m ((c.tc : Thread Cert.AdamGdnUpRefIdeal.nD Cert.AdamGdnUpRefIdeal.τ).loc Cert.AdamGdnUpRefIdeal.main_arg4)
      ∧ r.2.mem ((c.tc : Thread Cert.AdamGdnUpRefIdeal.nD Cert.AdamGdnUpRefIdeal.τ).loc Cert.AdamGdnUpRefIdeal.main_arg5) = m ((c.tc : Thread Cert.AdamGdnUpRefIdeal.nD Cert.AdamGdnUpRefIdeal.τ).loc Cert.AdamGdnUpRefIdeal.main_arg5))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4)
      ∧ r.2.mem ((c.tc : Thread Cert.AdamWOut.nD Cert.AdamWOut.τ).loc Cert.AdamWOut.main_arg5) = m ((c.tc : Thread Cert.AdamWOut.nD Cert.AdamWOut.τ).loc Cert.AdamWOut.main_arg5))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
      ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4)
      ∧ r.2.mem ((c.tc : Thread Cert.AdamWOutRefIdeal.nD Cert.AdamWOutRefIdeal.τ).loc Cert.AdamWOutRefIdeal.main_arg5) = m ((c.tc : Thread Cert.AdamWOutRefIdeal.nD Cert.AdamWOutRefIdeal.τ).loc Cert.AdamWOutRefIdeal.main_arg5))
      ∧ r.2.sem = fun _ => 0)

def quiescent_AdamMlpUp [hAdamMlpUp : Cert.AdamMlpUp.Facts] : Prop :=
  ∀ (m : (ℓ : Loc Cert.AdamMlpUp.nD Cert.AdamMlpUp.τ Cert.AdamMlpUp.sig) → Buf (Elt Bits) ℓ) (g : Dev Cert.AdamMlpUp.nD → PrngReg), Pre_AdamMlpUp m →
    θ_run (Cert.AdamMlpUp.defs (F := Bits)) (onTc (τ := Cert.AdamMlpUp.τ) (Cert.AdamMlpUp.main (F := Bits))) ⟨m, fun _ => 0, g⟩ (fun r => (∀ c : Dev Cert.AdamMlpUp.nD,
      r.2.mem ((c.tc : Thread Cert.AdamMlpUp.nD Cert.AdamMlpUp.τ).loc Cert.AdamMlpUp.main_arg0) = m ((c.tc : Thread Cert.AdamMlpUp.nD Cert.AdamMlpUp.τ).loc Cert.AdamMlpUp.main_arg0)
      ∧ r.2.mem ((c.tc : Thread Cert.AdamMlpUp.nD Cert.AdamMlpUp.τ).loc Cert.AdamMlpUp.main_arg1) = m ((c.tc : Thread Cert.AdamMlpUp.nD Cert.AdamMlpUp.τ).loc Cert.AdamMlpUp.main_arg1)
      ∧ r.2.mem ((c.tc : Thread Cert.AdamMlpUp.nD Cert.AdamMlpUp.τ).loc Cert.AdamMlpUp.main_arg2) = m ((c.tc : Thread Cert.AdamMlpUp.nD Cert.AdamMlpUp.τ).loc Cert.AdamMlpUp.main_arg2)
      ∧ r.2.mem ((c.tc : Thread Cert.AdamMlpUp.nD Cert.AdamMlpUp.τ).loc Cert.AdamMlpUp.main_arg3) = m ((c.tc : Thread Cert.AdamMlpUp.nD Cert.AdamMlpUp.τ).loc Cert.AdamMlpUp.main_arg3)
      ∧ r.2.mem ((c.tc : Thread Cert.AdamMlpUp.nD Cert.AdamMlpUp.τ).loc Cert.AdamMlpUp.main_arg4) = m ((c.tc : Thread Cert.AdamMlpUp.nD Cert.AdamMlpUp.τ).loc Cert.AdamMlpUp.main_arg4)
      ∧ r.2.mem ((c.tc : Thread Cert.AdamMlpUp.nD Cert.AdamMlpUp.τ).loc Cert.AdamMlpUp.main_arg5) = m ((c.tc : Thread Cert.AdamMlpUp.nD Cert.AdamMlpUp.τ).loc Cert.AdamMlpUp.main_arg5))
      ∧ r.2.sem = fun _ => 0)

def quiescent_AdamMlpUpIdeal [hAdamMlpUpIdeal : Cert.AdamMlpUpIdeal.Facts] : Prop :=
  ∀ (m : (ℓ : Loc Cert.AdamMlpUpIdeal.nD Cert.AdamMlpUpIdeal.τ Cert.AdamMlpUpIdeal.sig) → Buf (Elt Ideal) ℓ) (g : Dev Cert.AdamMlpUpIdeal.nD → PrngReg), Pre_AdamMlpUpIdeal m →
    θ_run (Cert.AdamMlpUpIdeal.defs (F := Ideal)) (onTc (τ := Cert.AdamMlpUpIdeal.τ) (Cert.AdamMlpUpIdeal.main (F := Ideal))) ⟨m, fun _ => 0, g⟩ (fun r => (∀ c : Dev Cert.AdamMlpUpIdeal.nD,
      r.2.mem ((c.tc : Thread Cert.AdamMlpUpIdeal.nD Cert.AdamMlpUpIdeal.τ).loc Cert.AdamMlpUpIdeal.main_arg0) = m ((c.tc : Thread Cert.AdamMlpUpIdeal.nD Cert.AdamMlpUpIdeal.τ).loc Cert.AdamMlpUpIdeal.main_arg0)
      ∧ r.2.mem ((c.tc : Thread Cert.AdamMlpUpIdeal.nD Cert.AdamMlpUpIdeal.τ).loc Cert.AdamMlpUpIdeal.main_arg1) = m ((c.tc : Thread Cert.AdamMlpUpIdeal.nD Cert.AdamMlpUpIdeal.τ).loc Cert.AdamMlpUpIdeal.main_arg1)
      ∧ r.2.mem ((c.tc : Thread Cert.AdamMlpUpIdeal.nD Cert.AdamMlpUpIdeal.τ).loc Cert.AdamMlpUpIdeal.main_arg2) = m ((c.tc : Thread Cert.AdamMlpUpIdeal.nD Cert.AdamMlpUpIdeal.τ).loc Cert.AdamMlpUpIdeal.main_arg2)
      ∧ r.2.mem ((c.tc : Thread Cert.AdamMlpUpIdeal.nD Cert.AdamMlpUpIdeal.τ).loc Cert.AdamMlpUpIdeal.main_arg3) = m ((c.tc : Thread Cert.AdamMlpUpIdeal.nD Cert.AdamMlpUpIdeal.τ).loc Cert.AdamMlpUpIdeal.main_arg3)
      ∧ r.2.mem ((c.tc : Thread Cert.AdamMlpUpIdeal.nD Cert.AdamMlpUpIdeal.τ).loc Cert.AdamMlpUpIdeal.main_arg4) = m ((c.tc : Thread Cert.AdamMlpUpIdeal.nD Cert.AdamMlpUpIdeal.τ).loc Cert.AdamMlpUpIdeal.main_arg4)
      ∧ r.2.mem ((c.tc : Thread Cert.AdamMlpUpIdeal.nD Cert.AdamMlpUpIdeal.τ).loc Cert.AdamMlpUpIdeal.main_arg5) = m ((c.tc : Thread Cert.AdamMlpUpIdeal.nD Cert.AdamMlpUpIdeal.τ).loc Cert.AdamMlpUpIdeal.main_arg5))
      ∧ r.2.sem = fun _ => 0)

def quiescent_AdamMlpUpRefIdeal [hAdamMlpUpRefIdeal : Cert.AdamMlpUpRefIdeal.Facts] : Prop :=
  ∀ (m : (ℓ : Loc Cert.AdamMlpUpRefIdeal.nD Cert.AdamMlpUpRefIdeal.τ Cert.AdamMlpUpRefIdeal.sig) → Buf (Elt Ideal) ℓ) (g : Dev Cert.AdamMlpUpRefIdeal.nD → PrngReg), Pre_AdamMlpUpRefIdeal m →
    θ_run (Cert.AdamMlpUpRefIdeal.defs (F := Ideal)) (onTc (τ := Cert.AdamMlpUpRefIdeal.τ) (Cert.AdamMlpUpRefIdeal.main (F := Ideal))) ⟨m, fun _ => 0, g⟩ (fun r => (∀ c : Dev Cert.AdamMlpUpRefIdeal.nD,
      r.2.mem ((c.tc : Thread Cert.AdamMlpUpRefIdeal.nD Cert.AdamMlpUpRefIdeal.τ).loc Cert.AdamMlpUpRefIdeal.main_arg0) = m ((c.tc : Thread Cert.AdamMlpUpRefIdeal.nD Cert.AdamMlpUpRefIdeal.τ).loc Cert.AdamMlpUpRefIdeal.main_arg0)
      ∧ r.2.mem ((c.tc : Thread Cert.AdamMlpUpRefIdeal.nD Cert.AdamMlpUpRefIdeal.τ).loc Cert.AdamMlpUpRefIdeal.main_arg1) = m ((c.tc : Thread Cert.AdamMlpUpRefIdeal.nD Cert.AdamMlpUpRefIdeal.τ).loc Cert.AdamMlpUpRefIdeal.main_arg1)
      ∧ r.2.mem ((c.tc : Thread Cert.AdamMlpUpRefIdeal.nD Cert.AdamMlpUpRefIdeal.τ).loc Cert.AdamMlpUpRefIdeal.main_arg2) = m ((c.tc : Thread Cert.AdamMlpUpRefIdeal.nD Cert.AdamMlpUpRefIdeal.τ).loc Cert.AdamMlpUpRefIdeal.main_arg2)
      ∧ r.2.mem ((c.tc : Thread Cert.AdamMlpUpRefIdeal.nD Cert.AdamMlpUpRefIdeal.τ).loc Cert.AdamMlpUpRefIdeal.main_arg3) = m ((c.tc : Thread Cert.AdamMlpUpRefIdeal.nD Cert.AdamMlpUpRefIdeal.τ).loc Cert.AdamMlpUpRefIdeal.main_arg3)
      ∧ r.2.mem ((c.tc : Thread Cert.AdamMlpUpRefIdeal.nD Cert.AdamMlpUpRefIdeal.τ).loc Cert.AdamMlpUpRefIdeal.main_arg4) = m ((c.tc : Thread Cert.AdamMlpUpRefIdeal.nD Cert.AdamMlpUpRefIdeal.τ).loc Cert.AdamMlpUpRefIdeal.main_arg4)
      ∧ r.2.mem ((c.tc : Thread Cert.AdamMlpUpRefIdeal.nD Cert.AdamMlpUpRefIdeal.τ).loc Cert.AdamMlpUpRefIdeal.main_arg5) = m ((c.tc : Thread Cert.AdamMlpUpRefIdeal.nD Cert.AdamMlpUpRefIdeal.τ).loc Cert.AdamMlpUpRefIdeal.main_arg5))
      ∧ r.2.sem = fun _ => 0)

def quiescent_AdamMlpDown [hAdamMlpDown : Cert.AdamMlpDown.Facts] : Prop :=
  ∀ (m : (ℓ : Loc Cert.AdamMlpDown.nD Cert.AdamMlpDown.τ Cert.AdamMlpDown.sig) → Buf (Elt Bits) ℓ) (g : Dev Cert.AdamMlpDown.nD → PrngReg), Pre_AdamMlpDown m →
    θ_run (Cert.AdamMlpDown.defs (F := Bits)) (onTc (τ := Cert.AdamMlpDown.τ) (Cert.AdamMlpDown.main (F := Bits))) ⟨m, fun _ => 0, g⟩ (fun r => (∀ c : Dev Cert.AdamMlpDown.nD,
      r.2.mem ((c.tc : Thread Cert.AdamMlpDown.nD Cert.AdamMlpDown.τ).loc Cert.AdamMlpDown.main_arg0) = m ((c.tc : Thread Cert.AdamMlpDown.nD Cert.AdamMlpDown.τ).loc Cert.AdamMlpDown.main_arg0)
      ∧ r.2.mem ((c.tc : Thread Cert.AdamMlpDown.nD Cert.AdamMlpDown.τ).loc Cert.AdamMlpDown.main_arg1) = m ((c.tc : Thread Cert.AdamMlpDown.nD Cert.AdamMlpDown.τ).loc Cert.AdamMlpDown.main_arg1)
      ∧ r.2.mem ((c.tc : Thread Cert.AdamMlpDown.nD Cert.AdamMlpDown.τ).loc Cert.AdamMlpDown.main_arg2) = m ((c.tc : Thread Cert.AdamMlpDown.nD Cert.AdamMlpDown.τ).loc Cert.AdamMlpDown.main_arg2)
      ∧ r.2.mem ((c.tc : Thread Cert.AdamMlpDown.nD Cert.AdamMlpDown.τ).loc Cert.AdamMlpDown.main_arg3) = m ((c.tc : Thread Cert.AdamMlpDown.nD Cert.AdamMlpDown.τ).loc Cert.AdamMlpDown.main_arg3)
      ∧ r.2.mem ((c.tc : Thread Cert.AdamMlpDown.nD Cert.AdamMlpDown.τ).loc Cert.AdamMlpDown.main_arg4) = m ((c.tc : Thread Cert.AdamMlpDown.nD Cert.AdamMlpDown.τ).loc Cert.AdamMlpDown.main_arg4)
      ∧ r.2.mem ((c.tc : Thread Cert.AdamMlpDown.nD Cert.AdamMlpDown.τ).loc Cert.AdamMlpDown.main_arg5) = m ((c.tc : Thread Cert.AdamMlpDown.nD Cert.AdamMlpDown.τ).loc Cert.AdamMlpDown.main_arg5))
      ∧ r.2.sem = fun _ => 0)

def quiescent_AdamMlpDownIdeal [hAdamMlpDownIdeal : Cert.AdamMlpDownIdeal.Facts] : Prop :=
  ∀ (m : (ℓ : Loc Cert.AdamMlpDownIdeal.nD Cert.AdamMlpDownIdeal.τ Cert.AdamMlpDownIdeal.sig) → Buf (Elt Ideal) ℓ) (g : Dev Cert.AdamMlpDownIdeal.nD → PrngReg), Pre_AdamMlpDownIdeal m →
    θ_run (Cert.AdamMlpDownIdeal.defs (F := Ideal)) (onTc (τ := Cert.AdamMlpDownIdeal.τ) (Cert.AdamMlpDownIdeal.main (F := Ideal))) ⟨m, fun _ => 0, g⟩ (fun r => (∀ c : Dev Cert.AdamMlpDownIdeal.nD,
      r.2.mem ((c.tc : Thread Cert.AdamMlpDownIdeal.nD Cert.AdamMlpDownIdeal.τ).loc Cert.AdamMlpDownIdeal.main_arg0) = m ((c.tc : Thread Cert.AdamMlpDownIdeal.nD Cert.AdamMlpDownIdeal.τ).loc Cert.AdamMlpDownIdeal.main_arg0)
      ∧ r.2.mem ((c.tc : Thread Cert.AdamMlpDownIdeal.nD Cert.AdamMlpDownIdeal.τ).loc Cert.AdamMlpDownIdeal.main_arg1) = m ((c.tc : Thread Cert.AdamMlpDownIdeal.nD Cert.AdamMlpDownIdeal.τ).loc Cert.AdamMlpDownIdeal.main_arg1)
      ∧ r.2.mem ((c.tc : Thread Cert.AdamMlpDownIdeal.nD Cert.AdamMlpDownIdeal.τ).loc Cert.AdamMlpDownIdeal.main_arg2) = m ((c.tc : Thread Cert.AdamMlpDownIdeal.nD Cert.AdamMlpDownIdeal.τ).loc Cert.AdamMlpDownIdeal.main_arg2)
      ∧ r.2.mem ((c.tc : Thread Cert.AdamMlpDownIdeal.nD Cert.AdamMlpDownIdeal.τ).loc Cert.AdamMlpDownIdeal.main_arg3) = m ((c.tc : Thread Cert.AdamMlpDownIdeal.nD Cert.AdamMlpDownIdeal.τ).loc Cert.AdamMlpDownIdeal.main_arg3)
      ∧ r.2.mem ((c.tc : Thread Cert.AdamMlpDownIdeal.nD Cert.AdamMlpDownIdeal.τ).loc Cert.AdamMlpDownIdeal.main_arg4) = m ((c.tc : Thread Cert.AdamMlpDownIdeal.nD Cert.AdamMlpDownIdeal.τ).loc Cert.AdamMlpDownIdeal.main_arg4)
      ∧ r.2.mem ((c.tc : Thread Cert.AdamMlpDownIdeal.nD Cert.AdamMlpDownIdeal.τ).loc Cert.AdamMlpDownIdeal.main_arg5) = m ((c.tc : Thread Cert.AdamMlpDownIdeal.nD Cert.AdamMlpDownIdeal.τ).loc Cert.AdamMlpDownIdeal.main_arg5))
      ∧ r.2.sem = fun _ => 0)

def quiescent_AdamMlpDownRefIdeal [hAdamMlpDownRefIdeal : Cert.AdamMlpDownRefIdeal.Facts] : Prop :=
  ∀ (m : (ℓ : Loc Cert.AdamMlpDownRefIdeal.nD Cert.AdamMlpDownRefIdeal.τ Cert.AdamMlpDownRefIdeal.sig) → Buf (Elt Ideal) ℓ) (g : Dev Cert.AdamMlpDownRefIdeal.nD → PrngReg), Pre_AdamMlpDownRefIdeal m →
    θ_run (Cert.AdamMlpDownRefIdeal.defs (F := Ideal)) (onTc (τ := Cert.AdamMlpDownRefIdeal.τ) (Cert.AdamMlpDownRefIdeal.main (F := Ideal))) ⟨m, fun _ => 0, g⟩ (fun r => (∀ c : Dev Cert.AdamMlpDownRefIdeal.nD,
      r.2.mem ((c.tc : Thread Cert.AdamMlpDownRefIdeal.nD Cert.AdamMlpDownRefIdeal.τ).loc Cert.AdamMlpDownRefIdeal.main_arg0) = m ((c.tc : Thread Cert.AdamMlpDownRefIdeal.nD Cert.AdamMlpDownRefIdeal.τ).loc Cert.AdamMlpDownRefIdeal.main_arg0)
      ∧ r.2.mem ((c.tc : Thread Cert.AdamMlpDownRefIdeal.nD Cert.AdamMlpDownRefIdeal.τ).loc Cert.AdamMlpDownRefIdeal.main_arg1) = m ((c.tc : Thread Cert.AdamMlpDownRefIdeal.nD Cert.AdamMlpDownRefIdeal.τ).loc Cert.AdamMlpDownRefIdeal.main_arg1)
      ∧ r.2.mem ((c.tc : Thread Cert.AdamMlpDownRefIdeal.nD Cert.AdamMlpDownRefIdeal.τ).loc Cert.AdamMlpDownRefIdeal.main_arg2) = m ((c.tc : Thread Cert.AdamMlpDownRefIdeal.nD Cert.AdamMlpDownRefIdeal.τ).loc Cert.AdamMlpDownRefIdeal.main_arg2)
      ∧ r.2.mem ((c.tc : Thread Cert.AdamMlpDownRefIdeal.nD Cert.AdamMlpDownRefIdeal.τ).loc Cert.AdamMlpDownRefIdeal.main_arg3) = m ((c.tc : Thread Cert.AdamMlpDownRefIdeal.nD Cert.AdamMlpDownRefIdeal.τ).loc Cert.AdamMlpDownRefIdeal.main_arg3)
      ∧ r.2.mem ((c.tc : Thread Cert.AdamMlpDownRefIdeal.nD Cert.AdamMlpDownRefIdeal.τ).loc Cert.AdamMlpDownRefIdeal.main_arg4) = m ((c.tc : Thread Cert.AdamMlpDownRefIdeal.nD Cert.AdamMlpDownRefIdeal.τ).loc Cert.AdamMlpDownRefIdeal.main_arg4)
      ∧ r.2.mem ((c.tc : Thread Cert.AdamMlpDownRefIdeal.nD Cert.AdamMlpDownRefIdeal.τ).loc Cert.AdamMlpDownRefIdeal.main_arg5) = m ((c.tc : Thread Cert.AdamMlpDownRefIdeal.nD Cert.AdamMlpDownRefIdeal.τ).loc Cert.AdamMlpDownRefIdeal.main_arg5))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_SumIn [hSumIn : Cert.SumIn.Facts] [hPre_place_in : Cert.Pre_place_in.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2))
      ∧ r.2.sem = fun _ => 0)

def quiescent_SumInIdeal [hSumInIdeal : Cert.SumInIdeal.Facts] [hPre_place_in : Cert.Pre_place_in.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_SumInRefIdeal_pre_place_in [hSumInRefIdeal : Cert.SumInRefIdeal.Facts] [hPre_place_in : Cert.Pre_place_in.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal_place_in m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_SumUp [hSumUp : Cert.SumUp.Facts] [hPre_place_up : Cert.Pre_place_up.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1)
      ∧ r.2.mem ((c.tc : Thread Cert.SumUp.nD Cert.SumUp.τ).loc Cert.SumUp.main_arg2) = m ((c.tc : Thread Cert.SumUp.nD Cert.SumUp.τ).loc Cert.SumUp.main_arg2))
      ∧ r.2.sem = fun _ => 0)

def quiescent_SumUpIdeal [hSumUpIdeal : Cert.SumUpIdeal.Facts] [hPre_place_up : Cert.Pre_place_up.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
      ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1)
      ∧ r.2.mem ((c.tc : Thread Cert.SumUpRefIdeal.nD Cert.SumUpRefIdeal.τ).loc Cert.SumUpRefIdeal.main_arg2) = m ((c.tc : Thread Cert.SumUpRefIdeal.nD Cert.SumUpRefIdeal.τ).loc Cert.SumUpRefIdeal.main_arg2))
      ∧ r.2.sem = fun _ => 0)

def quiescent_SumUpRefIdeal_pre_place_up [hSumUpRefIdeal : Cert.SumUpRefIdeal.Facts] [hPre_place_up : Cert.Pre_place_up.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal_place_up m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1)
      ∧ r.2.mem ((c.tc : Thread Cert.SumUpRefIdeal.nD Cert.SumUpRefIdeal.τ).loc Cert.SumUpRefIdeal.main_arg2) = m ((c.tc : Thread Cert.SumUpRefIdeal.nD Cert.SumUpRefIdeal.τ).loc Cert.SumUpRefIdeal.main_arg2))
      ∧ r.2.sem = fun _ => 0)

def quiescent_SumOut [hSumOut : Cert.SumOut.Facts] [hPre_place_out : Cert.Pre_place_out.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2))
      ∧ r.2.sem = fun _ => 0)

def quiescent_SumOutIdeal [hSumOutIdeal : Cert.SumOutIdeal.Facts] [hPre_place_out : Cert.Pre_place_out.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2))
      ∧ r.2.sem = fun _ => 0)

def quiescent_SumOutRefIdeal_pre_place_out [hSumOutRefIdeal : Cert.SumOutRefIdeal.Facts] [hPre_place_out : Cert.Pre_place_out.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal_place_out m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2))
      ∧ r.2.sem = fun _ => 0)

def quiescent_SumMlp [hSumMlp : Cert.SumMlp.Facts] [hPre_place_mlp : Cert.Pre_place_mlp.Facts] : Prop :=
  ∀ (m : (ℓ : Loc Cert.SumMlp.nD Cert.SumMlp.τ Cert.SumMlp.sig) → Buf (Elt Bits) ℓ) (g : Dev Cert.SumMlp.nD → PrngReg), Pre_SumMlp m →
    θ_run (Cert.SumMlp.defs (F := Bits)) (onTc (τ := Cert.SumMlp.τ) (Cert.SumMlp.main (F := Bits))) ⟨m, fun _ => 0, g⟩ (fun r => (∀ c : Dev Cert.SumMlp.nD,
      r.2.mem ((c.tc : Thread Cert.SumMlp.nD Cert.SumMlp.τ).loc Cert.SumMlp.main_arg0) = m ((c.tc : Thread Cert.SumMlp.nD Cert.SumMlp.τ).loc Cert.SumMlp.main_arg0)
      ∧ r.2.mem ((c.tc : Thread Cert.SumMlp.nD Cert.SumMlp.τ).loc Cert.SumMlp.main_arg1) = m ((c.tc : Thread Cert.SumMlp.nD Cert.SumMlp.τ).loc Cert.SumMlp.main_arg1)
      ∧ r.2.mem ((c.tc : Thread Cert.SumMlp.nD Cert.SumMlp.τ).loc Cert.SumMlp.main_arg2) = m ((c.tc : Thread Cert.SumMlp.nD Cert.SumMlp.τ).loc Cert.SumMlp.main_arg2))
      ∧ r.2.sem = fun _ => 0)

def quiescent_SumMlpIdeal [hSumMlpIdeal : Cert.SumMlpIdeal.Facts] [hPre_place_mlp : Cert.Pre_place_mlp.Facts] : Prop :=
  ∀ (m : (ℓ : Loc Cert.SumMlpIdeal.nD Cert.SumMlpIdeal.τ Cert.SumMlpIdeal.sig) → Buf (Elt Ideal) ℓ) (g : Dev Cert.SumMlpIdeal.nD → PrngReg), Pre_SumMlpIdeal m →
    θ_run (Cert.SumMlpIdeal.defs (F := Ideal)) (onTc (τ := Cert.SumMlpIdeal.τ) (Cert.SumMlpIdeal.main (F := Ideal))) ⟨m, fun _ => 0, g⟩ (fun r => (∀ c : Dev Cert.SumMlpIdeal.nD,
      r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
      ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1)
      ∧ r.2.mem ((c.tc : Thread Cert.SumMlpIdeal.nD Cert.SumMlpIdeal.τ).loc Cert.SumMlpIdeal.main_arg2) = m ((c.tc : Thread Cert.SumMlpIdeal.nD Cert.SumMlpIdeal.τ).loc Cert.SumMlpIdeal.main_arg2))
      ∧ r.2.sem = fun _ => 0)

def quiescent_SumMlpRefIdeal [hSumMlpRefIdeal : Cert.SumMlpRefIdeal.Facts] : Prop :=
  ∀ (m : (ℓ : Loc Cert.SumMlpRefIdeal.nD Cert.SumMlpRefIdeal.τ Cert.SumMlpRefIdeal.sig) → Buf (Elt Ideal) ℓ) (g : Dev Cert.SumMlpRefIdeal.nD → PrngReg), Pre_SumMlpRefIdeal m →
    θ_run (Cert.SumMlpRefIdeal.defs (F := Ideal)) (onTc (τ := Cert.SumMlpRefIdeal.τ) (Cert.SumMlpRefIdeal.main (F := Ideal))) ⟨m, fun _ => 0, g⟩ (fun r => (∀ c : Dev Cert.SumMlpRefIdeal.nD,
      r.2.mem ((c.tc : Thread Cert.SumMlpRefIdeal.nD Cert.SumMlpRefIdeal.τ).loc Cert.SumMlpRefIdeal.main_arg0) = m ((c.tc : Thread Cert.SumMlpRefIdeal.nD Cert.SumMlpRefIdeal.τ).loc Cert.SumMlpRefIdeal.main_arg0)
      ∧ r.2.mem ((c.tc : Thread Cert.SumMlpRefIdeal.nD Cert.SumMlpRefIdeal.τ).loc Cert.SumMlpRefIdeal.main_arg1) = m ((c.tc : Thread Cert.SumMlpRefIdeal.nD Cert.SumMlpRefIdeal.τ).loc Cert.SumMlpRefIdeal.main_arg1)
      ∧ r.2.mem ((c.tc : Thread Cert.SumMlpRefIdeal.nD Cert.SumMlpRefIdeal.τ).loc Cert.SumMlpRefIdeal.main_arg2) = m ((c.tc : Thread Cert.SumMlpRefIdeal.nD Cert.SumMlpRefIdeal.τ).loc Cert.SumMlpRefIdeal.main_arg2))
      ∧ r.2.sem = fun _ => 0)

def quiescent_SumMlpRefIdeal_pre_place_mlp [hSumMlpRefIdeal : Cert.SumMlpRefIdeal.Facts] [hPre_place_mlp : Cert.Pre_place_mlp.Facts] : Prop :=
  ∀ (m : (ℓ : Loc Cert.SumMlpRefIdeal.nD Cert.SumMlpRefIdeal.τ Cert.SumMlpRefIdeal.sig) → Buf (Elt Ideal) ℓ) (g : Dev Cert.SumMlpRefIdeal.nD → PrngReg), Pre_SumMlpRefIdeal_place_mlp m →
    θ_run (Cert.SumMlpRefIdeal.defs (F := Ideal)) (onTc (τ := Cert.SumMlpRefIdeal.τ) (Cert.SumMlpRefIdeal.main (F := Ideal))) ⟨m, fun _ => 0, g⟩ (fun r => (∀ c : Dev Cert.SumMlpRefIdeal.nD,
      r.2.mem ((c.tc : Thread Cert.SumMlpRefIdeal.nD Cert.SumMlpRefIdeal.τ).loc Cert.SumMlpRefIdeal.main_arg0) = m ((c.tc : Thread Cert.SumMlpRefIdeal.nD Cert.SumMlpRefIdeal.τ).loc Cert.SumMlpRefIdeal.main_arg0)
      ∧ r.2.mem ((c.tc : Thread Cert.SumMlpRefIdeal.nD Cert.SumMlpRefIdeal.τ).loc Cert.SumMlpRefIdeal.main_arg1) = m ((c.tc : Thread Cert.SumMlpRefIdeal.nD Cert.SumMlpRefIdeal.τ).loc Cert.SumMlpRefIdeal.main_arg1)
      ∧ r.2.mem ((c.tc : Thread Cert.SumMlpRefIdeal.nD Cert.SumMlpRefIdeal.τ).loc Cert.SumMlpRefIdeal.main_arg2) = m ((c.tc : Thread Cert.SumMlpRefIdeal.nD Cert.SumMlpRefIdeal.τ).loc Cert.SumMlpRefIdeal.main_arg2))
      ∧ r.2.sem = fun _ => 0)

def quiescent_AddIn [hAddIn : Cert.AddIn.Facts] [hPre_core_in : Cert.Pre_core_in.Facts] : Prop :=
  ∀ (m : (ℓ : Loc Cert.AddIn.nD Cert.AddIn.τ Cert.AddIn.sig) → Buf (Elt Bits) ℓ) (g : Dev Cert.AddIn.nD → PrngReg), Pre_AddIn m →
    θ_run (Cert.AddIn.defs (F := Bits)) (onTc (τ := Cert.AddIn.τ) (Cert.AddIn.main (F := Bits))) ⟨m, fun _ => 0, g⟩ (fun r => (∀ c : Dev Cert.AddIn.nD,
      r.2.mem ((c.tc : Thread Cert.AddIn.nD Cert.AddIn.τ).loc Cert.AddIn.main_arg0) = m ((c.tc : Thread Cert.AddIn.nD Cert.AddIn.τ).loc Cert.AddIn.main_arg0)
      ∧ r.2.mem ((c.tc : Thread Cert.AddIn.nD Cert.AddIn.τ).loc Cert.AddIn.main_arg1) = m ((c.tc : Thread Cert.AddIn.nD Cert.AddIn.τ).loc Cert.AddIn.main_arg1)
      ∧ r.2.mem ((c.tc : Thread Cert.AddIn.nD Cert.AddIn.τ).loc Cert.AddIn.main_arg2) = m ((c.tc : Thread Cert.AddIn.nD Cert.AddIn.τ).loc Cert.AddIn.main_arg2))
      ∧ r.2.sem = fun _ => 0)

def quiescent_AddInIdeal [hAddInIdeal : Cert.AddInIdeal.Facts] [hPre_core_in : Cert.Pre_core_in.Facts] : Prop :=
  ∀ (m : (ℓ : Loc Cert.AddInIdeal.nD Cert.AddInIdeal.τ Cert.AddInIdeal.sig) → Buf (Elt Ideal) ℓ) (g : Dev Cert.AddInIdeal.nD → PrngReg), Pre_AddInIdeal m →
    θ_run (Cert.AddInIdeal.defs (F := Ideal)) (onTc (τ := Cert.AddInIdeal.τ) (Cert.AddInIdeal.main (F := Ideal))) ⟨m, fun _ => 0, g⟩ (fun r => (∀ c : Dev Cert.AddInIdeal.nD,
      r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
      ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
      ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ r.2.sem = fun _ => 0)

def quiescent_AddInRefIdeal [hAddInRefIdeal : Cert.AddInRefIdeal.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddInRefIdeal_pre_core_in [hAddInRefIdeal : Cert.AddInRefIdeal.Facts] [hPre_core_in : Cert.Pre_core_in.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal_core_in m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddUp [hAddUp : Cert.AddUp.Facts] [hPre_core_up : Cert.Pre_core_up.Facts] : Prop :=
  ∀ (m : (ℓ : Loc Cert.AddUp.nD Cert.AddUp.τ Cert.AddUp.sig) → Buf (Elt Bits) ℓ) (g : Dev Cert.AddUp.nD → PrngReg), Pre_AddUp m →
    θ_run (Cert.AddUp.defs (F := Bits)) (onTc (τ := Cert.AddUp.τ) (Cert.AddUp.main (F := Bits))) ⟨m, fun _ => 0, g⟩ (fun r => (∀ c : Dev Cert.AddUp.nD,
      r.2.mem ((c.tc : Thread Cert.AddUp.nD Cert.AddUp.τ).loc Cert.AddUp.main_arg0) = m ((c.tc : Thread Cert.AddUp.nD Cert.AddUp.τ).loc Cert.AddUp.main_arg0)
      ∧ r.2.mem ((c.tc : Thread Cert.AddUp.nD Cert.AddUp.τ).loc Cert.AddUp.main_arg1) = m ((c.tc : Thread Cert.AddUp.nD Cert.AddUp.τ).loc Cert.AddUp.main_arg1)
      ∧ r.2.mem ((c.tc : Thread Cert.AddUp.nD Cert.AddUp.τ).loc Cert.AddUp.main_arg2) = m ((c.tc : Thread Cert.AddUp.nD Cert.AddUp.τ).loc Cert.AddUp.main_arg2))
      ∧ r.2.sem = fun _ => 0)

def quiescent_AddUpIdeal [hAddUpIdeal : Cert.AddUpIdeal.Facts] [hPre_core_up : Cert.Pre_core_up.Facts] : Prop :=
  ∀ (m : (ℓ : Loc Cert.AddUpIdeal.nD Cert.AddUpIdeal.τ Cert.AddUpIdeal.sig) → Buf (Elt Ideal) ℓ) (g : Dev Cert.AddUpIdeal.nD → PrngReg), Pre_AddUpIdeal m →
    θ_run (Cert.AddUpIdeal.defs (F := Ideal)) (onTc (τ := Cert.AddUpIdeal.τ) (Cert.AddUpIdeal.main (F := Ideal))) ⟨m, fun _ => 0, g⟩ (fun r => (∀ c : Dev Cert.AddUpIdeal.nD,
      r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
      ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
      ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ r.2.sem = fun _ => 0)

def quiescent_AddUpRefIdeal [hAddUpRefIdeal : Cert.AddUpRefIdeal.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddUpRefIdeal_pre_core_up [hAddUpRefIdeal : Cert.AddUpRefIdeal.Facts] [hPre_core_up : Cert.Pre_core_up.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal_core_up m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddOut [hAddOut : Cert.AddOut.Facts] [hPre_core_out : Cert.Pre_core_out.Facts] : Prop :=
  ∀ (m : (ℓ : Loc Cert.AddOut.nD Cert.AddOut.τ Cert.AddOut.sig) → Buf (Elt Bits) ℓ) (g : Dev Cert.AddOut.nD → PrngReg), Pre_AddOut m →
    θ_run (Cert.AddOut.defs (F := Bits)) (onTc (τ := Cert.AddOut.τ) (Cert.AddOut.main (F := Bits))) ⟨m, fun _ => 0, g⟩ (fun r => (∀ c : Dev Cert.AddOut.nD,
      r.2.mem ((c.tc : Thread Cert.AddOut.nD Cert.AddOut.τ).loc Cert.AddOut.main_arg0) = m ((c.tc : Thread Cert.AddOut.nD Cert.AddOut.τ).loc Cert.AddOut.main_arg0)
      ∧ r.2.mem ((c.tc : Thread Cert.AddOut.nD Cert.AddOut.τ).loc Cert.AddOut.main_arg1) = m ((c.tc : Thread Cert.AddOut.nD Cert.AddOut.τ).loc Cert.AddOut.main_arg1)
      ∧ r.2.mem ((c.tc : Thread Cert.AddOut.nD Cert.AddOut.τ).loc Cert.AddOut.main_arg2) = m ((c.tc : Thread Cert.AddOut.nD Cert.AddOut.τ).loc Cert.AddOut.main_arg2))
      ∧ r.2.sem = fun _ => 0)

def quiescent_AddOutIdeal [hAddOutIdeal : Cert.AddOutIdeal.Facts] [hPre_core_out : Cert.Pre_core_out.Facts] : Prop :=
  ∀ (m : (ℓ : Loc Cert.AddOutIdeal.nD Cert.AddOutIdeal.τ Cert.AddOutIdeal.sig) → Buf (Elt Ideal) ℓ) (g : Dev Cert.AddOutIdeal.nD → PrngReg), Pre_AddOutIdeal m →
    θ_run (Cert.AddOutIdeal.defs (F := Ideal)) (onTc (τ := Cert.AddOutIdeal.τ) (Cert.AddOutIdeal.main (F := Ideal))) ⟨m, fun _ => 0, g⟩ (fun r => (∀ c : Dev Cert.AddOutIdeal.nD,
      r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
      ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
      ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ r.2.sem = fun _ => 0)

def quiescent_AddOutRefIdeal [hAddOutRefIdeal : Cert.AddOutRefIdeal.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddOutRefIdeal_pre_core_out [hAddOutRefIdeal : Cert.AddOutRefIdeal.Facts] [hPre_core_out : Cert.Pre_core_out.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal_core_out m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddMlp [hAddMlp : Cert.AddMlp.Facts] [hPre_core_mlp : Cert.Pre_core_mlp.Facts] : Prop :=
  ∀ (m : (ℓ : Loc Cert.AddMlp.nD Cert.AddMlp.τ Cert.AddMlp.sig) → Buf (Elt Bits) ℓ) (g : Dev Cert.AddMlp.nD → PrngReg), Pre_AddMlp m →
    θ_run (Cert.AddMlp.defs (F := Bits)) (onTc (τ := Cert.AddMlp.τ) (Cert.AddMlp.main (F := Bits))) ⟨m, fun _ => 0, g⟩ (fun r => (∀ c : Dev Cert.AddMlp.nD,
      r.2.mem ((c.tc : Thread Cert.AddMlp.nD Cert.AddMlp.τ).loc Cert.AddMlp.main_arg0) = m ((c.tc : Thread Cert.AddMlp.nD Cert.AddMlp.τ).loc Cert.AddMlp.main_arg0)
      ∧ r.2.mem ((c.tc : Thread Cert.AddMlp.nD Cert.AddMlp.τ).loc Cert.AddMlp.main_arg1) = m ((c.tc : Thread Cert.AddMlp.nD Cert.AddMlp.τ).loc Cert.AddMlp.main_arg1)
      ∧ r.2.mem ((c.tc : Thread Cert.AddMlp.nD Cert.AddMlp.τ).loc Cert.AddMlp.main_arg2) = m ((c.tc : Thread Cert.AddMlp.nD Cert.AddMlp.τ).loc Cert.AddMlp.main_arg2))
      ∧ r.2.sem = fun _ => 0)

def quiescent_AddMlpIdeal [hAddMlpIdeal : Cert.AddMlpIdeal.Facts] [hPre_core_mlp : Cert.Pre_core_mlp.Facts] : Prop :=
  ∀ (m : (ℓ : Loc Cert.AddMlpIdeal.nD Cert.AddMlpIdeal.τ Cert.AddMlpIdeal.sig) → Buf (Elt Ideal) ℓ) (g : Dev Cert.AddMlpIdeal.nD → PrngReg), Pre_AddMlpIdeal m →
    θ_run (Cert.AddMlpIdeal.defs (F := Ideal)) (onTc (τ := Cert.AddMlpIdeal.τ) (Cert.AddMlpIdeal.main (F := Ideal))) ⟨m, fun _ => 0, g⟩ (fun r => (∀ c : Dev Cert.AddMlpIdeal.nD,
      r.2.mem ((c.tc : Thread Cert.AddMlpIdeal.nD Cert.AddMlpIdeal.τ).loc Cert.AddMlpIdeal.main_arg0) = m ((c.tc : Thread Cert.AddMlpIdeal.nD Cert.AddMlpIdeal.τ).loc Cert.AddMlpIdeal.main_arg0)
      ∧ r.2.mem ((c.tc : Thread Cert.AddMlpIdeal.nD Cert.AddMlpIdeal.τ).loc Cert.AddMlpIdeal.main_arg1) = m ((c.tc : Thread Cert.AddMlpIdeal.nD Cert.AddMlpIdeal.τ).loc Cert.AddMlpIdeal.main_arg1)
      ∧ r.2.mem ((c.tc : Thread Cert.AddMlpIdeal.nD Cert.AddMlpIdeal.τ).loc Cert.AddMlpIdeal.main_arg2) = m ((c.tc : Thread Cert.AddMlpIdeal.nD Cert.AddMlpIdeal.τ).loc Cert.AddMlpIdeal.main_arg2))
      ∧ r.2.sem = fun _ => 0)

def quiescent_AddMlpRefIdeal [hAddMlpRefIdeal : Cert.AddMlpRefIdeal.Facts] : Prop :=
  ∀ (m : (ℓ : Loc Cert.AddMlpRefIdeal.nD Cert.AddMlpRefIdeal.τ Cert.AddMlpRefIdeal.sig) → Buf (Elt Ideal) ℓ) (g : Dev Cert.AddMlpRefIdeal.nD → PrngReg), Pre_AddMlpRefIdeal m →
    θ_run (Cert.AddMlpRefIdeal.defs (F := Ideal)) (onTc (τ := Cert.AddMlpRefIdeal.τ) (Cert.AddMlpRefIdeal.main (F := Ideal))) ⟨m, fun _ => 0, g⟩ (fun r => (∀ c : Dev Cert.AddMlpRefIdeal.nD,
      r.2.mem ((c.tc : Thread Cert.AddMlpRefIdeal.nD Cert.AddMlpRefIdeal.τ).loc Cert.AddMlpRefIdeal.main_arg0) = m ((c.tc : Thread Cert.AddMlpRefIdeal.nD Cert.AddMlpRefIdeal.τ).loc Cert.AddMlpRefIdeal.main_arg0)
      ∧ r.2.mem ((c.tc : Thread Cert.AddMlpRefIdeal.nD Cert.AddMlpRefIdeal.τ).loc Cert.AddMlpRefIdeal.main_arg1) = m ((c.tc : Thread Cert.AddMlpRefIdeal.nD Cert.AddMlpRefIdeal.τ).loc Cert.AddMlpRefIdeal.main_arg1)
      ∧ r.2.mem ((c.tc : Thread Cert.AddMlpRefIdeal.nD Cert.AddMlpRefIdeal.τ).loc Cert.AddMlpRefIdeal.main_arg2) = m ((c.tc : Thread Cert.AddMlpRefIdeal.nD Cert.AddMlpRefIdeal.τ).loc Cert.AddMlpRefIdeal.main_arg2))
      ∧ r.2.sem = fun _ => 0)

def quiescent_AddMlpRefIdeal_pre_core_mlp [hAddMlpRefIdeal : Cert.AddMlpRefIdeal.Facts] [hPre_core_mlp : Cert.Pre_core_mlp.Facts] : Prop :=
  ∀ (m : (ℓ : Loc Cert.AddMlpRefIdeal.nD Cert.AddMlpRefIdeal.τ Cert.AddMlpRefIdeal.sig) → Buf (Elt Ideal) ℓ) (g : Dev Cert.AddMlpRefIdeal.nD → PrngReg), Pre_AddMlpRefIdeal_core_mlp m →
    θ_run (Cert.AddMlpRefIdeal.defs (F := Ideal)) (onTc (τ := Cert.AddMlpRefIdeal.τ) (Cert.AddMlpRefIdeal.main (F := Ideal))) ⟨m, fun _ => 0, g⟩ (fun r => (∀ c : Dev Cert.AddMlpRefIdeal.nD,
      r.2.mem ((c.tc : Thread Cert.AddMlpRefIdeal.nD Cert.AddMlpRefIdeal.τ).loc Cert.AddMlpRefIdeal.main_arg0) = m ((c.tc : Thread Cert.AddMlpRefIdeal.nD Cert.AddMlpRefIdeal.τ).loc Cert.AddMlpRefIdeal.main_arg0)
      ∧ r.2.mem ((c.tc : Thread Cert.AddMlpRefIdeal.nD Cert.AddMlpRefIdeal.τ).loc Cert.AddMlpRefIdeal.main_arg1) = m ((c.tc : Thread Cert.AddMlpRefIdeal.nD Cert.AddMlpRefIdeal.τ).loc Cert.AddMlpRefIdeal.main_arg1)
      ∧ r.2.mem ((c.tc : Thread Cert.AddMlpRefIdeal.nD Cert.AddMlpRefIdeal.τ).loc Cert.AddMlpRefIdeal.main_arg2) = m ((c.tc : Thread Cert.AddMlpRefIdeal.nD Cert.AddMlpRefIdeal.τ).loc Cert.AddMlpRefIdeal.main_arg2))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3))
      ∧ r.2.sem = fun _ => 0)

def quiescent_PremixRefIdeal [hPremixRefIdeal : Cert.PremixRefIdeal.Facts] : Prop :=
  ∀ (m : (ℓ : Loc Cert.PremixRefIdeal.nD Cert.PremixRefIdeal.τ Cert.PremixRefIdeal.sig) → Buf (Elt Ideal) ℓ) (g : Dev Cert.PremixRefIdeal.nD → PrngReg), Pre_PremixRefIdeal m →
    θ_run (Cert.PremixRefIdeal.defs (F := Ideal)) (onTc (τ := Cert.PremixRefIdeal.τ) (Cert.PremixRefIdeal.main (F := Ideal))) ⟨m, fun _ => 0, g⟩ (fun r => (∀ c : Dev Cert.PremixRefIdeal.nD,
      r.2.mem ((c.tc : Thread Cert.PremixRefIdeal.nD Cert.PremixRefIdeal.τ).loc Cert.PremixRefIdeal.main_arg0) = m ((c.tc : Thread Cert.PremixRefIdeal.nD Cert.PremixRefIdeal.τ).loc Cert.PremixRefIdeal.main_arg0)
      ∧ r.2.mem ((c.tc : Thread Cert.PremixRefIdeal.nD Cert.PremixRefIdeal.τ).loc Cert.PremixRefIdeal.main_arg1) = m ((c.tc : Thread Cert.PremixRefIdeal.nD Cert.PremixRefIdeal.τ).loc Cert.PremixRefIdeal.main_arg1)
      ∧ r.2.mem ((c.tc : Thread Cert.PremixRefIdeal.nD Cert.PremixRefIdeal.τ).loc Cert.PremixRefIdeal.main_arg2) = m ((c.tc : Thread Cert.PremixRefIdeal.nD Cert.PremixRefIdeal.τ).loc Cert.PremixRefIdeal.main_arg2)
      ∧ r.2.mem ((c.tc : Thread Cert.PremixRefIdeal.nD Cert.PremixRefIdeal.τ).loc Cert.PremixRefIdeal.main_arg3) = m ((c.tc : Thread Cert.PremixRefIdeal.nD Cert.PremixRefIdeal.τ).loc Cert.PremixRefIdeal.main_arg3))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1)
      ∧ r.2.mem ((c.tc : Thread Cert.Merged.nD Cert.Merged.τ).loc Cert.Merged.main_arg2) = m ((c.tc : Thread Cert.Merged.nD Cert.Merged.τ).loc Cert.Merged.main_arg2))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1)
      ∧ r.2.mem ((c.tc : Thread Cert.MergedRefIdeal.nD Cert.MergedRefIdeal.τ).loc Cert.MergedRefIdeal.main_arg2) = m ((c.tc : Thread Cert.MergedRefIdeal.nD Cert.MergedRefIdeal.τ).loc Cert.MergedRefIdeal.main_arg2))
      ∧ r.2.sem = fun _ => 0)

def quiescent_Postmix [hPostmix : Cert.Postmix.Facts] : Prop :=
  ∀ (m : (ℓ : Loc Cert.Postmix.nD Cert.Postmix.τ Cert.Postmix.sig) → Buf (Elt Bits) ℓ) (g : Dev Cert.Postmix.nD → PrngReg), Pre_Postmix m →
    θ_run (Cert.Postmix.defs (F := Bits)) (onTc (τ := Cert.Postmix.τ) (Cert.Postmix.main (F := Bits))) ⟨m, fun _ => 0, g⟩ (fun r => (∀ c : Dev Cert.Postmix.nD,
      r.2.mem ((c.tc : Thread Cert.Postmix.nD Cert.Postmix.τ).loc Cert.Postmix.main_arg0) = m ((c.tc : Thread Cert.Postmix.nD Cert.Postmix.τ).loc Cert.Postmix.main_arg0)
      ∧ r.2.mem ((c.tc : Thread Cert.Postmix.nD Cert.Postmix.τ).loc Cert.Postmix.main_arg1) = m ((c.tc : Thread Cert.Postmix.nD Cert.Postmix.τ).loc Cert.Postmix.main_arg1)
      ∧ r.2.mem ((c.tc : Thread Cert.Postmix.nD Cert.Postmix.τ).loc Cert.Postmix.main_arg2) = m ((c.tc : Thread Cert.Postmix.nD Cert.Postmix.τ).loc Cert.Postmix.main_arg2)
      ∧ r.2.mem ((c.tc : Thread Cert.Postmix.nD Cert.Postmix.τ).loc Cert.Postmix.main_arg3) = m ((c.tc : Thread Cert.Postmix.nD Cert.Postmix.τ).loc Cert.Postmix.main_arg3)
      ∧ r.2.mem ((c.tc : Thread Cert.Postmix.nD Cert.Postmix.τ).loc Cert.Postmix.main_arg4) = m ((c.tc : Thread Cert.Postmix.nD Cert.Postmix.τ).loc Cert.Postmix.main_arg4)
      ∧ r.2.mem ((c.tc : Thread Cert.Postmix.nD Cert.Postmix.τ).loc Cert.Postmix.main_arg5) = m ((c.tc : Thread Cert.Postmix.nD Cert.Postmix.τ).loc Cert.Postmix.main_arg5)
      ∧ r.2.mem ((c.tc : Thread Cert.Postmix.nD Cert.Postmix.τ).loc Cert.Postmix.main_arg6) = m ((c.tc : Thread Cert.Postmix.nD Cert.Postmix.τ).loc Cert.Postmix.main_arg6)
      ∧ r.2.mem ((c.tc : Thread Cert.Postmix.nD Cert.Postmix.τ).loc Cert.Postmix.main_arg7) = m ((c.tc : Thread Cert.Postmix.nD Cert.Postmix.τ).loc Cert.Postmix.main_arg7))
      ∧ r.2.sem = fun _ => 0)

def quiescent_PostmixIdeal [hPostmixIdeal : Cert.PostmixIdeal.Facts] : Prop :=
  ∀ (m : (ℓ : Loc Cert.PostmixIdeal.nD Cert.PostmixIdeal.τ Cert.PostmixIdeal.sig) → Buf (Elt Ideal) ℓ) (g : Dev Cert.PostmixIdeal.nD → PrngReg), Pre_PostmixIdeal m →
    θ_run (Cert.PostmixIdeal.defs (F := Ideal)) (onTc (τ := Cert.PostmixIdeal.τ) (Cert.PostmixIdeal.main (F := Ideal))) ⟨m, fun _ => 0, g⟩ (fun r => (∀ c : Dev Cert.PostmixIdeal.nD,
      r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
      ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
      ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
      ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
      ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
      ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
      ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
      ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7))
      ∧ r.2.sem = fun _ => 0)

def quiescent_PostmixRefIdeal [hPostmixRefIdeal : Cert.PostmixRefIdeal.Facts] : Prop :=
  ∀ (m : (ℓ : Loc Cert.PostmixRefIdeal.nD Cert.PostmixRefIdeal.τ Cert.PostmixRefIdeal.sig) → Buf (Elt Ideal) ℓ) (g : Dev Cert.PostmixRefIdeal.nD → PrngReg), Pre_PostmixRefIdeal m →
    θ_run (Cert.PostmixRefIdeal.defs (F := Ideal)) (onTc (τ := Cert.PostmixRefIdeal.τ) (Cert.PostmixRefIdeal.main (F := Ideal))) ⟨m, fun _ => 0, g⟩ (fun r => (∀ c : Dev Cert.PostmixRefIdeal.nD,
      r.2.mem ((c.tc : Thread Cert.PostmixRefIdeal.nD Cert.PostmixRefIdeal.τ).loc Cert.PostmixRefIdeal.main_arg0) = m ((c.tc : Thread Cert.PostmixRefIdeal.nD Cert.PostmixRefIdeal.τ).loc Cert.PostmixRefIdeal.main_arg0)
      ∧ r.2.mem ((c.tc : Thread Cert.PostmixRefIdeal.nD Cert.PostmixRefIdeal.τ).loc Cert.PostmixRefIdeal.main_arg1) = m ((c.tc : Thread Cert.PostmixRefIdeal.nD Cert.PostmixRefIdeal.τ).loc Cert.PostmixRefIdeal.main_arg1)
      ∧ r.2.mem ((c.tc : Thread Cert.PostmixRefIdeal.nD Cert.PostmixRefIdeal.τ).loc Cert.PostmixRefIdeal.main_arg2) = m ((c.tc : Thread Cert.PostmixRefIdeal.nD Cert.PostmixRefIdeal.τ).loc Cert.PostmixRefIdeal.main_arg2)
      ∧ r.2.mem ((c.tc : Thread Cert.PostmixRefIdeal.nD Cert.PostmixRefIdeal.τ).loc Cert.PostmixRefIdeal.main_arg3) = m ((c.tc : Thread Cert.PostmixRefIdeal.nD Cert.PostmixRefIdeal.τ).loc Cert.PostmixRefIdeal.main_arg3)
      ∧ r.2.mem ((c.tc : Thread Cert.PostmixRefIdeal.nD Cert.PostmixRefIdeal.τ).loc Cert.PostmixRefIdeal.main_arg4) = m ((c.tc : Thread Cert.PostmixRefIdeal.nD Cert.PostmixRefIdeal.τ).loc Cert.PostmixRefIdeal.main_arg4)
      ∧ r.2.mem ((c.tc : Thread Cert.PostmixRefIdeal.nD Cert.PostmixRefIdeal.τ).loc Cert.PostmixRefIdeal.main_arg5) = m ((c.tc : Thread Cert.PostmixRefIdeal.nD Cert.PostmixRefIdeal.τ).loc Cert.PostmixRefIdeal.main_arg5)
      ∧ r.2.mem ((c.tc : Thread Cert.PostmixRefIdeal.nD Cert.PostmixRefIdeal.τ).loc Cert.PostmixRefIdeal.main_arg6) = m ((c.tc : Thread Cert.PostmixRefIdeal.nD Cert.PostmixRefIdeal.τ).loc Cert.PostmixRefIdeal.main_arg6)
      ∧ r.2.mem ((c.tc : Thread Cert.PostmixRefIdeal.nD Cert.PostmixRefIdeal.τ).loc Cert.PostmixRefIdeal.main_arg7) = m ((c.tc : Thread Cert.PostmixRefIdeal.nD Cert.PostmixRefIdeal.τ).loc Cert.PostmixRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_PostmixBwd [hPostmixBwd : Cert.PostmixBwd.Facts] : Prop :=
  ∀ (m : (ℓ : Loc Cert.PostmixBwd.nD Cert.PostmixBwd.τ Cert.PostmixBwd.sig) → Buf (Elt Bits) ℓ) (g : Dev Cert.PostmixBwd.nD → PrngReg), Pre_PostmixBwd m →
    θ_run (Cert.PostmixBwd.defs (F := Bits)) (onTc (τ := Cert.PostmixBwd.τ) (Cert.PostmixBwd.main (F := Bits))) ⟨m, fun _ => 0, g⟩ (fun r => (∀ c : Dev Cert.PostmixBwd.nD,
      r.2.mem ((c.tc : Thread Cert.PostmixBwd.nD Cert.PostmixBwd.τ).loc Cert.PostmixBwd.main_arg0) = m ((c.tc : Thread Cert.PostmixBwd.nD Cert.PostmixBwd.τ).loc Cert.PostmixBwd.main_arg0)
      ∧ r.2.mem ((c.tc : Thread Cert.PostmixBwd.nD Cert.PostmixBwd.τ).loc Cert.PostmixBwd.main_arg1) = m ((c.tc : Thread Cert.PostmixBwd.nD Cert.PostmixBwd.τ).loc Cert.PostmixBwd.main_arg1)
      ∧ r.2.mem ((c.tc : Thread Cert.PostmixBwd.nD Cert.PostmixBwd.τ).loc Cert.PostmixBwd.main_arg2) = m ((c.tc : Thread Cert.PostmixBwd.nD Cert.PostmixBwd.τ).loc Cert.PostmixBwd.main_arg2)
      ∧ r.2.mem ((c.tc : Thread Cert.PostmixBwd.nD Cert.PostmixBwd.τ).loc Cert.PostmixBwd.main_arg3) = m ((c.tc : Thread Cert.PostmixBwd.nD Cert.PostmixBwd.τ).loc Cert.PostmixBwd.main_arg3)
      ∧ r.2.mem ((c.tc : Thread Cert.PostmixBwd.nD Cert.PostmixBwd.τ).loc Cert.PostmixBwd.main_arg4) = m ((c.tc : Thread Cert.PostmixBwd.nD Cert.PostmixBwd.τ).loc Cert.PostmixBwd.main_arg4)
      ∧ r.2.mem ((c.tc : Thread Cert.PostmixBwd.nD Cert.PostmixBwd.τ).loc Cert.PostmixBwd.main_arg5) = m ((c.tc : Thread Cert.PostmixBwd.nD Cert.PostmixBwd.τ).loc Cert.PostmixBwd.main_arg5)
      ∧ r.2.mem ((c.tc : Thread Cert.PostmixBwd.nD Cert.PostmixBwd.τ).loc Cert.PostmixBwd.main_arg6) = m ((c.tc : Thread Cert.PostmixBwd.nD Cert.PostmixBwd.τ).loc Cert.PostmixBwd.main_arg6)
      ∧ r.2.mem ((c.tc : Thread Cert.PostmixBwd.nD Cert.PostmixBwd.τ).loc Cert.PostmixBwd.main_arg7) = m ((c.tc : Thread Cert.PostmixBwd.nD Cert.PostmixBwd.τ).loc Cert.PostmixBwd.main_arg7)
      ∧ r.2.mem ((c.tc : Thread Cert.PostmixBwd.nD Cert.PostmixBwd.τ).loc Cert.PostmixBwd.main_arg8) = m ((c.tc : Thread Cert.PostmixBwd.nD Cert.PostmixBwd.τ).loc Cert.PostmixBwd.main_arg8))
      ∧ r.2.sem = fun _ => 0)

def quiescent_PostmixBwdIdeal [hPostmixBwdIdeal : Cert.PostmixBwdIdeal.Facts] : Prop :=
  ∀ (m : (ℓ : Loc Cert.PostmixBwdIdeal.nD Cert.PostmixBwdIdeal.τ Cert.PostmixBwdIdeal.sig) → Buf (Elt Ideal) ℓ) (g : Dev Cert.PostmixBwdIdeal.nD → PrngReg), Pre_PostmixBwdIdeal m →
    θ_run (Cert.PostmixBwdIdeal.defs (F := Ideal)) (onTc (τ := Cert.PostmixBwdIdeal.τ) (Cert.PostmixBwdIdeal.main (F := Ideal))) ⟨m, fun _ => 0, g⟩ (fun r => (∀ c : Dev Cert.PostmixBwdIdeal.nD,
      r.2.mem ((c.tc : Thread Cert.PostmixBwdIdeal.nD Cert.PostmixBwdIdeal.τ).loc Cert.PostmixBwdIdeal.main_arg0) = m ((c.tc : Thread Cert.PostmixBwdIdeal.nD Cert.PostmixBwdIdeal.τ).loc Cert.PostmixBwdIdeal.main_arg0)
      ∧ r.2.mem ((c.tc : Thread Cert.PostmixBwdIdeal.nD Cert.PostmixBwdIdeal.τ).loc Cert.PostmixBwdIdeal.main_arg1) = m ((c.tc : Thread Cert.PostmixBwdIdeal.nD Cert.PostmixBwdIdeal.τ).loc Cert.PostmixBwdIdeal.main_arg1)
      ∧ r.2.mem ((c.tc : Thread Cert.PostmixBwdIdeal.nD Cert.PostmixBwdIdeal.τ).loc Cert.PostmixBwdIdeal.main_arg2) = m ((c.tc : Thread Cert.PostmixBwdIdeal.nD Cert.PostmixBwdIdeal.τ).loc Cert.PostmixBwdIdeal.main_arg2)
      ∧ r.2.mem ((c.tc : Thread Cert.PostmixBwdIdeal.nD Cert.PostmixBwdIdeal.τ).loc Cert.PostmixBwdIdeal.main_arg3) = m ((c.tc : Thread Cert.PostmixBwdIdeal.nD Cert.PostmixBwdIdeal.τ).loc Cert.PostmixBwdIdeal.main_arg3)
      ∧ r.2.mem ((c.tc : Thread Cert.PostmixBwdIdeal.nD Cert.PostmixBwdIdeal.τ).loc Cert.PostmixBwdIdeal.main_arg4) = m ((c.tc : Thread Cert.PostmixBwdIdeal.nD Cert.PostmixBwdIdeal.τ).loc Cert.PostmixBwdIdeal.main_arg4)
      ∧ r.2.mem ((c.tc : Thread Cert.PostmixBwdIdeal.nD Cert.PostmixBwdIdeal.τ).loc Cert.PostmixBwdIdeal.main_arg5) = m ((c.tc : Thread Cert.PostmixBwdIdeal.nD Cert.PostmixBwdIdeal.τ).loc Cert.PostmixBwdIdeal.main_arg5)
      ∧ r.2.mem ((c.tc : Thread Cert.PostmixBwdIdeal.nD Cert.PostmixBwdIdeal.τ).loc Cert.PostmixBwdIdeal.main_arg6) = m ((c.tc : Thread Cert.PostmixBwdIdeal.nD Cert.PostmixBwdIdeal.τ).loc Cert.PostmixBwdIdeal.main_arg6)
      ∧ r.2.mem ((c.tc : Thread Cert.PostmixBwdIdeal.nD Cert.PostmixBwdIdeal.τ).loc Cert.PostmixBwdIdeal.main_arg7) = m ((c.tc : Thread Cert.PostmixBwdIdeal.nD Cert.PostmixBwdIdeal.τ).loc Cert.PostmixBwdIdeal.main_arg7)
      ∧ r.2.mem ((c.tc : Thread Cert.PostmixBwdIdeal.nD Cert.PostmixBwdIdeal.τ).loc Cert.PostmixBwdIdeal.main_arg8) = m ((c.tc : Thread Cert.PostmixBwdIdeal.nD Cert.PostmixBwdIdeal.τ).loc Cert.PostmixBwdIdeal.main_arg8))
      ∧ r.2.sem = fun _ => 0)

def quiescent_PostmixBwdRefIdeal [hPostmixBwdRefIdeal : Cert.PostmixBwdRefIdeal.Facts] : Prop :=
  ∀ (m : (ℓ : Loc Cert.PostmixBwdRefIdeal.nD Cert.PostmixBwdRefIdeal.τ Cert.PostmixBwdRefIdeal.sig) → Buf (Elt Ideal) ℓ) (g : Dev Cert.PostmixBwdRefIdeal.nD → PrngReg), Pre_PostmixBwdRefIdeal m →
    θ_run (Cert.PostmixBwdRefIdeal.defs (F := Ideal)) (onTc (τ := Cert.PostmixBwdRefIdeal.τ) (Cert.PostmixBwdRefIdeal.main (F := Ideal))) ⟨m, fun _ => 0, g⟩ (fun r => (∀ c : Dev Cert.PostmixBwdRefIdeal.nD,
      r.2.mem ((c.tc : Thread Cert.PostmixBwdRefIdeal.nD Cert.PostmixBwdRefIdeal.τ).loc Cert.PostmixBwdRefIdeal.main_arg0) = m ((c.tc : Thread Cert.PostmixBwdRefIdeal.nD Cert.PostmixBwdRefIdeal.τ).loc Cert.PostmixBwdRefIdeal.main_arg0)
      ∧ r.2.mem ((c.tc : Thread Cert.PostmixBwdRefIdeal.nD Cert.PostmixBwdRefIdeal.τ).loc Cert.PostmixBwdRefIdeal.main_arg1) = m ((c.tc : Thread Cert.PostmixBwdRefIdeal.nD Cert.PostmixBwdRefIdeal.τ).loc Cert.PostmixBwdRefIdeal.main_arg1)
      ∧ r.2.mem ((c.tc : Thread Cert.PostmixBwdRefIdeal.nD Cert.PostmixBwdRefIdeal.τ).loc Cert.PostmixBwdRefIdeal.main_arg2) = m ((c.tc : Thread Cert.PostmixBwdRefIdeal.nD Cert.PostmixBwdRefIdeal.τ).loc Cert.PostmixBwdRefIdeal.main_arg2)
      ∧ r.2.mem ((c.tc : Thread Cert.PostmixBwdRefIdeal.nD Cert.PostmixBwdRefIdeal.τ).loc Cert.PostmixBwdRefIdeal.main_arg3) = m ((c.tc : Thread Cert.PostmixBwdRefIdeal.nD Cert.PostmixBwdRefIdeal.τ).loc Cert.PostmixBwdRefIdeal.main_arg3)
      ∧ r.2.mem ((c.tc : Thread Cert.PostmixBwdRefIdeal.nD Cert.PostmixBwdRefIdeal.τ).loc Cert.PostmixBwdRefIdeal.main_arg4) = m ((c.tc : Thread Cert.PostmixBwdRefIdeal.nD Cert.PostmixBwdRefIdeal.τ).loc Cert.PostmixBwdRefIdeal.main_arg4)
      ∧ r.2.mem ((c.tc : Thread Cert.PostmixBwdRefIdeal.nD Cert.PostmixBwdRefIdeal.τ).loc Cert.PostmixBwdRefIdeal.main_arg5) = m ((c.tc : Thread Cert.PostmixBwdRefIdeal.nD Cert.PostmixBwdRefIdeal.τ).loc Cert.PostmixBwdRefIdeal.main_arg5)
      ∧ r.2.mem ((c.tc : Thread Cert.PostmixBwdRefIdeal.nD Cert.PostmixBwdRefIdeal.τ).loc Cert.PostmixBwdRefIdeal.main_arg6) = m ((c.tc : Thread Cert.PostmixBwdRefIdeal.nD Cert.PostmixBwdRefIdeal.τ).loc Cert.PostmixBwdRefIdeal.main_arg6)
      ∧ r.2.mem ((c.tc : Thread Cert.PostmixBwdRefIdeal.nD Cert.PostmixBwdRefIdeal.τ).loc Cert.PostmixBwdRefIdeal.main_arg7) = m ((c.tc : Thread Cert.PostmixBwdRefIdeal.nD Cert.PostmixBwdRefIdeal.τ).loc Cert.PostmixBwdRefIdeal.main_arg7)
      ∧ r.2.mem ((c.tc : Thread Cert.PostmixBwdRefIdeal.nD Cert.PostmixBwdRefIdeal.τ).loc Cert.PostmixBwdRefIdeal.main_arg8) = m ((c.tc : Thread Cert.PostmixBwdRefIdeal.nD Cert.PostmixBwdRefIdeal.τ).loc Cert.PostmixBwdRefIdeal.main_arg8))
      ∧ r.2.sem = fun _ => 0)

def quiescent_SmallCols [hSmallCols : Cert.SmallCols.Facts] : Prop :=
  ∀ (m : (ℓ : Loc Cert.SmallCols.nD Cert.SmallCols.τ Cert.SmallCols.sig) → Buf (Elt Bits) ℓ) (g : Dev Cert.SmallCols.nD → PrngReg), Pre_SmallCols m →
    θ_run (Cert.SmallCols.defs (F := Bits)) (onTc (τ := Cert.SmallCols.τ) (Cert.SmallCols.main (F := Bits))) ⟨m, fun _ => 0, g⟩ (fun r => (∀ c : Dev Cert.SmallCols.nD,
      r.2.mem ((c.tc : Thread Cert.SmallCols.nD Cert.SmallCols.τ).loc Cert.SmallCols.main_arg0) = m ((c.tc : Thread Cert.SmallCols.nD Cert.SmallCols.τ).loc Cert.SmallCols.main_arg0)
      ∧ r.2.mem ((c.tc : Thread Cert.SmallCols.nD Cert.SmallCols.τ).loc Cert.SmallCols.main_arg1) = m ((c.tc : Thread Cert.SmallCols.nD Cert.SmallCols.τ).loc Cert.SmallCols.main_arg1)
      ∧ r.2.mem ((c.tc : Thread Cert.SmallCols.nD Cert.SmallCols.τ).loc Cert.SmallCols.main_arg2) = m ((c.tc : Thread Cert.SmallCols.nD Cert.SmallCols.τ).loc Cert.SmallCols.main_arg2))
      ∧ r.2.sem = fun _ => 0)

def quiescent_SmallColsIdeal [hSmallColsIdeal : Cert.SmallColsIdeal.Facts] : Prop :=
  ∀ (m : (ℓ : Loc Cert.SmallColsIdeal.nD Cert.SmallColsIdeal.τ Cert.SmallColsIdeal.sig) → Buf (Elt Ideal) ℓ) (g : Dev Cert.SmallColsIdeal.nD → PrngReg), Pre_SmallColsIdeal m →
    θ_run (Cert.SmallColsIdeal.defs (F := Ideal)) (onTc (τ := Cert.SmallColsIdeal.τ) (Cert.SmallColsIdeal.main (F := Ideal))) ⟨m, fun _ => 0, g⟩ (fun r => (∀ c : Dev Cert.SmallColsIdeal.nD,
      r.2.mem ((c.tc : Thread Cert.SmallColsIdeal.nD Cert.SmallColsIdeal.τ).loc Cert.SmallColsIdeal.main_arg0) = m ((c.tc : Thread Cert.SmallColsIdeal.nD Cert.SmallColsIdeal.τ).loc Cert.SmallColsIdeal.main_arg0)
      ∧ r.2.mem ((c.tc : Thread Cert.SmallColsIdeal.nD Cert.SmallColsIdeal.τ).loc Cert.SmallColsIdeal.main_arg1) = m ((c.tc : Thread Cert.SmallColsIdeal.nD Cert.SmallColsIdeal.τ).loc Cert.SmallColsIdeal.main_arg1)
      ∧ r.2.mem ((c.tc : Thread Cert.SmallColsIdeal.nD Cert.SmallColsIdeal.τ).loc Cert.SmallColsIdeal.main_arg2) = m ((c.tc : Thread Cert.SmallColsIdeal.nD Cert.SmallColsIdeal.τ).loc Cert.SmallColsIdeal.main_arg2))
      ∧ r.2.sem = fun _ => 0)

def quiescent_SmallColsRefIdeal [hSmallColsRefIdeal : Cert.SmallColsRefIdeal.Facts] : Prop :=
  ∀ (m : (ℓ : Loc Cert.SmallColsRefIdeal.nD Cert.SmallColsRefIdeal.τ Cert.SmallColsRefIdeal.sig) → Buf (Elt Ideal) ℓ) (g : Dev Cert.SmallColsRefIdeal.nD → PrngReg), Pre_SmallColsRefIdeal m →
    θ_run (Cert.SmallColsRefIdeal.defs (F := Ideal)) (onTc (τ := Cert.SmallColsRefIdeal.τ) (Cert.SmallColsRefIdeal.main (F := Ideal))) ⟨m, fun _ => 0, g⟩ (fun r => (∀ c : Dev Cert.SmallColsRefIdeal.nD,
      r.2.mem ((c.tc : Thread Cert.SmallColsRefIdeal.nD Cert.SmallColsRefIdeal.τ).loc Cert.SmallColsRefIdeal.main_arg0) = m ((c.tc : Thread Cert.SmallColsRefIdeal.nD Cert.SmallColsRefIdeal.τ).loc Cert.SmallColsRefIdeal.main_arg0)
      ∧ r.2.mem ((c.tc : Thread Cert.SmallColsRefIdeal.nD Cert.SmallColsRefIdeal.τ).loc Cert.SmallColsRefIdeal.main_arg1) = m ((c.tc : Thread Cert.SmallColsRefIdeal.nD Cert.SmallColsRefIdeal.τ).loc Cert.SmallColsRefIdeal.main_arg1)
      ∧ r.2.mem ((c.tc : Thread Cert.SmallColsRefIdeal.nD Cert.SmallColsRefIdeal.τ).loc Cert.SmallColsRefIdeal.main_arg2) = m ((c.tc : Thread Cert.SmallColsRefIdeal.nD Cert.SmallColsRefIdeal.τ).loc Cert.SmallColsRefIdeal.main_arg2))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v0_0) i = v0 c i)
          ∧ (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v0_1) i = v1 c i)
          ∧ (∀ i : (⟨2, ![4096, 15360]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v35) i = v0 c i)
          ∧ (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v36) i = v1 c i)
          ∧ (∀ i : (⟨2, ![4096, 15360]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v37) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_v8) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDownDx_MlpDownDxIdeal : Prop :=
  True

def algebraic_MlpDownDxIdeal_MlpDownDxRefIdeal [hMlpDownDxIdeal : Cert.MlpDownDxIdeal.Facts] [hMlpDownDxRefIdeal : Cert.MlpDownDxRefIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg)
    (m' : (ℓ : Loc Cert.MlpDownDxRefIdeal.nD Cert.MlpDownDxRefIdeal.τ Cert.MlpDownDxRefIdeal.sig) → Buf (Elt Ideal) ℓ) (g' : Dev Cert.MlpDownDxRefIdeal.nD → PrngReg), Pre_MlpDownDxIdeal m →
    (∀ c : Dev Cert.MlpDownDxIdeal.nD,
      m' ((c.tc : Thread Cert.MlpDownDxRefIdeal.nD Cert.MlpDownDxRefIdeal.τ).loc Cert.MlpDownDxRefIdeal.main_arg0) = m ((c.tc : Thread Cert.MlpDownDxIdeal.nD Cert.MlpDownDxIdeal.τ).loc Cert.MlpDownDxIdeal.main_arg0)
      ∧ m' ((c.tc : Thread Cert.MlpDownDxRefIdeal.nD Cert.MlpDownDxRefIdeal.τ).loc Cert.MlpDownDxRefIdeal.main_arg1) = m ((c.tc : Thread Cert.MlpDownDxIdeal.nD Cert.MlpDownDxIdeal.τ).loc Cert.MlpDownDxIdeal.main_arg1)
      ∧ m' ((c.tc : Thread Cert.MlpDownDxRefIdeal.nD Cert.MlpDownDxRefIdeal.τ).loc Cert.MlpDownDxRefIdeal.main_arg2) = m ((c.tc : Thread Cert.MlpDownDxIdeal.nD Cert.MlpDownDxIdeal.τ).loc Cert.MlpDownDxIdeal.main_arg2)) →
    ∃ (v0 : (c : Dev Cert.MlpDownDxIdeal.nD) → Buf (Elt Ideal) ((c.tc : Thread Cert.MlpDownDxIdeal.nD Cert.MlpDownDxIdeal.τ).loc Cert.MlpDownDxIdeal.main_v0)),
      θ_run (Cert.MlpDownDxIdeal.defs (F := Ideal)) (onTc (τ := Cert.MlpDownDxIdeal.τ) (Cert.MlpDownDxIdeal.main (F := Ideal))) ⟨m, fun _ => 0, g⟩ (fun r => ∀ c : Dev Cert.MlpDownDxIdeal.nD,
          r.2.mem ((c.tc : Thread Cert.MlpDownDxIdeal.nD Cert.MlpDownDxIdeal.τ).loc Cert.MlpDownDxIdeal.main_v0) = v0 c
          ∧ r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
          ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
          ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ θ_run (Cert.MlpDownDxRefIdeal.defs (F := Ideal)) (onTc (τ := Cert.MlpDownDxRefIdeal.τ) (Cert.MlpDownDxRefIdeal.main (F := Ideal))) ⟨m', fun _ => 0, g'⟩ (fun r => ∀ c : Dev Cert.MlpDownDxRefIdeal.nD,
          r.2.mem ((c.tc : Thread Cert.MlpDownDxRefIdeal.nD Cert.MlpDownDxRefIdeal.τ).loc Cert.MlpDownDxRefIdeal.main_v15) = v0 c
          ∧ r.2.mem ((c.tc : Thread Cert.MlpDownDxRefIdeal.nD Cert.MlpDownDxRefIdeal.τ).loc Cert.MlpDownDxRefIdeal.main_arg0) = m' ((c.tc : Thread Cert.MlpDownDxRefIdeal.nD Cert.MlpDownDxRefIdeal.τ).loc Cert.MlpDownDxRefIdeal.main_arg0)
          ∧ r.2.mem ((c.tc : Thread Cert.MlpDownDxRefIdeal.nD Cert.MlpDownDxRefIdeal.τ).loc Cert.MlpDownDxRefIdeal.main_arg1) = m' ((c.tc : Thread Cert.MlpDownDxRefIdeal.nD Cert.MlpDownDxRefIdeal.τ).loc Cert.MlpDownDxRefIdeal.main_arg1)
          ∧ r.2.mem ((c.tc : Thread Cert.MlpDownDxRefIdeal.nD Cert.MlpDownDxRefIdeal.τ).loc Cert.MlpDownDxRefIdeal.main_arg2) = m' ((c.tc : Thread Cert.MlpDownDxRefIdeal.nD Cert.MlpDownDxRefIdeal.τ).loc Cert.MlpDownDxRefIdeal.main_arg2))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)) →
    ∃ (v0 : (c : Dev Cert.MlpDownDwIdeal.nD) → Buf (Elt Ideal) ((c.tc : Thread Cert.MlpDownDwIdeal.nD Cert.MlpDownDwIdeal.τ).loc Cert.MlpDownDwIdeal.main_v0)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v0) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v5) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1))

def preserves_MlpUpDx_MlpUpDxIdeal : Prop :=
  True

def algebraic_MlpUpDxIdeal_MlpUpDxRefIdeal [hMlpUpDxIdeal : Cert.MlpUpDxIdeal.Facts] [hMlpUpDxRefIdeal : Cert.MlpUpDxRefIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.MlpUpDxRefIdeal.nD Cert.MlpUpDxRefIdeal.τ Cert.MlpUpDxRefIdeal.sig) → Buf (Elt Ideal) ℓ) (g' : Dev Cert.MlpUpDxRefIdeal.nD → PrngReg), Pre_MlpUpDxIdeal m →
    (∀ c : Dev Cert.MlpUpDxIdeal.nD,
      m' ((c.tc : Thread Cert.MlpUpDxRefIdeal.nD Cert.MlpUpDxRefIdeal.τ).loc Cert.MlpUpDxRefIdeal.main_arg0) = m ((c.tc : Thread Cert.MlpUpDxIdeal.nD Cert.MlpUpDxIdeal.τ).loc Cert.MlpUpDxIdeal.main_arg0)
      ∧ m' ((c.tc : Thread Cert.MlpUpDxRefIdeal.nD Cert.MlpUpDxRefIdeal.τ).loc Cert.MlpUpDxRefIdeal.main_arg1) = m ((c.tc : Thread Cert.MlpUpDxIdeal.nD Cert.MlpUpDxIdeal.τ).loc Cert.MlpUpDxIdeal.main_arg1)) →
    ∃ (v0 : (c : Dev Cert.MlpUpDxIdeal.nD) → Buf (Elt Ideal) ((c.tc : Thread Cert.MlpUpDxIdeal.nD Cert.MlpUpDxIdeal.τ).loc Cert.MlpUpDxIdeal.main_v0)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v0) = v0 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ θ_run (Cert.MlpUpDxRefIdeal.defs (F := Ideal)) (onTc (τ := Cert.MlpUpDxRefIdeal.τ) (Cert.MlpUpDxRefIdeal.main (F := Ideal))) ⟨m', fun _ => 0, g'⟩ (fun r => ∀ c : Dev Cert.MlpUpDxRefIdeal.nD,
          r.2.mem ((c.tc : Thread Cert.MlpUpDxRefIdeal.nD Cert.MlpUpDxRefIdeal.τ).loc Cert.MlpUpDxRefIdeal.main_v6) = v0 c
          ∧ r.2.mem ((c.tc : Thread Cert.MlpUpDxRefIdeal.nD Cert.MlpUpDxRefIdeal.τ).loc Cert.MlpUpDxRefIdeal.main_arg0) = m' ((c.tc : Thread Cert.MlpUpDxRefIdeal.nD Cert.MlpUpDxRefIdeal.τ).loc Cert.MlpUpDxRefIdeal.main_arg0)
          ∧ r.2.mem ((c.tc : Thread Cert.MlpUpDxRefIdeal.nD Cert.MlpUpDxRefIdeal.τ).loc Cert.MlpUpDxRefIdeal.main_arg1) = m' ((c.tc : Thread Cert.MlpUpDxRefIdeal.nD Cert.MlpUpDxRefIdeal.τ).loc Cert.MlpUpDxRefIdeal.main_arg1))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v0)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v0) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v9) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1))

def preserves_WOutDx_WOutDxIdeal : Prop :=
  True

def algebraic_WOutDxIdeal_WOutDxRefIdeal [hWOutDxIdeal : Cert.WOutDxIdeal.Facts] [hWOutDxRefIdeal : Cert.WOutDxRefIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg)
    (m' : (ℓ : Loc Cert.WOutDxRefIdeal.nD Cert.WOutDxRefIdeal.τ Cert.WOutDxRefIdeal.sig) → Buf (Elt Ideal) ℓ) (g' : Dev Cert.WOutDxRefIdeal.nD → PrngReg), Pre_WOutDxIdeal m →
    (∀ c : Dev Cert.WOutDxIdeal.nD,
      m' ((c.tc : Thread Cert.WOutDxRefIdeal.nD Cert.WOutDxRefIdeal.τ).loc Cert.WOutDxRefIdeal.main_arg0) = m ((c.tc : Thread Cert.WOutDxIdeal.nD Cert.WOutDxIdeal.τ).loc Cert.WOutDxIdeal.main_arg0)
      ∧ m' ((c.tc : Thread Cert.WOutDxRefIdeal.nD Cert.WOutDxRefIdeal.τ).loc Cert.WOutDxRefIdeal.main_arg1) = m ((c.tc : Thread Cert.WOutDxIdeal.nD Cert.WOutDxIdeal.τ).loc Cert.WOutDxIdeal.main_arg1)) →
    ∃ (v0 : (c : Dev Cert.WOutDxIdeal.nD) → Buf (Elt Ideal) ((c.tc : Thread Cert.WOutDxIdeal.nD Cert.WOutDxIdeal.τ).loc Cert.WOutDxIdeal.main_v0)),
      θ_run (Cert.WOutDxIdeal.defs (F := Ideal)) (onTc (τ := Cert.WOutDxIdeal.τ) (Cert.WOutDxIdeal.main (F := Ideal))) ⟨m, fun _ => 0, g⟩ (fun r => ∀ c : Dev Cert.WOutDxIdeal.nD,
          r.2.mem ((c.tc : Thread Cert.WOutDxIdeal.nD Cert.WOutDxIdeal.τ).loc Cert.WOutDxIdeal.main_v0) = v0 c
          ∧ r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
          ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1))
      ∧ θ_run (Cert.WOutDxRefIdeal.defs (F := Ideal)) (onTc (τ := Cert.WOutDxRefIdeal.τ) (Cert.WOutDxRefIdeal.main (F := Ideal))) ⟨m', fun _ => 0, g'⟩ (fun r => ∀ c : Dev Cert.WOutDxRefIdeal.nD,
          r.2.mem ((c.tc : Thread Cert.WOutDxRefIdeal.nD Cert.WOutDxRefIdeal.τ).loc Cert.WOutDxRefIdeal.main_v5) = v0 c
          ∧ r.2.mem ((c.tc : Thread Cert.WOutDxRefIdeal.nD Cert.WOutDxRefIdeal.τ).loc Cert.WOutDxRefIdeal.main_arg0) = m' ((c.tc : Thread Cert.WOutDxRefIdeal.nD Cert.WOutDxRefIdeal.τ).loc Cert.WOutDxRefIdeal.main_arg0)
          ∧ r.2.mem ((c.tc : Thread Cert.WOutDxRefIdeal.nD Cert.WOutDxRefIdeal.τ).loc Cert.WOutDxRefIdeal.main_arg1) = m' ((c.tc : Thread Cert.WOutDxRefIdeal.nD Cert.WOutDxRefIdeal.τ).loc Cert.WOutDxRefIdeal.main_arg1))

def preserves_WOutDw_WOutDwIdeal : Prop :=
  True

def algebraic_WOutDwIdeal_WOutDwRefIdeal [hWOutDwIdeal : Cert.WOutDwIdeal.Facts] [hWOutDwRefIdeal : Cert.WOutDwRefIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg)
    (m' : (ℓ : Loc Cert.WOutDwRefIdeal.nD Cert.WOutDwRefIdeal.τ Cert.WOutDwRefIdeal.sig) → Buf (Elt Ideal) ℓ) (g' : Dev Cert.WOutDwRefIdeal.nD → PrngReg), Pre_WOutDwIdeal m →
    (∀ c : Dev Cert.WOutDwIdeal.nD,
      m' ((c.tc : Thread Cert.WOutDwRefIdeal.nD Cert.WOutDwRefIdeal.τ).loc Cert.WOutDwRefIdeal.main_arg0) = m ((c.tc : Thread Cert.WOutDwIdeal.nD Cert.WOutDwIdeal.τ).loc Cert.WOutDwIdeal.main_arg0)
      ∧ m' ((c.tc : Thread Cert.WOutDwRefIdeal.nD Cert.WOutDwRefIdeal.τ).loc Cert.WOutDwRefIdeal.main_arg1) = m ((c.tc : Thread Cert.WOutDwIdeal.nD Cert.WOutDwIdeal.τ).loc Cert.WOutDwIdeal.main_arg1)) →
    ∃ (v0 : (c : Dev Cert.WOutDwIdeal.nD) → Buf (Elt Ideal) ((c.tc : Thread Cert.WOutDwIdeal.nD Cert.WOutDwIdeal.τ).loc Cert.WOutDwIdeal.main_v0)),
      θ_run (Cert.WOutDwIdeal.defs (F := Ideal)) (onTc (τ := Cert.WOutDwIdeal.τ) (Cert.WOutDwIdeal.main (F := Ideal))) ⟨m, fun _ => 0, g⟩ (fun r => ∀ c : Dev Cert.WOutDwIdeal.nD,
          r.2.mem ((c.tc : Thread Cert.WOutDwIdeal.nD Cert.WOutDwIdeal.τ).loc Cert.WOutDwIdeal.main_v0) = v0 c
          ∧ r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
          ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1))
      ∧ θ_run (Cert.WOutDwRefIdeal.defs (F := Ideal)) (onTc (τ := Cert.WOutDwRefIdeal.τ) (Cert.WOutDwRefIdeal.main (F := Ideal))) ⟨m', fun _ => 0, g'⟩ (fun r => ∀ c : Dev Cert.WOutDwRefIdeal.nD,
          r.2.mem ((c.tc : Thread Cert.WOutDwRefIdeal.nD Cert.WOutDwRefIdeal.τ).loc Cert.WOutDwRefIdeal.main_v5) = v0 c
          ∧ r.2.mem ((c.tc : Thread Cert.WOutDwRefIdeal.nD Cert.WOutDwRefIdeal.τ).loc Cert.WOutDwRefIdeal.main_arg0) = m' ((c.tc : Thread Cert.WOutDwRefIdeal.nD Cert.WOutDwRefIdeal.τ).loc Cert.WOutDwRefIdeal.main_arg0)
          ∧ r.2.mem ((c.tc : Thread Cert.WOutDwRefIdeal.nD Cert.WOutDwRefIdeal.τ).loc Cert.WOutDwRefIdeal.main_arg1) = m' ((c.tc : Thread Cert.WOutDwRefIdeal.nD Cert.WOutDwRefIdeal.τ).loc Cert.WOutDwRefIdeal.main_arg1))

def preserves_SsmUp_SsmUpIdeal : Prop :=
  True

def algebraic_SsmUpIdeal_SsmUpRefIdeal [hSsmUpIdeal : Cert.SsmUpIdeal.Facts] [hSsmUpRefIdeal : Cert.SsmUpRefIdeal.Facts] : Prop :=
  ∀ (m : (ℓ : Loc Cert.SsmUpIdeal.nD Cert.SsmUpIdeal.τ Cert.SsmUpIdeal.sig) → Buf (Elt Ideal) ℓ) (g : Dev Cert.SsmUpIdeal.nD → PrngReg)
    (m' : (ℓ : Loc Cert.SsmUpRefIdeal.nD Cert.SsmUpRefIdeal.τ Cert.SsmUpRefIdeal.sig) → Buf (Elt Ideal) ℓ) (g' : Dev Cert.SsmUpRefIdeal.nD → PrngReg), Pre_SsmUpIdeal m →
    (∀ c : Dev Cert.SsmUpIdeal.nD,
      m' ((c.tc : Thread Cert.SsmUpRefIdeal.nD Cert.SsmUpRefIdeal.τ).loc Cert.SsmUpRefIdeal.main_arg0) = m ((c.tc : Thread Cert.SsmUpIdeal.nD Cert.SsmUpIdeal.τ).loc Cert.SsmUpIdeal.main_arg0)
      ∧ m' ((c.tc : Thread Cert.SsmUpRefIdeal.nD Cert.SsmUpRefIdeal.τ).loc Cert.SsmUpRefIdeal.main_arg1) = m ((c.tc : Thread Cert.SsmUpIdeal.nD Cert.SsmUpIdeal.τ).loc Cert.SsmUpIdeal.main_arg1)) →
    ∃ (v0 : (c : Dev Cert.SsmUpIdeal.nD) → Buf (Elt Ideal) ((c.tc : Thread Cert.SsmUpIdeal.nD Cert.SsmUpIdeal.τ).loc Cert.SsmUpIdeal.main_v0)),
      θ_run (Cert.SsmUpIdeal.defs (F := Ideal)) (onTc (τ := Cert.SsmUpIdeal.τ) (Cert.SsmUpIdeal.main (F := Ideal))) ⟨m, fun _ => 0, g⟩ (fun r => ∀ c : Dev Cert.SsmUpIdeal.nD,
          r.2.mem ((c.tc : Thread Cert.SsmUpIdeal.nD Cert.SsmUpIdeal.τ).loc Cert.SsmUpIdeal.main_v0) = v0 c
          ∧ r.2.mem ((c.tc : Thread Cert.SsmUpIdeal.nD Cert.SsmUpIdeal.τ).loc Cert.SsmUpIdeal.main_arg0) = m ((c.tc : Thread Cert.SsmUpIdeal.nD Cert.SsmUpIdeal.τ).loc Cert.SsmUpIdeal.main_arg0)
          ∧ r.2.mem ((c.tc : Thread Cert.SsmUpIdeal.nD Cert.SsmUpIdeal.τ).loc Cert.SsmUpIdeal.main_arg1) = m ((c.tc : Thread Cert.SsmUpIdeal.nD Cert.SsmUpIdeal.τ).loc Cert.SsmUpIdeal.main_arg1))
      ∧ θ_run (Cert.SsmUpRefIdeal.defs (F := Ideal)) (onTc (τ := Cert.SsmUpRefIdeal.τ) (Cert.SsmUpRefIdeal.main (F := Ideal))) ⟨m', fun _ => 0, g'⟩ (fun r => ∀ c : Dev Cert.SsmUpRefIdeal.nD,
          r.2.mem ((c.tc : Thread Cert.SsmUpRefIdeal.nD Cert.SsmUpRefIdeal.τ).loc Cert.SsmUpRefIdeal.main_v3) = v0 c
          ∧ r.2.mem ((c.tc : Thread Cert.SsmUpRefIdeal.nD Cert.SsmUpRefIdeal.τ).loc Cert.SsmUpRefIdeal.main_arg0) = m' ((c.tc : Thread Cert.SsmUpRefIdeal.nD Cert.SsmUpRefIdeal.τ).loc Cert.SsmUpRefIdeal.main_arg0)
          ∧ r.2.mem ((c.tc : Thread Cert.SsmUpRefIdeal.nD Cert.SsmUpRefIdeal.τ).loc Cert.SsmUpRefIdeal.main_arg1) = m' ((c.tc : Thread Cert.SsmUpRefIdeal.nD Cert.SsmUpRefIdeal.τ).loc Cert.SsmUpRefIdeal.main_arg1))

def preserves_GdnUp_GdnUpIdeal : Prop :=
  True

def algebraic_GdnUpIdeal_GdnUpRefIdeal [hGdnUpIdeal : Cert.GdnUpIdeal.Facts] [hGdnUpRefIdeal : Cert.GdnUpRefIdeal.Facts] : Prop :=
  ∀ (m : (ℓ : Loc Cert.GdnUpIdeal.nD Cert.GdnUpIdeal.τ Cert.GdnUpIdeal.sig) → Buf (Elt Ideal) ℓ) (g : Dev Cert.GdnUpIdeal.nD → PrngReg)
    (m' : (ℓ : Loc Cert.GdnUpRefIdeal.nD Cert.GdnUpRefIdeal.τ Cert.GdnUpRefIdeal.sig) → Buf (Elt Ideal) ℓ) (g' : Dev Cert.GdnUpRefIdeal.nD → PrngReg), Pre_GdnUpIdeal m →
    (∀ c : Dev Cert.GdnUpIdeal.nD,
      m' ((c.tc : Thread Cert.GdnUpRefIdeal.nD Cert.GdnUpRefIdeal.τ).loc Cert.GdnUpRefIdeal.main_arg0) = m ((c.tc : Thread Cert.GdnUpIdeal.nD Cert.GdnUpIdeal.τ).loc Cert.GdnUpIdeal.main_arg0)
      ∧ m' ((c.tc : Thread Cert.GdnUpRefIdeal.nD Cert.GdnUpRefIdeal.τ).loc Cert.GdnUpRefIdeal.main_arg1) = m ((c.tc : Thread Cert.GdnUpIdeal.nD Cert.GdnUpIdeal.τ).loc Cert.GdnUpIdeal.main_arg1)) →
    ∃ (v0 : (c : Dev Cert.GdnUpIdeal.nD) → Buf (Elt Ideal) ((c.tc : Thread Cert.GdnUpIdeal.nD Cert.GdnUpIdeal.τ).loc Cert.GdnUpIdeal.main_v0)),
      θ_run (Cert.GdnUpIdeal.defs (F := Ideal)) (onTc (τ := Cert.GdnUpIdeal.τ) (Cert.GdnUpIdeal.main (F := Ideal))) ⟨m, fun _ => 0, g⟩ (fun r => ∀ c : Dev Cert.GdnUpIdeal.nD,
          r.2.mem ((c.tc : Thread Cert.GdnUpIdeal.nD Cert.GdnUpIdeal.τ).loc Cert.GdnUpIdeal.main_v0) = v0 c
          ∧ r.2.mem ((c.tc : Thread Cert.GdnUpIdeal.nD Cert.GdnUpIdeal.τ).loc Cert.GdnUpIdeal.main_arg0) = m ((c.tc : Thread Cert.GdnUpIdeal.nD Cert.GdnUpIdeal.τ).loc Cert.GdnUpIdeal.main_arg0)
          ∧ r.2.mem ((c.tc : Thread Cert.GdnUpIdeal.nD Cert.GdnUpIdeal.τ).loc Cert.GdnUpIdeal.main_arg1) = m ((c.tc : Thread Cert.GdnUpIdeal.nD Cert.GdnUpIdeal.τ).loc Cert.GdnUpIdeal.main_arg1))
      ∧ θ_run (Cert.GdnUpRefIdeal.defs (F := Ideal)) (onTc (τ := Cert.GdnUpRefIdeal.τ) (Cert.GdnUpRefIdeal.main (F := Ideal))) ⟨m', fun _ => 0, g'⟩ (fun r => ∀ c : Dev Cert.GdnUpRefIdeal.nD,
          r.2.mem ((c.tc : Thread Cert.GdnUpRefIdeal.nD Cert.GdnUpRefIdeal.τ).loc Cert.GdnUpRefIdeal.main_v3) = v0 c
          ∧ r.2.mem ((c.tc : Thread Cert.GdnUpRefIdeal.nD Cert.GdnUpRefIdeal.τ).loc Cert.GdnUpRefIdeal.main_arg0) = m' ((c.tc : Thread Cert.GdnUpRefIdeal.nD Cert.GdnUpRefIdeal.τ).loc Cert.GdnUpRefIdeal.main_arg0)
          ∧ r.2.mem ((c.tc : Thread Cert.GdnUpRefIdeal.nD Cert.GdnUpRefIdeal.τ).loc Cert.GdnUpRefIdeal.main_arg1) = m' ((c.tc : Thread Cert.GdnUpRefIdeal.nD Cert.GdnUpRefIdeal.τ).loc Cert.GdnUpRefIdeal.main_arg1))

def preserves_SsmUpDx_SsmUpDxIdeal : Prop :=
  True

def algebraic_SsmUpDxIdeal_SsmUpDxRefIdeal [hSsmUpDxIdeal : Cert.SsmUpDxIdeal.Facts] [hSsmUpDxRefIdeal : Cert.SsmUpDxRefIdeal.Facts] : Prop :=
  ∀ (m : (ℓ : Loc Cert.SsmUpDxIdeal.nD Cert.SsmUpDxIdeal.τ Cert.SsmUpDxIdeal.sig) → Buf (Elt Ideal) ℓ) (g : Dev Cert.SsmUpDxIdeal.nD → PrngReg)
    (m' : (ℓ : Loc Cert.SsmUpDxRefIdeal.nD Cert.SsmUpDxRefIdeal.τ Cert.SsmUpDxRefIdeal.sig) → Buf (Elt Ideal) ℓ) (g' : Dev Cert.SsmUpDxRefIdeal.nD → PrngReg), Pre_SsmUpDxIdeal m →
    (∀ c : Dev Cert.SsmUpDxIdeal.nD,
      m' ((c.tc : Thread Cert.SsmUpDxRefIdeal.nD Cert.SsmUpDxRefIdeal.τ).loc Cert.SsmUpDxRefIdeal.main_arg0) = m ((c.tc : Thread Cert.SsmUpDxIdeal.nD Cert.SsmUpDxIdeal.τ).loc Cert.SsmUpDxIdeal.main_arg0)
      ∧ m' ((c.tc : Thread Cert.SsmUpDxRefIdeal.nD Cert.SsmUpDxRefIdeal.τ).loc Cert.SsmUpDxRefIdeal.main_arg1) = m ((c.tc : Thread Cert.SsmUpDxIdeal.nD Cert.SsmUpDxIdeal.τ).loc Cert.SsmUpDxIdeal.main_arg1)) →
    ∃ (v0 : (c : Dev Cert.SsmUpDxIdeal.nD) → Buf (Elt Ideal) ((c.tc : Thread Cert.SsmUpDxIdeal.nD Cert.SsmUpDxIdeal.τ).loc Cert.SsmUpDxIdeal.main_v0)),
      θ_run (Cert.SsmUpDxIdeal.defs (F := Ideal)) (onTc (τ := Cert.SsmUpDxIdeal.τ) (Cert.SsmUpDxIdeal.main (F := Ideal))) ⟨m, fun _ => 0, g⟩ (fun r => ∀ c : Dev Cert.SsmUpDxIdeal.nD,
          r.2.mem ((c.tc : Thread Cert.SsmUpDxIdeal.nD Cert.SsmUpDxIdeal.τ).loc Cert.SsmUpDxIdeal.main_v0) = v0 c
          ∧ r.2.mem ((c.tc : Thread Cert.SsmUpDxIdeal.nD Cert.SsmUpDxIdeal.τ).loc Cert.SsmUpDxIdeal.main_arg0) = m ((c.tc : Thread Cert.SsmUpDxIdeal.nD Cert.SsmUpDxIdeal.τ).loc Cert.SsmUpDxIdeal.main_arg0)
          ∧ r.2.mem ((c.tc : Thread Cert.SsmUpDxIdeal.nD Cert.SsmUpDxIdeal.τ).loc Cert.SsmUpDxIdeal.main_arg1) = m ((c.tc : Thread Cert.SsmUpDxIdeal.nD Cert.SsmUpDxIdeal.τ).loc Cert.SsmUpDxIdeal.main_arg1))
      ∧ θ_run (Cert.SsmUpDxRefIdeal.defs (F := Ideal)) (onTc (τ := Cert.SsmUpDxRefIdeal.τ) (Cert.SsmUpDxRefIdeal.main (F := Ideal))) ⟨m', fun _ => 0, g'⟩ (fun r => ∀ c : Dev Cert.SsmUpDxRefIdeal.nD,
          r.2.mem ((c.tc : Thread Cert.SsmUpDxRefIdeal.nD Cert.SsmUpDxRefIdeal.τ).loc Cert.SsmUpDxRefIdeal.main_v5) = v0 c
          ∧ r.2.mem ((c.tc : Thread Cert.SsmUpDxRefIdeal.nD Cert.SsmUpDxRefIdeal.τ).loc Cert.SsmUpDxRefIdeal.main_arg0) = m' ((c.tc : Thread Cert.SsmUpDxRefIdeal.nD Cert.SsmUpDxRefIdeal.τ).loc Cert.SsmUpDxRefIdeal.main_arg0)
          ∧ r.2.mem ((c.tc : Thread Cert.SsmUpDxRefIdeal.nD Cert.SsmUpDxRefIdeal.τ).loc Cert.SsmUpDxRefIdeal.main_arg1) = m' ((c.tc : Thread Cert.SsmUpDxRefIdeal.nD Cert.SsmUpDxRefIdeal.τ).loc Cert.SsmUpDxRefIdeal.main_arg1))

def preserves_GdnUpDx_GdnUpDxIdeal : Prop :=
  True

def algebraic_GdnUpDxIdeal_GdnUpDxRefIdeal [hGdnUpDxIdeal : Cert.GdnUpDxIdeal.Facts] [hGdnUpDxRefIdeal : Cert.GdnUpDxRefIdeal.Facts] : Prop :=
  ∀ (m : (ℓ : Loc Cert.GdnUpDxIdeal.nD Cert.GdnUpDxIdeal.τ Cert.GdnUpDxIdeal.sig) → Buf (Elt Ideal) ℓ) (g : Dev Cert.GdnUpDxIdeal.nD → PrngReg)
    (m' : (ℓ : Loc Cert.GdnUpDxRefIdeal.nD Cert.GdnUpDxRefIdeal.τ Cert.GdnUpDxRefIdeal.sig) → Buf (Elt Ideal) ℓ) (g' : Dev Cert.GdnUpDxRefIdeal.nD → PrngReg), Pre_GdnUpDxIdeal m →
    (∀ c : Dev Cert.GdnUpDxIdeal.nD,
      m' ((c.tc : Thread Cert.GdnUpDxRefIdeal.nD Cert.GdnUpDxRefIdeal.τ).loc Cert.GdnUpDxRefIdeal.main_arg0) = m ((c.tc : Thread Cert.GdnUpDxIdeal.nD Cert.GdnUpDxIdeal.τ).loc Cert.GdnUpDxIdeal.main_arg0)
      ∧ m' ((c.tc : Thread Cert.GdnUpDxRefIdeal.nD Cert.GdnUpDxRefIdeal.τ).loc Cert.GdnUpDxRefIdeal.main_arg1) = m ((c.tc : Thread Cert.GdnUpDxIdeal.nD Cert.GdnUpDxIdeal.τ).loc Cert.GdnUpDxIdeal.main_arg1)) →
    ∃ (v0 : (c : Dev Cert.GdnUpDxIdeal.nD) → Buf (Elt Ideal) ((c.tc : Thread Cert.GdnUpDxIdeal.nD Cert.GdnUpDxIdeal.τ).loc Cert.GdnUpDxIdeal.main_v0)),
      θ_run (Cert.GdnUpDxIdeal.defs (F := Ideal)) (onTc (τ := Cert.GdnUpDxIdeal.τ) (Cert.GdnUpDxIdeal.main (F := Ideal))) ⟨m, fun _ => 0, g⟩ (fun r => ∀ c : Dev Cert.GdnUpDxIdeal.nD,
          r.2.mem ((c.tc : Thread Cert.GdnUpDxIdeal.nD Cert.GdnUpDxIdeal.τ).loc Cert.GdnUpDxIdeal.main_v0) = v0 c
          ∧ r.2.mem ((c.tc : Thread Cert.GdnUpDxIdeal.nD Cert.GdnUpDxIdeal.τ).loc Cert.GdnUpDxIdeal.main_arg0) = m ((c.tc : Thread Cert.GdnUpDxIdeal.nD Cert.GdnUpDxIdeal.τ).loc Cert.GdnUpDxIdeal.main_arg0)
          ∧ r.2.mem ((c.tc : Thread Cert.GdnUpDxIdeal.nD Cert.GdnUpDxIdeal.τ).loc Cert.GdnUpDxIdeal.main_arg1) = m ((c.tc : Thread Cert.GdnUpDxIdeal.nD Cert.GdnUpDxIdeal.τ).loc Cert.GdnUpDxIdeal.main_arg1))
      ∧ θ_run (Cert.GdnUpDxRefIdeal.defs (F := Ideal)) (onTc (τ := Cert.GdnUpDxRefIdeal.τ) (Cert.GdnUpDxRefIdeal.main (F := Ideal))) ⟨m', fun _ => 0, g'⟩ (fun r => ∀ c : Dev Cert.GdnUpDxRefIdeal.nD,
          r.2.mem ((c.tc : Thread Cert.GdnUpDxRefIdeal.nD Cert.GdnUpDxRefIdeal.τ).loc Cert.GdnUpDxRefIdeal.main_v5) = v0 c
          ∧ r.2.mem ((c.tc : Thread Cert.GdnUpDxRefIdeal.nD Cert.GdnUpDxRefIdeal.τ).loc Cert.GdnUpDxRefIdeal.main_arg0) = m' ((c.tc : Thread Cert.GdnUpDxRefIdeal.nD Cert.GdnUpDxRefIdeal.τ).loc Cert.GdnUpDxRefIdeal.main_arg0)
          ∧ r.2.mem ((c.tc : Thread Cert.GdnUpDxRefIdeal.nD Cert.GdnUpDxRefIdeal.τ).loc Cert.GdnUpDxRefIdeal.main_arg1) = m' ((c.tc : Thread Cert.GdnUpDxRefIdeal.nD Cert.GdnUpDxRefIdeal.τ).loc Cert.GdnUpDxRefIdeal.main_arg1))

def preserves_GdnUpDw_GdnUpDwIdeal : Prop :=
  True

def algebraic_GdnUpDwIdeal_GdnUpDwRefIdeal [hGdnUpDwIdeal : Cert.GdnUpDwIdeal.Facts] [hGdnUpDwRefIdeal : Cert.GdnUpDwRefIdeal.Facts] : Prop :=
  ∀ (m : (ℓ : Loc Cert.GdnUpDwIdeal.nD Cert.GdnUpDwIdeal.τ Cert.GdnUpDwIdeal.sig) → Buf (Elt Ideal) ℓ) (g : Dev Cert.GdnUpDwIdeal.nD → PrngReg)
    (m' : (ℓ : Loc Cert.GdnUpDwRefIdeal.nD Cert.GdnUpDwRefIdeal.τ Cert.GdnUpDwRefIdeal.sig) → Buf (Elt Ideal) ℓ) (g' : Dev Cert.GdnUpDwRefIdeal.nD → PrngReg), Pre_GdnUpDwIdeal m →
    (∀ c : Dev Cert.GdnUpDwIdeal.nD,
      m' ((c.tc : Thread Cert.GdnUpDwRefIdeal.nD Cert.GdnUpDwRefIdeal.τ).loc Cert.GdnUpDwRefIdeal.main_arg0) = m ((c.tc : Thread Cert.GdnUpDwIdeal.nD Cert.GdnUpDwIdeal.τ).loc Cert.GdnUpDwIdeal.main_arg0)
      ∧ m' ((c.tc : Thread Cert.GdnUpDwRefIdeal.nD Cert.GdnUpDwRefIdeal.τ).loc Cert.GdnUpDwRefIdeal.main_arg1) = m ((c.tc : Thread Cert.GdnUpDwIdeal.nD Cert.GdnUpDwIdeal.τ).loc Cert.GdnUpDwIdeal.main_arg1)) →
    ∃ (v0 : (c : Dev Cert.GdnUpDwIdeal.nD) → Buf (Elt Ideal) ((c.tc : Thread Cert.GdnUpDwIdeal.nD Cert.GdnUpDwIdeal.τ).loc Cert.GdnUpDwIdeal.main_v0)),
      θ_run (Cert.GdnUpDwIdeal.defs (F := Ideal)) (onTc (τ := Cert.GdnUpDwIdeal.τ) (Cert.GdnUpDwIdeal.main (F := Ideal))) ⟨m, fun _ => 0, g⟩ (fun r => ∀ c : Dev Cert.GdnUpDwIdeal.nD,
          r.2.mem ((c.tc : Thread Cert.GdnUpDwIdeal.nD Cert.GdnUpDwIdeal.τ).loc Cert.GdnUpDwIdeal.main_v0) = v0 c
          ∧ r.2.mem ((c.tc : Thread Cert.GdnUpDwIdeal.nD Cert.GdnUpDwIdeal.τ).loc Cert.GdnUpDwIdeal.main_arg0) = m ((c.tc : Thread Cert.GdnUpDwIdeal.nD Cert.GdnUpDwIdeal.τ).loc Cert.GdnUpDwIdeal.main_arg0)
          ∧ r.2.mem ((c.tc : Thread Cert.GdnUpDwIdeal.nD Cert.GdnUpDwIdeal.τ).loc Cert.GdnUpDwIdeal.main_arg1) = m ((c.tc : Thread Cert.GdnUpDwIdeal.nD Cert.GdnUpDwIdeal.τ).loc Cert.GdnUpDwIdeal.main_arg1))
      ∧ θ_run (Cert.GdnUpDwRefIdeal.defs (F := Ideal)) (onTc (τ := Cert.GdnUpDwRefIdeal.τ) (Cert.GdnUpDwRefIdeal.main (F := Ideal))) ⟨m', fun _ => 0, g'⟩ (fun r => ∀ c : Dev Cert.GdnUpDwRefIdeal.nD,
          r.2.mem ((c.tc : Thread Cert.GdnUpDwRefIdeal.nD Cert.GdnUpDwRefIdeal.τ).loc Cert.GdnUpDwRefIdeal.main_v5) = v0 c
          ∧ r.2.mem ((c.tc : Thread Cert.GdnUpDwRefIdeal.nD Cert.GdnUpDwRefIdeal.τ).loc Cert.GdnUpDwRefIdeal.main_arg0) = m' ((c.tc : Thread Cert.GdnUpDwRefIdeal.nD Cert.GdnUpDwRefIdeal.τ).loc Cert.GdnUpDwRefIdeal.main_arg0)
          ∧ r.2.mem ((c.tc : Thread Cert.GdnUpDwRefIdeal.nD Cert.GdnUpDwRefIdeal.τ).loc Cert.GdnUpDwRefIdeal.main_arg1) = m' ((c.tc : Thread Cert.GdnUpDwRefIdeal.nD Cert.GdnUpDwRefIdeal.τ).loc Cert.GdnUpDwRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v4) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v5) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_SsmUpDw_SsmUpDwIdeal : Prop :=
  True

def algebraic_SsmUpDwIdeal_SsmUpDwRefIdeal [hSsmUpDwIdeal : Cert.SsmUpDwIdeal.Facts] [hSsmUpDwRefIdeal : Cert.SsmUpDwRefIdeal.Facts] : Prop :=
  ∀ (m : (ℓ : Loc Cert.SsmUpDwIdeal.nD Cert.SsmUpDwIdeal.τ Cert.SsmUpDwIdeal.sig) → Buf (Elt Ideal) ℓ) (g : Dev Cert.SsmUpDwIdeal.nD → PrngReg)
    (m' : (ℓ : Loc Cert.SsmUpDwRefIdeal.nD Cert.SsmUpDwRefIdeal.τ Cert.SsmUpDwRefIdeal.sig) → Buf (Elt Ideal) ℓ) (g' : Dev Cert.SsmUpDwRefIdeal.nD → PrngReg), Pre_SsmUpDwIdeal m →
    (∀ c : Dev Cert.SsmUpDwIdeal.nD,
      m' ((c.tc : Thread Cert.SsmUpDwRefIdeal.nD Cert.SsmUpDwRefIdeal.τ).loc Cert.SsmUpDwRefIdeal.main_arg0) = m ((c.tc : Thread Cert.SsmUpDwIdeal.nD Cert.SsmUpDwIdeal.τ).loc Cert.SsmUpDwIdeal.main_arg0)
      ∧ m' ((c.tc : Thread Cert.SsmUpDwRefIdeal.nD Cert.SsmUpDwRefIdeal.τ).loc Cert.SsmUpDwRefIdeal.main_arg1) = m ((c.tc : Thread Cert.SsmUpDwIdeal.nD Cert.SsmUpDwIdeal.τ).loc Cert.SsmUpDwIdeal.main_arg1)) →
    ∃ (v0 : (c : Dev Cert.SsmUpDwIdeal.nD) → Buf (Elt Ideal) ((c.tc : Thread Cert.SsmUpDwIdeal.nD Cert.SsmUpDwIdeal.τ).loc Cert.SsmUpDwIdeal.main_v0)),
      θ_run (Cert.SsmUpDwIdeal.defs (F := Ideal)) (onTc (τ := Cert.SsmUpDwIdeal.τ) (Cert.SsmUpDwIdeal.main (F := Ideal))) ⟨m, fun _ => 0, g⟩ (fun r => ∀ c : Dev Cert.SsmUpDwIdeal.nD,
          r.2.mem ((c.tc : Thread Cert.SsmUpDwIdeal.nD Cert.SsmUpDwIdeal.τ).loc Cert.SsmUpDwIdeal.main_v0) = v0 c
          ∧ r.2.mem ((c.tc : Thread Cert.SsmUpDwIdeal.nD Cert.SsmUpDwIdeal.τ).loc Cert.SsmUpDwIdeal.main_arg0) = m ((c.tc : Thread Cert.SsmUpDwIdeal.nD Cert.SsmUpDwIdeal.τ).loc Cert.SsmUpDwIdeal.main_arg0)
          ∧ r.2.mem ((c.tc : Thread Cert.SsmUpDwIdeal.nD Cert.SsmUpDwIdeal.τ).loc Cert.SsmUpDwIdeal.main_arg1) = m ((c.tc : Thread Cert.SsmUpDwIdeal.nD Cert.SsmUpDwIdeal.τ).loc Cert.SsmUpDwIdeal.main_arg1))
      ∧ θ_run (Cert.SsmUpDwRefIdeal.defs (F := Ideal)) (onTc (τ := Cert.SsmUpDwRefIdeal.τ) (Cert.SsmUpDwRefIdeal.main (F := Ideal))) ⟨m', fun _ => 0, g'⟩ (fun r => ∀ c : Dev Cert.SsmUpDwRefIdeal.nD,
          r.2.mem ((c.tc : Thread Cert.SsmUpDwRefIdeal.nD Cert.SsmUpDwRefIdeal.τ).loc Cert.SsmUpDwRefIdeal.main_v5) = v0 c
          ∧ r.2.mem ((c.tc : Thread Cert.SsmUpDwRefIdeal.nD Cert.SsmUpDwRefIdeal.τ).loc Cert.SsmUpDwRefIdeal.main_arg0) = m' ((c.tc : Thread Cert.SsmUpDwRefIdeal.nD Cert.SsmUpDwRefIdeal.τ).loc Cert.SsmUpDwRefIdeal.main_arg0)
          ∧ r.2.mem ((c.tc : Thread Cert.SsmUpDwRefIdeal.nD Cert.SsmUpDwRefIdeal.τ).loc Cert.SsmUpDwRefIdeal.main_arg1) = m' ((c.tc : Thread Cert.SsmUpDwRefIdeal.nD Cert.SsmUpDwRefIdeal.τ).loc Cert.SsmUpDwRefIdeal.main_arg1))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v4) = v0 c
          ∧ r.2.mem ((c.tc : Thread Cert.AdaBwdRefIdeal.nD Cert.AdaBwdRefIdeal.τ).loc Cert.AdaBwdRefIdeal.main_v8) = v1 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2))

def preserves_PremixBwd_PremixBwdIdeal : Prop :=
  True

def algebraic_PremixBwdIdeal_PremixBwdRefIdeal [hPremixBwdIdeal : Cert.PremixBwdIdeal.Facts] [hPremixBwdRefIdeal : Cert.PremixBwdRefIdeal.Facts] : Prop :=
  ∀ (m : (ℓ : Loc Cert.PremixBwdIdeal.nD Cert.PremixBwdIdeal.τ Cert.PremixBwdIdeal.sig) → Buf (Elt Ideal) ℓ) (g : Dev Cert.PremixBwdIdeal.nD → PrngReg)
    (m' : (ℓ : Loc Cert.PremixBwdRefIdeal.nD Cert.PremixBwdRefIdeal.τ Cert.PremixBwdRefIdeal.sig) → Buf (Elt Ideal) ℓ) (g' : Dev Cert.PremixBwdRefIdeal.nD → PrngReg), Pre_PremixBwdIdeal m →
    (∀ c : Dev Cert.PremixBwdIdeal.nD,
      m' ((c.tc : Thread Cert.PremixBwdRefIdeal.nD Cert.PremixBwdRefIdeal.τ).loc Cert.PremixBwdRefIdeal.main_arg0) = m ((c.tc : Thread Cert.PremixBwdIdeal.nD Cert.PremixBwdIdeal.τ).loc Cert.PremixBwdIdeal.main_arg0)
      ∧ m' ((c.tc : Thread Cert.PremixBwdRefIdeal.nD Cert.PremixBwdRefIdeal.τ).loc Cert.PremixBwdRefIdeal.main_arg1) = m ((c.tc : Thread Cert.PremixBwdIdeal.nD Cert.PremixBwdIdeal.τ).loc Cert.PremixBwdIdeal.main_arg1)
      ∧ m' ((c.tc : Thread Cert.PremixBwdRefIdeal.nD Cert.PremixBwdRefIdeal.τ).loc Cert.PremixBwdRefIdeal.main_arg2) = m ((c.tc : Thread Cert.PremixBwdIdeal.nD Cert.PremixBwdIdeal.τ).loc Cert.PremixBwdIdeal.main_arg2)
      ∧ m' ((c.tc : Thread Cert.PremixBwdRefIdeal.nD Cert.PremixBwdRefIdeal.τ).loc Cert.PremixBwdRefIdeal.main_arg3) = m ((c.tc : Thread Cert.PremixBwdIdeal.nD Cert.PremixBwdIdeal.τ).loc Cert.PremixBwdIdeal.main_arg3)
      ∧ m' ((c.tc : Thread Cert.PremixBwdRefIdeal.nD Cert.PremixBwdRefIdeal.τ).loc Cert.PremixBwdRefIdeal.main_arg4) = m ((c.tc : Thread Cert.PremixBwdIdeal.nD Cert.PremixBwdIdeal.τ).loc Cert.PremixBwdIdeal.main_arg4)
      ∧ m' ((c.tc : Thread Cert.PremixBwdRefIdeal.nD Cert.PremixBwdRefIdeal.τ).loc Cert.PremixBwdRefIdeal.main_arg5) = m ((c.tc : Thread Cert.PremixBwdIdeal.nD Cert.PremixBwdIdeal.τ).loc Cert.PremixBwdIdeal.main_arg5)) →
    ∃ (v0 : (c : Dev Cert.PremixBwdIdeal.nD) → Buf (Elt Ideal) ((c.tc : Thread Cert.PremixBwdIdeal.nD Cert.PremixBwdIdeal.τ).loc Cert.PremixBwdIdeal.main_v0_0)) (v1 : (c : Dev Cert.PremixBwdIdeal.nD) → Buf (Elt Ideal) ((c.tc : Thread Cert.PremixBwdIdeal.nD Cert.PremixBwdIdeal.τ).loc Cert.PremixBwdIdeal.main_v0_1)) (v2 : (c : Dev Cert.PremixBwdIdeal.nD) → Buf (Elt Ideal) ((c.tc : Thread Cert.PremixBwdIdeal.nD Cert.PremixBwdIdeal.τ).loc Cert.PremixBwdIdeal.main_v0_2)) (v3 : (c : Dev Cert.PremixBwdIdeal.nD) → Buf (Elt Ideal) ((c.tc : Thread Cert.PremixBwdIdeal.nD Cert.PremixBwdIdeal.τ).loc Cert.PremixBwdIdeal.main_v0_3)),
      θ_run (Cert.PremixBwdIdeal.defs (F := Ideal)) (onTc (τ := Cert.PremixBwdIdeal.τ) (Cert.PremixBwdIdeal.main (F := Ideal))) ⟨m, fun _ => 0, g⟩ (fun r => ∀ c : Dev Cert.PremixBwdIdeal.nD,
          r.2.mem ((c.tc : Thread Cert.PremixBwdIdeal.nD Cert.PremixBwdIdeal.τ).loc Cert.PremixBwdIdeal.main_v0_0) = v0 c
          ∧ r.2.mem ((c.tc : Thread Cert.PremixBwdIdeal.nD Cert.PremixBwdIdeal.τ).loc Cert.PremixBwdIdeal.main_v0_1) = v1 c
          ∧ r.2.mem ((c.tc : Thread Cert.PremixBwdIdeal.nD Cert.PremixBwdIdeal.τ).loc Cert.PremixBwdIdeal.main_v0_2) = v2 c
          ∧ r.2.mem ((c.tc : Thread Cert.PremixBwdIdeal.nD Cert.PremixBwdIdeal.τ).loc Cert.PremixBwdIdeal.main_v0_3) = v3 c
          ∧ r.2.mem ((c.tc : Thread Cert.PremixBwdIdeal.nD Cert.PremixBwdIdeal.τ).loc Cert.PremixBwdIdeal.main_arg0) = m ((c.tc : Thread Cert.PremixBwdIdeal.nD Cert.PremixBwdIdeal.τ).loc Cert.PremixBwdIdeal.main_arg0)
          ∧ r.2.mem ((c.tc : Thread Cert.PremixBwdIdeal.nD Cert.PremixBwdIdeal.τ).loc Cert.PremixBwdIdeal.main_arg1) = m ((c.tc : Thread Cert.PremixBwdIdeal.nD Cert.PremixBwdIdeal.τ).loc Cert.PremixBwdIdeal.main_arg1)
          ∧ r.2.mem ((c.tc : Thread Cert.PremixBwdIdeal.nD Cert.PremixBwdIdeal.τ).loc Cert.PremixBwdIdeal.main_arg2) = m ((c.tc : Thread Cert.PremixBwdIdeal.nD Cert.PremixBwdIdeal.τ).loc Cert.PremixBwdIdeal.main_arg2)
          ∧ r.2.mem ((c.tc : Thread Cert.PremixBwdIdeal.nD Cert.PremixBwdIdeal.τ).loc Cert.PremixBwdIdeal.main_arg3) = m ((c.tc : Thread Cert.PremixBwdIdeal.nD Cert.PremixBwdIdeal.τ).loc Cert.PremixBwdIdeal.main_arg3)
          ∧ r.2.mem ((c.tc : Thread Cert.PremixBwdIdeal.nD Cert.PremixBwdIdeal.τ).loc Cert.PremixBwdIdeal.main_arg4) = m ((c.tc : Thread Cert.PremixBwdIdeal.nD Cert.PremixBwdIdeal.τ).loc Cert.PremixBwdIdeal.main_arg4)
          ∧ r.2.mem ((c.tc : Thread Cert.PremixBwdIdeal.nD Cert.PremixBwdIdeal.τ).loc Cert.PremixBwdIdeal.main_arg5) = m ((c.tc : Thread Cert.PremixBwdIdeal.nD Cert.PremixBwdIdeal.τ).loc Cert.PremixBwdIdeal.main_arg5))
      ∧ θ_run (Cert.PremixBwdRefIdeal.defs (F := Ideal)) (onTc (τ := Cert.PremixBwdRefIdeal.τ) (Cert.PremixBwdRefIdeal.main (F := Ideal))) ⟨m', fun _ => 0, g'⟩ (fun r => ∀ c : Dev Cert.PremixBwdRefIdeal.nD,
          r.2.mem ((c.tc : Thread Cert.PremixBwdRefIdeal.nD Cert.PremixBwdRefIdeal.τ).loc Cert.PremixBwdRefIdeal.main_v48) = v0 c
          ∧ r.2.mem ((c.tc : Thread Cert.PremixBwdRefIdeal.nD Cert.PremixBwdRefIdeal.τ).loc Cert.PremixBwdRefIdeal.main_v31) = v1 c
          ∧ r.2.mem ((c.tc : Thread Cert.PremixBwdRefIdeal.nD Cert.PremixBwdRefIdeal.τ).loc Cert.PremixBwdRefIdeal.main_v26) = v2 c
          ∧ r.2.mem ((c.tc : Thread Cert.PremixBwdRefIdeal.nD Cert.PremixBwdRefIdeal.τ).loc Cert.PremixBwdRefIdeal.main_v23) = v3 c
          ∧ r.2.mem ((c.tc : Thread Cert.PremixBwdRefIdeal.nD Cert.PremixBwdRefIdeal.τ).loc Cert.PremixBwdRefIdeal.main_arg0) = m' ((c.tc : Thread Cert.PremixBwdRefIdeal.nD Cert.PremixBwdRefIdeal.τ).loc Cert.PremixBwdRefIdeal.main_arg0)
          ∧ r.2.mem ((c.tc : Thread Cert.PremixBwdRefIdeal.nD Cert.PremixBwdRefIdeal.τ).loc Cert.PremixBwdRefIdeal.main_arg1) = m' ((c.tc : Thread Cert.PremixBwdRefIdeal.nD Cert.PremixBwdRefIdeal.τ).loc Cert.PremixBwdRefIdeal.main_arg1)
          ∧ r.2.mem ((c.tc : Thread Cert.PremixBwdRefIdeal.nD Cert.PremixBwdRefIdeal.τ).loc Cert.PremixBwdRefIdeal.main_arg2) = m' ((c.tc : Thread Cert.PremixBwdRefIdeal.nD Cert.PremixBwdRefIdeal.τ).loc Cert.PremixBwdRefIdeal.main_arg2)
          ∧ r.2.mem ((c.tc : Thread Cert.PremixBwdRefIdeal.nD Cert.PremixBwdRefIdeal.τ).loc Cert.PremixBwdRefIdeal.main_arg3) = m' ((c.tc : Thread Cert.PremixBwdRefIdeal.nD Cert.PremixBwdRefIdeal.τ).loc Cert.PremixBwdRefIdeal.main_arg3)
          ∧ r.2.mem ((c.tc : Thread Cert.PremixBwdRefIdeal.nD Cert.PremixBwdRefIdeal.τ).loc Cert.PremixBwdRefIdeal.main_arg4) = m' ((c.tc : Thread Cert.PremixBwdRefIdeal.nD Cert.PremixBwdRefIdeal.τ).loc Cert.PremixBwdRefIdeal.main_arg4)
          ∧ r.2.mem ((c.tc : Thread Cert.PremixBwdRefIdeal.nD Cert.PremixBwdRefIdeal.τ).loc Cert.PremixBwdRefIdeal.main_arg5) = m' ((c.tc : Thread Cert.PremixBwdRefIdeal.nD Cert.PremixBwdRefIdeal.τ).loc Cert.PremixBwdRefIdeal.main_arg5))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v5) = v1 c
          ∧ r.2.mem ((c.tc : Thread Cert.AdamAdaRefIdeal.nD Cert.AdamAdaRefIdeal.τ).loc Cert.AdamAdaRefIdeal.main_v11) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v24) = v0 c
          ∧ r.2.mem ((c.tc : Thread Cert.AdamSmallRefIdeal.nD Cert.AdamSmallRefIdeal.τ).loc Cert.AdamSmallRefIdeal.main_v5) = v1 c
          ∧ r.2.mem ((c.tc : Thread Cert.AdamSmallRefIdeal.nD Cert.AdamSmallRefIdeal.τ).loc Cert.AdamSmallRefIdeal.main_v11) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)
      ∧ m' ((c.tc : Thread Cert.AdamWInRefIdeal.nD Cert.AdamWInRefIdeal.τ).loc Cert.AdamWInRefIdeal.main_arg5) = m ((c.tc : Thread Cert.AdamWInIdeal.nD Cert.AdamWInIdeal.τ).loc Cert.AdamWInIdeal.main_arg5)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4)
          ∧ r.2.mem ((c.tc : Thread Cert.AdamWInIdeal.nD Cert.AdamWInIdeal.τ).loc Cert.AdamWInIdeal.main_arg5) = m ((c.tc : Thread Cert.AdamWInIdeal.nD Cert.AdamWInIdeal.τ).loc Cert.AdamWInIdeal.main_arg5))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v9) = v0 c
          ∧ r.2.mem ((c.tc : Thread Cert.AdamWInRefIdeal.nD Cert.AdamWInRefIdeal.τ).loc Cert.AdamWInRefIdeal.main_v33) = v1 c
          ∧ r.2.mem ((c.tc : Thread Cert.AdamWInRefIdeal.nD Cert.AdamWInRefIdeal.τ).loc Cert.AdamWInRefIdeal.main_v14) = v2 c
          ∧ r.2.mem ((c.tc : Thread Cert.AdamWInRefIdeal.nD Cert.AdamWInRefIdeal.τ).loc Cert.AdamWInRefIdeal.main_v20) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4)
          ∧ r.2.mem ((c.tc : Thread Cert.AdamWInRefIdeal.nD Cert.AdamWInRefIdeal.τ).loc Cert.AdamWInRefIdeal.main_arg5) = m' ((c.tc : Thread Cert.AdamWInRefIdeal.nD Cert.AdamWInRefIdeal.τ).loc Cert.AdamWInRefIdeal.main_arg5))

def preserves_AdamSsmUp_AdamSsmUpIdeal : Prop :=
  True

def algebraic_AdamSsmUpIdeal_AdamSsmUpRefIdeal [hAdamSsmUpIdeal : Cert.AdamSsmUpIdeal.Facts] [hAdamSsmUpRefIdeal : Cert.AdamSsmUpRefIdeal.Facts] : Prop :=
  ∀ (m : (ℓ : Loc Cert.AdamSsmUpIdeal.nD Cert.AdamSsmUpIdeal.τ Cert.AdamSsmUpIdeal.sig) → Buf (Elt Ideal) ℓ) (g : Dev Cert.AdamSsmUpIdeal.nD → PrngReg)
    (m' : (ℓ : Loc Cert.AdamSsmUpRefIdeal.nD Cert.AdamSsmUpRefIdeal.τ Cert.AdamSsmUpRefIdeal.sig) → Buf (Elt Ideal) ℓ) (g' : Dev Cert.AdamSsmUpRefIdeal.nD → PrngReg), Pre_AdamSsmUpIdeal m →
    (∀ c : Dev Cert.AdamSsmUpIdeal.nD,
      m' ((c.tc : Thread Cert.AdamSsmUpRefIdeal.nD Cert.AdamSsmUpRefIdeal.τ).loc Cert.AdamSsmUpRefIdeal.main_arg0) = m ((c.tc : Thread Cert.AdamSsmUpIdeal.nD Cert.AdamSsmUpIdeal.τ).loc Cert.AdamSsmUpIdeal.main_arg0)
      ∧ m' ((c.tc : Thread Cert.AdamSsmUpRefIdeal.nD Cert.AdamSsmUpRefIdeal.τ).loc Cert.AdamSsmUpRefIdeal.main_arg1) = m ((c.tc : Thread Cert.AdamSsmUpIdeal.nD Cert.AdamSsmUpIdeal.τ).loc Cert.AdamSsmUpIdeal.main_arg1)
      ∧ m' ((c.tc : Thread Cert.AdamSsmUpRefIdeal.nD Cert.AdamSsmUpRefIdeal.τ).loc Cert.AdamSsmUpRefIdeal.main_arg2) = m ((c.tc : Thread Cert.AdamSsmUpIdeal.nD Cert.AdamSsmUpIdeal.τ).loc Cert.AdamSsmUpIdeal.main_arg2)
      ∧ m' ((c.tc : Thread Cert.AdamSsmUpRefIdeal.nD Cert.AdamSsmUpRefIdeal.τ).loc Cert.AdamSsmUpRefIdeal.main_arg3) = m ((c.tc : Thread Cert.AdamSsmUpIdeal.nD Cert.AdamSsmUpIdeal.τ).loc Cert.AdamSsmUpIdeal.main_arg3)
      ∧ m' ((c.tc : Thread Cert.AdamSsmUpRefIdeal.nD Cert.AdamSsmUpRefIdeal.τ).loc Cert.AdamSsmUpRefIdeal.main_arg4) = m ((c.tc : Thread Cert.AdamSsmUpIdeal.nD Cert.AdamSsmUpIdeal.τ).loc Cert.AdamSsmUpIdeal.main_arg4)
      ∧ m' ((c.tc : Thread Cert.AdamSsmUpRefIdeal.nD Cert.AdamSsmUpRefIdeal.τ).loc Cert.AdamSsmUpRefIdeal.main_arg5) = m ((c.tc : Thread Cert.AdamSsmUpIdeal.nD Cert.AdamSsmUpIdeal.τ).loc Cert.AdamSsmUpIdeal.main_arg5)) →
    ∃ (v0 : (c : Dev Cert.AdamSsmUpIdeal.nD) → Buf (Elt Ideal) ((c.tc : Thread Cert.AdamSsmUpIdeal.nD Cert.AdamSsmUpIdeal.τ).loc Cert.AdamSsmUpIdeal.main_v0_0)) (v1 : (c : Dev Cert.AdamSsmUpIdeal.nD) → Buf (Elt Ideal) ((c.tc : Thread Cert.AdamSsmUpIdeal.nD Cert.AdamSsmUpIdeal.τ).loc Cert.AdamSsmUpIdeal.main_v0_1)) (v2 : (c : Dev Cert.AdamSsmUpIdeal.nD) → Buf (Elt Ideal) ((c.tc : Thread Cert.AdamSsmUpIdeal.nD Cert.AdamSsmUpIdeal.τ).loc Cert.AdamSsmUpIdeal.main_v0_2)) (v3 : (c : Dev Cert.AdamSsmUpIdeal.nD) → Buf (Elt Ideal) ((c.tc : Thread Cert.AdamSsmUpIdeal.nD Cert.AdamSsmUpIdeal.τ).loc Cert.AdamSsmUpIdeal.main_v0_3)),
      θ_run (Cert.AdamSsmUpIdeal.defs (F := Ideal)) (onTc (τ := Cert.AdamSsmUpIdeal.τ) (Cert.AdamSsmUpIdeal.main (F := Ideal))) ⟨m, fun _ => 0, g⟩ (fun r => ∀ c : Dev Cert.AdamSsmUpIdeal.nD,
          r.2.mem ((c.tc : Thread Cert.AdamSsmUpIdeal.nD Cert.AdamSsmUpIdeal.τ).loc Cert.AdamSsmUpIdeal.main_v0_0) = v0 c
          ∧ r.2.mem ((c.tc : Thread Cert.AdamSsmUpIdeal.nD Cert.AdamSsmUpIdeal.τ).loc Cert.AdamSsmUpIdeal.main_v0_1) = v1 c
          ∧ r.2.mem ((c.tc : Thread Cert.AdamSsmUpIdeal.nD Cert.AdamSsmUpIdeal.τ).loc Cert.AdamSsmUpIdeal.main_v0_2) = v2 c
          ∧ r.2.mem ((c.tc : Thread Cert.AdamSsmUpIdeal.nD Cert.AdamSsmUpIdeal.τ).loc Cert.AdamSsmUpIdeal.main_v0_3) = v3 c
          ∧ r.2.mem ((c.tc : Thread Cert.AdamSsmUpIdeal.nD Cert.AdamSsmUpIdeal.τ).loc Cert.AdamSsmUpIdeal.main_arg0) = m ((c.tc : Thread Cert.AdamSsmUpIdeal.nD Cert.AdamSsmUpIdeal.τ).loc Cert.AdamSsmUpIdeal.main_arg0)
          ∧ r.2.mem ((c.tc : Thread Cert.AdamSsmUpIdeal.nD Cert.AdamSsmUpIdeal.τ).loc Cert.AdamSsmUpIdeal.main_arg1) = m ((c.tc : Thread Cert.AdamSsmUpIdeal.nD Cert.AdamSsmUpIdeal.τ).loc Cert.AdamSsmUpIdeal.main_arg1)
          ∧ r.2.mem ((c.tc : Thread Cert.AdamSsmUpIdeal.nD Cert.AdamSsmUpIdeal.τ).loc Cert.AdamSsmUpIdeal.main_arg2) = m ((c.tc : Thread Cert.AdamSsmUpIdeal.nD Cert.AdamSsmUpIdeal.τ).loc Cert.AdamSsmUpIdeal.main_arg2)
          ∧ r.2.mem ((c.tc : Thread Cert.AdamSsmUpIdeal.nD Cert.AdamSsmUpIdeal.τ).loc Cert.AdamSsmUpIdeal.main_arg3) = m ((c.tc : Thread Cert.AdamSsmUpIdeal.nD Cert.AdamSsmUpIdeal.τ).loc Cert.AdamSsmUpIdeal.main_arg3)
          ∧ r.2.mem ((c.tc : Thread Cert.AdamSsmUpIdeal.nD Cert.AdamSsmUpIdeal.τ).loc Cert.AdamSsmUpIdeal.main_arg4) = m ((c.tc : Thread Cert.AdamSsmUpIdeal.nD Cert.AdamSsmUpIdeal.τ).loc Cert.AdamSsmUpIdeal.main_arg4)
          ∧ r.2.mem ((c.tc : Thread Cert.AdamSsmUpIdeal.nD Cert.AdamSsmUpIdeal.τ).loc Cert.AdamSsmUpIdeal.main_arg5) = m ((c.tc : Thread Cert.AdamSsmUpIdeal.nD Cert.AdamSsmUpIdeal.τ).loc Cert.AdamSsmUpIdeal.main_arg5))
      ∧ θ_run (Cert.AdamSsmUpRefIdeal.defs (F := Ideal)) (onTc (τ := Cert.AdamSsmUpRefIdeal.τ) (Cert.AdamSsmUpRefIdeal.main (F := Ideal))) ⟨m', fun _ => 0, g'⟩ (fun r => ∀ c : Dev Cert.AdamSsmUpRefIdeal.nD,
          r.2.mem ((c.tc : Thread Cert.AdamSsmUpRefIdeal.nD Cert.AdamSsmUpRefIdeal.τ).loc Cert.AdamSsmUpRefIdeal.main_v9) = v0 c
          ∧ r.2.mem ((c.tc : Thread Cert.AdamSsmUpRefIdeal.nD Cert.AdamSsmUpRefIdeal.τ).loc Cert.AdamSsmUpRefIdeal.main_v33) = v1 c
          ∧ r.2.mem ((c.tc : Thread Cert.AdamSsmUpRefIdeal.nD Cert.AdamSsmUpRefIdeal.τ).loc Cert.AdamSsmUpRefIdeal.main_v14) = v2 c
          ∧ r.2.mem ((c.tc : Thread Cert.AdamSsmUpRefIdeal.nD Cert.AdamSsmUpRefIdeal.τ).loc Cert.AdamSsmUpRefIdeal.main_v20) = v3 c
          ∧ r.2.mem ((c.tc : Thread Cert.AdamSsmUpRefIdeal.nD Cert.AdamSsmUpRefIdeal.τ).loc Cert.AdamSsmUpRefIdeal.main_arg0) = m' ((c.tc : Thread Cert.AdamSsmUpRefIdeal.nD Cert.AdamSsmUpRefIdeal.τ).loc Cert.AdamSsmUpRefIdeal.main_arg0)
          ∧ r.2.mem ((c.tc : Thread Cert.AdamSsmUpRefIdeal.nD Cert.AdamSsmUpRefIdeal.τ).loc Cert.AdamSsmUpRefIdeal.main_arg1) = m' ((c.tc : Thread Cert.AdamSsmUpRefIdeal.nD Cert.AdamSsmUpRefIdeal.τ).loc Cert.AdamSsmUpRefIdeal.main_arg1)
          ∧ r.2.mem ((c.tc : Thread Cert.AdamSsmUpRefIdeal.nD Cert.AdamSsmUpRefIdeal.τ).loc Cert.AdamSsmUpRefIdeal.main_arg2) = m' ((c.tc : Thread Cert.AdamSsmUpRefIdeal.nD Cert.AdamSsmUpRefIdeal.τ).loc Cert.AdamSsmUpRefIdeal.main_arg2)
          ∧ r.2.mem ((c.tc : Thread Cert.AdamSsmUpRefIdeal.nD Cert.AdamSsmUpRefIdeal.τ).loc Cert.AdamSsmUpRefIdeal.main_arg3) = m' ((c.tc : Thread Cert.AdamSsmUpRefIdeal.nD Cert.AdamSsmUpRefIdeal.τ).loc Cert.AdamSsmUpRefIdeal.main_arg3)
          ∧ r.2.mem ((c.tc : Thread Cert.AdamSsmUpRefIdeal.nD Cert.AdamSsmUpRefIdeal.τ).loc Cert.AdamSsmUpRefIdeal.main_arg4) = m' ((c.tc : Thread Cert.AdamSsmUpRefIdeal.nD Cert.AdamSsmUpRefIdeal.τ).loc Cert.AdamSsmUpRefIdeal.main_arg4)
          ∧ r.2.mem ((c.tc : Thread Cert.AdamSsmUpRefIdeal.nD Cert.AdamSsmUpRefIdeal.τ).loc Cert.AdamSsmUpRefIdeal.main_arg5) = m' ((c.tc : Thread Cert.AdamSsmUpRefIdeal.nD Cert.AdamSsmUpRefIdeal.τ).loc Cert.AdamSsmUpRefIdeal.main_arg5))

def preserves_AdamGdnUp_AdamGdnUpIdeal : Prop :=
  True

def algebraic_AdamGdnUpIdeal_AdamGdnUpRefIdeal [hAdamGdnUpIdeal : Cert.AdamGdnUpIdeal.Facts] [hAdamGdnUpRefIdeal : Cert.AdamGdnUpRefIdeal.Facts] : Prop :=
  ∀ (m : (ℓ : Loc Cert.AdamGdnUpIdeal.nD Cert.AdamGdnUpIdeal.τ Cert.AdamGdnUpIdeal.sig) → Buf (Elt Ideal) ℓ) (g : Dev Cert.AdamGdnUpIdeal.nD → PrngReg)
    (m' : (ℓ : Loc Cert.AdamGdnUpRefIdeal.nD Cert.AdamGdnUpRefIdeal.τ Cert.AdamGdnUpRefIdeal.sig) → Buf (Elt Ideal) ℓ) (g' : Dev Cert.AdamGdnUpRefIdeal.nD → PrngReg), Pre_AdamGdnUpIdeal m →
    (∀ c : Dev Cert.AdamGdnUpIdeal.nD,
      m' ((c.tc : Thread Cert.AdamGdnUpRefIdeal.nD Cert.AdamGdnUpRefIdeal.τ).loc Cert.AdamGdnUpRefIdeal.main_arg0) = m ((c.tc : Thread Cert.AdamGdnUpIdeal.nD Cert.AdamGdnUpIdeal.τ).loc Cert.AdamGdnUpIdeal.main_arg0)
      ∧ m' ((c.tc : Thread Cert.AdamGdnUpRefIdeal.nD Cert.AdamGdnUpRefIdeal.τ).loc Cert.AdamGdnUpRefIdeal.main_arg1) = m ((c.tc : Thread Cert.AdamGdnUpIdeal.nD Cert.AdamGdnUpIdeal.τ).loc Cert.AdamGdnUpIdeal.main_arg1)
      ∧ m' ((c.tc : Thread Cert.AdamGdnUpRefIdeal.nD Cert.AdamGdnUpRefIdeal.τ).loc Cert.AdamGdnUpRefIdeal.main_arg2) = m ((c.tc : Thread Cert.AdamGdnUpIdeal.nD Cert.AdamGdnUpIdeal.τ).loc Cert.AdamGdnUpIdeal.main_arg2)
      ∧ m' ((c.tc : Thread Cert.AdamGdnUpRefIdeal.nD Cert.AdamGdnUpRefIdeal.τ).loc Cert.AdamGdnUpRefIdeal.main_arg3) = m ((c.tc : Thread Cert.AdamGdnUpIdeal.nD Cert.AdamGdnUpIdeal.τ).loc Cert.AdamGdnUpIdeal.main_arg3)
      ∧ m' ((c.tc : Thread Cert.AdamGdnUpRefIdeal.nD Cert.AdamGdnUpRefIdeal.τ).loc Cert.AdamGdnUpRefIdeal.main_arg4) = m ((c.tc : Thread Cert.AdamGdnUpIdeal.nD Cert.AdamGdnUpIdeal.τ).loc Cert.AdamGdnUpIdeal.main_arg4)
      ∧ m' ((c.tc : Thread Cert.AdamGdnUpRefIdeal.nD Cert.AdamGdnUpRefIdeal.τ).loc Cert.AdamGdnUpRefIdeal.main_arg5) = m ((c.tc : Thread Cert.AdamGdnUpIdeal.nD Cert.AdamGdnUpIdeal.τ).loc Cert.AdamGdnUpIdeal.main_arg5)) →
    ∃ (v0 : (c : Dev Cert.AdamGdnUpIdeal.nD) → Buf (Elt Ideal) ((c.tc : Thread Cert.AdamGdnUpIdeal.nD Cert.AdamGdnUpIdeal.τ).loc Cert.AdamGdnUpIdeal.main_v0_0)) (v1 : (c : Dev Cert.AdamGdnUpIdeal.nD) → Buf (Elt Ideal) ((c.tc : Thread Cert.AdamGdnUpIdeal.nD Cert.AdamGdnUpIdeal.τ).loc Cert.AdamGdnUpIdeal.main_v0_1)) (v2 : (c : Dev Cert.AdamGdnUpIdeal.nD) → Buf (Elt Ideal) ((c.tc : Thread Cert.AdamGdnUpIdeal.nD Cert.AdamGdnUpIdeal.τ).loc Cert.AdamGdnUpIdeal.main_v0_2)) (v3 : (c : Dev Cert.AdamGdnUpIdeal.nD) → Buf (Elt Ideal) ((c.tc : Thread Cert.AdamGdnUpIdeal.nD Cert.AdamGdnUpIdeal.τ).loc Cert.AdamGdnUpIdeal.main_v0_3)),
      θ_run (Cert.AdamGdnUpIdeal.defs (F := Ideal)) (onTc (τ := Cert.AdamGdnUpIdeal.τ) (Cert.AdamGdnUpIdeal.main (F := Ideal))) ⟨m, fun _ => 0, g⟩ (fun r => ∀ c : Dev Cert.AdamGdnUpIdeal.nD,
          r.2.mem ((c.tc : Thread Cert.AdamGdnUpIdeal.nD Cert.AdamGdnUpIdeal.τ).loc Cert.AdamGdnUpIdeal.main_v0_0) = v0 c
          ∧ r.2.mem ((c.tc : Thread Cert.AdamGdnUpIdeal.nD Cert.AdamGdnUpIdeal.τ).loc Cert.AdamGdnUpIdeal.main_v0_1) = v1 c
          ∧ r.2.mem ((c.tc : Thread Cert.AdamGdnUpIdeal.nD Cert.AdamGdnUpIdeal.τ).loc Cert.AdamGdnUpIdeal.main_v0_2) = v2 c
          ∧ r.2.mem ((c.tc : Thread Cert.AdamGdnUpIdeal.nD Cert.AdamGdnUpIdeal.τ).loc Cert.AdamGdnUpIdeal.main_v0_3) = v3 c
          ∧ r.2.mem ((c.tc : Thread Cert.AdamGdnUpIdeal.nD Cert.AdamGdnUpIdeal.τ).loc Cert.AdamGdnUpIdeal.main_arg0) = m ((c.tc : Thread Cert.AdamGdnUpIdeal.nD Cert.AdamGdnUpIdeal.τ).loc Cert.AdamGdnUpIdeal.main_arg0)
          ∧ r.2.mem ((c.tc : Thread Cert.AdamGdnUpIdeal.nD Cert.AdamGdnUpIdeal.τ).loc Cert.AdamGdnUpIdeal.main_arg1) = m ((c.tc : Thread Cert.AdamGdnUpIdeal.nD Cert.AdamGdnUpIdeal.τ).loc Cert.AdamGdnUpIdeal.main_arg1)
          ∧ r.2.mem ((c.tc : Thread Cert.AdamGdnUpIdeal.nD Cert.AdamGdnUpIdeal.τ).loc Cert.AdamGdnUpIdeal.main_arg2) = m ((c.tc : Thread Cert.AdamGdnUpIdeal.nD Cert.AdamGdnUpIdeal.τ).loc Cert.AdamGdnUpIdeal.main_arg2)
          ∧ r.2.mem ((c.tc : Thread Cert.AdamGdnUpIdeal.nD Cert.AdamGdnUpIdeal.τ).loc Cert.AdamGdnUpIdeal.main_arg3) = m ((c.tc : Thread Cert.AdamGdnUpIdeal.nD Cert.AdamGdnUpIdeal.τ).loc Cert.AdamGdnUpIdeal.main_arg3)
          ∧ r.2.mem ((c.tc : Thread Cert.AdamGdnUpIdeal.nD Cert.AdamGdnUpIdeal.τ).loc Cert.AdamGdnUpIdeal.main_arg4) = m ((c.tc : Thread Cert.AdamGdnUpIdeal.nD Cert.AdamGdnUpIdeal.τ).loc Cert.AdamGdnUpIdeal.main_arg4)
          ∧ r.2.mem ((c.tc : Thread Cert.AdamGdnUpIdeal.nD Cert.AdamGdnUpIdeal.τ).loc Cert.AdamGdnUpIdeal.main_arg5) = m ((c.tc : Thread Cert.AdamGdnUpIdeal.nD Cert.AdamGdnUpIdeal.τ).loc Cert.AdamGdnUpIdeal.main_arg5))
      ∧ θ_run (Cert.AdamGdnUpRefIdeal.defs (F := Ideal)) (onTc (τ := Cert.AdamGdnUpRefIdeal.τ) (Cert.AdamGdnUpRefIdeal.main (F := Ideal))) ⟨m', fun _ => 0, g'⟩ (fun r => ∀ c : Dev Cert.AdamGdnUpRefIdeal.nD,
          r.2.mem ((c.tc : Thread Cert.AdamGdnUpRefIdeal.nD Cert.AdamGdnUpRefIdeal.τ).loc Cert.AdamGdnUpRefIdeal.main_v9) = v0 c
          ∧ r.2.mem ((c.tc : Thread Cert.AdamGdnUpRefIdeal.nD Cert.AdamGdnUpRefIdeal.τ).loc Cert.AdamGdnUpRefIdeal.main_v33) = v1 c
          ∧ r.2.mem ((c.tc : Thread Cert.AdamGdnUpRefIdeal.nD Cert.AdamGdnUpRefIdeal.τ).loc Cert.AdamGdnUpRefIdeal.main_v14) = v2 c
          ∧ r.2.mem ((c.tc : Thread Cert.AdamGdnUpRefIdeal.nD Cert.AdamGdnUpRefIdeal.τ).loc Cert.AdamGdnUpRefIdeal.main_v20) = v3 c
          ∧ r.2.mem ((c.tc : Thread Cert.AdamGdnUpRefIdeal.nD Cert.AdamGdnUpRefIdeal.τ).loc Cert.AdamGdnUpRefIdeal.main_arg0) = m' ((c.tc : Thread Cert.AdamGdnUpRefIdeal.nD Cert.AdamGdnUpRefIdeal.τ).loc Cert.AdamGdnUpRefIdeal.main_arg0)
          ∧ r.2.mem ((c.tc : Thread Cert.AdamGdnUpRefIdeal.nD Cert.AdamGdnUpRefIdeal.τ).loc Cert.AdamGdnUpRefIdeal.main_arg1) = m' ((c.tc : Thread Cert.AdamGdnUpRefIdeal.nD Cert.AdamGdnUpRefIdeal.τ).loc Cert.AdamGdnUpRefIdeal.main_arg1)
          ∧ r.2.mem ((c.tc : Thread Cert.AdamGdnUpRefIdeal.nD Cert.AdamGdnUpRefIdeal.τ).loc Cert.AdamGdnUpRefIdeal.main_arg2) = m' ((c.tc : Thread Cert.AdamGdnUpRefIdeal.nD Cert.AdamGdnUpRefIdeal.τ).loc Cert.AdamGdnUpRefIdeal.main_arg2)
          ∧ r.2.mem ((c.tc : Thread Cert.AdamGdnUpRefIdeal.nD Cert.AdamGdnUpRefIdeal.τ).loc Cert.AdamGdnUpRefIdeal.main_arg3) = m' ((c.tc : Thread Cert.AdamGdnUpRefIdeal.nD Cert.AdamGdnUpRefIdeal.τ).loc Cert.AdamGdnUpRefIdeal.main_arg3)
          ∧ r.2.mem ((c.tc : Thread Cert.AdamGdnUpRefIdeal.nD Cert.AdamGdnUpRefIdeal.τ).loc Cert.AdamGdnUpRefIdeal.main_arg4) = m' ((c.tc : Thread Cert.AdamGdnUpRefIdeal.nD Cert.AdamGdnUpRefIdeal.τ).loc Cert.AdamGdnUpRefIdeal.main_arg4)
          ∧ r.2.mem ((c.tc : Thread Cert.AdamGdnUpRefIdeal.nD Cert.AdamGdnUpRefIdeal.τ).loc Cert.AdamGdnUpRefIdeal.main_arg5) = m' ((c.tc : Thread Cert.AdamGdnUpRefIdeal.nD Cert.AdamGdnUpRefIdeal.τ).loc Cert.AdamGdnUpRefIdeal.main_arg5))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)
      ∧ m' ((c.tc : Thread Cert.AdamWOutRefIdeal.nD Cert.AdamWOutRefIdeal.τ).loc Cert.AdamWOutRefIdeal.main_arg5) = m ((c.tc : Thread Cert.AdamWOutIdeal.nD Cert.AdamWOutIdeal.τ).loc Cert.AdamWOutIdeal.main_arg5)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
          ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v9) = v0 c
          ∧ r.2.mem ((c.tc : Thread Cert.AdamWOutRefIdeal.nD Cert.AdamWOutRefIdeal.τ).loc Cert.AdamWOutRefIdeal.main_v33) = v1 c
          ∧ r.2.mem ((c.tc : Thread Cert.AdamWOutRefIdeal.nD Cert.AdamWOutRefIdeal.τ).loc Cert.AdamWOutRefIdeal.main_v14) = v2 c
          ∧ r.2.mem ((c.tc : Thread Cert.AdamWOutRefIdeal.nD Cert.AdamWOutRefIdeal.τ).loc Cert.AdamWOutRefIdeal.main_v20) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4)
          ∧ r.2.mem ((c.tc : Thread Cert.AdamWOutRefIdeal.nD Cert.AdamWOutRefIdeal.τ).loc Cert.AdamWOutRefIdeal.main_arg5) = m' ((c.tc : Thread Cert.AdamWOutRefIdeal.nD Cert.AdamWOutRefIdeal.τ).loc Cert.AdamWOutRefIdeal.main_arg5))

def preserves_AdamMlpUp_AdamMlpUpIdeal : Prop :=
  True

def algebraic_AdamMlpUpIdeal_AdamMlpUpRefIdeal [hAdamMlpUpIdeal : Cert.AdamMlpUpIdeal.Facts] [hAdamMlpUpRefIdeal : Cert.AdamMlpUpRefIdeal.Facts] : Prop :=
  ∀ (m : (ℓ : Loc Cert.AdamMlpUpIdeal.nD Cert.AdamMlpUpIdeal.τ Cert.AdamMlpUpIdeal.sig) → Buf (Elt Ideal) ℓ) (g : Dev Cert.AdamMlpUpIdeal.nD → PrngReg)
    (m' : (ℓ : Loc Cert.AdamMlpUpRefIdeal.nD Cert.AdamMlpUpRefIdeal.τ Cert.AdamMlpUpRefIdeal.sig) → Buf (Elt Ideal) ℓ) (g' : Dev Cert.AdamMlpUpRefIdeal.nD → PrngReg), Pre_AdamMlpUpIdeal m →
    (∀ c : Dev Cert.AdamMlpUpIdeal.nD,
      m' ((c.tc : Thread Cert.AdamMlpUpRefIdeal.nD Cert.AdamMlpUpRefIdeal.τ).loc Cert.AdamMlpUpRefIdeal.main_arg0) = m ((c.tc : Thread Cert.AdamMlpUpIdeal.nD Cert.AdamMlpUpIdeal.τ).loc Cert.AdamMlpUpIdeal.main_arg0)
      ∧ m' ((c.tc : Thread Cert.AdamMlpUpRefIdeal.nD Cert.AdamMlpUpRefIdeal.τ).loc Cert.AdamMlpUpRefIdeal.main_arg1) = m ((c.tc : Thread Cert.AdamMlpUpIdeal.nD Cert.AdamMlpUpIdeal.τ).loc Cert.AdamMlpUpIdeal.main_arg1)
      ∧ m' ((c.tc : Thread Cert.AdamMlpUpRefIdeal.nD Cert.AdamMlpUpRefIdeal.τ).loc Cert.AdamMlpUpRefIdeal.main_arg2) = m ((c.tc : Thread Cert.AdamMlpUpIdeal.nD Cert.AdamMlpUpIdeal.τ).loc Cert.AdamMlpUpIdeal.main_arg2)
      ∧ m' ((c.tc : Thread Cert.AdamMlpUpRefIdeal.nD Cert.AdamMlpUpRefIdeal.τ).loc Cert.AdamMlpUpRefIdeal.main_arg3) = m ((c.tc : Thread Cert.AdamMlpUpIdeal.nD Cert.AdamMlpUpIdeal.τ).loc Cert.AdamMlpUpIdeal.main_arg3)
      ∧ m' ((c.tc : Thread Cert.AdamMlpUpRefIdeal.nD Cert.AdamMlpUpRefIdeal.τ).loc Cert.AdamMlpUpRefIdeal.main_arg4) = m ((c.tc : Thread Cert.AdamMlpUpIdeal.nD Cert.AdamMlpUpIdeal.τ).loc Cert.AdamMlpUpIdeal.main_arg4)
      ∧ m' ((c.tc : Thread Cert.AdamMlpUpRefIdeal.nD Cert.AdamMlpUpRefIdeal.τ).loc Cert.AdamMlpUpRefIdeal.main_arg5) = m ((c.tc : Thread Cert.AdamMlpUpIdeal.nD Cert.AdamMlpUpIdeal.τ).loc Cert.AdamMlpUpIdeal.main_arg5)) →
    ∃ (v0 : (c : Dev Cert.AdamMlpUpIdeal.nD) → Buf (Elt Ideal) ((c.tc : Thread Cert.AdamMlpUpIdeal.nD Cert.AdamMlpUpIdeal.τ).loc Cert.AdamMlpUpIdeal.main_v0_0)) (v1 : (c : Dev Cert.AdamMlpUpIdeal.nD) → Buf (Elt Ideal) ((c.tc : Thread Cert.AdamMlpUpIdeal.nD Cert.AdamMlpUpIdeal.τ).loc Cert.AdamMlpUpIdeal.main_v0_1)) (v2 : (c : Dev Cert.AdamMlpUpIdeal.nD) → Buf (Elt Ideal) ((c.tc : Thread Cert.AdamMlpUpIdeal.nD Cert.AdamMlpUpIdeal.τ).loc Cert.AdamMlpUpIdeal.main_v0_2)) (v3 : (c : Dev Cert.AdamMlpUpIdeal.nD) → Buf (Elt Ideal) ((c.tc : Thread Cert.AdamMlpUpIdeal.nD Cert.AdamMlpUpIdeal.τ).loc Cert.AdamMlpUpIdeal.main_v0_3)),
      θ_run (Cert.AdamMlpUpIdeal.defs (F := Ideal)) (onTc (τ := Cert.AdamMlpUpIdeal.τ) (Cert.AdamMlpUpIdeal.main (F := Ideal))) ⟨m, fun _ => 0, g⟩ (fun r => ∀ c : Dev Cert.AdamMlpUpIdeal.nD,
          r.2.mem ((c.tc : Thread Cert.AdamMlpUpIdeal.nD Cert.AdamMlpUpIdeal.τ).loc Cert.AdamMlpUpIdeal.main_v0_0) = v0 c
          ∧ r.2.mem ((c.tc : Thread Cert.AdamMlpUpIdeal.nD Cert.AdamMlpUpIdeal.τ).loc Cert.AdamMlpUpIdeal.main_v0_1) = v1 c
          ∧ r.2.mem ((c.tc : Thread Cert.AdamMlpUpIdeal.nD Cert.AdamMlpUpIdeal.τ).loc Cert.AdamMlpUpIdeal.main_v0_2) = v2 c
          ∧ r.2.mem ((c.tc : Thread Cert.AdamMlpUpIdeal.nD Cert.AdamMlpUpIdeal.τ).loc Cert.AdamMlpUpIdeal.main_v0_3) = v3 c
          ∧ r.2.mem ((c.tc : Thread Cert.AdamMlpUpIdeal.nD Cert.AdamMlpUpIdeal.τ).loc Cert.AdamMlpUpIdeal.main_arg0) = m ((c.tc : Thread Cert.AdamMlpUpIdeal.nD Cert.AdamMlpUpIdeal.τ).loc Cert.AdamMlpUpIdeal.main_arg0)
          ∧ r.2.mem ((c.tc : Thread Cert.AdamMlpUpIdeal.nD Cert.AdamMlpUpIdeal.τ).loc Cert.AdamMlpUpIdeal.main_arg1) = m ((c.tc : Thread Cert.AdamMlpUpIdeal.nD Cert.AdamMlpUpIdeal.τ).loc Cert.AdamMlpUpIdeal.main_arg1)
          ∧ r.2.mem ((c.tc : Thread Cert.AdamMlpUpIdeal.nD Cert.AdamMlpUpIdeal.τ).loc Cert.AdamMlpUpIdeal.main_arg2) = m ((c.tc : Thread Cert.AdamMlpUpIdeal.nD Cert.AdamMlpUpIdeal.τ).loc Cert.AdamMlpUpIdeal.main_arg2)
          ∧ r.2.mem ((c.tc : Thread Cert.AdamMlpUpIdeal.nD Cert.AdamMlpUpIdeal.τ).loc Cert.AdamMlpUpIdeal.main_arg3) = m ((c.tc : Thread Cert.AdamMlpUpIdeal.nD Cert.AdamMlpUpIdeal.τ).loc Cert.AdamMlpUpIdeal.main_arg3)
          ∧ r.2.mem ((c.tc : Thread Cert.AdamMlpUpIdeal.nD Cert.AdamMlpUpIdeal.τ).loc Cert.AdamMlpUpIdeal.main_arg4) = m ((c.tc : Thread Cert.AdamMlpUpIdeal.nD Cert.AdamMlpUpIdeal.τ).loc Cert.AdamMlpUpIdeal.main_arg4)
          ∧ r.2.mem ((c.tc : Thread Cert.AdamMlpUpIdeal.nD Cert.AdamMlpUpIdeal.τ).loc Cert.AdamMlpUpIdeal.main_arg5) = m ((c.tc : Thread Cert.AdamMlpUpIdeal.nD Cert.AdamMlpUpIdeal.τ).loc Cert.AdamMlpUpIdeal.main_arg5))
      ∧ θ_run (Cert.AdamMlpUpRefIdeal.defs (F := Ideal)) (onTc (τ := Cert.AdamMlpUpRefIdeal.τ) (Cert.AdamMlpUpRefIdeal.main (F := Ideal))) ⟨m', fun _ => 0, g'⟩ (fun r => ∀ c : Dev Cert.AdamMlpUpRefIdeal.nD,
          r.2.mem ((c.tc : Thread Cert.AdamMlpUpRefIdeal.nD Cert.AdamMlpUpRefIdeal.τ).loc Cert.AdamMlpUpRefIdeal.main_v9) = v0 c
          ∧ r.2.mem ((c.tc : Thread Cert.AdamMlpUpRefIdeal.nD Cert.AdamMlpUpRefIdeal.τ).loc Cert.AdamMlpUpRefIdeal.main_v33) = v1 c
          ∧ r.2.mem ((c.tc : Thread Cert.AdamMlpUpRefIdeal.nD Cert.AdamMlpUpRefIdeal.τ).loc Cert.AdamMlpUpRefIdeal.main_v14) = v2 c
          ∧ r.2.mem ((c.tc : Thread Cert.AdamMlpUpRefIdeal.nD Cert.AdamMlpUpRefIdeal.τ).loc Cert.AdamMlpUpRefIdeal.main_v20) = v3 c
          ∧ r.2.mem ((c.tc : Thread Cert.AdamMlpUpRefIdeal.nD Cert.AdamMlpUpRefIdeal.τ).loc Cert.AdamMlpUpRefIdeal.main_arg0) = m' ((c.tc : Thread Cert.AdamMlpUpRefIdeal.nD Cert.AdamMlpUpRefIdeal.τ).loc Cert.AdamMlpUpRefIdeal.main_arg0)
          ∧ r.2.mem ((c.tc : Thread Cert.AdamMlpUpRefIdeal.nD Cert.AdamMlpUpRefIdeal.τ).loc Cert.AdamMlpUpRefIdeal.main_arg1) = m' ((c.tc : Thread Cert.AdamMlpUpRefIdeal.nD Cert.AdamMlpUpRefIdeal.τ).loc Cert.AdamMlpUpRefIdeal.main_arg1)
          ∧ r.2.mem ((c.tc : Thread Cert.AdamMlpUpRefIdeal.nD Cert.AdamMlpUpRefIdeal.τ).loc Cert.AdamMlpUpRefIdeal.main_arg2) = m' ((c.tc : Thread Cert.AdamMlpUpRefIdeal.nD Cert.AdamMlpUpRefIdeal.τ).loc Cert.AdamMlpUpRefIdeal.main_arg2)
          ∧ r.2.mem ((c.tc : Thread Cert.AdamMlpUpRefIdeal.nD Cert.AdamMlpUpRefIdeal.τ).loc Cert.AdamMlpUpRefIdeal.main_arg3) = m' ((c.tc : Thread Cert.AdamMlpUpRefIdeal.nD Cert.AdamMlpUpRefIdeal.τ).loc Cert.AdamMlpUpRefIdeal.main_arg3)
          ∧ r.2.mem ((c.tc : Thread Cert.AdamMlpUpRefIdeal.nD Cert.AdamMlpUpRefIdeal.τ).loc Cert.AdamMlpUpRefIdeal.main_arg4) = m' ((c.tc : Thread Cert.AdamMlpUpRefIdeal.nD Cert.AdamMlpUpRefIdeal.τ).loc Cert.AdamMlpUpRefIdeal.main_arg4)
          ∧ r.2.mem ((c.tc : Thread Cert.AdamMlpUpRefIdeal.nD Cert.AdamMlpUpRefIdeal.τ).loc Cert.AdamMlpUpRefIdeal.main_arg5) = m' ((c.tc : Thread Cert.AdamMlpUpRefIdeal.nD Cert.AdamMlpUpRefIdeal.τ).loc Cert.AdamMlpUpRefIdeal.main_arg5))

def preserves_AdamMlpDown_AdamMlpDownIdeal : Prop :=
  True

def algebraic_AdamMlpDownIdeal_AdamMlpDownRefIdeal [hAdamMlpDownIdeal : Cert.AdamMlpDownIdeal.Facts] [hAdamMlpDownRefIdeal : Cert.AdamMlpDownRefIdeal.Facts] : Prop :=
  ∀ (m : (ℓ : Loc Cert.AdamMlpDownIdeal.nD Cert.AdamMlpDownIdeal.τ Cert.AdamMlpDownIdeal.sig) → Buf (Elt Ideal) ℓ) (g : Dev Cert.AdamMlpDownIdeal.nD → PrngReg)
    (m' : (ℓ : Loc Cert.AdamMlpDownRefIdeal.nD Cert.AdamMlpDownRefIdeal.τ Cert.AdamMlpDownRefIdeal.sig) → Buf (Elt Ideal) ℓ) (g' : Dev Cert.AdamMlpDownRefIdeal.nD → PrngReg), Pre_AdamMlpDownIdeal m →
    (∀ c : Dev Cert.AdamMlpDownIdeal.nD,
      m' ((c.tc : Thread Cert.AdamMlpDownRefIdeal.nD Cert.AdamMlpDownRefIdeal.τ).loc Cert.AdamMlpDownRefIdeal.main_arg0) = m ((c.tc : Thread Cert.AdamMlpDownIdeal.nD Cert.AdamMlpDownIdeal.τ).loc Cert.AdamMlpDownIdeal.main_arg0)
      ∧ m' ((c.tc : Thread Cert.AdamMlpDownRefIdeal.nD Cert.AdamMlpDownRefIdeal.τ).loc Cert.AdamMlpDownRefIdeal.main_arg1) = m ((c.tc : Thread Cert.AdamMlpDownIdeal.nD Cert.AdamMlpDownIdeal.τ).loc Cert.AdamMlpDownIdeal.main_arg1)
      ∧ m' ((c.tc : Thread Cert.AdamMlpDownRefIdeal.nD Cert.AdamMlpDownRefIdeal.τ).loc Cert.AdamMlpDownRefIdeal.main_arg2) = m ((c.tc : Thread Cert.AdamMlpDownIdeal.nD Cert.AdamMlpDownIdeal.τ).loc Cert.AdamMlpDownIdeal.main_arg2)
      ∧ m' ((c.tc : Thread Cert.AdamMlpDownRefIdeal.nD Cert.AdamMlpDownRefIdeal.τ).loc Cert.AdamMlpDownRefIdeal.main_arg3) = m ((c.tc : Thread Cert.AdamMlpDownIdeal.nD Cert.AdamMlpDownIdeal.τ).loc Cert.AdamMlpDownIdeal.main_arg3)
      ∧ m' ((c.tc : Thread Cert.AdamMlpDownRefIdeal.nD Cert.AdamMlpDownRefIdeal.τ).loc Cert.AdamMlpDownRefIdeal.main_arg4) = m ((c.tc : Thread Cert.AdamMlpDownIdeal.nD Cert.AdamMlpDownIdeal.τ).loc Cert.AdamMlpDownIdeal.main_arg4)
      ∧ m' ((c.tc : Thread Cert.AdamMlpDownRefIdeal.nD Cert.AdamMlpDownRefIdeal.τ).loc Cert.AdamMlpDownRefIdeal.main_arg5) = m ((c.tc : Thread Cert.AdamMlpDownIdeal.nD Cert.AdamMlpDownIdeal.τ).loc Cert.AdamMlpDownIdeal.main_arg5)) →
    ∃ (v0 : (c : Dev Cert.AdamMlpDownIdeal.nD) → Buf (Elt Ideal) ((c.tc : Thread Cert.AdamMlpDownIdeal.nD Cert.AdamMlpDownIdeal.τ).loc Cert.AdamMlpDownIdeal.main_v0_0)) (v1 : (c : Dev Cert.AdamMlpDownIdeal.nD) → Buf (Elt Ideal) ((c.tc : Thread Cert.AdamMlpDownIdeal.nD Cert.AdamMlpDownIdeal.τ).loc Cert.AdamMlpDownIdeal.main_v0_1)) (v2 : (c : Dev Cert.AdamMlpDownIdeal.nD) → Buf (Elt Ideal) ((c.tc : Thread Cert.AdamMlpDownIdeal.nD Cert.AdamMlpDownIdeal.τ).loc Cert.AdamMlpDownIdeal.main_v0_2)) (v3 : (c : Dev Cert.AdamMlpDownIdeal.nD) → Buf (Elt Ideal) ((c.tc : Thread Cert.AdamMlpDownIdeal.nD Cert.AdamMlpDownIdeal.τ).loc Cert.AdamMlpDownIdeal.main_v0_3)),
      θ_run (Cert.AdamMlpDownIdeal.defs (F := Ideal)) (onTc (τ := Cert.AdamMlpDownIdeal.τ) (Cert.AdamMlpDownIdeal.main (F := Ideal))) ⟨m, fun _ => 0, g⟩ (fun r => ∀ c : Dev Cert.AdamMlpDownIdeal.nD,
          r.2.mem ((c.tc : Thread Cert.AdamMlpDownIdeal.nD Cert.AdamMlpDownIdeal.τ).loc Cert.AdamMlpDownIdeal.main_v0_0) = v0 c
          ∧ r.2.mem ((c.tc : Thread Cert.AdamMlpDownIdeal.nD Cert.AdamMlpDownIdeal.τ).loc Cert.AdamMlpDownIdeal.main_v0_1) = v1 c
          ∧ r.2.mem ((c.tc : Thread Cert.AdamMlpDownIdeal.nD Cert.AdamMlpDownIdeal.τ).loc Cert.AdamMlpDownIdeal.main_v0_2) = v2 c
          ∧ r.2.mem ((c.tc : Thread Cert.AdamMlpDownIdeal.nD Cert.AdamMlpDownIdeal.τ).loc Cert.AdamMlpDownIdeal.main_v0_3) = v3 c
          ∧ r.2.mem ((c.tc : Thread Cert.AdamMlpDownIdeal.nD Cert.AdamMlpDownIdeal.τ).loc Cert.AdamMlpDownIdeal.main_arg0) = m ((c.tc : Thread Cert.AdamMlpDownIdeal.nD Cert.AdamMlpDownIdeal.τ).loc Cert.AdamMlpDownIdeal.main_arg0)
          ∧ r.2.mem ((c.tc : Thread Cert.AdamMlpDownIdeal.nD Cert.AdamMlpDownIdeal.τ).loc Cert.AdamMlpDownIdeal.main_arg1) = m ((c.tc : Thread Cert.AdamMlpDownIdeal.nD Cert.AdamMlpDownIdeal.τ).loc Cert.AdamMlpDownIdeal.main_arg1)
          ∧ r.2.mem ((c.tc : Thread Cert.AdamMlpDownIdeal.nD Cert.AdamMlpDownIdeal.τ).loc Cert.AdamMlpDownIdeal.main_arg2) = m ((c.tc : Thread Cert.AdamMlpDownIdeal.nD Cert.AdamMlpDownIdeal.τ).loc Cert.AdamMlpDownIdeal.main_arg2)
          ∧ r.2.mem ((c.tc : Thread Cert.AdamMlpDownIdeal.nD Cert.AdamMlpDownIdeal.τ).loc Cert.AdamMlpDownIdeal.main_arg3) = m ((c.tc : Thread Cert.AdamMlpDownIdeal.nD Cert.AdamMlpDownIdeal.τ).loc Cert.AdamMlpDownIdeal.main_arg3)
          ∧ r.2.mem ((c.tc : Thread Cert.AdamMlpDownIdeal.nD Cert.AdamMlpDownIdeal.τ).loc Cert.AdamMlpDownIdeal.main_arg4) = m ((c.tc : Thread Cert.AdamMlpDownIdeal.nD Cert.AdamMlpDownIdeal.τ).loc Cert.AdamMlpDownIdeal.main_arg4)
          ∧ r.2.mem ((c.tc : Thread Cert.AdamMlpDownIdeal.nD Cert.AdamMlpDownIdeal.τ).loc Cert.AdamMlpDownIdeal.main_arg5) = m ((c.tc : Thread Cert.AdamMlpDownIdeal.nD Cert.AdamMlpDownIdeal.τ).loc Cert.AdamMlpDownIdeal.main_arg5))
      ∧ θ_run (Cert.AdamMlpDownRefIdeal.defs (F := Ideal)) (onTc (τ := Cert.AdamMlpDownRefIdeal.τ) (Cert.AdamMlpDownRefIdeal.main (F := Ideal))) ⟨m', fun _ => 0, g'⟩ (fun r => ∀ c : Dev Cert.AdamMlpDownRefIdeal.nD,
          r.2.mem ((c.tc : Thread Cert.AdamMlpDownRefIdeal.nD Cert.AdamMlpDownRefIdeal.τ).loc Cert.AdamMlpDownRefIdeal.main_v9) = v0 c
          ∧ r.2.mem ((c.tc : Thread Cert.AdamMlpDownRefIdeal.nD Cert.AdamMlpDownRefIdeal.τ).loc Cert.AdamMlpDownRefIdeal.main_v33) = v1 c
          ∧ r.2.mem ((c.tc : Thread Cert.AdamMlpDownRefIdeal.nD Cert.AdamMlpDownRefIdeal.τ).loc Cert.AdamMlpDownRefIdeal.main_v14) = v2 c
          ∧ r.2.mem ((c.tc : Thread Cert.AdamMlpDownRefIdeal.nD Cert.AdamMlpDownRefIdeal.τ).loc Cert.AdamMlpDownRefIdeal.main_v20) = v3 c
          ∧ r.2.mem ((c.tc : Thread Cert.AdamMlpDownRefIdeal.nD Cert.AdamMlpDownRefIdeal.τ).loc Cert.AdamMlpDownRefIdeal.main_arg0) = m' ((c.tc : Thread Cert.AdamMlpDownRefIdeal.nD Cert.AdamMlpDownRefIdeal.τ).loc Cert.AdamMlpDownRefIdeal.main_arg0)
          ∧ r.2.mem ((c.tc : Thread Cert.AdamMlpDownRefIdeal.nD Cert.AdamMlpDownRefIdeal.τ).loc Cert.AdamMlpDownRefIdeal.main_arg1) = m' ((c.tc : Thread Cert.AdamMlpDownRefIdeal.nD Cert.AdamMlpDownRefIdeal.τ).loc Cert.AdamMlpDownRefIdeal.main_arg1)
          ∧ r.2.mem ((c.tc : Thread Cert.AdamMlpDownRefIdeal.nD Cert.AdamMlpDownRefIdeal.τ).loc Cert.AdamMlpDownRefIdeal.main_arg2) = m' ((c.tc : Thread Cert.AdamMlpDownRefIdeal.nD Cert.AdamMlpDownRefIdeal.τ).loc Cert.AdamMlpDownRefIdeal.main_arg2)
          ∧ r.2.mem ((c.tc : Thread Cert.AdamMlpDownRefIdeal.nD Cert.AdamMlpDownRefIdeal.τ).loc Cert.AdamMlpDownRefIdeal.main_arg3) = m' ((c.tc : Thread Cert.AdamMlpDownRefIdeal.nD Cert.AdamMlpDownRefIdeal.τ).loc Cert.AdamMlpDownRefIdeal.main_arg3)
          ∧ r.2.mem ((c.tc : Thread Cert.AdamMlpDownRefIdeal.nD Cert.AdamMlpDownRefIdeal.τ).loc Cert.AdamMlpDownRefIdeal.main_arg4) = m' ((c.tc : Thread Cert.AdamMlpDownRefIdeal.nD Cert.AdamMlpDownRefIdeal.τ).loc Cert.AdamMlpDownRefIdeal.main_arg4)
          ∧ r.2.mem ((c.tc : Thread Cert.AdamMlpDownRefIdeal.nD Cert.AdamMlpDownRefIdeal.τ).loc Cert.AdamMlpDownRefIdeal.main_arg5) = m' ((c.tc : Thread Cert.AdamMlpDownRefIdeal.nD Cert.AdamMlpDownRefIdeal.τ).loc Cert.AdamMlpDownRefIdeal.main_arg5))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v1) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_SumIn_SumInIdeal : Prop :=
  True

def algebraic_SumInIdeal_SumInRefIdeal [hSumInIdeal : Cert.SumInIdeal.Facts] [hSumInRefIdeal : Cert.SumInRefIdeal.Facts] [hPre_place_in : Cert.Pre_place_in.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v10) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2))

def preserves_SumUp_SumUpIdeal : Prop :=
  True

def algebraic_SumUpIdeal_SumUpRefIdeal [hSumUpIdeal : Cert.SumUpIdeal.Facts] [hSumUpRefIdeal : Cert.SumUpRefIdeal.Facts] [hPre_place_up : Cert.Pre_place_up.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)
      ∧ m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1)
      ∧ m' ((c.tc : Thread Cert.SumUpRefIdeal.nD Cert.SumUpRefIdeal.τ).loc Cert.SumUpRefIdeal.main_arg2) = m ((c.tc : Thread Cert.SumUpIdeal.nD Cert.SumUpIdeal.τ).loc Cert.SumUpIdeal.main_arg2)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
          ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v10) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0)
          ∧ r.2.mem ((c.tc : Thread Cert.SumUpRefIdeal.nD Cert.SumUpRefIdeal.τ).loc Cert.SumUpRefIdeal.main_arg1) = m' ((c.tc : Thread Cert.SumUpRefIdeal.nD Cert.SumUpRefIdeal.τ).loc Cert.SumUpRefIdeal.main_arg1)
          ∧ r.2.mem ((c.tc : Thread Cert.SumUpRefIdeal.nD Cert.SumUpRefIdeal.τ).loc Cert.SumUpRefIdeal.main_arg2) = m' ((c.tc : Thread Cert.SumUpRefIdeal.nD Cert.SumUpRefIdeal.τ).loc Cert.SumUpRefIdeal.main_arg2))

def preserves_SumOut_SumOutIdeal : Prop :=
  True

def algebraic_SumOutIdeal_SumOutRefIdeal [hSumOutIdeal : Cert.SumOutIdeal.Facts] [hSumOutRefIdeal : Cert.SumOutRefIdeal.Facts] [hPre_place_out : Cert.Pre_place_out.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)
      ∧ m' ((c.tc : Thread Cert.SumOutRefIdeal.nD Cert.SumOutRefIdeal.τ).loc Cert.SumOutRefIdeal.main_arg2) = m ((c.tc : Thread Cert.SumOutIdeal.nD Cert.SumOutIdeal.τ).loc Cert.SumOutIdeal.main_arg2)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v10) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1)
          ∧ r.2.mem ((c.tc : Thread Cert.SumOutRefIdeal.nD Cert.SumOutRefIdeal.τ).loc Cert.SumOutRefIdeal.main_arg2) = m' ((c.tc : Thread Cert.SumOutRefIdeal.nD Cert.SumOutRefIdeal.τ).loc Cert.SumOutRefIdeal.main_arg2))

def preserves_SumMlp_SumMlpIdeal : Prop :=
  True

def algebraic_SumMlpIdeal_SumMlpRefIdeal [hSumMlpIdeal : Cert.SumMlpIdeal.Facts] [hSumMlpRefIdeal : Cert.SumMlpRefIdeal.Facts] [hPre_place_mlp : Cert.Pre_place_mlp.Facts] : Prop :=
  ∀ (m : (ℓ : Loc Cert.SumMlpIdeal.nD Cert.SumMlpIdeal.τ Cert.SumMlpIdeal.sig) → Buf (Elt Ideal) ℓ) (g : Dev Cert.SumMlpIdeal.nD → PrngReg)
    (m' : (ℓ : Loc Cert.SumMlpRefIdeal.nD Cert.SumMlpRefIdeal.τ Cert.SumMlpRefIdeal.sig) → Buf (Elt Ideal) ℓ) (g' : Dev Cert.SumMlpRefIdeal.nD → PrngReg), Pre_SumMlpIdeal m →
    (∀ c : Dev Cert.SumMlpIdeal.nD,
      m' ((c.tc : Thread Cert.SumMlpRefIdeal.nD Cert.SumMlpRefIdeal.τ).loc Cert.SumMlpRefIdeal.main_arg0) = m ((c.tc : Thread Cert.SumMlpIdeal.nD Cert.SumMlpIdeal.τ).loc Cert.SumMlpIdeal.main_arg0)
      ∧ m' ((c.tc : Thread Cert.SumMlpRefIdeal.nD Cert.SumMlpRefIdeal.τ).loc Cert.SumMlpRefIdeal.main_arg1) = m ((c.tc : Thread Cert.SumMlpIdeal.nD Cert.SumMlpIdeal.τ).loc Cert.SumMlpIdeal.main_arg1)
      ∧ m' ((c.tc : Thread Cert.SumMlpRefIdeal.nD Cert.SumMlpRefIdeal.τ).loc Cert.SumMlpRefIdeal.main_arg2) = m ((c.tc : Thread Cert.SumMlpIdeal.nD Cert.SumMlpIdeal.τ).loc Cert.SumMlpIdeal.main_arg2)) →
    ∃ (v0 : (c : Dev Cert.SumMlpIdeal.nD) → Buf (Elt Ideal) ((c.tc : Thread Cert.SumMlpIdeal.nD Cert.SumMlpIdeal.τ).loc Cert.SumMlpIdeal.main_v0)),
      θ_run (Cert.SumMlpIdeal.defs (F := Ideal)) (onTc (τ := Cert.SumMlpIdeal.τ) (Cert.SumMlpIdeal.main (F := Ideal))) ⟨m, fun _ => 0, g⟩ (fun r => ∀ c : Dev Cert.SumMlpIdeal.nD,
          r.2.mem ((c.tc : Thread Cert.SumMlpIdeal.nD Cert.SumMlpIdeal.τ).loc Cert.SumMlpIdeal.main_v0) = v0 c
          ∧ r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
          ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1)
          ∧ r.2.mem ((c.tc : Thread Cert.SumMlpIdeal.nD Cert.SumMlpIdeal.τ).loc Cert.SumMlpIdeal.main_arg2) = m ((c.tc : Thread Cert.SumMlpIdeal.nD Cert.SumMlpIdeal.τ).loc Cert.SumMlpIdeal.main_arg2))
      ∧ θ_run (Cert.SumMlpRefIdeal.defs (F := Ideal)) (onTc (τ := Cert.SumMlpRefIdeal.τ) (Cert.SumMlpRefIdeal.main (F := Ideal))) ⟨m', fun _ => 0, g'⟩ (fun r => ∀ c : Dev Cert.SumMlpRefIdeal.nD,
          r.2.mem ((c.tc : Thread Cert.SumMlpRefIdeal.nD Cert.SumMlpRefIdeal.τ).loc Cert.SumMlpRefIdeal.main_v10) = v0 c
          ∧ r.2.mem ((c.tc : Thread Cert.SumMlpRefIdeal.nD Cert.SumMlpRefIdeal.τ).loc Cert.SumMlpRefIdeal.main_arg0) = m' ((c.tc : Thread Cert.SumMlpRefIdeal.nD Cert.SumMlpRefIdeal.τ).loc Cert.SumMlpRefIdeal.main_arg0)
          ∧ r.2.mem ((c.tc : Thread Cert.SumMlpRefIdeal.nD Cert.SumMlpRefIdeal.τ).loc Cert.SumMlpRefIdeal.main_arg1) = m' ((c.tc : Thread Cert.SumMlpRefIdeal.nD Cert.SumMlpRefIdeal.τ).loc Cert.SumMlpRefIdeal.main_arg1)
          ∧ r.2.mem ((c.tc : Thread Cert.SumMlpRefIdeal.nD Cert.SumMlpRefIdeal.τ).loc Cert.SumMlpRefIdeal.main_arg2) = m' ((c.tc : Thread Cert.SumMlpRefIdeal.nD Cert.SumMlpRefIdeal.τ).loc Cert.SumMlpRefIdeal.main_arg2))

def preserves_AddIn_AddInIdeal : Prop :=
  True

def algebraic_AddInIdeal_AddInRefIdeal [hAddInIdeal : Cert.AddInIdeal.Facts] [hAddInRefIdeal : Cert.AddInRefIdeal.Facts] [hPre_core_in : Cert.Pre_core_in.Facts] : Prop :=
  ∀ (m : (ℓ : Loc Cert.AddInIdeal.nD Cert.AddInIdeal.τ Cert.AddInIdeal.sig) → Buf (Elt Ideal) ℓ) (g : Dev Cert.AddInIdeal.nD → PrngReg)
    (m' : (ℓ : Loc Cert.AddInRefIdeal.nD Cert.AddInRefIdeal.τ Cert.AddInRefIdeal.sig) → Buf (Elt Ideal) ℓ) (g' : Dev Cert.AddInRefIdeal.nD → PrngReg), Pre_AddInIdeal m →
    (∀ c : Dev Cert.AddInIdeal.nD,
      m' ((c.tc : Thread Cert.AddInRefIdeal.nD Cert.AddInRefIdeal.τ).loc Cert.AddInRefIdeal.main_arg0) = m ((c.tc : Thread Cert.AddInIdeal.nD Cert.AddInIdeal.τ).loc Cert.AddInIdeal.main_arg0)
      ∧ m' ((c.tc : Thread Cert.AddInRefIdeal.nD Cert.AddInRefIdeal.τ).loc Cert.AddInRefIdeal.main_arg1) = m ((c.tc : Thread Cert.AddInIdeal.nD Cert.AddInIdeal.τ).loc Cert.AddInIdeal.main_arg1)
      ∧ m' ((c.tc : Thread Cert.AddInRefIdeal.nD Cert.AddInRefIdeal.τ).loc Cert.AddInRefIdeal.main_arg2) = m ((c.tc : Thread Cert.AddInIdeal.nD Cert.AddInIdeal.τ).loc Cert.AddInIdeal.main_arg2)) →
    ∃ (v0 : (c : Dev Cert.AddInIdeal.nD) → Buf (Elt Ideal) ((c.tc : Thread Cert.AddInIdeal.nD Cert.AddInIdeal.τ).loc Cert.AddInIdeal.main_v0_0)) (v1 : (c : Dev Cert.AddInIdeal.nD) → Buf (Elt Ideal) ((c.tc : Thread Cert.AddInIdeal.nD Cert.AddInIdeal.τ).loc Cert.AddInIdeal.main_v0_1)),
      θ_run (Cert.AddInIdeal.defs (F := Ideal)) (onTc (τ := Cert.AddInIdeal.τ) (Cert.AddInIdeal.main (F := Ideal))) ⟨m, fun _ => 0, g⟩ (fun r => ∀ c : Dev Cert.AddInIdeal.nD,
          r.2.mem ((c.tc : Thread Cert.AddInIdeal.nD Cert.AddInIdeal.τ).loc Cert.AddInIdeal.main_v0_0) = v0 c
          ∧ r.2.mem ((c.tc : Thread Cert.AddInIdeal.nD Cert.AddInIdeal.τ).loc Cert.AddInIdeal.main_v0_1) = v1 c
          ∧ r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
          ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
          ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ θ_run (Cert.AddInRefIdeal.defs (F := Ideal)) (onTc (τ := Cert.AddInRefIdeal.τ) (Cert.AddInRefIdeal.main (F := Ideal))) ⟨m', fun _ => 0, g'⟩ (fun r => ∀ c : Dev Cert.AddInRefIdeal.nD,
          r.2.mem ((c.tc : Thread Cert.AddInRefIdeal.nD Cert.AddInRefIdeal.τ).loc Cert.AddInRefIdeal.main_v6) = v0 c
          ∧ r.2.mem ((c.tc : Thread Cert.AddInRefIdeal.nD Cert.AddInRefIdeal.τ).loc Cert.AddInRefIdeal.main_v7) = v1 c
          ∧ r.2.mem ((c.tc : Thread Cert.AddInRefIdeal.nD Cert.AddInRefIdeal.τ).loc Cert.AddInRefIdeal.main_arg0) = m' ((c.tc : Thread Cert.AddInRefIdeal.nD Cert.AddInRefIdeal.τ).loc Cert.AddInRefIdeal.main_arg0)
          ∧ r.2.mem ((c.tc : Thread Cert.AddInRefIdeal.nD Cert.AddInRefIdeal.τ).loc Cert.AddInRefIdeal.main_arg1) = m' ((c.tc : Thread Cert.AddInRefIdeal.nD Cert.AddInRefIdeal.τ).loc Cert.AddInRefIdeal.main_arg1)
          ∧ r.2.mem ((c.tc : Thread Cert.AddInRefIdeal.nD Cert.AddInRefIdeal.τ).loc Cert.AddInRefIdeal.main_arg2) = m' ((c.tc : Thread Cert.AddInRefIdeal.nD Cert.AddInRefIdeal.τ).loc Cert.AddInRefIdeal.main_arg2))

def preserves_AddUp_AddUpIdeal : Prop :=
  True

def algebraic_AddUpIdeal_AddUpRefIdeal [hAddUpIdeal : Cert.AddUpIdeal.Facts] [hAddUpRefIdeal : Cert.AddUpRefIdeal.Facts] [hPre_core_up : Cert.Pre_core_up.Facts] : Prop :=
  ∀ (m : (ℓ : Loc Cert.AddUpIdeal.nD Cert.AddUpIdeal.τ Cert.AddUpIdeal.sig) → Buf (Elt Ideal) ℓ) (g : Dev Cert.AddUpIdeal.nD → PrngReg)
    (m' : (ℓ : Loc Cert.AddUpRefIdeal.nD Cert.AddUpRefIdeal.τ Cert.AddUpRefIdeal.sig) → Buf (Elt Ideal) ℓ) (g' : Dev Cert.AddUpRefIdeal.nD → PrngReg), Pre_AddUpIdeal m →
    (∀ c : Dev Cert.AddUpIdeal.nD,
      m' ((c.tc : Thread Cert.AddUpRefIdeal.nD Cert.AddUpRefIdeal.τ).loc Cert.AddUpRefIdeal.main_arg0) = m ((c.tc : Thread Cert.AddUpIdeal.nD Cert.AddUpIdeal.τ).loc Cert.AddUpIdeal.main_arg0)
      ∧ m' ((c.tc : Thread Cert.AddUpRefIdeal.nD Cert.AddUpRefIdeal.τ).loc Cert.AddUpRefIdeal.main_arg1) = m ((c.tc : Thread Cert.AddUpIdeal.nD Cert.AddUpIdeal.τ).loc Cert.AddUpIdeal.main_arg1)
      ∧ m' ((c.tc : Thread Cert.AddUpRefIdeal.nD Cert.AddUpRefIdeal.τ).loc Cert.AddUpRefIdeal.main_arg2) = m ((c.tc : Thread Cert.AddUpIdeal.nD Cert.AddUpIdeal.τ).loc Cert.AddUpIdeal.main_arg2)) →
    ∃ (v0 : (c : Dev Cert.AddUpIdeal.nD) → Buf (Elt Ideal) ((c.tc : Thread Cert.AddUpIdeal.nD Cert.AddUpIdeal.τ).loc Cert.AddUpIdeal.main_v0_0)) (v1 : (c : Dev Cert.AddUpIdeal.nD) → Buf (Elt Ideal) ((c.tc : Thread Cert.AddUpIdeal.nD Cert.AddUpIdeal.τ).loc Cert.AddUpIdeal.main_v0_1)),
      θ_run (Cert.AddUpIdeal.defs (F := Ideal)) (onTc (τ := Cert.AddUpIdeal.τ) (Cert.AddUpIdeal.main (F := Ideal))) ⟨m, fun _ => 0, g⟩ (fun r => ∀ c : Dev Cert.AddUpIdeal.nD,
          r.2.mem ((c.tc : Thread Cert.AddUpIdeal.nD Cert.AddUpIdeal.τ).loc Cert.AddUpIdeal.main_v0_0) = v0 c
          ∧ r.2.mem ((c.tc : Thread Cert.AddUpIdeal.nD Cert.AddUpIdeal.τ).loc Cert.AddUpIdeal.main_v0_1) = v1 c
          ∧ r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
          ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
          ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ θ_run (Cert.AddUpRefIdeal.defs (F := Ideal)) (onTc (τ := Cert.AddUpRefIdeal.τ) (Cert.AddUpRefIdeal.main (F := Ideal))) ⟨m', fun _ => 0, g'⟩ (fun r => ∀ c : Dev Cert.AddUpRefIdeal.nD,
          r.2.mem ((c.tc : Thread Cert.AddUpRefIdeal.nD Cert.AddUpRefIdeal.τ).loc Cert.AddUpRefIdeal.main_v6) = v0 c
          ∧ r.2.mem ((c.tc : Thread Cert.AddUpRefIdeal.nD Cert.AddUpRefIdeal.τ).loc Cert.AddUpRefIdeal.main_v7) = v1 c
          ∧ r.2.mem ((c.tc : Thread Cert.AddUpRefIdeal.nD Cert.AddUpRefIdeal.τ).loc Cert.AddUpRefIdeal.main_arg0) = m' ((c.tc : Thread Cert.AddUpRefIdeal.nD Cert.AddUpRefIdeal.τ).loc Cert.AddUpRefIdeal.main_arg0)
          ∧ r.2.mem ((c.tc : Thread Cert.AddUpRefIdeal.nD Cert.AddUpRefIdeal.τ).loc Cert.AddUpRefIdeal.main_arg1) = m' ((c.tc : Thread Cert.AddUpRefIdeal.nD Cert.AddUpRefIdeal.τ).loc Cert.AddUpRefIdeal.main_arg1)
          ∧ r.2.mem ((c.tc : Thread Cert.AddUpRefIdeal.nD Cert.AddUpRefIdeal.τ).loc Cert.AddUpRefIdeal.main_arg2) = m' ((c.tc : Thread Cert.AddUpRefIdeal.nD Cert.AddUpRefIdeal.τ).loc Cert.AddUpRefIdeal.main_arg2))

def preserves_AddOut_AddOutIdeal : Prop :=
  True

def algebraic_AddOutIdeal_AddOutRefIdeal [hAddOutIdeal : Cert.AddOutIdeal.Facts] [hAddOutRefIdeal : Cert.AddOutRefIdeal.Facts] [hPre_core_out : Cert.Pre_core_out.Facts] : Prop :=
  ∀ (m : (ℓ : Loc Cert.AddOutIdeal.nD Cert.AddOutIdeal.τ Cert.AddOutIdeal.sig) → Buf (Elt Ideal) ℓ) (g : Dev Cert.AddOutIdeal.nD → PrngReg)
    (m' : (ℓ : Loc Cert.AddOutRefIdeal.nD Cert.AddOutRefIdeal.τ Cert.AddOutRefIdeal.sig) → Buf (Elt Ideal) ℓ) (g' : Dev Cert.AddOutRefIdeal.nD → PrngReg), Pre_AddOutIdeal m →
    (∀ c : Dev Cert.AddOutIdeal.nD,
      m' ((c.tc : Thread Cert.AddOutRefIdeal.nD Cert.AddOutRefIdeal.τ).loc Cert.AddOutRefIdeal.main_arg0) = m ((c.tc : Thread Cert.AddOutIdeal.nD Cert.AddOutIdeal.τ).loc Cert.AddOutIdeal.main_arg0)
      ∧ m' ((c.tc : Thread Cert.AddOutRefIdeal.nD Cert.AddOutRefIdeal.τ).loc Cert.AddOutRefIdeal.main_arg1) = m ((c.tc : Thread Cert.AddOutIdeal.nD Cert.AddOutIdeal.τ).loc Cert.AddOutIdeal.main_arg1)
      ∧ m' ((c.tc : Thread Cert.AddOutRefIdeal.nD Cert.AddOutRefIdeal.τ).loc Cert.AddOutRefIdeal.main_arg2) = m ((c.tc : Thread Cert.AddOutIdeal.nD Cert.AddOutIdeal.τ).loc Cert.AddOutIdeal.main_arg2)) →
    ∃ (v0 : (c : Dev Cert.AddOutIdeal.nD) → Buf (Elt Ideal) ((c.tc : Thread Cert.AddOutIdeal.nD Cert.AddOutIdeal.τ).loc Cert.AddOutIdeal.main_v0_0)) (v1 : (c : Dev Cert.AddOutIdeal.nD) → Buf (Elt Ideal) ((c.tc : Thread Cert.AddOutIdeal.nD Cert.AddOutIdeal.τ).loc Cert.AddOutIdeal.main_v0_1)),
      θ_run (Cert.AddOutIdeal.defs (F := Ideal)) (onTc (τ := Cert.AddOutIdeal.τ) (Cert.AddOutIdeal.main (F := Ideal))) ⟨m, fun _ => 0, g⟩ (fun r => ∀ c : Dev Cert.AddOutIdeal.nD,
          r.2.mem ((c.tc : Thread Cert.AddOutIdeal.nD Cert.AddOutIdeal.τ).loc Cert.AddOutIdeal.main_v0_0) = v0 c
          ∧ r.2.mem ((c.tc : Thread Cert.AddOutIdeal.nD Cert.AddOutIdeal.τ).loc Cert.AddOutIdeal.main_v0_1) = v1 c
          ∧ r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
          ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
          ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ θ_run (Cert.AddOutRefIdeal.defs (F := Ideal)) (onTc (τ := Cert.AddOutRefIdeal.τ) (Cert.AddOutRefIdeal.main (F := Ideal))) ⟨m', fun _ => 0, g'⟩ (fun r => ∀ c : Dev Cert.AddOutRefIdeal.nD,
          r.2.mem ((c.tc : Thread Cert.AddOutRefIdeal.nD Cert.AddOutRefIdeal.τ).loc Cert.AddOutRefIdeal.main_v6) = v0 c
          ∧ r.2.mem ((c.tc : Thread Cert.AddOutRefIdeal.nD Cert.AddOutRefIdeal.τ).loc Cert.AddOutRefIdeal.main_v7) = v1 c
          ∧ r.2.mem ((c.tc : Thread Cert.AddOutRefIdeal.nD Cert.AddOutRefIdeal.τ).loc Cert.AddOutRefIdeal.main_arg0) = m' ((c.tc : Thread Cert.AddOutRefIdeal.nD Cert.AddOutRefIdeal.τ).loc Cert.AddOutRefIdeal.main_arg0)
          ∧ r.2.mem ((c.tc : Thread Cert.AddOutRefIdeal.nD Cert.AddOutRefIdeal.τ).loc Cert.AddOutRefIdeal.main_arg1) = m' ((c.tc : Thread Cert.AddOutRefIdeal.nD Cert.AddOutRefIdeal.τ).loc Cert.AddOutRefIdeal.main_arg1)
          ∧ r.2.mem ((c.tc : Thread Cert.AddOutRefIdeal.nD Cert.AddOutRefIdeal.τ).loc Cert.AddOutRefIdeal.main_arg2) = m' ((c.tc : Thread Cert.AddOutRefIdeal.nD Cert.AddOutRefIdeal.τ).loc Cert.AddOutRefIdeal.main_arg2))

def preserves_AddMlp_AddMlpIdeal : Prop :=
  True

def algebraic_AddMlpIdeal_AddMlpRefIdeal [hAddMlpIdeal : Cert.AddMlpIdeal.Facts] [hAddMlpRefIdeal : Cert.AddMlpRefIdeal.Facts] [hPre_core_mlp : Cert.Pre_core_mlp.Facts] : Prop :=
  ∀ (m : (ℓ : Loc Cert.AddMlpIdeal.nD Cert.AddMlpIdeal.τ Cert.AddMlpIdeal.sig) → Buf (Elt Ideal) ℓ) (g : Dev Cert.AddMlpIdeal.nD → PrngReg)
    (m' : (ℓ : Loc Cert.AddMlpRefIdeal.nD Cert.AddMlpRefIdeal.τ Cert.AddMlpRefIdeal.sig) → Buf (Elt Ideal) ℓ) (g' : Dev Cert.AddMlpRefIdeal.nD → PrngReg), Pre_AddMlpIdeal m →
    (∀ c : Dev Cert.AddMlpIdeal.nD,
      m' ((c.tc : Thread Cert.AddMlpRefIdeal.nD Cert.AddMlpRefIdeal.τ).loc Cert.AddMlpRefIdeal.main_arg0) = m ((c.tc : Thread Cert.AddMlpIdeal.nD Cert.AddMlpIdeal.τ).loc Cert.AddMlpIdeal.main_arg0)
      ∧ m' ((c.tc : Thread Cert.AddMlpRefIdeal.nD Cert.AddMlpRefIdeal.τ).loc Cert.AddMlpRefIdeal.main_arg1) = m ((c.tc : Thread Cert.AddMlpIdeal.nD Cert.AddMlpIdeal.τ).loc Cert.AddMlpIdeal.main_arg1)
      ∧ m' ((c.tc : Thread Cert.AddMlpRefIdeal.nD Cert.AddMlpRefIdeal.τ).loc Cert.AddMlpRefIdeal.main_arg2) = m ((c.tc : Thread Cert.AddMlpIdeal.nD Cert.AddMlpIdeal.τ).loc Cert.AddMlpIdeal.main_arg2)) →
    ∃ (v0 : (c : Dev Cert.AddMlpIdeal.nD) → Buf (Elt Ideal) ((c.tc : Thread Cert.AddMlpIdeal.nD Cert.AddMlpIdeal.τ).loc Cert.AddMlpIdeal.main_v0_0)) (v1 : (c : Dev Cert.AddMlpIdeal.nD) → Buf (Elt Ideal) ((c.tc : Thread Cert.AddMlpIdeal.nD Cert.AddMlpIdeal.τ).loc Cert.AddMlpIdeal.main_v0_1)),
      θ_run (Cert.AddMlpIdeal.defs (F := Ideal)) (onTc (τ := Cert.AddMlpIdeal.τ) (Cert.AddMlpIdeal.main (F := Ideal))) ⟨m, fun _ => 0, g⟩ (fun r => ∀ c : Dev Cert.AddMlpIdeal.nD,
          r.2.mem ((c.tc : Thread Cert.AddMlpIdeal.nD Cert.AddMlpIdeal.τ).loc Cert.AddMlpIdeal.main_v0_0) = v0 c
          ∧ r.2.mem ((c.tc : Thread Cert.AddMlpIdeal.nD Cert.AddMlpIdeal.τ).loc Cert.AddMlpIdeal.main_v0_1) = v1 c
          ∧ r.2.mem ((c.tc : Thread Cert.AddMlpIdeal.nD Cert.AddMlpIdeal.τ).loc Cert.AddMlpIdeal.main_arg0) = m ((c.tc : Thread Cert.AddMlpIdeal.nD Cert.AddMlpIdeal.τ).loc Cert.AddMlpIdeal.main_arg0)
          ∧ r.2.mem ((c.tc : Thread Cert.AddMlpIdeal.nD Cert.AddMlpIdeal.τ).loc Cert.AddMlpIdeal.main_arg1) = m ((c.tc : Thread Cert.AddMlpIdeal.nD Cert.AddMlpIdeal.τ).loc Cert.AddMlpIdeal.main_arg1)
          ∧ r.2.mem ((c.tc : Thread Cert.AddMlpIdeal.nD Cert.AddMlpIdeal.τ).loc Cert.AddMlpIdeal.main_arg2) = m ((c.tc : Thread Cert.AddMlpIdeal.nD Cert.AddMlpIdeal.τ).loc Cert.AddMlpIdeal.main_arg2))
      ∧ θ_run (Cert.AddMlpRefIdeal.defs (F := Ideal)) (onTc (τ := Cert.AddMlpRefIdeal.τ) (Cert.AddMlpRefIdeal.main (F := Ideal))) ⟨m', fun _ => 0, g'⟩ (fun r => ∀ c : Dev Cert.AddMlpRefIdeal.nD,
          r.2.mem ((c.tc : Thread Cert.AddMlpRefIdeal.nD Cert.AddMlpRefIdeal.τ).loc Cert.AddMlpRefIdeal.main_v6) = v0 c
          ∧ r.2.mem ((c.tc : Thread Cert.AddMlpRefIdeal.nD Cert.AddMlpRefIdeal.τ).loc Cert.AddMlpRefIdeal.main_v7) = v1 c
          ∧ r.2.mem ((c.tc : Thread Cert.AddMlpRefIdeal.nD Cert.AddMlpRefIdeal.τ).loc Cert.AddMlpRefIdeal.main_arg0) = m' ((c.tc : Thread Cert.AddMlpRefIdeal.nD Cert.AddMlpRefIdeal.τ).loc Cert.AddMlpRefIdeal.main_arg0)
          ∧ r.2.mem ((c.tc : Thread Cert.AddMlpRefIdeal.nD Cert.AddMlpRefIdeal.τ).loc Cert.AddMlpRefIdeal.main_arg1) = m' ((c.tc : Thread Cert.AddMlpRefIdeal.nD Cert.AddMlpRefIdeal.τ).loc Cert.AddMlpRefIdeal.main_arg1)
          ∧ r.2.mem ((c.tc : Thread Cert.AddMlpRefIdeal.nD Cert.AddMlpRefIdeal.τ).loc Cert.AddMlpRefIdeal.main_arg2) = m' ((c.tc : Thread Cert.AddMlpRefIdeal.nD Cert.AddMlpRefIdeal.τ).loc Cert.AddMlpRefIdeal.main_arg2))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_Premix_PremixIdeal : Prop :=
  True

def algebraic_PremixIdeal_PremixRefIdeal [hPremixIdeal : Cert.PremixIdeal.Facts] [hPremixRefIdeal : Cert.PremixRefIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixRefIdeal.nD Cert.PremixRefIdeal.τ Cert.PremixRefIdeal.sig) → Buf (Elt Ideal) ℓ) (g' : Dev Cert.PremixRefIdeal.nD → PrngReg), Pre_PremixIdeal m →
    (∀ c : Dev Cert.PremixIdeal.nD,
      m' ((c.tc : Thread Cert.PremixRefIdeal.nD Cert.PremixRefIdeal.τ).loc Cert.PremixRefIdeal.main_arg0) = m ((c.tc : Thread Cert.PremixIdeal.nD Cert.PremixIdeal.τ).loc Cert.PremixIdeal.main_arg0)
      ∧ m' ((c.tc : Thread Cert.PremixRefIdeal.nD Cert.PremixRefIdeal.τ).loc Cert.PremixRefIdeal.main_arg1) = m ((c.tc : Thread Cert.PremixIdeal.nD Cert.PremixIdeal.τ).loc Cert.PremixIdeal.main_arg1)
      ∧ m' ((c.tc : Thread Cert.PremixRefIdeal.nD Cert.PremixRefIdeal.τ).loc Cert.PremixRefIdeal.main_arg2) = m ((c.tc : Thread Cert.PremixIdeal.nD Cert.PremixIdeal.τ).loc Cert.PremixIdeal.main_arg2)
      ∧ m' ((c.tc : Thread Cert.PremixRefIdeal.nD Cert.PremixRefIdeal.τ).loc Cert.PremixRefIdeal.main_arg3) = m ((c.tc : Thread Cert.PremixIdeal.nD Cert.PremixIdeal.τ).loc Cert.PremixIdeal.main_arg3)) →
    ∃ (v0 : (c : Dev Cert.PremixIdeal.nD) → Buf (Elt Ideal) ((c.tc : Thread Cert.PremixIdeal.nD Cert.PremixIdeal.τ).loc Cert.PremixIdeal.main_v0)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v0) = v0 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3))
      ∧ θ_run (Cert.PremixRefIdeal.defs (F := Ideal)) (onTc (τ := Cert.PremixRefIdeal.τ) (Cert.PremixRefIdeal.main (F := Ideal))) ⟨m', fun _ => 0, g'⟩ (fun r => ∀ c : Dev Cert.PremixRefIdeal.nD,
          r.2.mem ((c.tc : Thread Cert.PremixRefIdeal.nD Cert.PremixRefIdeal.τ).loc Cert.PremixRefIdeal.main_v18) = v0 c
          ∧ r.2.mem ((c.tc : Thread Cert.PremixRefIdeal.nD Cert.PremixRefIdeal.τ).loc Cert.PremixRefIdeal.main_arg0) = m' ((c.tc : Thread Cert.PremixRefIdeal.nD Cert.PremixRefIdeal.τ).loc Cert.PremixRefIdeal.main_arg0)
          ∧ r.2.mem ((c.tc : Thread Cert.PremixRefIdeal.nD Cert.PremixRefIdeal.τ).loc Cert.PremixRefIdeal.main_arg1) = m' ((c.tc : Thread Cert.PremixRefIdeal.nD Cert.PremixRefIdeal.τ).loc Cert.PremixRefIdeal.main_arg1)
          ∧ r.2.mem ((c.tc : Thread Cert.PremixRefIdeal.nD Cert.PremixRefIdeal.τ).loc Cert.PremixRefIdeal.main_arg2) = m' ((c.tc : Thread Cert.PremixRefIdeal.nD Cert.PremixRefIdeal.τ).loc Cert.PremixRefIdeal.main_arg2)
          ∧ r.2.mem ((c.tc : Thread Cert.PremixRefIdeal.nD Cert.PremixRefIdeal.τ).loc Cert.PremixRefIdeal.main_arg3) = m' ((c.tc : Thread Cert.PremixRefIdeal.nD Cert.PremixRefIdeal.τ).loc Cert.PremixRefIdeal.main_arg3))

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m' ((c.tc : Thread Cert.MergedRefIdeal.nD Cert.MergedRefIdeal.τ).loc Cert.MergedRefIdeal.main_arg0) = m ((c.tc : Thread Cert.MergedIdeal.nD Cert.MergedIdeal.τ).loc Cert.MergedIdeal.main_arg0)
      ∧ m' ((c.tc : Thread Cert.MergedRefIdeal.nD Cert.MergedRefIdeal.τ).loc Cert.MergedRefIdeal.main_arg1) = m ((c.tc : Thread Cert.MergedIdeal.nD Cert.MergedIdeal.τ).loc Cert.MergedIdeal.main_arg1)
      ∧ m' ((c.tc : Thread Cert.MergedRefIdeal.nD Cert.MergedRefIdeal.τ).loc Cert.MergedRefIdeal.main_arg2) = m ((c.tc : Thread Cert.MergedIdeal.nD Cert.MergedIdeal.τ).loc Cert.MergedIdeal.main_arg2)) →
    ∃ (v0 : (c : Dev Cert.MergedIdeal.nD) → Buf (Elt Ideal) ((c.tc : Thread Cert.MergedIdeal.nD Cert.MergedIdeal.τ).loc Cert.MergedIdeal.main_v0)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v0) = v0 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v19) = v0 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1)
          ∧ r.2.mem ((c.tc : Thread Cert.MergedRefIdeal.nD Cert.MergedRefIdeal.τ).loc Cert.MergedRefIdeal.main_arg2) = m' ((c.tc : Thread Cert.MergedRefIdeal.nD Cert.MergedRefIdeal.τ).loc Cert.MergedRefIdeal.main_arg2))

def preserves_Postmix_PostmixIdeal : Prop :=
  True

def algebraic_PostmixIdeal_PostmixRefIdeal [hPostmixIdeal : Cert.PostmixIdeal.Facts] [hPostmixRefIdeal : Cert.PostmixRefIdeal.Facts] : Prop :=
  ∀ (m : (ℓ : Loc Cert.PostmixIdeal.nD Cert.PostmixIdeal.τ Cert.PostmixIdeal.sig) → Buf (Elt Ideal) ℓ) (g : Dev Cert.PostmixIdeal.nD → PrngReg)
    (m' : (ℓ : Loc Cert.PostmixRefIdeal.nD Cert.PostmixRefIdeal.τ Cert.PostmixRefIdeal.sig) → Buf (Elt Ideal) ℓ) (g' : Dev Cert.PostmixRefIdeal.nD → PrngReg), Pre_PostmixIdeal m →
    (∀ c : Dev Cert.PostmixIdeal.nD,
      m' ((c.tc : Thread Cert.PostmixRefIdeal.nD Cert.PostmixRefIdeal.τ).loc Cert.PostmixRefIdeal.main_arg0) = m ((c.tc : Thread Cert.PostmixIdeal.nD Cert.PostmixIdeal.τ).loc Cert.PostmixIdeal.main_arg0)
      ∧ m' ((c.tc : Thread Cert.PostmixRefIdeal.nD Cert.PostmixRefIdeal.τ).loc Cert.PostmixRefIdeal.main_arg1) = m ((c.tc : Thread Cert.PostmixIdeal.nD Cert.PostmixIdeal.τ).loc Cert.PostmixIdeal.main_arg1)
      ∧ m' ((c.tc : Thread Cert.PostmixRefIdeal.nD Cert.PostmixRefIdeal.τ).loc Cert.PostmixRefIdeal.main_arg2) = m ((c.tc : Thread Cert.PostmixIdeal.nD Cert.PostmixIdeal.τ).loc Cert.PostmixIdeal.main_arg2)
      ∧ m' ((c.tc : Thread Cert.PostmixRefIdeal.nD Cert.PostmixRefIdeal.τ).loc Cert.PostmixRefIdeal.main_arg3) = m ((c.tc : Thread Cert.PostmixIdeal.nD Cert.PostmixIdeal.τ).loc Cert.PostmixIdeal.main_arg3)
      ∧ m' ((c.tc : Thread Cert.PostmixRefIdeal.nD Cert.PostmixRefIdeal.τ).loc Cert.PostmixRefIdeal.main_arg4) = m ((c.tc : Thread Cert.PostmixIdeal.nD Cert.PostmixIdeal.τ).loc Cert.PostmixIdeal.main_arg4)
      ∧ m' ((c.tc : Thread Cert.PostmixRefIdeal.nD Cert.PostmixRefIdeal.τ).loc Cert.PostmixRefIdeal.main_arg5) = m ((c.tc : Thread Cert.PostmixIdeal.nD Cert.PostmixIdeal.τ).loc Cert.PostmixIdeal.main_arg5)
      ∧ m' ((c.tc : Thread Cert.PostmixRefIdeal.nD Cert.PostmixRefIdeal.τ).loc Cert.PostmixRefIdeal.main_arg6) = m ((c.tc : Thread Cert.PostmixIdeal.nD Cert.PostmixIdeal.τ).loc Cert.PostmixIdeal.main_arg6)
      ∧ m' ((c.tc : Thread Cert.PostmixRefIdeal.nD Cert.PostmixRefIdeal.τ).loc Cert.PostmixRefIdeal.main_arg7) = m ((c.tc : Thread Cert.PostmixIdeal.nD Cert.PostmixIdeal.τ).loc Cert.PostmixIdeal.main_arg7)) →
    ∃ (v0 : (c : Dev Cert.PostmixIdeal.nD) → Buf (Elt Ideal) ((c.tc : Thread Cert.PostmixIdeal.nD Cert.PostmixIdeal.τ).loc Cert.PostmixIdeal.main_v0_0)) (v1 : (c : Dev Cert.PostmixIdeal.nD) → Buf (Elt Ideal) ((c.tc : Thread Cert.PostmixIdeal.nD Cert.PostmixIdeal.τ).loc Cert.PostmixIdeal.main_v0_1)) (v2 : (c : Dev Cert.PostmixIdeal.nD) → Buf (Elt Ideal) ((c.tc : Thread Cert.PostmixIdeal.nD Cert.PostmixIdeal.τ).loc Cert.PostmixIdeal.main_v0_2)),
      θ_run (Cert.PostmixIdeal.defs (F := Ideal)) (onTc (τ := Cert.PostmixIdeal.τ) (Cert.PostmixIdeal.main (F := Ideal))) ⟨m, fun _ => 0, g⟩ (fun r => ∀ c : Dev Cert.PostmixIdeal.nD,
          r.2.mem ((c.tc : Thread Cert.PostmixIdeal.nD Cert.PostmixIdeal.τ).loc Cert.PostmixIdeal.main_v0_0) = v0 c
          ∧ r.2.mem ((c.tc : Thread Cert.PostmixIdeal.nD Cert.PostmixIdeal.τ).loc Cert.PostmixIdeal.main_v0_1) = v1 c
          ∧ r.2.mem ((c.tc : Thread Cert.PostmixIdeal.nD Cert.PostmixIdeal.τ).loc Cert.PostmixIdeal.main_v0_2) = v2 c
          ∧ r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
          ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
          ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
          ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
          ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
          ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
          ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
          ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7))
      ∧ θ_run (Cert.PostmixRefIdeal.defs (F := Ideal)) (onTc (τ := Cert.PostmixRefIdeal.τ) (Cert.PostmixRefIdeal.main (F := Ideal))) ⟨m', fun _ => 0, g'⟩ (fun r => ∀ c : Dev Cert.PostmixRefIdeal.nD,
          r.2.mem ((c.tc : Thread Cert.PostmixRefIdeal.nD Cert.PostmixRefIdeal.τ).loc Cert.PostmixRefIdeal.main_v2) = v0 c
          ∧ r.2.mem ((c.tc : Thread Cert.PostmixRefIdeal.nD Cert.PostmixRefIdeal.τ).loc Cert.PostmixRefIdeal.main_v17) = v1 c
          ∧ r.2.mem ((c.tc : Thread Cert.PostmixRefIdeal.nD Cert.PostmixRefIdeal.τ).loc Cert.PostmixRefIdeal.main_v36) = v2 c
          ∧ r.2.mem ((c.tc : Thread Cert.PostmixRefIdeal.nD Cert.PostmixRefIdeal.τ).loc Cert.PostmixRefIdeal.main_arg0) = m' ((c.tc : Thread Cert.PostmixRefIdeal.nD Cert.PostmixRefIdeal.τ).loc Cert.PostmixRefIdeal.main_arg0)
          ∧ r.2.mem ((c.tc : Thread Cert.PostmixRefIdeal.nD Cert.PostmixRefIdeal.τ).loc Cert.PostmixRefIdeal.main_arg1) = m' ((c.tc : Thread Cert.PostmixRefIdeal.nD Cert.PostmixRefIdeal.τ).loc Cert.PostmixRefIdeal.main_arg1)
          ∧ r.2.mem ((c.tc : Thread Cert.PostmixRefIdeal.nD Cert.PostmixRefIdeal.τ).loc Cert.PostmixRefIdeal.main_arg2) = m' ((c.tc : Thread Cert.PostmixRefIdeal.nD Cert.PostmixRefIdeal.τ).loc Cert.PostmixRefIdeal.main_arg2)
          ∧ r.2.mem ((c.tc : Thread Cert.PostmixRefIdeal.nD Cert.PostmixRefIdeal.τ).loc Cert.PostmixRefIdeal.main_arg3) = m' ((c.tc : Thread Cert.PostmixRefIdeal.nD Cert.PostmixRefIdeal.τ).loc Cert.PostmixRefIdeal.main_arg3)
          ∧ r.2.mem ((c.tc : Thread Cert.PostmixRefIdeal.nD Cert.PostmixRefIdeal.τ).loc Cert.PostmixRefIdeal.main_arg4) = m' ((c.tc : Thread Cert.PostmixRefIdeal.nD Cert.PostmixRefIdeal.τ).loc Cert.PostmixRefIdeal.main_arg4)
          ∧ r.2.mem ((c.tc : Thread Cert.PostmixRefIdeal.nD Cert.PostmixRefIdeal.τ).loc Cert.PostmixRefIdeal.main_arg5) = m' ((c.tc : Thread Cert.PostmixRefIdeal.nD Cert.PostmixRefIdeal.τ).loc Cert.PostmixRefIdeal.main_arg5)
          ∧ r.2.mem ((c.tc : Thread Cert.PostmixRefIdeal.nD Cert.PostmixRefIdeal.τ).loc Cert.PostmixRefIdeal.main_arg6) = m' ((c.tc : Thread Cert.PostmixRefIdeal.nD Cert.PostmixRefIdeal.τ).loc Cert.PostmixRefIdeal.main_arg6)
          ∧ r.2.mem ((c.tc : Thread Cert.PostmixRefIdeal.nD Cert.PostmixRefIdeal.τ).loc Cert.PostmixRefIdeal.main_arg7) = m' ((c.tc : Thread Cert.PostmixRefIdeal.nD Cert.PostmixRefIdeal.τ).loc Cert.PostmixRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)) (v4 : (c : Dev Cert.FinalIdeal.nD) → Buf (Elt Ideal) ((c.tc : Thread Cert.FinalIdeal.nD Cert.FinalIdeal.τ).loc Cert.FinalIdeal.main_v0_4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_v0_4) = v4 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v35) = v0 c
          ∧ r.2.mem ((c.tc : Thread Cert.FinalRefIdeal.nD Cert.FinalRefIdeal.τ).loc Cert.FinalRefIdeal.main_v60) = v1 c
          ∧ r.2.mem ((c.tc : Thread Cert.FinalRefIdeal.nD Cert.FinalRefIdeal.τ).loc Cert.FinalRefIdeal.main_v61) = v2 c
          ∧ r.2.mem ((c.tc : Thread Cert.FinalRefIdeal.nD Cert.FinalRefIdeal.τ).loc Cert.FinalRefIdeal.main_v43) = v3 c
          ∧ r.2.mem ((c.tc : Thread Cert.FinalRefIdeal.nD Cert.FinalRefIdeal.τ).loc Cert.FinalRefIdeal.main_v40) = v4 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5))

def preserves_PostmixBwd_PostmixBwdIdeal : Prop :=
  True

def algebraic_PostmixBwdIdeal_PostmixBwdRefIdeal [hPostmixBwdIdeal : Cert.PostmixBwdIdeal.Facts] [hPostmixBwdRefIdeal : Cert.PostmixBwdRefIdeal.Facts] : Prop :=
  ∀ (m : (ℓ : Loc Cert.PostmixBwdIdeal.nD Cert.PostmixBwdIdeal.τ Cert.PostmixBwdIdeal.sig) → Buf (Elt Ideal) ℓ) (g : Dev Cert.PostmixBwdIdeal.nD → PrngReg)
    (m' : (ℓ : Loc Cert.PostmixBwdRefIdeal.nD Cert.PostmixBwdRefIdeal.τ Cert.PostmixBwdRefIdeal.sig) → Buf (Elt Ideal) ℓ) (g' : Dev Cert.PostmixBwdRefIdeal.nD → PrngReg), Pre_PostmixBwdIdeal m →
    (∀ c : Dev Cert.PostmixBwdIdeal.nD,
      m' ((c.tc : Thread Cert.PostmixBwdRefIdeal.nD Cert.PostmixBwdRefIdeal.τ).loc Cert.PostmixBwdRefIdeal.main_arg0) = m ((c.tc : Thread Cert.PostmixBwdIdeal.nD Cert.PostmixBwdIdeal.τ).loc Cert.PostmixBwdIdeal.main_arg0)
      ∧ m' ((c.tc : Thread Cert.PostmixBwdRefIdeal.nD Cert.PostmixBwdRefIdeal.τ).loc Cert.PostmixBwdRefIdeal.main_arg1) = m ((c.tc : Thread Cert.PostmixBwdIdeal.nD Cert.PostmixBwdIdeal.τ).loc Cert.PostmixBwdIdeal.main_arg1)
      ∧ m' ((c.tc : Thread Cert.PostmixBwdRefIdeal.nD Cert.PostmixBwdRefIdeal.τ).loc Cert.PostmixBwdRefIdeal.main_arg2) = m ((c.tc : Thread Cert.PostmixBwdIdeal.nD Cert.PostmixBwdIdeal.τ).loc Cert.PostmixBwdIdeal.main_arg2)
      ∧ m' ((c.tc : Thread Cert.PostmixBwdRefIdeal.nD Cert.PostmixBwdRefIdeal.τ).loc Cert.PostmixBwdRefIdeal.main_arg3) = m ((c.tc : Thread Cert.PostmixBwdIdeal.nD Cert.PostmixBwdIdeal.τ).loc Cert.PostmixBwdIdeal.main_arg3)
      ∧ m' ((c.tc : Thread Cert.PostmixBwdRefIdeal.nD Cert.PostmixBwdRefIdeal.τ).loc Cert.PostmixBwdRefIdeal.main_arg4) = m ((c.tc : Thread Cert.PostmixBwdIdeal.nD Cert.PostmixBwdIdeal.τ).loc Cert.PostmixBwdIdeal.main_arg4)
      ∧ m' ((c.tc : Thread Cert.PostmixBwdRefIdeal.nD Cert.PostmixBwdRefIdeal.τ).loc Cert.PostmixBwdRefIdeal.main_arg5) = m ((c.tc : Thread Cert.PostmixBwdIdeal.nD Cert.PostmixBwdIdeal.τ).loc Cert.PostmixBwdIdeal.main_arg5)
      ∧ m' ((c.tc : Thread Cert.PostmixBwdRefIdeal.nD Cert.PostmixBwdRefIdeal.τ).loc Cert.PostmixBwdRefIdeal.main_arg6) = m ((c.tc : Thread Cert.PostmixBwdIdeal.nD Cert.PostmixBwdIdeal.τ).loc Cert.PostmixBwdIdeal.main_arg6)
      ∧ m' ((c.tc : Thread Cert.PostmixBwdRefIdeal.nD Cert.PostmixBwdRefIdeal.τ).loc Cert.PostmixBwdRefIdeal.main_arg7) = m ((c.tc : Thread Cert.PostmixBwdIdeal.nD Cert.PostmixBwdIdeal.τ).loc Cert.PostmixBwdIdeal.main_arg7)
      ∧ m' ((c.tc : Thread Cert.PostmixBwdRefIdeal.nD Cert.PostmixBwdRefIdeal.τ).loc Cert.PostmixBwdRefIdeal.main_arg8) = m ((c.tc : Thread Cert.PostmixBwdIdeal.nD Cert.PostmixBwdIdeal.τ).loc Cert.PostmixBwdIdeal.main_arg8)) →
    ∃ (v0 : (c : Dev Cert.PostmixBwdIdeal.nD) → Buf (Elt Ideal) ((c.tc : Thread Cert.PostmixBwdIdeal.nD Cert.PostmixBwdIdeal.τ).loc Cert.PostmixBwdIdeal.main_v0_0)) (v1 : (c : Dev Cert.PostmixBwdIdeal.nD) → Buf (Elt Ideal) ((c.tc : Thread Cert.PostmixBwdIdeal.nD Cert.PostmixBwdIdeal.τ).loc Cert.PostmixBwdIdeal.main_v0_1)) (v2 : (c : Dev Cert.PostmixBwdIdeal.nD) → Buf (Elt Ideal) ((c.tc : Thread Cert.PostmixBwdIdeal.nD Cert.PostmixBwdIdeal.τ).loc Cert.PostmixBwdIdeal.main_v0_2)) (v3 : (c : Dev Cert.PostmixBwdIdeal.nD) → Buf (Elt Ideal) ((c.tc : Thread Cert.PostmixBwdIdeal.nD Cert.PostmixBwdIdeal.τ).loc Cert.PostmixBwdIdeal.main_v0_3)) (v4 : (c : Dev Cert.PostmixBwdIdeal.nD) → Buf (Elt Ideal) ((c.tc : Thread Cert.PostmixBwdIdeal.nD Cert.PostmixBwdIdeal.τ).loc Cert.PostmixBwdIdeal.main_v0_4)) (v5 : (c : Dev Cert.PostmixBwdIdeal.nD) → Buf (Elt Ideal) ((c.tc : Thread Cert.PostmixBwdIdeal.nD Cert.PostmixBwdIdeal.τ).loc Cert.PostmixBwdIdeal.main_v0_5)) (v6 : (c : Dev Cert.PostmixBwdIdeal.nD) → Buf (Elt Ideal) ((c.tc : Thread Cert.PostmixBwdIdeal.nD Cert.PostmixBwdIdeal.τ).loc Cert.PostmixBwdIdeal.main_v0_6)),
      θ_run (Cert.PostmixBwdIdeal.defs (F := Ideal)) (onTc (τ := Cert.PostmixBwdIdeal.τ) (Cert.PostmixBwdIdeal.main (F := Ideal))) ⟨m, fun _ => 0, g⟩ (fun r => ∀ c : Dev Cert.PostmixBwdIdeal.nD,
          r.2.mem ((c.tc : Thread Cert.PostmixBwdIdeal.nD Cert.PostmixBwdIdeal.τ).loc Cert.PostmixBwdIdeal.main_v0_0) = v0 c
          ∧ r.2.mem ((c.tc : Thread Cert.PostmixBwdIdeal.nD Cert.PostmixBwdIdeal.τ).loc Cert.PostmixBwdIdeal.main_v0_1) = v1 c
          ∧ r.2.mem ((c.tc : Thread Cert.PostmixBwdIdeal.nD Cert.PostmixBwdIdeal.τ).loc Cert.PostmixBwdIdeal.main_v0_2) = v2 c
          ∧ r.2.mem ((c.tc : Thread Cert.PostmixBwdIdeal.nD Cert.PostmixBwdIdeal.τ).loc Cert.PostmixBwdIdeal.main_v0_3) = v3 c
          ∧ r.2.mem ((c.tc : Thread Cert.PostmixBwdIdeal.nD Cert.PostmixBwdIdeal.τ).loc Cert.PostmixBwdIdeal.main_v0_4) = v4 c
          ∧ r.2.mem ((c.tc : Thread Cert.PostmixBwdIdeal.nD Cert.PostmixBwdIdeal.τ).loc Cert.PostmixBwdIdeal.main_v0_5) = v5 c
          ∧ r.2.mem ((c.tc : Thread Cert.PostmixBwdIdeal.nD Cert.PostmixBwdIdeal.τ).loc Cert.PostmixBwdIdeal.main_v0_6) = v6 c
          ∧ r.2.mem ((c.tc : Thread Cert.PostmixBwdIdeal.nD Cert.PostmixBwdIdeal.τ).loc Cert.PostmixBwdIdeal.main_arg0) = m ((c.tc : Thread Cert.PostmixBwdIdeal.nD Cert.PostmixBwdIdeal.τ).loc Cert.PostmixBwdIdeal.main_arg0)
          ∧ r.2.mem ((c.tc : Thread Cert.PostmixBwdIdeal.nD Cert.PostmixBwdIdeal.τ).loc Cert.PostmixBwdIdeal.main_arg1) = m ((c.tc : Thread Cert.PostmixBwdIdeal.nD Cert.PostmixBwdIdeal.τ).loc Cert.PostmixBwdIdeal.main_arg1)
          ∧ r.2.mem ((c.tc : Thread Cert.PostmixBwdIdeal.nD Cert.PostmixBwdIdeal.τ).loc Cert.PostmixBwdIdeal.main_arg2) = m ((c.tc : Thread Cert.PostmixBwdIdeal.nD Cert.PostmixBwdIdeal.τ).loc Cert.PostmixBwdIdeal.main_arg2)
          ∧ r.2.mem ((c.tc : Thread Cert.PostmixBwdIdeal.nD Cert.PostmixBwdIdeal.τ).loc Cert.PostmixBwdIdeal.main_arg3) = m ((c.tc : Thread Cert.PostmixBwdIdeal.nD Cert.PostmixBwdIdeal.τ).loc Cert.PostmixBwdIdeal.main_arg3)
          ∧ r.2.mem ((c.tc : Thread Cert.PostmixBwdIdeal.nD Cert.PostmixBwdIdeal.τ).loc Cert.PostmixBwdIdeal.main_arg4) = m ((c.tc : Thread Cert.PostmixBwdIdeal.nD Cert.PostmixBwdIdeal.τ).loc Cert.PostmixBwdIdeal.main_arg4)
          ∧ r.2.mem ((c.tc : Thread Cert.PostmixBwdIdeal.nD Cert.PostmixBwdIdeal.τ).loc Cert.PostmixBwdIdeal.main_arg5) = m ((c.tc : Thread Cert.PostmixBwdIdeal.nD Cert.PostmixBwdIdeal.τ).loc Cert.PostmixBwdIdeal.main_arg5)
          ∧ r.2.mem ((c.tc : Thread Cert.PostmixBwdIdeal.nD Cert.PostmixBwdIdeal.τ).loc Cert.PostmixBwdIdeal.main_arg6) = m ((c.tc : Thread Cert.PostmixBwdIdeal.nD Cert.PostmixBwdIdeal.τ).loc Cert.PostmixBwdIdeal.main_arg6)
          ∧ r.2.mem ((c.tc : Thread Cert.PostmixBwdIdeal.nD Cert.PostmixBwdIdeal.τ).loc Cert.PostmixBwdIdeal.main_arg7) = m ((c.tc : Thread Cert.PostmixBwdIdeal.nD Cert.PostmixBwdIdeal.τ).loc Cert.PostmixBwdIdeal.main_arg7)
          ∧ r.2.mem ((c.tc : Thread Cert.PostmixBwdIdeal.nD Cert.PostmixBwdIdeal.τ).loc Cert.PostmixBwdIdeal.main_arg8) = m ((c.tc : Thread Cert.PostmixBwdIdeal.nD Cert.PostmixBwdIdeal.τ).loc Cert.PostmixBwdIdeal.main_arg8))
      ∧ θ_run (Cert.PostmixBwdRefIdeal.defs (F := Ideal)) (onTc (τ := Cert.PostmixBwdRefIdeal.τ) (Cert.PostmixBwdRefIdeal.main (F := Ideal))) ⟨m', fun _ => 0, g'⟩ (fun r => ∀ c : Dev Cert.PostmixBwdRefIdeal.nD,
          r.2.mem ((c.tc : Thread Cert.PostmixBwdRefIdeal.nD Cert.PostmixBwdRefIdeal.τ).loc Cert.PostmixBwdRefIdeal.main_v66) = v0 c
          ∧ r.2.mem ((c.tc : Thread Cert.PostmixBwdRefIdeal.nD Cert.PostmixBwdRefIdeal.τ).loc Cert.PostmixBwdRefIdeal.main_v92) = v1 c
          ∧ r.2.mem ((c.tc : Thread Cert.PostmixBwdRefIdeal.nD Cert.PostmixBwdRefIdeal.τ).loc Cert.PostmixBwdRefIdeal.main_v75) = v2 c
          ∧ r.2.mem ((c.tc : Thread Cert.PostmixBwdRefIdeal.nD Cert.PostmixBwdRefIdeal.τ).loc Cert.PostmixBwdRefIdeal.main_v72) = v3 c
          ∧ r.2.mem ((c.tc : Thread Cert.PostmixBwdRefIdeal.nD Cert.PostmixBwdRefIdeal.τ).loc Cert.PostmixBwdRefIdeal.main_v49) = v4 c
          ∧ r.2.mem ((c.tc : Thread Cert.PostmixBwdRefIdeal.nD Cert.PostmixBwdRefIdeal.τ).loc Cert.PostmixBwdRefIdeal.main_v44) = v5 c
          ∧ r.2.mem ((c.tc : Thread Cert.PostmixBwdRefIdeal.nD Cert.PostmixBwdRefIdeal.τ).loc Cert.PostmixBwdRefIdeal.main_v41) = v6 c
          ∧ r.2.mem ((c.tc : Thread Cert.PostmixBwdRefIdeal.nD Cert.PostmixBwdRefIdeal.τ).loc Cert.PostmixBwdRefIdeal.main_arg0) = m' ((c.tc : Thread Cert.PostmixBwdRefIdeal.nD Cert.PostmixBwdRefIdeal.τ).loc Cert.PostmixBwdRefIdeal.main_arg0)
          ∧ r.2.mem ((c.tc : Thread Cert.PostmixBwdRefIdeal.nD Cert.PostmixBwdRefIdeal.τ).loc Cert.PostmixBwdRefIdeal.main_arg1) = m' ((c.tc : Thread Cert.PostmixBwdRefIdeal.nD Cert.PostmixBwdRefIdeal.τ).loc Cert.PostmixBwdRefIdeal.main_arg1)
          ∧ r.2.mem ((c.tc : Thread Cert.PostmixBwdRefIdeal.nD Cert.PostmixBwdRefIdeal.τ).loc Cert.PostmixBwdRefIdeal.main_arg2) = m' ((c.tc : Thread Cert.PostmixBwdRefIdeal.nD Cert.PostmixBwdRefIdeal.τ).loc Cert.PostmixBwdRefIdeal.main_arg2)
          ∧ r.2.mem ((c.tc : Thread Cert.PostmixBwdRefIdeal.nD Cert.PostmixBwdRefIdeal.τ).loc Cert.PostmixBwdRefIdeal.main_arg3) = m' ((c.tc : Thread Cert.PostmixBwdRefIdeal.nD Cert.PostmixBwdRefIdeal.τ).loc Cert.PostmixBwdRefIdeal.main_arg3)
          ∧ r.2.mem ((c.tc : Thread Cert.PostmixBwdRefIdeal.nD Cert.PostmixBwdRefIdeal.τ).loc Cert.PostmixBwdRefIdeal.main_arg4) = m' ((c.tc : Thread Cert.PostmixBwdRefIdeal.nD Cert.PostmixBwdRefIdeal.τ).loc Cert.PostmixBwdRefIdeal.main_arg4)
          ∧ r.2.mem ((c.tc : Thread Cert.PostmixBwdRefIdeal.nD Cert.PostmixBwdRefIdeal.τ).loc Cert.PostmixBwdRefIdeal.main_arg5) = m' ((c.tc : Thread Cert.PostmixBwdRefIdeal.nD Cert.PostmixBwdRefIdeal.τ).loc Cert.PostmixBwdRefIdeal.main_arg5)
          ∧ r.2.mem ((c.tc : Thread Cert.PostmixBwdRefIdeal.nD Cert.PostmixBwdRefIdeal.τ).loc Cert.PostmixBwdRefIdeal.main_arg6) = m' ((c.tc : Thread Cert.PostmixBwdRefIdeal.nD Cert.PostmixBwdRefIdeal.τ).loc Cert.PostmixBwdRefIdeal.main_arg6)
          ∧ r.2.mem ((c.tc : Thread Cert.PostmixBwdRefIdeal.nD Cert.PostmixBwdRefIdeal.τ).loc Cert.PostmixBwdRefIdeal.main_arg7) = m' ((c.tc : Thread Cert.PostmixBwdRefIdeal.nD Cert.PostmixBwdRefIdeal.τ).loc Cert.PostmixBwdRefIdeal.main_arg7)
          ∧ r.2.mem ((c.tc : Thread Cert.PostmixBwdRefIdeal.nD Cert.PostmixBwdRefIdeal.τ).loc Cert.PostmixBwdRefIdeal.main_arg8) = m' ((c.tc : Thread Cert.PostmixBwdRefIdeal.nD Cert.PostmixBwdRefIdeal.τ).loc Cert.PostmixBwdRefIdeal.main_arg8))

def preserves_SmallCols_SmallColsIdeal : Prop :=
  True

def algebraic_SmallColsIdeal_SmallColsRefIdeal [hSmallColsIdeal : Cert.SmallColsIdeal.Facts] [hSmallColsRefIdeal : Cert.SmallColsRefIdeal.Facts] : Prop :=
  ∀ (m : (ℓ : Loc Cert.SmallColsIdeal.nD Cert.SmallColsIdeal.τ Cert.SmallColsIdeal.sig) → Buf (Elt Ideal) ℓ) (g : Dev Cert.SmallColsIdeal.nD → PrngReg)
    (m' : (ℓ : Loc Cert.SmallColsRefIdeal.nD Cert.SmallColsRefIdeal.τ Cert.SmallColsRefIdeal.sig) → Buf (Elt Ideal) ℓ) (g' : Dev Cert.SmallColsRefIdeal.nD → PrngReg), Pre_SmallColsIdeal m →
    (∀ c : Dev Cert.SmallColsIdeal.nD,
      m' ((c.tc : Thread Cert.SmallColsRefIdeal.nD Cert.SmallColsRefIdeal.τ).loc Cert.SmallColsRefIdeal.main_arg0) = m ((c.tc : Thread Cert.SmallColsIdeal.nD Cert.SmallColsIdeal.τ).loc Cert.SmallColsIdeal.main_arg0)
      ∧ m' ((c.tc : Thread Cert.SmallColsRefIdeal.nD Cert.SmallColsRefIdeal.τ).loc Cert.SmallColsRefIdeal.main_arg1) = m ((c.tc : Thread Cert.SmallColsIdeal.nD Cert.SmallColsIdeal.τ).loc Cert.SmallColsIdeal.main_arg1)
      ∧ m' ((c.tc : Thread Cert.SmallColsRefIdeal.nD Cert.SmallColsRefIdeal.τ).loc Cert.SmallColsRefIdeal.main_arg2) = m ((c.tc : Thread Cert.SmallColsIdeal.nD Cert.SmallColsIdeal.τ).loc Cert.SmallColsIdeal.main_arg2)) →
    ∃ (v0 : (c : Dev Cert.SmallColsIdeal.nD) → Buf (Elt Ideal) ((c.tc : Thread Cert.SmallColsIdeal.nD Cert.SmallColsIdeal.τ).loc Cert.SmallColsIdeal.main_v0)),
      θ_run (Cert.SmallColsIdeal.defs (F := Ideal)) (onTc (τ := Cert.SmallColsIdeal.τ) (Cert.SmallColsIdeal.main (F := Ideal))) ⟨m, fun _ => 0, g⟩ (fun r => ∀ c : Dev Cert.SmallColsIdeal.nD,
          r.2.mem ((c.tc : Thread Cert.SmallColsIdeal.nD Cert.SmallColsIdeal.τ).loc Cert.SmallColsIdeal.main_v0) = v0 c
          ∧ r.2.mem ((c.tc : Thread Cert.SmallColsIdeal.nD Cert.SmallColsIdeal.τ).loc Cert.SmallColsIdeal.main_arg0) = m ((c.tc : Thread Cert.SmallColsIdeal.nD Cert.SmallColsIdeal.τ).loc Cert.SmallColsIdeal.main_arg0)
          ∧ r.2.mem ((c.tc : Thread Cert.SmallColsIdeal.nD Cert.SmallColsIdeal.τ).loc Cert.SmallColsIdeal.main_arg1) = m ((c.tc : Thread Cert.SmallColsIdeal.nD Cert.SmallColsIdeal.τ).loc Cert.SmallColsIdeal.main_arg1)
          ∧ r.2.mem ((c.tc : Thread Cert.SmallColsIdeal.nD Cert.SmallColsIdeal.τ).loc Cert.SmallColsIdeal.main_arg2) = m ((c.tc : Thread Cert.SmallColsIdeal.nD Cert.SmallColsIdeal.τ).loc Cert.SmallColsIdeal.main_arg2))
      ∧ θ_run (Cert.SmallColsRefIdeal.defs (F := Ideal)) (onTc (τ := Cert.SmallColsRefIdeal.τ) (Cert.SmallColsRefIdeal.main (F := Ideal))) ⟨m', fun _ => 0, g'⟩ (fun r => ∀ c : Dev Cert.SmallColsRefIdeal.nD,
          r.2.mem ((c.tc : Thread Cert.SmallColsRefIdeal.nD Cert.SmallColsRefIdeal.τ).loc Cert.SmallColsRefIdeal.main_v4) = v0 c
          ∧ r.2.mem ((c.tc : Thread Cert.SmallColsRefIdeal.nD Cert.SmallColsRefIdeal.τ).loc Cert.SmallColsRefIdeal.main_arg0) = m' ((c.tc : Thread Cert.SmallColsRefIdeal.nD Cert.SmallColsRefIdeal.τ).loc Cert.SmallColsRefIdeal.main_arg0)
          ∧ r.2.mem ((c.tc : Thread Cert.SmallColsRefIdeal.nD Cert.SmallColsRefIdeal.τ).loc Cert.SmallColsRefIdeal.main_arg1) = m' ((c.tc : Thread Cert.SmallColsRefIdeal.nD Cert.SmallColsRefIdeal.τ).loc Cert.SmallColsRefIdeal.main_arg1)
          ∧ r.2.mem ((c.tc : Thread Cert.SmallColsRefIdeal.nD Cert.SmallColsRefIdeal.τ).loc Cert.SmallColsRefIdeal.main_arg2) = m' ((c.tc : Thread Cert.SmallColsRefIdeal.nD Cert.SmallColsRefIdeal.τ).loc Cert.SmallColsRefIdeal.main_arg2))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hMlpDownDx : Cert.MlpDownDx.Facts) (hMlpDownDxIdeal : Cert.MlpDownDxIdeal.Facts) (hMlpDownDxRefIdeal : Cert.MlpDownDxRefIdeal.Facts) (hMlpDownDw : Cert.MlpDownDw.Facts) (hMlpDownDwIdeal : Cert.MlpDownDwIdeal.Facts) (hMlpDownDwRefIdeal : Cert.MlpDownDwRefIdeal.Facts) (hMlpUpDx : Cert.MlpUpDx.Facts) (hMlpUpDxIdeal : Cert.MlpUpDxIdeal.Facts) (hMlpUpDxRefIdeal : Cert.MlpUpDxRefIdeal.Facts) (hMlpUpDw : Cert.MlpUpDw.Facts) (hMlpUpDwIdeal : Cert.MlpUpDwIdeal.Facts) (hMlpUpDwRefIdeal : Cert.MlpUpDwRefIdeal.Facts) (hWOutDx : Cert.WOutDx.Facts) (hWOutDxIdeal : Cert.WOutDxIdeal.Facts) (hWOutDxRefIdeal : Cert.WOutDxRefIdeal.Facts) (hWOutDw : Cert.WOutDw.Facts) (hWOutDwIdeal : Cert.WOutDwIdeal.Facts) (hWOutDwRefIdeal : Cert.WOutDwRefIdeal.Facts) (hSsmUp : Cert.SsmUp.Facts) (hSsmUpIdeal : Cert.SsmUpIdeal.Facts) (hSsmUpRefIdeal : Cert.SsmUpRefIdeal.Facts) (hGdnUp : Cert.GdnUp.Facts) (hGdnUpIdeal : Cert.GdnUpIdeal.Facts) (hGdnUpRefIdeal : Cert.GdnUpRefIdeal.Facts) (hSsmUpDx : Cert.SsmUpDx.Facts) (hSsmUpDxIdeal : Cert.SsmUpDxIdeal.Facts) (hSsmUpDxRefIdeal : Cert.SsmUpDxRefIdeal.Facts) (hGdnUpDx : Cert.GdnUpDx.Facts) (hGdnUpDxIdeal : Cert.GdnUpDxIdeal.Facts) (hGdnUpDxRefIdeal : Cert.GdnUpDxRefIdeal.Facts) (hGdnUpDw : Cert.GdnUpDw.Facts) (hGdnUpDwIdeal : Cert.GdnUpDwIdeal.Facts) (hGdnUpDwRefIdeal : Cert.GdnUpDwRefIdeal.Facts) (hInProj : Cert.InProj.Facts) (hInProjIdeal : Cert.InProjIdeal.Facts) (hInProjRefIdeal : Cert.InProjRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hSsmUpDw : Cert.SsmUpDw.Facts) (hSsmUpDwIdeal : Cert.SsmUpDwIdeal.Facts) (hSsmUpDwRefIdeal : Cert.SsmUpDwRefIdeal.Facts) (hAdaBwd : Cert.AdaBwd.Facts) (hAdaBwdIdeal : Cert.AdaBwdIdeal.Facts) (hAdaBwdRefIdeal : Cert.AdaBwdRefIdeal.Facts) (hPremixBwd : Cert.PremixBwd.Facts) (hPremixBwdIdeal : Cert.PremixBwdIdeal.Facts) (hPremixBwdRefIdeal : Cert.PremixBwdRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hAdamWIn : Cert.AdamWIn.Facts) (hAdamWInIdeal : Cert.AdamWInIdeal.Facts) (hAdamWInRefIdeal : Cert.AdamWInRefIdeal.Facts) (hAdamSsmUp : Cert.AdamSsmUp.Facts) (hAdamSsmUpIdeal : Cert.AdamSsmUpIdeal.Facts) (hAdamSsmUpRefIdeal : Cert.AdamSsmUpRefIdeal.Facts) (hAdamGdnUp : Cert.AdamGdnUp.Facts) (hAdamGdnUpIdeal : Cert.AdamGdnUpIdeal.Facts) (hAdamGdnUpRefIdeal : Cert.AdamGdnUpRefIdeal.Facts) (hAdamWOut : Cert.AdamWOut.Facts) (hAdamWOutIdeal : Cert.AdamWOutIdeal.Facts) (hAdamWOutRefIdeal : Cert.AdamWOutRefIdeal.Facts) (hAdamMlpUp : Cert.AdamMlpUp.Facts) (hAdamMlpUpIdeal : Cert.AdamMlpUpIdeal.Facts) (hAdamMlpUpRefIdeal : Cert.AdamMlpUpRefIdeal.Facts) (hAdamMlpDown : Cert.AdamMlpDown.Facts) (hAdamMlpDownIdeal : Cert.AdamMlpDownIdeal.Facts) (hAdamMlpDownRefIdeal : Cert.AdamMlpDownRefIdeal.Facts) (hSmallSum : Cert.SmallSum.Facts) (hSmallSumIdeal : Cert.SmallSumIdeal.Facts) (hSmallSumRefIdeal : Cert.SmallSumRefIdeal.Facts) (hSumIn : Cert.SumIn.Facts) (hSumInIdeal : Cert.SumInIdeal.Facts) (hSumInRefIdeal : Cert.SumInRefIdeal.Facts) (hSumUp : Cert.SumUp.Facts) (hSumUpIdeal : Cert.SumUpIdeal.Facts) (hSumUpRefIdeal : Cert.SumUpRefIdeal.Facts) (hSumOut : Cert.SumOut.Facts) (hSumOutIdeal : Cert.SumOutIdeal.Facts) (hSumOutRefIdeal : Cert.SumOutRefIdeal.Facts) (hSumMlp : Cert.SumMlp.Facts) (hSumMlpIdeal : Cert.SumMlpIdeal.Facts) (hSumMlpRefIdeal : Cert.SumMlpRefIdeal.Facts) (hAddIn : Cert.AddIn.Facts) (hAddInIdeal : Cert.AddInIdeal.Facts) (hAddInRefIdeal : Cert.AddInRefIdeal.Facts) (hAddUp : Cert.AddUp.Facts) (hAddUpIdeal : Cert.AddUpIdeal.Facts) (hAddUpRefIdeal : Cert.AddUpRefIdeal.Facts) (hAddOut : Cert.AddOut.Facts) (hAddOutIdeal : Cert.AddOutIdeal.Facts) (hAddOutRefIdeal : Cert.AddOutRefIdeal.Facts) (hAddMlp : Cert.AddMlp.Facts) (hAddMlpIdeal : Cert.AddMlpIdeal.Facts) (hAddMlpRefIdeal : Cert.AddMlpRefIdeal.Facts) (hAdaFwd : Cert.AdaFwd.Facts) (hAdaFwdIdeal : Cert.AdaFwdIdeal.Facts) (hAdaFwdRefIdeal : Cert.AdaFwdRefIdeal.Facts) (hPremix : Cert.Premix.Facts) (hPremixIdeal : Cert.PremixIdeal.Facts) (hPremixRefIdeal : Cert.PremixRefIdeal.Facts) (hMerged : Cert.Merged.Facts) (hMergedIdeal : Cert.MergedIdeal.Facts) (hMergedRefIdeal : Cert.MergedRefIdeal.Facts) (hPostmix : Cert.Postmix.Facts) (hPostmixIdeal : Cert.PostmixIdeal.Facts) (hPostmixRefIdeal : Cert.PostmixRefIdeal.Facts) (hFinal : Cert.Final.Facts) (hFinalIdeal : Cert.FinalIdeal.Facts) (hFinalRefIdeal : Cert.FinalRefIdeal.Facts) (hPostmixBwd : Cert.PostmixBwd.Facts) (hPostmixBwdIdeal : Cert.PostmixBwdIdeal.Facts) (hPostmixBwdRefIdeal : Cert.PostmixBwdRefIdeal.Facts) (hSmallCols : Cert.SmallCols.Facts) (hSmallColsIdeal : Cert.SmallColsIdeal.Facts) (hSmallColsRefIdeal : Cert.SmallColsRefIdeal.Facts) (hPre_place_in : Cert.Pre_place_in.Facts) (hPre_place_up : Cert.Pre_place_up.Facts) (hPre_place_out : Cert.Pre_place_out.Facts) (hPre_place_mlp : Cert.Pre_place_mlp.Facts) (hPre_core_in : Cert.Pre_core_in.Facts) (hPre_core_up : Cert.Pre_core_up.Facts) (hPre_core_out : Cert.Pre_core_out.Facts) (hPre_core_mlp : Cert.Pre_core_mlp.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDownDx (hMlpDownDx := hMlpDownDx)
    ∧ quiescent_MlpDownDxIdeal (hMlpDownDxIdeal := hMlpDownDxIdeal)
    ∧ quiescent_MlpDownDxRefIdeal (hMlpDownDxRefIdeal := hMlpDownDxRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_MlpUpDx (hMlpUpDx := hMlpUpDx)
    ∧ quiescent_MlpUpDxIdeal (hMlpUpDxIdeal := hMlpUpDxIdeal)
    ∧ quiescent_MlpUpDxRefIdeal (hMlpUpDxRefIdeal := hMlpUpDxRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_WOutDx (hWOutDx := hWOutDx)
    ∧ quiescent_WOutDxIdeal (hWOutDxIdeal := hWOutDxIdeal)
    ∧ quiescent_WOutDxRefIdeal (hWOutDxRefIdeal := hWOutDxRefIdeal)
    ∧ quiescent_WOutDw (hWOutDw := hWOutDw)
    ∧ quiescent_WOutDwIdeal (hWOutDwIdeal := hWOutDwIdeal)
    ∧ quiescent_WOutDwRefIdeal (hWOutDwRefIdeal := hWOutDwRefIdeal)
    ∧ quiescent_SsmUp (hSsmUp := hSsmUp)
    ∧ quiescent_SsmUpIdeal (hSsmUpIdeal := hSsmUpIdeal)
    ∧ quiescent_SsmUpRefIdeal (hSsmUpRefIdeal := hSsmUpRefIdeal)
    ∧ quiescent_GdnUp (hGdnUp := hGdnUp)
    ∧ quiescent_GdnUpIdeal (hGdnUpIdeal := hGdnUpIdeal)
    ∧ quiescent_GdnUpRefIdeal (hGdnUpRefIdeal := hGdnUpRefIdeal)
    ∧ quiescent_SsmUpDx (hSsmUpDx := hSsmUpDx)
    ∧ quiescent_SsmUpDxIdeal (hSsmUpDxIdeal := hSsmUpDxIdeal)
    ∧ quiescent_SsmUpDxRefIdeal (hSsmUpDxRefIdeal := hSsmUpDxRefIdeal)
    ∧ quiescent_GdnUpDx (hGdnUpDx := hGdnUpDx)
    ∧ quiescent_GdnUpDxIdeal (hGdnUpDxIdeal := hGdnUpDxIdeal)
    ∧ quiescent_GdnUpDxRefIdeal (hGdnUpDxRefIdeal := hGdnUpDxRefIdeal)
    ∧ quiescent_GdnUpDw (hGdnUpDw := hGdnUpDw)
    ∧ quiescent_GdnUpDwIdeal (hGdnUpDwIdeal := hGdnUpDwIdeal)
    ∧ quiescent_GdnUpDwRefIdeal (hGdnUpDwRefIdeal := hGdnUpDwRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_SsmUpDw (hSsmUpDw := hSsmUpDw)
    ∧ quiescent_SsmUpDwIdeal (hSsmUpDwIdeal := hSsmUpDwIdeal)
    ∧ quiescent_SsmUpDwRefIdeal (hSsmUpDwRefIdeal := hSsmUpDwRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_PremixBwd (hPremixBwd := hPremixBwd)
    ∧ quiescent_PremixBwdIdeal (hPremixBwdIdeal := hPremixBwdIdeal)
    ∧ quiescent_PremixBwdRefIdeal (hPremixBwdRefIdeal := hPremixBwdRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamSsmUp (hAdamSsmUp := hAdamSsmUp)
    ∧ quiescent_AdamSsmUpIdeal (hAdamSsmUpIdeal := hAdamSsmUpIdeal)
    ∧ quiescent_AdamSsmUpRefIdeal (hAdamSsmUpRefIdeal := hAdamSsmUpRefIdeal)
    ∧ quiescent_AdamGdnUp (hAdamGdnUp := hAdamGdnUp)
    ∧ quiescent_AdamGdnUpIdeal (hAdamGdnUpIdeal := hAdamGdnUpIdeal)
    ∧ quiescent_AdamGdnUpRefIdeal (hAdamGdnUpRefIdeal := hAdamGdnUpRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamMlpUp (hAdamMlpUp := hAdamMlpUp)
    ∧ quiescent_AdamMlpUpIdeal (hAdamMlpUpIdeal := hAdamMlpUpIdeal)
    ∧ quiescent_AdamMlpUpRefIdeal (hAdamMlpUpRefIdeal := hAdamMlpUpRefIdeal)
    ∧ quiescent_AdamMlpDown (hAdamMlpDown := hAdamMlpDown)
    ∧ quiescent_AdamMlpDownIdeal (hAdamMlpDownIdeal := hAdamMlpDownIdeal)
    ∧ quiescent_AdamMlpDownRefIdeal (hAdamMlpDownRefIdeal := hAdamMlpDownRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_SumIn (hSumIn := hSumIn) (hPre_place_in := hPre_place_in)
    ∧ quiescent_SumInIdeal (hSumInIdeal := hSumInIdeal) (hPre_place_in := hPre_place_in)
    ∧ quiescent_SumInRefIdeal (hSumInRefIdeal := hSumInRefIdeal)
    ∧ quiescent_SumInRefIdeal_pre_place_in (hSumInRefIdeal := hSumInRefIdeal) (hPre_place_in := hPre_place_in)
    ∧ quiescent_SumUp (hSumUp := hSumUp) (hPre_place_up := hPre_place_up)
    ∧ quiescent_SumUpIdeal (hSumUpIdeal := hSumUpIdeal) (hPre_place_up := hPre_place_up)
    ∧ quiescent_SumUpRefIdeal (hSumUpRefIdeal := hSumUpRefIdeal)
    ∧ quiescent_SumUpRefIdeal_pre_place_up (hSumUpRefIdeal := hSumUpRefIdeal) (hPre_place_up := hPre_place_up)
    ∧ quiescent_SumOut (hSumOut := hSumOut) (hPre_place_out := hPre_place_out)
    ∧ quiescent_SumOutIdeal (hSumOutIdeal := hSumOutIdeal) (hPre_place_out := hPre_place_out)
    ∧ quiescent_SumOutRefIdeal (hSumOutRefIdeal := hSumOutRefIdeal)
    ∧ quiescent_SumOutRefIdeal_pre_place_out (hSumOutRefIdeal := hSumOutRefIdeal) (hPre_place_out := hPre_place_out)
    ∧ quiescent_SumMlp (hSumMlp := hSumMlp) (hPre_place_mlp := hPre_place_mlp)
    ∧ quiescent_SumMlpIdeal (hSumMlpIdeal := hSumMlpIdeal) (hPre_place_mlp := hPre_place_mlp)
    ∧ quiescent_SumMlpRefIdeal (hSumMlpRefIdeal := hSumMlpRefIdeal)
    ∧ quiescent_SumMlpRefIdeal_pre_place_mlp (hSumMlpRefIdeal := hSumMlpRefIdeal) (hPre_place_mlp := hPre_place_mlp)
    ∧ quiescent_AddIn (hAddIn := hAddIn) (hPre_core_in := hPre_core_in)
    ∧ quiescent_AddInIdeal (hAddInIdeal := hAddInIdeal) (hPre_core_in := hPre_core_in)
    ∧ quiescent_AddInRefIdeal (hAddInRefIdeal := hAddInRefIdeal)
    ∧ quiescent_AddInRefIdeal_pre_core_in (hAddInRefIdeal := hAddInRefIdeal) (hPre_core_in := hPre_core_in)
    ∧ quiescent_AddUp (hAddUp := hAddUp) (hPre_core_up := hPre_core_up)
    ∧ quiescent_AddUpIdeal (hAddUpIdeal := hAddUpIdeal) (hPre_core_up := hPre_core_up)
    ∧ quiescent_AddUpRefIdeal (hAddUpRefIdeal := hAddUpRefIdeal)
    ∧ quiescent_AddUpRefIdeal_pre_core_up (hAddUpRefIdeal := hAddUpRefIdeal) (hPre_core_up := hPre_core_up)
    ∧ quiescent_AddOut (hAddOut := hAddOut) (hPre_core_out := hPre_core_out)
    ∧ quiescent_AddOutIdeal (hAddOutIdeal := hAddOutIdeal) (hPre_core_out := hPre_core_out)
    ∧ quiescent_AddOutRefIdeal (hAddOutRefIdeal := hAddOutRefIdeal)
    ∧ quiescent_AddOutRefIdeal_pre_core_out (hAddOutRefIdeal := hAddOutRefIdeal) (hPre_core_out := hPre_core_out)
    ∧ quiescent_AddMlp (hAddMlp := hAddMlp) (hPre_core_mlp := hPre_core_mlp)
    ∧ quiescent_AddMlpIdeal (hAddMlpIdeal := hAddMlpIdeal) (hPre_core_mlp := hPre_core_mlp)
    ∧ quiescent_AddMlpRefIdeal (hAddMlpRefIdeal := hAddMlpRefIdeal)
    ∧ quiescent_AddMlpRefIdeal_pre_core_mlp (hAddMlpRefIdeal := hAddMlpRefIdeal) (hPre_core_mlp := hPre_core_mlp)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_Premix (hPremix := hPremix)
    ∧ quiescent_PremixIdeal (hPremixIdeal := hPremixIdeal)
    ∧ quiescent_PremixRefIdeal (hPremixRefIdeal := hPremixRefIdeal)
    ∧ quiescent_Merged (hMerged := hMerged)
    ∧ quiescent_MergedIdeal (hMergedIdeal := hMergedIdeal)
    ∧ quiescent_MergedRefIdeal (hMergedRefIdeal := hMergedRefIdeal)
    ∧ quiescent_Postmix (hPostmix := hPostmix)
    ∧ quiescent_PostmixIdeal (hPostmixIdeal := hPostmixIdeal)
    ∧ quiescent_PostmixRefIdeal (hPostmixRefIdeal := hPostmixRefIdeal)
    ∧ quiescent_Final (hFinal := hFinal)
    ∧ quiescent_FinalIdeal (hFinalIdeal := hFinalIdeal)
    ∧ quiescent_FinalRefIdeal (hFinalRefIdeal := hFinalRefIdeal)
    ∧ quiescent_PostmixBwd (hPostmixBwd := hPostmixBwd)
    ∧ quiescent_PostmixBwdIdeal (hPostmixBwdIdeal := hPostmixBwdIdeal)
    ∧ quiescent_PostmixBwdRefIdeal (hPostmixBwdRefIdeal := hPostmixBwdRefIdeal)
    ∧ quiescent_SmallCols (hSmallCols := hSmallCols)
    ∧ quiescent_SmallColsIdeal (hSmallColsIdeal := hSmallColsIdeal)
    ∧ quiescent_SmallColsRefIdeal (hSmallColsRefIdeal := hSmallColsRefIdeal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_MlpUp_MlpUpIdeal
    ∧ algebraic_MlpUpIdeal_MlpUpRefIdeal (hMlpUpIdeal := hMlpUpIdeal) (hMlpUpRefIdeal := hMlpUpRefIdeal)
    ∧ preserves_MlpDownDx_MlpDownDxIdeal
    ∧ algebraic_MlpDownDxIdeal_MlpDownDxRefIdeal (hMlpDownDxIdeal := hMlpDownDxIdeal) (hMlpDownDxRefIdeal := hMlpDownDxRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_MlpUpDx_MlpUpDxIdeal
    ∧ algebraic_MlpUpDxIdeal_MlpUpDxRefIdeal (hMlpUpDxIdeal := hMlpUpDxIdeal) (hMlpUpDxRefIdeal := hMlpUpDxRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_WOutDx_WOutDxIdeal
    ∧ algebraic_WOutDxIdeal_WOutDxRefIdeal (hWOutDxIdeal := hWOutDxIdeal) (hWOutDxRefIdeal := hWOutDxRefIdeal)
    ∧ preserves_WOutDw_WOutDwIdeal
    ∧ algebraic_WOutDwIdeal_WOutDwRefIdeal (hWOutDwIdeal := hWOutDwIdeal) (hWOutDwRefIdeal := hWOutDwRefIdeal)
    ∧ preserves_SsmUp_SsmUpIdeal
    ∧ algebraic_SsmUpIdeal_SsmUpRefIdeal (hSsmUpIdeal := hSsmUpIdeal) (hSsmUpRefIdeal := hSsmUpRefIdeal)
    ∧ preserves_GdnUp_GdnUpIdeal
    ∧ algebraic_GdnUpIdeal_GdnUpRefIdeal (hGdnUpIdeal := hGdnUpIdeal) (hGdnUpRefIdeal := hGdnUpRefIdeal)
    ∧ preserves_SsmUpDx_SsmUpDxIdeal
    ∧ algebraic_SsmUpDxIdeal_SsmUpDxRefIdeal (hSsmUpDxIdeal := hSsmUpDxIdeal) (hSsmUpDxRefIdeal := hSsmUpDxRefIdeal)
    ∧ preserves_GdnUpDx_GdnUpDxIdeal
    ∧ algebraic_GdnUpDxIdeal_GdnUpDxRefIdeal (hGdnUpDxIdeal := hGdnUpDxIdeal) (hGdnUpDxRefIdeal := hGdnUpDxRefIdeal)
    ∧ preserves_GdnUpDw_GdnUpDwIdeal
    ∧ algebraic_GdnUpDwIdeal_GdnUpDwRefIdeal (hGdnUpDwIdeal := hGdnUpDwIdeal) (hGdnUpDwRefIdeal := hGdnUpDwRefIdeal)
    ∧ preserves_InProj_InProjIdeal
    ∧ algebraic_InProjIdeal_InProjRefIdeal (hInProjIdeal := hInProjIdeal) (hInProjRefIdeal := hInProjRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_SsmUpDw_SsmUpDwIdeal
    ∧ algebraic_SsmUpDwIdeal_SsmUpDwRefIdeal (hSsmUpDwIdeal := hSsmUpDwIdeal) (hSsmUpDwRefIdeal := hSsmUpDwRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_PremixBwd_PremixBwdIdeal
    ∧ algebraic_PremixBwdIdeal_PremixBwdRefIdeal (hPremixBwdIdeal := hPremixBwdIdeal) (hPremixBwdRefIdeal := hPremixBwdRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamSsmUp_AdamSsmUpIdeal
    ∧ algebraic_AdamSsmUpIdeal_AdamSsmUpRefIdeal (hAdamSsmUpIdeal := hAdamSsmUpIdeal) (hAdamSsmUpRefIdeal := hAdamSsmUpRefIdeal)
    ∧ preserves_AdamGdnUp_AdamGdnUpIdeal
    ∧ algebraic_AdamGdnUpIdeal_AdamGdnUpRefIdeal (hAdamGdnUpIdeal := hAdamGdnUpIdeal) (hAdamGdnUpRefIdeal := hAdamGdnUpRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamMlpUp_AdamMlpUpIdeal
    ∧ algebraic_AdamMlpUpIdeal_AdamMlpUpRefIdeal (hAdamMlpUpIdeal := hAdamMlpUpIdeal) (hAdamMlpUpRefIdeal := hAdamMlpUpRefIdeal)
    ∧ preserves_AdamMlpDown_AdamMlpDownIdeal
    ∧ algebraic_AdamMlpDownIdeal_AdamMlpDownRefIdeal (hAdamMlpDownIdeal := hAdamMlpDownIdeal) (hAdamMlpDownRefIdeal := hAdamMlpDownRefIdeal)
    ∧ preserves_SmallSum_SmallSumIdeal
    ∧ algebraic_SmallSumIdeal_SmallSumRefIdeal (hSmallSumIdeal := hSmallSumIdeal) (hSmallSumRefIdeal := hSmallSumRefIdeal)
    ∧ preserves_SumIn_SumInIdeal
    ∧ algebraic_SumInIdeal_SumInRefIdeal (hSumInIdeal := hSumInIdeal) (hSumInRefIdeal := hSumInRefIdeal) (hPre_place_in := hPre_place_in)
    ∧ preserves_SumUp_SumUpIdeal
    ∧ algebraic_SumUpIdeal_SumUpRefIdeal (hSumUpIdeal := hSumUpIdeal) (hSumUpRefIdeal := hSumUpRefIdeal) (hPre_place_up := hPre_place_up)
    ∧ preserves_SumOut_SumOutIdeal
    ∧ algebraic_SumOutIdeal_SumOutRefIdeal (hSumOutIdeal := hSumOutIdeal) (hSumOutRefIdeal := hSumOutRefIdeal) (hPre_place_out := hPre_place_out)
    ∧ preserves_SumMlp_SumMlpIdeal
    ∧ algebraic_SumMlpIdeal_SumMlpRefIdeal (hSumMlpIdeal := hSumMlpIdeal) (hSumMlpRefIdeal := hSumMlpRefIdeal) (hPre_place_mlp := hPre_place_mlp)
    ∧ preserves_AddIn_AddInIdeal
    ∧ algebraic_AddInIdeal_AddInRefIdeal (hAddInIdeal := hAddInIdeal) (hAddInRefIdeal := hAddInRefIdeal) (hPre_core_in := hPre_core_in)
    ∧ preserves_AddUp_AddUpIdeal
    ∧ algebraic_AddUpIdeal_AddUpRefIdeal (hAddUpIdeal := hAddUpIdeal) (hAddUpRefIdeal := hAddUpRefIdeal) (hPre_core_up := hPre_core_up)
    ∧ preserves_AddOut_AddOutIdeal
    ∧ algebraic_AddOutIdeal_AddOutRefIdeal (hAddOutIdeal := hAddOutIdeal) (hAddOutRefIdeal := hAddOutRefIdeal) (hPre_core_out := hPre_core_out)
    ∧ preserves_AddMlp_AddMlpIdeal
    ∧ algebraic_AddMlpIdeal_AddMlpRefIdeal (hAddMlpIdeal := hAddMlpIdeal) (hAddMlpRefIdeal := hAddMlpRefIdeal) (hPre_core_mlp := hPre_core_mlp)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_Premix_PremixIdeal
    ∧ algebraic_PremixIdeal_PremixRefIdeal (hPremixIdeal := hPremixIdeal) (hPremixRefIdeal := hPremixRefIdeal)
    ∧ preserves_Merged_MergedIdeal
    ∧ algebraic_MergedIdeal_MergedRefIdeal (hMergedIdeal := hMergedIdeal) (hMergedRefIdeal := hMergedRefIdeal)
    ∧ preserves_Postmix_PostmixIdeal
    ∧ algebraic_PostmixIdeal_PostmixRefIdeal (hPostmixIdeal := hPostmixIdeal) (hPostmixRefIdeal := hPostmixRefIdeal)
    ∧ preserves_Final_FinalIdeal
    ∧ algebraic_FinalIdeal_FinalRefIdeal (hFinalIdeal := hFinalIdeal) (hFinalRefIdeal := hFinalRefIdeal)
    ∧ preserves_PostmixBwd_PostmixBwdIdeal
    ∧ algebraic_PostmixBwdIdeal_PostmixBwdRefIdeal (hPostmixBwdIdeal := hPostmixBwdIdeal) (hPostmixBwdRefIdeal := hPostmixBwdRefIdeal)
    ∧ preserves_SmallCols_SmallColsIdeal
    ∧ algebraic_SmallColsIdeal_SmallColsRefIdeal (hSmallColsIdeal := hSmallColsIdeal) (hSmallColsRefIdeal := hSmallColsRefIdeal)
-- ==== On_gate_columns.lean ====
abbrev S4096x15360 : Shape := ⟨2, ![4096, 15360]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  bcast_S_S4096x15360 : S_.BroadcastsInDim S4096x15360 (![] : Fin 0 → Fin S4096x15360.rank)

variable [Facts]

def fn {F : FTy → Type} [FloatOps F] (main_arg0 : FVec F S4096x15360 .f32) (main_arg1 : FVec F S4096x1024 .bf16) (main_arg2 : FVec F S4096x1024 .bf16) (main_arg3 : FVec F S4096x1024 .bf16) : IVec S4096x1024 1 × IVec S4096x1024 1 × IVec S4096x15360 1 :=
  let main_v0 : IVec S4096x15360 32 := iotaInDim S4096x15360 32 1
  let main_v1 : IVec S4096x1024 32 := iotaInDim S4096x1024 32 1
  let main_c : IVec S_ 32 := constantI S_ 32 0#32
  let main_v2 : IVec S4096x1024 32 := broadcastInDim S4096x1024 ![] bcast_S_S4096x1024 main_c
  let main_v3 : IVec S4096x1024 1 := cmpi .sge main_v1 main_v2
  let main_c_0 : IVec S_ 32 := constantI S_ 32 12288#32
  let main_v4 : IVec S4096x15360 32 := broadcastInDim S4096x15360 ![] bcast_S_S4096x15360 main_c_0
  let main_v5 : IVec S4096x15360 1 := cmpi .sge main_v0 main_v4
  let main_c_1 : IVec S_ 32 := constantI S_ 32 14336#32
  let main_v6 : IVec S4096x15360 32 := broadcastInDim S4096x15360 ![] bcast_S_S4096x15360 main_c_1
  let main_v7 : IVec S4096x15360 1 := cmpi .slt main_v0 main_v6
  let main_v8 : IVec S4096x15360 1 := andi main_v5 main_v7
  (main_v3, main_v3, main_v8)
-- ==== Pre_core_in.lean ====
abbrev S2 : Shape := ⟨1, ![2]⟩
abbrev S4x3600x1024 : Shape := ⟨3, ![4, 3600, 1024]⟩
abbrev S4x3600x512 : Shape := ⟨3, ![4, 3600, 512]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S4x3600x1024 .f32) (main_arg2 : FVec F S4x3600x512 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 2#32
  let main_v3 : IVec S_ 1 := cmpi .slt main_v1 main_c_0
  let main_v4 : IVec S_ 1 := andi main_v2 main_v3
  main_v4
-- ==== Pre_core_mlp.lean ====
abbrev S2 : Shape := ⟨1, ![2]⟩
abbrev S4x1024x1024 : Shape := ⟨3, ![4, 1024, 1024]⟩
abbrev S4x512x1024 : Shape := ⟨3, ![4, 512, 1024]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S4x1024x1024 .f32) (main_arg2 : FVec F S4x512x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 2#32
  let main_v3 : IVec S_ 1 := cmpi .slt main_v1 main_c_0
  let main_v4 : IVec S_ 1 := andi main_v2 main_v3
  main_v4
-- ==== Pre_core_out.lean ====
abbrev S2 : Shape := ⟨1, ![2]⟩
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S4x256x1024 .f32) (main_arg2 : FVec F S4x128x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 2#32
  let main_v3 : IVec S_ 1 := cmpi .slt main_v1 main_c_0
  let main_v4 : IVec S_ 1 := andi main_v2 main_v3
  main_v4
-- ==== Pre_core_up.lean ====
abbrev S2 : Shape := ⟨1, ![2]⟩
abbrev S4x512x1024 : Shape := ⟨3, ![4, 512, 1024]⟩
abbrev S4x256x1024 : Shape := ⟨3, ![4, 256, 1024]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S4x512x1024 .f32) (main_arg2 : FVec F S4x256x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 2#32
  let main_v3 : IVec S_ 1 := cmpi .slt main_v1 main_c_0
  let main_v4 : IVec S_ 1 := andi main_v2 main_v3
  main_v4
-- ==== Pre_place_in.lean ====
abbrev S2 : Shape := ⟨1, ![2]⟩
abbrev S4x3600x512 : Shape := ⟨3, ![4, 3600, 512]⟩
abbrev S3x3600x512 : Shape := ⟨3, ![3, 3600, 512]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x3600x512 .f32) (main_arg2 : FVec F S3x3600x512 .bf16) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_place_mlp.lean ====
abbrev S2 : Shape := ⟨1, ![2]⟩
abbrev S4x512x1024 : Shape := ⟨3, ![4, 512, 1024]⟩
abbrev S3x512x1024 : Shape := ⟨3, ![3, 512, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x512x1024 .f32) (main_arg2 : FVec F S3x512x1024 .bf16) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_place_out.lean ====
abbrev S2 : Shape := ⟨1, ![2]⟩
abbrev S4x128x1024 : Shape := ⟨3, ![4, 128, 1024]⟩
abbrev S3x128x1024 : Shape := ⟨3, ![3, 128, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x128x1024 .f32) (main_arg2 : FVec F S3x128x1024 .bf16) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_place_up.lean ====
abbrev S2 : Shape := ⟨1, ![2]⟩
abbrev S4x256x1024 : Shape := ⟨3, ![4, 256, 1024]⟩
abbrev S3x256x1024 : Shape := ⟨3, ![3, 256, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x256x1024 .f32) (main_arg2 : FVec F S3x256x1024 .bf16) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Kernel.lean ====
abbrev S4096x15360 : Shape := ⟨2, ![4096, 15360]⟩
abbrev S4096x1024 : Shape := ⟨2, ![4096, 1024]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S4096x15360, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x15360, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x15360 : Shape := ⟨2, ![4096, 15360]⟩
abbrev S4096x1024 : Shape := ⟨2, ![4096, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x15360, .f32⟩
  | .hbm, ⟨44, _⟩ => ⟨S_, .f32⟩
  | .hbm, ⟨45, _⟩ => ⟨S4096x15360, .f32⟩
  | .hbm, ⟨46, _⟩ => ⟨S4096x15360, .f32⟩
  | .hbm, ⟨47, _⟩ => ⟨S4096x1024, .bf16⟩
  | .hbm, ⟨48, _⟩ => ⟨S4096x1024, .bf16⟩
  | .hbm, ⟨49, _⟩ => ⟨S4096x15360, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== MlpUp.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpDownDx.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownDxRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpDownDw.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlpUpDx.lean ====
abbrev S4096x4096 : Shape := ⟨2, ![4096, 4096]⟩
abbrev S4x1024x1024 : Shape := ⟨3, ![4, 1024, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDxRefIdeal.lean ====
abbrev S4096x4096 : Shape := ⟨2, ![4096, 4096]⟩
abbrev S4x1024x1024 : Shape := ⟨3, ![4, 1024, 1024]⟩
abbrev S_ : Shape := ⟨0, ![]⟩
abbrev S4096x1024 : Shape := ⟨2, ![4096, 1024]⟩
abbrev S1024x4x1024 : Shape := ⟨3, ![1024, 4, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUpDw.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S4096x1024 : Shape := ⟨2, ![4096, 1024]⟩
abbrev S4096x4096 : Shape := ⟨2, ![4096, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4x1024x1024, .f32⟩
  | .hbm, ⟨5, _⟩ => ⟨S4096x1024, .f32⟩
  | .hbm, ⟨6, _⟩ => ⟨S1024x4x1024, .f32⟩
  | .hbm, ⟨7, _⟩ => ⟨S1024x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== WOutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmUp.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmUpRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GdnUp.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnUpRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmUpDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmUpDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S_, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GdnUpDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnUpDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S_, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GdnUpDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnUpDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x1024 : Shape := ⟨2, ![4096, 1024]⟩
abbrev S1024x15360 : Shape := ⟨2, ![1024, 15360]⟩
abbrev S4096x15360 : Shape := ⟨2, ![4096, 15360]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x15360, .bf16⟩
  | .hbm, ⟨2, _⟩ => ⟨S4096x15360, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x15360 : Shape := ⟨2, ![1024, 15360]⟩
abbrev S4096x15360 : Shape := ⟨2, ![4096, 15360]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x15360, .bf16⟩
  | .hbm, ⟨2, _⟩ => ⟨S4096x1024, .f32⟩
  | .hbm, ⟨3, _⟩ => ⟨S1024x15360, .f32⟩
  | .hbm, ⟨4, _⟩ => ⟨S4096x15360, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjDx.lean ====
abbrev S4096x15360 : Shape := ⟨2, ![4096, 15360]⟩
abbrev S1024x15360 : Shape := ⟨2, ![1024, 15360]⟩
abbrev S4096x1024 : Shape := ⟨2, ![4096, 1024]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x15360, .bf16⟩
  | .hbm, ⟨1, _⟩ => ⟨S1024x15360, .bf16⟩
  | .hbm, ⟨2, _⟩ => ⟨S4096x1024, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S4096x15360 : Shape := ⟨2, ![4096, 15360]⟩
abbrev S1024x15360 : Shape := ⟨2, ![1024, 15360]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x15360, .bf16⟩
  | .hbm, ⟨1, _⟩ => ⟨S1024x15360, .bf16⟩
  | .hbm, ⟨2, _⟩ => ⟨S4096x15360, .f32⟩
  | .hbm, ⟨3, _⟩ => ⟨S_, .f32⟩
  | .hbm, ⟨4, _⟩ => ⟨S4096x1024, .f32⟩
  | .hbm, ⟨5, _⟩ => ⟨S1024x15360, .f32⟩
  | .hbm, ⟨6, _⟩ => ⟨S4096x15360, .f32⟩
  | .hbm, ⟨7, _⟩ => ⟨S4096x1024, .f32⟩
  | _, _ => ⟨S4096x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjDw.lean ====
abbrev S4096x1024 : Shape := ⟨2, ![4096, 1024]⟩
abbrev S4096x15360 : Shape := ⟨2, ![4096, 15360]⟩
abbrev S1024x15360 : Shape := ⟨2, ![1024, 15360]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x15360, .bf16⟩
  | .hbm, ⟨2, _⟩ => ⟨S1024x15360, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 15, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S4096x1024 : Shape := ⟨2, ![4096, 1024]⟩
abbrev S4096x15360 : Shape := ⟨2, ![4096, 15360]⟩
abbrev S_ : Shape := ⟨0, ![]⟩
abbrev S1024x15360 : Shape := ⟨2, ![1024, 15360]⟩
abbrev S15360x1024 : Shape := ⟨2, ![15360, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x15360, .bf16⟩
  | .hbm, ⟨2, _⟩ => ⟨S4096x15360, .f32⟩
  | .hbm, ⟨3, _⟩ => ⟨S_, .f32⟩
  | .hbm, ⟨4, _⟩ => ⟨S1024x15360, .f32⟩
  | .hbm, ⟨5, _⟩ => ⟨S4096x1024, .f32⟩
  | .hbm, ⟨6, _⟩ => ⟨S4096x15360, .f32⟩
  | .hbm, ⟨7, _⟩ => ⟨S15360x1024, .f32⟩
  | .hbm, ⟨8, _⟩ => ⟨S1024x15360, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmUpDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmUpDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdaBwd.lean ====
abbrev S8x1024 : Shape := ⟨2, ![8, 1024]⟩
abbrev S8x1536 : Shape := ⟨2, ![8, 1536]⟩
abbrev S8x6144 : Shape := ⟨2, ![8, 6144]⟩
abbrev S1024x1536 : Shape := ⟨2, ![1024, 1536]⟩
abbrev S1x6144 : Shape := ⟨2, ![1, 6144]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S8x6144, .f32⟩
  | .hbm, ⟨3, _⟩ => ⟨S1024x1536, .f32⟩
  | .hbm, ⟨4, _⟩ => ⟨S1x6144, .f32⟩
  | .local _ .vmem, ⟨0, _⟩ => ⟨S8x1024, .f32⟩
  | .local _ .vmem, ⟨1, _⟩ => ⟨S8x1536, .f32⟩
  | .local _ .vmem, ⟨2, _⟩ => ⟨S8x6144, .f32⟩
  | .local _ .vmem, ⟨3, _⟩ => ⟨S1024x1536, .f32⟩
  | .local _ .vmem, ⟨4, _⟩ => ⟨S1x6144, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AdaBwdRefIdeal.lean ====
abbrev S8x1024 : Shape := ⟨2, ![8, 1024]⟩
abbrev S8x1536 : Shape := ⟨2, ![8, 1536]⟩
abbrev S8x6144 : Shape := ⟨2, ![8, 6144]⟩
abbrev S_ : Shape := ⟨0, ![]⟩
abbrev S1024x1536 : Shape := ⟨2, ![1024, 1536]⟩
abbrev S1536x1024 : Shape := ⟨2, ![1536, 1024]⟩
abbrev S1x6144 : Shape := ⟨2, ![1, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S8x6144, .f32⟩
  | .hbm, ⟨3, _⟩ => ⟨S_, .f32⟩
  | .hbm, ⟨4, _⟩ => ⟨S1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1x6144, .f32⟩
  | .hbm, ⟨19, _⟩ => ⟨S8x6144, .f32⟩
  | .hbm, ⟨20, _⟩ => ⟨S_, .f32⟩
  | .hbm, ⟨21, _⟩ => ⟨S6144, .f32⟩
  | .hbm, ⟨22, _⟩ => ⟨S1x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== PremixBwd.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PremixBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== AdamAda.lean ====
abbrev S1x1024x1536 : Shape := ⟨3, ![1, 1024, 1536]⟩
abbrev S1024x1536 : Shape := ⟨2, ![1024, 1536]⟩
abbrev S1x128x1536 : Shape := ⟨3, ![1, 128, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S128x1536, .f32⟩
  | .local _ .vmem, ⟨3, _⟩ => ⟨S128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S1x1024x1536 : Shape := ⟨3, ![1, 1024, 1536]⟩
abbrev S1024x1536 : Shape := ⟨2, ![1024, 1536]⟩
abbrev S1x128x1536 : Shape := ⟨3, ![1, 128, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S128x1536, .f32⟩
  | .local _ .vmem, ⟨3, _⟩ => ⟨S128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S1x1024x1536 : Shape := ⟨3, ![1, 1024, 1536]⟩
abbrev S1024x1536 : Shape := ⟨2, ![1024, 1536]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S_, .f32⟩
  | .hbm, ⟨6, _⟩ => ⟨S1x1024x1536, .f32⟩
  | .hbm, ⟨7, _⟩ => ⟨S1x1024x1536, .f32⟩
  | .hbm, ⟨8, _⟩ => ⟨S_, .f32⟩
  | .hbm, ⟨9, _⟩ => ⟨S1x1024x1536, .f32⟩
  | .hbm, ⟨10, _⟩ => ⟨S1x1024x1536, .f32⟩
  | .hbm, ⟨11, _⟩ => ⟨S1x1024x1536, .f32⟩
  | .hbm, ⟨12, _⟩ => ⟨S_, .f32⟩
  | .hbm, ⟨13, _⟩ => ⟨S1x1024x1536, .f32⟩
  | .hbm, ⟨14, _⟩ => ⟨S1x1024x1536, .f32⟩
  | .hbm, ⟨15, _⟩ => ⟨S1x1024x1536, .f32⟩
  | .hbm, ⟨16, _⟩ => ⟨S_, .f32⟩
  | .hbm, ⟨17, _⟩ => ⟨S1x1024x1536, .f32⟩
  | .hbm, ⟨18, _⟩ => ⟨S1x1024x1536, .f32⟩
  | .hbm, ⟨19, _⟩ => ⟨S1x1024x1536, .f32⟩
  | .hbm, ⟨20, _⟩ => ⟨S_, .f32⟩
  | .hbm, ⟨21, _⟩ => ⟨S1x1024x1536, .f32⟩
  | .hbm, ⟨22, _⟩ => ⟨S1x1024x1536, .f32⟩
  | .hbm, ⟨23, _⟩ => ⟨S_, .f32⟩
  | .hbm, ⟨24, _⟩ => ⟨S1x1024x1536, .f32⟩
  | .hbm, ⟨25, _⟩ => ⟨S1x1024x1536, .f32⟩
  | .hbm, ⟨26, _⟩ => ⟨S1x1024x1536, .f32⟩
  | .hbm, ⟨27, _⟩ => ⟨S_, .f32⟩
  | .hbm, ⟨28, _⟩ => ⟨S1x1024x1536, .f32⟩
  | .hbm, ⟨29, _⟩ => ⟨S1x1024x1536, .f32⟩
  | .hbm, ⟨30, _⟩ => ⟨S1x1024x1536, .f32⟩
  | .hbm, ⟨31, _⟩ => ⟨S_, .f32⟩
  | .hbm, ⟨32, _⟩ => ⟨S1x1024x1536, .f32⟩
  | .hbm, ⟨33, _⟩ => ⟨S1x1024x1536, .f32⟩
  | .hbm, ⟨34, _⟩ => ⟨S1x1024x1536, .f32⟩
  | .hbm, ⟨35, _⟩ => ⟨S_, .f32⟩
  | .hbm, ⟨36, _⟩ => ⟨S1x1024x1536, .f32⟩
  | .hbm, ⟨37, _⟩ => ⟨S1x1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSmall.lean ====
abbrev S1x1x24832 : Shape := ⟨3, ![1, 1, 24832]⟩
abbrev S1x24832 : Shape := ⟨2, ![1, 24832]⟩

abbrev nBuf : Space → Nat
  | .hbm => 7
  | .vmem => 7
  | .smem => 0
  | _ => 0

abbrev bufTy : (tb : Table) → Fin (tcTables nBuf tb) → BufTy
  | .hbm, ⟨0, _⟩ => ⟨S1x1x24832, .f32⟩
  | .hbm, ⟨1, _⟩ => ⟨S1x24832, .f32⟩
  | .hbm, ⟨2, _⟩ => ⟨S1x1x24832, .f32⟩
  | .hbm, ⟨3, _⟩ => ⟨S1x1x24832, .f32⟩
  | .hbm, ⟨4, _⟩ => ⟨S1x1x24832, .f32⟩
  | .hbm, ⟨5, _⟩ => ⟨S1x1x24832, .f32⟩
  | .hbm, ⟨6, _⟩ => ⟨S1x1x24832, .f32⟩
  | .local _ .vmem, ⟨0, _⟩ => ⟨S1x1x24832, .f32⟩
  | .local _ .vmem, ⟨1, _⟩ => ⟨S1x24832, .f32⟩
  | .local _ .vmem, ⟨2, _⟩ => ⟨S1x1x24832, .f32⟩
  | .local _ .vmem, ⟨3, _⟩ => ⟨S1x1x24832, .f32⟩
  | .local _ .vmem, ⟨4, _⟩ => ⟨S1x1x24832, .f32⟩
  | .local _ .vmem, ⟨5, _⟩ => ⟨S1x1x24832, .f32⟩
  | .local _ .vmem, ⟨6, _⟩ => ⟨S1x1x24832, .f32⟩
  | _, _ => ⟨S1x1x24832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x24832 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x24832 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x24832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x24832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x24832 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x24832 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x24832 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
abbrev S1x1x24832 : Shape := ⟨3, ![1, 1, 24832]⟩
abbrev S1x24832 : Shape := ⟨2, ![1, 24832]⟩

abbrev nBuf : Space → Nat
  | .hbm => 7
  | .vmem => 7
  | .smem => 0
  | _ => 0

abbrev bufTy : (tb : Table) → Fin (tcTables nBuf tb) → BufTy
  | .hbm, ⟨0, _⟩ => ⟨S1x1x24832, .f32⟩
  | .hbm, ⟨1, _⟩ => ⟨S1x24832, .f32⟩
  | .hbm, ⟨2, _⟩ => ⟨S1x1x24832, .f32⟩
  | .hbm, ⟨3, _⟩ => ⟨S1x1x24832, .f32⟩
  | .hbm, ⟨4, _⟩ => ⟨S1x1x24832, .f32⟩
  | .hbm, ⟨5, _⟩ => ⟨S1x1x24832, .f32⟩
  | .hbm, ⟨6, _⟩ => ⟨S1x1x24832, .f32⟩
  | .local _ .vmem, ⟨0, _⟩ => ⟨S1x1x24832, .f32⟩
  | .local _ .vmem, ⟨1, _⟩ => ⟨S1x24832, .f32⟩
  | .local _ .vmem, ⟨2, _⟩ => ⟨S1x1x24832, .f32⟩
  | .local _ .vmem, ⟨3, _⟩ => ⟨S1x1x24832, .f32⟩
  | .local _ .vmem, ⟨4, _⟩ => ⟨S1x1x24832, .f32⟩
  | .local _ .vmem, ⟨5, _⟩ => ⟨S1x1x24832, .f32⟩
  | .local _ .vmem, ⟨6, _⟩ => ⟨S1x1x24832, .f32⟩
  | _, _ => ⟨S1x1x24832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x24832 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x24832 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x24832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x24832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x24832 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x24832 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x24832 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1x1x24832 : Shape := ⟨3, ![1, 1, 24832]⟩
abbrev S1x24832 : Shape := ⟨2, ![1, 24832]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1x24832, .f32⟩
  | .hbm, ⟨1, _⟩ => ⟨S1x24832, .f32⟩
  | .hbm, ⟨2, _⟩ => ⟨S1x1x24832, .f32⟩
  | .hbm, ⟨3, _⟩ => ⟨S1x1x24832, .f32⟩
  | .hbm, ⟨4, _⟩ => ⟨S1x1x24832, .f32⟩
  | .hbm, ⟨5, _⟩ => ⟨S_, .f32⟩
  | .hbm, ⟨6, _⟩ => ⟨S1x1x24832, .f32⟩
  | .hbm, ⟨7, _⟩ => ⟨S1x1x24832, .f32⟩
  | .hbm, ⟨8, _⟩ => ⟨S_, .f32⟩
  | .hbm, ⟨9, _⟩ => ⟨S1x1x24832, .f32⟩
  | .hbm, ⟨10, _⟩ => ⟨S1x1x24832, .f32⟩
  | .hbm, ⟨11, _⟩ => ⟨S1x1x24832, .f32⟩
  | .hbm, ⟨12, _⟩ => ⟨S_, .f32⟩
  | .hbm, ⟨13, _⟩ => ⟨S1x1x24832, .f32⟩
  | .hbm, ⟨14, _⟩ => ⟨S1x1x24832, .f32⟩
  | .hbm, ⟨15, _⟩ => ⟨S1x1x24832, .f32⟩
  | .hbm, ⟨16, _⟩ => ⟨S_, .f32⟩
  | .hbm, ⟨17, _⟩ => ⟨S1x1x24832, .f32⟩
  | .hbm, ⟨18, _⟩ => ⟨S1x1x24832, .f32⟩
  | .hbm, ⟨19, _⟩ => ⟨S1x1x24832, .f32⟩
  | .hbm, ⟨20, _⟩ => ⟨S_, .f32⟩
  | .hbm, ⟨21, _⟩ => ⟨S1x1x24832, .f32⟩
  | .hbm, ⟨22, _⟩ => ⟨S1x1x24832, .f32⟩
  | .hbm, ⟨23, _⟩ => ⟨S_, .f32⟩
  | .hbm, ⟨24, _⟩ => ⟨S1x1x24832, .f32⟩
  | .hbm, ⟨25, _⟩ => ⟨S1x1x24832, .f32⟩
  | .hbm, ⟨26, _⟩ => ⟨S1x1x24832, .f32⟩
  | .hbm, ⟨27, _⟩ => ⟨S_, .f32⟩
  | .hbm, ⟨28, _⟩ => ⟨S1x1x24832, .f32⟩
  | .hbm, ⟨29, _⟩ => ⟨S1x1x24832, .f32⟩
  | .hbm, ⟨30, _⟩ => ⟨S1x1x24832, .f32⟩
  | .hbm, ⟨31, _⟩ => ⟨S_, .f32⟩
  | .hbm, ⟨32, _⟩ => ⟨S1x1x24832, .f32⟩
  | .hbm, ⟨33, _⟩ => ⟨S1x1x24832, .f32⟩
  | .hbm, ⟨34, _⟩ => ⟨S1x1x24832, .f32⟩
  | .hbm, ⟨35, _⟩ => ⟨S_, .f32⟩
  | .hbm, ⟨36, _⟩ => ⟨S1x1x24832, .f32⟩
  | .hbm, ⟨37, _⟩ => ⟨S1x1x24832, .f32⟩
  | _, _ => ⟨S1x1x24832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamWIn.lean ====
abbrev S2 : Shape := ⟨1, ![2]⟩
abbrev S1x3600x1024 : Shape := ⟨3, ![1, 3600, 1024]⟩
abbrev S3600x512 : Shape := ⟨2, ![3600, 512]⟩
abbrev S1x400x512 : Shape := ⟨3, ![1, 400, 512]⟩
abbrev S400x512 : Shape := ⟨2, ![400, 512]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1x3600x1024, .f32⟩
  | .hbm, ⟨1, _⟩ => ⟨S3600x512, .f32⟩
  | .hbm, ⟨2, _⟩ => ⟨S3600x512, .f32⟩
  | .hbm, ⟨3, _⟩ => ⟨S1x3600x1024, .f32⟩
  | .hbm, ⟨4, _⟩ => ⟨S1x3600x1024, .f32⟩
  | .hbm, ⟨5, _⟩ => ⟨S1x3600x1024, .f32⟩
  | .hbm, ⟨6, _⟩ => ⟨S1x3600x1024, .f32⟩
  | .hbm, ⟨7, _⟩ => ⟨S1x3600x1024, .f32⟩
  | .hbm, ⟨8, _⟩ => ⟨S1x3600x1024, .f32⟩
  | .local _ .vmem, ⟨0, _⟩ => ⟨S1x400x512, .f32⟩
  | .local _ .vmem, ⟨1, _⟩ => ⟨S1x400x512, .f32⟩
  | .local _ .vmem, ⟨2, _⟩ => ⟨S400x512, .f32⟩
  | .local _ .vmem, ⟨3, _⟩ => ⟨S400x512, .f32⟩
  | .local _ .vmem, ⟨4, _⟩ => ⟨S400x512, .f32⟩
  | .local _ .vmem, ⟨5, _⟩ => ⟨S400x512, .f32⟩
  | .local _ .vmem, ⟨6, _⟩ => ⟨S1x400x512, .f32⟩
  | .local _ .vmem, ⟨7, _⟩ => ⟨S1x400x512, .f32⟩
  | .local _ .vmem, ⟨8, _⟩ => ⟨S1x400x512, .f32⟩
  | .local _ .vmem, ⟨9, _⟩ => ⟨S1x400x512, .f32⟩
  | .local _ .vmem, ⟨10, _⟩ => ⟨S1x400x512, .f32⟩
  | .local _ .vmem, ⟨11, _⟩ => ⟨S1x400x512, .f32⟩
  | .local _ .vmem, ⟨12, _⟩ => ⟨S1x400x512, .f32⟩
  | .local _ .vmem, ⟨13, _⟩ => ⟨S1x400x512, .f32⟩
  | .local _ .vmem, ⟨14, _⟩ => ⟨S1x400x512, .f32⟩
  | .local _ .vmem, ⟨15, _⟩ => ⟨S1x400x512, .f32⟩
  | .local _ .vmem, ⟨16, _⟩ => ⟨S1x400x512, .f32⟩
  | .local _ .vmem, ⟨17, _⟩ => ⟨S1x400x512, .f32⟩
  | .local _ .smem, ⟨0, _⟩ => ⟨S2, .i32⟩
  | _, _ => ⟨S1x3600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 9], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x400x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x400x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x400x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x400x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x400x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x400x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWInIdeal.lean ====
abbrev S2 : Shape := ⟨1, ![2]⟩
abbrev S1x3600x1024 : Shape := ⟨3, ![1, 3600, 1024]⟩
abbrev S3600x512 : Shape := ⟨2, ![3600, 512]⟩
abbrev S1x400x512 : Shape := ⟨3, ![1, 400, 512]⟩
abbrev S400x512 : Shape := ⟨2, ![400, 512]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1x3600x1024, .f32⟩
  | .hbm, ⟨1, _⟩ => ⟨S3600x512, .f32⟩
  | .hbm, ⟨2, _⟩ => ⟨S3600x512, .f32⟩
  | .hbm, ⟨3, _⟩ => ⟨S1x3600x1024, .f32⟩
  | .hbm, ⟨4, _⟩ => ⟨S1x3600x1024, .f32⟩
  | .hbm, ⟨5, _⟩ => ⟨S1x3600x1024, .f32⟩
  | .hbm, ⟨6, _⟩ => ⟨S1x3600x1024, .f32⟩
  | .hbm, ⟨7, _⟩ => ⟨S1x3600x1024, .f32⟩
  | .hbm, ⟨8, _⟩ => ⟨S1x3600x1024, .f32⟩
  | .local _ .vmem, ⟨0, _⟩ => ⟨S1x400x512, .f32⟩
  | .local _ .vmem, ⟨1, _⟩ => ⟨S1x400x512, .f32⟩
  | .local _ .vmem, ⟨2, _⟩ => ⟨S400x512, .f32⟩
  | .local _ .vmem, ⟨3, _⟩ => ⟨S400x512, .f32⟩
  | .local _ .vmem, ⟨4, _⟩ => ⟨S400x512, .f32⟩
  | .local _ .vmem, ⟨5, _⟩ => ⟨S400x512, .f32⟩
  | .local _ .vmem, ⟨6, _⟩ => ⟨S1x400x512, .f32⟩
  | .local _ .vmem, ⟨7, _⟩ => ⟨S1x400x512, .f32⟩
  | .local _ .vmem, ⟨8, _⟩ => ⟨S1x400x512, .f32⟩
  | .local _ .vmem, ⟨9, _⟩ => ⟨S1x400x512, .f32⟩
  | .local _ .vmem, ⟨10, _⟩ => ⟨S1x400x512, .f32⟩
  | .local _ .vmem, ⟨11, _⟩ => ⟨S1x400x512, .f32⟩
  | .local _ .vmem, ⟨12, _⟩ => ⟨S1x400x512, .f32⟩
  | .local _ .vmem, ⟨13, _⟩ => ⟨S1x400x512, .f32⟩
  | .local _ .vmem, ⟨14, _⟩ => ⟨S1x400x512, .f32⟩
  | .local _ .vmem, ⟨15, _⟩ => ⟨S1x400x512, .f32⟩
  | .local _ .vmem, ⟨16, _⟩ => ⟨S1x400x512, .f32⟩
  | .local _ .vmem, ⟨17, _⟩ => ⟨S1x400x512, .f32⟩
  | .local _ .smem, ⟨0, _⟩ => ⟨S2, .i32⟩
  | _, _ => ⟨S1x3600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 9], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x400x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x400x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x400x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x400x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x400x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x400x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWInRefIdeal.lean ====
abbrev S2 : Shape := ⟨1, ![2]⟩
abbrev S1x3600x1024 : Shape := ⟨3, ![1, 3600, 1024]⟩
abbrev S3600x512 : Shape := ⟨2, ![3600, 512]⟩
abbrev S1 : Shape := ⟨1, ![1]⟩
abbrev S_ : Shape := ⟨0, ![]⟩
abbrev S3600x1024 : Shape := ⟨2, ![3600, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x3600x1024, .f32⟩
  | .hbm, ⟨2, _⟩ => ⟨S3600x512, .f32⟩
  | .hbm, ⟨3, _⟩ => ⟨S3600x512, .f32⟩
  | .hbm, ⟨4, _⟩ => ⟨S1x3600x1024, .f32⟩
  | .hbm, ⟨5, _⟩ => ⟨S1x3600x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S3600x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S3600x512, .f32⟩
  | .hbm, ⟨16, _⟩ => ⟨S3600x1024, .f32⟩
  | .hbm, ⟨17, _⟩ => ⟨S1x3600x1024, .f32⟩
  | .hbm, ⟨18, _⟩ => ⟨S_, .f32⟩
  | .hbm, ⟨19, _⟩ => ⟨S1x3600x1024, .f32⟩
  | .hbm, ⟨20, _⟩ => ⟨S1x3600x1024, .f32⟩
  | .hbm, ⟨21, _⟩ => ⟨S_, .f32⟩
  | .hbm, ⟨22, _⟩ => ⟨S1x3600x1024, .f32⟩
  | .hbm, ⟨23, _⟩ => ⟨S1x3600x1024, .f32⟩
  | .hbm, ⟨24, _⟩ => ⟨S1x3600x1024, .f32⟩
  | .hbm, ⟨25, _⟩ => ⟨S_, .f32⟩
  | .hbm, ⟨26, _⟩ => ⟨S1x3600x1024, .f32⟩
  | .hbm, ⟨27, _⟩ => ⟨S1x3600x1024, .f32⟩
  | .hbm, ⟨28, _⟩ => ⟨S1x3600x1024, .f32⟩
  | .hbm, ⟨29, _⟩ => ⟨S_, .f32⟩
  | .hbm, ⟨30, _⟩ => ⟨S1x3600x1024, .f32⟩
  | .hbm, ⟨31, _⟩ => ⟨S1x3600x1024, .f32⟩
  | .hbm, ⟨32, _⟩ => ⟨S1x3600x1024, .f32⟩
  | .hbm, ⟨33, _⟩ => ⟨S_, .f32⟩
  | .hbm, ⟨34, _⟩ => ⟨S1x3600x1024, .f32⟩
  | .hbm, ⟨35, _⟩ => ⟨S1x3600x1024, .f32⟩
  | .hbm, ⟨36, _⟩ => ⟨S_, .f32⟩
  | .hbm, ⟨37, _⟩ => ⟨S1x3600x1024, .f32⟩
  | .hbm, ⟨38, _⟩ => ⟨S1x3600x1024, .f32⟩
  | .hbm, ⟨39, _⟩ => ⟨S1x3600x1024, .f32⟩
  | .hbm, ⟨40, _⟩ => ⟨S_, .f32⟩
  | .hbm, ⟨41, _⟩ => ⟨S1x3600x1024, .f32⟩
  | .hbm, ⟨42, _⟩ => ⟨S1x3600x1024, .f32⟩
  | .hbm, ⟨43, _⟩ => ⟨S1x3600x1024, .f32⟩
  | .hbm, ⟨44, _⟩ => ⟨S_, .f32⟩
  | .hbm, ⟨45, _⟩ => ⟨S1x3600x1024, .f32⟩
  | .hbm, ⟨46, _⟩ => ⟨S1x3600x1024, .f32⟩
  | .hbm, ⟨47, _⟩ => ⟨S1x3600x1024, .f32⟩
  | .hbm, ⟨48, _⟩ => ⟨S_, .f32⟩
  | .hbm, ⟨49, _⟩ => ⟨S1x3600x1024, .f32⟩
  | .hbm, ⟨50, _⟩ => ⟨S1x3600x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamSsmUp.lean ====
abbrev S2 : Shape := ⟨1, ![2]⟩
abbrev S1x512x1024 : Shape := ⟨3, ![1, 512, 1024]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S2, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSsmUpIdeal.lean ====
abbrev S2 : Shape := ⟨1, ![2]⟩
abbrev S1x512x1024 : Shape := ⟨3, ![1, 512, 1024]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S2, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSsmUpRefIdeal.lean ====
abbrev S2 : Shape := ⟨1, ![2]⟩
abbrev S1x512x1024 : Shape := ⟨3, ![1, 512, 1024]⟩
abbrev S256x1024 : Shape := ⟨2, ![256, 1024]⟩
abbrev S1 : Shape := ⟨1, ![1]⟩
abbrev S_ : Shape := ⟨0, ![]⟩
abbrev S512x1024 : Shape := ⟨2, ![512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x512x1024, .f32⟩
  | .hbm, ⟨2, _⟩ => ⟨S256x1024, .f32⟩
  | .hbm, ⟨3, _⟩ => ⟨S256x1024, .f32⟩
  | .hbm, ⟨4, _⟩ => ⟨S1x512x1024, .f32⟩
  | .hbm, ⟨5, _⟩ => ⟨S1x512x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x1024, .f32⟩
  | .hbm, ⟨16, _⟩ => ⟨S512x1024, .f32⟩
  | .hbm, ⟨17, _⟩ => ⟨S1x512x1024, .f32⟩
  | .hbm, ⟨18, _⟩ => ⟨S_, .f32⟩
  | .hbm, ⟨19, _⟩ => ⟨S1x512x1024, .f32⟩
  | .hbm, ⟨20, _⟩ => ⟨S1x512x1024, .f32⟩
  | .hbm, ⟨21, _⟩ => ⟨S_, .f32⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S_, .f32⟩
  | .hbm, ⟨26, _⟩ => ⟨S1x512x1024, .f32⟩
  | .hbm, ⟨27, _⟩ => ⟨S1x512x1024, .f32⟩
  | .hbm, ⟨28, _⟩ => ⟨S1x512x1024, .f32⟩
  | .hbm, ⟨29, _⟩ => ⟨S_, .f32⟩
  | .hbm, ⟨30, _⟩ => ⟨S1x512x1024, .f32⟩
  | .hbm, ⟨31, _⟩ => ⟨S1x512x1024, .f32⟩
  | .hbm, ⟨32, _⟩ => ⟨S1x512x1024, .f32⟩
  | .hbm, ⟨33, _⟩ => ⟨S_, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S_, .f32⟩
  | .hbm, ⟨41, _⟩ => ⟨S1x512x1024, .f32⟩
  | .hbm, ⟨42, _⟩ => ⟨S1x512x1024, .f32⟩
  | .hbm, ⟨43, _⟩ => ⟨S1x512x1024, .f32⟩
  | .hbm, ⟨44, _⟩ => ⟨S_, .f32⟩
  | .hbm, ⟨45, _⟩ => ⟨S1x512x1024, .f32⟩
  | .hbm, ⟨46, _⟩ => ⟨S1x512x1024, .f32⟩
  | .hbm, ⟨47, _⟩ => ⟨S1x512x1024, .f32⟩
  | .hbm, ⟨48, _⟩ => ⟨S_, .f32⟩
  | .hbm, ⟨49, _⟩ => ⟨S1x512x1024, .f32⟩
  | .hbm, ⟨50, _⟩ => ⟨S1x512x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamGdnUp.lean ====
abbrev S2 : Shape := ⟨1, ![2]⟩
abbrev S1x512x1024 : Shape := ⟨3, ![1, 512, 1024]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S2, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGdnUpIdeal.lean ====
abbrev S2 : Shape := ⟨1, ![2]⟩
abbrev S1x512x1024 : Shape := ⟨3, ![1, 512, 1024]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S2, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGdnUpRefIdeal.lean ====
abbrev S2 : Shape := ⟨1, ![2]⟩
abbrev S1x512x1024 : Shape := ⟨3, ![1, 512, 1024]⟩
abbrev S256x1024 : Shape := ⟨2, ![256, 1024]⟩
abbrev S1 : Shape := ⟨1, ![1]⟩
abbrev S_ : Shape := ⟨0, ![]⟩
abbrev S512x1024 : Shape := ⟨2, ![512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x512x1024, .f32⟩
  | .hbm, ⟨2, _⟩ => ⟨S256x1024, .f32⟩
  | .hbm, ⟨3, _⟩ => ⟨S256x1024, .f32⟩
  | .hbm, ⟨4, _⟩ => ⟨S1x512x1024, .f32⟩
  | .hbm, ⟨5, _⟩ => ⟨S1x512x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x1024, .f32⟩
  | .hbm, ⟨16, _⟩ => ⟨S512x1024, .f32⟩
  | .hbm, ⟨17, _⟩ => ⟨S1x512x1024, .f32⟩
  | .hbm, ⟨18, _⟩ => ⟨S_, .f32⟩
  | .hbm, ⟨19, _⟩ => ⟨S1x512x1024, .f32⟩
  | .hbm, ⟨20, _⟩ => ⟨S1x512x1024, .f32⟩
  | .hbm, ⟨21, _⟩ => ⟨S_, .f32⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S_, .f32⟩
  | .hbm, ⟨26, _⟩ => ⟨S1x512x1024, .f32⟩
  | .hbm, ⟨27, _⟩ => ⟨S1x512x1024, .f32⟩
  | .hbm, ⟨28, _⟩ => ⟨S1x512x1024, .f32⟩
  | .hbm, ⟨29, _⟩ => ⟨S_, .f32⟩
  | .hbm, ⟨30, _⟩ => ⟨S1x512x1024, .f32⟩
  | .hbm, ⟨31, _⟩ => ⟨S1x512x1024, .f32⟩
  | .hbm, ⟨32, _⟩ => ⟨S1x512x1024, .f32⟩
  | .hbm, ⟨33, _⟩ => ⟨S_, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S_, .f32⟩
  | .hbm, ⟨41, _⟩ => ⟨S1x512x1024, .f32⟩
  | .hbm, ⟨42, _⟩ => ⟨S1x512x1024, .f32⟩
  | .hbm, ⟨43, _⟩ => ⟨S1x512x1024, .f32⟩
  | .hbm, ⟨44, _⟩ => ⟨S_, .f32⟩
  | .hbm, ⟨45, _⟩ => ⟨S1x512x1024, .f32⟩
  | .hbm, ⟨46, _⟩ => ⟨S1x512x1024, .f32⟩
  | .hbm, ⟨47, _⟩ => ⟨S1x512x1024, .f32⟩
  | .hbm, ⟨48, _⟩ => ⟨S_, .f32⟩
  | .hbm, ⟨49, _⟩ => ⟨S1x512x1024, .f32⟩
  | .hbm, ⟨50, _⟩ => ⟨S1x512x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamWOut.lean ====
abbrev S2 : Shape := ⟨1, ![2]⟩
abbrev S1x256x1024 : Shape := ⟨3, ![1, 256, 1024]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S2, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWOutIdeal.lean ====
abbrev S2 : Shape := ⟨1, ![2]⟩
abbrev S1x256x1024 : Shape := ⟨3, ![1, 256, 1024]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S2, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWOutRefIdeal.lean ====
abbrev S2 : Shape := ⟨1, ![2]⟩
abbrev S1x256x1024 : Shape := ⟨3, ![1, 256, 1024]⟩
abbrev S128x1024 : Shape := ⟨2, ![128, 1024]⟩
abbrev S1 : Shape := ⟨1, ![1]⟩
abbrev S_ : Shape := ⟨0, ![]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x256x1024, .f32⟩
  | .hbm, ⟨2, _⟩ => ⟨S128x1024, .f32⟩
  | .hbm, ⟨3, _⟩ => ⟨S128x1024, .f32⟩
  | .hbm, ⟨4, _⟩ => ⟨S1x256x1024, .f32⟩
  | .hbm, ⟨5, _⟩ => ⟨S1x256x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S128x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S128x1024, .f32⟩
  | .hbm, ⟨16, _⟩ => ⟨S256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | .hbm, ⟨39, _⟩ => ⟨S1x256x1024, .f32⟩
  | .hbm, ⟨40, _⟩ => ⟨S_, .f32⟩
  | .hbm, ⟨41, _⟩ => ⟨S1x256x1024, .f32⟩
  | .hbm, ⟨42, _⟩ => ⟨S1x256x1024, .f32⟩
  | .hbm, ⟨43, _⟩ => ⟨S1x256x1024, .f32⟩
  | .hbm, ⟨44, _⟩ => ⟨S_, .f32⟩
  | .hbm, ⟨45, _⟩ => ⟨S1x256x1024, .f32⟩
  | .hbm, ⟨46, _⟩ => ⟨S1x256x1024, .f32⟩
  | .hbm, ⟨47, _⟩ => ⟨S1x256x1024, .f32⟩
  | .hbm, ⟨48, _⟩ => ⟨S_, .f32⟩
  | .hbm, ⟨49, _⟩ => ⟨S1x256x1024, .f32⟩
  | .hbm, ⟨50, _⟩ => ⟨S1x256x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamMlpUp.lean ====
abbrev S2 : Shape := ⟨1, ![2]⟩
abbrev S1x1024x1024 : Shape := ⟨3, ![1, 1024, 1024]⟩
abbrev S512x1024 : Shape := ⟨2, ![512, 1024]⟩
abbrev S1x256x1024 : Shape := ⟨3, ![1, 256, 1024]⟩
abbrev S256x1024 : Shape := ⟨2, ![256, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1024, .f32⟩
  | .hbm, ⟨1, _⟩ => ⟨S512x1024, .f32⟩
  | .hbm, ⟨2, _⟩ => ⟨S512x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S2, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlpUpRefIdeal.lean ====
abbrev S2 : Shape := ⟨1, ![2]⟩
abbrev S1x1024x1024 : Shape := ⟨3, ![1, 1024, 1024]⟩
abbrev S512x1024 : Shape := ⟨2, ![512, 1024]⟩
abbrev S1 : Shape := ⟨1, ![1]⟩
abbrev S_ : Shape := ⟨0, ![]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x1024x1024, .f32⟩
  | .hbm, ⟨2, _⟩ => ⟨S512x1024, .f32⟩
  | .hbm, ⟨3, _⟩ => ⟨S512x1024, .f32⟩
  | .hbm, ⟨4, _⟩ => ⟨S1x1024x1024, .f32⟩
  | .hbm, ⟨5, _⟩ => ⟨S1x1024x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x1024, .f32⟩
  | .hbm, ⟨16, _⟩ => ⟨S1024x1024, .f32⟩
  | .hbm, ⟨17, _⟩ => ⟨S1x1024x1024, .f32⟩
  | .hbm, ⟨18, _⟩ => ⟨S_, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S_, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S_, .f32⟩
  | .hbm, ⟨30, _⟩ => ⟨S1x1024x1024, .f32⟩
  | .hbm, ⟨31, _⟩ => ⟨S1x1024x1024, .f32⟩
  | .hbm, ⟨32, _⟩ => ⟨S1x1024x1024, .f32⟩
  | .hbm, ⟨33, _⟩ => ⟨S_, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | .hbm, ⟨39, _⟩ => ⟨S1x1024x1024, .f32⟩
  | .hbm, ⟨40, _⟩ => ⟨S_, .f32⟩
  | .hbm, ⟨41, _⟩ => ⟨S1x1024x1024, .f32⟩
  | .hbm, ⟨42, _⟩ => ⟨S1x1024x1024, .f32⟩
  | .hbm, ⟨43, _⟩ => ⟨S1x1024x1024, .f32⟩
  | .hbm, ⟨44, _⟩ => ⟨S_, .f32⟩
  | .hbm, ⟨45, _⟩ => ⟨S1x1024x1024, .f32⟩
  | .hbm, ⟨46, _⟩ => ⟨S1x1024x1024, .f32⟩
  | .hbm, ⟨47, _⟩ => ⟨S1x1024x1024, .f32⟩
  | .hbm, ⟨48, _⟩ => ⟨S_, .f32⟩
  | .hbm, ⟨49, _⟩ => ⟨S1x1024x1024, .f32⟩
  | .hbm, ⟨50, _⟩ => ⟨S1x1024x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamMlpDown.lean ====
abbrev S2 : Shape := ⟨1, ![2]⟩
abbrev S1x1024x1024 : Shape := ⟨3, ![1, 1024, 1024]⟩
abbrev S512x1024 : Shape := ⟨2, ![512, 1024]⟩
abbrev S1x256x1024 : Shape := ⟨3, ![1, 256, 1024]⟩
abbrev S256x1024 : Shape := ⟨2, ![256, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1024, .f32⟩
  | .hbm, ⟨1, _⟩ => ⟨S512x1024, .f32⟩
  | .hbm, ⟨2, _⟩ => ⟨S512x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S2, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlpDownRefIdeal.lean ====
abbrev S2 : Shape := ⟨1, ![2]⟩
abbrev S1x1024x1024 : Shape := ⟨3, ![1, 1024, 1024]⟩
abbrev S512x1024 : Shape := ⟨2, ![512, 1024]⟩
abbrev S1 : Shape := ⟨1, ![1]⟩
abbrev S_ : Shape := ⟨0, ![]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x1024x1024, .f32⟩
  | .hbm, ⟨2, _⟩ => ⟨S512x1024, .f32⟩
  | .hbm, ⟨3, _⟩ => ⟨S512x1024, .f32⟩
  | .hbm, ⟨4, _⟩ => ⟨S1x1024x1024, .f32⟩
  | .hbm, ⟨5, _⟩ => ⟨S1x1024x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x1024, .f32⟩
  | .hbm, ⟨16, _⟩ => ⟨S1024x1024, .f32⟩
  | .hbm, ⟨17, _⟩ => ⟨S1x1024x1024, .f32⟩
  | .hbm, ⟨18, _⟩ => ⟨S_, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S_, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S_, .f32⟩
  | .hbm, ⟨30, _⟩ => ⟨S1x1024x1024, .f32⟩
  | .hbm, ⟨31, _⟩ => ⟨S1x1024x1024, .f32⟩
  | .hbm, ⟨32, _⟩ => ⟨S1x1024x1024, .f32⟩
  | .hbm, ⟨33, _⟩ => ⟨S_, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | .hbm, ⟨39, _⟩ => ⟨S1x1024x1024, .f32⟩
  | .hbm, ⟨40, _⟩ => ⟨S_, .f32⟩
  | .hbm, ⟨41, _⟩ => ⟨S1x1024x1024, .f32⟩
  | .hbm, ⟨42, _⟩ => ⟨S1x1024x1024, .f32⟩
  | .hbm, ⟨43, _⟩ => ⟨S1x1024x1024, .f32⟩
  | .hbm, ⟨44, _⟩ => ⟨S_, .f32⟩
  | .hbm, ⟨45, _⟩ => ⟨S1x1024x1024, .f32⟩
  | .hbm, ⟨46, _⟩ => ⟨S1x1024x1024, .f32⟩
  | .hbm, ⟨47, _⟩ => ⟨S1x1024x1024, .f32⟩
  | .hbm, ⟨48, _⟩ => ⟨S_, .f32⟩
  | .hbm, ⟨49, _⟩ => ⟨S1x1024x1024, .f32⟩
  | .hbm, ⟨50, _⟩ => ⟨S1x1024x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== SmallSum.lean ====
abbrev S8x43265 : Shape := ⟨2, ![8, 43265]⟩
abbrev S1x43265 : Shape := ⟨2, ![1, 43265]⟩
abbrev S43265 : Shape := ⟨1, ![43265]⟩

abbrev nBuf : Space → Nat
  | .hbm => 2
  | .vmem => 2
  | .smem => 0
  | _ => 0

abbrev bufTy : (tb : Table) → Fin (tcTables nBuf tb) → BufTy
  | .hbm, ⟨0, _⟩ => ⟨S8x43265, .f32⟩
  | .hbm, ⟨1, _⟩ => ⟨S1x43265, .f32⟩
  | .local _ .vmem, ⟨0, _⟩ => ⟨S8x43265, .f32⟩
  | .local _ .vmem, ⟨1, _⟩ => ⟨S1x43265, .f32⟩
  | _, _ => ⟨S8x43265, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x43265 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x43265 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SmallSumIdeal.lean ====
abbrev S8x43265 : Shape := ⟨2, ![8, 43265]⟩
abbrev S1x43265 : Shape := ⟨2, ![1, 43265]⟩
abbrev S43265 : Shape := ⟨1, ![43265]⟩

abbrev nBuf : Space → Nat
  | .hbm => 2
  | .vmem => 2
  | .smem => 0
  | _ => 0

abbrev bufTy : (tb : Table) → Fin (tcTables nBuf tb) → BufTy
  | .hbm, ⟨0, _⟩ => ⟨S8x43265, .f32⟩
  | .hbm, ⟨1, _⟩ => ⟨S1x43265, .f32⟩
  | .local _ .vmem, ⟨0, _⟩ => ⟨S8x43265, .f32⟩
  | .local _ .vmem, ⟨1, _⟩ => ⟨S1x43265, .f32⟩
  | _, _ => ⟨S8x43265, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x43265 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x43265 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SmallSumRefIdeal.lean ====
abbrev S8x43265 : Shape := ⟨2, ![8, 43265]⟩
abbrev S_ : Shape := ⟨0, ![]⟩
abbrev S43265 : Shape := ⟨1, ![43265]⟩
abbrev S1x43265 : Shape := ⟨2, ![1, 43265]⟩

abbrev nBuf : Space → Nat
  | .hbm => 4
  | .vmem => 0
  | .smem => 0
  | _ => 0

abbrev bufTy : (tb : Table) → Fin (tcTables nBuf tb) → BufTy
  | .hbm, ⟨0, _⟩ => ⟨S8x43265, .f32⟩
  | .hbm, ⟨1, _⟩ => ⟨S_, .f32⟩
  | .hbm, ⟨2, _⟩ => ⟨S43265, .f32⟩
  | .hbm, ⟨3, _⟩ => ⟨S1x43265, .f32⟩
  | _, _ => ⟨S8x43265, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumIn.lean ====
abbrev S2 : Shape := ⟨1, ![2]⟩
abbrev S4x3600x512 : Shape := ⟨3, ![4, 3600, 512]⟩
abbrev S3x3600x512 : Shape := ⟨3, ![3, 3600, 512]⟩
abbrev S3600x512 : Shape := ⟨2, ![3600, 512]⟩
abbrev S1x400x512 : Shape := ⟨3, ![1, 400, 512]⟩
abbrev S1 : Shape := ⟨1, ![1]⟩
abbrev S3x400x512 : Shape := ⟨3, ![3, 400, 512]⟩
abbrev S400x512 : Shape := ⟨2, ![400, 512]⟩

abbrev nBuf : Space → Nat
  | .hbm => 3
  | .vmem => 6
  | .smem => 1
  | _ => 0

abbrev bufTy : (tb : Table) → Fin (tcTables nBuf tb) → BufTy
  | .hbm, ⟨0, _⟩ => ⟨S4x3600x512, .f32⟩
  | .hbm, ⟨1, _⟩ => ⟨S3x3600x512, .bf16⟩
  | .hbm, ⟨2, _⟩ => ⟨S3600x512, .f32⟩
  | .local _ .vmem, ⟨0, _⟩ => ⟨S1x400x512, .f32⟩
  | .local _ .vmem, ⟨1, _⟩ => ⟨S1x400x512, .f32⟩
  | .local _ .vmem, ⟨2, _⟩ => ⟨S3x400x512, .bf16⟩
  | .local _ .vmem, ⟨3, _⟩ => ⟨S3x400x512, .bf16⟩
  | .local _ .vmem, ⟨4, _⟩ => ⟨S400x512, .f32⟩
  | .local _ .vmem, ⟨5, _⟩ => ⟨S400x512, .f32⟩
  | .local _ .smem, ⟨0, _⟩ => ⟨S2, .i32⟩
  | _, _ => ⟨S4x3600x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x400x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInIdeal.lean ====
abbrev S2 : Shape := ⟨1, ![2]⟩
abbrev S4x3600x512 : Shape := ⟨3, ![4, 3600, 512]⟩
abbrev S3x3600x512 : Shape := ⟨3, ![3, 3600, 512]⟩
abbrev S3600x512 : Shape := ⟨2, ![3600, 512]⟩
abbrev S1x400x512 : Shape := ⟨3, ![1, 400, 512]⟩
abbrev S1 : Shape := ⟨1, ![1]⟩
abbrev S3x400x512 : Shape := ⟨3, ![3, 400, 512]⟩
abbrev S400x512 : Shape := ⟨2, ![400, 512]⟩

abbrev nBuf : Space → Nat
  | .hbm => 3
  | .vmem => 6
  | .smem => 1
  | _ => 0

abbrev bufTy : (tb : Table) → Fin (tcTables nBuf tb) → BufTy
  | .hbm, ⟨0, _⟩ => ⟨S4x3600x512, .f32⟩
  | .hbm, ⟨1, _⟩ => ⟨S3x3600x512, .bf16⟩
  | .hbm, ⟨2, _⟩ => ⟨S3600x512, .f32⟩
  | .local _ .vmem, ⟨0, _⟩ => ⟨S1x400x512, .f32⟩
  | .local _ .vmem, ⟨1, _⟩ => ⟨S1x400x512, .f32⟩
  | .local _ .vmem, ⟨2, _⟩ => ⟨S3x400x512, .bf16⟩
  | .local _ .vmem, ⟨3, _⟩ => ⟨S3x400x512, .bf16⟩
  | .local _ .vmem, ⟨4, _⟩ => ⟨S400x512, .f32⟩
  | .local _ .vmem, ⟨5, _⟩ => ⟨S400x512, .f32⟩
  | .local _ .smem, ⟨0, _⟩ => ⟨S2, .i32⟩
  | _, _ => ⟨S4x3600x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x400x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInRefIdeal.lean ====
abbrev S2 : Shape := ⟨1, ![2]⟩
abbrev S4x3600x512 : Shape := ⟨3, ![4, 3600, 512]⟩
abbrev S3x3600x512 : Shape := ⟨3, ![3, 3600, 512]⟩
abbrev S4 : Shape := ⟨1, ![4]⟩
abbrev S4x1x1 : Shape := ⟨3, ![4, 1, 1]⟩
abbrev S1 : Shape := ⟨1, ![1]⟩
abbrev S_ : Shape := ⟨0, ![]⟩
abbrev S3600x512 : Shape := ⟨2, ![3600, 512]⟩

abbrev nBuf : Space → Nat
  | .hbm => 20
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x3600x512, .f32⟩
  | .hbm, ⟨2, _⟩ => ⟨S3x3600x512, .bf16⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S_, .f32⟩
  | .hbm, ⟨10, _⟩ => ⟨S_, .f32⟩
  | .hbm, ⟨11, _⟩ => ⟨S4x3600x512, .i1⟩
  | .hbm, ⟨12, _⟩ => ⟨S4x3600x512, .f32⟩
  | .hbm, ⟨13, _⟩ => ⟨S4x3600x512, .f32⟩
  | .hbm, ⟨14, _⟩ => ⟨S_, .f32⟩
  | .hbm, ⟨15, _⟩ => ⟨S3600x512, .f32⟩
  | .hbm, ⟨16, _⟩ => ⟨S3x3600x512, .f32⟩
  | .hbm, ⟨17, _⟩ => ⟨S_, .f32⟩
  | .hbm, ⟨18, _⟩ => ⟨S3600x512, .f32⟩
  | .hbm, ⟨19, _⟩ => ⟨S3600x512, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== SumUp.lean ====
abbrev S2 : Shape := ⟨1, ![2]⟩
abbrev S4x256x1024 : Shape := ⟨3, ![4, 256, 1024]⟩
abbrev S3x256x1024 : Shape := ⟨3, ![3, 256, 1024]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S4x256x1024, .f32⟩
  | .hbm, ⟨1, _⟩ => ⟨S3x256x1024, .bf16⟩
  | .hbm, ⟨2, _⟩ => ⟨S256x1024, .f32⟩
  | .local _ .vmem, ⟨0, _⟩ => ⟨S1x256x1024, .f32⟩
  | .local _ .vmem, ⟨1, _⟩ => ⟨S3x256x1024, .bf16⟩
  | .local _ .vmem, ⟨2, _⟩ => ⟨S256x1024, .f32⟩
  | .local _ .smem, ⟨0, _⟩ => ⟨S2, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumUpIdeal.lean ====
abbrev S2 : Shape := ⟨1, ![2]⟩
abbrev S4x256x1024 : Shape := ⟨3, ![4, 256, 1024]⟩
abbrev S3x256x1024 : Shape := ⟨3, ![3, 256, 1024]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S4x256x1024, .f32⟩
  | .hbm, ⟨1, _⟩ => ⟨S3x256x1024, .bf16⟩
  | .hbm, ⟨2, _⟩ => ⟨S256x1024, .f32⟩
  | .local _ .vmem, ⟨0, _⟩ => ⟨S1x256x1024, .f32⟩
  | .local _ .vmem, ⟨1, _⟩ => ⟨S3x256x1024, .bf16⟩
  | .local _ .vmem, ⟨2, _⟩ => ⟨S256x1024, .f32⟩
  | .local _ .smem, ⟨0, _⟩ => ⟨S2, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumUpRefIdeal.lean ====
abbrev S2 : Shape := ⟨1, ![2]⟩
abbrev S4x256x1024 : Shape := ⟨3, ![4, 256, 1024]⟩
abbrev S3x256x1024 : Shape := ⟨3, ![3, 256, 1024]⟩
abbrev S4 : Shape := ⟨1, ![4]⟩
abbrev S4x1x1 : Shape := ⟨3, ![4, 1, 1]⟩
abbrev S1 : Shape := ⟨1, ![1]⟩
abbrev S_ : Shape := ⟨0, ![]⟩
abbrev S256x1024 : Shape := ⟨2, ![256, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x256x1024, .f32⟩
  | .hbm, ⟨2, _⟩ => ⟨S3x256x1024, .bf16⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S_, .f32⟩
  | .hbm, ⟨10, _⟩ => ⟨S_, .f32⟩
  | .hbm, ⟨11, _⟩ => ⟨S4x256x1024, .i1⟩
  | .hbm, ⟨12, _⟩ => ⟨S4x256x1024, .f32⟩
  | .hbm, ⟨13, _⟩ => ⟨S4x256x1024, .f32⟩
  | .hbm, ⟨14, _⟩ => ⟨S_, .f32⟩
  | .hbm, ⟨15, _⟩ => ⟨S256x1024, .f32⟩
  | .hbm, ⟨16, _⟩ => ⟨S3x256x1024, .f32⟩
  | .hbm, ⟨17, _⟩ => ⟨S_, .f32⟩
  | .hbm, ⟨18, _⟩ => ⟨S256x1024, .f32⟩
  | .hbm, ⟨19, _⟩ => ⟨S256x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== SumOut.lean ====
abbrev S2 : Shape := ⟨1, ![2]⟩
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S128x1024, .f32⟩
  | .local _ .vmem, ⟨0, _⟩ => ⟨S1x128x1024, .f32⟩
  | .local _ .vmem, ⟨1, _⟩ => ⟨S3x128x1024, .bf16⟩
  | .local _ .vmem, ⟨2, _⟩ => ⟨S128x1024, .f32⟩
  | .local _ .smem, ⟨0, _⟩ => ⟨S2, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S2 : Shape := ⟨1, ![2]⟩
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S128x1024, .f32⟩
  | .local _ .vmem, ⟨0, _⟩ => ⟨S1x128x1024, .f32⟩
  | .local _ .vmem, ⟨1, _⟩ => ⟨S3x128x1024, .bf16⟩
  | .local _ .vmem, ⟨2, _⟩ => ⟨S128x1024, .f32⟩
  | .local _ .smem, ⟨0, _⟩ => ⟨S2, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S2 : Shape := ⟨1, ![2]⟩
abbrev S4x128x1024 : Shape := ⟨3, ![4, 128, 1024]⟩
abbrev S3x128x1024 : Shape := ⟨3, ![3, 128, 1024]⟩
abbrev S4 : Shape := ⟨1, ![4]⟩
abbrev S4x1x1 : Shape := ⟨3, ![4, 1, 1]⟩
abbrev S1 : Shape := ⟨1, ![1]⟩
abbrev S_ : Shape := ⟨0, ![]⟩
abbrev S128x1024 : Shape := ⟨2, ![128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x128x1024, .f32⟩
  | .hbm, ⟨2, _⟩ => ⟨S3x128x1024, .bf16⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S_, .f32⟩
  | .hbm, ⟨10, _⟩ => ⟨S_, .f32⟩
  | .hbm, ⟨11, _⟩ => ⟨S4x128x1024, .i1⟩
  | .hbm, ⟨12, _⟩ => ⟨S4x128x1024, .f32⟩
  | .hbm, ⟨13, _⟩ => ⟨S4x128x1024, .f32⟩
  | .hbm, ⟨14, _⟩ => ⟨S_, .f32⟩
  | .hbm, ⟨15, _⟩ => ⟨S128x1024, .f32⟩
  | .hbm, ⟨16, _⟩ => ⟨S3x128x1024, .f32⟩
  | .hbm, ⟨17, _⟩ => ⟨S_, .f32⟩
  | .hbm, ⟨18, _⟩ => ⟨S128x1024, .f32⟩
  | .hbm, ⟨19, _⟩ => ⟨S128x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== SumMlp.lean ====
abbrev S2 : Shape := ⟨1, ![2]⟩
abbrev S4x512x1024 : Shape := ⟨3, ![4, 512, 1024]⟩
abbrev S3x512x1024 : Shape := ⟨3, ![3, 512, 1024]⟩
abbrev S512x1024 : Shape := ⟨2, ![512, 1024]⟩
abbrev S1x256x1024 : Shape := ⟨3, ![1, 256, 1024]⟩
abbrev S1 : Shape := ⟨1, ![1]⟩
abbrev S3x256x1024 : Shape := ⟨3, ![3, 256, 1024]⟩
abbrev S256x1024 : Shape := ⟨2, ![256, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x512x1024, .f32⟩
  | .hbm, ⟨1, _⟩ => ⟨S3x512x1024, .bf16⟩
  | .hbm, ⟨2, _⟩ => ⟨S512x1024, .f32⟩
  | .local _ .vmem, ⟨0, _⟩ => ⟨S1x256x1024, .f32⟩
  | .local _ .vmem, ⟨1, _⟩ => ⟨S1x256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .smem, ⟨0, _⟩ => ⟨S2, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMlpIdeal.lean ====
abbrev S2 : Shape := ⟨1, ![2]⟩
abbrev S4x512x1024 : Shape := ⟨3, ![4, 512, 1024]⟩
abbrev S3x512x1024 : Shape := ⟨3, ![3, 512, 1024]⟩
abbrev S512x1024 : Shape := ⟨2, ![512, 1024]⟩
abbrev S1x256x1024 : Shape := ⟨3, ![1, 256, 1024]⟩
abbrev S1 : Shape := ⟨1, ![1]⟩
abbrev S3x256x1024 : Shape := ⟨3, ![3, 256, 1024]⟩
abbrev S256x1024 : Shape := ⟨2, ![256, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x512x1024, .f32⟩
  | .hbm, ⟨1, _⟩ => ⟨S3x512x1024, .bf16⟩
  | .hbm, ⟨2, _⟩ => ⟨S512x1024, .f32⟩
  | .local _ .vmem, ⟨0, _⟩ => ⟨S1x256x1024, .f32⟩
  | .local _ .vmem, ⟨1, _⟩ => ⟨S1x256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .smem, ⟨0, _⟩ => ⟨S2, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMlpRefIdeal.lean ====
abbrev S2 : Shape := ⟨1, ![2]⟩
abbrev S4x512x1024 : Shape := ⟨3, ![4, 512, 1024]⟩
abbrev S3x512x1024 : Shape := ⟨3, ![3, 512, 1024]⟩
abbrev S4 : Shape := ⟨1, ![4]⟩
abbrev S4x1x1 : Shape := ⟨3, ![4, 1, 1]⟩
abbrev S1 : Shape := ⟨1, ![1]⟩
abbrev S_ : Shape := ⟨0, ![]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x512x1024, .f32⟩
  | .hbm, ⟨2, _⟩ => ⟨S3x512x1024, .bf16⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S_, .f32⟩
  | .hbm, ⟨10, _⟩ => ⟨S_, .f32⟩
  | .hbm, ⟨11, _⟩ => ⟨S4x512x1024, .i1⟩
  | .hbm, ⟨12, _⟩ => ⟨S4x512x1024, .f32⟩
  | .hbm, ⟨13, _⟩ => ⟨S4x512x1024, .f32⟩
  | .hbm, ⟨14, _⟩ => ⟨S_, .f32⟩
  | .hbm, ⟨15, _⟩ => ⟨S512x1024, .f32⟩
  | .hbm, ⟨16, _⟩ => ⟨S3x512x1024, .f32⟩
  | .hbm, ⟨17, _⟩ => ⟨S_, .f32⟩
  | .hbm, ⟨18, _⟩ => ⟨S512x1024, .f32⟩
  | .hbm, ⟨19, _⟩ => ⟨S512x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== AddIn.lean ====
abbrev S2 : Shape := ⟨1, ![2]⟩
abbrev S4x3600x1024 : Shape := ⟨3, ![4, 3600, 1024]⟩
abbrev S4x3600x512 : Shape := ⟨3, ![4, 3600, 512]⟩
abbrev S1x400x512 : Shape := ⟨3, ![1, 400, 512]⟩
abbrev S1 : Shape := ⟨1, ![1]⟩
abbrev S400x512 : Shape := ⟨2, ![400, 512]⟩

abbrev nBuf : Space → Nat
  | .hbm => 4
  | .vmem => 8
  | .smem => 1
  | _ => 0

abbrev bufTy : (tb : Table) → Fin (tcTables nBuf tb) → BufTy
  | .hbm, ⟨0, _⟩ => ⟨S4x3600x1024, .f32⟩
  | .hbm, ⟨1, _⟩ => ⟨S4x3600x512, .f32⟩
  | .hbm, ⟨2, _⟩ => ⟨S4x3600x512, .f32⟩
  | .hbm, ⟨3, _⟩ => ⟨S4x3600x512, .bf16⟩
  | .local _ .vmem, ⟨0, _⟩ => ⟨S1x400x512, .f32⟩
  | .local _ .vmem, ⟨1, _⟩ => ⟨S1x400x512, .f32⟩
  | .local _ .vmem, ⟨2, _⟩ => ⟨S1x400x512, .f32⟩
  | .local _ .vmem, ⟨3, _⟩ => ⟨S1x400x512, .f32⟩
  | .local _ .vmem, ⟨4, _⟩ => ⟨S1x400x512, .f32⟩
  | .local _ .vmem, ⟨5, _⟩ => ⟨S1x400x512, .f32⟩
  | .local _ .vmem, ⟨6, _⟩ => ⟨S1x400x512, .bf16⟩
  | .local _ .vmem, ⟨7, _⟩ => ⟨S1x400x512, .bf16⟩
  | .local _ .smem, ⟨0, _⟩ => ⟨S2, .i32⟩
  | _, _ => ⟨S4x3600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x400x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddInIdeal.lean ====
abbrev S2 : Shape := ⟨1, ![2]⟩
abbrev S4x3600x1024 : Shape := ⟨3, ![4, 3600, 1024]⟩
abbrev S4x3600x512 : Shape := ⟨3, ![4, 3600, 512]⟩
abbrev S1x400x512 : Shape := ⟨3, ![1, 400, 512]⟩
abbrev S1 : Shape := ⟨1, ![1]⟩
abbrev S400x512 : Shape := ⟨2, ![400, 512]⟩

abbrev nBuf : Space → Nat
  | .hbm => 4
  | .vmem => 8
  | .smem => 1
  | _ => 0

abbrev bufTy : (tb : Table) → Fin (tcTables nBuf tb) → BufTy
  | .hbm, ⟨0, _⟩ => ⟨S4x3600x1024, .f32⟩
  | .hbm, ⟨1, _⟩ => ⟨S4x3600x512, .f32⟩
  | .hbm, ⟨2, _⟩ => ⟨S4x3600x512, .f32⟩
  | .hbm, ⟨3, _⟩ => ⟨S4x3600x512, .bf16⟩
  | .local _ .vmem, ⟨0, _⟩ => ⟨S1x400x512, .f32⟩
  | .local _ .vmem, ⟨1, _⟩ => ⟨S1x400x512, .f32⟩
  | .local _ .vmem, ⟨2, _⟩ => ⟨S1x400x512, .f32⟩
  | .local _ .vmem, ⟨3, _⟩ => ⟨S1x400x512, .f32⟩
  | .local _ .vmem, ⟨4, _⟩ => ⟨S1x400x512, .f32⟩
  | .local _ .vmem, ⟨5, _⟩ => ⟨S1x400x512, .f32⟩
  | .local _ .vmem, ⟨6, _⟩ => ⟨S1x400x512, .bf16⟩
  | .local _ .vmem, ⟨7, _⟩ => ⟨S1x400x512, .bf16⟩
  | .local _ .smem, ⟨0, _⟩ => ⟨S2, .i32⟩
  | _, _ => ⟨S4x3600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x400x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddInRefIdeal.lean ====
abbrev S2 : Shape := ⟨1, ![2]⟩
abbrev S4x3600x1024 : Shape := ⟨3, ![4, 3600, 1024]⟩
abbrev S4x3600x512 : Shape := ⟨3, ![4, 3600, 512]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x3600x1024, .f32⟩
  | .hbm, ⟨2, _⟩ => ⟨S4x3600x512, .f32⟩
  | .hbm, ⟨3, _⟩ => ⟨S4x3600x512, .f32⟩
  | .hbm, ⟨4, _⟩ => ⟨S4x3600x512, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x3600x512, .f32⟩
  | .hbm, ⟨10, _⟩ => ⟨S4x3600x512, .f32⟩
  | .hbm, ⟨11, _⟩ => ⟨S4x3600x512, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AddUp.lean ====
abbrev S2 : Shape := ⟨1, ![2]⟩
abbrev S4x512x1024 : Shape := ⟨3, ![4, 512, 1024]⟩
abbrev S4x256x1024 : Shape := ⟨3, ![4, 256, 1024]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x512x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .smem, ⟨0, _⟩ => ⟨S2, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddUpIdeal.lean ====
abbrev S2 : Shape := ⟨1, ![2]⟩
abbrev S4x512x1024 : Shape := ⟨3, ![4, 512, 1024]⟩
abbrev S4x256x1024 : Shape := ⟨3, ![4, 256, 1024]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x512x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .smem, ⟨0, _⟩ => ⟨S2, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddUpRefIdeal.lean ====
abbrev S2 : Shape := ⟨1, ![2]⟩
abbrev S4x512x1024 : Shape := ⟨3, ![4, 512, 1024]⟩
abbrev S4x256x1024 : Shape := ⟨3, ![4, 256, 1024]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x512x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x256x1024, .f32⟩
  | .hbm, ⟨10, _⟩ => ⟨S4x256x1024, .f32⟩
  | .hbm, ⟨11, _⟩ => ⟨S4x256x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AddOut.lean ====
abbrev S2 : Shape := ⟨1, ![2]⟩
abbrev S4x256x1024 : Shape := ⟨3, ![4, 256, 1024]⟩
abbrev S4x128x1024 : Shape := ⟨3, ![4, 128, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .f32⟩
  | .hbm, ⟨3, _⟩ => ⟨S4x128x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .bf16⟩
  | .local _ .vmem, ⟨7, _⟩ => ⟨S1x128x1024, .bf16⟩
  | .local _ .smem, ⟨0, _⟩ => ⟨S2, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddOutIdeal.lean ====
abbrev S2 : Shape := ⟨1, ![2]⟩
abbrev S4x256x1024 : Shape := ⟨3, ![4, 256, 1024]⟩
abbrev S4x128x1024 : Shape := ⟨3, ![4, 128, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .f32⟩
  | .hbm, ⟨3, _⟩ => ⟨S4x128x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .bf16⟩
  | .local _ .vmem, ⟨7, _⟩ => ⟨S1x128x1024, .bf16⟩
  | .local _ .smem, ⟨0, _⟩ => ⟨S2, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddOutRefIdeal.lean ====
abbrev S2 : Shape := ⟨1, ![2]⟩
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x256x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x128x1024, .f32⟩
  | .hbm, ⟨10, _⟩ => ⟨S4x128x1024, .f32⟩
  | .hbm, ⟨11, _⟩ => ⟨S4x128x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AddMlp.lean ====
abbrev S2 : Shape := ⟨1, ![2]⟩
abbrev S4x1024x1024 : Shape := ⟨3, ![4, 1024, 1024]⟩
abbrev S4x512x1024 : Shape := ⟨3, ![4, 512, 1024]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S4x512x1024, .f32⟩
  | .hbm, ⟨3, _⟩ => ⟨S4x512x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .smem, ⟨0, _⟩ => ⟨S2, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddMlpRefIdeal.lean ====
abbrev S2 : Shape := ⟨1, ![2]⟩
abbrev S4x1024x1024 : Shape := ⟨3, ![4, 1024, 1024]⟩
abbrev S4x512x1024 : Shape := ⟨3, ![4, 512, 1024]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1024x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x512x1024, .f32⟩
  | .hbm, ⟨10, _⟩ => ⟨S4x512x1024, .f32⟩
  | .hbm, ⟨11, _⟩ => ⟨S4x512x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AdaFwd.lean ====
abbrev S8x1024 : Shape := ⟨2, ![8, 1024]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1536, .f32⟩
  | .local _ .vmem, ⟨0, _⟩ => ⟨S8x1024, .f32⟩
  | .local _ .vmem, ⟨1, _⟩ => ⟨S1024x1536, .f32⟩
  | .local _ .vmem, ⟨2, _⟩ => ⟨S1x1536, .f32⟩
  | .local _ .vmem, ⟨3, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AdaFwdRefIdeal.lean ====
abbrev S8x1024 : Shape := ⟨2, ![8, 1024]⟩
abbrev S1024x1536 : Shape := ⟨2, ![1024, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Premix.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PremixRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Merged.lean ====
abbrev S4096x15360 : Shape := ⟨2, ![4096, 15360]⟩
abbrev S4096x1024 : Shape := ⟨2, ![4096, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x15360, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergedRefIdeal.lean ====
abbrev S4096x15360 : Shape := ⟨2, ![4096, 15360]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Postmix.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== PostmixRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Final.lean ====
abbrev S4096x4096 : Shape := ⟨2, ![4096, 4096]⟩
abbrev S4096x1024 : Shape := ⟨2, ![4096, 1024]⟩
abbrev S1x1024 : Shape := ⟨2, ![1, 1024]⟩
abbrev S1x1 : Shape := ⟨2, ![1, 1]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1, .f32⟩
  | .hbm, ⟨9, _⟩ => ⟨S1x1024, .f32⟩
  | .hbm, ⟨10, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_10 : BitVec 32 := 1#32
  let v18 : BitVec 1 := Scalar.cmpi .eq arg2 c1_i32_10
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c0_i32 : BitVec 32 := 0#32
  let v4 : BitVec 1 := Scalar.cmpi .eq v3 c0_i32
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== FinalRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .bf16⟩
  | .hbm, ⟨84, _⟩ => ⟨S1x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== PostmixBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostmixBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== SmallCols.lean ====
abbrev S4096x15360 : Shape := ⟨2, ![4096, 15360]⟩
abbrev S4096x128 : Shape := ⟨2, ![4096, 128]⟩
abbrev S512x128 : Shape := ⟨2, ![512, 128]⟩
abbrev S512x1024 : Shape := ⟨2, ![512, 1024]⟩
abbrev S512x896 : Shape := ⟨2, ![512, 896]⟩

abbrev nBuf : Space → Nat
  | .hbm => 4
  | .vmem => 6
  | .smem => 0
  | _ => 0

abbrev bufTy : (tb : Table) → Fin (tcTables nBuf tb) → BufTy
  | .hbm, ⟨0, _⟩ => ⟨S4096x15360, .bf16⟩
  | .hbm, ⟨1, _⟩ => ⟨S4096x128, .f32⟩
  | .hbm, ⟨2, _⟩ => ⟨S4096x128, .f32⟩
  | .hbm, ⟨3, _⟩ => ⟨S4096x15360, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1024, .bf16⟩
  | .local _ .vmem, ⟨5, _⟩ => ⟨S512x1024, .bf16⟩
  | _, _ => ⟨S4096x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SmallColsRefIdeal.lean ====
abbrev S4096x15360 : Shape := ⟨2, ![4096, 15360]⟩
abbrev S4096x128 : Shape := ⟨2, ![4096, 128]⟩
abbrev S_ : Shape := ⟨0, ![]⟩
abbrev S4096x896 : Shape := ⟨2, ![4096, 896]⟩
abbrev S4096x14336 : Shape := ⟨2, ![4096, 14336]⟩

abbrev nBuf : Space → Nat
  | .hbm => 9
  | .vmem => 0
  | .smem => 0
  | _ => 0

abbrev bufTy : (tb : Table) → Fin (tcTables nBuf tb) → BufTy
  | .hbm, ⟨0, _⟩ => ⟨S4096x15360, .bf16⟩
  | .hbm, ⟨1, _⟩ => ⟨S4096x128, .f32⟩
  | .hbm, ⟨2, _⟩ => ⟨S4096x128, .f32⟩
  | .hbm, ⟨3, _⟩ => ⟨S_, .bf16⟩
  | .hbm, ⟨4, _⟩ => ⟨S4096x896, .bf16⟩
  | .hbm, ⟨5, _⟩ => ⟨S4096x14336, .bf16⟩
  | .hbm, ⟨6, _⟩ => ⟨S4096x128, .f32⟩
  | .hbm, ⟨7, _⟩ => ⟨S4096x128, .bf16⟩
  | .hbm, ⟨8, _⟩ => ⟨S4096x15360, .bf16⟩
  | _, _ => ⟨S4096x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Gates.lean ====
/- Scalar facts about the gates: the sigmoid written through the hyperbolic tangent is the sigmoid, and so is its slope. -/
module

public import Idealize.ShloMosaic.Lib.Pointwise

@[expose] public section

noncomputable section

open Idealize.ShloMosaic

namespace Cert.Gates

/-- The literal one half. -/
theorem half : Ideal.ofBits .f32 0x3F000000#32 = ((1 / 2 : ℝ) : EReal) := by
  simp [Ideal.ofBits, Ideal.ieee, -EReal.coe_mul]; norm_num

theorem one_coe : (1 : EReal) = ((1 : ℝ) : EReal) := rfl

theorem neg_one_coe : (-1 : EReal) = ((-1 : ℝ) : EReal) := rfl

theorem zero_coe : (0 : EReal) = ((0 : ℝ) : EReal) := rfl

/-- The real sigmoid through the hyperbolic tangent. -/
theorem tanh_real (x : ℝ) : Real.tanh (1 / 2 * x) = (1 - Real.exp (-x)) / (1 + Real.exp (-x)) := by
  have h : Real.exp (-x) = Real.exp (-(1 / 2 * x)) * Real.exp (-(1 / 2 * x)) := by
    rw [← Real.exp_add]; congr 1; ring
  have e : Real.exp (-(1 / 2 * x)) = (Real.exp (1 / 2 * x))⁻¹ := Real.exp_neg _
  have p := Real.exp_pos (1 / 2 * x)
  rw [Real.tanh_eq_sinh_div_cosh, Real.sinh_eq, Real.cosh_eq, h, e]
  field_simp

theorem logistic_coe (x : ℝ) : Ideal.logistic (x : EReal) = ((1 / (1 + Real.exp (-x)) : ℝ) : EReal) := by
  have h : (1 + Real.exp (-x) : ℝ) ≠ 0 := by positivity
  show Ideal.div 1 (1 + Ideal.exp (-(x : EReal))) = _
  rw [show Ideal.exp (-(x : EReal)) = ((Real.exp (-x) : ℝ) : EReal) from rfl,
    show (1 : EReal) + ((Real.exp (-x) : ℝ) : EReal) = ((1 + Real.exp (-x) : ℝ) : EReal) by norm_cast,
    Ideal.div_coe h, one_mul]

theorem logistic_top : Ideal.logistic ⊤ = 1 := by
  show Ideal.div 1 (1 + Ideal.exp (-⊤)) = _
  rw [EReal.neg_top, show Ideal.exp ⊥ = 0 from rfl, add_zero]
  simp [Ideal.div]

theorem logistic_bot : Ideal.logistic ⊥ = 0 := by
  show Ideal.div 1 (1 + Ideal.exp (-⊥)) = _
  rw [EReal.neg_bot, show Ideal.exp ⊤ = ⊤ from rfl, show (1 : EReal) + ⊤ = ⊤ from EReal.coe_add_top 1]
  simp [Ideal.div]

/-- The gate as the kernel computes it is the sigmoid, at every extended real. -/
theorem gate (x : EReal) :
    Ideal.ofBits .f32 0x3F000000#32 * Ideal.tanh (Ideal.ofBits .f32 0x3F000000#32 * x) + Ideal.ofBits .f32 0x3F000000#32
      = Ideal.logistic x := by
  rw [half]
  induction x with
  | bot =>
      rw [logistic_bot, EReal.coe_mul_bot_of_pos (by norm_num), show Ideal.tanh ⊥ = -1 from rfl, neg_one_coe]
      simp only [zero_coe, one_coe, ← EReal.coe_mul, ← EReal.coe_add, ← EReal.coe_sub]; norm_num
  | top =>
      rw [logistic_top, EReal.coe_mul_top_of_pos (by norm_num), show Ideal.tanh ⊤ = 1 from rfl]
      simp only [zero_coe, one_coe, ← EReal.coe_mul, ← EReal.coe_add, ← EReal.coe_sub]; norm_num
  | coe x =>
    have h : (1 + Real.exp (-x) : ℝ) ≠ 0 := by positivity
    rw [← EReal.coe_mul, show Ideal.tanh ((1 / 2 * x : ℝ) : EReal) = ((Real.tanh (1 / 2 * x) : ℝ) : EReal) from rfl, tanh_real,
      logistic_coe, ← EReal.coe_mul, ← EReal.coe_add]
    congr 1; field_simp; ring

/-- The gate's slope as the kernel computes it, times a cotangent, is the sigmoid's `s * (1 - s)` times it. -/
theorem slope (p x : EReal) :
    Ideal.ofBits .f32 0x3F000000#32 * (Ideal.ofBits .f32 0x3F000000#32 * p
        * ((1 + Ideal.tanh (Ideal.ofBits .f32 0x3F000000#32 * x)) * (1 - Ideal.tanh (Ideal.ofBits .f32 0x3F000000#32 * x))))
      = p * (Ideal.logistic x * (1 - Ideal.logistic x)) := by
  rw [half]
  have key : ((1 / 2 : ℝ) : EReal) * (((1 / 2 : ℝ) : EReal) * ((1 + Ideal.tanh (((1 / 2 : ℝ) : EReal) * x)) * (1 - Ideal.tanh (((1 / 2 : ℝ) : EReal) * x))))
      = Ideal.logistic x * (1 - Ideal.logistic x) := by
    induction x with
    | bot =>
      rw [logistic_bot, EReal.coe_mul_bot_of_pos (by norm_num), show Ideal.tanh ⊥ = -1 from rfl, neg_one_coe]
      simp only [zero_coe, one_coe, ← EReal.coe_mul, ← EReal.coe_add, ← EReal.coe_sub]; norm_num
    | top =>
      rw [logistic_top, EReal.coe_mul_top_of_pos (by norm_num), show Ideal.tanh ⊤ = 1 from rfl]
      simp only [zero_coe, one_coe, ← EReal.coe_mul, ← EReal.coe_add, ← EReal.coe_sub]; norm_num
    | coe x =>
      have h : (1 + Real.exp (-x) : ℝ) ≠ 0 := by positivity
      rw [← EReal.coe_mul, show Ideal.tanh ((1 / 2 * x : ℝ) : EReal) = ((Real.tanh (1 / 2 * x) : ℝ) : EReal) from rfl, tanh_real,
        logistic_coe]
      norm_cast
      field_simp; ring
  rw [← key]
  ac_rfl

end Cert.Gates

end
-- ==== Proof.MergeBwd.lean ====
/- The gradient of the two gates: what the kernel's three result arrays hold, as functions of the arguments. -/
module

public import proofs.«01_k».proof.Proof.Gates
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.MergeBwd

open Cert.KernelIdeal Cert.KernelIdeal.Gen

variable (m : (ℓ : Loc nD τ sig) → Buf (Elt Ideal) ℓ)

/-- Column `n` of the projected activations, `a` columns further on. -/
def col (a : Nat) (h : a + 1024 ≤ 15360) (x : FVec Ideal S4096x15360 .f32) (r : Fin 4096) (n : Fin 1024) : EReal :=
  x (ix2 r ⟨a + n.val, by omega⟩)

/-- The gradient of one branch: its gate times the cotangent. -/
def branch (a : Nat) (h : a + 1024 ≤ 15360) (x : FVec Ideal S4096x15360 .f32) (dm : FVec Ideal S4096x1024 .bf16) :
    FVec Ideal S4096x1024 .bf16 :=
  fun i => Ideal.logistic (col a h x (i 0) (i 1)) * dm (ix2 (i 0) (i 1))

/-- The gradient of one gate's input. -/
def gateGrad (a : Nat) (h : a + 1024 ≤ 15360) (x : FVec Ideal S4096x15360 .f32) (y dm : FVec Ideal S4096x1024 .bf16)
    (r : Fin 4096) (n : Fin 1024) : EReal :=
  dm (ix2 r n) * y (ix2 r n) * (Ideal.logistic (col a h x r n) * (1 - Ideal.logistic (col a h x r n)))

theorem idx_val : ∀ t : Fin cfg0.N, win0_0.index t = ![t.val, 12]
    ∧ win0_1.index t = ![t.val, 13]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 6] :=
  (by decide +kernel : ∀ t : Fin grid0.N, _)

theorem final5 (c : Dev nD) : (dats m 0 c).arrAt 5 (cfgs 0).N
    = branch 12288 (by omega) (m ((c : Thread nD τ).loc main_arg0)) (m ((c : Thread nD τ).loc main_arg3)) := by
  refine (dats m 0 c).arrAt_eq_of_covers 5 _ (by decide +kernel) fun t hf y => ?_
  blk_simp; rw [after0_5]; frame_out
  pointwise [k0_pay1, k0_pay5, k0_pay4, k0_pay3, k0_pay8, branch, col]
  rw [Gates.gate]
  blk_point [iblk, V, idx_val t]

theorem final6 (c : Dev nD) : (dats m 0 c).arrAt 6 (cfgs 0).N
    = branch 13312 (by omega) (m ((c : Thread nD τ).loc main_arg0)) (m ((c : Thread nD τ).loc main_arg3)) := by
  refine (dats m 0 c).arrAt_eq_of_covers 6 _ (by decide +kernel) fun t hf y => ?_
  blk_simp; rw [after0_6]; frame_out
  pointwise [k0_pay9, k0_pay7, k0_pay8, branch, col]
  rw [Gates.gate]
  blk_point [iblk, V, idx_val t]

/-- The gradient at the projected activations, in the two gates' columns. -/
def columns (x : FVec Ideal S4096x15360 .f32) (ys yg dm : FVec Ideal S4096x1024 .bf16) (r : Fin 4096) (n : Nat) : EReal :=
  if h : n - 12288 < 1024 then gateGrad 12288 (by omega) x ys dm r ⟨n - 12288, h⟩
  else if h : n - 13312 < 1024 then gateGrad 13312 (by omega) x yg dm r ⟨n - 13312, h⟩ else 0

theorem columns_left (x : FVec Ideal S4096x15360 .f32) (ys yg dm : FVec Ideal S4096x1024 .bf16) (r : Fin 4096) (n : Nat) (h : n - 12288 < 1024) :
    columns x ys yg dm r n = gateGrad 12288 (by omega) x ys dm r ⟨n - 12288, h⟩ := dif_pos h

theorem columns_right (x : FVec Ideal S4096x15360 .f32) (ys yg dm : FVec Ideal S4096x1024 .bf16) (r : Fin 4096) (n : Nat) (h : ¬n - 12288 < 1024) (h' : n - 13312 < 1024) :
    columns x ys yg dm r n = gateGrad 13312 (by omega) x yg dm r ⟨n - 13312, h'⟩ := (dif_neg h).trans (dif_pos h')

theorem columns_out (x : FVec Ideal S4096x15360 .f32) (ys yg dm : FVec Ideal S4096x1024 .bf16) (r : Fin 4096) (n : Nat) (h : ¬n - 12288 < 1024) (h' : ¬n - 13312 < 1024) :
    columns x ys yg dm r n = 0 := (dif_neg h).trans (dif_neg h')

/-- The two gates' gradients of one block of rows, side by side. -/
theorem block7 (x0 x1 : Vec Ideal S512x1024 .f32) (x2 x3 x4 : Vec Ideal S512x1024 .bf16) (y : S512x2048.Idx) :
    k0_pay2 (k0_pay4 x0) (k0_pay6 x2) (k0_pay11 x0 x1 x2 x3 x4) (k0_pay10 x1 x3 x4) y
      = if h : (y 1).val < 1024 then
          x4 (ix2 (y 0) ⟨(y 1).val, h⟩) * x2 (ix2 (y 0) ⟨(y 1).val, h⟩) * (Ideal.logistic (x0 (ix2 (y 0) ⟨(y 1).val, h⟩))
            * (1 - Ideal.logistic (x0 (ix2 (y 0) ⟨(y 1).val, h⟩))))
        else if h : (y 1).val - 1024 < 1024 then
          x4 (ix2 (y 0) ⟨(y 1).val - 1024, h⟩) * x3 (ix2 (y 0) ⟨(y 1).val - 1024, h⟩)
            * (Ideal.logistic (x1 (ix2 (y 0) ⟨(y 1).val - 1024, h⟩)) * (1 - Ideal.logistic (x1 (ix2 (y 0) ⟨(y 1).val - 1024, h⟩))))
        else 0 := by
  pointwise [k0_pay2, k0_pay10, k0_pay4, k0_pay6, k0_pay7, k0_pay3, k0_pay8, k0_pay11]
  simp only [Gates.slope]
  idx_bounds y
  by_cases k : (y 1).val < 1024
  · rw [dif_pos k, dif_pos k]
  · rw [dif_neg k, dif_neg k, dif_pos (by omega)]

theorem final7 (c : Dev nD) (j : S4096x15360.Idx) (h : 12288 ≤ (j 1).val ∧ (j 1).val < 14336) :
    (dats m 0 c).arrAt 7 (cfgs 0).N j
      = columns (m ((c : Thread nD τ).loc main_arg0)) (m ((c : Thread nD τ).loc main_arg1)) (m ((c : Thread nD τ).loc main_arg2))
          (m ((c : Thread nD τ).loc main_arg3)) (j 0) (j 1).val := by
  refine ((dats m 0 c).arrAt_apply_of_coversWhere 7 (fun j : S4096x15360.Idx => columns (m ((c : Thread nD τ).loc main_arg0))
      (m ((c : Thread nD τ).loc main_arg1)) (m ((c : Thread nD τ).loc main_arg2)) (m ((c : Thread nD τ).loc main_arg3)) (j 0) (j 1).val)
    (P := fun j : S4096x15360.Idx => 12288 ≤ (j 1).val ∧ (j 1).val < 14336) (fun β => 6 ≤ β (1 : Fin 2) ∧ β (1 : Fin 2) < 7)
    (by decide +kernel) (fun t hf y => ?_) (fun j => ?_) j).trans (if_pos h)
  · blk_simp; rw [after0_7]; frame_out
    have e : win0_7.index t 1 * 2048 = 12288 := by rw [(idx_val t).2.2.2.2.2.2.2]; rfl
    rw [block7]; blk_simp
    rw [e, show ((win0 7).xinj (grid0.coords t) y 1).val = (y 1).val from rfl]
    by_cases k : (y 1).val < 1024
    · rw [dif_pos k]
      refine Eq.trans ?_ (columns_left _ _ _ _ _ _ (by omega)).symm
      unfold gateGrad col
      blk_point [iblk, V, idx_val t]
    · rw [dif_neg k]
      by_cases k' : (y 1).val - 1024 < 1024
      · rw [dif_pos k']
        refine Eq.trans ?_ (columns_right _ _ _ _ _ _ (by omega) (by omega)).symm
        unfold gateGrad col
        blk_point [iblk, V, idx_val t]
      · rw [dif_neg k']
        exact (columns_out _ _ _ _ _ _ (by omega) (by omega)).symm
  · blk_simp [Pipeline.Window.cell_apply]; omega

end Cert.KernelIdeal.MergeBwd

end
-- ==== Proof.MergeAgrees.lean ====
/- The gate's gradient and its reference end with the same results. -/
module

public import proofs.«01_k».proof.Defs
public import proofs.«01_k».proof.Proof.Gen.ReferenceIdeal
public import proofs.«01_k».proof.Proof.Gen.ReferenceIdeal.Run
public import proofs.«01_k».proof.Proof.Gen.KernelIdeal
public import proofs.«01_k».proof.Proof.Gen.KernelIdeal.Frame
public import proofs.«01_k».proof.Proof.Gen.On_gate_columns
public import proofs.«01_k».proof.Proof.MergeBwd
public import Idealize.ShloMosaic.Lib.Claim
public import Idealize.ShloMosaic.Adequacy
public import Idealize.ShloMosaic.Init

@[expose] public section

noncomputable section

namespace Cert.KernelIdeal.MergeBwd

open Idealize.ShloMosaic Idealize.SL.Sem Cert.Kernel

/-- A column the mask keeps is one of the two gates'. -/
theorem gate_range {x : FVec Ideal S4096x15360 .f32} {ys yg dm : FVec Ideal S4096x1024 .bf16} {i : S4096x15360.Idx}
    (h : (On_gate_columns.fn (F := Ideal) x ys yg dm).2.2 i = 1#1) : 12288 ≤ (i 1).val ∧ (i 1).val < 14336 := by
  have hi : (i 1).val < 15360 := (i 1).isLt
  revert h
  pointwise [On_gate_columns.fn]
  simp only [IntOp.andi, IntOp.cmpi, BitVec.slt, BitVec.sle]
  have e : (BitVec.ofNat 32 (i 1).val).toInt = ((i 1).val : Int) := by
    rw [BitVec.toInt_eq_toNat_of_lt (by rw [BitVec.toNat_ofNat]; omega), BitVec.toNat_ofNat]; omega
  rw [e, show (12288#32).toInt = 12288 from rfl, show (14336#32).toInt = 14336 from rfl]
  by_cases p : (12288 : Int) ≤ ((i 1).val : Int) <;> by_cases q : ((i 1).val : Int) < 14336 <;> simp [p, q] <;> omega

theorem agree : algebraic_KernelIdeal_ReferenceIdeal_on_gate_columns (hKernelIdeal := Cert.KernelIdeal.Gen.facts)
    (hReferenceIdeal := Cert.ReferenceIdeal.Gen.facts) (hOn_gate_columns := Cert.On_gate_columns.Gen.facts) := by
  intro m g m' g' hpre hagree
  refine ⟨fun c => KernelIdeal.MergeBwd.branch 12288 (by omega) (m (c.tc.loc KernelIdeal.main_arg0)) (m (c.tc.loc KernelIdeal.main_arg3)),
    fun c => KernelIdeal.MergeBwd.branch 13312 (by omega) (m (c.tc.loc KernelIdeal.main_arg0)) (m (c.tc.loc KernelIdeal.main_arg3)),
    fun c j => KernelIdeal.MergeBwd.columns (m (c.tc.loc KernelIdeal.main_arg0)) (m (c.tc.loc KernelIdeal.main_arg1))
      (m (c.tc.loc KernelIdeal.main_arg2)) (m (c.tc.loc KernelIdeal.main_arg3)) (j 0) (j 1).val, ?_, ?_⟩
  · run_from Cert.KernelIdeal.Gen.run_main m g
    · exact fun i _ => congrFun (KernelIdeal.MergeBwd.final5 m c) i
    · exact fun i _ => congrFun (KernelIdeal.MergeBwd.final6 m c) i
    · exact fun i h => KernelIdeal.MergeBwd.final7 m c i (gate_range h)
  · run_from (Cert.ReferenceIdeal.Value.run m' g')
    · intro i _
      pointwise [KernelIdeal.MergeBwd.branch, KernelIdeal.MergeBwd.col]
      rfl
    · intro i _
      pointwise [KernelIdeal.MergeBwd.branch, KernelIdeal.MergeBwd.col]
      rfl
    · intro i h
      have h := gate_range h
      have h0 : (i 0).val < 4096 := (i 0).isLt
      pointwise []
      by_cases k : (i 1).val < 13312
      · refine (congrArg₂ (· + ·) (dif_neg ?_) (dif_pos ?_)).trans ?_
        · intro h'
          exact absurd (show 13312 ≤ (i 1).val from (h' (1 : Fin 2)).1) (by omega)
        · refine Fin.forall_fin_two.mpr ⟨⟨Nat.zero_le _, Nat.mod_one _, ?_⟩, ⟨h.1, Nat.mod_one _, ?_⟩⟩
          · show ((i 0).val - 0) / (0 + 1) < 4096; omega
          · show ((i 1).val - 12288) / (0 + 1) < 1024; omega
        · refine (zero_add _).trans (Eq.trans ?_ (KernelIdeal.MergeBwd.columns_left _ _ _ _ _ _ (by omega)).symm)
          rfl
      · refine (congrArg₂ (· + ·) (dif_pos ?_) (dif_neg ?_)).trans ?_
        · refine Fin.forall_fin_two.mpr ⟨⟨Nat.zero_le _, Nat.mod_one _, ?_⟩, ⟨show 13312 ≤ (i 1).val by omega, Nat.mod_one _, ?_⟩⟩
          · show ((i 0).val - 0) / (0 + 1) < 4096; omega
          · show ((i 1).val - 13312) / (0 + 1) < 1024; omega
        · intro h'
          exact absurd (show ((i 1).val - 12288) / (0 + 1) < 1024 from (h' (1 : Fin 2)).2.2) (by omega)
        · refine (add_zero _).trans (Eq.trans ?_ (KernelIdeal.MergeBwd.columns_right _ _ _ _ _ _ (by omega) (by omega)).symm)
          rfl

theorem quiet : quiescent_ReferenceIdeal (hReferenceIdeal := Cert.ReferenceIdeal.Gen.facts) := by
  intro m ρ _
  exact (θ_run _ _ _).mono (fun _ h => ⟨fun c => (h c).2.2.2, sem_eq_zero_of_no_sems (by decide) _⟩) (Cert.ReferenceIdeal.Value.run m ρ)

end Cert.KernelIdeal.MergeBwd

end
-- ==== Proof.Products.lean ====
/- Matrix products over the extended reals, index by index: what the calls and their references both compute. -/
module

public import Idealize.ShloMosaic.Lib.Pointwise

@[expose] public section

noncomputable section

open Idealize.ShloMosaic
open scoped BigOperators

namespace Cert.Products

/-- A matrix of `a` rows and `b` columns. -/
abbrev Mat (a b : Nat) : Type := (⟨2, ![a, b]⟩ : Shape).Idx → EReal

/-- The product of two matrices. -/
def times {a k b : Nat} (x : Mat a k) (w : Mat k b) : Mat a b :=
  fun i => ∑ l : Fin k, x (ix2 (i 0) l) * w (ix2 l (i 1))

/-- The product with the second matrix transposed: the gradient at the left factor. -/
def timesT {a k b : Nat} (x : Mat a k) (w : Mat b k) : Mat a b :=
  fun i => ∑ l : Fin k, x (ix2 (i 0) l) * w (ix2 (i 1) l)

/-- The product with the first matrix transposed: the gradient at the right factor. -/
def tTimes {a k b : Nat} (x : Mat k a) (y : Mat k b) : Mat a b :=
  fun i => ∑ l : Fin k, x (ix2 l (i 0)) * y (ix2 l (i 1))

end Cert.Products

end
-- ==== Proof.MlpUp.lean ====
/- The channel mixer's first product and its activation. -/
module

public import proofs.«01_k».proof.Proof.Products
public import proofs.«01_k».proof.Proof.Gen.MlpUpIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpUpIdeal.Result

open Cert.MlpUpIdeal Cert.MlpUpIdeal.Gen

variable (m : (ℓ : Loc nD τ sig) → Buf (Elt Ideal) ℓ)

/-- The hidden layer before its activation: the weight's columns lie in four quarters. -/
def hidden (x : Products.Mat 4096 1024) (w : (⟨3, ![4, 1024, 1024]⟩ : Shape).Idx → EReal) : Products.Mat 4096 4096 :=
  fun i => ∑ l : Fin 1024, x (ix2 (i 0) l) * w (ix3 ⟨(i 1).val / 1024, by have := (i 1).isLt; simp at this; omega⟩ l ⟨(i 1).val % 1024, by omega⟩)

/-- The squared positive part. -/
def relu2 (x : Products.Mat 4096 4096) : Products.Mat 4096 4096 := fun i => max (x i) 0 * max (x i) 0

theorem idx_val : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- The first result array: the hidden layer before its activation. -/
theorem final (c : Dev nD) : (dats m 0 c).arrAt 2 (cfgs 0).N = hidden (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, k0_pay2, k0_pay3, hidden]
  blk_point [iblk, V, idx_val t]

/-- The second result array: the activated hidden layer. -/
theorem final_act (c : Dev nD) : (dats m 0 c).arrAt 3 (cfgs 0).N = relu2 (hidden (m ((c : Thread nD τ).loc main_arg0)) (m ((c : Thread nD τ).loc main_arg1))) := by
  refine (dats m 0 c).arrAt_eq_of_covers 3 _ (by decide +kernel) fun t hf y => ?_
  blk_simp; rw [after0_3]; frame_out
  pointwise [k0_pay1, k0_pay2, k0_pay3, relu2, hidden]
  blk_point [iblk, V, idx_val t]

end Cert.MlpUpIdeal.Result

end
-- ==== Proof.MlpUpAgrees.lean ====
/- The call and its reference end with the same results: MlpUp. -/
module

public import proofs.«01_k».proof.Defs
public import proofs.«01_k».proof.Proof.Gen.MlpUpRefIdeal
public import proofs.«01_k».proof.Proof.Gen.MlpUpRefIdeal.Run
public import proofs.«01_k».proof.Proof.Gen.MlpUpIdeal
public import proofs.«01_k».proof.Proof.MlpUp
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.MlpUpIdeal.Result

theorem agree : algebraic_MlpUpIdeal_MlpUpRefIdeal (hMlpUpIdeal := MlpUpIdeal.Gen.facts) (hMlpUpRefIdeal := MlpUpRefIdeal.Gen.facts) := by
  intro m g m' g' hpre hagree
  refine ⟨fun c => hidden (m (c.tc.loc MlpUpIdeal.main_arg0)) (m (c.tc.loc MlpUpIdeal.main_arg1)), fun c => relu2 (hidden (m (c.tc.loc MlpUpIdeal.main_arg0)) (m (c.tc.loc MlpUpIdeal.main_arg1))), ?_, ?_⟩
  · run_from MlpUpIdeal.Gen.run_main m g
    · exact final m c
    · exact final_act m c
  · run_from MlpUpRefIdeal.Value.run m' g'
    · funext i
      pointwise [hidden]
    · funext i
      pointwise [relu2, hidden]

theorem quiet : quiescent_MlpUpRefIdeal (hMlpUpRefIdeal := MlpUpRefIdeal.Gen.facts) := by
  intro m ρ _
  exact (θ_run _ _ _).mono (fun _ h => ⟨fun c => (h c).2.2, sem_eq_zero_of_no_sems (by decide) _⟩) (MlpUpRefIdeal.Value.run m ρ)

end Cert.MlpUpIdeal.Result

end
-- ==== Proof.MlpDownDx.lean ====
/- The gradient of the channel mixer's second product at the hidden layer. -/
module

public import proofs.«01_k».proof.Proof.Products
public import proofs.«01_k».proof.Proof.Gen.MlpDownDxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpDownDxIdeal.Result

open Cert.MlpDownDxIdeal Cert.MlpDownDxIdeal.Gen

variable (m : (ℓ : Loc nD τ sig) → Buf (Elt Ideal) ℓ)

/-- The gradient at the hidden layer before its activation. -/
def slope (g a : Products.Mat 4096 4096) : Products.Mat 4096 4096 := fun i => g i * Ideal.ofBits .f32 0x40000000#32 * max (a i) 0

theorem idx_val : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The result array: the product's gradient through the squared positive part. -/
theorem final (c : Dev nD) : (dats m 0 c).arrAt 3 (cfgs 0).N = slope (Products.timesT (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp; rw [after0_3]; frame_out
  pointwise [k0_pay1, Products.timesT, slope]
  blk_point [iblk, V, idx_val t]

end Cert.MlpDownDxIdeal.Result

end
-- ==== Proof.MlpDownDxAgrees.lean ====
/- The call and its reference end with the same results: MlpDownDx. -/
module

public import proofs.«01_k».proof.Defs
public import proofs.«01_k».proof.Proof.Gen.MlpDownDxRefIdeal
public import proofs.«01_k».proof.Proof.Gen.MlpDownDxRefIdeal.Run
public import proofs.«01_k».proof.Proof.Gen.MlpDownDxIdeal
public import proofs.«01_k».proof.Proof.MlpDownDx
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.MlpDownDxIdeal.Result

/-- A gradient times the positive part is zero where the argument is not positive. -/
theorem positive_only (s k a : EReal) : (if 0 < a then s * (k * max a 0) else 0) = s * k * max a 0 := by
  split
  · rw [mul_assoc]
  · rename_i h
    rw [max_eq_right (not_lt.mp h), mul_zero]

theorem agree : algebraic_MlpDownDxIdeal_MlpDownDxRefIdeal (hMlpDownDxIdeal := MlpDownDxIdeal.Gen.facts) (hMlpDownDxRefIdeal := MlpDownDxRefIdeal.Gen.facts) := by
  intro m g m' g' hpre hagree
  refine ⟨fun c => slope (Products.timesT (m (c.tc.loc MlpDownDxIdeal.main_arg0)) (m (c.tc.loc MlpDownDxIdeal.main_arg1))) (m (c.tc.loc MlpDownDxIdeal.main_arg2)), ?_, ?_⟩
  · run_from MlpDownDxIdeal.Gen.run_main m g
    · exact final m c
  · run_from MlpDownDxRefIdeal.Value.run m' g'
    · funext i
      pointwise [slope, Products.timesT]
      exact positive_only _ _ _

theorem quiet : quiescent_MlpDownDxRefIdeal (hMlpDownDxRefIdeal := MlpDownDxRefIdeal.Gen.facts) := by
  intro m ρ _
  exact (θ_run _ _ _).mono (fun _ h => ⟨fun c => (h c).2, sem_eq_zero_of_no_sems (by decide) _⟩) (MlpDownDxRefIdeal.Value.run m ρ)

end Cert.MlpDownDxIdeal.Result

end
-- ==== Proof.MlpDownDw.lean ====
/- The gradient at the channel mixer's second weight. -/
module

public import proofs.«01_k».proof.Proof.Products
public import proofs.«01_k».proof.Proof.Gen.MlpDownDwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpDownDwIdeal.Result

open Cert.MlpDownDwIdeal Cert.MlpDownDwIdeal.Gen

variable (m : (ℓ : Loc nD τ sig) → Buf (Elt Ideal) ℓ)

theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The part of the product that one grid point adds: its 2048 rows. -/
def part (c : Dev nD) (t : Fin cfg0.N) : Vec Ideal S1024x1024 .f32 :=
  Products.tTimes (iblk m c 0 t : Vec Ideal S2048x1024 .f32) (iblk m c 1 t : Vec Ideal S2048x1024 .f32)

theorem first (c : Dev nD) (t : Fin cfg0.N) (h : t.val % 2 = 0) (y : S1024x1024.Idx) :
    (outsAt0 m c t.val t.isLt).2 y = 0 + part m c t y := by
  rw [outsAt0_A m c t h (by omega)]; dsimp only; frame_out
  pointwise [k0_pay1, k0_pay2, part, Products.tTimes]

theorem later (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega)]; dsimp only; frame_out
  pointwise [k0_pay2, part, Products.tTimes]
  exact congrArg (· + _) (congrFun (Memref.IsWhole.read_unread _ _) y)

/-- At the last point of a run the result block is the accumulated block. -/
theorem stored (c : Dev nD) (t : Fin cfg0.N) (h : t.val % 2 = 1) :
    (outsAt0 m c t.val t.isLt).1 = (outsAt0 m c t.val t.isLt).2 := by
  rw [outsAt0_B m c t (by omega) h]; dsimp only; frame_out

/-- The result array: the first argument's transpose times the second. -/
theorem final (c : Dev nD) : (dats m 0 c).arrAt 2 (cfgs 0).N = Products.tTimes (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 2 (fun _ => 0) (part m c)
      (first m c) (later m c) t ((flush0_2 t).mp hf), zero_add]
  unfold part; simp only [Products.tTimes]
  refine Fin.sum_mul_add_congr fun s l hl => ?_
  blk_point [iblk, V, idx_val t, idx_val ⟨_, Pipeline.run_point_lt_of_flush t ((flush0_2 t).mp hf) s⟩]

end Cert.MlpDownDwIdeal.Result

end
-- ==== Proof.MlpDownDwAgrees.lean ====
/- The call and its reference end with the same results: MlpDownDw. -/
module

public import proofs.«01_k».proof.Defs
public import proofs.«01_k».proof.Proof.Gen.MlpDownDwRefIdeal
public import proofs.«01_k».proof.Proof.Gen.MlpDownDwRefIdeal.Run
public import proofs.«01_k».proof.Proof.Gen.MlpDownDwIdeal
public import proofs.«01_k».proof.Proof.MlpDownDw
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.MlpDownDwIdeal.Result

theorem agree : algebraic_MlpDownDwIdeal_MlpDownDwRefIdeal (hMlpDownDwIdeal := MlpDownDwIdeal.Gen.facts) (hMlpDownDwRefIdeal := MlpDownDwRefIdeal.Gen.facts) := by
  intro m g m' g' hpre hagree
  refine ⟨fun c => Products.tTimes (m (c.tc.loc MlpDownDwIdeal.main_arg0)) (m (c.tc.loc MlpDownDwIdeal.main_arg1)), ?_, ?_⟩
  · run_from MlpDownDwIdeal.Gen.run_main m g
    · exact final m c
  · run_from MlpDownDwRefIdeal.Value.run m' g'
    · funext i
      pointwise [Products.tTimes]
      try exact Finset.sum_congr rfl fun _ _ => mul_comm _ _

theorem quiet : quiescent_MlpDownDwRefIdeal (hMlpDownDwRefIdeal := MlpDownDwRefIdeal.Gen.facts) := by
  intro m ρ _
  exact (θ_run _ _ _).mono (fun _ h => ⟨fun c => (h c).2, sem_eq_zero_of_no_sems (by decide) _⟩) (MlpDownDwRefIdeal.Value.run m ρ)

end Cert.MlpDownDwIdeal.Result

end
-- ==== Proof.MlpUpDx.lean ====
/- The gradient at the channel mixer's input. -/
module

public import proofs.«01_k».proof.Proof.Products
public import proofs.«01_k».proof.Proof.Gen.MlpUpDxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpUpDxIdeal.Result

open Cert.MlpUpDxIdeal Cert.MlpUpDxIdeal.Gen

variable (m : (ℓ : Loc nD τ sig) → Buf (Elt Ideal) ℓ)

theorem idx_val : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The quarters of the columns put side by side. -/
def columns (w : (⟨3, ![4, 1024, 1024]⟩ : Shape).Idx → EReal) : Products.Mat 1024 4096 :=
  fun i => w (ix3 ⟨(i 1).val / 1024, by idx_bounds i; omega⟩ (i 0) ⟨(i 1).val % 1024, by omega⟩)

/-- The one quarter of a block as a matrix. -/
def quarter (w : Vec Ideal S1x1024x1024 .f32) : Products.Mat 1024 1024 :=
  fun i => w (ix3 0 (i 0) (i 1))

/-- The part of the product that one grid point adds: its 1024 columns. -/
def part (c : Dev nD) (t : Fin cfg0.N) : Vec Ideal S1024x1024 .f32 :=
  Products.timesT (iblk m c 0 t : Vec Ideal S1024x1024 .f32) (quarter (iblk m c 1 t))

theorem first (c : Dev nD) (t : Fin cfg0.N) (h : t.val % 4 = 0) (y : S1024x1024.Idx) :
    (outsAt0 m c t.val t.isLt).2 y = 0 + part m c t y := by
  rw [outsAt0_A m c t h (by omega)]; dsimp only; frame_out
  pointwise [k0_pay1, k0_pay2, part, quarter, Products.timesT]

theorem later (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + part m c t y := by
  by_cases h1 : t.val % 4 = 3
  · rw [outsAt0_C m c t h h1]; dsimp only; frame_out
    pointwise [k0_pay2, part, quarter, Products.timesT]
    exact congrArg (· + _) (congrFun (Memref.IsWhole.read_unread _ _) y)
  · rw [outsAt0_B m c t h h1]; dsimp only; frame_out
    pointwise [k0_pay2, part, quarter, Products.timesT]
    exact congrArg (· + _) (congrFun (Memref.IsWhole.read_unread _ _) y)

/-- At the last point of a run the result block is the accumulated block. -/
theorem stored (c : Dev nD) (t : Fin cfg0.N) (h : t.val % 4 = 3) :
    (outsAt0 m c t.val t.isLt).1 = (outsAt0 m c t.val t.isLt).2 := by
  rw [outsAt0_C m c t (by omega) h]; dsimp only; frame_out

/-- The result array: the first argument times the transpose of the weight. -/
theorem final (c : Dev nD) : (dats m 0 c).arrAt 2 (cfgs 0).N = Products.timesT (m ((c : Thread nD τ).loc main_arg0)) (columns (m ((c : Thread nD τ).loc main_arg1))) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) (part m c)
      (first m c) (later m c) t ((flush0_2 t).mp hf), zero_add]
  unfold part; simp only [Products.timesT, quarter, columns]
  refine Fin.sum_mul_add_congr fun s l hl => ?_
  blk_point [iblk, V, idx_val t, idx_val ⟨_, Pipeline.run_point_lt_of_flush t ((flush0_2 t).mp hf) s⟩]

end Cert.MlpUpDxIdeal.Result

end
-- ==== Proof.MlpUpDxAgrees.lean ====
/- The call and its reference end with the same results: MlpUpDx. -/
module

public import proofs.«01_k».proof.Defs
public import proofs.«01_k».proof.Proof.Gen.MlpUpDxRefIdeal
public import proofs.«01_k».proof.Proof.Gen.MlpUpDxRefIdeal.Run
public import proofs.«01_k».proof.Proof.Gen.MlpUpDxIdeal
public import proofs.«01_k».proof.Proof.MlpUpDx
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.MlpUpDxIdeal.Result

theorem agree : algebraic_MlpUpDxIdeal_MlpUpDxRefIdeal (hMlpUpDxIdeal := MlpUpDxIdeal.Gen.facts) (hMlpUpDxRefIdeal := MlpUpDxRefIdeal.Gen.facts) := by
  intro m g m' g' hpre hagree
  refine ⟨fun c => Products.timesT (m (c.tc.loc MlpUpDxIdeal.main_arg0)) (columns (m (c.tc.loc MlpUpDxIdeal.main_arg1))), ?_, ?_⟩
  · run_from MlpUpDxIdeal.Gen.run_main m g
    · exact final m c
  · run_from MlpUpDxRefIdeal.Value.run m' g'
    · funext i
      pointwise [Products.timesT, columns]

theorem quiet : quiescent_MlpUpDxRefIdeal (hMlpUpDxRefIdeal := MlpUpDxRefIdeal.Gen.facts) := by
  intro m ρ _
  exact (θ_run _ _ _).mono (fun _ h => ⟨fun c => (h c).2, sem_eq_zero_of_no_sems (by decide) _⟩) (MlpUpDxRefIdeal.Value.run m ρ)

end Cert.MlpUpDxIdeal.Result

end
-- ==== Proof.MlpUpDw.lean ====
/- The gradient at the channel mixer's first weight, in four quarters of its columns. -/
module

public import proofs.«01_k».proof.Proof.Products
public import proofs.«01_k».proof.Proof.Gen.MlpUpDwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpUpDwIdeal.Result

open Cert.MlpUpDwIdeal Cert.MlpUpDwIdeal.Gen

variable (m : (ℓ : Loc nD τ sig) → Buf (Elt Ideal) ℓ)
theorem idx_val : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The part of the product that one grid point adds: its 2048 rows. -/
def part (c : Dev nD) (t : Fin cfg0.N) : Vec Ideal S1024x1024 .f32 :=
  Products.tTimes (iblk m c 0 t : Vec Ideal S2048x1024 .f32) (iblk m c 1 t : Vec Ideal S2048x1024 .f32)

theorem first (c : Dev nD) (t : Fin cfg0.N) (h : t.val % 2 = 0) (y : S1024x1024.Idx) :
    (outsAt0 m c t.val t.isLt).2 y = 0 + part m c t y := by
  rw [outsAt0_A m c t h (by omega)]; dsimp only; frame_out
  pointwise [k0_pay1, k0_pay2, part, Products.tTimes]

theorem later (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega)]; dsimp only; frame_out
  pointwise [k0_pay2, part, Products.tTimes]
  exact congrArg (· + _) (congrFun (Memref.IsWhole.read_unread _ _) y)

/-- At the last point of a run the result block is the accumulated block. -/
theorem stored (c : Dev nD) (t : Fin cfg0.N) (h : t.val % 2 = 1) (y : S1x1024x1024.Idx) :
    (outsAt0 m c t.val t.isLt).1 y = (outsAt0 m c t.val t.isLt).2 (ix2 (y 1) (y 2)) := by
  rw [outsAt0_B m c t (by omega) h]; dsimp only; frame_out
  pointwise [k0_pay3]

/-- The four quarters of the columns of the first argument's transpose times the second. -/
def quarters (x : Products.Mat 4096 1024) (g : Products.Mat 4096 4096) : (⟨3, ![4, 1024, 1024]⟩ : Shape).Idx → EReal :=
  fun i => ∑ l : Fin 4096, x (ix2 l (i 1)) * g (ix2 l ⟨(i 0).val * 1024 + (i 2).val, by idx_bounds i; omega⟩)

theorem part_apply (c : Dev nD) (t : Fin cfg0.N) (a b : Fin 1024) : part m c t (ix2 a b)
    = ∑ l : Fin 2048, HMul.hMul (α := EReal) (β := EReal) (iblk m c 0 t (ix2 l a)) (iblk m c 1 t (ix2 l b)) := rfl

/-- The result array: the quarters of that product. -/
theorem final (c : Dev nD) : (dats m 0 c).arrAt 2 (cfgs 0).N = quarters (m ((c : Thread nD τ).loc main_arg0)) (m ((c : Thread nD τ).loc main_arg1)) := by
  refine (dats m 0 c).arrAt_eq_of_covers 2 _ (by decide +kernel) fun t hf y => ?_
  blk_simp
  rw [after0_2]
  refine (stored m c t ((flush0_2 t).mp hf) y).trans ?_
  rw [Pipeline.eq_sum_fin_of_reset_step_apply_of_flush (fun n h => (outsAt0 m c n h).2) 2 (fun _ => 0) (part m c)
      (first m c) (later m c) t ((flush0_2 t).mp hf), zero_add]
  refine (Finset.sum_congr rfl fun s _ => part_apply m c _ (y 1) (y 2)).trans ?_
  unfold quarters
  refine Fin.sum_mul_add_congr fun s l hl => ?_
  blk_point [iblk, V, idx_val t, idx_val ⟨_, Pipeline.run_point_lt_of_flush t ((flush0_2 t).mp hf) s⟩]

end Cert.MlpUpDwIdeal.Result

end
-- ==== Proof.MlpUpDwAgrees.lean ====
/- The call and its reference end with the same results: MlpUpDw. -/
module

public import proofs.«01_k».proof.Defs
public import proofs.«01_k».proof.Proof.Gen.MlpUpDwRefIdeal
public import proofs.«01_k».proof.Proof.Gen.MlpUpDwRefIdeal.Run
public import proofs.«01_k».proof.Proof.Gen.MlpUpDwIdeal
public import proofs.«01_k».proof.Proof.MlpUpDw
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.MlpUpDwIdeal.Result

theorem agree : algebraic_MlpUpDwIdeal_MlpUpDwRefIdeal (hMlpUpDwIdeal := MlpUpDwIdeal.Gen.facts) (hMlpUpDwRefIdeal := MlpUpDwRefIdeal.Gen.facts) := by
  intro m g m' g' hpre hagree
  refine ⟨fun c => quarters (m (c.tc.loc MlpUpDwIdeal.main_arg0)) (m (c.tc.loc MlpUpDwIdeal.main_arg1)), ?_, ?_⟩
  · run_from MlpUpDwIdeal.Gen.run_main m g
    · exact final m c
  · run_from MlpUpDwRefIdeal.Value.run m' g'
    · funext i
      pointwise [quarters]
      exact Finset.sum_congr rfl fun _ _ => mul_comm _ _

theorem quiet : quiescent_MlpUpDwRefIdeal (hMlpUpDwRefIdeal := MlpUpDwRefIdeal.Gen.facts) := by
  intro m ρ _
  exact (θ_run _ _ _).mono (fun _ h => ⟨fun c => (h c).2, sem_eq_zero_of_no_sems (by decide) _⟩) (MlpUpDwRefIdeal.Value.run m ρ)

end Cert.MlpUpDwIdeal.Result

end
-- ==== Proof.WOutDx.lean ====
/- The gradient at the input of the mixer's output projection. -/
module

public import proofs.«01_k».proof.Proof.Products
public import proofs.«01_k».proof.Proof.Gen.WOutDxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.WOutDxIdeal.Result

open Cert.WOutDxIdeal Cert.WOutDxIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

/-- The result array: the product of the two arguments. -/
theorem final (c : Dev nD) : (dats m 0 c).arrAt 2 (cfgs 0).N = Products.timesT (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Products.timesT]
  blk_point [iblk, V, idx_val t]

end Cert.WOutDxIdeal.Result

end
-- ==== Proof.WOutDxAgrees.lean ====
/- The call and its reference end with the same results: WOutDx. -/
module

public import proofs.«01_k».proof.Defs
public import proofs.«01_k».proof.Proof.Gen.WOutDxRefIdeal
public import proofs.«01_k».proof.Proof.Gen.WOutDxRefIdeal.Run
public import proofs.«01_k».proof.Proof.Gen.WOutDxIdeal
public import proofs.«01_k».proof.Proof.WOutDx
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.WOutDxIdeal.Result

theorem agree : algebraic_WOutDxIdeal_WOutDxRefIdeal (hWOutDxIdeal := WOutDxIdeal.Gen.facts) (hWOutDxRefIdeal := WOutDxRefIdeal.Gen.facts) := by
  intro m g m' g' hpre hagree
  refine ⟨fun c => Products.timesT (m (c.tc.loc WOutDxIdeal.main_arg0)) (m (c.tc.loc WOutDxIdeal.main_arg1)), ?_, ?_⟩
  · run_from WOutDxIdeal.Gen.run_main m g
    · exact final m c
  · run_from WOutDxRefIdeal.Value.run m' g'
    · funext i
      pointwise [Products.timesT]

theorem quiet : quiescent_WOutDxRefIdeal (hWOutDxRefIdeal := WOutDxRefIdeal.Gen.facts) := by
  intro m ρ _
  exact (θ_run _ _ _).mono (fun _ h => ⟨fun c => (h c).2, sem_eq_zero_of_no_sems (by decide) _⟩) (WOutDxRefIdeal.Value.run m ρ)

end Cert.WOutDxIdeal.Result

end
-- ==== Proof.WOutDw.lean ====
/- The gradient at the mixer's output projection. -/
module

public import proofs.«01_k».proof.Proof.Products
public import proofs.«01_k».proof.Proof.Gen.WOutDwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.WOutDwIdeal.Result

open Cert.WOutDwIdeal Cert.WOutDwIdeal.Gen

variable (m : (ℓ : Loc nD τ sig) → Buf (Elt Ideal) ℓ)

theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The part of the product that one grid point adds: its 2048 rows. -/
def part (c : Dev nD) (t : Fin cfg0.N) : Vec Ideal S1024x1024 .f32 :=
  Products.tTimes (iblk m c 0 t : Vec Ideal S2048x1024 .f32) (iblk m c 1 t : Vec Ideal S2048x1024 .f32)

theorem first (c : Dev nD) (t : Fin cfg0.N) (h : t.val % 2 = 0) (y : S1024x1024.Idx) :
    (outsAt0 m c t.val t.isLt).2 y = 0 + part m c t y := by
  rw [outsAt0_A m c t h (by omega)]; dsimp only; frame_out
  pointwise [k0_pay1, k0_pay2, part, Products.tTimes]

theorem later (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega)]; dsimp only; frame_out
  pointwise [k0_pay2, part, Products.tTimes]
  exact congrArg (· + _) (congrFun (Memref.IsWhole.read_unread _ _) y)

/-- At the last point of a run the result block is the accumulated block. -/
theorem stored (c : Dev nD) (t : Fin cfg0.N) (h : t.val % 2 = 1) :
    (outsAt0 m c t.val t.isLt).1 = (outsAt0 m c t.val t.isLt).2 := by
  rw [outsAt0_B m c t (by omega) h]; dsimp only; frame_out

/-- The result array: the first argument's transpose times the second. -/
theorem final (c : Dev nD) : (dats m 0 c).arrAt 2 (cfgs 0).N = Products.tTimes (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 2 (fun _ => 0) (part m c)
      (first m c) (later m c) t ((flush0_2 t).mp hf), zero_add]
  unfold part; simp only [Products.tTimes]
  refine Fin.sum_mul_add_congr fun s l hl => ?_
  blk_point [iblk, V, idx_val t, idx_val ⟨_, Pipeline.run_point_lt_of_flush t ((flush0_2 t).mp hf) s⟩]

end Cert.WOutDwIdeal.Result

end
-- ==== Proof.WOutDwAgrees.lean ====
/- The call and its reference end with the same results: WOutDw. -/
module

public import proofs.«01_k».proof.Defs
public import proofs.«01_k».proof.Proof.Gen.WOutDwRefIdeal
public import proofs.«01_k».proof.Proof.Gen.WOutDwRefIdeal.Run
public import proofs.«01_k».proof.Proof.Gen.WOutDwIdeal
public import proofs.«01_k».proof.Proof.WOutDw
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.WOutDwIdeal.Result

theorem agree : algebraic_WOutDwIdeal_WOutDwRefIdeal (hWOutDwIdeal := WOutDwIdeal.Gen.facts) (hWOutDwRefIdeal := WOutDwRefIdeal.Gen.facts) := by
  intro m g m' g' hpre hagree
  refine ⟨fun c => Products.tTimes (m (c.tc.loc WOutDwIdeal.main_arg0)) (m (c.tc.loc WOutDwIdeal.main_arg1)), ?_, ?_⟩
  · run_from WOutDwIdeal.Gen.run_main m g
    · exact final m c
  · run_from WOutDwRefIdeal.Value.run m' g'
    · funext i
      pointwise [Products.tTimes]
      try exact Finset.sum_congr rfl fun _ _ => mul_comm _ _

theorem quiet : quiescent_WOutDwRefIdeal (hWOutDwRefIdeal := WOutDwRefIdeal.Gen.facts) := by
  intro m ρ _
  exact (θ_run _ _ _).mono (fun _ h => ⟨fun c => (h c).2, sem_eq_zero_of_no_sems (by decide) _⟩) (WOutDwRefIdeal.Value.run m ρ)

end Cert.WOutDwIdeal.Result

end
-- ==== Proof.SsmUp.lean ====
/- The projection of the first branch. -/
module

public import proofs.«01_k».proof.Proof.Products
public import proofs.«01_k».proof.Proof.Gen.SsmUpIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SsmUpIdeal.Result

open Cert.SsmUpIdeal Cert.SsmUpIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

/-- The result array: the product of the two arguments. -/
theorem final (c : Dev nD) : (dats m 0 c).arrAt 2 (cfgs 0).N = Products.times (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Products.times]
  blk_point [iblk, V, idx_val t]

end Cert.SsmUpIdeal.Result

end
-- ==== Proof.SsmUpAgrees.lean ====
/- The call and its reference end with the same results: SsmUp. -/
module

public import proofs.«01_k».proof.Defs
public import proofs.«01_k».proof.Proof.Gen.SsmUpRefIdeal
public import proofs.«01_k».proof.Proof.Gen.SsmUpRefIdeal.Run
public import proofs.«01_k».proof.Proof.Gen.SsmUpIdeal
public import proofs.«01_k».proof.Proof.SsmUp
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.SsmUpIdeal.Result

theorem agree : algebraic_SsmUpIdeal_SsmUpRefIdeal (hSsmUpIdeal := SsmUpIdeal.Gen.facts) (hSsmUpRefIdeal := SsmUpRefIdeal.Gen.facts) := by
  intro m g m' g' hpre hagree
  refine ⟨fun c => Products.times (m (c.tc.loc SsmUpIdeal.main_arg0)) (m (c.tc.loc SsmUpIdeal.main_arg1)), ?_, ?_⟩
  · run_from SsmUpIdeal.Gen.run_main m g
    · exact final m c
  · run_from SsmUpRefIdeal.Value.run m' g'
    · funext i
      pointwise [Products.times]

theorem quiet : quiescent_SsmUpRefIdeal (hSsmUpRefIdeal := SsmUpRefIdeal.Gen.facts) := by
  intro m ρ _
  exact (θ_run _ _ _).mono (fun _ h => ⟨fun c => (h c).2, sem_eq_zero_of_no_sems (by decide) _⟩) (SsmUpRefIdeal.Value.run m ρ)

end Cert.SsmUpIdeal.Result

end
-- ==== Proof.GdnUp.lean ====
/- The projection of the second branch. -/
module

public import proofs.«01_k».proof.Proof.Products
public import proofs.«01_k».proof.Proof.Gen.GdnUpIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.GdnUpIdeal.Result

open Cert.GdnUpIdeal Cert.GdnUpIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

/-- The result array: the product of the two arguments. -/
theorem final (c : Dev nD) : (dats m 0 c).arrAt 2 (cfgs 0).N = Products.times (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Products.times]
  blk_point [iblk, V, idx_val t]

end Cert.GdnUpIdeal.Result

end
-- ==== Proof.GdnUpAgrees.lean ====
/- The call and its reference end with the same results: GdnUp. -/
module

public import proofs.«01_k».proof.Defs
public import proofs.«01_k».proof.Proof.Gen.GdnUpRefIdeal
public import proofs.«01_k».proof.Proof.Gen.GdnUpRefIdeal.Run
public import proofs.«01_k».proof.Proof.Gen.GdnUpIdeal
public import proofs.«01_k».proof.Proof.GdnUp
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.GdnUpIdeal.Result

theorem agree : algebraic_GdnUpIdeal_GdnUpRefIdeal (hGdnUpIdeal := GdnUpIdeal.Gen.facts) (hGdnUpRefIdeal := GdnUpRefIdeal.Gen.facts) := by
  intro m g m' g' hpre hagree
  refine ⟨fun c => Products.times (m (c.tc.loc GdnUpIdeal.main_arg0)) (m (c.tc.loc GdnUpIdeal.main_arg1)), ?_, ?_⟩
  · run_from GdnUpIdeal.Gen.run_main m g
    · exact final m c
  · run_from GdnUpRefIdeal.Value.run m' g'
    · funext i
      pointwise [Products.times]

theorem quiet : quiescent_GdnUpRefIdeal (hGdnUpRefIdeal := GdnUpRefIdeal.Gen.facts) := by
  intro m ρ _
  exact (θ_run _ _ _).mono (fun _ h => ⟨fun c => (h c).2, sem_eq_zero_of_no_sems (by decide) _⟩) (GdnUpRefIdeal.Value.run m ρ)

end Cert.GdnUpIdeal.Result

end
-- ==== Proof.SsmUpDx.lean ====
/- The gradient at the input of the first branch's projection. -/
module

public import proofs.«01_k».proof.Proof.Products
public import proofs.«01_k».proof.Proof.Gen.SsmUpDxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SsmUpDxIdeal.Result

open Cert.SsmUpDxIdeal Cert.SsmUpDxIdeal.Gen

variable (m : (ℓ : Loc nD τ sig) → Buf (Elt Ideal) ℓ)

theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array: the product of the two arguments. -/
theorem final (c : Dev nD) : (dats m 0 c).arrAt 2 (cfgs 0).N = Products.timesT (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Products.timesT]
  blk_point [iblk, V, idx_val t]

end Cert.SsmUpDxIdeal.Result

end
-- ==== Proof.SsmUpDxAgrees.lean ====
/- The call and its reference end with the same results: SsmUpDx. -/
module

public import proofs.«01_k».proof.Defs
public import proofs.«01_k».proof.Proof.Gen.SsmUpDxRefIdeal
public import proofs.«01_k».proof.Proof.Gen.SsmUpDxRefIdeal.Run
public import proofs.«01_k».proof.Proof.Gen.SsmUpDxIdeal
public import proofs.«01_k».proof.Proof.SsmUpDx
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.SsmUpDxIdeal.Result

theorem agree : algebraic_SsmUpDxIdeal_SsmUpDxRefIdeal (hSsmUpDxIdeal := SsmUpDxIdeal.Gen.facts) (hSsmUpDxRefIdeal := SsmUpDxRefIdeal.Gen.facts) := by
  intro m g m' g' hpre hagree
  refine ⟨fun c => Products.timesT (m (c.tc.loc SsmUpDxIdeal.main_arg0)) (m (c.tc.loc SsmUpDxIdeal.main_arg1)), ?_, ?_⟩
  · run_from SsmUpDxIdeal.Gen.run_main m g
    · exact final m c
  · run_from SsmUpDxRefIdeal.Value.run m' g'
    · funext i
      pointwise [Products.timesT]

theorem quiet : quiescent_SsmUpDxRefIdeal (hSsmUpDxRefIdeal := SsmUpDxRefIdeal.Gen.facts) := by
  intro m ρ _
  exact (θ_run _ _ _).mono (fun _ h => ⟨fun c => (h c).2, sem_eq_zero_of_no_sems (by decide) _⟩) (SsmUpDxRefIdeal.Value.run m ρ)

end Cert.SsmUpDxIdeal.Result

end
-- ==== Proof.GdnUpDx.lean ====
/- The gradient at the input of the second branch's projection. -/
module

public import proofs.«01_k».proof.Proof.Products
public import proofs.«01_k».proof.Proof.Gen.GdnUpDxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.GdnUpDxIdeal.Result

open Cert.GdnUpDxIdeal Cert.GdnUpDxIdeal.Gen

variable (m : (ℓ : Loc nD τ sig) → Buf (Elt Ideal) ℓ)

theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array: the product of the two arguments. -/
theorem final (c : Dev nD) : (dats m 0 c).arrAt 2 (cfgs 0).N = Products.timesT (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Products.timesT]
  blk_point [iblk, V, idx_val t]

end Cert.GdnUpDxIdeal.Result

end
-- ==== Proof.GdnUpDxAgrees.lean ====
/- The call and its reference end with the same results: GdnUpDx. -/
module

public import proofs.«01_k».proof.Defs
public import proofs.«01_k».proof.Proof.Gen.GdnUpDxRefIdeal
public import proofs.«01_k».proof.Proof.Gen.GdnUpDxRefIdeal.Run
public import proofs.«01_k».proof.Proof.Gen.GdnUpDxIdeal
public import proofs.«01_k».proof.Proof.GdnUpDx
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.GdnUpDxIdeal.Result

theorem agree : algebraic_GdnUpDxIdeal_GdnUpDxRefIdeal (hGdnUpDxIdeal := GdnUpDxIdeal.Gen.facts) (hGdnUpDxRefIdeal := GdnUpDxRefIdeal.Gen.facts) := by
  intro m g m' g' hpre hagree
  refine ⟨fun c => Products.timesT (m (c.tc.loc GdnUpDxIdeal.main_arg0)) (m (c.tc.loc GdnUpDxIdeal.main_arg1)), ?_, ?_⟩
  · run_from GdnUpDxIdeal.Gen.run_main m g
    · exact final m c
  · run_from GdnUpDxRefIdeal.Value.run m' g'
    · funext i
      pointwise [Products.timesT]

theorem quiet : quiescent_GdnUpDxRefIdeal (hGdnUpDxRefIdeal := GdnUpDxRefIdeal.Gen.facts) := by
  intro m ρ _
  exact (θ_run _ _ _).mono (fun _ h => ⟨fun c => (h c).2, sem_eq_zero_of_no_sems (by decide) _⟩) (GdnUpDxRefIdeal.Value.run m ρ)

end Cert.GdnUpDxIdeal.Result

end
-- ==== Proof.GdnUpDw.lean ====
/- The gradient at the second branch's projection. -/
module

public import proofs.«01_k».proof.Proof.Products
public import proofs.«01_k».proof.Proof.Gen.GdnUpDwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.GdnUpDwIdeal.Result

open Cert.GdnUpDwIdeal Cert.GdnUpDwIdeal.Gen

variable (m : (ℓ : Loc nD τ sig) → Buf (Elt Ideal) ℓ)

theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The part of the product that one grid point adds: its 2048 rows. -/
def part (c : Dev nD) (t : Fin cfg0.N) : Vec Ideal S1024x1024 .f32 :=
  Products.tTimes (iblk m c 0 t : Vec Ideal S2048x1024 .f32) (iblk m c 1 t : Vec Ideal S2048x1024 .f32)

theorem first (c : Dev nD) (t : Fin cfg0.N) (h : t.val % 2 = 0) (y : S1024x1024.Idx) :
    (outsAt0 m c t.val t.isLt).2 y = 0 + part m c t y := by
  rw [outsAt0_A m c t h (by omega)]; dsimp only; frame_out
  pointwise [k0_pay1, k0_pay2, part, Products.tTimes]

theorem later (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega)]; dsimp only; frame_out
  pointwise [k0_pay2, part, Products.tTimes]
  exact congrArg (· + _) (congrFun (Memref.IsWhole.read_unread _ _) y)

/-- At the last point of a run the result block is the accumulated block. -/
theorem stored (c : Dev nD) (t : Fin cfg0.N) (h : t.val % 2 = 1) :
    (outsAt0 m c t.val t.isLt).1 = (outsAt0 m c t.val t.isLt).2 := by
  rw [outsAt0_B m c t (by omega) h]; dsimp only; frame_out

/-- The result array: the first argument's transpose times the second. -/
theorem final (c : Dev nD) : (dats m 0 c).arrAt 2 (cfgs 0).N = Products.tTimes (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 2 (fun _ => 0) (part m c)
      (first m c) (later m c) t ((flush0_2 t).mp hf), zero_add]
  unfold part; simp only [Products.tTimes]
  refine Fin.sum_mul_add_congr fun s l hl => ?_
  blk_point [iblk, V, idx_val t, idx_val ⟨_, Pipeline.run_point_lt_of_flush t ((flush0_2 t).mp hf) s⟩]

end Cert.GdnUpDwIdeal.Result

end
-- ==== Proof.GdnUpDwAgrees.lean ====
/- The call and its reference end with the same results: GdnUpDw. -/
module

public import proofs.«01_k».proof.Defs
public import proofs.«01_k».proof.Proof.Gen.GdnUpDwRefIdeal
public import proofs.«01_k».proof.Proof.Gen.GdnUpDwRefIdeal.Run
public import proofs.«01_k».proof.Proof.Gen.GdnUpDwIdeal
public import proofs.«01_k».proof.Proof.GdnUpDw
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.GdnUpDwIdeal.Result

theorem agree : algebraic_GdnUpDwIdeal_GdnUpDwRefIdeal (hGdnUpDwIdeal := GdnUpDwIdeal.Gen.facts) (hGdnUpDwRefIdeal := GdnUpDwRefIdeal.Gen.facts) := by
  intro m g m' g' hpre hagree
  refine ⟨fun c => Products.tTimes (m (c.tc.loc GdnUpDwIdeal.main_arg0)) (m (c.tc.loc GdnUpDwIdeal.main_arg1)), ?_, ?_⟩
  · run_from GdnUpDwIdeal.Gen.run_main m g
    · exact final m c
  · run_from GdnUpDwRefIdeal.Value.run m' g'
    · funext i
      pointwise [Products.tTimes]
      try exact Finset.sum_congr rfl fun _ _ => mul_comm _ _

theorem quiet : quiescent_GdnUpDwRefIdeal (hGdnUpDwRefIdeal := GdnUpDwRefIdeal.Gen.facts) := by
  intro m ρ _
  exact (θ_run _ _ _).mono (fun _ h => ⟨fun c => (h c).2, sem_eq_zero_of_no_sems (by decide) _⟩) (GdnUpDwRefIdeal.Value.run m ρ)

end Cert.GdnUpDwIdeal.Result

end
-- ==== Proof.InProj.lean ====
/- The input projection. -/
module

public import proofs.«01_k».proof.Proof.Products
public import proofs.«01_k».proof.Proof.Gen.InProjIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjIdeal.Result

open Cert.InProjIdeal Cert.InProjIdeal.Gen

variable (m : (ℓ : Loc nD τ sig) → Buf (Elt Ideal) ℓ)

theorem idx_val : ∀ t : Fin cfg0.N, win0_0.index t = ![t.val / 15, 0] ∧ win0_1.index t = ![0, t.val % 15] ∧ win0_2.index t = ![t.val / 15, t.val % 15] :=
  (by decide +kernel : ∀ t : Fin grid0.N, _)

/-- The result array: the product of the two arguments. -/
theorem final (c : Dev nD) : (dats m 0 c).arrAt 2 (cfgs 0).N = Products.times (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Products.times]
  blk_point [iblk, V, idx_val t]

end Cert.InProjIdeal.Result

end
-- ==== Proof.InProjAgrees.lean ====
/- The call and its reference end with the same results: InProj. -/
module

public import proofs.«01_k».proof.Defs
public import proofs.«01_k».proof.Proof.Gen.InProjRefIdeal
public import proofs.«01_k».proof.Proof.Gen.InProjRefIdeal.Run
public import proofs.«01_k».proof.Proof.Gen.InProjIdeal
public import proofs.«01_k».proof.Proof.InProj
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.InProjIdeal.Result

theorem agree : algebraic_InProjIdeal_InProjRefIdeal (hInProjIdeal := InProjIdeal.Gen.facts) (hInProjRefIdeal := InProjRefIdeal.Gen.facts) := by
  intro m g m' g' hpre hagree
  refine ⟨fun c => Products.times (m (c.tc.loc InProjIdeal.main_arg0)) (m (c.tc.loc InProjIdeal.main_arg1)), ?_, ?_⟩
  · run_from InProjIdeal.Gen.run_main m g
    · exact final m c
  · run_from InProjRefIdeal.Value.run m' g'
    · funext i
      pointwise [Products.times]

theorem quiet : quiescent_InProjRefIdeal (hInProjRefIdeal := InProjRefIdeal.Gen.facts) := by
  intro m ρ _
  exact (θ_run _ _ _).mono (fun _ h => ⟨fun c => (h c).2, sem_eq_zero_of_no_sems (by decide) _⟩) (InProjRefIdeal.Value.run m ρ)

end Cert.InProjIdeal.Result

end
-- ==== Proof.InProjDx.lean ====
/- The gradient at the input projection's input. -/
module

public import proofs.«01_k».proof.Proof.Products
public import proofs.«01_k».proof.Proof.Gen.InProjDxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjDxIdeal.Result

open Cert.InProjDxIdeal Cert.InProjDxIdeal.Gen

variable (m : (ℓ : Loc nD τ sig) → Buf (Elt Ideal) ℓ)

theorem idx_val : ∀ t : Fin cfg0.N, win0_0.index t = ![t.val / 8, t.val % 8] ∧ win0_1.index t = ![0, t.val % 8] ∧ win0_2.index t = ![t.val / 8, 0] :=
  (by decide +kernel : ∀ t : Fin grid0.N, _)

/-- The part of the product that one grid point adds: its 1920 columns. -/
def part (c : Dev nD) (t : Fin cfg0.N) : Vec Ideal S1024x1024 .f32 :=
  Products.timesT (iblk m c 0 t : Vec Ideal S1024x1920 .f32) (iblk m c 1 t : Vec Ideal S1024x1920 .f32)

theorem first (c : Dev nD) (t : Fin cfg0.N) (h : t.val % 8 = 0) (y : S1024x1024.Idx) :
    (outsAt0 m c t.val t.isLt).2 y = 0 + part m c t y := by
  rw [outsAt0_A m c t h (by omega)]; dsimp only; frame_out
  pointwise [k0_pay1, k0_pay2, part, Products.timesT]

theorem later (c : Dev nD) (t : Fin cfg0.N) (h : ¬t.val % 8 = 0) (y : S1024x1024.Idx) :
    (outsAt0 m c t.val t.isLt).2 y
      = (outsAt0 m c (t.val - 1) (Nat.lt_of_le_of_lt (Nat.sub_le _ _) t.isLt)).2 y + part m c t y := by
  by_cases h1 : t.val % 8 = 7
  · rw [outsAt0_C m c t h h1]; dsimp only; frame_out
    pointwise [k0_pay2, part, Products.timesT]
    exact congrArg (· + _) (congrFun (Memref.IsWhole.read_unread _ _) y)
  · rw [outsAt0_B m c t h h1]; dsimp only; frame_out
    pointwise [k0_pay2, part, Products.timesT]
    exact congrArg (· + _) (congrFun (Memref.IsWhole.read_unread _ _) y)

/-- At the last point of a run the result block is the accumulated block. -/
theorem stored (c : Dev nD) (t : Fin cfg0.N) (h : t.val % 8 = 7) :
    (outsAt0 m c t.val t.isLt).1 = (outsAt0 m c t.val t.isLt).2 := by
  rw [outsAt0_C m c t (by omega) h]; dsimp only; frame_out

/-- The result array: the first argument times the transpose of the weight. -/
theorem final (c : Dev nD) : (dats m 0 c).arrAt 2 (cfgs 0).N = Products.timesT (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 8 (fun _ => 0) (part m c)
      (first m c) (later m c) t ((flush0_2 t).mp hf), zero_add]
  unfold part; simp only [Products.timesT]
  refine Fin.sum_mul_add_congr fun s l hl => ?_
  blk_point [iblk, V, idx_val t, idx_val ⟨_, Pipeline.run_point_lt_of_flush t ((flush0_2 t).mp hf) s⟩]

end Cert.InProjDxIdeal.Result

end
-- ==== Proof.InProjDxAgrees.lean ====
/- The call and its reference end with the same results: InProjDx. -/
module

public import proofs.«01_k».proof.Defs
public import proofs.«01_k».proof.Proof.Gen.InProjDxRefIdeal
public import proofs.«01_k».proof.Proof.Gen.InProjDxRefIdeal.Run
public import proofs.«01_k».proof.Proof.Gen.InProjDxIdeal
public import proofs.«01_k».proof.Proof.InProjDx
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.InProjDxIdeal.Result

theorem agree : algebraic_InProjDxIdeal_InProjDxRefIdeal (hInProjDxIdeal := InProjDxIdeal.Gen.facts) (hInProjDxRefIdeal := InProjDxRefIdeal.Gen.facts) := by
  intro m g m' g' hpre hagree
  refine ⟨fun c => Products.timesT (m (c.tc.loc InProjDxIdeal.main_arg0)) (m (c.tc.loc InProjDxIdeal.main_arg1)), ?_, ?_⟩
  · run_from InProjDxIdeal.Gen.run_main m g
    · exact final m c
  · run_from InProjDxRefIdeal.Value.run m' g'
    · funext i
      pointwise [Products.timesT]

theorem quiet : quiescent_InProjDxRefIdeal (hInProjDxRefIdeal := InProjDxRefIdeal.Gen.facts) := by
  intro m ρ _
  exact (θ_run _ _ _).mono (fun _ h => ⟨fun c => (h c).2, sem_eq_zero_of_no_sems (by decide) _⟩) (InProjDxRefIdeal.Value.run m ρ)

end Cert.InProjDxIdeal.Result

end
-- ==== Proof.InProjDw.lean ====
/- The gradient at the input projection's weight. -/
module

public import proofs.«01_k».proof.Proof.Products
public import proofs.«01_k».proof.Proof.Gen.InProjDwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjDwIdeal.Result

open Cert.InProjDwIdeal Cert.InProjDwIdeal.Gen

variable (m : (ℓ : Loc nD τ sig) → Buf (Elt Ideal) ℓ)

theorem idx_val : ∀ t : Fin cfg0.N, win0_0.index t = ![t.val % 2, 0] ∧ win0_1.index t = ![t.val % 2, t.val / 2] ∧ win0_2.index t = ![0, t.val / 2] :=
  (by decide +kernel : ∀ t : Fin grid0.N, _)

/-- The part of the product that one grid point adds: its 2048 rows. -/
def part (c : Dev nD) (t : Fin cfg0.N) : Vec Ideal S1024x1024 .f32 :=
  Products.tTimes (iblk m c 0 t : Vec Ideal S2048x1024 .f32) (iblk m c 1 t : Vec Ideal S2048x1024 .f32)

theorem first (c : Dev nD) (t : Fin cfg0.N) (h : t.val % 2 = 0) (y : S1024x1024.Idx) :
    (outsAt0 m c t.val t.isLt).2 y = 0 + part m c t y := by
  rw [outsAt0_A m c t h (by omega)]; dsimp only; frame_out
  pointwise [k0_pay1, k0_pay2, part, Products.tTimes]

theorem later (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega)]; dsimp only; frame_out
  pointwise [k0_pay2, part, Products.tTimes]
  exact congrArg (· + _) (congrFun (Memref.IsWhole.read_unread _ _) y)

/-- At the last point of a run the result block is the accumulated block. -/
theorem stored (c : Dev nD) (t : Fin cfg0.N) (h : t.val % 2 = 1) :
    (outsAt0 m c t.val t.isLt).1 = (outsAt0 m c t.val t.isLt).2 := by
  rw [outsAt0_B m c t (by omega) h]; dsimp only; frame_out

/-- The result array: the first argument's transpose times the second. -/
theorem final (c : Dev nD) : (dats m 0 c).arrAt 2 (cfgs 0).N = Products.tTimes (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 2 (fun _ => 0) (part m c)
      (first m c) (later m c) t ((flush0_2 t).mp hf), zero_add]
  unfold part; simp only [Products.tTimes]
  refine Fin.sum_mul_add_congr fun s l hl => ?_
  blk_point [iblk, V, idx_val t, idx_val ⟨_, Pipeline.run_point_lt_of_flush t ((flush0_2 t).mp hf) s⟩]

end Cert.InProjDwIdeal.Result

end
-- ==== Proof.InProjDwAgrees.lean ====
/- The call and its reference end with the same results: InProjDw. -/
module

public import proofs.«01_k».proof.Defs
public import proofs.«01_k».proof.Proof.Gen.InProjDwRefIdeal
public import proofs.«01_k».proof.Proof.Gen.InProjDwRefIdeal.Run
public import proofs.«01_k».proof.Proof.Gen.InProjDwIdeal
public import proofs.«01_k».proof.Proof.InProjDw
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.InProjDwIdeal.Result

theorem agree : algebraic_InProjDwIdeal_InProjDwRefIdeal (hInProjDwIdeal := InProjDwIdeal.Gen.facts) (hInProjDwRefIdeal := InProjDwRefIdeal.Gen.facts) := by
  intro m g m' g' hpre hagree
  refine ⟨fun c => Products.tTimes (m (c.tc.loc InProjDwIdeal.main_arg0)) (m (c.tc.loc InProjDwIdeal.main_arg1)), ?_, ?_⟩
  · run_from InProjDwIdeal.Gen.run_main m g
    · exact final m c
  · run_from InProjDwRefIdeal.Value.run m' g'
    · funext i
      pointwise [Products.tTimes]
      try exact Finset.sum_congr rfl fun _ _ => mul_comm _ _

theorem quiet : quiescent_InProjDwRefIdeal (hInProjDwRefIdeal := InProjDwRefIdeal.Gen.facts) := by
  intro m ρ _
  exact (θ_run _ _ _).mono (fun _ h => ⟨fun c => (h c).2, sem_eq_zero_of_no_sems (by decide) _⟩) (InProjDwRefIdeal.Value.run m ρ)

end Cert.InProjDwIdeal.Result

end
-- ==== Proof.SsmUpDw.lean ====
/- The gradient at the first branch's projection. -/
module

public import proofs.«01_k».proof.Proof.Products
public import proofs.«01_k».proof.Proof.Gen.SsmUpDwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SsmUpDwIdeal.Result

open Cert.SsmUpDwIdeal Cert.SsmUpDwIdeal.Gen

variable (m : (ℓ : Loc nD τ sig) → Buf (Elt Ideal) ℓ)

theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The part of the product that one grid point adds: its 2048 rows. -/
def part (c : Dev nD) (t : Fin cfg0.N) : Vec Ideal S1024x1024 .f32 :=
  Products.tTimes (iblk m c 0 t : Vec Ideal S2048x1024 .f32) (iblk m c 1 t : Vec Ideal S2048x1024 .f32)

theorem first (c : Dev nD) (t : Fin cfg0.N) (h : t.val % 2 = 0) (y : S1024x1024.Idx) :
    (outsAt0 m c t.val t.isLt).2 y = 0 + part m c t y := by
  rw [outsAt0_A m c t h (by omega)]; dsimp only; frame_out
  pointwise [k0_pay1, k0_pay2, part, Products.tTimes]

theorem later (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega)]; dsimp only; frame_out
  pointwise [k0_pay2, part, Products.tTimes]
  exact congrArg (· + _) (congrFun (Memref.IsWhole.read_unread _ _) y)

/-- At the last point of a run the result block is the accumulated block. -/
theorem stored (c : Dev nD) (t : Fin cfg0.N) (h : t.val % 2 = 1) :
    (outsAt0 m c t.val t.isLt).1 = (outsAt0 m c t.val t.isLt).2 := by
  rw [outsAt0_B m c t (by omega) h]; dsimp only; frame_out

/-- The result array: the first argument's transpose times the second. -/
theorem final (c : Dev nD) : (dats m 0 c).arrAt 2 (cfgs 0).N = Products.tTimes (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 2 (fun _ => 0) (part m c)
      (first m c) (later m c) t ((flush0_2 t).mp hf), zero_add]
  unfold part; simp only [Products.tTimes]
  refine Fin.sum_mul_add_congr fun s l hl => ?_
  blk_point [iblk, V, idx_val t, idx_val ⟨_, Pipeline.run_point_lt_of_flush t ((flush0_2 t).mp hf) s⟩]

end Cert.SsmUpDwIdeal.Result

end
-- ==== Proof.SsmUpDwAgrees.lean ====
/- The call and its reference end with the same results: SsmUpDw. -/
module

public import proofs.«01_k».proof.Defs
public import proofs.«01_k».proof.Proof.Gen.SsmUpDwRefIdeal
public import proofs.«01_k».proof.Proof.Gen.SsmUpDwRefIdeal.Run
public import proofs.«01_k».proof.Proof.Gen.SsmUpDwIdeal
public import proofs.«01_k».proof.Proof.SsmUpDw
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.SsmUpDwIdeal.Result

theorem agree : algebraic_SsmUpDwIdeal_SsmUpDwRefIdeal (hSsmUpDwIdeal := SsmUpDwIdeal.Gen.facts) (hSsmUpDwRefIdeal := SsmUpDwRefIdeal.Gen.facts) := by
  intro m g m' g' hpre hagree
  refine ⟨fun c => Products.tTimes (m (c.tc.loc SsmUpDwIdeal.main_arg0)) (m (c.tc.loc SsmUpDwIdeal.main_arg1)), ?_, ?_⟩
  · run_from SsmUpDwIdeal.Gen.run_main m g
    · exact final m c
  · run_from SsmUpDwRefIdeal.Value.run m' g'
    · funext i
      pointwise [Products.tTimes]
      try exact Finset.sum_congr rfl fun _ _ => mul_comm _ _

theorem quiet : quiescent_SsmUpDwRefIdeal (hSsmUpDwRefIdeal := SsmUpDwRefIdeal.Gen.facts) := by
  intro m ρ _
  exact (θ_run _ _ _).mono (fun _ h => ⟨fun c => (h c).2, sem_eq_zero_of_no_sems (by decide) _⟩) (SsmUpDwRefIdeal.Value.run m ρ)

end Cert.SsmUpDwIdeal.Result

end
-- ==== Proof.AdaBwd.lean ====
/- The gradient of the modulation's weight and bias. -/
module

public import proofs.«01_k».proof.Proof.Products
public import proofs.«01_k».proof.Proof.Gen.AdaBwdIdeal.Frame
public import Idealize.ShloMosaic.Lib.Pipeline.ValueKit
public import proofs.«01_k».proof.Proof.Gates

@[expose] public section

set_option maxRecDepth 16384

noncomputable section

open Idealize.ShloMosaic Idealize.ShloMosaic.TcCoe Idealize.SL.Sem
open Idealize.ShloMosaic.Pipeline (Dat)
open scoped BigOperators

namespace Cert.AdaBwdIdeal.Result

open Cert.AdaBwdIdeal Cert.AdaBwdIdeal.Gen

variable (m : (ℓ : Loc nD τ sig) → Buf (Elt Ideal) ℓ)

theorem idx_val : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The gradient of the modulation's weight: the activated conditioning times the cotangent. -/
def weight (x : FVec Ideal S8x1024 .f32) (d : FVec Ideal S8x1536 .f32) : FVec Ideal S1024x1536 .f32 :=
  fun i => ∑ k : Fin 8, x (ix2 k (i 0)) * Ideal.logistic (x (ix2 k (i 0))) * d (ix2 k (i 1))

/-- The gradient of the modulation's bias: the cotangent summed over the examples. -/
def bias (d : FVec Ideal S8x6144 .f32) : FVec Ideal S1x6144 .f32 := fun i => ∑ k : Fin 8, d (ix2 k (i 1))

theorem final_weight (c : Dev nD) : (dats m 0 c).arrAt 3 (cfgs 0).N = weight (m ((c : Thread nD τ).loc main_arg0)) (m ((c : Thread nD τ).loc main_arg1)) := by
  refine (dats m 0 c).arrAt_eq_of_covers 3 _ (by decide +kernel) fun t hf y => ?_
  blk_simp; rw [after0_3]; frame_out
  pointwise [k0_pay1, k0_pay2, weight]
  simp only [Gates.gate]
  blk_point [iblk, V, idx_val t]

theorem final_bias (c : Dev nD) : (dats m 0 c).arrAt 4 (cfgs 0).N = bias (m ((c : Thread nD τ).loc main_arg2)) := by
  refine (dats m 0 c).arrAt_eq_of_covers 4 _ (by decide +kernel) fun t hf y => ?_
  blk_simp; rw [after0_4]; frame_out
  pointwise [k0_pay1, k0_pay2, bias]
  blk_point [iblk, V, idx_val t]

end Cert.AdaBwdIdeal.Result

end
-- ==== Proof.AdaBwdAgrees.lean ====
/- The call and its reference end with the same results: AdaBwd. -/
module

public import proofs.«01_k».proof.Defs
public import proofs.«01_k».proof.Proof.Gen.AdaBwdRefIdeal
public import proofs.«01_k».proof.Proof.Gen.AdaBwdRefIdeal.Run
public import proofs.«01_k».proof.Proof.Gen.AdaBwdIdeal
public import proofs.«01_k».proof.Proof.AdaBwd
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.AdaBwdIdeal.Result

theorem agree : algebraic_AdaBwdIdeal_AdaBwdRefIdeal (hAdaBwdIdeal := AdaBwdIdeal.Gen.facts) (hAdaBwdRefIdeal := AdaBwdRefIdeal.Gen.facts) := by
  intro m g m' g' hpre hagree
  refine ⟨fun c => weight (m (c.tc.loc AdaBwdIdeal.main_arg0)) (m (c.tc.loc AdaBwdIdeal.main_arg1)), fun c => bias (m (c.tc.loc AdaBwdIdeal.main_arg2)), ?_, ?_⟩
  · run_from AdaBwdIdeal.Gen.run_main m g
    · exact final_weight m c
    · exact final_bias m c
  · refine θ_run_mono (AdaBwdRefIdeal.Value.run m' g') ?_
    intro r hr c
    refine ⟨(hr c).1.trans ?_, (hr c).2.1.trans ?_, (hr c).2.2⟩
    · rw [(hagree c).1, (hagree c).2.1]
      funext i
      pointwise [weight]
      refine Finset.sum_congr rfl fun k _ => ?_
      rw [mul_comm]
      rfl
    · rw [(hagree c).2.2]
      funext i
      pointwise [bias]

theorem quiet : quiescent_AdaBwdRefIdeal (hAdaBwdRefIdeal := AdaBwdRefIdeal.Gen.facts) := by
  intro m ρ _
  exact (θ_run _ _ _).mono (fun _ h => ⟨fun c => (h c).2.2, sem_eq_zero_of_no_sems (by decide) _⟩) (AdaBwdRefIdeal.Value.run m ρ)

end Cert.AdaBwdIdeal.Result

end
-- ==== Proof.Norms.lean ====
/- The gradient of a scaled and shifted row norm over the extended reals, index by index. -/
module

public import proofs.«01_k».proof.Proof.Products

@[expose] public section

noncomputable section

open Idealize.ShloMosaic
open scoped BigOperators

namespace Cert.Norms

/-- A matrix whose rows are the vectors that are normed. -/
abbrev Rows (n : Nat) : Type := (⟨2, ![n, 1024]⟩ : Shape).Idx → EReal

/-- A row's mean square, kept away from zero. -/
def spread {n : Nat} (x : Rows n) (r : Fin n) : EReal :=
  Ideal.div (∑ k : Fin 1024, x (ix2 r k) * x (ix2 r k)) (Ideal.ofBits .f32 0x44800000#32) + Ideal.ofBits .f32 0x358637BD#32

/-- The factor that norms a row. -/
def factor {n : Nat} (x : Rows n) (r : Fin n) : EReal := Ideal.rsqrt (spread x r)

/-- The factor's slope in the mean square. -/
def slope {n : Nat} (x : Rows n) (r : Fin n) : EReal :=
  Ideal.ofBits .f32 0xBF000000#32 * Ideal.div (factor x r) (spread x r)

/-- The cotangent before the scale. -/
def unscaled {n : Nat} (d : Rows n) (s : Rows 1) : Rows n :=
  fun i => d i * (Ideal.ofBits .f32 0x3F800000#32 + s (ix2 0 (i 1)))

/-- The cotangent at the normed row. -/
def atNormed {n : Nat} (d : Rows n) (w s : Rows 1) : Rows n := fun i => unscaled d s i * w (ix2 0 (i 1))

/-- The cotangent at a row's mean square, twice over the row the gradient through the factor. -/
def through {n : Nat} (x d : Rows n) (w s : Rows 1) (r : Fin n) : EReal :=
  Ideal.div ((∑ k : Fin 1024, x (ix2 r k) * atNormed d w s (ix2 r k)) * slope x r) (Ideal.ofBits .f32 0x44800000#32)

/-- The gradient at the rows. -/
def atRows {n : Nat} (x d : Rows n) (w s : Rows 1) : Rows n :=
  fun i => atNormed d w s i * factor x (i 0) + x i * through x d w s (i 0) + through x d w s (i 0) * x i

/-- What each row adds to the gradient at the norm's weight. -/
def weightPart {n : Nat} (x d : Rows n) (s : Rows 1) : Rows n := fun i => x i * factor x (i 0) * unscaled d s i

/-- What each row adds to the gradient at the scale. -/
def scalePart {n : Nat} (x d : Rows n) (w : Rows 1) : Rows n := fun i => x i * factor x (i 0) * w (ix2 0 (i 1)) * d i

/-- The sum of a matrix over its rows. -/
def down {n : Nat} (x : Rows n) : Rows 1 := fun i => ∑ k : Fin n, x (ix2 k (i 1))

/-- A matrix whose rows are normed and weighted. -/
def normed {n : Nat} (x : Rows n) (w : Rows 1) : Rows n := fun i => x i * factor x (i 0) * w (ix2 0 (i 1))

/-- A matrix whose rows are normed, weighted, scaled and shifted. -/
def modulated {n : Nat} (x : Rows n) (w s h : Rows 1) : Rows n :=
  fun i => normed x w i * (Ideal.ofBits .f32 0x3F800000#32 + s (ix2 0 (i 1))) + h (ix2 0 (i 1))

/-- A residual: the rows with the gated norm of others added. -/
def residual {n : Nat} (x u : Rows n) (w g : Rows 1) : Rows n := fun i => x i + g (ix2 0 (i 1)) * normed u w i

end Cert.Norms

end
-- ==== Proof.PremixBwd.lean ====
/- The gradient of the norm before the mixer. -/
module

public import proofs.«01_k».proof.Proof.Products
public import proofs.«01_k».proof.Proof.Gen.PremixBwdIdeal.Frame
public import Idealize.ShloMosaic.Lib.Pipeline.ValueKit
public import proofs.«01_k».proof.Proof.Norms

@[expose] public section

set_option maxRecDepth 16384

noncomputable section

open Idealize.ShloMosaic Idealize.ShloMosaic.TcCoe Idealize.SL.Sem
open Idealize.ShloMosaic.Pipeline (Dat)
open scoped BigOperators

namespace Cert.PremixBwdIdeal.Result

open Cert.PremixBwdIdeal Cert.PremixBwdIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![0, 0] ∧ win0_8.index t = ![0, 0] ∧ win0_9.index t = ![0, 0] :=
  (by decide +kernel : ∀ t : Fin grid0.N, _)

/-- The row of the whole array that a row of the block of point `t` is. -/
def row (t : Fin cfg0.N) (r : Fin 256) : Fin 4096 :=
  ⟨t.val * 256 + r.val, by have := t.isLt; have h : t.val < 16 := this; omega⟩

theorem rows0 (c : Dev nD) (t : Fin cfg0.N) (r : Fin 256) (k : Fin 1024) : (iblk m c 0 t : Vec Ideal S256x1024 .f32) (ix2 r k) = (m ((c : Thread nD τ).loc main_arg0)) (ix2 (row t r) k) := by
  blk_point [iblk, V, idx_val t, row]

theorem rows1 (c : Dev nD) (t : Fin cfg0.N) (r : Fin 256) (k : Fin 1024) : (iblk m c 1 t : Vec Ideal S256x1024 .f32) (ix2 r k) = (m ((c : Thread nD τ).loc main_arg1)) (ix2 (row t r) k) := by
  blk_point [iblk, V, idx_val t, row]

theorem rows2 (c : Dev nD) (t : Fin cfg0.N) (r : Fin 256) (k : Fin 1024) : (iblk m c 2 t : Vec Ideal S256x1024 .f32) (ix2 r k) = (m ((c : Thread nD τ).loc main_arg2)) (ix2 (row t r) k) := by
  blk_point [iblk, V, idx_val t, row]

theorem whole3 (c : Dev nD) (t : Fin cfg0.N) (k : Fin 1024) : (iblk m c 3 t : Vec Ideal S1x1024 .f32) (ix2 0 k) = (m ((c : Thread nD τ).loc main_arg3)) (ix2 0 k) := by
  blk_point [iblk, V, idx_val t]

theorem whole4 (c : Dev nD) (t : Fin cfg0.N) (k : Fin 1024) : (iblk m c 4 t : Vec Ideal S1x1024 .f32) (ix2 0 k) = (m ((c : Thread nD τ).loc main_arg4)) (ix2 0 k) := by
  blk_point [iblk, V, idx_val t]

theorem whole5 (c : Dev nD) (t : Fin cfg0.N) (k : Fin 1024) : (iblk m c 5 t : Vec Ideal S1x1024 .f32) (ix2 0 k) = (m ((c : Thread nD τ).loc main_arg5)) (ix2 0 k) := by
  blk_point [iblk, V, idx_val t]

/-- The part of the gradient at the norm's weight that one grid point adds: its 256 rows. -/
def part_weight (c : Dev nD) (t : Fin cfg0.N) : Vec Ideal S1x1024 .f32 := Norms.down (Norms.weightPart (iblk m c 0 t : Vec Ideal S256x1024 .f32) (iblk m c 2 t : Vec Ideal S256x1024 .f32) (iblk m c 4 t : Vec Ideal S1x1024 .f32))

theorem first_weight (c : Dev nD) (t : Fin cfg0.N) (h : t.val % 16 = 0) (y : S1x1024.Idx) :
    (outsAt0 m c t.val t.isLt).2.1 y = 0 + part_weight m c t y := by
  rw [outsAt0_A m c t h]; dsimp only; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part_weight, Norms.weightPart, Norms.scalePart, Norms.down, Norms.unscaled, Norms.factor, Norms.spread, Norms.atNormed, Norms.through, Norms.slope, Norms.atRows]

theorem later_weight (c : Dev nD) (t : Fin cfg0.N) (h : ¬t.val % 16 = 0) (y : S1x1024.Idx) :
    (outsAt0 m c t.val t.isLt).2.1 y
      = (outsAt0 m c (t.val - 1) (Nat.lt_of_le_of_lt (Nat.sub_le _ _) t.isLt)).2.1 y + part_weight m c t y := by
  rw [outsAt0_B m c t h]; dsimp only; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part_weight, Norms.weightPart, Norms.scalePart, Norms.down, Norms.unscaled, Norms.factor, Norms.spread, Norms.atNormed, Norms.through, Norms.slope, Norms.atRows]

/-- Over the whole run: the gradient at the norm's weight. -/
theorem final_weight (c : Dev nD) : (dats m 0 c).arrAt 7 (cfgs 0).N = Norms.down (Norms.weightPart (m ((c : Thread nD τ).loc main_arg0)) (m ((c : Thread nD τ).loc main_arg2)) (m ((c : Thread nD τ).loc main_arg4))) := by
  refine (dats m 0 c).arrAt_eq_of_covers 7 _ (by decide +kernel) fun t hf y => ?_
  blk_simp
  rw [after0_7,
    Pipeline.eq_sum_fin_of_reset_step_apply_of_flush (fun n h => (outsAt0 m c n h).2.1) 16 (fun _ => 0) (part_weight m c)
      (first_weight m c) (later_weight m c) t ((flush0_7 t).mp hf), zero_add]
  unfold part_weight; simp only [Norms.down]
  refine Fin.sum_mul_add_congr fun s l hl => ?_
  simp only [Norms.weightPart, Norms.scalePart, Norms.down, Norms.unscaled, Norms.factor, Norms.spread, Norms.atNormed, Norms.through, Norms.slope, Norms.atRows, rows0, rows1, rows2, whole3, whole4, whole5]
  blk_point [iblk, V, row, idx_val t, idx_val ⟨_, Pipeline.run_point_lt_of_flush t ((flush0_7 t).mp hf) s⟩]

/-- The part of the gradient at the scale that one grid point adds: its 256 rows. -/
def part_scale (c : Dev nD) (t : Fin cfg0.N) : Vec Ideal S1x1024 .f32 := Norms.down (Norms.scalePart (iblk m c 0 t : Vec Ideal S256x1024 .f32) (iblk m c 2 t : Vec Ideal S256x1024 .f32) (iblk m c 3 t : Vec Ideal S1x1024 .f32))

theorem first_scale (c : Dev nD) (t : Fin cfg0.N) (h : t.val % 16 = 0) (y : S1x1024.Idx) :
    (outsAt0 m c t.val t.isLt).2.2.1 y = 0 + part_scale m c t y := by
  rw [outsAt0_A m c t h]; dsimp only; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part_scale, Norms.weightPart, Norms.scalePart, Norms.down, Norms.unscaled, Norms.factor, Norms.spread, Norms.atNormed, Norms.through, Norms.slope, Norms.atRows]

theorem later_scale (c : Dev nD) (t : Fin cfg0.N) (h : ¬t.val % 16 = 0) (y : S1x1024.Idx) :
    (outsAt0 m c t.val t.isLt).2.2.1 y
      = (outsAt0 m c (t.val - 1) (Nat.lt_of_le_of_lt (Nat.sub_le _ _) t.isLt)).2.2.1 y + part_scale m c t y := by
  rw [outsAt0_B m c t h]; dsimp only; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part_scale, Norms.weightPart, Norms.scalePart, Norms.down, Norms.unscaled, Norms.factor, Norms.spread, Norms.atNormed, Norms.through, Norms.slope, Norms.atRows]

/-- Over the whole run: the gradient at the scale. -/
theorem final_scale (c : Dev nD) : (dats m 0 c).arrAt 8 (cfgs 0).N = Norms.down (Norms.scalePart (m ((c : Thread nD τ).loc main_arg0)) (m ((c : Thread nD τ).loc main_arg2)) (m ((c : Thread nD τ).loc main_arg3))) := by
  refine (dats m 0 c).arrAt_eq_of_covers 8 _ (by decide +kernel) fun t hf y => ?_
  blk_simp
  rw [after0_8,
    Pipeline.eq_sum_fin_of_reset_step_apply_of_flush (fun n h => (outsAt0 m c n h).2.2.1) 16 (fun _ => 0) (part_scale m c)
      (first_scale m c) (later_scale m c) t ((flush0_8 t).mp hf), zero_add]
  unfold part_scale; simp only [Norms.down]
  refine Fin.sum_mul_add_congr fun s l hl => ?_
  simp only [Norms.weightPart, Norms.scalePart, Norms.down, Norms.unscaled, Norms.factor, Norms.spread, Norms.atNormed, Norms.through, Norms.slope, Norms.atRows, rows0, rows1, rows2, whole3, whole4, whole5]
  blk_point [iblk, V, row, idx_val t, idx_val ⟨_, Pipeline.run_point_lt_of_flush t ((flush0_8 t).mp hf) s⟩]

/-- The part of the gradient at the shift that one grid point adds: its 256 rows. -/
def part_shift (c : Dev nD) (t : Fin cfg0.N) : Vec Ideal S1x1024 .f32 := Norms.down ( (iblk m c 2 t : Vec Ideal S256x1024 .f32))

theorem first_shift (c : Dev nD) (t : Fin cfg0.N) (h : t.val % 16 = 0) (y : S1x1024.Idx) :
    (outsAt0 m c t.val t.isLt).2.2.2 y = 0 + part_shift m c t y := by
  rw [outsAt0_A m c t h]; dsimp only; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part_shift, Norms.weightPart, Norms.scalePart, Norms.down, Norms.unscaled, Norms.factor, Norms.spread, Norms.atNormed, Norms.through, Norms.slope, Norms.atRows]

theorem later_shift (c : Dev nD) (t : Fin cfg0.N) (h : ¬t.val % 16 = 0) (y : S1x1024.Idx) :
    (outsAt0 m c t.val t.isLt).2.2.2 y
      = (outsAt0 m c (t.val - 1) (Nat.lt_of_le_of_lt (Nat.sub_le _ _) t.isLt)).2.2.2 y + part_shift m c t y := by
  rw [outsAt0_B m c t h]; dsimp only; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, part_shift, Norms.weightPart, Norms.scalePart, Norms.down, Norms.unscaled, Norms.factor, Norms.spread, Norms.atNormed, Norms.through, Norms.slope, Norms.atRows]

/-- Over the whole run: the gradient at the shift. -/
theorem final_shift (c : Dev nD) : (dats m 0 c).arrAt 9 (cfgs 0).N = Norms.down ( (m ((c : Thread nD τ).loc main_arg2))) := by
  refine (dats m 0 c).arrAt_eq_of_covers 9 _ (by decide +kernel) fun t hf y => ?_
  blk_simp
  rw [after0_9,
    Pipeline.eq_sum_fin_of_reset_step_apply_of_flush (fun n h => (outsAt0 m c n h).2.2.2) 16 (fun _ => 0) (part_shift m c)
      (first_shift m c) (later_shift m c) t ((flush0_9 t).mp hf), zero_add]
  unfold part_shift; simp only [Norms.down]
  refine Fin.sum_mul_add_congr fun s l hl => ?_
  try simp only [Norms.weightPart, Norms.scalePart, Norms.down, Norms.unscaled, Norms.factor, Norms.spread, Norms.atNormed, Norms.through, Norms.slope, Norms.atRows, rows0, rows1, rows2, whole3, whole4, whole5]
  blk_point [iblk, V, row, idx_val t, idx_val ⟨_, Pipeline.run_point_lt_of_flush t ((flush0_9 t).mp hf) s⟩]

/-- The gradient at the rows, with what came by the other path. -/
def total (x o d : FVec Ideal S4096x1024 .f32) (w s : FVec Ideal S1x1024 .f32) : FVec Ideal S4096x1024 .f32 :=
  fun i => Norms.atRows x d w s i + o i

theorem out6 (c : Dev nD) (t : Fin cfg0.N) (y : S256x1024.Idx) :
    (outsAt0 m c t.val t.isLt).1 y = Norms.atRows (iblk m c 0 t : Vec Ideal S256x1024 .f32) (iblk m c 2 t : Vec Ideal S256x1024 .f32) (iblk m c 3 t : Vec Ideal S1x1024 .f32) (iblk m c 4 t : Vec Ideal S1x1024 .f32) y + (iblk m c 1 t : Vec Ideal S256x1024 .f32) y := by
  by_cases h : t.val % 16 = 0
  · rw [outsAt0_A m c t h]; dsimp only; frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Norms.weightPart, Norms.scalePart, Norms.down, Norms.unscaled, Norms.factor, Norms.spread, Norms.atNormed, Norms.through, Norms.slope, Norms.atRows]
    simp only [Fin.sum_univ_one]
  · rw [outsAt0_B m c t h]; dsimp only; frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Norms.weightPart, Norms.scalePart, Norms.down, Norms.unscaled, Norms.factor, Norms.spread, Norms.atNormed, Norms.through, Norms.slope, Norms.atRows]
    simp only [Fin.sum_univ_one]

theorem final_rows (c : Dev nD) : (dats m 0 c).arrAt 6 (cfgs 0).N = total (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6, out6]
  unfold total
  simp only [Norms.weightPart, Norms.scalePart, Norms.down, Norms.unscaled, Norms.factor, Norms.spread, Norms.atNormed, Norms.through, Norms.slope, Norms.atRows, rows0, rows1, rows2, whole3, whole4, whole5]
  blk_point [iblk, V, row, idx_val t]

end Cert.PremixBwdIdeal.Result

end
-- ==== Proof.PremixBwdAgrees.lean ====
/- The call and its reference end with the same results: PremixBwd. -/
module

public import proofs.«01_k».proof.Defs
public import proofs.«01_k».proof.Proof.Gen.PremixBwdRefIdeal
public import proofs.«01_k».proof.Proof.Gen.PremixBwdRefIdeal.Run
public import proofs.«01_k».proof.Proof.Gen.PremixBwdIdeal
public import proofs.«01_k».proof.Proof.PremixBwd
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.PremixBwdIdeal.Result

theorem agree : algebraic_PremixBwdIdeal_PremixBwdRefIdeal (hPremixBwdIdeal := PremixBwdIdeal.Gen.facts) (hPremixBwdRefIdeal := PremixBwdRefIdeal.Gen.facts) := by
  intro m g m' g' hpre hagree
  refine ⟨fun c => total (m (c.tc.loc PremixBwdIdeal.main_arg0)) (m (c.tc.loc PremixBwdIdeal.main_arg1)) (m (c.tc.loc PremixBwdIdeal.main_arg2)) (m (c.tc.loc PremixBwdIdeal.main_arg3)) (m (c.tc.loc PremixBwdIdeal.main_arg4)), fun c => Norms.down (Norms.weightPart (m (c.tc.loc PremixBwdIdeal.main_arg0)) (m (c.tc.loc PremixBwdIdeal.main_arg2)) (m (c.tc.loc PremixBwdIdeal.main_arg4))), fun c => Norms.down (Norms.scalePart (m (c.tc.loc PremixBwdIdeal.main_arg0)) (m (c.tc.loc PremixBwdIdeal.main_arg2)) (m (c.tc.loc PremixBwdIdeal.main_arg3))), fun c => Norms.down (m (c.tc.loc PremixBwdIdeal.main_arg2)), ?_, ?_⟩
  · run_from PremixBwdIdeal.Gen.run_main m g
    · exact final_rows m c
    · exact final_weight m c
    · exact final_scale m c
    · exact final_shift m c
  · refine θ_run_mono (PremixBwdRefIdeal.Value.run m' g') ?_
    intro r hr c
    refine ⟨(hr c).1.trans ?_, (hr c).2.1.trans ?_, (hr c).2.2.1.trans ?_, (hr c).2.2.2.1.trans ?_, (hr c).2.2.2.2⟩
    · unfold PremixBwdRefIdeal.Value.res_main_v48
      rw [(hagree c).1, (hagree c).2.1, (hagree c).2.2.1, (hagree c).2.2.2.1, (hagree c).2.2.2.2.1]
      funext i
      pointwise [total, Norms.weightPart, Norms.scalePart, Norms.down, Norms.unscaled, Norms.factor, Norms.spread, Norms.atNormed, Norms.through, Norms.slope, Norms.atRows]
      simp only [Fin.sum_univ_one]
      exact add_comm _ _
    · rw [(hagree c).1, (hagree c).2.2.1, (hagree c).2.2.2.2.1]
      funext i
      pointwise [Norms.weightPart, Norms.scalePart, Norms.down, Norms.unscaled, Norms.factor, Norms.spread, Norms.atNormed, Norms.through, Norms.slope, Norms.atRows]
    · rw [(hagree c).1, (hagree c).2.2.1, (hagree c).2.2.2.1]
      funext i
      pointwise [Norms.weightPart, Norms.scalePart, Norms.down, Norms.unscaled, Norms.factor, Norms.spread, Norms.atNormed, Norms.through, Norms.slope, Norms.atRows]
    · rw [(hagree c).2.2.1]
      funext i
      pointwise [Norms.weightPart, Norms.scalePart, Norms.down, Norms.unscaled, Norms.factor, Norms.spread, Norms.atNormed, Norms.through, Norms.slope, Norms.atRows]

theorem quiet : quiescent_PremixBwdRefIdeal (hPremixBwdRefIdeal := PremixBwdRefIdeal.Gen.facts) := by
  intro m ρ _
  exact (θ_run _ _ _).mono (fun _ h => ⟨fun c => (h c).2.2.2.2, sem_eq_zero_of_no_sems (by decide) _⟩) (PremixBwdRefIdeal.Value.run m ρ)

end Cert.PremixBwdIdeal.Result

end
-- ==== Proof.Adam.lean ====
/- One step of the optimiser on one weight: the two moments and the change of the weight. -/
module

public import Idealize.ShloMosaic.Lib.Pipeline.ValueKit
public import Idealize.ShloMosaic.Init

@[expose] public section

noncomputable section

namespace Cert.Adam

open Idealize.ShloMosaic

/-- The running mean of the gradient. -/
def mean (g m : EReal) : EReal := Ideal.ofBits .f32 1063675494#32 * m + Ideal.ofBits .f32 1036831949#32 * g

/-- The running mean of the gradient's square. -/
def square (g v : EReal) : EReal := Ideal.ofBits .f32 1065336439#32 * v + Ideal.ofBits .f32 981668463#32 * (g * g)

/-- The change of a weight `w`, from its new running means. -/
def change (w m v : EReal) : EReal :=
  Ideal.ofBits .f32 3129152111#32
    * (Ideal.div (Ideal.div m (Ideal.ofBits .f32 1059503362#32))
        (Ideal.sqrt (Ideal.div v (Ideal.ofBits .f32 1008933580#32)) + Ideal.ofBits .f32 841731191#32)
      + Ideal.ofBits .f32 1008981770#32 * w)

/-- Of two halves put together, each chosen where a word says, the entry at `k`. -/
theorem half {n k : Nat} (hn : 0 < n) (hk : k < 2 * n) (p : BitVec 32) (x y : Fin n → Ideal .f32) :
    (if h : k < n then Scalar.select (IntOp.cmpi .eq p 0#32) (x ⟨k, h⟩) (y ⟨k, h⟩)
      else Scalar.select (IntOp.cmpi .eq p 1#32) (x ⟨k - n, by omega⟩) (y ⟨k - n, by omega⟩))
      = if BitVec.ofNat 32 (k / n) = p then x ⟨k % n, Nat.mod_lt _ hn⟩ else y ⟨k % n, Nat.mod_lt _ hn⟩ := by
  have pick (u : BitVec 32) (a b : Ideal .f32) : Scalar.select (IntOp.cmpi .eq p u) a b = if u = p then a else b := by
    by_cases h : u = p
    · rw [if_pos h]; exact if_pos (by simp [IntOp.cmpi, h])
    · rw [if_neg h]; exact if_neg (by simp [IntOp.cmpi, beq_false_of_ne (Ne.symm h)])
  by_cases h : k < n
  · have e : (⟨k % n, Nat.mod_lt _ hn⟩ : Fin n) = ⟨k, h⟩ := Fin.ext (Nat.mod_eq_of_lt h)
    rw [dif_pos h, pick, Nat.div_eq_of_lt h, e]
  · have q : k = n + (k - n) := by omega
    have e : (⟨k % n, Nat.mod_lt _ hn⟩ : Fin n) = ⟨k - n, by omega⟩ :=
      Fin.ext (by show k % n = k - n; rw [Nat.mod_eq_sub_mod (by omega), Nat.mod_eq_of_lt (by omega)])
    have d : k / n = 1 := Nat.div_eq_of_lt_le (by omega) (by omega)
    rw [dif_neg h, pick, d, e]

end Cert.Adam

end
-- ==== Proof.AdamAda.lean ====
/- The optimiser on the modulation's weight. -/
module

public import proofs.«01_k».proof.Proof.Products
public import proofs.«01_k».proof.Proof.Gen.AdamAdaIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamAdaIdeal.Result

open Cert.AdamAdaIdeal Cert.AdamAdaIdeal.Gen

variable (m : (ℓ : Loc nD τ sig) → Buf (Elt Ideal) ℓ)

theorem idx_val : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- The new running mean of the gradient. -/
def newMean (g : FVec Ideal S1024x1536 .f32) (m : FVec Ideal S1x1024x1536 .f32) : FVec Ideal S1x1024x1536 .f32 := fun i => Adam.mean (g (ix2 (i 1) (i 2))) (m i)

/-- The new running mean of the gradient's square. -/
def newSquare (g : FVec Ideal S1024x1536 .f32) (v : FVec Ideal S1x1024x1536 .f32) : FVec Ideal S1x1024x1536 .f32 := fun i => Adam.square (g (ix2 (i 1) (i 2))) (v i)

/-- The change of the weight. -/
def change (w : FVec Ideal S1x1024x1536 .f32) (g : FVec Ideal S1024x1536 .f32) (m v : FVec Ideal S1x1024x1536 .f32) : FVec Ideal S1x1024x1536 .f32 :=
  fun i => Adam.change (w i) (newMean g m i) (newSquare g v i)

theorem final_change (c : Dev nD) : (dats m 0 c).arrAt 4 (cfgs 0).N = change (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  pointwise [k0_pay1, k0_pay2, k0_pay3, k0_pay4, k0_pay5, change, newMean, newSquare, Adam.change, Adam.mean, Adam.square]
  blk_point [iblk, V, idx_val t]

theorem final_mean (c : Dev nD) : (dats m 0 c).arrAt 5 (cfgs 0).N = newMean (m ((c : Thread nD τ).loc main_arg1)) (m ((c : Thread nD τ).loc main_arg2)) := by
  refine (dats m 0 c).arrAt_eq_of_covers 5 _ (by decide +kernel) fun t hf y => ?_
  blk_simp; rw [after0_5]; frame_out
  pointwise [k0_pay1, k0_pay2, k0_pay3, k0_pay4, k0_pay5, newMean, Adam.mean]
  blk_point [iblk, V, idx_val t]

theorem final_square (c : Dev nD) : (dats m 0 c).arrAt 6 (cfgs 0).N = newSquare (m ((c : Thread nD τ).loc main_arg1)) (m ((c : Thread nD τ).loc main_arg3)) := by
  refine (dats m 0 c).arrAt_eq_of_covers 6 _ (by decide +kernel) fun t hf y => ?_
  blk_simp; rw [after0_6]; frame_out
  pointwise [k0_pay1, k0_pay2, k0_pay3, k0_pay4, k0_pay5, newSquare, Adam.square]
  blk_point [iblk, V, idx_val t]

end Cert.AdamAdaIdeal.Result

end
-- ==== Proof.AdamAdaAgrees.lean ====
/- The call and its reference end with the same results: AdamAda. -/
module

public import proofs.«01_k».proof.Defs
public import proofs.«01_k».proof.Proof.Gen.AdamAdaRefIdeal
public import proofs.«01_k».proof.Proof.Gen.AdamAdaRefIdeal.Run
public import proofs.«01_k».proof.Proof.Gen.AdamAdaIdeal
public import proofs.«01_k».proof.Proof.AdamAda
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.AdamAdaIdeal.Result

theorem agree : algebraic_AdamAdaIdeal_AdamAdaRefIdeal (hAdamAdaIdeal := AdamAdaIdeal.Gen.facts) (hAdamAdaRefIdeal := AdamAdaRefIdeal.Gen.facts) := by
  intro m g m' g' hpre hagree
  refine ⟨fun c => change (m (c.tc.loc AdamAdaIdeal.main_arg0)) (m (c.tc.loc AdamAdaIdeal.main_arg1)) (m (c.tc.loc AdamAdaIdeal.main_arg2)) (m (c.tc.loc AdamAdaIdeal.main_arg3)), fun c => newMean (m (c.tc.loc AdamAdaIdeal.main_arg1)) (m (c.tc.loc AdamAdaIdeal.main_arg2)), fun c => newSquare (m (c.tc.loc AdamAdaIdeal.main_arg1)) (m (c.tc.loc AdamAdaIdeal.main_arg3)), ?_, ?_⟩
  · run_from AdamAdaIdeal.Gen.run_main m g
    · exact final_change m c
    · exact final_mean m c
    · exact final_square m c
  · run_from AdamAdaRefIdeal.Value.run m' g'
    · funext i
      pointwise [change, newMean, newSquare, Adam.change, Adam.mean, Adam.square]
    · funext i
      pointwise [newMean, Adam.mean]
    · funext i
      pointwise [newSquare, Adam.square]

theorem quiet : quiescent_AdamAdaRefIdeal (hAdamAdaRefIdeal := AdamAdaRefIdeal.Gen.facts) := by
  intro m ρ _
  exact (θ_run _ _ _).mono (fun _ h => ⟨fun c => (h c).2.2.2, sem_eq_zero_of_no_sems (by decide) _⟩) (AdamAdaRefIdeal.Value.run m ρ)

end Cert.AdamAdaIdeal.Result

end
-- ==== Proof.AdamSmall.lean ====
/- The optimiser on the small weights. -/
module

public import proofs.«01_k».proof.Proof.Products
public import proofs.«01_k».proof.Proof.Gen.AdamSmallIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamSmallIdeal.Result

open Cert.AdamSmallIdeal Cert.AdamSmallIdeal.Gen

variable (m : (ℓ : Loc nD τ sig) → Buf (Elt Ideal) ℓ)

theorem idx_val : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- The new running mean of the gradient. -/
def newMean (g : FVec Ideal S1x24832 .f32) (m : FVec Ideal S1x1x24832 .f32) : FVec Ideal S1x1x24832 .f32 := fun i => Adam.mean (g (ix2 0 (i 2))) (m i)

/-- The new running mean of the gradient's square. -/
def newSquare (g : FVec Ideal S1x24832 .f32) (v : FVec Ideal S1x1x24832 .f32) : FVec Ideal S1x1x24832 .f32 := fun i => Adam.square (g (ix2 0 (i 2))) (v i)

/-- The change of the weight. -/
def change (w : FVec Ideal S1x1x24832 .f32) (g : FVec Ideal S1x24832 .f32) (m v : FVec Ideal S1x1x24832 .f32) : FVec Ideal S1x1x24832 .f32 :=
  fun i => Adam.change (w i) (newMean g m i) (newSquare g v i)

theorem final_change (c : Dev nD) : (dats m 0 c).arrAt 4 (cfgs 0).N = change (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  pointwise [k0_pay1, k0_pay2, k0_pay3, k0_pay4, k0_pay5, change, newMean, newSquare, Adam.change, Adam.mean, Adam.square]
  blk_point [iblk, V, idx_val t]

theorem final_mean (c : Dev nD) : (dats m 0 c).arrAt 5 (cfgs 0).N = newMean (m ((c : Thread nD τ).loc main_arg1)) (m ((c : Thread nD τ).loc main_arg2)) := by
  refine (dats m 0 c).arrAt_eq_of_covers 5 _ (by decide +kernel) fun t hf y => ?_
  blk_simp; rw [after0_5]; frame_out
  pointwise [k0_pay1, k0_pay2, k0_pay3, k0_pay4, k0_pay5, newMean, Adam.mean]
  blk_point [iblk, V, idx_val t]

theorem final_square (c : Dev nD) : (dats m 0 c).arrAt 6 (cfgs 0).N = newSquare (m ((c : Thread nD τ).loc main_arg1)) (m ((c : Thread nD τ).loc main_arg3)) := by
  refine (dats m 0 c).arrAt_eq_of_covers 6 _ (by decide +kernel) fun t hf y => ?_
  blk_simp; rw [after0_6]; frame_out
  pointwise [k0_pay1, k0_pay2, k0_pay3, k0_pay4, k0_pay5, newSquare, Adam.square]
  blk_point [iblk, V, idx_val t]

end Cert.AdamSmallIdeal.Result

end
-- ==== Proof.AdamSmallAgrees.lean ====
/- The call and its reference end with the same results: AdamSmall. -/
module

public import proofs.«01_k».proof.Defs
public import proofs.«01_k».proof.Proof.Gen.AdamSmallRefIdeal
public import proofs.«01_k».proof.Proof.Gen.AdamSmallRefIdeal.Run
public import proofs.«01_k».proof.Proof.Gen.AdamSmallIdeal
public import proofs.«01_k».proof.Proof.AdamSmall
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.AdamSmallIdeal.Result

theorem agree : algebraic_AdamSmallIdeal_AdamSmallRefIdeal (hAdamSmallIdeal := AdamSmallIdeal.Gen.facts) (hAdamSmallRefIdeal := AdamSmallRefIdeal.Gen.facts) := by
  intro m g m' g' hpre hagree
  refine ⟨fun c => change (m (c.tc.loc AdamSmallIdeal.main_arg0)) (m (c.tc.loc AdamSmallIdeal.main_arg1)) (m (c.tc.loc AdamSmallIdeal.main_arg2)) (m (c.tc.loc AdamSmallIdeal.main_arg3)), fun c => newMean (m (c.tc.loc AdamSmallIdeal.main_arg1)) (m (c.tc.loc AdamSmallIdeal.main_arg2)), fun c => newSquare (m (c.tc.loc AdamSmallIdeal.main_arg1)) (m (c.tc.loc AdamSmallIdeal.main_arg3)), ?_, ?_⟩
  · run_from AdamSmallIdeal.Gen.run_main m g
    · exact final_change m c
    · exact final_mean m c
    · exact final_square m c
  · run_from AdamSmallRefIdeal.Value.run m' g'
    · funext i
      pointwise [change, newMean, newSquare, Adam.change, Adam.mean, Adam.square]
    · funext i
      pointwise [newMean, Adam.mean]
    · funext i
      pointwise [newSquare, Adam.square]

theorem quiet : quiescent_AdamSmallRefIdeal (hAdamSmallRefIdeal := AdamSmallRefIdeal.Gen.facts) := by
  intro m ρ _
  exact (θ_run _ _ _).mono (fun _ h => ⟨fun c => (h c).2.2.2, sem_eq_zero_of_no_sems (by decide) _⟩) (AdamSmallRefIdeal.Value.run m ρ)

end Cert.AdamSmallIdeal.Result

end
-- ==== Proof.AdamWIn.lean ====
/- The optimiser on the input projection's weight. -/
module

public import proofs.«01_k».proof.Proof.Products
public import proofs.«01_k».proof.Proof.Gen.AdamWInIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamWInIdeal.Result

open Cert.AdamWInIdeal Cert.AdamWInIdeal.Gen

variable (m : (ℓ : Loc nD τ sig) → Buf (Elt Ideal) ℓ)

/-- Contents of the table at which the windows are evaluated: no window's place depends on them. -/
def table : (pcfg0 (F := Ideal)).Adm := ⟨fun | 0 => fun _ => (0#32 : BitVec 32), trivial⟩

theorem covers5 (a : (pcfg0 (F := Ideal)).Adm) : ((cfg0 a).win 5).Covers :=
  show ((cfg0 table).win 5).Covers from by decide +kernel

theorem covers6 (a : (pcfg0 (F := Ideal)).Adm) : ((cfg0 a).win 6).Covers :=
  show ((cfg0 table).win 6).Covers from by decide +kernel

theorem covers7 (a : (pcfg0 (F := Ideal)).Adm) : ((cfg0 a).win 7).Covers :=
  show ((cfg0 table).win 7).Covers from by decide +kernel

theorem covers8 (a : (pcfg0 (F := Ideal)).Adm) : ((cfg0 a).win 8).Covers :=
  show ((cfg0 table).win 8).Covers from by decide +kernel

theorem idx_val : ∀ t : Fin grid0.N, cc0_transform_0 (grid0.coords t) = ![0, t.val % 9, t.val / 9] ∧ cc0_transform_1 (grid0.coords t) = ![t.val % 9, 0] ∧ cc0_transform_2 (grid0.coords t) = ![t.val % 9, 0] ∧ cc0_transform_3 (grid0.coords t) = ![0, t.val % 9, t.val / 9] ∧ cc0_transform_4 (grid0.coords t) = ![0, t.val % 9, t.val / 9] ∧ cc0_transform_5 (grid0.coords t) = ![0, t.val % 9, t.val / 9] ∧ cc0_transform_6 (grid0.coords t) = ![0, t.val % 9, t.val / 9] ∧ cc0_transform_7 (grid0.coords t) = ![0, t.val % 9, t.val / 9] ∧ cc0_transform_8 (grid0.coords t) = ![0, t.val % 9, t.val / 9] ∧ (grid0.coords t 0).val = t.val / 9 := by decide +kernel

/-- An index of the block of grid point `t`, in the whole array. -/
def place (t : Fin 18) (y : S1x400x512.Idx) : S1x3600x1024.Idx :=
  ix3 0 ⟨t.val % 9 * 400 + (y 1).val, by have := (y 1).isLt; have h : (y 1).val < 400 := this; have := t.isLt; omega⟩
    ⟨t.val / 9 * 512 + (y 2).val, by have := (y 2).isLt; have h : (y 2).val < 512 := this; have := t.isLt; omega⟩

/-- An index of the block of grid point `t`, in the half of the gradient. -/
def within (t : Fin 18) (y : S400x512.Idx) : S3600x512.Idx :=
  ix2 ⟨t.val % 9 * 400 + (y 0).val, by have := (y 0).isLt; have h : (y 0).val < 400 := this; have := t.isLt; omega⟩ (y 1)

theorem emb0 (hO : Ok m) (t : Fin (cfgM m hO).N) (y : S1x400x512.Idx) : (((cfgM m hO).win 0).blk t).view.emb y = place t y := by
  have h := (idx_val t).1
  funext a
  fin_cases a
  · exact Fin.ext (by show cc0_transform_0 (grid0.coords t) 0 * 1 + 1 * (y 0).val = 0; have := (y 0).isLt; rw [h]; simp; try omega)
  · exact Fin.ext (by show cc0_transform_0 (grid0.coords t) 1 * 400 + 1 * (y 1).val = t.val % 9 * 400 + (y 1).val; rw [h]; simp)
  · exact Fin.ext (by show cc0_transform_0 (grid0.coords t) 2 * 512 + 1 * (y 2).val = t.val / 9 * 512 + (y 2).val; rw [h]; simp)

theorem emb3 (hO : Ok m) (t : Fin (cfgM m hO).N) (y : S1x400x512.Idx) : (((cfgM m hO).win 3).blk t).view.emb y = place t y := by
  have h := (idx_val t).2.2.2.1
  funext a
  fin_cases a
  · exact Fin.ext (by show cc0_transform_3 (grid0.coords t) 0 * 1 + 1 * (y 0).val = 0; have := (y 0).isLt; rw [h]; simp; try omega)
  · exact Fin.ext (by show cc0_transform_3 (grid0.coords t) 1 * 400 + 1 * (y 1).val = t.val % 9 * 400 + (y 1).val; rw [h]; simp)
  · exact Fin.ext (by show cc0_transform_3 (grid0.coords t) 2 * 512 + 1 * (y 2).val = t.val / 9 * 512 + (y 2).val; rw [h]; simp)

theorem emb4 (hO : Ok m) (t : Fin (cfgM m hO).N) (y : S1x400x512.Idx) : (((cfgM m hO).win 4).blk t).view.emb y = place t y := by
  have h := (idx_val t).2.2.2.2.1
  funext a
  fin_cases a
  · exact Fin.ext (by show cc0_transform_4 (grid0.coords t) 0 * 1 + 1 * (y 0).val = 0; have := (y 0).isLt; rw [h]; simp; try omega)
  · exact Fin.ext (by show cc0_transform_4 (grid0.coords t) 1 * 400 + 1 * (y 1).val = t.val % 9 * 400 + (y 1).val; rw [h]; simp)
  · exact Fin.ext (by show cc0_transform_4 (grid0.coords t) 2 * 512 + 1 * (y 2).val = t.val / 9 * 512 + (y 2).val; rw [h]; simp)

theorem emb5 (hO : Ok m) (t : Fin (cfgM m hO).N) (y : S1x400x512.Idx) : (((cfgM m hO).win 5).blk t).view.emb y = place t y := by
  have h := (idx_val t).2.2.2.2.2.1
  funext a
  fin_cases a
  · exact Fin.ext (by show cc0_transform_5 (grid0.coords t) 0 * 1 + 1 * (y 0).val = 0; have := (y 0).isLt; rw [h]; simp; try omega)
  · exact Fin.ext (by show cc0_transform_5 (grid0.coords t) 1 * 400 + 1 * (y 1).val = t.val % 9 * 400 + (y 1).val; rw [h]; simp)
  · exact Fin.ext (by show cc0_transform_5 (grid0.coords t) 2 * 512 + 1 * (y 2).val = t.val / 9 * 512 + (y 2).val; rw [h]; simp)

theorem emb6 (hO : Ok m) (t : Fin (cfgM m hO).N) (y : S1x400x512.Idx) : (((cfgM m hO).win 6).blk t).view.emb y = place t y := by
  have h := (idx_val t).2.2.2.2.2.2.1
  funext a
  fin_cases a
  · exact Fin.ext (by show cc0_transform_6 (grid0.coords t) 0 * 1 + 1 * (y 0).val = 0; have := (y 0).isLt; rw [h]; simp; try omega)
  · exact Fin.ext (by show cc0_transform_6 (grid0.coords t) 1 * 400 + 1 * (y 1).val = t.val % 9 * 400 + (y 1).val; rw [h]; simp)
  · exact Fin.ext (by show cc0_transform_6 (grid0.coords t) 2 * 512 + 1 * (y 2).val = t.val / 9 * 512 + (y 2).val; rw [h]; simp)

theorem emb7 (hO : Ok m) (t : Fin (cfgM m hO).N) (y : S1x400x512.Idx) : (((cfgM m hO).win 7).blk t).view.emb y = place t y := by
  have h := (idx_val t).2.2.2.2.2.2.2.1
  funext a
  fin_cases a
  · exact Fin.ext (by show cc0_transform_7 (grid0.coords t) 0 * 1 + 1 * (y 0).val = 0; have := (y 0).isLt; rw [h]; simp; try omega)
  · exact Fin.ext (by show cc0_transform_7 (grid0.coords t) 1 * 400 + 1 * (y 1).val = t.val % 9 * 400 + (y 1).val; rw [h]; simp)
  · exact Fin.ext (by show cc0_transform_7 (grid0.coords t) 2 * 512 + 1 * (y 2).val = t.val / 9 * 512 + (y 2).val; rw [h]; simp)

theorem emb8 (hO : Ok m) (t : Fin (cfgM m hO).N) (y : S1x400x512.Idx) : (((cfgM m hO).win 8).blk t).view.emb y = place t y := by
  have h := (idx_val t).2.2.2.2.2.2.2.2.1
  funext a
  fin_cases a
  · exact Fin.ext (by show cc0_transform_8 (grid0.coords t) 0 * 1 + 1 * (y 0).val = 0; have := (y 0).isLt; rw [h]; simp; try omega)
  · exact Fin.ext (by show cc0_transform_8 (grid0.coords t) 1 * 400 + 1 * (y 1).val = t.val % 9 * 400 + (y 1).val; rw [h]; simp)
  · exact Fin.ext (by show cc0_transform_8 (grid0.coords t) 2 * 512 + 1 * (y 2).val = t.val / 9 * 512 + (y 2).val; rw [h]; simp)

theorem block0 (hO : Ok m) (c : Dev nD) (t : Fin (cfgM m hO).N) (y : S1x400x512.Idx) : iblk m hO c 0 t y = m ((c : Thread nD τ).loc main_arg1) (place t y) :=
  congrArg (m ((c : Thread nD τ).loc main_arg1)) (emb0 m hO t y)

theorem block3 (hO : Ok m) (c : Dev nD) (t : Fin (cfgM m hO).N) (y : S1x400x512.Idx) : iblk m hO c 3 t y = m ((c : Thread nD τ).loc main_arg4) (place t y) :=
  congrArg (m ((c : Thread nD τ).loc main_arg4)) (emb3 m hO t y)

theorem block4 (hO : Ok m) (c : Dev nD) (t : Fin (cfgM m hO).N) (y : S1x400x512.Idx) : iblk m hO c 4 t y = m ((c : Thread nD τ).loc main_arg5) (place t y) :=
  congrArg (m ((c : Thread nD τ).loc main_arg5)) (emb4 m hO t y)

theorem block1 (hO : Ok m) (c : Dev nD) (t : Fin (cfgM m hO).N) (y : S400x512.Idx) : iblk m hO c 1 t y = m ((c : Thread nD τ).loc main_arg2) (within t y) := by
  have h := (idx_val t).2.1
  refine congrArg (m ((c : Thread nD τ).loc main_arg2)) ?_
  funext a
  fin_cases a
  · exact Fin.ext (by show cc0_transform_1 (grid0.coords t) 0 * 400 + 1 * (y 0).val = t.val % 9 * 400 + (y 0).val; rw [h]; simp)
  · exact Fin.ext (by show cc0_transform_1 (grid0.coords t) 1 * 512 + 1 * (y 1).val = (y 1).val; rw [h]; simp)

theorem block2 (hO : Ok m) (c : Dev nD) (t : Fin (cfgM m hO).N) (y : S400x512.Idx) : iblk m hO c 2 t y = m ((c : Thread nD τ).loc main_arg3) (within t y) := by
  have h := (idx_val t).2.2.1
  refine congrArg (m ((c : Thread nD τ).loc main_arg3)) ?_
  funext a
  fin_cases a
  · exact Fin.ext (by show cc0_transform_2 (grid0.coords t) 0 * 400 + 1 * (y 0).val = t.val % 9 * 400 + (y 0).val; rw [h]; simp)
  · exact Fin.ext (by show cc0_transform_2 (grid0.coords t) 1 * 512 + 1 * (y 1).val = (y 1).val; rw [h]; simp)

/-- The word the body reads of the table. -/
theorem word (c : Dev nD) (h) : View.readAt (Elt Ideal) (View.whole main_arg0) (Rect.unit ![0] ![1] inb_S2_S1_0).toLoadRect
    (tbl m 0) (Shape.Idx.first h) = m ((c : Thread nD τ).loc main_arg0) (ix1 0) := by
  obtain rfl : c = 0 := Subsingleton.elim _ _
  refine congrArg (m (((0 : Dev nD) : Thread nD τ).loc main_arg0)) ?_
  funext a
  fin_cases a
  exact Fin.ext (by simp)

theorem choose (u v : BitVec 32) (a b : FVec Ideal S400x512 .f32) (y : S400x512.Idx) :
    Scalar.select (Scalar.cmpi .eq u v) a b y = if u = v then a y else b y := by
  by_cases h : u = v
  · rw [if_pos h]
    exact congrFun (if_pos (by simp [Scalar.cmpi, IntOp.cmpi, h])) y
  · rw [if_neg h]
    exact congrFun (if_neg (by simp [Scalar.cmpi, IntOp.cmpi, beq_false_of_ne h])) y

/-- The gradient: the device's own half where the device's place says, the other device's half elsewhere. -/
def grad (p : IVec S2 32) (x y : FVec Ideal S3600x512 .f32) : FVec Ideal S1x3600x1024 .f32 :=
  fun i => if BitVec.ofNat 32 ((i 2).val / 512) = p (ix1 0) then x (ix2 (i 1) ⟨(i 2).val % 512, Nat.mod_lt _ (by decide)⟩) else y (ix2 (i 1) ⟨(i 2).val % 512, Nat.mod_lt _ (by decide)⟩)

/-- The new running mean of the gradient. -/
def newMean (g m : FVec Ideal S1x3600x1024 .f32) : FVec Ideal S1x3600x1024 .f32 := fun i => Adam.mean (g i) (m i)

/-- The new running mean of the gradient's square. -/
def newSquare (g v : FVec Ideal S1x3600x1024 .f32) : FVec Ideal S1x3600x1024 .f32 := fun i => Adam.square (g i) (v i)

/-- The change of the weight. -/
def change (w g m v : FVec Ideal S1x3600x1024 .f32) : FVec Ideal S1x3600x1024 .f32 := fun i => Adam.change (w i) (newMean g m i) (newSquare g v i)

theorem chosen (hO : Ok m) (c : Dev nD) (t : Fin (cfgM m hO).N) (y : S1x400x512.Idx) (u : BitVec 32) (hu : u = m ((c : Thread nD τ).loc main_arg0) (ix1 0))
    (a b : FVec Ideal S400x512 .f32) (ha : a = iblk m hO c 1 t) (hb : b = iblk m hO c 2 t) :
    k0_pay5 (F := Ideal) (grid0.coords t) u a b (ix2 (y 1) (y 2)) = grad (m ((c : Thread nD τ).loc main_arg0)) (m ((c : Thread nD τ).loc main_arg2)) (m ((c : Thread nD τ).loc main_arg3)) (place t y) := by
  subst ha hb
  have hc := (idx_val t).2.2.2.2.2.2.2.2.2
  have h1 : (y 1).val < 400 := (y 1).isLt
  have h2 : (y 2).val < 512 := (y 2).isLt
  have ht : t.val < 18 := t.isLt
  have w : within t (ix2 (y 1) (y 2)) = (ix2 ((place t y) 1) ⟨((place t y) 2).val % 512, Nat.mod_lt _ (by decide)⟩) := by
    funext a
    fin_cases a
    · exact Fin.ext (by simp only [within, place]; first | rfl | (show t.val % 9 * 400 + (y 1).val = (t.val % 9 * 400 + (y 1).val) % 3600; omega))
    · exact Fin.ext (by first | rfl | (show (y 2).val = (t.val / 9 * 512 + (y 2).val) % 512; omega))
  have e : BitVec.ofNat 32 (grid0.coords t 0).val = BitVec.ofNat 32 (((place t y) 2).val / 512) := by
    rw [hc]; congr 1
    show t.val / 9 = (t.val / 9 * 512 + (y 2).val) / 512; omega
  refine (choose _ _ _ _ _).trans ?_
  unfold grad
  rw [e, hu]
  by_cases hp : BitVec.ofNat 32 (((place t y) 2).val / 512) = m ((c : Thread nD τ).loc main_arg0) (ix1 0)
  · exact (if_pos hp).trans (((block1 m hO c t _).trans (congrArg _ w)).trans (if_pos hp).symm)
  · exact (if_neg hp).trans (((block2 m hO c t _).trans (congrArg _ w)).trans (if_neg hp).symm)

theorem pay_grad (g : FVec Ideal S400x512 .f32) (y : S1x400x512.Idx) : k0_pay1 (F := Ideal) g y = g (ix2 (y 1) (y 2)) := by pointwise [k0_pay1]

theorem pay_mean (i : grid0.Coords) (u : BitVec 32) (a b : FVec Ideal S400x512 .f32) (x : FVec Ideal S1x400x512 .f32) (y : S1x400x512.Idx) :
    k0_pay3 (k0_pay6 (F := Ideal) i u a b x) y = Adam.mean (k0_pay5 (F := Ideal) i u a b (ix2 (y 1) (y 2))) (x y) := by
  pointwise [k0_pay3, k0_pay6, Adam.mean]

theorem pay_square (i : grid0.Coords) (u : BitVec 32) (a b : FVec Ideal S400x512 .f32) (x : FVec Ideal S1x400x512 .f32) (y : S1x400x512.Idx) :
    k0_pay4 (k0_pay7 (F := Ideal) i u a b x) y = Adam.square (k0_pay5 (F := Ideal) i u a b (ix2 (y 1) (y 2))) (x y) := by
  pointwise [k0_pay4, k0_pay7, Adam.square]

theorem pay_change (i : grid0.Coords) (u : BitVec 32) (a b : FVec Ideal S400x512 .f32) (w x z : FVec Ideal S1x400x512 .f32) (y : S1x400x512.Idx) :
    k0_pay2 (k0_pay8 (F := Ideal) i u a b w x z) y = Adam.change (w y) (Adam.mean (k0_pay5 (F := Ideal) i u a b (ix2 (y 1) (y 2))) (x y))
      (Adam.square (k0_pay5 (F := Ideal) i u a b (ix2 (y 1) (y 2))) (z y)) := by
  pointwise [k0_pay2, k0_pay6, k0_pay7, k0_pay8, Adam.change, Adam.mean, Adam.square]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_grad (hO : Ok m) (c : Dev nD) : (dats m hO 0 c).arrAt 5 (cfgM m hO).N = grad (m ((c : Thread nD τ).loc main_arg0)) (m ((c : Thread nD τ).loc main_arg2)) (m ((c : Thread nD τ).loc main_arg3)) := by
  refine (dats m hO 0 c).arrAt_eq_of_covers 5 _ (covers5 _) fun t hf y => ?_
  rw [emb5 m hO t y]
  blk_simp; rw [after0_5]; unfold outsAt0; dsimp only; frame_out
  exact (pay_grad _ y).trans (chosen m hO c t y _ (word m c _) _ _ (back _ _) (back _ _))

theorem final_change (hO : Ok m) (c : Dev nD) : (dats m hO 0 c).arrAt 6 (cfgM m hO).N = change (m ((c : Thread nD τ).loc main_arg1)) (grad (m ((c : Thread nD τ).loc main_arg0)) (m ((c : Thread nD τ).loc main_arg2)) (m ((c : Thread nD τ).loc main_arg3))) (m ((c : Thread nD τ).loc main_arg4)) (m ((c : Thread nD τ).loc main_arg5)) := by
  refine (dats m hO 0 c).arrAt_eq_of_covers 6 _ (covers6 _) fun t hf y => ?_
  rw [emb6 m hO t y]
  blk_simp; rw [after0_6]; unfold outsAt0; dsimp only; frame_out
  refine (pay_change _ _ _ _ _ _ _ y).trans ?_
  exact congr (congr (congrArg Adam.change ((congrFun (back _ _) y).trans (block0 m hO c t y))) (congr (congrArg Adam.mean (chosen m hO c t y _ (word m c _) _ _ (back _ _) (back _ _))) ((congrFun (back _ _) y).trans (block3 m hO c t y)))) (congr (congrArg Adam.square (chosen m hO c t y _ (word m c _) _ _ (back _ _) (back _ _))) ((congrFun (back _ _) y).trans (block4 m hO c t y)))

theorem final_mean (hO : Ok m) (c : Dev nD) : (dats m hO 0 c).arrAt 7 (cfgM m hO).N = newMean (grad (m ((c : Thread nD τ).loc main_arg0)) (m ((c : Thread nD τ).loc main_arg2)) (m ((c : Thread nD τ).loc main_arg3))) (m ((c : Thread nD τ).loc main_arg4)) := by
  refine (dats m hO 0 c).arrAt_eq_of_covers 7 _ (covers7 _) fun t hf y => ?_
  rw [emb7 m hO t y]
  blk_simp; rw [after0_7]; unfold outsAt0; dsimp only; frame_out
  exact (pay_mean _ _ _ _ _ y).trans (congr (congrArg Adam.mean (chosen m hO c t y _ (word m c _) _ _ (back _ _) (back _ _))) ((congrFun (back _ _) y).trans (block3 m hO c t y)))

theorem final_square (hO : Ok m) (c : Dev nD) : (dats m hO 0 c).arrAt 8 (cfgM m hO).N = newSquare (grad (m ((c : Thread nD τ).loc main_arg0)) (m ((c : Thread nD τ).loc main_arg2)) (m ((c : Thread nD τ).loc main_arg3))) (m ((c : Thread nD τ).loc main_arg5)) := by
  refine (dats m hO 0 c).arrAt_eq_of_covers 8 _ (covers8 _) fun t hf y => ?_
  rw [emb8 m hO t y]
  blk_simp; rw [after0_8]; unfold outsAt0; dsimp only; frame_out
  exact (pay_square _ _ _ _ _ y).trans (congr (congrArg Adam.square (chosen m hO c t y _ (word m c _) _ _ (back _ _) (back _ _))) ((congrFun (back _ _) y).trans (block4 m hO c t y)))

end Cert.AdamWInIdeal.Result

end
-- ==== Proof.AdamWInAgrees.lean ====
/- The call and its reference end with the same results: AdamWIn. -/
module

public import proofs.«01_k».proof.Defs
public import proofs.«01_k».proof.Proof.Gen.AdamWInRefIdeal
public import proofs.«01_k».proof.Proof.Gen.AdamWInRefIdeal.Run
public import proofs.«01_k».proof.Proof.Gen.AdamWInIdeal
public import proofs.«01_k».proof.Proof.AdamWIn
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AdamWInIdeal.Result

open Cert.AdamWInIdeal Cert.AdamWInIdeal.Gen

theorem agree : algebraic_AdamWInIdeal_AdamWInRefIdeal (hAdamWInIdeal := AdamWInIdeal.Gen.facts) (hAdamWInRefIdeal := AdamWInRefIdeal.Gen.facts) := by
  intro m g m' g' hpre hagree
  refine ⟨fun c => grad (m (c.tc.loc AdamWInIdeal.main_arg0)) (m (c.tc.loc AdamWInIdeal.main_arg2)) (m (c.tc.loc AdamWInIdeal.main_arg3)), fun c => change (m (c.tc.loc AdamWInIdeal.main_arg1)) (grad (m (c.tc.loc AdamWInIdeal.main_arg0)) (m (c.tc.loc AdamWInIdeal.main_arg2)) (m (c.tc.loc AdamWInIdeal.main_arg3))) (m (c.tc.loc AdamWInIdeal.main_arg4)) (m (c.tc.loc AdamWInIdeal.main_arg5)), fun c => newMean (grad (m (c.tc.loc AdamWInIdeal.main_arg0)) (m (c.tc.loc AdamWInIdeal.main_arg2)) (m (c.tc.loc AdamWInIdeal.main_arg3))) (m (c.tc.loc AdamWInIdeal.main_arg4)), fun c => newSquare (grad (m (c.tc.loc AdamWInIdeal.main_arg0)) (m (c.tc.loc AdamWInIdeal.main_arg2)) (m (c.tc.loc AdamWInIdeal.main_arg3))) (m (c.tc.loc AdamWInIdeal.main_arg5)), ?_, ?_⟩
  · refine θ_run_mono (run_main m g trivial) ?_
    intro r h c
    exact ⟨((h c).1 5).trans (final_grad m trivial c), ((h c).1 6).trans (final_change m trivial c),
      ((h c).1 7).trans (final_mean m trivial c), ((h c).1 8).trans (final_square m trivial c),
      ((h c).2 main_arg0 (by decide : main_arg0 ∈ Pipeline.restRefs sig spec0)).trans (V_main_arg0 m c),
      ((h c).1 0).trans (((dats m trivial 0 c).arrAt_in 0 rfl _).trans ((A_eq m trivial c 0).trans (V_main_arg1 m c))),
      ((h c).1 1).trans (((dats m trivial 0 c).arrAt_in 1 rfl _).trans ((A_eq m trivial c 1).trans (V_main_arg2 m c))),
      ((h c).1 2).trans (((dats m trivial 0 c).arrAt_in 2 rfl _).trans ((A_eq m trivial c 2).trans (V_main_arg3 m c))),
      ((h c).1 3).trans (((dats m trivial 0 c).arrAt_in 3 rfl _).trans ((A_eq m trivial c 3).trans (V_main_arg4 m c))),
      ((h c).1 4).trans (((dats m trivial 0 c).arrAt_in 4 rfl _).trans ((A_eq m trivial c 4).trans (V_main_arg5 m c)))⟩
  · refine θ_run_mono (AdamWInRefIdeal.Value.run m' g') ?_
    intro r hr c
    have H := hr c
    obtain ⟨a0, a1, a2, a3, a4, a5⟩ := hagree c
    rw [a0, a1, a2, a3, a4, a5] at H
    obtain ⟨h0, h1, h2, h3, _⟩ := H
    have hg := h0.trans (show _ = grad (m (c.tc.loc AdamWInIdeal.main_arg0)) (m (c.tc.loc AdamWInIdeal.main_arg2)) (m (c.tc.loc AdamWInIdeal.main_arg3)) from by
      funext i
      pointwise [grad]
      exact Adam.half (by decide) (i 2).isLt ((m (c.tc.loc AdamWInIdeal.main_arg0)) (ix1 0)) (fun k => (m (c.tc.loc AdamWInIdeal.main_arg2)) (ix2 (i 1) k)) (fun k => (m (c.tc.loc AdamWInIdeal.main_arg3)) (ix2 (i 1) k)))
    rw [← h0, hg] at h1 h2 h3
    refine ⟨hg, h1.trans ?_, h2.trans ?_, h3.trans ?_, (hr c).2.2.2.2⟩
    · funext i
      pointwise [change, newMean, newSquare, Adam.change, Adam.mean, Adam.square]
    · funext i
      pointwise [newMean, Adam.mean]
    · funext i
      pointwise [newSquare, Adam.square]

theorem quiet : quiescent_AdamWInRefIdeal (hAdamWInRefIdeal := AdamWInRefIdeal.Gen.facts) := by
  intro m ρ _
  exact (θ_run _ _ _).mono (fun _ h => ⟨fun c => (h c).2.2.2.2, sem_eq_zero_of_no_sems (by decide) _⟩) (AdamWInRefIdeal.Value.run m ρ)

end Cert.AdamWInIdeal.Result

end
-- ==== Proof.AdamSsmUp.lean ====
/- The optimiser on the weight of the first branch's projection. -/
module

public import proofs.«01_k».proof.Proof.Products
public import proofs.«01_k».proof.Proof.Gen.AdamSsmUpIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamSsmUpIdeal.Result

open Cert.AdamSsmUpIdeal Cert.AdamSsmUpIdeal.Gen

variable (m : (ℓ : Loc nD τ sig) → Buf (Elt Ideal) ℓ)

/-- Contents of the table at which the windows are evaluated: no window's place depends on them. -/
def table : (pcfg0 (F := Ideal)).Adm := ⟨fun | 0 => fun _ => (0#32 : BitVec 32), trivial⟩

theorem covers5 (a : (pcfg0 (F := Ideal)).Adm) : ((cfg0 a).win 5).Covers :=
  show ((cfg0 table).win 5).Covers from by decide +kernel

theorem covers6 (a : (pcfg0 (F := Ideal)).Adm) : ((cfg0 a).win 6).Covers :=
  show ((cfg0 table).win 6).Covers from by decide +kernel

theorem covers7 (a : (pcfg0 (F := Ideal)).Adm) : ((cfg0 a).win 7).Covers :=
  show ((cfg0 table).win 7).Covers from by decide +kernel

theorem covers8 (a : (pcfg0 (F := Ideal)).Adm) : ((cfg0 a).win 8).Covers :=
  show ((cfg0 table).win 8).Covers from by decide +kernel

theorem idx_val : ∀ t : Fin grid0.N, cc0_transform_0 (grid0.coords t) = ![0, t.val, 0] ∧ cc0_transform_1 (grid0.coords t) = ![t.val % 1, 0] ∧ cc0_transform_2 (grid0.coords t) = ![t.val % 1, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] ∧ (grid0.coords t 0).val = t.val / 1 := by decide +kernel

/-- An index of the block of grid point `t`, in the whole array. -/
def place (t : Fin 2) (y : S1x256x1024.Idx) : S1x512x1024.Idx :=
  ix3 0 ⟨t.val * 256 + (y 1).val, by have := (y 1).isLt; have h : (y 1).val < 256 := this; have := t.isLt; omega⟩
    ⟨(y 2).val, by have := (y 2).isLt; have h : (y 2).val < 1024 := this; have := t.isLt; omega⟩

/-- An index of the block of grid point `t`, in the half of the gradient. -/
def within (t : Fin 2) (y : S256x1024.Idx) : S256x1024.Idx :=
  ix2 ⟨t.val % 1 * 256 + (y 0).val, by have := (y 0).isLt; have h : (y 0).val < 256 := this; have := t.isLt; omega⟩ (y 1)

theorem emb0 (hO : Ok m) (t : Fin (cfgM m hO).N) (y : S1x256x1024.Idx) : (((cfgM m hO).win 0).blk t).view.emb y = place t y := by
  have h := (idx_val t).1
  funext a
  fin_cases a
  · exact Fin.ext (by show cc0_transform_0 (grid0.coords t) 0 * 1 + 1 * (y 0).val = 0; have := (y 0).isLt; rw [h]; simp; try omega)
  · exact Fin.ext (by show cc0_transform_0 (grid0.coords t) 1 * 256 + 1 * (y 1).val = t.val * 256 + (y 1).val; rw [h]; simp)
  · exact Fin.ext (by show cc0_transform_0 (grid0.coords t) 2 * 1024 + 1 * (y 2).val = (y 2).val; rw [h]; simp)

theorem emb3 (hO : Ok m) (t : Fin (cfgM m hO).N) (y : S1x256x1024.Idx) : (((cfgM m hO).win 3).blk t).view.emb y = place t y := by
  have h := (idx_val t).2.2.2.1
  funext a
  fin_cases a
  · exact Fin.ext (by show cc0_transform_3 (grid0.coords t) 0 * 1 + 1 * (y 0).val = 0; have := (y 0).isLt; rw [h]; simp; try omega)
  · exact Fin.ext (by show cc0_transform_3 (grid0.coords t) 1 * 256 + 1 * (y 1).val = t.val * 256 + (y 1).val; rw [h]; simp)
  · exact Fin.ext (by show cc0_transform_3 (grid0.coords t) 2 * 1024 + 1 * (y 2).val = (y 2).val; rw [h]; simp)

theorem emb4 (hO : Ok m) (t : Fin (cfgM m hO).N) (y : S1x256x1024.Idx) : (((cfgM m hO).win 4).blk t).view.emb y = place t y := by
  have h := (idx_val t).2.2.2.2.1
  funext a
  fin_cases a
  · exact Fin.ext (by show cc0_transform_4 (grid0.coords t) 0 * 1 + 1 * (y 0).val = 0; have := (y 0).isLt; rw [h]; simp; try omega)
  · exact Fin.ext (by show cc0_transform_4 (grid0.coords t) 1 * 256 + 1 * (y 1).val = t.val * 256 + (y 1).val; rw [h]; simp)
  · exact Fin.ext (by show cc0_transform_4 (grid0.coords t) 2 * 1024 + 1 * (y 2).val = (y 2).val; rw [h]; simp)

theorem emb5 (hO : Ok m) (t : Fin (cfgM m hO).N) (y : S1x256x1024.Idx) : (((cfgM m hO).win 5).blk t).view.emb y = place t y := by
  have h := (idx_val t).2.2.2.2.2.1
  funext a
  fin_cases a
  · exact Fin.ext (by show cc0_transform_5 (grid0.coords t) 0 * 1 + 1 * (y 0).val = 0; have := (y 0).isLt; rw [h]; simp; try omega)
  · exact Fin.ext (by show cc0_transform_5 (grid0.coords t) 1 * 256 + 1 * (y 1).val = t.val * 256 + (y 1).val; rw [h]; simp)
  · exact Fin.ext (by show cc0_transform_5 (grid0.coords t) 2 * 1024 + 1 * (y 2).val = (y 2).val; rw [h]; simp)

theorem emb6 (hO : Ok m) (t : Fin (cfgM m hO).N) (y : S1x256x1024.Idx) : (((cfgM m hO).win 6).blk t).view.emb y = place t y := by
  have h := (idx_val t).2.2.2.2.2.2.1
  funext a
  fin_cases a
  · exact Fin.ext (by show cc0_transform_6 (grid0.coords t) 0 * 1 + 1 * (y 0).val = 0; have := (y 0).isLt; rw [h]; simp; try omega)
  · exact Fin.ext (by show cc0_transform_6 (grid0.coords t) 1 * 256 + 1 * (y 1).val = t.val * 256 + (y 1).val; rw [h]; simp)
  · exact Fin.ext (by show cc0_transform_6 (grid0.coords t) 2 * 1024 + 1 * (y 2).val = (y 2).val; rw [h]; simp)

theorem emb7 (hO : Ok m) (t : Fin (cfgM m hO).N) (y : S1x256x1024.Idx) : (((cfgM m hO).win 7).blk t).view.emb y = place t y := by
  have h := (idx_val t).2.2.2.2.2.2.2.1
  funext a
  fin_cases a
  · exact Fin.ext (by show cc0_transform_7 (grid0.coords t) 0 * 1 + 1 * (y 0).val = 0; have := (y 0).isLt; rw [h]; simp; try omega)
  · exact Fin.ext (by show cc0_transform_7 (grid0.coords t) 1 * 256 + 1 * (y 1).val = t.val * 256 + (y 1).val; rw [h]; simp)
  · exact Fin.ext (by show cc0_transform_7 (grid0.coords t) 2 * 1024 + 1 * (y 2).val = (y 2).val; rw [h]; simp)

theorem emb8 (hO : Ok m) (t : Fin (cfgM m hO).N) (y : S1x256x1024.Idx) : (((cfgM m hO).win 8).blk t).view.emb y = place t y := by
  have h := (idx_val t).2.2.2.2.2.2.2.2.1
  funext a
  fin_cases a
  · exact Fin.ext (by show cc0_transform_8 (grid0.coords t) 0 * 1 + 1 * (y 0).val = 0; have := (y 0).isLt; rw [h]; simp; try omega)
  · exact Fin.ext (by show cc0_transform_8 (grid0.coords t) 1 * 256 + 1 * (y 1).val = t.val * 256 + (y 1).val; rw [h]; simp)
  · exact Fin.ext (by show cc0_transform_8 (grid0.coords t) 2 * 1024 + 1 * (y 2).val = (y 2).val; rw [h]; simp)

theorem block0 (hO : Ok m) (c : Dev nD) (t : Fin (cfgM m hO).N) (y : S1x256x1024.Idx) : iblk m hO c 0 t y = m ((c : Thread nD τ).loc main_arg1) (place t y) :=
  congrArg (m ((c : Thread nD τ).loc main_arg1)) (emb0 m hO t y)

theorem block3 (hO : Ok m) (c : Dev nD) (t : Fin (cfgM m hO).N) (y : S1x256x1024.Idx) : iblk m hO c 3 t y = m ((c : Thread nD τ).loc main_arg4) (place t y) :=
  congrArg (m ((c : Thread nD τ).loc main_arg4)) (emb3 m hO t y)

theorem block4 (hO : Ok m) (c : Dev nD) (t : Fin (cfgM m hO).N) (y : S1x256x1024.Idx) : iblk m hO c 4 t y = m ((c : Thread nD τ).loc main_arg5) (place t y) :=
  congrArg (m ((c : Thread nD τ).loc main_arg5)) (emb4 m hO t y)

theorem block1 (hO : Ok m) (c : Dev nD) (t : Fin (cfgM m hO).N) (y : S256x1024.Idx) : iblk m hO c 1 t y = m ((c : Thread nD τ).loc main_arg2) (within t y) := by
  have h := (idx_val t).2.1
  refine congrArg (m ((c : Thread nD τ).loc main_arg2)) ?_
  funext a
  fin_cases a
  · exact Fin.ext (by show cc0_transform_1 (grid0.coords t) 0 * 256 + 1 * (y 0).val = t.val % 1 * 256 + (y 0).val; rw [h]; simp)
  · exact Fin.ext (by show cc0_transform_1 (grid0.coords t) 1 * 1024 + 1 * (y 1).val = (y 1).val; rw [h]; simp)

theorem block2 (hO : Ok m) (c : Dev nD) (t : Fin (cfgM m hO).N) (y : S256x1024.Idx) : iblk m hO c 2 t y = m ((c : Thread nD τ).loc main_arg3) (within t y) := by
  have h := (idx_val t).2.2.1
  refine congrArg (m ((c : Thread nD τ).loc main_arg3)) ?_
  funext a
  fin_cases a
  · exact Fin.ext (by show cc0_transform_2 (grid0.coords t) 0 * 256 + 1 * (y 0).val = t.val % 1 * 256 + (y 0).val; rw [h]; simp)
  · exact Fin.ext (by show cc0_transform_2 (grid0.coords t) 1 * 1024 + 1 * (y 1).val = (y 1).val; rw [h]; simp)

/-- The word the body reads of the table. -/
theorem word (c : Dev nD) (h) : View.readAt (Elt Ideal) (View.whole main_arg0) (Rect.unit ![0] ![1] inb_S2_S1_0).toLoadRect
    (tbl m 0) (Shape.Idx.first h) = m ((c : Thread nD τ).loc main_arg0) (ix1 0) := by
  obtain rfl : c = 0 := Subsingleton.elim _ _
  refine congrArg (m (((0 : Dev nD) : Thread nD τ).loc main_arg0)) ?_
  funext a
  fin_cases a
  exact Fin.ext (by simp)

theorem choose (u v : BitVec 32) (a b : FVec Ideal S256x1024 .f32) (y : S256x1024.Idx) :
    Scalar.select (Scalar.cmpi .eq u v) a b y = if u = v then a y else b y := by
  by_cases h : u = v
  · rw [if_pos h]
    exact congrFun (if_pos (by simp [Scalar.cmpi, IntOp.cmpi, h])) y
  · rw [if_neg h]
    exact congrFun (if_neg (by simp [Scalar.cmpi, IntOp.cmpi, beq_false_of_ne h])) y

/-- The gradient: the device's own half where the device's place says, the other device's half elsewhere. -/
def grad (p : IVec S2 32) (x y : FVec Ideal S256x1024 .f32) : FVec Ideal S1x512x1024 .f32 :=
  fun i => if BitVec.ofNat 32 ((i 1).val / 256) = p (ix1 0) then x (ix2 ⟨(i 1).val % 256, Nat.mod_lt _ (by decide)⟩ (i 2)) else y (ix2 ⟨(i 1).val % 256, Nat.mod_lt _ (by decide)⟩ (i 2))

/-- The new running mean of the gradient. -/
def newMean (g m : FVec Ideal S1x512x1024 .f32) : FVec Ideal S1x512x1024 .f32 := fun i => Adam.mean (g i) (m i)

/-- The new running mean of the gradient's square. -/
def newSquare (g v : FVec Ideal S1x512x1024 .f32) : FVec Ideal S1x512x1024 .f32 := fun i => Adam.square (g i) (v i)

/-- The change of the weight. -/
def change (w g m v : FVec Ideal S1x512x1024 .f32) : FVec Ideal S1x512x1024 .f32 := fun i => Adam.change (w i) (newMean g m i) (newSquare g v i)

theorem chosen (hO : Ok m) (c : Dev nD) (t : Fin (cfgM m hO).N) (y : S1x256x1024.Idx) (u : BitVec 32) (hu : u = m ((c : Thread nD τ).loc main_arg0) (ix1 0))
    (a b : FVec Ideal S256x1024 .f32) (ha : a = iblk m hO c 1 t) (hb : b = iblk m hO c 2 t) :
    k0_pay5 (F := Ideal) (grid0.coords t) u a b (ix2 (y 1) (y 2)) = grad (m ((c : Thread nD τ).loc main_arg0)) (m ((c : Thread nD τ).loc main_arg2)) (m ((c : Thread nD τ).loc main_arg3)) (place t y) := by
  subst ha hb
  have hc := (idx_val t).2.2.2.2.2.2.2.2.2
  have h1 : (y 1).val < 256 := (y 1).isLt
  have h2 : (y 2).val < 1024 := (y 2).isLt
  have ht : t.val < 2 := t.isLt
  have w : within t (ix2 (y 1) (y 2)) = (ix2 ⟨((place t y) 1).val % 256, Nat.mod_lt _ (by decide)⟩ ((place t y) 2)) := by
    funext a
    fin_cases a
    · exact Fin.ext (by simp only [within, place]; first | rfl | (show t.val % 1 * 256 + (y 1).val = (t.val * 256 + (y 1).val) % 256; omega))
    · exact Fin.ext (by first | rfl | (show (y 2).val = ((y 2).val) % 1024; omega))
  have e : BitVec.ofNat 32 (grid0.coords t 0).val = BitVec.ofNat 32 (((place t y) 1).val / 256) := by
    rw [hc]; congr 1
    show t.val / 1 = (t.val * 256 + (y 1).val) / 256; omega
  refine (choose _ _ _ _ _).trans ?_
  unfold grad
  rw [e, hu]
  by_cases hp : BitVec.ofNat 32 (((place t y) 1).val / 256) = m ((c : Thread nD τ).loc main_arg0) (ix1 0)
  · exact (if_pos hp).trans (((block1 m hO c t _).trans (congrArg _ w)).trans (if_pos hp).symm)
  · exact (if_neg hp).trans (((block2 m hO c t _).trans (congrArg _ w)).trans (if_neg hp).symm)

theorem pay_grad (g : FVec Ideal S256x1024 .f32) (y : S1x256x1024.Idx) : k0_pay1 (F := Ideal) g y = g (ix2 (y 1) (y 2)) := by pointwise [k0_pay1]

theorem pay_mean (i : grid0.Coords) (u : BitVec 32) (a b : FVec Ideal S256x1024 .f32) (x : FVec Ideal S1x256x1024 .f32) (y : S1x256x1024.Idx) :
    k0_pay3 (k0_pay6 (F := Ideal) i u a b x) y = Adam.mean (k0_pay5 (F := Ideal) i u a b (ix2 (y 1) (y 2))) (x y) := by
  pointwise [k0_pay3, k0_pay6, Adam.mean]

theorem pay_square (i : grid0.Coords) (u : BitVec 32) (a b : FVec Ideal S256x1024 .f32) (x : FVec Ideal S1x256x1024 .f32) (y : S1x256x1024.Idx) :
    k0_pay4 (k0_pay7 (F := Ideal) i u a b x) y = Adam.square (k0_pay5 (F := Ideal) i u a b (ix2 (y 1) (y 2))) (x y) := by
  pointwise [k0_pay4, k0_pay7, Adam.square]

theorem pay_change (i : grid0.Coords) (u : BitVec 32) (a b : FVec Ideal S256x1024 .f32) (w x z : FVec Ideal S1x256x1024 .f32) (y : S1x256x1024.Idx) :
    k0_pay2 (k0_pay8 (F := Ideal) i u a b w x z) y = Adam.change (w y) (Adam.mean (k0_pay5 (F := Ideal) i u a b (ix2 (y 1) (y 2))) (x y))
      (Adam.square (k0_pay5 (F := Ideal) i u a b (ix2 (y 1) (y 2))) (z y)) := by
  pointwise [k0_pay2, k0_pay6, k0_pay7, k0_pay8, Adam.change, Adam.mean, Adam.square]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_grad (hO : Ok m) (c : Dev nD) : (dats m hO 0 c).arrAt 5 (cfgM m hO).N = grad (m ((c : Thread nD τ).loc main_arg0)) (m ((c : Thread nD τ).loc main_arg2)) (m ((c : Thread nD τ).loc main_arg3)) := by
  refine (dats m hO 0 c).arrAt_eq_of_covers 5 _ (covers5 _) fun t hf y => ?_
  rw [emb5 m hO t y]
  blk_simp; rw [after0_5]; unfold outsAt0; dsimp only; frame_out
  exact (pay_grad _ y).trans (chosen m hO c t y _ (word m c _) _ _ (back _ _) (back _ _))

theorem final_change (hO : Ok m) (c : Dev nD) : (dats m hO 0 c).arrAt 6 (cfgM m hO).N = change (m ((c : Thread nD τ).loc main_arg1)) (grad (m ((c : Thread nD τ).loc main_arg0)) (m ((c : Thread nD τ).loc main_arg2)) (m ((c : Thread nD τ).loc main_arg3))) (m ((c : Thread nD τ).loc main_arg4)) (m ((c : Thread nD τ).loc main_arg5)) := by
  refine (dats m hO 0 c).arrAt_eq_of_covers 6 _ (covers6 _) fun t hf y => ?_
  rw [emb6 m hO t y]
  blk_simp; rw [after0_6]; unfold outsAt0; dsimp only; frame_out
  refine (pay_change _ _ _ _ _ _ _ y).trans ?_
  exact congr (congr (congrArg Adam.change ((congrFun (back _ _) y).trans (block0 m hO c t y))) (congr (congrArg Adam.mean (chosen m hO c t y _ (word m c _) _ _ (back _ _) (back _ _))) ((congrFun (back _ _) y).trans (block3 m hO c t y)))) (congr (congrArg Adam.square (chosen m hO c t y _ (word m c _) _ _ (back _ _) (back _ _))) ((congrFun (back _ _) y).trans (block4 m hO c t y)))

theorem final_mean (hO : Ok m) (c : Dev nD) : (dats m hO 0 c).arrAt 7 (cfgM m hO).N = newMean (grad (m ((c : Thread nD τ).loc main_arg0)) (m ((c : Thread nD τ).loc main_arg2)) (m ((c : Thread nD τ).loc main_arg3))) (m ((c : Thread nD τ).loc main_arg4)) := by
  refine (dats m hO 0 c).arrAt_eq_of_covers 7 _ (covers7 _) fun t hf y => ?_
  rw [emb7 m hO t y]
  blk_simp; rw [after0_7]; unfold outsAt0; dsimp only; frame_out
  exact (pay_mean _ _ _ _ _ y).trans (congr (congrArg Adam.mean (chosen m hO c t y _ (word m c _) _ _ (back _ _) (back _ _))) ((congrFun (back _ _) y).trans (block3 m hO c t y)))

theorem final_square (hO : Ok m) (c : Dev nD) : (dats m hO 0 c).arrAt 8 (cfgM m hO).N = newSquare (grad (m ((c : Thread nD τ).loc main_arg0)) (m ((c : Thread nD τ).loc main_arg2)) (m ((c : Thread nD τ).loc main_arg3))) (m ((c : Thread nD τ).loc main_arg5)) := by
  refine (dats m hO 0 c).arrAt_eq_of_covers 8 _ (covers8 _) fun t hf y => ?_
  rw [emb8 m hO t y]
  blk_simp; rw [after0_8]; unfold outsAt0; dsimp only; frame_out
  exact (pay_square _ _ _ _ _ y).trans (congr (congrArg Adam.square (chosen m hO c t y _ (word m c _) _ _ (back _ _) (back _ _))) ((congrFun (back _ _) y).trans (block4 m hO c t y)))

end Cert.AdamSsmUpIdeal.Result

end
-- ==== Proof.AdamSsmUpAgrees.lean ====
/- The call and its reference end with the same results: AdamSsmUp. -/
module

public import proofs.«01_k».proof.Defs
public import proofs.«01_k».proof.Proof.Gen.AdamSsmUpRefIdeal
public import proofs.«01_k».proof.Proof.Gen.AdamSsmUpRefIdeal.Run
public import proofs.«01_k».proof.Proof.Gen.AdamSsmUpIdeal
public import proofs.«01_k».proof.Proof.AdamSsmUp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AdamSsmUpIdeal.Result

open Cert.AdamSsmUpIdeal Cert.AdamSsmUpIdeal.Gen

theorem agree : algebraic_AdamSsmUpIdeal_AdamSsmUpRefIdeal (hAdamSsmUpIdeal := AdamSsmUpIdeal.Gen.facts) (hAdamSsmUpRefIdeal := AdamSsmUpRefIdeal.Gen.facts) := by
  intro m g m' g' hpre hagree
  refine ⟨fun c => grad (m (c.tc.loc AdamSsmUpIdeal.main_arg0)) (m (c.tc.loc AdamSsmUpIdeal.main_arg2)) (m (c.tc.loc AdamSsmUpIdeal.main_arg3)), fun c => change (m (c.tc.loc AdamSsmUpIdeal.main_arg1)) (grad (m (c.tc.loc AdamSsmUpIdeal.main_arg0)) (m (c.tc.loc AdamSsmUpIdeal.main_arg2)) (m (c.tc.loc AdamSsmUpIdeal.main_arg3))) (m (c.tc.loc AdamSsmUpIdeal.main_arg4)) (m (c.tc.loc AdamSsmUpIdeal.main_arg5)), fun c => newMean (grad (m (c.tc.loc AdamSsmUpIdeal.main_arg0)) (m (c.tc.loc AdamSsmUpIdeal.main_arg2)) (m (c.tc.loc AdamSsmUpIdeal.main_arg3))) (m (c.tc.loc AdamSsmUpIdeal.main_arg4)), fun c => newSquare (grad (m (c.tc.loc AdamSsmUpIdeal.main_arg0)) (m (c.tc.loc AdamSsmUpIdeal.main_arg2)) (m (c.tc.loc AdamSsmUpIdeal.main_arg3))) (m (c.tc.loc AdamSsmUpIdeal.main_arg5)), ?_, ?_⟩
  · refine θ_run_mono (run_main m g trivial) ?_
    intro r h c
    exact ⟨((h c).1 5).trans (final_grad m trivial c), ((h c).1 6).trans (final_change m trivial c),
      ((h c).1 7).trans (final_mean m trivial c), ((h c).1 8).trans (final_square m trivial c),
      ((h c).2 main_arg0 (by decide : main_arg0 ∈ Pipeline.restRefs sig spec0)).trans (V_main_arg0 m c),
      ((h c).1 0).trans (((dats m trivial 0 c).arrAt_in 0 rfl _).trans ((A_eq m trivial c 0).trans (V_main_arg1 m c))),
      ((h c).1 1).trans (((dats m trivial 0 c).arrAt_in 1 rfl _).trans ((A_eq m trivial c 1).trans (V_main_arg2 m c))),
      ((h c).1 2).trans (((dats m trivial 0 c).arrAt_in 2 rfl _).trans ((A_eq m trivial c 2).trans (V_main_arg3 m c))),
      ((h c).1 3).trans (((dats m trivial 0 c).arrAt_in 3 rfl _).trans ((A_eq m trivial c 3).trans (V_main_arg4 m c))),
      ((h c).1 4).trans (((dats m trivial 0 c).arrAt_in 4 rfl _).trans ((A_eq m trivial c 4).trans (V_main_arg5 m c)))⟩
  · refine θ_run_mono (AdamSsmUpRefIdeal.Value.run m' g') ?_
    intro r hr c
    have H := hr c
    obtain ⟨a0, a1, a2, a3, a4, a5⟩ := hagree c
    rw [a0, a1, a2, a3, a4, a5] at H
    obtain ⟨h0, h1, h2, h3, _⟩ := H
    have hg := h0.trans (show _ = grad (m (c.tc.loc AdamSsmUpIdeal.main_arg0)) (m (c.tc.loc AdamSsmUpIdeal.main_arg2)) (m (c.tc.loc AdamSsmUpIdeal.main_arg3)) from by
      funext i
      pointwise [grad]
      exact Adam.half (by decide) (i 1).isLt ((m (c.tc.loc AdamSsmUpIdeal.main_arg0)) (ix1 0)) (fun k => (m (c.tc.loc AdamSsmUpIdeal.main_arg2)) (ix2 k (i 2))) (fun k => (m (c.tc.loc AdamSsmUpIdeal.main_arg3)) (ix2 k (i 2))))
    rw [← h0, hg] at h1 h2 h3
    refine ⟨hg, h1.trans ?_, h2.trans ?_, h3.trans ?_, (hr c).2.2.2.2⟩
    · funext i
      pointwise [change, newMean, newSquare, Adam.change, Adam.mean, Adam.square]
    · funext i
      pointwise [newMean, Adam.mean]
    · funext i
      pointwise [newSquare, Adam.square]

theorem quiet : quiescent_AdamSsmUpRefIdeal (hAdamSsmUpRefIdeal := AdamSsmUpRefIdeal.Gen.facts) := by
  intro m ρ _
  exact (θ_run _ _ _).mono (fun _ h => ⟨fun c => (h c).2.2.2.2, sem_eq_zero_of_no_sems (by decide) _⟩) (AdamSsmUpRefIdeal.Value.run m ρ)

end Cert.AdamSsmUpIdeal.Result

end
-- ==== Proof.AdamGdnUp.lean ====
/- The optimiser on the weight of the second branch's projection. -/
module

public import proofs.«01_k».proof.Proof.Products
public import proofs.«01_k».proof.Proof.Gen.AdamGdnUpIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamGdnUpIdeal.Result

open Cert.AdamGdnUpIdeal Cert.AdamGdnUpIdeal.Gen

variable (m : (ℓ : Loc nD τ sig) → Buf (Elt Ideal) ℓ)

/-- Contents of the table at which the windows are evaluated: no window's place depends on them. -/
def table : (pcfg0 (F := Ideal)).Adm := ⟨fun | 0 => fun _ => (0#32 : BitVec 32), trivial⟩

theorem covers5 (a : (pcfg0 (F := Ideal)).Adm) : ((cfg0 a).win 5).Covers :=
  show ((cfg0 table).win 5).Covers from by decide +kernel

theorem covers6 (a : (pcfg0 (F := Ideal)).Adm) : ((cfg0 a).win 6).Covers :=
  show ((cfg0 table).win 6).Covers from by decide +kernel

theorem covers7 (a : (pcfg0 (F := Ideal)).Adm) : ((cfg0 a).win 7).Covers :=
  show ((cfg0 table).win 7).Covers from by decide +kernel

theorem covers8 (a : (pcfg0 (F := Ideal)).Adm) : ((cfg0 a).win 8).Covers :=
  show ((cfg0 table).win 8).Covers from by decide +kernel

theorem idx_val : ∀ t : Fin grid0.N, cc0_transform_0 (grid0.coords t) = ![0, t.val, 0] ∧ cc0_transform_1 (grid0.coords t) = ![t.val % 1, 0] ∧ cc0_transform_2 (grid0.coords t) = ![t.val % 1, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] ∧ (grid0.coords t 0).val = t.val / 1 := by decide +kernel

/-- An index of the block of grid point `t`, in the whole array. -/
def place (t : Fin 2) (y : S1x256x1024.Idx) : S1x512x1024.Idx :=
  ix3 0 ⟨t.val * 256 + (y 1).val, by have := (y 1).isLt; have h : (y 1).val < 256 := this; have := t.isLt; omega⟩
    ⟨(y 2).val, by have := (y 2).isLt; have h : (y 2).val < 1024 := this; have := t.isLt; omega⟩

/-- An index of the block of grid point `t`, in the half of the gradient. -/
def within (t : Fin 2) (y : S256x1024.Idx) : S256x1024.Idx :=
  ix2 ⟨t.val % 1 * 256 + (y 0).val, by have := (y 0).isLt; have h : (y 0).val < 256 := this; have := t.isLt; omega⟩ (y 1)

theorem emb0 (hO : Ok m) (t : Fin (cfgM m hO).N) (y : S1x256x1024.Idx) : (((cfgM m hO).win 0).blk t).view.emb y = place t y := by
  have h := (idx_val t).1
  funext a
  fin_cases a
  · exact Fin.ext (by show cc0_transform_0 (grid0.coords t) 0 * 1 + 1 * (y 0).val = 0; have := (y 0).isLt; rw [h]; simp; try omega)
  · exact Fin.ext (by show cc0_transform_0 (grid0.coords t) 1 * 256 + 1 * (y 1).val = t.val * 256 + (y 1).val; rw [h]; simp)
  · exact Fin.ext (by show cc0_transform_0 (grid0.coords t) 2 * 1024 + 1 * (y 2).val = (y 2).val; rw [h]; simp)

theorem emb3 (hO : Ok m) (t : Fin (cfgM m hO).N) (y : S1x256x1024.Idx) : (((cfgM m hO).win 3).blk t).view.emb y = place t y := by
  have h := (idx_val t).2.2.2.1
  funext a
  fin_cases a
  · exact Fin.ext (by show cc0_transform_3 (grid0.coords t) 0 * 1 + 1 * (y 0).val = 0; have := (y 0).isLt; rw [h]; simp; try omega)
  · exact Fin.ext (by show cc0_transform_3 (grid0.coords t) 1 * 256 + 1 * (y 1).val = t.val * 256 + (y 1).val; rw [h]; simp)
  · exact Fin.ext (by show cc0_transform_3 (grid0.coords t) 2 * 1024 + 1 * (y 2).val = (y 2).val; rw [h]; simp)

theorem emb4 (hO : Ok m) (t : Fin (cfgM m hO).N) (y : S1x256x1024.Idx) : (((cfgM m hO).win 4).blk t).view.emb y = place t y := by
  have h := (idx_val t).2.2.2.2.1
  funext a
  fin_cases a
  · exact Fin.ext (by show cc0_transform_4 (grid0.coords t) 0 * 1 + 1 * (y 0).val = 0; have := (y 0).isLt; rw [h]; simp; try omega)
  · exact Fin.ext (by show cc0_transform_4 (grid0.coords t) 1 * 256 + 1 * (y 1).val = t.val * 256 + (y 1).val; rw [h]; simp)
  · exact Fin.ext (by show cc0_transform_4 (grid0.coords t) 2 * 1024 + 1 * (y 2).val = (y 2).val; rw [h]; simp)

theorem emb5 (hO : Ok m) (t : Fin (cfgM m hO).N) (y : S1x256x1024.Idx) : (((cfgM m hO).win 5).blk t).view.emb y = place t y := by
  have h := (idx_val t).2.2.2.2.2.1
  funext a
  fin_cases a
  · exact Fin.ext (by show cc0_transform_5 (grid0.coords t) 0 * 1 + 1 * (y 0).val = 0; have := (y 0).isLt; rw [h]; simp; try omega)
  · exact Fin.ext (by show cc0_transform_5 (grid0.coords t) 1 * 256 + 1 * (y 1).val = t.val * 256 + (y 1).val; rw [h]; simp)
  · exact Fin.ext (by show cc0_transform_5 (grid0.coords t) 2 * 1024 + 1 * (y 2).val = (y 2).val; rw [h]; simp)

theorem emb6 (hO : Ok m) (t : Fin (cfgM m hO).N) (y : S1x256x1024.Idx) : (((cfgM m hO).win 6).blk t).view.emb y = place t y := by
  have h := (idx_val t).2.2.2.2.2.2.1
  funext a
  fin_cases a
  · exact Fin.ext (by show cc0_transform_6 (grid0.coords t) 0 * 1 + 1 * (y 0).val = 0; have := (y 0).isLt; rw [h]; simp; try omega)
  · exact Fin.ext (by show cc0_transform_6 (grid0.coords t) 1 * 256 + 1 * (y 1).val = t.val * 256 + (y 1).val; rw [h]; simp)
  · exact Fin.ext (by show cc0_transform_6 (grid0.coords t) 2 * 1024 + 1 * (y 2).val = (y 2).val; rw [h]; simp)

theorem emb7 (hO : Ok m) (t : Fin (cfgM m hO).N) (y : S1x256x1024.Idx) : (((cfgM m hO).win 7).blk t).view.emb y = place t y := by
  have h := (idx_val t).2.2.2.2.2.2.2.1
  funext a
  fin_cases a
  · exact Fin.ext (by show cc0_transform_7 (grid0.coords t) 0 * 1 + 1 * (y 0).val = 0; have := (y 0).isLt; rw [h]; simp; try omega)
  · exact Fin.ext (by show cc0_transform_7 (grid0.coords t) 1 * 256 + 1 * (y 1).val = t.val * 256 + (y 1).val; rw [h]; simp)
  · exact Fin.ext (by show cc0_transform_7 (grid0.coords t) 2 * 1024 + 1 * (y 2).val = (y 2).val; rw [h]; simp)

theorem emb8 (hO : Ok m) (t : Fin (cfgM m hO).N) (y : S1x256x1024.Idx) : (((cfgM m hO).win 8).blk t).view.emb y = place t y := by
  have h := (idx_val t).2.2.2.2.2.2.2.2.1
  funext a
  fin_cases a
  · exact Fin.ext (by show cc0_transform_8 (grid0.coords t) 0 * 1 + 1 * (y 0).val = 0; have := (y 0).isLt; rw [h]; simp; try omega)
  · exact Fin.ext (by show cc0_transform_8 (grid0.coords t) 1 * 256 + 1 * (y 1).val = t.val * 256 + (y 1).val; rw [h]; simp)
  · exact Fin.ext (by show cc0_transform_8 (grid0.coords t) 2 * 1024 + 1 * (y 2).val = (y 2).val; rw [h]; simp)

theorem block0 (hO : Ok m) (c : Dev nD) (t : Fin (cfgM m hO).N) (y : S1x256x1024.Idx) : iblk m hO c 0 t y = m ((c : Thread nD τ).loc main_arg1) (place t y) :=
  congrArg (m ((c : Thread nD τ).loc main_arg1)) (emb0 m hO t y)

theorem block3 (hO : Ok m) (c : Dev nD) (t : Fin (cfgM m hO).N) (y : S1x256x1024.Idx) : iblk m hO c 3 t y = m ((c : Thread nD τ).loc main_arg4) (place t y) :=
  congrArg (m ((c : Thread nD τ).loc main_arg4)) (emb3 m hO t y)

theorem block4 (hO : Ok m) (c : Dev nD) (t : Fin (cfgM m hO).N) (y : S1x256x1024.Idx) : iblk m hO c 4 t y = m ((c : Thread nD τ).loc main_arg5) (place t y) :=
  congrArg (m ((c : Thread nD τ).loc main_arg5)) (emb4 m hO t y)

theorem block1 (hO : Ok m) (c : Dev nD) (t : Fin (cfgM m hO).N) (y : S256x1024.Idx) : iblk m hO c 1 t y = m ((c : Thread nD τ).loc main_arg2) (within t y) := by
  have h := (idx_val t).2.1
  refine congrArg (m ((c : Thread nD τ).loc main_arg2)) ?_
  funext a
  fin_cases a
  · exact Fin.ext (by show cc0_transform_1 (grid0.coords t) 0 * 256 + 1 * (y 0).val = t.val % 1 * 256 + (y 0).val; rw [h]; simp)
  · exact Fin.ext (by show cc0_transform_1 (grid0.coords t) 1 * 1024 + 1 * (y 1).val = (y 1).val; rw [h]; simp)

theorem block2 (hO : Ok m) (c : Dev nD) (t : Fin (cfgM m hO).N) (y : S256x1024.Idx) : iblk m hO c 2 t y = m ((c : Thread nD τ).loc main_arg3) (within t y) := by
  have h := (idx_val t).2.2.1
  refine congrArg (m ((c : Thread nD τ).loc main_arg3)) ?_
  funext a
  fin_cases a
  · exact Fin.ext (by show cc0_transform_2 (grid0.coords t) 0 * 256 + 1 * (y 0).val = t.val % 1 * 256 + (y 0).val; rw [h]; simp)
  · exact Fin.ext (by show cc0_transform_2 (grid0.coords t) 1 * 1024 + 1 * (y 1).val = (y 1).val; rw [h]; simp)

/-- The word the body reads of the table. -/
theorem word (c : Dev nD) (h) : View.readAt (Elt Ideal) (View.whole main_arg0) (Rect.unit ![0] ![1] inb_S2_S1_0).toLoadRect
    (tbl m 0) (Shape.Idx.first h) = m ((c : Thread nD τ).loc main_arg0) (ix1 0) := by
  obtain rfl : c = 0 := Subsingleton.elim _ _
  refine congrArg (m (((0 : Dev nD) : Thread nD τ).loc main_arg0)) ?_
  funext a
  fin_cases a
  exact Fin.ext (by simp)

theorem choose (u v : BitVec 32) (a b : FVec Ideal S256x1024 .f32) (y : S256x1024.Idx) :
    Scalar.select (Scalar.cmpi .eq u v) a b y = if u = v then a y else b y := by
  by_cases h : u = v
  · rw [if_pos h]
    exact congrFun (if_pos (by simp [Scalar.cmpi, IntOp.cmpi, h])) y
  · rw [if_neg h]
    exact congrFun (if_neg (by simp [Scalar.cmpi, IntOp.cmpi, beq_false_of_ne h])) y

/-- The gradient: the device's own half where the device's place says, the other device's half elsewhere. -/
def grad (p : IVec S2 32) (x y : FVec Ideal S256x1024 .f32) : FVec Ideal S1x512x1024 .f32 :=
  fun i => if BitVec.ofNat 32 ((i 1).val / 256) = p (ix1 0) then x (ix2 ⟨(i 1).val % 256, Nat.mod_lt _ (by decide)⟩ (i 2)) else y (ix2 ⟨(i 1).val % 256, Nat.mod_lt _ (by decide)⟩ (i 2))

/-- The new running mean of the gradient. -/
def newMean (g m : FVec Ideal S1x512x1024 .f32) : FVec Ideal S1x512x1024 .f32 := fun i => Adam.mean (g i) (m i)

/-- The new running mean of the gradient's square. -/
def newSquare (g v : FVec Ideal S1x512x1024 .f32) : FVec Ideal S1x512x1024 .f32 := fun i => Adam.square (g i) (v i)

/-- The change of the weight. -/
def change (w g m v : FVec Ideal S1x512x1024 .f32) : FVec Ideal S1x512x1024 .f32 := fun i => Adam.change (w i) (newMean g m i) (newSquare g v i)

theorem chosen (hO : Ok m) (c : Dev nD) (t : Fin (cfgM m hO).N) (y : S1x256x1024.Idx) (u : BitVec 32) (hu : u = m ((c : Thread nD τ).loc main_arg0) (ix1 0))
    (a b : FVec Ideal S256x1024 .f32) (ha : a = iblk m hO c 1 t) (hb : b = iblk m hO c 2 t) :
    k0_pay5 (F := Ideal) (grid0.coords t) u a b (ix2 (y 1) (y 2)) = grad (m ((c : Thread nD τ).loc main_arg0)) (m ((c : Thread nD τ).loc main_arg2)) (m ((c : Thread nD τ).loc main_arg3)) (place t y) := by
  subst ha hb
  have hc := (idx_val t).2.2.2.2.2.2.2.2.2
  have h1 : (y 1).val < 256 := (y 1).isLt
  have h2 : (y 2).val < 1024 := (y 2).isLt
  have ht : t.val < 2 := t.isLt
  have w : within t (ix2 (y 1) (y 2)) = (ix2 ⟨((place t y) 1).val % 256, Nat.mod_lt _ (by decide)⟩ ((place t y) 2)) := by
    funext a
    fin_cases a
    · exact Fin.ext (by simp only [within, place]; first | rfl | (show t.val % 1 * 256 + (y 1).val = (t.val * 256 + (y 1).val) % 256; omega))
    · exact Fin.ext (by first | rfl | (show (y 2).val = ((y 2).val) % 1024; omega))
  have e : BitVec.ofNat 32 (grid0.coords t 0).val = BitVec.ofNat 32 (((place t y) 1).val / 256) := by
    rw [hc]; congr 1
    show t.val / 1 = (t.val * 256 + (y 1).val) / 256; omega
  refine (choose _ _ _ _ _).trans ?_
  unfold grad
  rw [e, hu]
  by_cases hp : BitVec.ofNat 32 (((place t y) 1).val / 256) = m ((c : Thread nD τ).loc main_arg0) (ix1 0)
  · exact (if_pos hp).trans (((block1 m hO c t _).trans (congrArg _ w)).trans (if_pos hp).symm)
  · exact (if_neg hp).trans (((block2 m hO c t _).trans (congrArg _ w)).trans (if_neg hp).symm)

theorem pay_grad (g : FVec Ideal S256x1024 .f32) (y : S1x256x1024.Idx) : k0_pay1 (F := Ideal) g y = g (ix2 (y 1) (y 2)) := by pointwise [k0_pay1]

theorem pay_mean (i : grid0.Coords) (u : BitVec 32) (a b : FVec Ideal S256x1024 .f32) (x : FVec Ideal S1x256x1024 .f32) (y : S1x256x1024.Idx) :
    k0_pay3 (k0_pay6 (F := Ideal) i u a b x) y = Adam.mean (k0_pay5 (F := Ideal) i u a b (ix2 (y 1) (y 2))) (x y) := by
  pointwise [k0_pay3, k0_pay6, Adam.mean]

theorem pay_square (i : grid0.Coords) (u : BitVec 32) (a b : FVec Ideal S256x1024 .f32) (x : FVec Ideal S1x256x1024 .f32) (y : S1x256x1024.Idx) :
    k0_pay4 (k0_pay7 (F := Ideal) i u a b x) y = Adam.square (k0_pay5 (F := Ideal) i u a b (ix2 (y 1) (y 2))) (x y) := by
  pointwise [k0_pay4, k0_pay7, Adam.square]

theorem pay_change (i : grid0.Coords) (u : BitVec 32) (a b : FVec Ideal S256x1024 .f32) (w x z : FVec Ideal S1x256x1024 .f32) (y : S1x256x1024.Idx) :
    k0_pay2 (k0_pay8 (F := Ideal) i u a b w x z) y = Adam.change (w y) (Adam.mean (k0_pay5 (F := Ideal) i u a b (ix2 (y 1) (y 2))) (x y))
      (Adam.square (k0_pay5 (F := Ideal) i u a b (ix2 (y 1) (y 2))) (z y)) := by
  pointwise [k0_pay2, k0_pay6, k0_pay7, k0_pay8, Adam.change, Adam.mean, Adam.square]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_grad (hO : Ok m) (c : Dev nD) : (dats m hO 0 c).arrAt 5 (cfgM m hO).N = grad (m ((c : Thread nD τ).loc main_arg0)) (m ((c : Thread nD τ).loc main_arg2)) (m ((c : Thread nD τ).loc main_arg3)) := by
  refine (dats m hO 0 c).arrAt_eq_of_covers 5 _ (covers5 _) fun t hf y => ?_
  rw [emb5 m hO t y]
  blk_simp; rw [after0_5]; unfold outsAt0; dsimp only; frame_out
  exact (pay_grad _ y).trans (chosen m hO c t y _ (word m c _) _ _ (back _ _) (back _ _))

theorem final_change (hO : Ok m) (c : Dev nD) : (dats m hO 0 c).arrAt 6 (cfgM m hO).N = change (m ((c : Thread nD τ).loc main_arg1)) (grad (m ((c : Thread nD τ).loc main_arg0)) (m ((c : Thread nD τ).loc main_arg2)) (m ((c : Thread nD τ).loc main_arg3))) (m ((c : Thread nD τ).loc main_arg4)) (m ((c : Thread nD τ).loc main_arg5)) := by
  refine (dats m hO 0 c).arrAt_eq_of_covers 6 _ (covers6 _) fun t hf y => ?_
  rw [emb6 m hO t y]
  blk_simp; rw [after0_6]; unfold outsAt0; dsimp only; frame_out
  refine (pay_change _ _ _ _ _ _ _ y).trans ?_
  exact congr (congr (congrArg Adam.change ((congrFun (back _ _) y).trans (block0 m hO c t y))) (congr (congrArg Adam.mean (chosen m hO c t y _ (word m c _) _ _ (back _ _) (back _ _))) ((congrFun (back _ _) y).trans (block3 m hO c t y)))) (congr (congrArg Adam.square (chosen m hO c t y _ (word m c _) _ _ (back _ _) (back _ _))) ((congrFun (back _ _) y).trans (block4 m hO c t y)))

theorem final_mean (hO : Ok m) (c : Dev nD) : (dats m hO 0 c).arrAt 7 (cfgM m hO).N = newMean (grad (m ((c : Thread nD τ).loc main_arg0)) (m ((c : Thread nD τ).loc main_arg2)) (m ((c : Thread nD τ).loc main_arg3))) (m ((c : Thread nD τ).loc main_arg4)) := by
  refine (dats m hO 0 c).arrAt_eq_of_covers 7 _ (covers7 _) fun t hf y => ?_
  rw [emb7 m hO t y]
  blk_simp; rw [after0_7]; unfold outsAt0; dsimp only; frame_out
  exact (pay_mean _ _ _ _ _ y).trans (congr (congrArg Adam.mean (chosen m hO c t y _ (word m c _) _ _ (back _ _) (back _ _))) ((congrFun (back _ _) y).trans (block3 m hO c t y)))

theorem final_square (hO : Ok m) (c : Dev nD) : (dats m hO 0 c).arrAt 8 (cfgM m hO).N = newSquare (grad (m ((c : Thread nD τ).loc main_arg0)) (m ((c : Thread nD τ).loc main_arg2)) (m ((c : Thread nD τ).loc main_arg3))) (m ((c : Thread nD τ).loc main_arg5)) := by
  refine (dats m hO 0 c).arrAt_eq_of_covers 8 _ (covers8 _) fun t hf y => ?_
  rw [emb8 m hO t y]
  blk_simp; rw [after0_8]; unfold outsAt0; dsimp only; frame_out
  exact (pay_square _ _ _ _ _ y).trans (congr (congrArg Adam.square (chosen m hO c t y _ (word m c _) _ _ (back _ _) (back _ _))) ((congrFun (back _ _) y).trans (block4 m hO c t y)))

end Cert.AdamGdnUpIdeal.Result

end
-- ==== Proof.AdamGdnUpAgrees.lean ====
/- The call and its reference end with the same results: AdamGdnUp. -/
module

public import proofs.«01_k».proof.Defs
public import proofs.«01_k».proof.Proof.Gen.AdamGdnUpRefIdeal
public import proofs.«01_k».proof.Proof.Gen.AdamGdnUpRefIdeal.Run
public import proofs.«01_k».proof.Proof.Gen.AdamGdnUpIdeal
public import proofs.«01_k».proof.Proof.AdamGdnUp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AdamGdnUpIdeal.Result

open Cert.AdamGdnUpIdeal Cert.AdamGdnUpIdeal.Gen

theorem agree : algebraic_AdamGdnUpIdeal_AdamGdnUpRefIdeal (hAdamGdnUpIdeal := AdamGdnUpIdeal.Gen.facts) (hAdamGdnUpRefIdeal := AdamGdnUpRefIdeal.Gen.facts) := by
  intro m g m' g' hpre hagree
  refine ⟨fun c => grad (m (c.tc.loc AdamGdnUpIdeal.main_arg0)) (m (c.tc.loc AdamGdnUpIdeal.main_arg2)) (m (c.tc.loc AdamGdnUpIdeal.main_arg3)), fun c => change (m (c.tc.loc AdamGdnUpIdeal.main_arg1)) (grad (m (c.tc.loc AdamGdnUpIdeal.main_arg0)) (m (c.tc.loc AdamGdnUpIdeal.main_arg2)) (m (c.tc.loc AdamGdnUpIdeal.main_arg3))) (m (c.tc.loc AdamGdnUpIdeal.main_arg4)) (m (c.tc.loc AdamGdnUpIdeal.main_arg5)), fun c => newMean (grad (m (c.tc.loc AdamGdnUpIdeal.main_arg0)) (m (c.tc.loc AdamGdnUpIdeal.main_arg2)) (m (c.tc.loc AdamGdnUpIdeal.main_arg3))) (m (c.tc.loc AdamGdnUpIdeal.main_arg4)), fun c => newSquare (grad (m (c.tc.loc AdamGdnUpIdeal.main_arg0)) (m (c.tc.loc AdamGdnUpIdeal.main_arg2)) (m (c.tc.loc AdamGdnUpIdeal.main_arg3))) (m (c.tc.loc AdamGdnUpIdeal.main_arg5)), ?_, ?_⟩
  · refine θ_run_mono (run_main m g trivial) ?_
    intro r h c
    exact ⟨((h c).1 5).trans (final_grad m trivial c), ((h c).1 6).trans (final_change m trivial c),
      ((h c).1 7).trans (final_mean m trivial c), ((h c).1 8).trans (final_square m trivial c),
      ((h c).2 main_arg0 (by decide : main_arg0 ∈ Pipeline.restRefs sig spec0)).trans (V_main_arg0 m c),
      ((h c).1 0).trans (((dats m trivial 0 c).arrAt_in 0 rfl _).trans ((A_eq m trivial c 0).trans (V_main_arg1 m c))),
      ((h c).1 1).trans (((dats m trivial 0 c).arrAt_in 1 rfl _).trans ((A_eq m trivial c 1).trans (V_main_arg2 m c))),
      ((h c).1 2).trans (((dats m trivial 0 c).arrAt_in 2 rfl _).trans ((A_eq m trivial c 2).trans (V_main_arg3 m c))),
      ((h c).1 3).trans (((dats m trivial 0 c).arrAt_in 3 rfl _).trans ((A_eq m trivial c 3).trans (V_main_arg4 m c))),
      ((h c).1 4).trans (((dats m trivial 0 c).arrAt_in 4 rfl _).trans ((A_eq m trivial c 4).trans (V_main_arg5 m c)))⟩
  · refine θ_run_mono (AdamGdnUpRefIdeal.Value.run m' g') ?_
    intro r hr c
    have H := hr c
    obtain ⟨a0, a1, a2, a3, a4, a5⟩ := hagree c
    rw [a0, a1, a2, a3, a4, a5] at H
    obtain ⟨h0, h1, h2, h3, _⟩ := H
    have hg := h0.trans (show _ = grad (m (c.tc.loc AdamGdnUpIdeal.main_arg0)) (m (c.tc.loc AdamGdnUpIdeal.main_arg2)) (m (c.tc.loc AdamGdnUpIdeal.main_arg3)) from by
      funext i
      pointwise [grad]
      exact Adam.half (by decide) (i 1).isLt ((m (c.tc.loc AdamGdnUpIdeal.main_arg0)) (ix1 0)) (fun k => (m (c.tc.loc AdamGdnUpIdeal.main_arg2)) (ix2 k (i 2))) (fun k => (m (c.tc.loc AdamGdnUpIdeal.main_arg3)) (ix2 k (i 2))))
    rw [← h0, hg] at h1 h2 h3
    refine ⟨hg, h1.trans ?_, h2.trans ?_, h3.trans ?_, (hr c).2.2.2.2⟩
    · funext i
      pointwise [change, newMean, newSquare, Adam.change, Adam.mean, Adam.square]
    · funext i
      pointwise [newMean, Adam.mean]
    · funext i
      pointwise [newSquare, Adam.square]

theorem quiet : quiescent_AdamGdnUpRefIdeal (hAdamGdnUpRefIdeal := AdamGdnUpRefIdeal.Gen.facts) := by
  intro m ρ _
  exact (θ_run _ _ _).mono (fun _ h => ⟨fun c => (h c).2.2.2.2, sem_eq_zero_of_no_sems (by decide) _⟩) (AdamGdnUpRefIdeal.Value.run m ρ)

end Cert.AdamGdnUpIdeal.Result

end
-- ==== Proof.AdamWOut.lean ====
/- The optimiser on the output projection's weight. -/
module

public import proofs.«01_k».proof.Proof.Products
public import proofs.«01_k».proof.Proof.Gen.AdamWOutIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamWOutIdeal.Result

open Cert.AdamWOutIdeal Cert.AdamWOutIdeal.Gen

variable (m : (ℓ : Loc nD τ sig) → Buf (Elt Ideal) ℓ)

/-- Contents of the table at which the windows are evaluated: no window's place depends on them. -/
def table : (pcfg0 (F := Ideal)).Adm := ⟨fun | 0 => fun _ => (0#32 : BitVec 32), trivial⟩

theorem covers5 (a : (pcfg0 (F := Ideal)).Adm) : ((cfg0 a).win 5).Covers :=
  show ((cfg0 table).win 5).Covers from by decide +kernel

theorem covers6 (a : (pcfg0 (F := Ideal)).Adm) : ((cfg0 a).win 6).Covers :=
  show ((cfg0 table).win 6).Covers from by decide +kernel

theorem covers7 (a : (pcfg0 (F := Ideal)).Adm) : ((cfg0 a).win 7).Covers :=
  show ((cfg0 table).win 7).Covers from by decide +kernel

theorem covers8 (a : (pcfg0 (F := Ideal)).Adm) : ((cfg0 a).win 8).Covers :=
  show ((cfg0 table).win 8).Covers from by decide +kernel

theorem idx_val : ∀ t : Fin grid0.N, cc0_transform_0 (grid0.coords t) = ![0, t.val, 0] ∧ cc0_transform_1 (grid0.coords t) = ![t.val % 1, 0] ∧ cc0_transform_2 (grid0.coords t) = ![t.val % 1, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] ∧ (grid0.coords t 0).val = t.val / 1 := by decide +kernel

/-- An index of the block of grid point `t`, in the whole array. -/
def place (t : Fin 2) (y : S1x128x1024.Idx) : S1x256x1024.Idx :=
  ix3 0 ⟨t.val * 128 + (y 1).val, by have := (y 1).isLt; have h : (y 1).val < 128 := this; have := t.isLt; omega⟩
    ⟨(y 2).val, by have := (y 2).isLt; have h : (y 2).val < 1024 := this; have := t.isLt; omega⟩

/-- An index of the block of grid point `t`, in the half of the gradient. -/
def within (t : Fin 2) (y : S128x1024.Idx) : S128x1024.Idx :=
  ix2 ⟨t.val % 1 * 128 + (y 0).val, by have := (y 0).isLt; have h : (y 0).val < 128 := this; have := t.isLt; omega⟩ (y 1)

theorem emb0 (hO : Ok m) (t : Fin (cfgM m hO).N) (y : S1x128x1024.Idx) : (((cfgM m hO).win 0).blk t).view.emb y = place t y := by
  have h := (idx_val t).1
  funext a
  fin_cases a
  · exact Fin.ext (by show cc0_transform_0 (grid0.coords t) 0 * 1 + 1 * (y 0).val = 0; have := (y 0).isLt; rw [h]; simp; try omega)
  · exact Fin.ext (by show cc0_transform_0 (grid0.coords t) 1 * 128 + 1 * (y 1).val = t.val * 128 + (y 1).val; rw [h]; simp)
  · exact Fin.ext (by show cc0_transform_0 (grid0.coords t) 2 * 1024 + 1 * (y 2).val = (y 2).val; rw [h]; simp)

theorem emb3 (hO : Ok m) (t : Fin (cfgM m hO).N) (y : S1x128x1024.Idx) : (((cfgM m hO).win 3).blk t).view.emb y = place t y := by
  have h := (idx_val t).2.2.2.1
  funext a
  fin_cases a
  · exact Fin.ext (by show cc0_transform_3 (grid0.coords t) 0 * 1 + 1 * (y 0).val = 0; have := (y 0).isLt; rw [h]; simp; try omega)
  · exact Fin.ext (by show cc0_transform_3 (grid0.coords t) 1 * 128 + 1 * (y 1).val = t.val * 128 + (y 1).val; rw [h]; simp)
  · exact Fin.ext (by show cc0_transform_3 (grid0.coords t) 2 * 1024 + 1 * (y 2).val = (y 2).val; rw [h]; simp)

theorem emb4 (hO : Ok m) (t : Fin (cfgM m hO).N) (y : S1x128x1024.Idx) : (((cfgM m hO).win 4).blk t).view.emb y = place t y := by
  have h := (idx_val t).2.2.2.2.1
  funext a
  fin_cases a
  · exact Fin.ext (by show cc0_transform_4 (grid0.coords t) 0 * 1 + 1 * (y 0).val = 0; have := (y 0).isLt; rw [h]; simp; try omega)
  · exact Fin.ext (by show cc0_transform_4 (grid0.coords t) 1 * 128 + 1 * (y 1).val = t.val * 128 + (y 1).val; rw [h]; simp)
  · exact Fin.ext (by show cc0_transform_4 (grid0.coords t) 2 * 1024 + 1 * (y 2).val = (y 2).val; rw [h]; simp)

theorem emb5 (hO : Ok m) (t : Fin (cfgM m hO).N) (y : S1x128x1024.Idx) : (((cfgM m hO).win 5).blk t).view.emb y = place t y := by
  have h := (idx_val t).2.2.2.2.2.1
  funext a
  fin_cases a
  · exact Fin.ext (by show cc0_transform_5 (grid0.coords t) 0 * 1 + 1 * (y 0).val = 0; have := (y 0).isLt; rw [h]; simp; try omega)
  · exact Fin.ext (by show cc0_transform_5 (grid0.coords t) 1 * 128 + 1 * (y 1).val = t.val * 128 + (y 1).val; rw [h]; simp)
  · exact Fin.ext (by show cc0_transform_5 (grid0.coords t) 2 * 1024 + 1 * (y 2).val = (y 2).val; rw [h]; simp)

theorem emb6 (hO : Ok m) (t : Fin (cfgM m hO).N) (y : S1x128x1024.Idx) : (((cfgM m hO).win 6).blk t).view.emb y = place t y := by
  have h := (idx_val t).2.2.2.2.2.2.1
  funext a
  fin_cases a
  · exact Fin.ext (by show cc0_transform_6 (grid0.coords t) 0 * 1 + 1 * (y 0).val = 0; have := (y 0).isLt; rw [h]; simp; try omega)
  · exact Fin.ext (by show cc0_transform_6 (grid0.coords t) 1 * 128 + 1 * (y 1).val = t.val * 128 + (y 1).val; rw [h]; simp)
  · exact Fin.ext (by show cc0_transform_6 (grid0.coords t) 2 * 1024 + 1 * (y 2).val = (y 2).val; rw [h]; simp)

theorem emb7 (hO : Ok m) (t : Fin (cfgM m hO).N) (y : S1x128x1024.Idx) : (((cfgM m hO).win 7).blk t).view.emb y = place t y := by
  have h := (idx_val t).2.2.2.2.2.2.2.1
  funext a
  fin_cases a
  · exact Fin.ext (by show cc0_transform_7 (grid0.coords t) 0 * 1 + 1 * (y 0).val = 0; have := (y 0).isLt; rw [h]; simp; try omega)
  · exact Fin.ext (by show cc0_transform_7 (grid0.coords t) 1 * 128 + 1 * (y 1).val = t.val * 128 + (y 1).val; rw [h]; simp)
  · exact Fin.ext (by show cc0_transform_7 (grid0.coords t) 2 * 1024 + 1 * (y 2).val = (y 2).val; rw [h]; simp)

theorem emb8 (hO : Ok m) (t : Fin (cfgM m hO).N) (y : S1x128x1024.Idx) : (((cfgM m hO).win 8).blk t).view.emb y = place t y := by
  have h := (idx_val t).2.2.2.2.2.2.2.2.1
  funext a
  fin_cases a
  · exact Fin.ext (by show cc0_transform_8 (grid0.coords t) 0 * 1 + 1 * (y 0).val = 0; have := (y 0).isLt; rw [h]; simp; try omega)
  · exact Fin.ext (by show cc0_transform_8 (grid0.coords t) 1 * 128 + 1 * (y 1).val = t.val * 128 + (y 1).val; rw [h]; simp)
  · exact Fin.ext (by show cc0_transform_8 (grid0.coords t) 2 * 1024 + 1 * (y 2).val = (y 2).val; rw [h]; simp)

theorem block0 (hO : Ok m) (c : Dev nD) (t : Fin (cfgM m hO).N) (y : S1x128x1024.Idx) : iblk m hO c 0 t y = m ((c : Thread nD τ).loc main_arg1) (place t y) :=
  congrArg (m ((c : Thread nD τ).loc main_arg1)) (emb0 m hO t y)

theorem block3 (hO : Ok m) (c : Dev nD) (t : Fin (cfgM m hO).N) (y : S1x128x1024.Idx) : iblk m hO c 3 t y = m ((c : Thread nD τ).loc main_arg4) (place t y) :=
  congrArg (m ((c : Thread nD τ).loc main_arg4)) (emb3 m hO t y)

theorem block4 (hO : Ok m) (c : Dev nD) (t : Fin (cfgM m hO).N) (y : S1x128x1024.Idx) : iblk m hO c 4 t y = m ((c : Thread nD τ).loc main_arg5) (place t y) :=
  congrArg (m ((c : Thread nD τ).loc main_arg5)) (emb4 m hO t y)

theorem block1 (hO : Ok m) (c : Dev nD) (t : Fin (cfgM m hO).N) (y : S128x1024.Idx) : iblk m hO c 1 t y = m ((c : Thread nD τ).loc main_arg2) (within t y) := by
  have h := (idx_val t).2.1
  refine congrArg (m ((c : Thread nD τ).loc main_arg2)) ?_
  funext a
  fin_cases a
  · exact Fin.ext (by show cc0_transform_1 (grid0.coords t) 0 * 128 + 1 * (y 0).val = t.val % 1 * 128 + (y 0).val; rw [h]; simp)
  · exact Fin.ext (by show cc0_transform_1 (grid0.coords t) 1 * 1024 + 1 * (y 1).val = (y 1).val; rw [h]; simp)

theorem block2 (hO : Ok m) (c : Dev nD) (t : Fin (cfgM m hO).N) (y : S128x1024.Idx) : iblk m hO c 2 t y = m ((c : Thread nD τ).loc main_arg3) (within t y) := by
  have h := (idx_val t).2.2.1
  refine congrArg (m ((c : Thread nD τ).loc main_arg3)) ?_
  funext a
  fin_cases a
  · exact Fin.ext (by show cc0_transform_2 (grid0.coords t) 0 * 128 + 1 * (y 0).val = t.val % 1 * 128 + (y 0).val; rw [h]; simp)
  · exact Fin.ext (by show cc0_transform_2 (grid0.coords t) 1 * 1024 + 1 * (y 1).val = (y 1).val; rw [h]; simp)

/-- The word the body reads of the table. -/
theorem word (c : Dev nD) (h) : View.readAt (Elt Ideal) (View.whole main_arg0) (Rect.unit ![0] ![1] inb_S2_S1_0).toLoadRect
    (tbl m 0) (Shape.Idx.first h) = m ((c : Thread nD τ).loc main_arg0) (ix1 0) := by
  obtain rfl : c = 0 := Subsingleton.elim _ _
  refine congrArg (m (((0 : Dev nD) : Thread nD τ).loc main_arg0)) ?_
  funext a
  fin_cases a
  exact Fin.ext (by simp)

theorem choose (u v : BitVec 32) (a b : FVec Ideal S128x1024 .f32) (y : S128x1024.Idx) :
    Scalar.select (Scalar.cmpi .eq u v) a b y = if u = v then a y else b y := by
  by_cases h : u = v
  · rw [if_pos h]
    exact congrFun (if_pos (by simp [Scalar.cmpi, IntOp.cmpi, h])) y
  · rw [if_neg h]
    exact congrFun (if_neg (by simp [Scalar.cmpi, IntOp.cmpi, beq_false_of_ne h])) y

/-- The gradient: the device's own half where the device's place says, the other device's half elsewhere. -/
def grad (p : IVec S2 32) (x y : FVec Ideal S128x1024 .f32) : FVec Ideal S1x256x1024 .f32 :=
  fun i => if BitVec.ofNat 32 ((i 1).val / 128) = p (ix1 0) then x (ix2 ⟨(i 1).val % 128, Nat.mod_lt _ (by decide)⟩ (i 2)) else y (ix2 ⟨(i 1).val % 128, Nat.mod_lt _ (by decide)⟩ (i 2))

/-- The new running mean of the gradient. -/
def newMean (g m : FVec Ideal S1x256x1024 .f32) : FVec Ideal S1x256x1024 .f32 := fun i => Adam.mean (g i) (m i)

/-- The new running mean of the gradient's square. -/
def newSquare (g v : FVec Ideal S1x256x1024 .f32) : FVec Ideal S1x256x1024 .f32 := fun i => Adam.square (g i) (v i)

/-- The change of the weight. -/
def change (w g m v : FVec Ideal S1x256x1024 .f32) : FVec Ideal S1x256x1024 .f32 := fun i => Adam.change (w i) (newMean g m i) (newSquare g v i)

theorem chosen (hO : Ok m) (c : Dev nD) (t : Fin (cfgM m hO).N) (y : S1x128x1024.Idx) (u : BitVec 32) (hu : u = m ((c : Thread nD τ).loc main_arg0) (ix1 0))
    (a b : FVec Ideal S128x1024 .f32) (ha : a = iblk m hO c 1 t) (hb : b = iblk m hO c 2 t) :
    k0_pay5 (F := Ideal) (grid0.coords t) u a b (ix2 (y 1) (y 2)) = grad (m ((c : Thread nD τ).loc main_arg0)) (m ((c : Thread nD τ).loc main_arg2)) (m ((c : Thread nD τ).loc main_arg3)) (place t y) := by
  subst ha hb
  have hc := (idx_val t).2.2.2.2.2.2.2.2.2
  have h1 : (y 1).val < 128 := (y 1).isLt
  have h2 : (y 2).val < 1024 := (y 2).isLt
  have ht : t.val < 2 := t.isLt
  have w : within t (ix2 (y 1) (y 2)) = (ix2 ⟨((place t y) 1).val % 128, Nat.mod_lt _ (by decide)⟩ ((place t y) 2)) := by
    funext a
    fin_cases a
    · exact Fin.ext (by simp only [within, place]; first | rfl | (show t.val % 1 * 128 + (y 1).val = (t.val * 128 + (y 1).val) % 128; omega))
    · exact Fin.ext (by first | rfl | (show (y 2).val = ((y 2).val) % 1024; omega))
  have e : BitVec.ofNat 32 (grid0.coords t 0).val = BitVec.ofNat 32 (((place t y) 1).val / 128) := by
    rw [hc]; congr 1
    show t.val / 1 = (t.val * 128 + (y 1).val) / 128; omega
  refine (choose _ _ _ _ _).trans ?_
  unfold grad
  rw [e, hu]
  by_cases hp : BitVec.ofNat 32 (((place t y) 1).val / 128) = m ((c : Thread nD τ).loc main_arg0) (ix1 0)
  · exact (if_pos hp).trans (((block1 m hO c t _).trans (congrArg _ w)).trans (if_pos hp).symm)
  · exact (if_neg hp).trans (((block2 m hO c t _).trans (congrArg _ w)).trans (if_neg hp).symm)

theorem pay_grad (g : FVec Ideal S128x1024 .f32) (y : S1x128x1024.Idx) : k0_pay1 (F := Ideal) g y = g (ix2 (y 1) (y 2)) := by pointwise [k0_pay1]

theorem pay_mean (i : grid0.Coords) (u : BitVec 32) (a b : FVec Ideal S128x1024 .f32) (x : FVec Ideal S1x128x1024 .f32) (y : S1x128x1024.Idx) :
    k0_pay3 (k0_pay6 (F := Ideal) i u a b x) y = Adam.mean (k0_pay5 (F := Ideal) i u a b (ix2 (y 1) (y 2))) (x y) := by
  pointwise [k0_pay3, k0_pay6, Adam.mean]

theorem pay_square (i : grid0.Coords) (u : BitVec 32) (a b : FVec Ideal S128x1024 .f32) (x : FVec Ideal S1x128x1024 .f32) (y : S1x128x1024.Idx) :
    k0_pay4 (k0_pay7 (F := Ideal) i u a b x) y = Adam.square (k0_pay5 (F := Ideal) i u a b (ix2 (y 1) (y 2))) (x y) := by
  pointwise [k0_pay4, k0_pay7, Adam.square]

theorem pay_change (i : grid0.Coords) (u : BitVec 32) (a b : FVec Ideal S128x1024 .f32) (w x z : FVec Ideal S1x128x1024 .f32) (y : S1x128x1024.Idx) :
    k0_pay2 (k0_pay8 (F := Ideal) i u a b w x z) y = Adam.change (w y) (Adam.mean (k0_pay5 (F := Ideal) i u a b (ix2 (y 1) (y 2))) (x y))
      (Adam.square (k0_pay5 (F := Ideal) i u a b (ix2 (y 1) (y 2))) (z y)) := by
  pointwise [k0_pay2, k0_pay6, k0_pay7, k0_pay8, Adam.change, Adam.mean, Adam.square]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_grad (hO : Ok m) (c : Dev nD) : (dats m hO 0 c).arrAt 5 (cfgM m hO).N = grad (m ((c : Thread nD τ).loc main_arg0)) (m ((c : Thread nD τ).loc main_arg2)) (m ((c : Thread nD τ).loc main_arg3)) := by
  refine (dats m hO 0 c).arrAt_eq_of_covers 5 _ (covers5 _) fun t hf y => ?_
  rw [emb5 m hO t y]
  blk_simp; rw [after0_5]; unfold outsAt0; dsimp only; frame_out
  exact (pay_grad _ y).trans (chosen m hO c t y _ (word m c _) _ _ (back _ _) (back _ _))

theorem final_change (hO : Ok m) (c : Dev nD) : (dats m hO 0 c).arrAt 6 (cfgM m hO).N = change (m ((c : Thread nD τ).loc main_arg1)) (grad (m ((c : Thread nD τ).loc main_arg0)) (m ((c : Thread nD τ).loc main_arg2)) (m ((c : Thread nD τ).loc main_arg3))) (m ((c : Thread nD τ).loc main_arg4)) (m ((c : Thread nD τ).loc main_arg5)) := by
  refine (dats m hO 0 c).arrAt_eq_of_covers 6 _ (covers6 _) fun t hf y => ?_
  rw [emb6 m hO t y]
  blk_simp; rw [after0_6]; unfold outsAt0; dsimp only; frame_out
  refine (pay_change _ _ _ _ _ _ _ y).trans ?_
  exact congr (congr (congrArg Adam.change ((congrFun (back _ _) y).trans (block0 m hO c t y))) (congr (congrArg Adam.mean (chosen m hO c t y _ (word m c _) _ _ (back _ _) (back _ _))) ((congrFun (back _ _) y).trans (block3 m hO c t y)))) (congr (congrArg Adam.square (chosen m hO c t y _ (word m c _) _ _ (back _ _) (back _ _))) ((congrFun (back _ _) y).trans (block4 m hO c t y)))

theorem final_mean (hO : Ok m) (c : Dev nD) : (dats m hO 0 c).arrAt 7 (cfgM m hO).N = newMean (grad (m ((c : Thread nD τ).loc main_arg0)) (m ((c : Thread nD τ).loc main_arg2)) (m ((c : Thread nD τ).loc main_arg3))) (m ((c : Thread nD τ).loc main_arg4)) := by
  refine (dats m hO 0 c).arrAt_eq_of_covers 7 _ (covers7 _) fun t hf y => ?_
  rw [emb7 m hO t y]
  blk_simp; rw [after0_7]; unfold outsAt0; dsimp only; frame_out
  exact (pay_mean _ _ _ _ _ y).trans (congr (congrArg Adam.mean (chosen m hO c t y _ (word m c _) _ _ (back _ _) (back _ _))) ((congrFun (back _ _) y).trans (block3 m hO c t y)))

theorem final_square (hO : Ok m) (c : Dev nD) : (dats m hO 0 c).arrAt 8 (cfgM m hO).N = newSquare (grad (m ((c : Thread nD τ).loc main_arg0)) (m ((c : Thread nD τ).loc main_arg2)) (m ((c : Thread nD τ).loc main_arg3))) (m ((c : Thread nD τ).loc main_arg5)) := by
  refine (dats m hO 0 c).arrAt_eq_of_covers 8 _ (covers8 _) fun t hf y => ?_
  rw [emb8 m hO t y]
  blk_simp; rw [after0_8]; unfold outsAt0; dsimp only; frame_out
  exact (pay_square _ _ _ _ _ y).trans (congr (congrArg Adam.square (chosen m hO c t y _ (word m c _) _ _ (back _ _) (back _ _))) ((congrFun (back _ _) y).trans (block4 m hO c t y)))

end Cert.AdamWOutIdeal.Result

end
-- ==== Proof.AdamWOutAgrees.lean ====
/- The call and its reference end with the same results: AdamWOut. -/
module

public import proofs.«01_k».proof.Defs
public import proofs.«01_k».proof.Proof.Gen.AdamWOutRefIdeal
public import proofs.«01_k».proof.Proof.Gen.AdamWOutRefIdeal.Run
public import proofs.«01_k».proof.Proof.Gen.AdamWOutIdeal
public import proofs.«01_k».proof.Proof.AdamWOut
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AdamWOutIdeal.Result

open Cert.AdamWOutIdeal Cert.AdamWOutIdeal.Gen

theorem agree : algebraic_AdamWOutIdeal_AdamWOutRefIdeal (hAdamWOutIdeal := AdamWOutIdeal.Gen.facts) (hAdamWOutRefIdeal := AdamWOutRefIdeal.Gen.facts) := by
  intro m g m' g' hpre hagree
  refine ⟨fun c => grad (m (c.tc.loc AdamWOutIdeal.main_arg0)) (m (c.tc.loc AdamWOutIdeal.main_arg2)) (m (c.tc.loc AdamWOutIdeal.main_arg3)), fun c => change (m (c.tc.loc AdamWOutIdeal.main_arg1)) (grad (m (c.tc.loc AdamWOutIdeal.main_arg0)) (m (c.tc.loc AdamWOutIdeal.main_arg2)) (m (c.tc.loc AdamWOutIdeal.main_arg3))) (m (c.tc.loc AdamWOutIdeal.main_arg4)) (m (c.tc.loc AdamWOutIdeal.main_arg5)), fun c => newMean (grad (m (c.tc.loc AdamWOutIdeal.main_arg0)) (m (c.tc.loc AdamWOutIdeal.main_arg2)) (m (c.tc.loc AdamWOutIdeal.main_arg3))) (m (c.tc.loc AdamWOutIdeal.main_arg4)), fun c => newSquare (grad (m (c.tc.loc AdamWOutIdeal.main_arg0)) (m (c.tc.loc AdamWOutIdeal.main_arg2)) (m (c.tc.loc AdamWOutIdeal.main_arg3))) (m (c.tc.loc AdamWOutIdeal.main_arg5)), ?_, ?_⟩
  · refine θ_run_mono (run_main m g trivial) ?_
    intro r h c
    exact ⟨((h c).1 5).trans (final_grad m trivial c), ((h c).1 6).trans (final_change m trivial c),
      ((h c).1 7).trans (final_mean m trivial c), ((h c).1 8).trans (final_square m trivial c),
      ((h c).2 main_arg0 (by decide : main_arg0 ∈ Pipeline.restRefs sig spec0)).trans (V_main_arg0 m c),
      ((h c).1 0).trans (((dats m trivial 0 c).arrAt_in 0 rfl _).trans ((A_eq m trivial c 0).trans (V_main_arg1 m c))),
      ((h c).1 1).trans (((dats m trivial 0 c).arrAt_in 1 rfl _).trans ((A_eq m trivial c 1).trans (V_main_arg2 m c))),
      ((h c).1 2).trans (((dats m trivial 0 c).arrAt_in 2 rfl _).trans ((A_eq m trivial c 2).trans (V_main_arg3 m c))),
      ((h c).1 3).trans (((dats m trivial 0 c).arrAt_in 3 rfl _).trans ((A_eq m trivial c 3).trans (V_main_arg4 m c))),
      ((h c).1 4).trans (((dats m trivial 0 c).arrAt_in 4 rfl _).trans ((A_eq m trivial c 4).trans (V_main_arg5 m c)))⟩
  · refine θ_run_mono (AdamWOutRefIdeal.Value.run m' g') ?_
    intro r hr c
    have H := hr c
    obtain ⟨a0, a1, a2, a3, a4, a5⟩ := hagree c
    rw [a0, a1, a2, a3, a4, a5] at H
    obtain ⟨h0, h1, h2, h3, _⟩ := H
    have hg := h0.trans (show _ = grad (m (c.tc.loc AdamWOutIdeal.main_arg0)) (m (c.tc.loc AdamWOutIdeal.main_arg2)) (m (c.tc.loc AdamWOutIdeal.main_arg3)) from by
      funext i
      pointwise [grad]
      exact Adam.half (by decide) (i 1).isLt ((m (c.tc.loc AdamWOutIdeal.main_arg0)) (ix1 0)) (fun k => (m (c.tc.loc AdamWOutIdeal.main_arg2)) (ix2 k (i 2))) (fun k => (m (c.tc.loc AdamWOutIdeal.main_arg3)) (ix2 k (i 2))))
    rw [← h0, hg] at h1 h2 h3
    refine ⟨hg, h1.trans ?_, h2.trans ?_, h3.trans ?_, (hr c).2.2.2.2⟩
    · funext i
      pointwise [change, newMean, newSquare, Adam.change, Adam.mean, Adam.square]
    · funext i
      pointwise [newMean, Adam.mean]
    · funext i
      pointwise [newSquare, Adam.square]

theorem quiet : quiescent_AdamWOutRefIdeal (hAdamWOutRefIdeal := AdamWOutRefIdeal.Gen.facts) := by
  intro m ρ _
  exact (θ_run _ _ _).mono (fun _ h => ⟨fun c => (h c).2.2.2.2, sem_eq_zero_of_no_sems (by decide) _⟩) (AdamWOutRefIdeal.Value.run m ρ)

end Cert.AdamWOutIdeal.Result

end
-- ==== Proof.AdamMlpUp.lean ====
/- The optimiser on the channel mixer's first weight. -/
module

public import proofs.«01_k».proof.Proof.Products
public import proofs.«01_k».proof.Proof.Gen.AdamMlpUpIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamMlpUpIdeal.Result

open Cert.AdamMlpUpIdeal Cert.AdamMlpUpIdeal.Gen

variable (m : (ℓ : Loc nD τ sig) → Buf (Elt Ideal) ℓ)

/-- Contents of the table at which the windows are evaluated: no window's place depends on them. -/
def table : (pcfg0 (F := Ideal)).Adm := ⟨fun | 0 => fun _ => (0#32 : BitVec 32), trivial⟩

theorem covers5 (a : (pcfg0 (F := Ideal)).Adm) : ((cfg0 a).win 5).Covers :=
  show ((cfg0 table).win 5).Covers from by decide +kernel

theorem covers6 (a : (pcfg0 (F := Ideal)).Adm) : ((cfg0 a).win 6).Covers :=
  show ((cfg0 table).win 6).Covers from by decide +kernel

theorem covers7 (a : (pcfg0 (F := Ideal)).Adm) : ((cfg0 a).win 7).Covers :=
  show ((cfg0 table).win 7).Covers from by decide +kernel

theorem covers8 (a : (pcfg0 (F := Ideal)).Adm) : ((cfg0 a).win 8).Covers :=
  show ((cfg0 table).win 8).Covers from by decide +kernel

theorem idx_val : ∀ t : Fin grid0.N, cc0_transform_0 (grid0.coords t) = ![0, t.val, 0] ∧ cc0_transform_1 (grid0.coords t) = ![t.val % 2, 0] ∧ cc0_transform_2 (grid0.coords t) = ![t.val % 2, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] ∧ (grid0.coords t 0).val = t.val / 2 := by decide +kernel

/-- An index of the block of grid point `t`, in the whole array. -/
def place (t : Fin 4) (y : S1x256x1024.Idx) : S1x1024x1024.Idx :=
  ix3 0 ⟨t.val * 256 + (y 1).val, by have := (y 1).isLt; have h : (y 1).val < 256 := this; have := t.isLt; omega⟩
    ⟨(y 2).val, by have := (y 2).isLt; have h : (y 2).val < 1024 := this; have := t.isLt; omega⟩

/-- An index of the block of grid point `t`, in the half of the gradient. -/
def within (t : Fin 4) (y : S256x1024.Idx) : S512x1024.Idx :=
  ix2 ⟨t.val % 2 * 256 + (y 0).val, by have := (y 0).isLt; have h : (y 0).val < 256 := this; have := t.isLt; omega⟩ (y 1)

theorem emb0 (hO : Ok m) (t : Fin (cfgM m hO).N) (y : S1x256x1024.Idx) : (((cfgM m hO).win 0).blk t).view.emb y = place t y := by
  have h := (idx_val t).1
  funext a
  fin_cases a
  · exact Fin.ext (by show cc0_transform_0 (grid0.coords t) 0 * 1 + 1 * (y 0).val = 0; have := (y 0).isLt; rw [h]; simp; try omega)
  · exact Fin.ext (by show cc0_transform_0 (grid0.coords t) 1 * 256 + 1 * (y 1).val = t.val * 256 + (y 1).val; rw [h]; simp)
  · exact Fin.ext (by show cc0_transform_0 (grid0.coords t) 2 * 1024 + 1 * (y 2).val = (y 2).val; rw [h]; simp)

theorem emb3 (hO : Ok m) (t : Fin (cfgM m hO).N) (y : S1x256x1024.Idx) : (((cfgM m hO).win 3).blk t).view.emb y = place t y := by
  have h := (idx_val t).2.2.2.1
  funext a
  fin_cases a
  · exact Fin.ext (by show cc0_transform_3 (grid0.coords t) 0 * 1 + 1 * (y 0).val = 0; have := (y 0).isLt; rw [h]; simp; try omega)
  · exact Fin.ext (by show cc0_transform_3 (grid0.coords t) 1 * 256 + 1 * (y 1).val = t.val * 256 + (y 1).val; rw [h]; simp)
  · exact Fin.ext (by show cc0_transform_3 (grid0.coords t) 2 * 1024 + 1 * (y 2).val = (y 2).val; rw [h]; simp)

theorem emb4 (hO : Ok m) (t : Fin (cfgM m hO).N) (y : S1x256x1024.Idx) : (((cfgM m hO).win 4).blk t).view.emb y = place t y := by
  have h := (idx_val t).2.2.2.2.1
  funext a
  fin_cases a
  · exact Fin.ext (by show cc0_transform_4 (grid0.coords t) 0 * 1 + 1 * (y 0).val = 0; have := (y 0).isLt; rw [h]; simp; try omega)
  · exact Fin.ext (by show cc0_transform_4 (grid0.coords t) 1 * 256 + 1 * (y 1).val = t.val * 256 + (y 1).val; rw [h]; simp)
  · exact Fin.ext (by show cc0_transform_4 (grid0.coords t) 2 * 1024 + 1 * (y 2).val = (y 2).val; rw [h]; simp)

theorem emb5 (hO : Ok m) (t : Fin (cfgM m hO).N) (y : S1x256x1024.Idx) : (((cfgM m hO).win 5).blk t).view.emb y = place t y := by
  have h := (idx_val t).2.2.2.2.2.1
  funext a
  fin_cases a
  · exact Fin.ext (by show cc0_transform_5 (grid0.coords t) 0 * 1 + 1 * (y 0).val = 0; have := (y 0).isLt; rw [h]; simp; try omega)
  · exact Fin.ext (by show cc0_transform_5 (grid0.coords t) 1 * 256 + 1 * (y 1).val = t.val * 256 + (y 1).val; rw [h]; simp)
  · exact Fin.ext (by show cc0_transform_5 (grid0.coords t) 2 * 1024 + 1 * (y 2).val = (y 2).val; rw [h]; simp)

theorem emb6 (hO : Ok m) (t : Fin (cfgM m hO).N) (y : S1x256x1024.Idx) : (((cfgM m hO).win 6).blk t).view.emb y = place t y := by
  have h := (idx_val t).2.2.2.2.2.2.1
  funext a
  fin_cases a
  · exact Fin.ext (by show cc0_transform_6 (grid0.coords t) 0 * 1 + 1 * (y 0).val = 0; have := (y 0).isLt; rw [h]; simp; try omega)
  · exact Fin.ext (by show cc0_transform_6 (grid0.coords t) 1 * 256 + 1 * (y 1).val = t.val * 256 + (y 1).val; rw [h]; simp)
  · exact Fin.ext (by show cc0_transform_6 (grid0.coords t) 2 * 1024 + 1 * (y 2).val = (y 2).val; rw [h]; simp)

theorem emb7 (hO : Ok m) (t : Fin (cfgM m hO).N) (y : S1x256x1024.Idx) : (((cfgM m hO).win 7).blk t).view.emb y = place t y := by
  have h := (idx_val t).2.2.2.2.2.2.2.1
  funext a
  fin_cases a
  · exact Fin.ext (by show cc0_transform_7 (grid0.coords t) 0 * 1 + 1 * (y 0).val = 0; have := (y 0).isLt; rw [h]; simp; try omega)
  · exact Fin.ext (by show cc0_transform_7 (grid0.coords t) 1 * 256 + 1 * (y 1).val = t.val * 256 + (y 1).val; rw [h]; simp)
  · exact Fin.ext (by show cc0_transform_7 (grid0.coords t) 2 * 1024 + 1 * (y 2).val = (y 2).val; rw [h]; simp)

theorem emb8 (hO : Ok m) (t : Fin (cfgM m hO).N) (y : S1x256x1024.Idx) : (((cfgM m hO).win 8).blk t).view.emb y = place t y := by
  have h := (idx_val t).2.2.2.2.2.2.2.2.1
  funext a
  fin_cases a
  · exact Fin.ext (by show cc0_transform_8 (grid0.coords t) 0 * 1 + 1 * (y 0).val = 0; have := (y 0).isLt; rw [h]; simp; try omega)
  · exact Fin.ext (by show cc0_transform_8 (grid0.coords t) 1 * 256 + 1 * (y 1).val = t.val * 256 + (y 1).val; rw [h]; simp)
  · exact Fin.ext (by show cc0_transform_8 (grid0.coords t) 2 * 1024 + 1 * (y 2).val = (y 2).val; rw [h]; simp)

theorem block0 (hO : Ok m) (c : Dev nD) (t : Fin (cfgM m hO).N) (y : S1x256x1024.Idx) : iblk m hO c 0 t y = m ((c : Thread nD τ).loc main_arg1) (place t y) :=
  congrArg (m ((c : Thread nD τ).loc main_arg1)) (emb0 m hO t y)

theorem block3 (hO : Ok m) (c : Dev nD) (t : Fin (cfgM m hO).N) (y : S1x256x1024.Idx) : iblk m hO c 3 t y = m ((c : Thread nD τ).loc main_arg4) (place t y) :=
  congrArg (m ((c : Thread nD τ).loc main_arg4)) (emb3 m hO t y)

theorem block4 (hO : Ok m) (c : Dev nD) (t : Fin (cfgM m hO).N) (y : S1x256x1024.Idx) : iblk m hO c 4 t y = m ((c : Thread nD τ).loc main_arg5) (place t y) :=
  congrArg (m ((c : Thread nD τ).loc main_arg5)) (emb4 m hO t y)

theorem block1 (hO : Ok m) (c : Dev nD) (t : Fin (cfgM m hO).N) (y : S256x1024.Idx) : iblk m hO c 1 t y = m ((c : Thread nD τ).loc main_arg2) (within t y) := by
  have h := (idx_val t).2.1
  refine congrArg (m ((c : Thread nD τ).loc main_arg2)) ?_
  funext a
  fin_cases a
  · exact Fin.ext (by show cc0_transform_1 (grid0.coords t) 0 * 256 + 1 * (y 0).val = t.val % 2 * 256 + (y 0).val; rw [h]; simp)
  · exact Fin.ext (by show cc0_transform_1 (grid0.coords t) 1 * 1024 + 1 * (y 1).val = (y 1).val; rw [h]; simp)

theorem block2 (hO : Ok m) (c : Dev nD) (t : Fin (cfgM m hO).N) (y : S256x1024.Idx) : iblk m hO c 2 t y = m ((c : Thread nD τ).loc main_arg3) (within t y) := by
  have h := (idx_val t).2.2.1
  refine congrArg (m ((c : Thread nD τ).loc main_arg3)) ?_
  funext a
  fin_cases a
  · exact Fin.ext (by show cc0_transform_2 (grid0.coords t) 0 * 256 + 1 * (y 0).val = t.val % 2 * 256 + (y 0).val; rw [h]; simp)
  · exact Fin.ext (by show cc0_transform_2 (grid0.coords t) 1 * 1024 + 1 * (y 1).val = (y 1).val; rw [h]; simp)

/-- The word the body reads of the table. -/
theorem word (c : Dev nD) (h) : View.readAt (Elt Ideal) (View.whole main_arg0) (Rect.unit ![0] ![1] inb_S2_S1_0).toLoadRect
    (tbl m 0) (Shape.Idx.first h) = m ((c : Thread nD τ).loc main_arg0) (ix1 0) := by
  obtain rfl : c = 0 := Subsingleton.elim _ _
  refine congrArg (m (((0 : Dev nD) : Thread nD τ).loc main_arg0)) ?_
  funext a
  fin_cases a
  exact Fin.ext (by simp)

theorem choose (u v : BitVec 32) (a b : FVec Ideal S256x1024 .f32) (y : S256x1024.Idx) :
    Scalar.select (Scalar.cmpi .eq u v) a b y = if u = v then a y else b y := by
  by_cases h : u = v
  · rw [if_pos h]
    exact congrFun (if_pos (by simp [Scalar.cmpi, IntOp.cmpi, h])) y
  · rw [if_neg h]
    exact congrFun (if_neg (by simp [Scalar.cmpi, IntOp.cmpi, beq_false_of_ne h])) y

/-- The gradient: the device's own half where the device's place says, the other device's half elsewhere. -/
def grad (p : IVec S2 32) (x y : FVec Ideal S512x1024 .f32) : FVec Ideal S1x1024x1024 .f32 :=
  fun i => if BitVec.ofNat 32 ((i 1).val / 512) = p (ix1 0) then x (ix2 ⟨(i 1).val % 512, Nat.mod_lt _ (by decide)⟩ (i 2)) else y (ix2 ⟨(i 1).val % 512, Nat.mod_lt _ (by decide)⟩ (i 2))

/-- The new running mean of the gradient. -/
def newMean (g m : FVec Ideal S1x1024x1024 .f32) : FVec Ideal S1x1024x1024 .f32 := fun i => Adam.mean (g i) (m i)

/-- The new running mean of the gradient's square. -/
def newSquare (g v : FVec Ideal S1x1024x1024 .f32) : FVec Ideal S1x1024x1024 .f32 := fun i => Adam.square (g i) (v i)

/-- The change of the weight. -/
def change (w g m v : FVec Ideal S1x1024x1024 .f32) : FVec Ideal S1x1024x1024 .f32 := fun i => Adam.change (w i) (newMean g m i) (newSquare g v i)

theorem chosen (hO : Ok m) (c : Dev nD) (t : Fin (cfgM m hO).N) (y : S1x256x1024.Idx) (u : BitVec 32) (hu : u = m ((c : Thread nD τ).loc main_arg0) (ix1 0))
    (a b : FVec Ideal S256x1024 .f32) (ha : a = iblk m hO c 1 t) (hb : b = iblk m hO c 2 t) :
    k0_pay5 (F := Ideal) (grid0.coords t) u a b (ix2 (y 1) (y 2)) = grad (m ((c : Thread nD τ).loc main_arg0)) (m ((c : Thread nD τ).loc main_arg2)) (m ((c : Thread nD τ).loc main_arg3)) (place t y) := by
  subst ha hb
  have hc := (idx_val t).2.2.2.2.2.2.2.2.2
  have h1 : (y 1).val < 256 := (y 1).isLt
  have h2 : (y 2).val < 1024 := (y 2).isLt
  have ht : t.val < 4 := t.isLt
  have w : within t (ix2 (y 1) (y 2)) = (ix2 ⟨((place t y) 1).val % 512, Nat.mod_lt _ (by decide)⟩ ((place t y) 2)) := by
    funext a
    fin_cases a
    · exact Fin.ext (by simp only [within, place]; first | rfl | (show t.val % 2 * 256 + (y 1).val = (t.val * 256 + (y 1).val) % 512; omega))
    · exact Fin.ext (by first | rfl | (show (y 2).val = ((y 2).val) % 1024; omega))
  have e : BitVec.ofNat 32 (grid0.coords t 0).val = BitVec.ofNat 32 (((place t y) 1).val / 512) := by
    rw [hc]; congr 1
    show t.val / 2 = (t.val * 256 + (y 1).val) / 512; omega
  refine (choose _ _ _ _ _).trans ?_
  unfold grad
  rw [e, hu]
  by_cases hp : BitVec.ofNat 32 (((place t y) 1).val / 512) = m ((c : Thread nD τ).loc main_arg0) (ix1 0)
  · exact (if_pos hp).trans (((block1 m hO c t _).trans (congrArg _ w)).trans (if_pos hp).symm)
  · exact (if_neg hp).trans (((block2 m hO c t _).trans (congrArg _ w)).trans (if_neg hp).symm)

theorem pay_grad (g : FVec Ideal S256x1024 .f32) (y : S1x256x1024.Idx) : k0_pay1 (F := Ideal) g y = g (ix2 (y 1) (y 2)) := by pointwise [k0_pay1]

theorem pay_mean (i : grid0.Coords) (u : BitVec 32) (a b : FVec Ideal S256x1024 .f32) (x : FVec Ideal S1x256x1024 .f32) (y : S1x256x1024.Idx) :
    k0_pay3 (k0_pay6 (F := Ideal) i u a b x) y = Adam.mean (k0_pay5 (F := Ideal) i u a b (ix2 (y 1) (y 2))) (x y) := by
  pointwise [k0_pay3, k0_pay6, Adam.mean]

theorem pay_square (i : grid0.Coords) (u : BitVec 32) (a b : FVec Ideal S256x1024 .f32) (x : FVec Ideal S1x256x1024 .f32) (y : S1x256x1024.Idx) :
    k0_pay4 (k0_pay7 (F := Ideal) i u a b x) y = Adam.square (k0_pay5 (F := Ideal) i u a b (ix2 (y 1) (y 2))) (x y) := by
  pointwise [k0_pay4, k0_pay7, Adam.square]

theorem pay_change (i : grid0.Coords) (u : BitVec 32) (a b : FVec Ideal S256x1024 .f32) (w x z : FVec Ideal S1x256x1024 .f32) (y : S1x256x1024.Idx) :
    k0_pay2 (k0_pay8 (F := Ideal) i u a b w x z) y = Adam.change (w y) (Adam.mean (k0_pay5 (F := Ideal) i u a b (ix2 (y 1) (y 2))) (x y))
      (Adam.square (k0_pay5 (F := Ideal) i u a b (ix2 (y 1) (y 2))) (z y)) := by
  pointwise [k0_pay2, k0_pay6, k0_pay7, k0_pay8, Adam.change, Adam.mean, Adam.square]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_grad (hO : Ok m) (c : Dev nD) : (dats m hO 0 c).arrAt 5 (cfgM m hO).N = grad (m ((c : Thread nD τ).loc main_arg0)) (m ((c : Thread nD τ).loc main_arg2)) (m ((c : Thread nD τ).loc main_arg3)) := by
  refine (dats m hO 0 c).arrAt_eq_of_covers 5 _ (covers5 _) fun t hf y => ?_
  rw [emb5 m hO t y]
  blk_simp; rw [after0_5]; unfold outsAt0; dsimp only; frame_out
  exact (pay_grad _ y).trans (chosen m hO c t y _ (word m c _) _ _ (back _ _) (back _ _))

theorem final_change (hO : Ok m) (c : Dev nD) : (dats m hO 0 c).arrAt 6 (cfgM m hO).N = change (m ((c : Thread nD τ).loc main_arg1)) (grad (m ((c : Thread nD τ).loc main_arg0)) (m ((c : Thread nD τ).loc main_arg2)) (m ((c : Thread nD τ).loc main_arg3))) (m ((c : Thread nD τ).loc main_arg4)) (m ((c : Thread nD τ).loc main_arg5)) := by
  refine (dats m hO 0 c).arrAt_eq_of_covers 6 _ (covers6 _) fun t hf y => ?_
  rw [emb6 m hO t y]
  blk_simp; rw [after0_6]; unfold outsAt0; dsimp only; frame_out
  refine (pay_change _ _ _ _ _ _ _ y).trans ?_
  exact congr (congr (congrArg Adam.change ((congrFun (back _ _) y).trans (block0 m hO c t y))) (congr (congrArg Adam.mean (chosen m hO c t y _ (word m c _) _ _ (back _ _) (back _ _))) ((congrFun (back _ _) y).trans (block3 m hO c t y)))) (congr (congrArg Adam.square (chosen m hO c t y _ (word m c _) _ _ (back _ _) (back _ _))) ((congrFun (back _ _) y).trans (block4 m hO c t y)))

theorem final_mean (hO : Ok m) (c : Dev nD) : (dats m hO 0 c).arrAt 7 (cfgM m hO).N = newMean (grad (m ((c : Thread nD τ).loc main_arg0)) (m ((c : Thread nD τ).loc main_arg2)) (m ((c : Thread nD τ).loc main_arg3))) (m ((c : Thread nD τ).loc main_arg4)) := by
  refine (dats m hO 0 c).arrAt_eq_of_covers 7 _ (covers7 _) fun t hf y => ?_
  rw [emb7 m hO t y]
  blk_simp; rw [after0_7]; unfold outsAt0; dsimp only; frame_out
  exact (pay_mean _ _ _ _ _ y).trans (congr (congrArg Adam.mean (chosen m hO c t y _ (word m c _) _ _ (back _ _) (back _ _))) ((congrFun (back _ _) y).trans (block3 m hO c t y)))

theorem final_square (hO : Ok m) (c : Dev nD) : (dats m hO 0 c).arrAt 8 (cfgM m hO).N = newSquare (grad (m ((c : Thread nD τ).loc main_arg0)) (m ((c : Thread nD τ).loc main_arg2)) (m ((c : Thread nD τ).loc main_arg3))) (m ((c : Thread nD τ).loc main_arg5)) := by
  refine (dats m hO 0 c).arrAt_eq_of_covers 8 _ (covers8 _) fun t hf y => ?_
  rw [emb8 m hO t y]
  blk_simp; rw [after0_8]; unfold outsAt0; dsimp only; frame_out
  exact (pay_square _ _ _ _ _ y).trans (congr (congrArg Adam.square (chosen m hO c t y _ (word m c _) _ _ (back _ _) (back _ _))) ((congrFun (back _ _) y).trans (block4 m hO c t y)))

end Cert.AdamMlpUpIdeal.Result

end
-- ==== Proof.AdamMlpUpAgrees.lean ====
/- The call and its reference end with the same results: AdamMlpUp. -/
module

public import proofs.«01_k».proof.Defs
public import proofs.«01_k».proof.Proof.Gen.AdamMlpUpRefIdeal
public import proofs.«01_k».proof.Proof.Gen.AdamMlpUpRefIdeal.Run
public import proofs.«01_k».proof.Proof.Gen.AdamMlpUpIdeal
public import proofs.«01_k».proof.Proof.AdamMlpUp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AdamMlpUpIdeal.Result

open Cert.AdamMlpUpIdeal Cert.AdamMlpUpIdeal.Gen

theorem agree : algebraic_AdamMlpUpIdeal_AdamMlpUpRefIdeal (hAdamMlpUpIdeal := AdamMlpUpIdeal.Gen.facts) (hAdamMlpUpRefIdeal := AdamMlpUpRefIdeal.Gen.facts) := by
  intro m g m' g' hpre hagree
  refine ⟨fun c => grad (m (c.tc.loc AdamMlpUpIdeal.main_arg0)) (m (c.tc.loc AdamMlpUpIdeal.main_arg2)) (m (c.tc.loc AdamMlpUpIdeal.main_arg3)), fun c => change (m (c.tc.loc AdamMlpUpIdeal.main_arg1)) (grad (m (c.tc.loc AdamMlpUpIdeal.main_arg0)) (m (c.tc.loc AdamMlpUpIdeal.main_arg2)) (m (c.tc.loc AdamMlpUpIdeal.main_arg3))) (m (c.tc.loc AdamMlpUpIdeal.main_arg4)) (m (c.tc.loc AdamMlpUpIdeal.main_arg5)), fun c => newMean (grad (m (c.tc.loc AdamMlpUpIdeal.main_arg0)) (m (c.tc.loc AdamMlpUpIdeal.main_arg2)) (m (c.tc.loc AdamMlpUpIdeal.main_arg3))) (m (c.tc.loc AdamMlpUpIdeal.main_arg4)), fun c => newSquare (grad (m (c.tc.loc AdamMlpUpIdeal.main_arg0)) (m (c.tc.loc AdamMlpUpIdeal.main_arg2)) (m (c.tc.loc AdamMlpUpIdeal.main_arg3))) (m (c.tc.loc AdamMlpUpIdeal.main_arg5)), ?_, ?_⟩
  · refine θ_run_mono (run_main m g trivial) ?_
    intro r h c
    exact ⟨((h c).1 5).trans (final_grad m trivial c), ((h c).1 6).trans (final_change m trivial c),
      ((h c).1 7).trans (final_mean m trivial c), ((h c).1 8).trans (final_square m trivial c),
      ((h c).2 main_arg0 (by decide : main_arg0 ∈ Pipeline.restRefs sig spec0)).trans (V_main_arg0 m c),
      ((h c).1 0).trans (((dats m trivial 0 c).arrAt_in 0 rfl _).trans ((A_eq m trivial c 0).trans (V_main_arg1 m c))),
      ((h c).1 1).trans (((dats m trivial 0 c).arrAt_in 1 rfl _).trans ((A_eq m trivial c 1).trans (V_main_arg2 m c))),
      ((h c).1 2).trans (((dats m trivial 0 c).arrAt_in 2 rfl _).trans ((A_eq m trivial c 2).trans (V_main_arg3 m c))),
      ((h c).1 3).trans (((dats m trivial 0 c).arrAt_in 3 rfl _).trans ((A_eq m trivial c 3).trans (V_main_arg4 m c))),
      ((h c).1 4).trans (((dats m trivial 0 c).arrAt_in 4 rfl _).trans ((A_eq m trivial c 4).trans (V_main_arg5 m c)))⟩
  · refine θ_run_mono (AdamMlpUpRefIdeal.Value.run m' g') ?_
    intro r hr c
    have H := hr c
    obtain ⟨a0, a1, a2, a3, a4, a5⟩ := hagree c
    rw [a0, a1, a2, a3, a4, a5] at H
    obtain ⟨h0, h1, h2, h3, _⟩ := H
    have hg := h0.trans (show _ = grad (m (c.tc.loc AdamMlpUpIdeal.main_arg0)) (m (c.tc.loc AdamMlpUpIdeal.main_arg2)) (m (c.tc.loc AdamMlpUpIdeal.main_arg3)) from by
      funext i
      pointwise [grad]
      exact Adam.half (by decide) (i 1).isLt ((m (c.tc.loc AdamMlpUpIdeal.main_arg0)) (ix1 0)) (fun k => (m (c.tc.loc AdamMlpUpIdeal.main_arg2)) (ix2 k (i 2))) (fun k => (m (c.tc.loc AdamMlpUpIdeal.main_arg3)) (ix2 k (i 2))))
    rw [← h0, hg] at h1 h2 h3
    refine ⟨hg, h1.trans ?_, h2.trans ?_, h3.trans ?_, (hr c).2.2.2.2⟩
    · funext i
      pointwise [change, newMean, newSquare, Adam.change, Adam.mean, Adam.square]
    · funext i
      pointwise [newMean, Adam.mean]
    · funext i
      pointwise [newSquare, Adam.square]

theorem quiet : quiescent_AdamMlpUpRefIdeal (hAdamMlpUpRefIdeal := AdamMlpUpRefIdeal.Gen.facts) := by
  intro m ρ _
  exact (θ_run _ _ _).mono (fun _ h => ⟨fun c => (h c).2.2.2.2, sem_eq_zero_of_no_sems (by decide) _⟩) (AdamMlpUpRefIdeal.Value.run m ρ)

end Cert.AdamMlpUpIdeal.Result

end
-- ==== Proof.AdamMlpDown.lean ====
/- The optimiser on the channel mixer's second weight. -/
module

public import proofs.«01_k».proof.Proof.Products
public import proofs.«01_k».proof.Proof.Gen.AdamMlpDownIdeal.Frame
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline (Dat)
open scoped BigOperators

namespace Cert.AdamMlpDownIdeal.Result

open Cert.AdamMlpDownIdeal Cert.AdamMlpDownIdeal.Gen

variable (m : (ℓ : Loc nD τ sig) → Buf (Elt Ideal) ℓ)

/-- Contents of the table at which the windows are evaluated: no window's place depends on them. -/
def table : (pcfg0 (F := Ideal)).Adm := ⟨fun | 0 => fun _ => (0#32 : BitVec 32), trivial⟩

theorem covers5 (a : (pcfg0 (F := Ideal)).Adm) : ((cfg0 a).win 5).Covers :=
  show ((cfg0 table).win 5).Covers from by decide +kernel

theorem covers6 (a : (pcfg0 (F := Ideal)).Adm) : ((cfg0 a).win 6).Covers :=
  show ((cfg0 table).win 6).Covers from by decide +kernel

theorem covers7 (a : (pcfg0 (F := Ideal)).Adm) : ((cfg0 a).win 7).Covers :=
  show ((cfg0 table).win 7).Covers from by decide +kernel

theorem covers8 (a : (pcfg0 (F := Ideal)).Adm) : ((cfg0 a).win 8).Covers :=
  show ((cfg0 table).win 8).Covers from by decide +kernel

theorem idx_val : ∀ t : Fin grid0.N, cc0_transform_0 (grid0.coords t) = ![0, t.val, 0] ∧ cc0_transform_1 (grid0.coords t) = ![t.val % 2, 0] ∧ cc0_transform_2 (grid0.coords t) = ![t.val % 2, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] ∧ (grid0.coords t 0).val = t.val / 2 := by decide +kernel

/-- An index of the block of grid point `t`, in the whole array. -/
def place (t : Fin 4) (y : S1x256x1024.Idx) : S1x1024x1024.Idx :=
  ix3 0 ⟨t.val * 256 + (y 1).val, by have := (y 1).isLt; have h : (y 1).val < 256 := this; have := t.isLt; omega⟩
    ⟨(y 2).val, by have := (y 2).isLt; have h : (y 2).val < 1024 := this; have := t.isLt; omega⟩

/-- An index of the block of grid point `t`, in the half of the gradient. -/
def within (t : Fin 4) (y : S256x1024.Idx) : S512x1024.Idx :=
  ix2 ⟨t.val % 2 * 256 + (y 0).val, by have := (y 0).isLt; have h : (y 0).val < 256 := this; have := t.isLt; omega⟩ (y 1)

theorem emb0 (hO : Ok m) (t : Fin (cfgM m hO).N) (y : S1x256x1024.Idx) : (((cfgM m hO).win 0).blk t).view.emb y = place t y := by
  have h := (idx_val t).1
  funext a
  fin_cases a
  · exact Fin.ext (by show cc0_transform_0 (grid0.coords t) 0 * 1 + 1 * (y 0).val = 0; have := (y 0).isLt; rw [h]; simp; try omega)
  · exact Fin.ext (by show cc0_transform_0 (grid0.coords t) 1 * 256 + 1 * (y 1).val = t.val * 256 + (y 1).val; rw [h]; simp)
  · exact Fin.ext (by show cc0_transform_0 (grid0.coords t) 2 * 1024 + 1 * (y 2).val = (y 2).val; rw [h]; simp)

theorem emb3 (hO : Ok m) (t : Fin (cfgM m hO).N) (y : S1x256x1024.Idx) : (((cfgM m hO).win 3).blk t).view.emb y = place t y := by
  have h := (idx_val t).2.2.2.1
  funext a
  fin_cases a
  · exact Fin.ext (by show cc0_transform_3 (grid0.coords t) 0 * 1 + 1 * (y 0).val = 0; have := (y 0).isLt; rw [h]; simp; try omega)
  · exact Fin.ext (by show cc0_transform_3 (grid0.coords t) 1 * 256 + 1 * (y 1).val = t.val * 256 + (y 1).val; rw [h]; simp)
  · exact Fin.ext (by show cc0_transform_3 (grid0.coords t) 2 * 1024 + 1 * (y 2).val = (y 2).val; rw [h]; simp)

theorem emb4 (hO : Ok m) (t : Fin (cfgM m hO).N) (y : S1x256x1024.Idx) : (((cfgM m hO).win 4).blk t).view.emb y = place t y := by
  have h := (idx_val t).2.2.2.2.1
  funext a
  fin_cases a
  · exact Fin.ext (by show cc0_transform_4 (grid0.coords t) 0 * 1 + 1 * (y 0).val = 0; have := (y 0).isLt; rw [h]; simp; try omega)
  · exact Fin.ext (by show cc0_transform_4 (grid0.coords t) 1 * 256 + 1 * (y 1).val = t.val * 256 + (y 1).val; rw [h]; simp)
  · exact Fin.ext (by show cc0_transform_4 (grid0.coords t) 2 * 1024 + 1 * (y 2).val = (y 2).val; rw [h]; simp)

theorem emb5 (hO : Ok m) (t : Fin (cfgM m hO).N) (y : S1x256x1024.Idx) : (((cfgM m hO).win 5).blk t).view.emb y = place t y := by
  have h := (idx_val t).2.2.2.2.2.1
  funext a
  fin_cases a
  · exact Fin.ext (by show cc0_transform_5 (grid0.coords t) 0 * 1 + 1 * (y 0).val = 0; have := (y 0).isLt; rw [h]; simp; try omega)
  · exact Fin.ext (by show cc0_transform_5 (grid0.coords t) 1 * 256 + 1 * (y 1).val = t.val * 256 + (y 1).val; rw [h]; simp)
  · exact Fin.ext (by show cc0_transform_5 (grid0.coords t) 2 * 1024 + 1 * (y 2).val = (y 2).val; rw [h]; simp)

theorem emb6 (hO : Ok m) (t : Fin (cfgM m hO).N) (y : S1x256x1024.Idx) : (((cfgM m hO).win 6).blk t).view.emb y = place t y := by
  have h := (idx_val t).2.2.2.2.2.2.1
  funext a
  fin_cases a
  · exact Fin.ext (by show cc0_transform_6 (grid0.coords t) 0 * 1 + 1 * (y 0).val = 0; have := (y 0).isLt; rw [h]; simp; try omega)
  · exact Fin.ext (by show cc0_transform_6 (grid0.coords t) 1 * 256 + 1 * (y 1).val = t.val * 256 + (y 1).val; rw [h]; simp)
  · exact Fin.ext (by show cc0_transform_6 (grid0.coords t) 2 * 1024 + 1 * (y 2).val = (y 2).val; rw [h]; simp)

theorem emb7 (hO : Ok m) (t : Fin (cfgM m hO).N) (y : S1x256x1024.Idx) : (((cfgM m hO).win 7).blk t).view.emb y = place t y := by
  have h := (idx_val t).2.2.2.2.2.2.2.1
  funext a
  fin_cases a
  · exact Fin.ext (by show cc0_transform_7 (grid0.coords t) 0 * 1 + 1 * (y 0).val = 0; have := (y 0).isLt; rw [h]; simp; try omega)
  · exact Fin.ext (by show cc0_transform_7 (grid0.coords t) 1 * 256 + 1 * (y 1).val = t.val * 256 + (y 1).val; rw [h]; simp)
  · exact Fin.ext (by show cc0_transform_7 (grid0.coords t) 2 * 1024 + 1 * (y 2).val = (y 2).val; rw [h]; simp)

theorem emb8 (hO : Ok m) (t : Fin (cfgM m hO).N) (y : S1x256x1024.Idx) : (((cfgM m hO).win 8).blk t).view.emb y = place t y := by
  have h := (idx_val t).2.2.2.2.2.2.2.2.1
  funext a
  fin_cases a
  · exact Fin.ext (by show cc0_transform_8 (grid0.coords t) 0 * 1 + 1 * (y 0).val = 0; have := (y 0).isLt; rw [h]; simp; try omega)
  · exact Fin.ext (by show cc0_transform_8 (grid0.coords t) 1 * 256 + 1 * (y 1).val = t.val * 256 + (y 1).val; rw [h]; simp)
  · exact Fin.ext (by show cc0_transform_8 (grid0.coords t) 2 * 1024 + 1 * (y 2).val = (y 2).val; rw [h]; simp)

theorem block0 (hO : Ok m) (c : Dev nD) (t : Fin (cfgM m hO).N) (y : S1x256x1024.Idx) : iblk m hO c 0 t y = m ((c : Thread nD τ).loc main_arg1) (place t y) :=
  congrArg (m ((c : Thread nD τ).loc main_arg1)) (emb0 m hO t y)

theorem block3 (hO : Ok m) (c : Dev nD) (t : Fin (cfgM m hO).N) (y : S1x256x1024.Idx) : iblk m hO c 3 t y = m ((c : Thread nD τ).loc main_arg4) (place t y) :=
  congrArg (m ((c : Thread nD τ).loc main_arg4)) (emb3 m hO t y)

theorem block4 (hO : Ok m) (c : Dev nD) (t : Fin (cfgM m hO).N) (y : S1x256x1024.Idx) : iblk m hO c 4 t y = m ((c : Thread nD τ).loc main_arg5) (place t y) :=
  congrArg (m ((c : Thread nD τ).loc main_arg5)) (emb4 m hO t y)

theorem block1 (hO : Ok m) (c : Dev nD) (t : Fin (cfgM m hO).N) (y : S256x1024.Idx) : iblk m hO c 1 t y = m ((c : Thread nD τ).loc main_arg2) (within t y) := by
  have h := (idx_val t).2.1
  refine congrArg (m ((c : Thread nD τ).loc main_arg2)) ?_
  funext a
  fin_cases a
  · exact Fin.ext (by show cc0_transform_1 (grid0.coords t) 0 * 256 + 1 * (y 0).val = t.val % 2 * 256 + (y 0).val; rw [h]; simp)
  · exact Fin.ext (by show cc0_transform_1 (grid0.coords t) 1 * 1024 + 1 * (y 1).val = (y 1).val; rw [h]; simp)

theorem block2 (hO : Ok m) (c : Dev nD) (t : Fin (cfgM m hO).N) (y : S256x1024.Idx) : iblk m hO c 2 t y = m ((c : Thread nD τ).loc main_arg3) (within t y) := by
  have h := (idx_val t).2.2.1
  refine congrArg (m ((c : Thread nD τ).loc main_arg3)) ?_
  funext a
  fin_cases a
  · exact Fin.ext (by show cc0_transform_2 (grid0.coords t) 0 * 256 + 1 * (y 0).val = t.val % 2 * 256 + (y 0).val; rw [h]; simp)
  · exact Fin.ext (by show cc0_transform_2 (grid0.coords t) 1 * 1024 + 1 * (y 1).val = (y 1).val; rw [h]; simp)

/-- The word the body reads of the table. -/
theorem word (c : Dev nD) (h) : View.readAt (Elt Ideal) (View.whole main_arg0) (Rect.unit ![0] ![1] inb_S2_S1_0).toLoadRect
    (tbl m 0) (Shape.Idx.first h) = m ((c : Thread nD τ).loc main_arg0) (ix1 0) := by
  obtain rfl : c = 0 := Subsingleton.elim _ _
  refine congrArg (m (((0 : Dev nD) : Thread nD τ).loc main_arg0)) ?_
  funext a
  fin_cases a
  exact Fin.ext (by simp)

theorem choose (u v : BitVec 32) (a b : FVec Ideal S256x1024 .f32) (y : S256x1024.Idx) :
    Scalar.select (Scalar.cmpi .eq u v) a b y = if u = v then a y else b y := by
  by_cases h : u = v
  · rw [if_pos h]
    exact congrFun (if_pos (by simp [Scalar.cmpi, IntOp.cmpi, h])) y
  · rw [if_neg h]
    exact congrFun (if_neg (by simp [Scalar.cmpi, IntOp.cmpi, beq_false_of_ne h])) y

/-- The gradient: the device's own half where the device's place says, the other device's half elsewhere. -/
def grad (p : IVec S2 32) (x y : FVec Ideal S512x1024 .f32) : FVec Ideal S1x1024x1024 .f32 :=
  fun i => if BitVec.ofNat 32 ((i 1).val / 512) = p (ix1 0) then x (ix2 ⟨(i 1).val % 512, Nat.mod_lt _ (by decide)⟩ (i 2)) else y (ix2 ⟨(i 1).val % 512, Nat.mod_lt _ (by decide)⟩ (i 2))

/-- The new running mean of the gradient. -/
def newMean (g m : FVec Ideal S1x1024x1024 .f32) : FVec Ideal S1x1024x1024 .f32 := fun i => Adam.mean (g i) (m i)

/-- The new running mean of the gradient's square. -/
def newSquare (g v : FVec Ideal S1x1024x1024 .f32) : FVec Ideal S1x1024x1024 .f32 := fun i => Adam.square (g i) (v i)

/-- The change of the weight. -/
def change (w g m v : FVec Ideal S1x1024x1024 .f32) : FVec Ideal S1x1024x1024 .f32 := fun i => Adam.change (w i) (newMean g m i) (newSquare g v i)

theorem chosen (hO : Ok m) (c : Dev nD) (t : Fin (cfgM m hO).N) (y : S1x256x1024.Idx) (u : BitVec 32) (hu : u = m ((c : Thread nD τ).loc main_arg0) (ix1 0))
    (a b : FVec Ideal S256x1024 .f32) (ha : a = iblk m hO c 1 t) (hb : b = iblk m hO c 2 t) :
    k0_pay5 (F := Ideal) (grid0.coords t) u a b (ix2 (y 1) (y 2)) = grad (m ((c : Thread nD τ).loc main_arg0)) (m ((c : Thread nD τ).loc main_arg2)) (m ((c : Thread nD τ).loc main_arg3)) (place t y) := by
  subst ha hb
  have hc := (idx_val t).2.2.2.2.2.2.2.2.2
  have h1 : (y 1).val < 256 := (y 1).isLt
  have h2 : (y 2).val < 1024 := (y 2).isLt
  have ht : t.val < 4 := t.isLt
  have w : within t (ix2 (y 1) (y 2)) = (ix2 ⟨((place t y) 1).val % 512, Nat.mod_lt _ (by decide)⟩ ((place t y) 2)) := by
    funext a
    fin_cases a
    · exact Fin.ext (by simp only [within, place]; first | rfl | (show t.val % 2 * 256 + (y 1).val = (t.val * 256 + (y 1).val) % 512; omega))
    · exact Fin.ext (by first | rfl | (show (y 2).val = ((y 2).val) % 1024; omega))
  have e : BitVec.ofNat 32 (grid0.coords t 0).val = BitVec.ofNat 32 (((place t y) 1).val / 512) := by
    rw [hc]; congr 1
    show t.val / 2 = (t.val * 256 + (y 1).val) / 512; omega
  refine (choose _ _ _ _ _).trans ?_
  unfold grad
  rw [e, hu]
  by_cases hp : BitVec.ofNat 32 (((place t y) 1).val / 512) = m ((c : Thread nD τ).loc main_arg0) (ix1 0)
  · exact (if_pos hp).trans (((block1 m hO c t _).trans (congrArg _ w)).trans (if_pos hp).symm)
  · exact (if_neg hp).trans (((block2 m hO c t _).trans (congrArg _ w)).trans (if_neg hp).symm)

theorem pay_grad (g : FVec Ideal S256x1024 .f32) (y : S1x256x1024.Idx) : k0_pay1 (F := Ideal) g y = g (ix2 (y 1) (y 2)) := by pointwise [k0_pay1]

theorem pay_mean (i : grid0.Coords) (u : BitVec 32) (a b : FVec Ideal S256x1024 .f32) (x : FVec Ideal S1x256x1024 .f32) (y : S1x256x1024.Idx) :
    k0_pay3 (k0_pay6 (F := Ideal) i u a b x) y = Adam.mean (k0_pay5 (F := Ideal) i u a b (ix2 (y 1) (y 2))) (x y) := by
  pointwise [k0_pay3, k0_pay6, Adam.mean]

theorem pay_square (i : grid0.Coords) (u : BitVec 32) (a b : FVec Ideal S256x1024 .f32) (x : FVec Ideal S1x256x1024 .f32) (y : S1x256x1024.Idx) :
    k0_pay4 (k0_pay7 (F := Ideal) i u a b x) y = Adam.square (k0_pay5 (F := Ideal) i u a b (ix2 (y 1) (y 2))) (x y) := by
  pointwise [k0_pay4, k0_pay7, Adam.square]

theorem pay_change (i : grid0.Coords) (u : BitVec 32) (a b : FVec Ideal S256x1024 .f32) (w x z : FVec Ideal S1x256x1024 .f32) (y : S1x256x1024.Idx) :
    k0_pay2 (k0_pay8 (F := Ideal) i u a b w x z) y = Adam.change (w y) (Adam.mean (k0_pay5 (F := Ideal) i u a b (ix2 (y 1) (y 2))) (x y))
      (Adam.square (k0_pay5 (F := Ideal) i u a b (ix2 (y 1) (y 2))) (z y)) := by
  pointwise [k0_pay2, k0_pay6, k0_pay7, k0_pay8, Adam.change, Adam.mean, Adam.square]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_grad (hO : Ok m) (c : Dev nD) : (dats m hO 0 c).arrAt 5 (cfgM m hO).N = grad (m ((c : Thread nD τ).loc main_arg0)) (m ((c : Thread nD τ).loc main_arg2)) (m ((c : Thread nD τ).loc main_arg3)) := by
  refine (dats m hO 0 c).arrAt_eq_of_covers 5 _ (covers5 _) fun t hf y => ?_
  rw [emb5 m hO t y]
  blk_simp; rw [after0_5]; unfold outsAt0; dsimp only; frame_out
  exact (pay_grad _ y).trans (chosen m hO c t y _ (word m c _) _ _ (back _ _) (back _ _))

theorem final_change (hO : Ok m) (c : Dev nD) : (dats m hO 0 c).arrAt 6 (cfgM m hO).N = change (m ((c : Thread nD τ).loc main_arg1)) (grad (m ((c : Thread nD τ).loc main_arg0)) (m ((c : Thread nD τ).loc main_arg2)) (m ((c : Thread nD τ).loc main_arg3))) (m ((c : Thread nD τ).loc main_arg4)) (m ((c : Thread nD τ).loc main_arg5)) := by
  refine (dats m hO 0 c).arrAt_eq_of_covers 6 _ (covers6 _) fun t hf y => ?_
  rw [emb6 m hO t y]
  blk_simp; rw [after0_6]; unfold outsAt0; dsimp only; frame_out
  refine (pay_change _ _ _ _ _ _ _ y).trans ?_
  exact congr (congr (congrArg Adam.change ((congrFun (back _ _) y).trans (block0 m hO c t y))) (congr (congrArg Adam.mean (chosen m hO c t y _ (word m c _) _ _ (back _ _) (back _ _))) ((congrFun (back _ _) y).trans (block3 m hO c t y)))) (congr (congrArg Adam.square (chosen m hO c t y _ (word m c _) _ _ (back _ _) (back _ _))) ((congrFun (back _ _) y).trans (block4 m hO c t y)))

theorem final_mean (hO : Ok m) (c : Dev nD) : (dats m hO 0 c).arrAt 7 (cfgM m hO).N = newMean (grad (m ((c : Thread nD τ).loc main_arg0)) (m ((c : Thread nD τ).loc main_arg2)) (m ((c : Thread nD τ).loc main_arg3))) (m ((c : Thread nD τ).loc main_arg4)) := by
  refine (dats m hO 0 c).arrAt_eq_of_covers 7 _ (covers7 _) fun t hf y => ?_
  rw [emb7 m hO t y]
  blk_simp; rw [after0_7]; unfold outsAt0; dsimp only; frame_out
  exact (pay_mean _ _ _ _ _ y).trans (congr (congrArg Adam.mean (chosen m hO c t y _ (word m c _) _ _ (back _ _) (back _ _))) ((congrFun (back _ _) y).trans (block3 m hO c t y)))

theorem final_square (hO : Ok m) (c : Dev nD) : (dats m hO 0 c).arrAt 8 (cfgM m hO).N = newSquare (grad (m ((c : Thread nD τ).loc main_arg0)) (m ((c : Thread nD τ).loc main_arg2)) (m ((c : Thread nD τ).loc main_arg3))) (m ((c : Thread nD τ).loc main_arg5)) := by
  refine (dats m hO 0 c).arrAt_eq_of_covers 8 _ (covers8 _) fun t hf y => ?_
  rw [emb8 m hO t y]
  blk_simp; rw [after0_8]; unfold outsAt0; dsimp only; frame_out
  exact (pay_square _ _ _ _ _ y).trans (congr (congrArg Adam.square (chosen m hO c t y _ (word m c _) _ _ (back _ _) (back _ _))) ((congrFun (back _ _) y).trans (block4 m hO c t y)))

end Cert.AdamMlpDownIdeal.Result

end
-- ==== Proof.AdamMlpDownAgrees.lean ====
/- The call and its reference end with the same results: AdamMlpDown. -/
module

public import proofs.«01_k».proof.Defs
public import proofs.«01_k».proof.Proof.Gen.AdamMlpDownRefIdeal
public import proofs.«01_k».proof.Proof.Gen.AdamMlpDownRefIdeal.Run
public import proofs.«01_k».proof.Proof.Gen.AdamMlpDownIdeal
public import proofs.«01_k».proof.Proof.AdamMlpDown
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AdamMlpDownIdeal.Result

open Cert.AdamMlpDownIdeal Cert.AdamMlpDownIdeal.Gen

theorem agree : algebraic_AdamMlpDownIdeal_AdamMlpDownRefIdeal (hAdamMlpDownIdeal := AdamMlpDownIdeal.Gen.facts) (hAdamMlpDownRefIdeal := AdamMlpDownRefIdeal.Gen.facts) := by
  intro m g m' g' hpre hagree
  refine ⟨fun c => grad (m (c.tc.loc AdamMlpDownIdeal.main_arg0)) (m (c.tc.loc AdamMlpDownIdeal.main_arg2)) (m (c.tc.loc AdamMlpDownIdeal.main_arg3)), fun c => change (m (c.tc.loc AdamMlpDownIdeal.main_arg1)) (grad (m (c.tc.loc AdamMlpDownIdeal.main_arg0)) (m (c.tc.loc AdamMlpDownIdeal.main_arg2)) (m (c.tc.loc AdamMlpDownIdeal.main_arg3))) (m (c.tc.loc AdamMlpDownIdeal.main_arg4)) (m (c.tc.loc AdamMlpDownIdeal.main_arg5)), fun c => newMean (grad (m (c.tc.loc AdamMlpDownIdeal.main_arg0)) (m (c.tc.loc AdamMlpDownIdeal.main_arg2)) (m (c.tc.loc AdamMlpDownIdeal.main_arg3))) (m (c.tc.loc AdamMlpDownIdeal.main_arg4)), fun c => newSquare (grad (m (c.tc.loc AdamMlpDownIdeal.main_arg0)) (m (c.tc.loc AdamMlpDownIdeal.main_arg2)) (m (c.tc.loc AdamMlpDownIdeal.main_arg3))) (m (c.tc.loc AdamMlpDownIdeal.main_arg5)), ?_, ?_⟩
  · refine θ_run_mono (run_main m g trivial) ?_
    intro r h c
    exact ⟨((h c).1 5).trans (final_grad m trivial c), ((h c).1 6).trans (final_change m trivial c),
      ((h c).1 7).trans (final_mean m trivial c), ((h c).1 8).trans (final_square m trivial c),
      ((h c).2 main_arg0 (by decide : main_arg0 ∈ Pipeline.restRefs sig spec0)).trans (V_main_arg0 m c),
      ((h c).1 0).trans (((dats m trivial 0 c).arrAt_in 0 rfl _).trans ((A_eq m trivial c 0).trans (V_main_arg1 m c))),
      ((h c).1 1).trans (((dats m trivial 0 c).arrAt_in 1 rfl _).trans ((A_eq m trivial c 1).trans (V_main_arg2 m c))),
      ((h c).1 2).trans (((dats m trivial 0 c).arrAt_in 2 rfl _).trans ((A_eq m trivial c 2).trans (V_main_arg3 m c))),
      ((h c).1 3).trans (((dats m trivial 0 c).arrAt_in 3 rfl _).trans ((A_eq m trivial c 3).trans (V_main_arg4 m c))),
      ((h c).1 4).trans (((dats m trivial 0 c).arrAt_in 4 rfl _).trans ((A_eq m trivial c 4).trans (V_main_arg5 m c)))⟩
  · refine θ_run_mono (AdamMlpDownRefIdeal.Value.run m' g') ?_
    intro r hr c
    have H := hr c
    obtain ⟨a0, a1, a2, a3, a4, a5⟩ := hagree c
    rw [a0, a1, a2, a3, a4, a5] at H
    obtain ⟨h0, h1, h2, h3, _⟩ := H
    have hg := h0.trans (show _ = grad (m (c.tc.loc AdamMlpDownIdeal.main_arg0)) (m (c.tc.loc AdamMlpDownIdeal.main_arg2)) (m (c.tc.loc AdamMlpDownIdeal.main_arg3)) from by
      funext i
      pointwise [grad]
      exact Adam.half (by decide) (i 1).isLt ((m (c.tc.loc AdamMlpDownIdeal.main_arg0)) (ix1 0)) (fun k => (m (c.tc.loc AdamMlpDownIdeal.main_arg2)) (ix2 k (i 2))) (fun k => (m (c.tc.loc AdamMlpDownIdeal.main_arg3)) (ix2 k (i 2))))
    rw [← h0, hg] at h1 h2 h3
    refine ⟨hg, h1.trans ?_, h2.trans ?_, h3.trans ?_, (hr c).2.2.2.2⟩
    · funext i
      pointwise [change, newMean, newSquare, Adam.change, Adam.mean, Adam.square]
    · funext i
      pointwise [newMean, Adam.mean]
    · funext i
      pointwise [newSquare, Adam.square]

theorem quiet : quiescent_AdamMlpDownRefIdeal (hAdamMlpDownRefIdeal := AdamMlpDownRefIdeal.Gen.facts) := by
  intro m ρ _
  exact (θ_run _ _ _).mono (fun _ h => ⟨fun c => (h c).2.2.2.2, sem_eq_zero_of_no_sems (by decide) _⟩) (AdamMlpDownRefIdeal.Value.run m ρ)

end Cert.AdamMlpDownIdeal.Result

end
-- ==== Proof.SmallSum.lean ====
/- The sum over the devices of the loss and the small gradients. -/
module

public import proofs.«01_k».proof.Proof.Products
public import proofs.«01_k».proof.Proof.Gen.SmallSumIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SmallSumIdeal.Result

open Cert.SmallSumIdeal Cert.SmallSumIdeal.Gen

variable (m : (ℓ : Loc nD τ sig) → Buf (Elt Ideal) ℓ)

theorem idx_val : ∀ t : Fin cfg0.N, win0_0.index t = ![0, 0] ∧ win0_1.index t = ![0, 0] :=
  (by decide +kernel : ∀ t : Fin grid0.N, _)

/-- The sum of the eight rows. -/
def total (x : FVec Ideal S8x43265 .f32) : FVec Ideal S1x43265 .f32 := fun i => ∑ k : Fin 8, x (ix2 k (i 1))

theorem final (c : Dev nD) : (dats m 0 c).arrAt 1 (cfgs 0).N = total (m ((c : Thread nD τ).loc main_arg0)) := by
  refine (dats m 0 c).arrAt_eq_of_covers 1 _ (by decide +kernel) fun t hf y => ?_
  blk_simp; rw [after0_1]; frame_out
  pointwise [k0_pay1, total]
  blk_point [iblk, V, idx_val t]

end Cert.SmallSumIdeal.Result

end
-- ==== Proof.SmallSumAgrees.lean ====
/- The call and its reference end with the same results: SmallSum. -/
module

public import proofs.«01_k».proof.Defs
public import proofs.«01_k».proof.Proof.Gen.SmallSumRefIdeal
public import proofs.«01_k».proof.Proof.Gen.SmallSumRefIdeal.Run
public import proofs.«01_k».proof.Proof.Gen.SmallSumIdeal
public import proofs.«01_k».proof.Proof.SmallSum
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.SmallSumIdeal.Result

theorem agree : algebraic_SmallSumIdeal_SmallSumRefIdeal (hSmallSumIdeal := SmallSumIdeal.Gen.facts) (hSmallSumRefIdeal := SmallSumRefIdeal.Gen.facts) := by
  intro m g m' g' hpre hagree
  refine ⟨fun c => total (m (c.tc.loc SmallSumIdeal.main_arg0)), ?_, ?_⟩
  · run_from SmallSumIdeal.Gen.run_main m g
    · exact final m c
  · refine θ_run_mono (SmallSumRefIdeal.Value.run m' g') ?_
    intro r hr c
    refine ⟨(hr c).1.trans ?_, (hr c).2⟩
    · rw [hagree c]
      funext i
      pointwise [total]

theorem quiet : quiescent_SmallSumRefIdeal (hSmallSumRefIdeal := SmallSumRefIdeal.Gen.facts) := by
  intro m ρ _
  exact (θ_run _ _ _).mono (fun _ h => ⟨fun c => (h c).2, sem_eq_zero_of_no_sems (by decide) _⟩) (SmallSumRefIdeal.Value.run m ρ)

end Cert.SmallSumIdeal.Result

end
-- ==== Proof.Chip.lean ====
/- A chip's number as a word. -/
module

public import proofs.«01_k».proof.Proof.Products
public import Idealize.ShloMosaic.Lib.Affine

@[expose] public section

noncomputable section

open Idealize.ShloMosaic Idealize.SL.Sem
open scoped BigOperators

namespace Cert.Chip

/-- A word that is at least zero and below four, read as a natural number, is below four. -/
theorem below (w : BitVec 32) (h : IntOp.andi (IntOp.cmpi .sge w 0#32) (IntOp.cmpi .slt w 4#32) = 1#1) : w.toNat < 4 := by
  by_cases hw : w.toNat < 4
  · exact hw
  · exfalso
    revert h
    simp only [IntOp.andi, IntOp.cmpi]
    have hs : ¬(w.slt 4#32 = true ∧ (0#32).sle w = true) := by
      rintro ⟨a, b⟩
      rw [BitVec.slt_iff_toInt_lt] at a
      rw [BitVec.sle_iff_toInt_le] at b
      have a' : w.toInt < 4 := a
      have b' : 0 ≤ w.toInt := b
      rw [BitVec.toInt_eq_toNat_cond] at a' b'
      split at a' <;> split at b' <;> omega
    by_cases p : w.slt 4#32 = true <;> by_cases q : (0#32).sle w = true
    · exact absurd ⟨p, q⟩ hs
    all_goals simp_all

/-- Of four terms, the one a chip's number selects. -/
theorem own (w : BitVec 32) (h : w.toNat < 4) (z : Ideal .f32) (hz : z = (0 : EReal)) (f : Fin 4 → Ideal .f32) :
    (∑ x : Fin 4, (Scalar.select (IntOp.cmpi .eq (BitVec.ofNat 32 x.val) w) (f x) z : EReal)) = f ⟨w.toNat, h⟩ := by
  subst hz
  have hw : w = BitVec.ofNat 32 w.toNat := by simp
  refine (Finset.sum_eq_single (⟨w.toNat, h⟩ : Fin 4) (fun b _ hb => ?_) (fun hb => absurd (Finset.mem_univ _) hb)).trans ?_
  · refine if_neg ?_
    have hne : BitVec.ofNat 32 b.val ≠ w := fun e => hb (Fin.ext (by
      have := congrArg BitVec.toNat e
      have hb4 := b.isLt
      simp only [BitVec.toNat_ofNat] at this
      show b.val = w.toNat
      omega))
    simp [IntOp.cmpi, beq_false_of_ne hne]
  · exact if_pos (by simp [IntOp.cmpi])

/-- A word that is at least zero and below two, read as a natural number, is below two. -/
theorem core_below (w : BitVec 32) (h : IntOp.andi (IntOp.cmpi .sge w 0#32) (IntOp.cmpi .slt w 2#32) = 1#1) : w.toNat < 2 := by
  by_cases hw : w.toNat < 2
  · exact hw
  · exfalso
    revert h
    simp only [IntOp.andi, IntOp.cmpi]
    have hs : ¬(w.slt 2#32 = true ∧ (0#32).sle w = true) := by
      rintro ⟨a, b⟩
      rw [BitVec.slt_iff_toInt_lt] at a
      rw [BitVec.sle_iff_toInt_le] at b
      have a' : w.toInt < 2 := a
      have b' : 0 ≤ w.toInt := b
      rw [BitVec.toInt_eq_toNat_cond] at a' b'
      split at a' <;> split at b' <;> omega
    by_cases p : w.slt 2#32 = true <;> by_cases q : (0#32).sle w = true
    · exact absurd ⟨p, q⟩ hs
    all_goals simp_all

/-- Of two terms, the one the device's place on its chip selects. -/
theorem half (w : BitVec 32) (h : w.toNat < 2) (f : Fin 2 → Ideal .f32) (a b : Ideal .f32) (ha : a = f 0) (hb : b = f 1) :
    Scalar.select (IntOp.cmpi .eq w 0#32) a b = f ⟨w.toNat, h⟩ := by
  subst ha hb
  by_cases hw : w = 0#32
  · subst hw
    exact if_pos (by simp [IntOp.cmpi])
  · have hn : w.toNat ≠ 0 := fun e => hw (BitVec.eq_of_toNat_eq e)
    have e : (⟨w.toNat, h⟩ : Fin 2) = 1 := Fin.ext (by show w.toNat = 1; omega)
    rw [e]
    exact if_neg (by simp [IntOp.cmpi, beq_false_of_ne hw])

end Cert.Chip

end
-- ==== Proof.SumIn.lean ====
/- The sum over the chips of a part of the first weight's gradient. -/
module

public import proofs.«01_k».proof.Defs
public import proofs.«01_k».proof.Proof.Products
public import proofs.«01_k».proof.Proof.Chip
public import proofs.«01_k».proof.Proof.Gen.Pre_place_in
public import proofs.«01_k».proof.Proof.Gen.SumIn.Frame
public import proofs.«01_k».proof.Proof.Gen.SumInIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.SumIn.Result

open Cert.SumIn Cert.SumIn.Gen

variable (m : (ℓ : Loc nD τ sig) → Buf (Elt Bits) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 9 := t.isLt
  fin_cases a
  · show ((chip m).toNat + 1) * 1 ≤ 4
    omega
  · show (t.val + 1) * 400 ≤ 3600
    omega
  · show (0 + 1) * 512 ≤ 512
    omega

/-- What the precondition says of the chip's number. -/
theorem chip_lt (h : Cert.Pre_SumIn (hPre_place_in := Cert.Pre_place_in.Gen.facts) m) : (chip m).toNat < 4 := by
  have h0 := congrFun (h 0) (fun i => i.elim0)
  refine Chip.below _ (Eq.trans ?_ h0)
  pointwise [Cert.Pre_place_in.fn]
  rfl

end Cert.SumIn.Result

namespace Cert.SumInIdeal.Result

open Cert.SumInIdeal Cert.SumInIdeal.Gen

variable (m : (ℓ : Loc nD τ sig) → Buf (Elt Ideal) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 9 := t.isLt
  fin_cases a
  · show ((chip m).toNat + 1) * 1 ≤ 4
    omega
  · show (t.val + 1) * 400 ≤ 3600
    omega
  · show (0 + 1) * 512 ≤ 512
    omega

/-- What the precondition says of the chip's number. -/
theorem chip_lt (h : Cert.Pre_SumInIdeal (hPre_place_in := Cert.Pre_place_in.Gen.facts) m) : (chip m).toNat < 4 := by
  have h0 := congrFun (h 0) (fun i => i.elim0)
  refine Chip.below _ (Eq.trans ?_ h0)
  pointwise [Cert.Pre_place_in.fn]
  rfl

end Cert.SumInIdeal.Result

namespace Cert.SumInIdeal.Result

open Cert.SumInIdeal Cert.SumInIdeal.Gen

variable (m : (ℓ : Loc nD τ sig) → Buf (Elt Ideal) ℓ)

/-- Contents of the table at which the result's window is evaluated: its place does not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem idx_val : ∀ t : Fin grid0.N, cc0_transform_1 (grid0.coords t) = ![0, t.val, 0] ∧ cc0_transform_2 (grid0.coords t) = ![t.val, 0] := by decide +kernel

/-- An index of the block of grid point `t`, in the whole array. -/
def place (t : Fin 9) (y : S400x512.Idx) : S3600x512.Idx :=
  ix2 ⟨t.val * 400 + (y 0).val, by have := (y 0).isLt; have h : (y 0).val < 400 := this; have := t.isLt; omega⟩ (y 1)

theorem emb2 (hO : Ok m) (t : Fin (cfgM m hO).N) (y : S400x512.Idx) : (((cfgM m hO).win 2).blk t).view.emb y = place t y := by
  have h := (idx_val t).2
  funext a
  fin_cases a
  · exact Fin.ext (by show cc0_transform_2 (grid0.coords t) 0 * 400 + 1 * (y 0).val = t.val * 400 + (y 0).val; rw [h]; simp)
  · exact Fin.ext (by show cc0_transform_2 (grid0.coords t) 1 * 512 + 1 * (y 1).val = (y 1).val; rw [h]; simp)

theorem block0 (hO : Ok m) (c : Dev nD) (hc : (chip m).toNat < 4) (t : Fin (cfgM m hO).N) (y : S400x512.Idx) :
    iblk m hO c 0 t (ix3 0 (y 0) (y 1)) = m ((c : Thread nD τ).loc main_arg1) (ix3 ⟨(chip m).toNat, hc⟩ ((place t y) 0) ((place t y) 1)) := by
  have h := idx0 m t
  refine congrArg (m ((c : Thread nD τ).loc main_arg1)) ?_
  funext a
  fin_cases a
  · exact Fin.ext (by show cc0_transform_0 inb_S2_S1_1 numel1_S1 (tbl m) (grid0.coords t) 0 * 1 + 1 * 0 = (chip m).toNat; rw [h]; simp)
  · exact Fin.ext (by show cc0_transform_0 inb_S2_S1_1 numel1_S1 (tbl m) (grid0.coords t) 1 * 400 + 1 * (y 0).val = t.val * 400 + (y 0).val; rw [h]; simp)
  · exact Fin.ext (by show cc0_transform_0 inb_S2_S1_1 numel1_S1 (tbl m) (grid0.coords t) 2 * 512 + 1 * (y 1).val = (y 1).val; rw [h]; simp)

theorem block1 (hO : Ok m) (c : Dev nD) (t : Fin (cfgM m hO).N) (k : Fin 3) (y : S400x512.Idx) :
    iblk m hO c 1 t (ix3 k (y 0) (y 1)) = m ((c : Thread nD τ).loc main_arg2) (ix3 k ((place t y) 0) ((place t y) 1)) := by
  have h := (idx_val t).1
  refine congrArg (m ((c : Thread nD τ).loc main_arg2)) ?_
  funext a
  fin_cases a
  · exact Fin.ext (by show cc0_transform_1 (grid0.coords t) 0 * 3 + 1 * k.val = k.val; rw [h]; simp)
  · exact Fin.ext (by show cc0_transform_1 (grid0.coords t) 1 * 400 + 1 * (y 0).val = t.val * 400 + (y 0).val; rw [h]; simp)
  · exact Fin.ext (by show cc0_transform_1 (grid0.coords t) 2 * 512 + 1 * (y 1).val = (y 1).val; rw [h]; simp)

/-- The sum over the chips: the chip's own part and the three parts that came. -/
def total (k : Fin 4) (x : FVec Ideal S4x3600x512 .f32) (y : FVec Ideal S3x3600x512 .bf16) : FVec Ideal S3600x512 .f32 :=
  fun i => x (ix3 k (i 0) (i 1)) + y (ix3 0 (i 0) (i 1)) + y (ix3 1 (i 0) (i 1)) + y (ix3 2 (i 0) (i 1))

theorem pay (x : FVec Ideal S1x400x512 .f32) (y : FVec Ideal S3x400x512 .bf16) (i : S400x512.Idx) :
    k0_pay1 (F := Ideal) x y i = x (ix3 0 (i 0) (i 1)) + y (ix3 0 (i 0) (i 1)) + y (ix3 1 (i 0) (i 1)) + y (ix3 2 (i 0) (i 1)) := by pointwise [k0_pay1]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final (hO : Ok m) (hc : (chip m).toNat < 4) (c : Dev nD) : (dats m hO 0 c).arrAt 2 (cfgM m hO).N = total ⟨(chip m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay _ _ y).trans ?_
  exact congr (congrArg HAdd.hAdd (congr (congrArg HAdd.hAdd (congr (congrArg HAdd.hAdd ((congrFun (back _ _) _).trans (block0 m hO c hc t y)))
    ((congrFun (back _ _) _).trans (block1 m hO c t 0 y)))) ((congrFun (back _ _) _).trans (block1 m hO c t 1 y)))) ((congrFun (back _ _) _).trans (block1 m hO c t 2 y))

end Cert.SumInIdeal.Result

end
-- ==== Proof.SumInAgrees.lean ====
/- The sum over the chips and its reference end with the same result: SumIn. -/
module

public import proofs.«01_k».proof.Defs
public import proofs.«01_k».proof.Proof.Gen.SumInRefIdeal
public import proofs.«01_k».proof.Proof.Gen.SumInRefIdeal.Run
public import proofs.«01_k».proof.Proof.Gen.SumInIdeal
public import proofs.«01_k».proof.Proof.SumIn
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.SumInIdeal.Result

open Cert.SumInIdeal Cert.SumInIdeal.Gen

theorem agree : algebraic_SumInIdeal_SumInRefIdeal (hSumInIdeal := SumInIdeal.Gen.facts) (hSumInRefIdeal := SumInRefIdeal.Gen.facts) (hPre_place_in := Cert.Pre_place_in.Gen.facts) := by
  intro m g m' g' hpre hagree
  have hc := chip_lt m hpre
  have hO := okay m hc
  refine ⟨fun c => total ⟨(chip m).toNat, hc⟩ (m (c.tc.loc SumInIdeal.main_arg1)) (m (c.tc.loc SumInIdeal.main_arg2)), ?_, ?_⟩
  · refine θ_run_mono (run_main m g hO) ?_
    intro r h c
    exact ⟨((h c).1 2).trans (final m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (SumInRefIdeal.Value.run m' g') ?_
    intro r hr c
    have H := (hr c).1
    obtain ⟨a0, a1, a2⟩ := hagree c
    rw [a0, a1, a2] at H
    refine ⟨H.trans ?_, (hr c).2⟩
    obtain rfl : c = 0 := Subsingleton.elim _ _
    funext i
    pointwise [total]
    refine (congrArg (· + _) (Chip.own (chip m) hc _ (by simp only [id_eq]; pointwise) fun x => m (((0 : Dev nD) : Thread nD τ).loc main_arg1) (ix3 x (i 0) (i 1)))).trans ?_
    rw [Fin.sum_univ_three, ← add_assoc, ← add_assoc]

theorem quiet_any (m : (ℓ : Loc SumInRefIdeal.nD SumInRefIdeal.τ SumInRefIdeal.sig) → Buf (Elt Ideal) ℓ) (ρ : Dev SumInRefIdeal.nD → PrngReg) :
    θ_run SumInRefIdeal.defs (onTc (τ := SumInRefIdeal.τ) (SumInRefIdeal.main (F := Ideal))) ⟨m, fun _ => 0, ρ⟩ (fun r => (∀ c : Dev SumInRefIdeal.nD,
      r.2.mem ((c.tc : Thread SumInRefIdeal.nD SumInRefIdeal.τ).loc SumInRefIdeal.main_arg0) = m ((c.tc : Thread SumInRefIdeal.nD SumInRefIdeal.τ).loc SumInRefIdeal.main_arg0)
      ∧ r.2.mem ((c.tc : Thread SumInRefIdeal.nD SumInRefIdeal.τ).loc SumInRefIdeal.main_arg1) = m ((c.tc : Thread SumInRefIdeal.nD SumInRefIdeal.τ).loc SumInRefIdeal.main_arg1)
      ∧ r.2.mem ((c.tc : Thread SumInRefIdeal.nD SumInRefIdeal.τ).loc SumInRefIdeal.main_arg2) = m ((c.tc : Thread SumInRefIdeal.nD SumInRefIdeal.τ).loc SumInRefIdeal.main_arg2))
      ∧ r.2.sem = fun _ => 0) :=
  (θ_run _ _ _).mono (fun _ h => ⟨fun c => (h c).2, sem_eq_zero_of_no_sems (by decide) _⟩) (SumInRefIdeal.Value.run m ρ)

end Cert.SumInIdeal.Result

end
-- ==== Proof.SumUp.lean ====
/- The sum over the chips of a part of a projection's gradient. -/
module

public import proofs.«01_k».proof.Defs
public import proofs.«01_k».proof.Proof.Products
public import proofs.«01_k».proof.Proof.Chip
public import proofs.«01_k».proof.Proof.Gen.Pre_place_up
public import proofs.«01_k».proof.Proof.Gen.SumUp.Frame
public import proofs.«01_k».proof.Proof.Gen.SumUpIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.SumUp.Result

open Cert.SumUp Cert.SumUp.Gen

variable (m : (ℓ : Loc nD τ sig) → Buf (Elt Bits) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 1 := t.isLt
  fin_cases a
  · show ((chip m).toNat + 1) * 1 ≤ 4
    omega
  · show (t.val + 1) * 256 ≤ 256
    omega
  · show (0 + 1) * 1024 ≤ 1024
    omega

/-- What the precondition says of the chip's number. -/
theorem chip_lt (h : Cert.Pre_SumUp (hPre_place_up := Cert.Pre_place_up.Gen.facts) m) : (chip m).toNat < 4 := by
  have h0 := congrFun (h 0) (fun i => i.elim0)
  refine Chip.below _ (Eq.trans ?_ h0)
  pointwise [Cert.Pre_place_up.fn]
  rfl

end Cert.SumUp.Result

namespace Cert.SumUpIdeal.Result

open Cert.SumUpIdeal Cert.SumUpIdeal.Gen

variable (m : (ℓ : Loc nD τ sig) → Buf (Elt Ideal) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 1 := t.isLt
  fin_cases a
  · show ((chip m).toNat + 1) * 1 ≤ 4
    omega
  · show (t.val + 1) * 256 ≤ 256
    omega
  · show (0 + 1) * 1024 ≤ 1024
    omega

/-- What the precondition says of the chip's number. -/
theorem chip_lt (h : Cert.Pre_SumUpIdeal (hPre_place_up := Cert.Pre_place_up.Gen.facts) m) : (chip m).toNat < 4 := by
  have h0 := congrFun (h 0) (fun i => i.elim0)
  refine Chip.below _ (Eq.trans ?_ h0)
  pointwise [Cert.Pre_place_up.fn]
  rfl

end Cert.SumUpIdeal.Result

namespace Cert.SumUpIdeal.Result

open Cert.SumUpIdeal Cert.SumUpIdeal.Gen

variable (m : (ℓ : Loc nD τ sig) → Buf (Elt Ideal) ℓ)

/-- Contents of the table at which the result's window is evaluated: its place does not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem idx_val : ∀ t : Fin grid0.N, cc0_transform_1 (grid0.coords t) = ![0, t.val, 0] ∧ cc0_transform_2 (grid0.coords t) = ![t.val, 0] := by decide +kernel

/-- An index of the block of grid point `t`, in the whole array. -/
def place (t : Fin 1) (y : S256x1024.Idx) : S256x1024.Idx :=
  ix2 ⟨t.val * 256 + (y 0).val, by have := (y 0).isLt; have h : (y 0).val < 256 := this; have := t.isLt; omega⟩ (y 1)

theorem emb2 (hO : Ok m) (t : Fin (cfgM m hO).N) (y : S256x1024.Idx) : (((cfgM m hO).win 2).blk t).view.emb y = place t y := by
  have h := (idx_val t).2
  funext a
  fin_cases a
  · exact Fin.ext (by show cc0_transform_2 (grid0.coords t) 0 * 256 + 1 * (y 0).val = t.val * 256 + (y 0).val; rw [h]; simp)
  · exact Fin.ext (by show cc0_transform_2 (grid0.coords t) 1 * 1024 + 1 * (y 1).val = (y 1).val; rw [h]; simp)

theorem block0 (hO : Ok m) (c : Dev nD) (hc : (chip m).toNat < 4) (t : Fin (cfgM m hO).N) (y : S256x1024.Idx) :
    iblk m hO c 0 t (ix3 0 (y 0) (y 1)) = m ((c : Thread nD τ).loc main_arg1) (ix3 ⟨(chip m).toNat, hc⟩ ((place t y) 0) ((place t y) 1)) := by
  have h := idx0 m t
  refine congrArg (m ((c : Thread nD τ).loc main_arg1)) ?_
  funext a
  fin_cases a
  · exact Fin.ext (by show cc0_transform_0 inb_S2_S1_1 numel1_S1 (tbl m) (grid0.coords t) 0 * 1 + 1 * 0 = (chip m).toNat; rw [h]; simp)
  · exact Fin.ext (by show cc0_transform_0 inb_S2_S1_1 numel1_S1 (tbl m) (grid0.coords t) 1 * 256 + 1 * (y 0).val = t.val * 256 + (y 0).val; rw [h]; simp)
  · exact Fin.ext (by show cc0_transform_0 inb_S2_S1_1 numel1_S1 (tbl m) (grid0.coords t) 2 * 1024 + 1 * (y 1).val = (y 1).val; rw [h]; simp)

theorem block1 (hO : Ok m) (c : Dev nD) (t : Fin (cfgM m hO).N) (k : Fin 3) (y : S256x1024.Idx) :
    iblk m hO c 1 t (ix3 k (y 0) (y 1)) = m ((c : Thread nD τ).loc main_arg2) (ix3 k ((place t y) 0) ((place t y) 1)) := by
  have h := (idx_val t).1
  refine congrArg (m ((c : Thread nD τ).loc main_arg2)) ?_
  funext a
  fin_cases a
  · exact Fin.ext (by show cc0_transform_1 (grid0.coords t) 0 * 3 + 1 * k.val = k.val; rw [h]; simp)
  · exact Fin.ext (by show cc0_transform_1 (grid0.coords t) 1 * 256 + 1 * (y 0).val = t.val * 256 + (y 0).val; rw [h]; simp)
  · exact Fin.ext (by show cc0_transform_1 (grid0.coords t) 2 * 1024 + 1 * (y 1).val = (y 1).val; rw [h]; simp)

/-- The sum over the chips: the chip's own part and the three parts that came. -/
def total (k : Fin 4) (x : FVec Ideal S4x256x1024 .f32) (y : FVec Ideal S3x256x1024 .bf16) : FVec Ideal S256x1024 .f32 :=
  fun i => x (ix3 k (i 0) (i 1)) + y (ix3 0 (i 0) (i 1)) + y (ix3 1 (i 0) (i 1)) + y (ix3 2 (i 0) (i 1))

theorem pay (x : FVec Ideal S1x256x1024 .f32) (y : FVec Ideal S3x256x1024 .bf16) (i : S256x1024.Idx) :
    k0_pay1 (F := Ideal) x y i = x (ix3 0 (i 0) (i 1)) + y (ix3 0 (i 0) (i 1)) + y (ix3 1 (i 0) (i 1)) + y (ix3 2 (i 0) (i 1)) := by pointwise [k0_pay1]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final (hO : Ok m) (hc : (chip m).toNat < 4) (c : Dev nD) : (dats m hO 0 c).arrAt 2 (cfgM m hO).N = total ⟨(chip m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay _ _ y).trans ?_
  exact congr (congrArg HAdd.hAdd (congr (congrArg HAdd.hAdd (congr (congrArg HAdd.hAdd ((congrFun (back _ _) _).trans (block0 m hO c hc t y)))
    ((congrFun (back _ _) _).trans (block1 m hO c t 0 y)))) ((congrFun (back _ _) _).trans (block1 m hO c t 1 y)))) ((congrFun (back _ _) _).trans (block1 m hO c t 2 y))

end Cert.SumUpIdeal.Result

end
-- ==== Proof.SumUpAgrees.lean ====
/- The sum over the chips and its reference end with the same result: SumUp. -/
module

public import proofs.«01_k».proof.Defs
public import proofs.«01_k».proof.Proof.Gen.SumUpRefIdeal
public import proofs.«01_k».proof.Proof.Gen.SumUpRefIdeal.Run
public import proofs.«01_k».proof.Proof.Gen.SumUpIdeal
public import proofs.«01_k».proof.Proof.SumUp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.SumUpIdeal.Result

open Cert.SumUpIdeal Cert.SumUpIdeal.Gen

theorem agree : algebraic_SumUpIdeal_SumUpRefIdeal (hSumUpIdeal := SumUpIdeal.Gen.facts) (hSumUpRefIdeal := SumUpRefIdeal.Gen.facts) (hPre_place_up := Cert.Pre_place_up.Gen.facts) := by
  intro m g m' g' hpre hagree
  have hc := chip_lt m hpre
  have hO := okay m hc
  refine ⟨fun c => total ⟨(chip m).toNat, hc⟩ (m (c.tc.loc SumUpIdeal.main_arg1)) (m (c.tc.loc SumUpIdeal.main_arg2)), ?_, ?_⟩
  · refine θ_run_mono (run_main m g hO) ?_
    intro r h c
    exact ⟨((h c).1 2).trans (final m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (SumUpRefIdeal.Value.run m' g') ?_
    intro r hr c
    have H := (hr c).1
    obtain ⟨a0, a1, a2⟩ := hagree c
    rw [a0, a1, a2] at H
    refine ⟨H.trans ?_, (hr c).2⟩
    obtain rfl : c = 0 := Subsingleton.elim _ _
    funext i
    pointwise [total]
    refine (congrArg (· + _) (Chip.own (chip m) hc _ (by simp only [id_eq]; pointwise) fun x => m (((0 : Dev nD) : Thread nD τ).loc main_arg1) (ix3 x (i 0) (i 1)))).trans ?_
    rw [Fin.sum_univ_three, ← add_assoc, ← add_assoc]

theorem quiet_any (m : (ℓ : Loc SumUpRefIdeal.nD SumUpRefIdeal.τ SumUpRefIdeal.sig) → Buf (Elt Ideal) ℓ) (ρ : Dev SumUpRefIdeal.nD → PrngReg) :
    θ_run SumUpRefIdeal.defs (onTc (τ := SumUpRefIdeal.τ) (SumUpRefIdeal.main (F := Ideal))) ⟨m, fun _ => 0, ρ⟩ (fun r => (∀ c : Dev SumUpRefIdeal.nD,
      r.2.mem ((c.tc : Thread SumUpRefIdeal.nD SumUpRefIdeal.τ).loc SumUpRefIdeal.main_arg0) = m ((c.tc : Thread SumUpRefIdeal.nD SumUpRefIdeal.τ).loc SumUpRefIdeal.main_arg0)
      ∧ r.2.mem ((c.tc : Thread SumUpRefIdeal.nD SumUpRefIdeal.τ).loc SumUpRefIdeal.main_arg1) = m ((c.tc : Thread SumUpRefIdeal.nD SumUpRefIdeal.τ).loc SumUpRefIdeal.main_arg1)
      ∧ r.2.mem ((c.tc : Thread SumUpRefIdeal.nD SumUpRefIdeal.τ).loc SumUpRefIdeal.main_arg2) = m ((c.tc : Thread SumUpRefIdeal.nD SumUpRefIdeal.τ).loc SumUpRefIdeal.main_arg2))
      ∧ r.2.sem = fun _ => 0) :=
  (θ_run _ _ _).mono (fun _ h => ⟨fun c => (h c).2, sem_eq_zero_of_no_sems (by decide) _⟩) (SumUpRefIdeal.Value.run m ρ)

end Cert.SumUpIdeal.Result

end
-- ==== Proof.SumOut.lean ====
/- The sum over the chips of a part of the last projection's gradient. -/
module

public import proofs.«01_k».proof.Defs
public import proofs.«01_k».proof.Proof.Products
public import proofs.«01_k».proof.Proof.Chip
public import proofs.«01_k».proof.Proof.Gen.Pre_place_out
public import proofs.«01_k».proof.Proof.Gen.SumOut.Frame
public import proofs.«01_k».proof.Proof.Gen.SumOutIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.SumOut.Result

open Cert.SumOut Cert.SumOut.Gen

variable (m : (ℓ : Loc nD τ sig) → Buf (Elt Bits) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 1 := t.isLt
  fin_cases a
  · show ((chip m).toNat + 1) * 1 ≤ 4
    omega
  · show (t.val + 1) * 128 ≤ 128
    omega
  · show (0 + 1) * 1024 ≤ 1024
    omega

/-- What the precondition says of the chip's number. -/
theorem chip_lt (h : Cert.Pre_SumOut (hPre_place_out := Cert.Pre_place_out.Gen.facts) m) : (chip m).toNat < 4 := by
  have h0 := congrFun (h 0) (fun i => i.elim0)
  refine Chip.below _ (Eq.trans ?_ h0)
  pointwise [Cert.Pre_place_out.fn]
  rfl

end Cert.SumOut.Result

namespace Cert.SumOutIdeal.Result

open Cert.SumOutIdeal Cert.SumOutIdeal.Gen

variable (m : (ℓ : Loc nD τ sig) → Buf (Elt Ideal) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 1 := t.isLt
  fin_cases a
  · show ((chip m).toNat + 1) * 1 ≤ 4
    omega
  · show (t.val + 1) * 128 ≤ 128
    omega
  · show (0 + 1) * 1024 ≤ 1024
    omega

/-- What the precondition says of the chip's number. -/
theorem chip_lt (h : Cert.Pre_SumOutIdeal (hPre_place_out := Cert.Pre_place_out.Gen.facts) m) : (chip m).toNat < 4 := by
  have h0 := congrFun (h 0) (fun i => i.elim0)
  refine Chip.below _ (Eq.trans ?_ h0)
  pointwise [Cert.Pre_place_out.fn]
  rfl

end Cert.SumOutIdeal.Result

namespace Cert.SumOutIdeal.Result

open Cert.SumOutIdeal Cert.SumOutIdeal.Gen

variable (m : (ℓ : Loc nD τ sig) → Buf (Elt Ideal) ℓ)

/-- Contents of the table at which the result's window is evaluated: its place does not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem idx_val : ∀ t : Fin grid0.N, cc0_transform_1 (grid0.coords t) = ![0, t.val, 0] ∧ cc0_transform_2 (grid0.coords t) = ![t.val, 0] := by decide +kernel

/-- An index of the block of grid point `t`, in the whole array. -/
def place (t : Fin 1) (y : S128x1024.Idx) : S128x1024.Idx :=
  ix2 ⟨t.val * 128 + (y 0).val, by have := (y 0).isLt; have h : (y 0).val < 128 := this; have := t.isLt; omega⟩ (y 1)

theorem emb2 (hO : Ok m) (t : Fin (cfgM m hO).N) (y : S128x1024.Idx) : (((cfgM m hO).win 2).blk t).view.emb y = place t y := by
  have h := (idx_val t).2
  funext a
  fin_cases a
  · exact Fin.ext (by show cc0_transform_2 (grid0.coords t) 0 * 128 + 1 * (y 0).val = t.val * 128 + (y 0).val; rw [h]; simp)
  · exact Fin.ext (by show cc0_transform_2 (grid0.coords t) 1 * 1024 + 1 * (y 1).val = (y 1).val; rw [h]; simp)

theorem block0 (hO : Ok m) (c : Dev nD) (hc : (chip m).toNat < 4) (t : Fin (cfgM m hO).N) (y : S128x1024.Idx) :
    iblk m hO c 0 t (ix3 0 (y 0) (y 1)) = m ((c : Thread nD τ).loc main_arg1) (ix3 ⟨(chip m).toNat, hc⟩ ((place t y) 0) ((place t y) 1)) := by
  have h := idx0 m t
  refine congrArg (m ((c : Thread nD τ).loc main_arg1)) ?_
  funext a
  fin_cases a
  · exact Fin.ext (by show cc0_transform_0 inb_S2_S1_1 numel1_S1 (tbl m) (grid0.coords t) 0 * 1 + 1 * 0 = (chip m).toNat; rw [h]; simp)
  · exact Fin.ext (by show cc0_transform_0 inb_S2_S1_1 numel1_S1 (tbl m) (grid0.coords t) 1 * 128 + 1 * (y 0).val = t.val * 128 + (y 0).val; rw [h]; simp)
  · exact Fin.ext (by show cc0_transform_0 inb_S2_S1_1 numel1_S1 (tbl m) (grid0.coords t) 2 * 1024 + 1 * (y 1).val = (y 1).val; rw [h]; simp)

theorem block1 (hO : Ok m) (c : Dev nD) (t : Fin (cfgM m hO).N) (k : Fin 3) (y : S128x1024.Idx) :
    iblk m hO c 1 t (ix3 k (y 0) (y 1)) = m ((c : Thread nD τ).loc main_arg2) (ix3 k ((place t y) 0) ((place t y) 1)) := by
  have h := (idx_val t).1
  refine congrArg (m ((c : Thread nD τ).loc main_arg2)) ?_
  funext a
  fin_cases a
  · exact Fin.ext (by show cc0_transform_1 (grid0.coords t) 0 * 3 + 1 * k.val = k.val; rw [h]; simp)
  · exact Fin.ext (by show cc0_transform_1 (grid0.coords t) 1 * 128 + 1 * (y 0).val = t.val * 128 + (y 0).val; rw [h]; simp)
  · exact Fin.ext (by show cc0_transform_1 (grid0.coords t) 2 * 1024 + 1 * (y 1).val = (y 1).val; rw [h]; simp)

/-- The sum over the chips: the chip's own part and the three parts that came. -/
def total (k : Fin 4) (x : FVec Ideal S4x128x1024 .f32) (y : FVec Ideal S3x128x1024 .bf16) : FVec Ideal S128x1024 .f32 :=
  fun i => x (ix3 k (i 0) (i 1)) + y (ix3 0 (i 0) (i 1)) + y (ix3 1 (i 0) (i 1)) + y (ix3 2 (i 0) (i 1))

theorem pay (x : FVec Ideal S1x128x1024 .f32) (y : FVec Ideal S3x128x1024 .bf16) (i : S128x1024.Idx) :
    k0_pay1 (F := Ideal) x y i = x (ix3 0 (i 0) (i 1)) + y (ix3 0 (i 0) (i 1)) + y (ix3 1 (i 0) (i 1)) + y (ix3 2 (i 0) (i 1)) := by pointwise [k0_pay1]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final (hO : Ok m) (hc : (chip m).toNat < 4) (c : Dev nD) : (dats m hO 0 c).arrAt 2 (cfgM m hO).N = total ⟨(chip m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay _ _ y).trans ?_
  exact congr (congrArg HAdd.hAdd (congr (congrArg HAdd.hAdd (congr (congrArg HAdd.hAdd ((congrFun (back _ _) _).trans (block0 m hO c hc t y)))
    ((congrFun (back _ _) _).trans (block1 m hO c t 0 y)))) ((congrFun (back _ _) _).trans (block1 m hO c t 1 y)))) ((congrFun (back _ _) _).trans (block1 m hO c t 2 y))

end Cert.SumOutIdeal.Result

end
-- ==== Proof.SumOutAgrees.lean ====
/- The sum over the chips and its reference end with the same result: SumOut. -/
module

public import proofs.«01_k».proof.Defs
public import proofs.«01_k».proof.Proof.Gen.SumOutRefIdeal
public import proofs.«01_k».proof.Proof.Gen.SumOutRefIdeal.Run
public import proofs.«01_k».proof.Proof.Gen.SumOutIdeal
public import proofs.«01_k».proof.Proof.SumOut
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.SumOutIdeal.Result

open Cert.SumOutIdeal Cert.SumOutIdeal.Gen

theorem agree : algebraic_SumOutIdeal_SumOutRefIdeal (hSumOutIdeal := SumOutIdeal.Gen.facts) (hSumOutRefIdeal := SumOutRefIdeal.Gen.facts) (hPre_place_out := Cert.Pre_place_out.Gen.facts) := by
  intro m g m' g' hpre hagree
  have hc := chip_lt m hpre
  have hO := okay m hc
  refine ⟨fun c => total ⟨(chip m).toNat, hc⟩ (m (c.tc.loc SumOutIdeal.main_arg1)) (m (c.tc.loc SumOutIdeal.main_arg2)), ?_, ?_⟩
  · refine θ_run_mono (run_main m g hO) ?_
    intro r h c
    exact ⟨((h c).1 2).trans (final m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (SumOutRefIdeal.Value.run m' g') ?_
    intro r hr c
    have H := (hr c).1
    obtain ⟨a0, a1, a2⟩ := hagree c
    rw [a0, a1, a2] at H
    refine ⟨H.trans ?_, (hr c).2⟩
    obtain rfl : c = 0 := Subsingleton.elim _ _
    funext i
    pointwise [total]
    refine (congrArg (· + _) (Chip.own (chip m) hc _ (by simp only [id_eq]; pointwise) fun x => m (((0 : Dev nD) : Thread nD τ).loc main_arg1) (ix3 x (i 0) (i 1)))).trans ?_
    rw [Fin.sum_univ_three, ← add_assoc, ← add_assoc]

theorem quiet_any (m : (ℓ : Loc SumOutRefIdeal.nD SumOutRefIdeal.τ SumOutRefIdeal.sig) → Buf (Elt Ideal) ℓ) (ρ : Dev SumOutRefIdeal.nD → PrngReg) :
    θ_run SumOutRefIdeal.defs (onTc (τ := SumOutRefIdeal.τ) (SumOutRefIdeal.main (F := Ideal))) ⟨m, fun _ => 0, ρ⟩ (fun r => (∀ c : Dev SumOutRefIdeal.nD,
      r.2.mem ((c.tc : Thread SumOutRefIdeal.nD SumOutRefIdeal.τ).loc SumOutRefIdeal.main_arg0) = m ((c.tc : Thread SumOutRefIdeal.nD SumOutRefIdeal.τ).loc SumOutRefIdeal.main_arg0)
      ∧ r.2.mem ((c.tc : Thread SumOutRefIdeal.nD SumOutRefIdeal.τ).loc SumOutRefIdeal.main_arg1) = m ((c.tc : Thread SumOutRefIdeal.nD SumOutRefIdeal.τ).loc SumOutRefIdeal.main_arg1)
      ∧ r.2.mem ((c.tc : Thread SumOutRefIdeal.nD SumOutRefIdeal.τ).loc SumOutRefIdeal.main_arg2) = m ((c.tc : Thread SumOutRefIdeal.nD SumOutRefIdeal.τ).loc SumOutRefIdeal.main_arg2))
      ∧ r.2.sem = fun _ => 0) :=
  (θ_run _ _ _).mono (fun _ h => ⟨fun c => (h c).2, sem_eq_zero_of_no_sems (by decide) _⟩) (SumOutRefIdeal.Value.run m ρ)

end Cert.SumOutIdeal.Result

end
-- ==== Proof.SumMlp.lean ====
/- The sum over the chips of a part of a gradient of the perceptron. -/
module

public import proofs.«01_k».proof.Defs
public import proofs.«01_k».proof.Proof.Products
public import proofs.«01_k».proof.Proof.Chip
public import proofs.«01_k».proof.Proof.Gen.Pre_place_mlp
public import proofs.«01_k».proof.Proof.Gen.SumMlp.Frame
public import proofs.«01_k».proof.Proof.Gen.SumMlpIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.SumMlp.Result

open Cert.SumMlp Cert.SumMlp.Gen

variable (m : (ℓ : Loc nD τ sig) → Buf (Elt Bits) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 2 := t.isLt
  fin_cases a
  · show ((chip m).toNat + 1) * 1 ≤ 4
    omega
  · show (t.val + 1) * 256 ≤ 512
    omega
  · show (0 + 1) * 1024 ≤ 1024
    omega

/-- What the precondition says of the chip's number. -/
theorem chip_lt (h : Cert.Pre_SumMlp (hPre_place_mlp := Cert.Pre_place_mlp.Gen.facts) m) : (chip m).toNat < 4 := by
  have h0 := congrFun (h 0) (fun i => i.elim0)
  refine Chip.below _ (Eq.trans ?_ h0)
  pointwise [Cert.Pre_place_mlp.fn]
  rfl

end Cert.SumMlp.Result

namespace Cert.SumMlpIdeal.Result

open Cert.SumMlpIdeal Cert.SumMlpIdeal.Gen

variable (m : (ℓ : Loc nD τ sig) → Buf (Elt Ideal) ℓ)

/-- The chip's number, as the table holds it. -/
def chip : BitVec 32 := m (((0 : Dev nD) : Thread nD τ).loc main_arg0) (ix1 1)

theorem read_chip (h1 : ∀ a, (![1] : Fin 1 → Nat) a + S1.size a ≤ S2.size a) (h2 : S1.numel = 1) :
    (tbl m).at 0 (Rect.unit (s := S2) ![1] S1.size h1) h2 = chip m := by
  refine congrArg (m (((0 : Dev nD) : Thread nD τ).loc main_arg0)) ?_
  funext a
  fin_cases a
  exact Fin.ext (by rfl)

theorem idx0 (t : Fin grid0.N) : cc0_transform_0 inb_S2_S1_1 numel1_S1 (tbl m) (grid0.coords t) = ![(chip m).toNat, t.val, 0] := by
  have h : ∀ t : Fin grid0.N, (BitVec.ofNat 32 ((grid0.coords t) 0).val).toNat = t.val := by decide +kernel
  unfold cc0_transform_0
  rw [read_chip]
  simp only [h]
  rfl

/-- Below four the chip's number keeps every window inside its array. -/
theorem okay (h : (chip m).toNat < 4) : Ok m := by
  intro i
  obtain ⟨t, rfl⟩ : ∃ t : Fin grid0.N, grid0.coords t = i := grid0.coords_surjective i
  refine ⟨fun a => ?_, Or.inl rfl⟩
  rw [idx0 m t]
  have ht : t.val < 2 := t.isLt
  fin_cases a
  · show ((chip m).toNat + 1) * 1 ≤ 4
    omega
  · show (t.val + 1) * 256 ≤ 512
    omega
  · show (0 + 1) * 1024 ≤ 1024
    omega

/-- What the precondition says of the chip's number. -/
theorem chip_lt (h : Cert.Pre_SumMlpIdeal (hPre_place_mlp := Cert.Pre_place_mlp.Gen.facts) m) : (chip m).toNat < 4 := by
  have h0 := congrFun (h 0) (fun i => i.elim0)
  refine Chip.below _ (Eq.trans ?_ h0)
  pointwise [Cert.Pre_place_mlp.fn]
  rfl

end Cert.SumMlpIdeal.Result

namespace Cert.SumMlpIdeal.Result

open Cert.SumMlpIdeal Cert.SumMlpIdeal.Gen

variable (m : (ℓ : Loc nD τ sig) → Buf (Elt Ideal) ℓ)

/-- Contents of the table at which the result's window is evaluated: its place does not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem idx_val : ∀ t : Fin grid0.N, cc0_transform_1 (grid0.coords t) = ![0, t.val, 0] ∧ cc0_transform_2 (grid0.coords t) = ![t.val, 0] := by decide +kernel

/-- An index of the block of grid point `t`, in the whole array. -/
def place (t : Fin 2) (y : S256x1024.Idx) : S512x1024.Idx :=
  ix2 ⟨t.val * 256 + (y 0).val, by have := (y 0).isLt; have h : (y 0).val < 256 := this; have := t.isLt; omega⟩ (y 1)

theorem emb2 (hO : Ok m) (t : Fin (cfgM m hO).N) (y : S256x1024.Idx) : (((cfgM m hO).win 2).blk t).view.emb y = place t y := by
  have h := (idx_val t).2
  funext a
  fin_cases a
  · exact Fin.ext (by show cc0_transform_2 (grid0.coords t) 0 * 256 + 1 * (y 0).val = t.val * 256 + (y 0).val; rw [h]; simp)
  · exact Fin.ext (by show cc0_transform_2 (grid0.coords t) 1 * 1024 + 1 * (y 1).val = (y 1).val; rw [h]; simp)

theorem block0 (hO : Ok m) (c : Dev nD) (hc : (chip m).toNat < 4) (t : Fin (cfgM m hO).N) (y : S256x1024.Idx) :
    iblk m hO c 0 t (ix3 0 (y 0) (y 1)) = m ((c : Thread nD τ).loc main_arg1) (ix3 ⟨(chip m).toNat, hc⟩ ((place t y) 0) ((place t y) 1)) := by
  have h := idx0 m t
  refine congrArg (m ((c : Thread nD τ).loc main_arg1)) ?_
  funext a
  fin_cases a
  · exact Fin.ext (by show cc0_transform_0 inb_S2_S1_1 numel1_S1 (tbl m) (grid0.coords t) 0 * 1 + 1 * 0 = (chip m).toNat; rw [h]; simp)
  · exact Fin.ext (by show cc0_transform_0 inb_S2_S1_1 numel1_S1 (tbl m) (grid0.coords t) 1 * 256 + 1 * (y 0).val = t.val * 256 + (y 0).val; rw [h]; simp)
  · exact Fin.ext (by show cc0_transform_0 inb_S2_S1_1 numel1_S1 (tbl m) (grid0.coords t) 2 * 1024 + 1 * (y 1).val = (y 1).val; rw [h]; simp)

theorem block1 (hO : Ok m) (c : Dev nD) (t : Fin (cfgM m hO).N) (k : Fin 3) (y : S256x1024.Idx) :
    iblk m hO c 1 t (ix3 k (y 0) (y 1)) = m ((c : Thread nD τ).loc main_arg2) (ix3 k ((place t y) 0) ((place t y) 1)) := by
  have h := (idx_val t).1
  refine congrArg (m ((c : Thread nD τ).loc main_arg2)) ?_
  funext a
  fin_cases a
  · exact Fin.ext (by show cc0_transform_1 (grid0.coords t) 0 * 3 + 1 * k.val = k.val; rw [h]; simp)
  · exact Fin.ext (by show cc0_transform_1 (grid0.coords t) 1 * 256 + 1 * (y 0).val = t.val * 256 + (y 0).val; rw [h]; simp)
  · exact Fin.ext (by show cc0_transform_1 (grid0.coords t) 2 * 1024 + 1 * (y 1).val = (y 1).val; rw [h]; simp)

/-- The sum over the chips: the chip's own part and the three parts that came. -/
def total (k : Fin 4) (x : FVec Ideal S4x512x1024 .f32) (y : FVec Ideal S3x512x1024 .bf16) : FVec Ideal S512x1024 .f32 :=
  fun i => x (ix3 k (i 0) (i 1)) + y (ix3 0 (i 0) (i 1)) + y (ix3 1 (i 0) (i 1)) + y (ix3 2 (i 0) (i 1))

theorem pay (x : FVec Ideal S1x256x1024 .f32) (y : FVec Ideal S3x256x1024 .bf16) (i : S256x1024.Idx) :
    k0_pay1 (F := Ideal) x y i = x (ix3 0 (i 0) (i 1)) + y (ix3 0 (i 0) (i 1)) + y (ix3 1 (i 0) (i 1)) + y (ix3 2 (i 0) (i 1)) := by pointwise [k0_pay1]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final (hO : Ok m) (hc : (chip m).toNat < 4) (c : Dev nD) : (dats m hO 0 c).arrAt 2 (cfgM m hO).N = total ⟨(chip m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay _ _ y).trans ?_
  exact congr (congrArg HAdd.hAdd (congr (congrArg HAdd.hAdd (congr (congrArg HAdd.hAdd ((congrFun (back _ _) _).trans (block0 m hO c hc t y)))
    ((congrFun (back _ _) _).trans (block1 m hO c t 0 y)))) ((congrFun (back _ _) _).trans (block1 m hO c t 1 y)))) ((congrFun (back _ _) _).trans (block1 m hO c t 2 y))

end Cert.SumMlpIdeal.Result

end
-- ==== Proof.SumMlpAgrees.lean ====
/- The sum over the chips and its reference end with the same result: SumMlp. -/
module

public import proofs.«01_k».proof.Defs
public import proofs.«01_k».proof.Proof.Gen.SumMlpRefIdeal
public import proofs.«01_k».proof.Proof.Gen.SumMlpRefIdeal.Run
public import proofs.«01_k».proof.Proof.Gen.SumMlpIdeal
public import proofs.«01_k».proof.Proof.SumMlp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.SumMlpIdeal.Result

open Cert.SumMlpIdeal Cert.SumMlpIdeal.Gen

theorem agree : algebraic_SumMlpIdeal_SumMlpRefIdeal (hSumMlpIdeal := SumMlpIdeal.Gen.facts) (hSumMlpRefIdeal := SumMlpRefIdeal.Gen.facts) (hPre_place_mlp := Cert.Pre_place_mlp.Gen.facts) := by
  intro m g m' g' hpre hagree
  have hc := chip_lt m hpre
  have hO := okay m hc
  refine ⟨fun c => total ⟨(chip m).toNat, hc⟩ (m (c.tc.loc SumMlpIdeal.main_arg1)) (m (c.tc.loc SumMlpIdeal.main_arg2)), ?_, ?_⟩
  · refine θ_run_mono (run_main m g hO) ?_
    intro r h c
    exact ⟨((h c).1 2).trans (final m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (SumMlpRefIdeal.Value.run m' g') ?_
    intro r hr c
    have H := (hr c).1
    obtain ⟨a0, a1, a2⟩ := hagree c
    rw [a0, a1, a2] at H
    refine ⟨H.trans ?_, (hr c).2⟩
    obtain rfl : c = 0 := Subsingleton.elim _ _
    funext i
    pointwise [total]
    refine (congrArg (· + _) (Chip.own (chip m) hc _ (by simp only [id_eq]; pointwise) fun x => m (((0 : Dev nD) : Thread nD τ).loc main_arg1) (ix3 x (i 0) (i 1)))).trans ?_
    rw [Fin.sum_univ_three, ← add_assoc, ← add_assoc]

theorem quiet_any (m : (ℓ : Loc SumMlpRefIdeal.nD SumMlpRefIdeal.τ SumMlpRefIdeal.sig) → Buf (Elt Ideal) ℓ) (ρ : Dev SumMlpRefIdeal.nD → PrngReg) :
    θ_run SumMlpRefIdeal.defs (onTc (τ := SumMlpRefIdeal.τ) (SumMlpRefIdeal.main (F := Ideal))) ⟨m, fun _ => 0, ρ⟩ (fun r => (∀ c : Dev SumMlpRefIdeal.nD,
      r.2.mem ((c.tc : Thread SumMlpRefIdeal.nD SumMlpRefIdeal.τ).loc SumMlpRefIdeal.main_arg0) = m ((c.tc : Thread SumMlpRefIdeal.nD SumMlpRefIdeal.τ).loc SumMlpRefIdeal.main_arg0)
      ∧ r.2.mem ((c.tc : Thread SumMlpRefIdeal.nD SumMlpRefIdeal.τ).loc SumMlpRefIdeal.main_arg1) = m ((c.tc : Thread SumMlpRefIdeal.nD SumMlpRefIdeal.τ).loc SumMlpRefIdeal.main_arg1)
      ∧ r.2.mem ((c.tc : Thread SumMlpRefIdeal.nD SumMlpRefIdeal.τ).loc SumMlpRefIdeal.main_arg2) = m ((c.tc : Thread SumMlpRefIdeal.nD SumMlpRefIdeal.τ).loc SumMlpRefIdeal.main_arg2))
      ∧ r.2.sem = fun _ => 0) :=
  (θ_run _ _ _).mono (fun _ h => ⟨fun c => (h c).2, sem_eq_zero_of_no_sems (by decide) _⟩) (SumMlpRefIdeal.Value.run m ρ)

end Cert.SumMlpIdeal.Result

end
-- ==== Proof.AddIn.lean ====
/- The sum over a chip's two devices of a half of the first weight's gradient. -/
module

public import proofs.«01_k».proof.Defs
public import proofs.«01_k».proof.Proof.Products
public import proofs.«01_k».proof.Proof.Chip
public import proofs.«01_k».proof.Proof.Gen.Pre_core_in
public import proofs.«01_k».proof.Proof.Gen.AddIn.Frame
public import proofs.«01_k».proof.Proof.Gen.AddInIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.AddIn.Result

open Cert.AddIn Cert.AddIn.Gen

variable (m : (ℓ : Loc nD τ sig) → Buf (Elt Bits) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 9, t.val % 9, (core m).toNat] := by
  have h : ∀ t : Fin grid0.N, (BitVec.ofNat 32 (grid0.coords t 0).val).toNat = t.val / 9 ∧ (BitVec.ofNat 32 (grid0.coords t 1).val).toNat = t.val % 9 := by decide +kernel
  unfold cc0_transform_0
  rw [read_core]
  simp only [(h t).1, (h t).2]

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 36 := t.isLt
  fin_cases a
  · show (t.val / 9 + 1) * 1 ≤ 4
    omega
  · show (t.val % 9 + 1) * 400 ≤ 3600
    omega
  · show ((core m).toNat + 1) * 512 ≤ 1024
    omega

/-- What the precondition says of the device's place. -/
theorem core_lt (h : Cert.Pre_AddIn (hPre_core_in := Cert.Pre_core_in.Gen.facts) m) : (core m).toNat < 2 := by
  have h0 := congrFun (h 0) (fun i => i.elim0)
  refine Chip.core_below _ (Eq.trans ?_ h0)
  pointwise [Cert.Pre_core_in.fn]
  rfl

end Cert.AddIn.Result

namespace Cert.AddInIdeal.Result

open Cert.AddInIdeal Cert.AddInIdeal.Gen

variable (m : (ℓ : Loc nD τ sig) → Buf (Elt Ideal) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 9, t.val % 9, (core m).toNat] := by
  have h : ∀ t : Fin grid0.N, (BitVec.ofNat 32 (grid0.coords t 0).val).toNat = t.val / 9 ∧ (BitVec.ofNat 32 (grid0.coords t 1).val).toNat = t.val % 9 := by decide +kernel
  unfold cc0_transform_0
  rw [read_core]
  simp only [(h t).1, (h t).2]

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 36 := t.isLt
  fin_cases a
  · show (t.val / 9 + 1) * 1 ≤ 4
    omega
  · show (t.val % 9 + 1) * 400 ≤ 3600
    omega
  · show ((core m).toNat + 1) * 512 ≤ 1024
    omega

/-- What the precondition says of the device's place. -/
theorem core_lt (h : Cert.Pre_AddInIdeal (hPre_core_in := Cert.Pre_core_in.Gen.facts) m) : (core m).toNat < 2 := by
  have h0 := congrFun (h 0) (fun i => i.elim0)
  refine Chip.core_below _ (Eq.trans ?_ h0)
  pointwise [Cert.Pre_core_in.fn]
  rfl

end Cert.AddInIdeal.Result

namespace Cert.AddInIdeal.Result

open Cert.AddInIdeal Cert.AddInIdeal.Gen

variable (m : (ℓ : Loc nD τ sig) → Buf (Elt Ideal) ℓ)

/-- Contents of the table at which the results' windows are evaluated: their places do not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem covers3 (a : (pcfg0 (F := Ideal)).Adm) : ((cfg0 a).win 3).Covers :=
  show ((cfg0 table).win 3).Covers from by decide +kernel

theorem idx_val : ∀ t : Fin grid0.N, cc0_transform_1 (grid0.coords t) = ![t.val / 9, t.val % 9, 0] ∧ cc0_transform_2 (grid0.coords t) = ![t.val / 9, t.val % 9, 0] ∧ cc0_transform_3 (grid0.coords t) = ![t.val / 9, t.val % 9, 0] := by decide +kernel

/-- An index of the block of grid point `t`, in the whole array. -/
def place (t : Fin 36) (y : S1x400x512.Idx) : S4x3600x512.Idx :=
  ix3 ⟨t.val / 9, by have := t.isLt; omega⟩ ⟨t.val % 9 * 400 + (y 1).val, by have := (y 1).isLt; have h : (y 1).val < 400 := this; have := t.isLt; omega⟩ (y 2)

theorem emb1 (hO : Ok m) (t : Fin (cfgM m hO).N) (y : S1x400x512.Idx) : (((cfgM m hO).win 1).blk t).view.emb y = place t y := by
  have h := (idx_val t).1
  have y0 : (y 0).val < 1 := (y 0).isLt
  funext a
  fin_cases a
  · exact Fin.ext (by show cc0_transform_1 (grid0.coords t) 0 * 1 + 1 * (y 0).val = t.val / 9; rw [h]; simp; try omega)
  · exact Fin.ext (by show cc0_transform_1 (grid0.coords t) 1 * 400 + 1 * (y 1).val = t.val % 9 * 400 + (y 1).val; rw [h]; simp)
  · exact Fin.ext (by show cc0_transform_1 (grid0.coords t) 2 * 512 + 1 * (y 2).val = (y 2).val; rw [h]; simp)

theorem emb2 (hO : Ok m) (t : Fin (cfgM m hO).N) (y : S1x400x512.Idx) : (((cfgM m hO).win 2).blk t).view.emb y = place t y := by
  have h := (idx_val t).2.1
  have y0 : (y 0).val < 1 := (y 0).isLt
  funext a
  fin_cases a
  · exact Fin.ext (by show cc0_transform_2 (grid0.coords t) 0 * 1 + 1 * (y 0).val = t.val / 9; rw [h]; simp; try omega)
  · exact Fin.ext (by show cc0_transform_2 (grid0.coords t) 1 * 400 + 1 * (y 1).val = t.val % 9 * 400 + (y 1).val; rw [h]; simp)
  · exact Fin.ext (by show cc0_transform_2 (grid0.coords t) 2 * 512 + 1 * (y 2).val = (y 2).val; rw [h]; simp)

theorem emb3 (hO : Ok m) (t : Fin (cfgM m hO).N) (y : S1x400x512.Idx) : (((cfgM m hO).win 3).blk t).view.emb y = place t y := by
  have h := (idx_val t).2.2
  have y0 : (y 0).val < 1 := (y 0).isLt
  funext a
  fin_cases a
  · exact Fin.ext (by show cc0_transform_3 (grid0.coords t) 0 * 1 + 1 * (y 0).val = t.val / 9; rw [h]; simp; try omega)
  · exact Fin.ext (by show cc0_transform_3 (grid0.coords t) 1 * 400 + 1 * (y 1).val = t.val % 9 * 400 + (y 1).val; rw [h]; simp)
  · exact Fin.ext (by show cc0_transform_3 (grid0.coords t) 2 * 512 + 1 * (y 2).val = (y 2).val; rw [h]; simp)

/-- The half at place `k` of a chip's pair. -/
def own (k : Fin 2) (x : FVec Ideal S4x3600x1024 .f32) : FVec Ideal S4x3600x512 .f32 :=
  fun i => x (ix3 (i 0) (i 1) ⟨k.val * 512 + (i 2).val, by have := (i 2).isLt; have h : (i 2).val < 512 := this; have := k.isLt; omega⟩)

theorem block0 (hO : Ok m) (c : Dev nD) (hc : (core m).toNat < 2) (t : Fin (cfgM m hO).N) (y : S1x400x512.Idx) :
    iblk m hO c 0 t y = own ⟨(core m).toNat, hc⟩ (m ((c : Thread nD τ).loc main_arg1)) (place t y) := by
  have h := idx0 m hc t
  have y0 : (y 0).val < 1 := (y 0).isLt
  refine congrArg (m ((c : Thread nD τ).loc main_arg1)) ?_
  funext a
  fin_cases a
  · exact Fin.ext (by show cc0_transform_0 inb_S2_S1_0 numel1_S1 (tbl m) (grid0.coords t) 0 * 1 + 1 * (y 0).val = t.val / 9; rw [h]; simp; try omega)
  · exact Fin.ext (by show cc0_transform_0 inb_S2_S1_0 numel1_S1 (tbl m) (grid0.coords t) 1 * 400 + 1 * (y 1).val = t.val % 9 * 400 + (y 1).val; rw [h]; simp)
  · exact Fin.ext (by show cc0_transform_0 inb_S2_S1_0 numel1_S1 (tbl m) (grid0.coords t) 2 * 512 + 1 * (y 2).val = (core m).toNat * 512 + (y 2).val; rw [h]; simp)

theorem block1 (hO : Ok m) (c : Dev nD) (t : Fin (cfgM m hO).N) (y : S1x400x512.Idx) :
    iblk m hO c 1 t y = m ((c : Thread nD τ).loc main_arg2) (place t y) :=
  congrArg (m ((c : Thread nD τ).loc main_arg2)) (emb1 m hO t y)

/-- The sum over a chip's two devices: the own half and the part that came. -/
def total (k : Fin 2) (x : FVec Ideal S4x3600x1024 .f32) (y : FVec Ideal S4x3600x512 .f32) : FVec Ideal S4x3600x512 .f32 := fun i => own k x i + y i

/-- The same sum, as it is sent on. -/
def sent (k : Fin 2) (x : FVec Ideal S4x3600x1024 .f32) (y : FVec Ideal S4x3600x512 .f32) : FVec Ideal S4x3600x512 .bf16 := total k x y

theorem pay_total (x y : FVec Ideal S1x400x512 .f32) (i : S1x400x512.Idx) : k0_pay3 (F := Ideal) x y i = x i + y i := by pointwise [k0_pay3, k0_pay1, k0_pay2]

theorem pay_sent (x y : FVec Ideal S1x400x512 .f32) (i : S1x400x512.Idx) : k0_pay4 (F := Ideal) x y i = x i + y i := by pointwise [k0_pay4, k0_pay1, k0_pay2]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_total (hO : Ok m) (hc : (core m).toNat < 2) (c : Dev nD) : (dats m hO 0 c).arrAt 2 (cfgM m hO).N = total ⟨(core m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay_total _ _ y).trans ?_
  exact congr (congrArg HAdd.hAdd ((congrFun (back _ _) _).trans (block0 m hO c hc t y))) ((congrFun (back _ _) _).trans (block1 m hO c t y))

theorem final_sent (hO : Ok m) (hc : (core m).toNat < 2) (c : Dev nD) : (dats m hO 0 c).arrAt 3 (cfgM m hO).N = sent ⟨(core m).toNat, hc⟩ (m ((c : Thread nD τ).loc main_arg1)) (m ((c : Thread nD τ).loc main_arg2)) := by
  refine (dats m hO 0 c).arrAt_eq_of_covers 3 _ (covers3 _) fun t hf y => ?_
  rw [emb3 m hO t y]
  blk_simp; rw [after0_3]; unfold outsAt0; dsimp only; frame_out
  refine (pay_sent _ _ y).trans ?_
  exact congr (congrArg HAdd.hAdd ((congrFun (back _ _) _).trans (block0 m hO c hc t y))) ((congrFun (back _ _) _).trans (block1 m hO c t y))

end Cert.AddInIdeal.Result

end
-- ==== Proof.AddInAgrees.lean ====
/- The sum over a chip's two devices and its reference end with the same results: AddIn. -/
module

public import proofs.«01_k».proof.Defs
public import proofs.«01_k».proof.Proof.Gen.AddInRefIdeal
public import proofs.«01_k».proof.Proof.Gen.AddInRefIdeal.Run
public import proofs.«01_k».proof.Proof.Gen.AddInIdeal
public import proofs.«01_k».proof.Proof.AddIn
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AddInIdeal.Result

open Cert.AddInIdeal Cert.AddInIdeal.Gen

theorem agree : algebraic_AddInIdeal_AddInRefIdeal (hAddInIdeal := AddInIdeal.Gen.facts) (hAddInRefIdeal := AddInRefIdeal.Gen.facts) (hPre_core_in := Cert.Pre_core_in.Gen.facts) := by
  intro m g m' g' hpre hagree
  have hc := core_lt m hpre
  have hO := okay m hc
  refine ⟨fun c => total ⟨(core m).toNat, hc⟩ (m (c.tc.loc AddInIdeal.main_arg1)) (m (c.tc.loc AddInIdeal.main_arg2)),
    fun c => sent ⟨(core m).toNat, hc⟩ (m (c.tc.loc AddInIdeal.main_arg1)) (m (c.tc.loc AddInIdeal.main_arg2)), ?_, ?_⟩
  · refine θ_run_mono (run_main m g hO) ?_
    intro r h c
    exact ⟨((h c).1 2).trans (final_total m hO hc c), ((h c).1 3).trans (final_sent m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (AddInRefIdeal.Value.run m' g') ?_
    intro r hr c
    have H := (hr c).1
    have K := (hr c).2.1
    obtain ⟨a0, a1, a2⟩ := hagree c
    rw [a0, a1, a2] at H K
    obtain rfl : c = 0 := Subsingleton.elim _ _
    refine ⟨H.trans ?_, K.trans ?_, (hr 0).2.2⟩
    · funext i
      pointwise [total]
      exact congrArg (· + _) (Chip.half (core m) hc (fun k => own k (m (((0 : Dev nD) : Thread nD τ).loc main_arg1)) i) _ _ (by pointwise [own]) (by pointwise [own]))
    · funext i
      pointwise [sent, total]
      exact congrArg (· + _) (Chip.half (core m) hc (fun k => own k (m (((0 : Dev nD) : Thread nD τ).loc main_arg1)) i) _ _ (by pointwise [own]) (by pointwise [own]))

theorem quiet_any (m : (ℓ : Loc AddInRefIdeal.nD AddInRefIdeal.τ AddInRefIdeal.sig) → Buf (Elt Ideal) ℓ) (ρ : Dev AddInRefIdeal.nD → PrngReg) :
    θ_run AddInRefIdeal.defs (onTc (τ := AddInRefIdeal.τ) (AddInRefIdeal.main (F := Ideal))) ⟨m, fun _ => 0, ρ⟩ (fun r => (∀ c : Dev AddInRefIdeal.nD,
      r.2.mem ((c.tc : Thread AddInRefIdeal.nD AddInRefIdeal.τ).loc AddInRefIdeal.main_arg0) = m ((c.tc : Thread AddInRefIdeal.nD AddInRefIdeal.τ).loc AddInRefIdeal.main_arg0)
      ∧ r.2.mem ((c.tc : Thread AddInRefIdeal.nD AddInRefIdeal.τ).loc AddInRefIdeal.main_arg1) = m ((c.tc : Thread AddInRefIdeal.nD AddInRefIdeal.τ).loc AddInRefIdeal.main_arg1)
      ∧ r.2.mem ((c.tc : Thread AddInRefIdeal.nD AddInRefIdeal.τ).loc AddInRefIdeal.main_arg2) = m ((c.tc : Thread AddInRefIdeal.nD AddInRefIdeal.τ).loc AddInRefIdeal.main_arg2))
      ∧ r.2.sem = fun _ => 0) :=
  (θ_run _ _ _).mono (fun _ h => ⟨fun c => (h c).2.2, sem_eq_zero_of_no_sems (by decide) _⟩) (AddInRefIdeal.Value.run m ρ)

end Cert.AddInIdeal.Result

end
-- ==== Proof.AddUp.lean ====
/- The sum over a chip's two devices of a half of a projection's gradient. -/
module

public import proofs.«01_k».proof.Defs
public import proofs.«01_k».proof.Proof.Products
public import proofs.«01_k».proof.Proof.Chip
public import proofs.«01_k».proof.Proof.Gen.Pre_core_up
public import proofs.«01_k».proof.Proof.Gen.AddUp.Frame
public import proofs.«01_k».proof.Proof.Gen.AddUpIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.AddUp.Result

open Cert.AddUp Cert.AddUp.Gen

variable (m : (ℓ : Loc nD τ sig) → Buf (Elt Bits) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 1, (core m).toNat * 1 + t.val % 1, 0] := by
  have h : ∀ t : Fin grid0.N, (BitVec.ofNat 32 (grid0.coords t 0).val).toNat = t.val / 1 ∧ (BitVec.ofNat 32 (grid0.coords t 1).val).toNat = t.val % 1 := by decide +kernel
  unfold cc0_transform_0
  rw [read_core]
  have e : (Scalar.addi (Scalar.muli (core m) 1#32) (BitVec.ofNat 32 (grid0.coords t 1).val)).toNat = (core m).toNat * 1 + t.val % 1 := by
    simp only [Scalar.addi, Scalar.muli, IntOp.addi, IntOp.muli, BitVec.toNat_add, BitVec.toNat_mul, (h t).2]
    have : t.val % 1 < 1 := Nat.mod_lt _ (by decide)
    simp only [BitVec.toNat_ofNat]
    omega
  simp only [(h t).1, e]
  rfl

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 4 := t.isLt
  fin_cases a
  · show (t.val / 1 + 1) * 1 ≤ 4
    omega
  · show ((core m).toNat * 1 + t.val % 1 + 1) * 256 ≤ 512
    omega
  · show (0 + 1) * 1024 ≤ 1024
    omega

/-- What the precondition says of the device's place. -/
theorem core_lt (h : Cert.Pre_AddUp (hPre_core_up := Cert.Pre_core_up.Gen.facts) m) : (core m).toNat < 2 := by
  have h0 := congrFun (h 0) (fun i => i.elim0)
  refine Chip.core_below _ (Eq.trans ?_ h0)
  pointwise [Cert.Pre_core_up.fn]
  rfl

end Cert.AddUp.Result

namespace Cert.AddUpIdeal.Result

open Cert.AddUpIdeal Cert.AddUpIdeal.Gen

variable (m : (ℓ : Loc nD τ sig) → Buf (Elt Ideal) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 1, (core m).toNat * 1 + t.val % 1, 0] := by
  have h : ∀ t : Fin grid0.N, (BitVec.ofNat 32 (grid0.coords t 0).val).toNat = t.val / 1 ∧ (BitVec.ofNat 32 (grid0.coords t 1).val).toNat = t.val % 1 := by decide +kernel
  unfold cc0_transform_0
  rw [read_core]
  have e : (Scalar.addi (Scalar.muli (core m) 1#32) (BitVec.ofNat 32 (grid0.coords t 1).val)).toNat = (core m).toNat * 1 + t.val % 1 := by
    simp only [Scalar.addi, Scalar.muli, IntOp.addi, IntOp.muli, BitVec.toNat_add, BitVec.toNat_mul, (h t).2]
    have : t.val % 1 < 1 := Nat.mod_lt _ (by decide)
    simp only [BitVec.toNat_ofNat]
    omega
  simp only [(h t).1, e]
  rfl

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 4 := t.isLt
  fin_cases a
  · show (t.val / 1 + 1) * 1 ≤ 4
    omega
  · show ((core m).toNat * 1 + t.val % 1 + 1) * 256 ≤ 512
    omega
  · show (0 + 1) * 1024 ≤ 1024
    omega

/-- What the precondition says of the device's place. -/
theorem core_lt (h : Cert.Pre_AddUpIdeal (hPre_core_up := Cert.Pre_core_up.Gen.facts) m) : (core m).toNat < 2 := by
  have h0 := congrFun (h 0) (fun i => i.elim0)
  refine Chip.core_below _ (Eq.trans ?_ h0)
  pointwise [Cert.Pre_core_up.fn]
  rfl

end Cert.AddUpIdeal.Result

namespace Cert.AddUpIdeal.Result

open Cert.AddUpIdeal Cert.AddUpIdeal.Gen

variable (m : (ℓ : Loc nD τ sig) → Buf (Elt Ideal) ℓ)

/-- Contents of the table at which the results' windows are evaluated: their places do not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem covers3 (a : (pcfg0 (F := Ideal)).Adm) : ((cfg0 a).win 3).Covers :=
  show ((cfg0 table).win 3).Covers from by decide +kernel

theorem idx_val : ∀ t : Fin grid0.N, cc0_transform_1 (grid0.coords t) = ![t.val / 1, t.val % 1, 0] ∧ cc0_transform_2 (grid0.coords t) = ![t.val / 1, t.val % 1, 0] ∧ cc0_transform_3 (grid0.coords t) = ![t.val / 1, t.val % 1, 0] := by decide +kernel

/-- An index of the block of grid point `t`, in the whole array. -/
def place (t : Fin 4) (y : S1x256x1024.Idx) : S4x256x1024.Idx :=
  ix3 ⟨t.val / 1, by have := t.isLt; omega⟩ ⟨t.val % 1 * 256 + (y 1).val, by have := (y 1).isLt; have h : (y 1).val < 256 := this; have := t.isLt; omega⟩ (y 2)

theorem emb1 (hO : Ok m) (t : Fin (cfgM m hO).N) (y : S1x256x1024.Idx) : (((cfgM m hO).win 1).blk t).view.emb y = place t y := by
  have h := (idx_val t).1
  have y0 : (y 0).val < 1 := (y 0).isLt
  funext a
  fin_cases a
  · exact Fin.ext (by show cc0_transform_1 (grid0.coords t) 0 * 1 + 1 * (y 0).val = t.val / 1; rw [h]; simp; try omega)
  · exact Fin.ext (by show cc0_transform_1 (grid0.coords t) 1 * 256 + 1 * (y 1).val = t.val % 1 * 256 + (y 1).val; rw [h]; simp)
  · exact Fin.ext (by show cc0_transform_1 (grid0.coords t) 2 * 1024 + 1 * (y 2).val = (y 2).val; rw [h]; simp)

theorem emb2 (hO : Ok m) (t : Fin (cfgM m hO).N) (y : S1x256x1024.Idx) : (((cfgM m hO).win 2).blk t).view.emb y = place t y := by
  have h := (idx_val t).2.1
  have y0 : (y 0).val < 1 := (y 0).isLt
  funext a
  fin_cases a
  · exact Fin.ext (by show cc0_transform_2 (grid0.coords t) 0 * 1 + 1 * (y 0).val = t.val / 1; rw [h]; simp; try omega)
  · exact Fin.ext (by show cc0_transform_2 (grid0.coords t) 1 * 256 + 1 * (y 1).val = t.val % 1 * 256 + (y 1).val; rw [h]; simp)
  · exact Fin.ext (by show cc0_transform_2 (grid0.coords t) 2 * 1024 + 1 * (y 2).val = (y 2).val; rw [h]; simp)

theorem emb3 (hO : Ok m) (t : Fin (cfgM m hO).N) (y : S1x256x1024.Idx) : (((cfgM m hO).win 3).blk t).view.emb y = place t y := by
  have h := (idx_val t).2.2
  have y0 : (y 0).val < 1 := (y 0).isLt
  funext a
  fin_cases a
  · exact Fin.ext (by show cc0_transform_3 (grid0.coords t) 0 * 1 + 1 * (y 0).val = t.val / 1; rw [h]; simp; try omega)
  · exact Fin.ext (by show cc0_transform_3 (grid0.coords t) 1 * 256 + 1 * (y 1).val = t.val % 1 * 256 + (y 1).val; rw [h]; simp)
  · exact Fin.ext (by show cc0_transform_3 (grid0.coords t) 2 * 1024 + 1 * (y 2).val = (y 2).val; rw [h]; simp)

/-- The half at place `k` of a chip's pair. -/
def own (k : Fin 2) (x : FVec Ideal S4x512x1024 .f32) : FVec Ideal S4x256x1024 .f32 :=
  fun i => x (ix3 (i 0) ⟨k.val * 256 + (i 1).val, by have := (i 1).isLt; have h : (i 1).val < 256 := this; have := k.isLt; omega⟩ (i 2))

theorem block0 (hO : Ok m) (c : Dev nD) (hc : (core m).toNat < 2) (t : Fin (cfgM m hO).N) (y : S1x256x1024.Idx) :
    iblk m hO c 0 t y = own ⟨(core m).toNat, hc⟩ (m ((c : Thread nD τ).loc main_arg1)) (place t y) := by
  have h := idx0 m hc t
  have y0 : (y 0).val < 1 := (y 0).isLt
  refine congrArg (m ((c : Thread nD τ).loc main_arg1)) ?_
  funext a
  fin_cases a
  · exact Fin.ext (by show cc0_transform_0 inb_S2_S1_0 numel1_S1 (tbl m) (grid0.coords t) 0 * 1 + 1 * (y 0).val = t.val / 1; rw [h]; simp; try omega)
  · exact Fin.ext (by show cc0_transform_0 inb_S2_S1_0 numel1_S1 (tbl m) (grid0.coords t) 1 * 256 + 1 * (y 1).val = (core m).toNat * 256 + (t.val % 1 * 256 + (y 1).val); rw [h]; simp; try omega)
  · exact Fin.ext (by show cc0_transform_0 inb_S2_S1_0 numel1_S1 (tbl m) (grid0.coords t) 2 * 1024 + 1 * (y 2).val = (y 2).val; rw [h]; simp)

theorem block1 (hO : Ok m) (c : Dev nD) (t : Fin (cfgM m hO).N) (y : S1x256x1024.Idx) :
    iblk m hO c 1 t y = m ((c : Thread nD τ).loc main_arg2) (place t y) :=
  congrArg (m ((c : Thread nD τ).loc main_arg2)) (emb1 m hO t y)

/-- The sum over a chip's two devices: the own half and the part that came. -/
def total (k : Fin 2) (x : FVec Ideal S4x512x1024 .f32) (y : FVec Ideal S4x256x1024 .f32) : FVec Ideal S4x256x1024 .f32 := fun i => own k x i + y i

/-- The same sum, as it is sent on. -/
def sent (k : Fin 2) (x : FVec Ideal S4x512x1024 .f32) (y : FVec Ideal S4x256x1024 .f32) : FVec Ideal S4x256x1024 .bf16 := total k x y

theorem pay_total (x y : FVec Ideal S1x256x1024 .f32) (i : S1x256x1024.Idx) : k0_pay3 (F := Ideal) x y i = x i + y i := by pointwise [k0_pay3, k0_pay1, k0_pay2]

theorem pay_sent (x y : FVec Ideal S1x256x1024 .f32) (i : S1x256x1024.Idx) : k0_pay4 (F := Ideal) x y i = x i + y i := by pointwise [k0_pay4, k0_pay1, k0_pay2]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_total (hO : Ok m) (hc : (core m).toNat < 2) (c : Dev nD) : (dats m hO 0 c).arrAt 2 (cfgM m hO).N = total ⟨(core m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay_total _ _ y).trans ?_
  exact congr (congrArg HAdd.hAdd ((congrFun (back _ _) _).trans (block0 m hO c hc t y))) ((congrFun (back _ _) _).trans (block1 m hO c t y))

theorem final_sent (hO : Ok m) (hc : (core m).toNat < 2) (c : Dev nD) : (dats m hO 0 c).arrAt 3 (cfgM m hO).N = sent ⟨(core m).toNat, hc⟩ (m ((c : Thread nD τ).loc main_arg1)) (m ((c : Thread nD τ).loc main_arg2)) := by
  refine (dats m hO 0 c).arrAt_eq_of_covers 3 _ (covers3 _) fun t hf y => ?_
  rw [emb3 m hO t y]
  blk_simp; rw [after0_3]; unfold outsAt0; dsimp only; frame_out
  refine (pay_sent _ _ y).trans ?_
  exact congr (congrArg HAdd.hAdd ((congrFun (back _ _) _).trans (block0 m hO c hc t y))) ((congrFun (back _ _) _).trans (block1 m hO c t y))

end Cert.AddUpIdeal.Result

end
-- ==== Proof.AddUpAgrees.lean ====
/- The sum over a chip's two devices and its reference end with the same results: AddUp. -/
module

public import proofs.«01_k».proof.Defs
public import proofs.«01_k».proof.Proof.Gen.AddUpRefIdeal
public import proofs.«01_k».proof.Proof.Gen.AddUpRefIdeal.Run
public import proofs.«01_k».proof.Proof.Gen.AddUpIdeal
public import proofs.«01_k».proof.Proof.AddUp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AddUpIdeal.Result

open Cert.AddUpIdeal Cert.AddUpIdeal.Gen

theorem agree : algebraic_AddUpIdeal_AddUpRefIdeal (hAddUpIdeal := AddUpIdeal.Gen.facts) (hAddUpRefIdeal := AddUpRefIdeal.Gen.facts) (hPre_core_up := Cert.Pre_core_up.Gen.facts) := by
  intro m g m' g' hpre hagree
  have hc := core_lt m hpre
  have hO := okay m hc
  refine ⟨fun c => total ⟨(core m).toNat, hc⟩ (m (c.tc.loc AddUpIdeal.main_arg1)) (m (c.tc.loc AddUpIdeal.main_arg2)),
    fun c => sent ⟨(core m).toNat, hc⟩ (m (c.tc.loc AddUpIdeal.main_arg1)) (m (c.tc.loc AddUpIdeal.main_arg2)), ?_, ?_⟩
  · refine θ_run_mono (run_main m g hO) ?_
    intro r h c
    exact ⟨((h c).1 2).trans (final_total m hO hc c), ((h c).1 3).trans (final_sent m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (AddUpRefIdeal.Value.run m' g') ?_
    intro r hr c
    have H := (hr c).1
    have K := (hr c).2.1
    obtain ⟨a0, a1, a2⟩ := hagree c
    rw [a0, a1, a2] at H K
    obtain rfl : c = 0 := Subsingleton.elim _ _
    refine ⟨H.trans ?_, K.trans ?_, (hr 0).2.2⟩
    · funext i
      pointwise [total]
      exact congrArg (· + _) (Chip.half (core m) hc (fun k => own k (m (((0 : Dev nD) : Thread nD τ).loc main_arg1)) i) _ _ (by pointwise [own]) (by pointwise [own]))
    · funext i
      pointwise [sent, total]
      exact congrArg (· + _) (Chip.half (core m) hc (fun k => own k (m (((0 : Dev nD) : Thread nD τ).loc main_arg1)) i) _ _ (by pointwise [own]) (by pointwise [own]))

theorem quiet_any (m : (ℓ : Loc AddUpRefIdeal.nD AddUpRefIdeal.τ AddUpRefIdeal.sig) → Buf (Elt Ideal) ℓ) (ρ : Dev AddUpRefIdeal.nD → PrngReg) :
    θ_run AddUpRefIdeal.defs (onTc (τ := AddUpRefIdeal.τ) (AddUpRefIdeal.main (F := Ideal))) ⟨m, fun _ => 0, ρ⟩ (fun r => (∀ c : Dev AddUpRefIdeal.nD,
      r.2.mem ((c.tc : Thread AddUpRefIdeal.nD AddUpRefIdeal.τ).loc AddUpRefIdeal.main_arg0) = m ((c.tc : Thread AddUpRefIdeal.nD AddUpRefIdeal.τ).loc AddUpRefIdeal.main_arg0)
      ∧ r.2.mem ((c.tc : Thread AddUpRefIdeal.nD AddUpRefIdeal.τ).loc AddUpRefIdeal.main_arg1) = m ((c.tc : Thread AddUpRefIdeal.nD AddUpRefIdeal.τ).loc AddUpRefIdeal.main_arg1)
      ∧ r.2.mem ((c.tc : Thread AddUpRefIdeal.nD AddUpRefIdeal.τ).loc AddUpRefIdeal.main_arg2) = m ((c.tc : Thread AddUpRefIdeal.nD AddUpRefIdeal.τ).loc AddUpRefIdeal.main_arg2))
      ∧ r.2.sem = fun _ => 0) :=
  (θ_run _ _ _).mono (fun _ h => ⟨fun c => (h c).2.2, sem_eq_zero_of_no_sems (by decide) _⟩) (AddUpRefIdeal.Value.run m ρ)

end Cert.AddUpIdeal.Result

end
-- ==== Proof.AddOut.lean ====
/- The sum over a chip's two devices of a half of the last projection's gradient. -/
module

public import proofs.«01_k».proof.Defs
public import proofs.«01_k».proof.Proof.Products
public import proofs.«01_k».proof.Proof.Chip
public import proofs.«01_k».proof.Proof.Gen.Pre_core_out
public import proofs.«01_k».proof.Proof.Gen.AddOut.Frame
public import proofs.«01_k».proof.Proof.Gen.AddOutIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.AddOut.Result

open Cert.AddOut Cert.AddOut.Gen

variable (m : (ℓ : Loc nD τ sig) → Buf (Elt Bits) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 1, (core m).toNat * 1 + t.val % 1, 0] := by
  have h : ∀ t : Fin grid0.N, (BitVec.ofNat 32 (grid0.coords t 0).val).toNat = t.val / 1 ∧ (BitVec.ofNat 32 (grid0.coords t 1).val).toNat = t.val % 1 := by decide +kernel
  unfold cc0_transform_0
  rw [read_core]
  have e : (Scalar.addi (Scalar.muli (core m) 1#32) (BitVec.ofNat 32 (grid0.coords t 1).val)).toNat = (core m).toNat * 1 + t.val % 1 := by
    simp only [Scalar.addi, Scalar.muli, IntOp.addi, IntOp.muli, BitVec.toNat_add, BitVec.toNat_mul, (h t).2]
    have : t.val % 1 < 1 := Nat.mod_lt _ (by decide)
    simp only [BitVec.toNat_ofNat]
    omega
  simp only [(h t).1, e]
  rfl

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 4 := t.isLt
  fin_cases a
  · show (t.val / 1 + 1) * 1 ≤ 4
    omega
  · show ((core m).toNat * 1 + t.val % 1 + 1) * 128 ≤ 256
    omega
  · show (0 + 1) * 1024 ≤ 1024
    omega

/-- What the precondition says of the device's place. -/
theorem core_lt (h : Cert.Pre_AddOut (hPre_core_out := Cert.Pre_core_out.Gen.facts) m) : (core m).toNat < 2 := by
  have h0 := congrFun (h 0) (fun i => i.elim0)
  refine Chip.core_below _ (Eq.trans ?_ h0)
  pointwise [Cert.Pre_core_out.fn]
  rfl

end Cert.AddOut.Result

namespace Cert.AddOutIdeal.Result

open Cert.AddOutIdeal Cert.AddOutIdeal.Gen

variable (m : (ℓ : Loc nD τ sig) → Buf (Elt Ideal) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 1, (core m).toNat * 1 + t.val % 1, 0] := by
  have h : ∀ t : Fin grid0.N, (BitVec.ofNat 32 (grid0.coords t 0).val).toNat = t.val / 1 ∧ (BitVec.ofNat 32 (grid0.coords t 1).val).toNat = t.val % 1 := by decide +kernel
  unfold cc0_transform_0
  rw [read_core]
  have e : (Scalar.addi (Scalar.muli (core m) 1#32) (BitVec.ofNat 32 (grid0.coords t 1).val)).toNat = (core m).toNat * 1 + t.val % 1 := by
    simp only [Scalar.addi, Scalar.muli, IntOp.addi, IntOp.muli, BitVec.toNat_add, BitVec.toNat_mul, (h t).2]
    have : t.val % 1 < 1 := Nat.mod_lt _ (by decide)
    simp only [BitVec.toNat_ofNat]
    omega
  simp only [(h t).1, e]
  rfl

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 4 := t.isLt
  fin_cases a
  · show (t.val / 1 + 1) * 1 ≤ 4
    omega
  · show ((core m).toNat * 1 + t.val % 1 + 1) * 128 ≤ 256
    omega
  · show (0 + 1) * 1024 ≤ 1024
    omega

/-- What the precondition says of the device's place. -/
theorem core_lt (h : Cert.Pre_AddOutIdeal (hPre_core_out := Cert.Pre_core_out.Gen.facts) m) : (core m).toNat < 2 := by
  have h0 := congrFun (h 0) (fun i => i.elim0)
  refine Chip.core_below _ (Eq.trans ?_ h0)
  pointwise [Cert.Pre_core_out.fn]
  rfl

end Cert.AddOutIdeal.Result

namespace Cert.AddOutIdeal.Result

open Cert.AddOutIdeal Cert.AddOutIdeal.Gen

variable (m : (ℓ : Loc nD τ sig) → Buf (Elt Ideal) ℓ)

/-- Contents of the table at which the results' windows are evaluated: their places do not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem covers3 (a : (pcfg0 (F := Ideal)).Adm) : ((cfg0 a).win 3).Covers :=
  show ((cfg0 table).win 3).Covers from by decide +kernel

theorem idx_val : ∀ t : Fin grid0.N, cc0_transform_1 (grid0.coords t) = ![t.val / 1, t.val % 1, 0] ∧ cc0_transform_2 (grid0.coords t) = ![t.val / 1, t.val % 1, 0] ∧ cc0_transform_3 (grid0.coords t) = ![t.val / 1, t.val % 1, 0] := by decide +kernel

/-- An index of the block of grid point `t`, in the whole array. -/
def place (t : Fin 4) (y : S1x128x1024.Idx) : S4x128x1024.Idx :=
  ix3 ⟨t.val / 1, by have := t.isLt; omega⟩ ⟨t.val % 1 * 128 + (y 1).val, by have := (y 1).isLt; have h : (y 1).val < 128 := this; have := t.isLt; omega⟩ (y 2)

theorem emb1 (hO : Ok m) (t : Fin (cfgM m hO).N) (y : S1x128x1024.Idx) : (((cfgM m hO).win 1).blk t).view.emb y = place t y := by
  have h := (idx_val t).1
  have y0 : (y 0).val < 1 := (y 0).isLt
  funext a
  fin_cases a
  · exact Fin.ext (by show cc0_transform_1 (grid0.coords t) 0 * 1 + 1 * (y 0).val = t.val / 1; rw [h]; simp; try omega)
  · exact Fin.ext (by show cc0_transform_1 (grid0.coords t) 1 * 128 + 1 * (y 1).val = t.val % 1 * 128 + (y 1).val; rw [h]; simp)
  · exact Fin.ext (by show cc0_transform_1 (grid0.coords t) 2 * 1024 + 1 * (y 2).val = (y 2).val; rw [h]; simp)

theorem emb2 (hO : Ok m) (t : Fin (cfgM m hO).N) (y : S1x128x1024.Idx) : (((cfgM m hO).win 2).blk t).view.emb y = place t y := by
  have h := (idx_val t).2.1
  have y0 : (y 0).val < 1 := (y 0).isLt
  funext a
  fin_cases a
  · exact Fin.ext (by show cc0_transform_2 (grid0.coords t) 0 * 1 + 1 * (y 0).val = t.val / 1; rw [h]; simp; try omega)
  · exact Fin.ext (by show cc0_transform_2 (grid0.coords t) 1 * 128 + 1 * (y 1).val = t.val % 1 * 128 + (y 1).val; rw [h]; simp)
  · exact Fin.ext (by show cc0_transform_2 (grid0.coords t) 2 * 1024 + 1 * (y 2).val = (y 2).val; rw [h]; simp)

theorem emb3 (hO : Ok m) (t : Fin (cfgM m hO).N) (y : S1x128x1024.Idx) : (((cfgM m hO).win 3).blk t).view.emb y = place t y := by
  have h := (idx_val t).2.2
  have y0 : (y 0).val < 1 := (y 0).isLt
  funext a
  fin_cases a
  · exact Fin.ext (by show cc0_transform_3 (grid0.coords t) 0 * 1 + 1 * (y 0).val = t.val / 1; rw [h]; simp; try omega)
  · exact Fin.ext (by show cc0_transform_3 (grid0.coords t) 1 * 128 + 1 * (y 1).val = t.val % 1 * 128 + (y 1).val; rw [h]; simp)
  · exact Fin.ext (by show cc0_transform_3 (grid0.coords t) 2 * 1024 + 1 * (y 2).val = (y 2).val; rw [h]; simp)

/-- The half at place `k` of a chip's pair. -/
def own (k : Fin 2) (x : FVec Ideal S4x256x1024 .f32) : FVec Ideal S4x128x1024 .f32 :=
  fun i => x (ix3 (i 0) ⟨k.val * 128 + (i 1).val, by have := (i 1).isLt; have h : (i 1).val < 128 := this; have := k.isLt; omega⟩ (i 2))

theorem block0 (hO : Ok m) (c : Dev nD) (hc : (core m).toNat < 2) (t : Fin (cfgM m hO).N) (y : S1x128x1024.Idx) :
    iblk m hO c 0 t y = own ⟨(core m).toNat, hc⟩ (m ((c : Thread nD τ).loc main_arg1)) (place t y) := by
  have h := idx0 m hc t
  have y0 : (y 0).val < 1 := (y 0).isLt
  refine congrArg (m ((c : Thread nD τ).loc main_arg1)) ?_
  funext a
  fin_cases a
  · exact Fin.ext (by show cc0_transform_0 inb_S2_S1_0 numel1_S1 (tbl m) (grid0.coords t) 0 * 1 + 1 * (y 0).val = t.val / 1; rw [h]; simp; try omega)
  · exact Fin.ext (by show cc0_transform_0 inb_S2_S1_0 numel1_S1 (tbl m) (grid0.coords t) 1 * 128 + 1 * (y 1).val = (core m).toNat * 128 + (t.val % 1 * 128 + (y 1).val); rw [h]; simp; try omega)
  · exact Fin.ext (by show cc0_transform_0 inb_S2_S1_0 numel1_S1 (tbl m) (grid0.coords t) 2 * 1024 + 1 * (y 2).val = (y 2).val; rw [h]; simp)

theorem block1 (hO : Ok m) (c : Dev nD) (t : Fin (cfgM m hO).N) (y : S1x128x1024.Idx) :
    iblk m hO c 1 t y = m ((c : Thread nD τ).loc main_arg2) (place t y) :=
  congrArg (m ((c : Thread nD τ).loc main_arg2)) (emb1 m hO t y)

/-- The sum over a chip's two devices: the own half and the part that came. -/
def total (k : Fin 2) (x : FVec Ideal S4x256x1024 .f32) (y : FVec Ideal S4x128x1024 .f32) : FVec Ideal S4x128x1024 .f32 := fun i => own k x i + y i

/-- The same sum, as it is sent on. -/
def sent (k : Fin 2) (x : FVec Ideal S4x256x1024 .f32) (y : FVec Ideal S4x128x1024 .f32) : FVec Ideal S4x128x1024 .bf16 := total k x y

theorem pay_total (x y : FVec Ideal S1x128x1024 .f32) (i : S1x128x1024.Idx) : k0_pay3 (F := Ideal) x y i = x i + y i := by pointwise [k0_pay3, k0_pay1, k0_pay2]

theorem pay_sent (x y : FVec Ideal S1x128x1024 .f32) (i : S1x128x1024.Idx) : k0_pay4 (F := Ideal) x y i = x i + y i := by pointwise [k0_pay4, k0_pay1, k0_pay2]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_total (hO : Ok m) (hc : (core m).toNat < 2) (c : Dev nD) : (dats m hO 0 c).arrAt 2 (cfgM m hO).N = total ⟨(core m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay_total _ _ y).trans ?_
  exact congr (congrArg HAdd.hAdd ((congrFun (back _ _) _).trans (block0 m hO c hc t y))) ((congrFun (back _ _) _).trans (block1 m hO c t y))

theorem final_sent (hO : Ok m) (hc : (core m).toNat < 2) (c : Dev nD) : (dats m hO 0 c).arrAt 3 (cfgM m hO).N = sent ⟨(core m).toNat, hc⟩ (m ((c : Thread nD τ).loc main_arg1)) (m ((c : Thread nD τ).loc main_arg2)) := by
  refine (dats m hO 0 c).arrAt_eq_of_covers 3 _ (covers3 _) fun t hf y => ?_
  rw [emb3 m hO t y]
  blk_simp; rw [after0_3]; unfold outsAt0; dsimp only; frame_out
  refine (pay_sent _ _ y).trans ?_
  exact congr (congrArg HAdd.hAdd ((congrFun (back _ _) _).trans (block0 m hO c hc t y))) ((congrFun (back _ _) _).trans (block1 m hO c t y))

end Cert.AddOutIdeal.Result

end
-- ==== Proof.AddOutAgrees.lean ====
/- The sum over a chip's two devices and its reference end with the same results: AddOut. -/
module

public import proofs.«01_k».proof.Defs
public import proofs.«01_k».proof.Proof.Gen.AddOutRefIdeal
public import proofs.«01_k».proof.Proof.Gen.AddOutRefIdeal.Run
public import proofs.«01_k».proof.Proof.Gen.AddOutIdeal
public import proofs.«01_k».proof.Proof.AddOut
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AddOutIdeal.Result

open Cert.AddOutIdeal Cert.AddOutIdeal.Gen

theorem agree : algebraic_AddOutIdeal_AddOutRefIdeal (hAddOutIdeal := AddOutIdeal.Gen.facts) (hAddOutRefIdeal := AddOutRefIdeal.Gen.facts) (hPre_core_out := Cert.Pre_core_out.Gen.facts) := by
  intro m g m' g' hpre hagree
  have hc := core_lt m hpre
  have hO := okay m hc
  refine ⟨fun c => total ⟨(core m).toNat, hc⟩ (m (c.tc.loc AddOutIdeal.main_arg1)) (m (c.tc.loc AddOutIdeal.main_arg2)),
    fun c => sent ⟨(core m).toNat, hc⟩ (m (c.tc.loc AddOutIdeal.main_arg1)) (m (c.tc.loc AddOutIdeal.main_arg2)), ?_, ?_⟩
  · refine θ_run_mono (run_main m g hO) ?_
    intro r h c
    exact ⟨((h c).1 2).trans (final_total m hO hc c), ((h c).1 3).trans (final_sent m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (AddOutRefIdeal.Value.run m' g') ?_
    intro r hr c
    have H := (hr c).1
    have K := (hr c).2.1
    obtain ⟨a0, a1, a2⟩ := hagree c
    rw [a0, a1, a2] at H K
    obtain rfl : c = 0 := Subsingleton.elim _ _
    refine ⟨H.trans ?_, K.trans ?_, (hr 0).2.2⟩
    · funext i
      pointwise [total]
      exact congrArg (· + _) (Chip.half (core m) hc (fun k => own k (m (((0 : Dev nD) : Thread nD τ).loc main_arg1)) i) _ _ (by pointwise [own]) (by pointwise [own]))
    · funext i
      pointwise [sent, total]
      exact congrArg (· + _) (Chip.half (core m) hc (fun k => own k (m (((0 : Dev nD) : Thread nD τ).loc main_arg1)) i) _ _ (by pointwise [own]) (by pointwise [own]))

theorem quiet_any (m : (ℓ : Loc AddOutRefIdeal.nD AddOutRefIdeal.τ AddOutRefIdeal.sig) → Buf (Elt Ideal) ℓ) (ρ : Dev AddOutRefIdeal.nD → PrngReg) :
    θ_run AddOutRefIdeal.defs (onTc (τ := AddOutRefIdeal.τ) (AddOutRefIdeal.main (F := Ideal))) ⟨m, fun _ => 0, ρ⟩ (fun r => (∀ c : Dev AddOutRefIdeal.nD,
      r.2.mem ((c.tc : Thread AddOutRefIdeal.nD AddOutRefIdeal.τ).loc AddOutRefIdeal.main_arg0) = m ((c.tc : Thread AddOutRefIdeal.nD AddOutRefIdeal.τ).loc AddOutRefIdeal.main_arg0)
      ∧ r.2.mem ((c.tc : Thread AddOutRefIdeal.nD AddOutRefIdeal.τ).loc AddOutRefIdeal.main_arg1) = m ((c.tc : Thread AddOutRefIdeal.nD AddOutRefIdeal.τ).loc AddOutRefIdeal.main_arg1)
      ∧ r.2.mem ((c.tc : Thread AddOutRefIdeal.nD AddOutRefIdeal.τ).loc AddOutRefIdeal.main_arg2) = m ((c.tc : Thread AddOutRefIdeal.nD AddOutRefIdeal.τ).loc AddOutRefIdeal.main_arg2))
      ∧ r.2.sem = fun _ => 0) :=
  (θ_run _ _ _).mono (fun _ h => ⟨fun c => (h c).2.2, sem_eq_zero_of_no_sems (by decide) _⟩) (AddOutRefIdeal.Value.run m ρ)

end Cert.AddOutIdeal.Result

end
-- ==== Proof.AddMlp.lean ====
/- The sum over a chip's two devices of a half of a gradient of the perceptron. -/
module

public import proofs.«01_k».proof.Defs
public import proofs.«01_k».proof.Proof.Products
public import proofs.«01_k».proof.Proof.Chip
public import proofs.«01_k».proof.Proof.Gen.Pre_core_mlp
public import proofs.«01_k».proof.Proof.Gen.AddMlp.Frame
public import proofs.«01_k».proof.Proof.Gen.AddMlpIdeal.Frame
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.AddMlp.Result

open Cert.AddMlp Cert.AddMlp.Gen

variable (m : (ℓ : Loc nD τ sig) → Buf (Elt Bits) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 2, (core m).toNat * 2 + t.val % 2, 0] := by
  have h : ∀ t : Fin grid0.N, (BitVec.ofNat 32 (grid0.coords t 0).val).toNat = t.val / 2 ∧ (BitVec.ofNat 32 (grid0.coords t 1).val).toNat = t.val % 2 := by decide +kernel
  unfold cc0_transform_0
  rw [read_core]
  have e : (Scalar.addi (Scalar.muli (core m) 2#32) (BitVec.ofNat 32 (grid0.coords t 1).val)).toNat = (core m).toNat * 2 + t.val % 2 := by
    simp only [Scalar.addi, Scalar.muli, IntOp.addi, IntOp.muli, BitVec.toNat_add, BitVec.toNat_mul, (h t).2]
    have : t.val % 2 < 2 := Nat.mod_lt _ (by decide)
    simp only [BitVec.toNat_ofNat]
    omega
  simp only [(h t).1, e]
  rfl

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 8 := t.isLt
  fin_cases a
  · show (t.val / 2 + 1) * 1 ≤ 4
    omega
  · show ((core m).toNat * 2 + t.val % 2 + 1) * 256 ≤ 1024
    omega
  · show (0 + 1) * 1024 ≤ 1024
    omega

/-- What the precondition says of the device's place. -/
theorem core_lt (h : Cert.Pre_AddMlp (hPre_core_mlp := Cert.Pre_core_mlp.Gen.facts) m) : (core m).toNat < 2 := by
  have h0 := congrFun (h 0) (fun i => i.elim0)
  refine Chip.core_below _ (Eq.trans ?_ h0)
  pointwise [Cert.Pre_core_mlp.fn]
  rfl

end Cert.AddMlp.Result

namespace Cert.AddMlpIdeal.Result

open Cert.AddMlpIdeal Cert.AddMlpIdeal.Gen

variable (m : (ℓ : Loc nD τ sig) → Buf (Elt Ideal) ℓ)

/-- The device's place on its chip, as the table holds it. -/
def core : BitVec 32 := m (((0 : Dev nD) : Thread nD τ).loc main_arg0) (ix1 0)

theorem read_core (h1 : ∀ a, (![0] : Fin 1 → Nat) a + S1.size a ≤ S2.size a) (h2 : S1.numel = 1) :
    (tbl m).at 0 (Rect.unit (s := S2) ![0] S1.size h1) h2 = core m := by
  refine congrArg (m (((0 : Dev nD) : Thread nD τ).loc main_arg0)) ?_
  funext a
  fin_cases a
  exact Fin.ext (by rfl)

theorem idx0 (hc : (core m).toNat < 2) (t : Fin grid0.N) : cc0_transform_0 inb_S2_S1_0 numel1_S1 (tbl m) (grid0.coords t) = ![t.val / 2, (core m).toNat * 2 + t.val % 2, 0] := by
  have h : ∀ t : Fin grid0.N, (BitVec.ofNat 32 (grid0.coords t 0).val).toNat = t.val / 2 ∧ (BitVec.ofNat 32 (grid0.coords t 1).val).toNat = t.val % 2 := by decide +kernel
  unfold cc0_transform_0
  rw [read_core]
  have e : (Scalar.addi (Scalar.muli (core m) 2#32) (BitVec.ofNat 32 (grid0.coords t 1).val)).toNat = (core m).toNat * 2 + t.val % 2 := by
    simp only [Scalar.addi, Scalar.muli, IntOp.addi, IntOp.muli, BitVec.toNat_add, BitVec.toNat_mul, (h t).2]
    have : t.val % 2 < 2 := Nat.mod_lt _ (by decide)
    simp only [BitVec.toNat_ofNat]
    omega
  simp only [(h t).1, e]
  rfl

/-- Below two the device's place keeps every window inside its array. -/
theorem okay (hc : (core m).toNat < 2) : Ok m := by
  intro i
  obtain ⟨t, rfl⟩ : ∃ t : Fin grid0.N, grid0.coords t = i := grid0.coords_surjective i
  refine ⟨fun a => ?_, Or.inl rfl⟩
  rw [idx0 m hc t]
  have ht : t.val < 8 := t.isLt
  fin_cases a
  · show (t.val / 2 + 1) * 1 ≤ 4
    omega
  · show ((core m).toNat * 2 + t.val % 2 + 1) * 256 ≤ 1024
    omega
  · show (0 + 1) * 1024 ≤ 1024
    omega

/-- What the precondition says of the device's place. -/
theorem core_lt (h : Cert.Pre_AddMlpIdeal (hPre_core_mlp := Cert.Pre_core_mlp.Gen.facts) m) : (core m).toNat < 2 := by
  have h0 := congrFun (h 0) (fun i => i.elim0)
  refine Chip.core_below _ (Eq.trans ?_ h0)
  pointwise [Cert.Pre_core_mlp.fn]
  rfl

end Cert.AddMlpIdeal.Result

namespace Cert.AddMlpIdeal.Result

open Cert.AddMlpIdeal Cert.AddMlpIdeal.Gen

variable (m : (ℓ : Loc nD τ sig) → Buf (Elt Ideal) ℓ)

/-- Contents of the table at which the results' windows are evaluated: their places do not depend on them. -/
def table : (pcfg0 (F := Ideal)).Adm := ⟨fun | 0 => fun _ => (0#32 : BitVec 32), by decide +kernel⟩

theorem covers2 (a : (pcfg0 (F := Ideal)).Adm) : ((cfg0 a).win 2).Covers :=
  show ((cfg0 table).win 2).Covers from by decide +kernel

theorem covers3 (a : (pcfg0 (F := Ideal)).Adm) : ((cfg0 a).win 3).Covers :=
  show ((cfg0 table).win 3).Covers from by decide +kernel

theorem idx_val : ∀ t : Fin grid0.N, cc0_transform_1 (grid0.coords t) = ![t.val / 2, t.val % 2, 0] ∧ cc0_transform_2 (grid0.coords t) = ![t.val / 2, t.val % 2, 0] ∧ cc0_transform_3 (grid0.coords t) = ![t.val / 2, t.val % 2, 0] := by decide +kernel

/-- An index of the block of grid point `t`, in the whole array. -/
def place (t : Fin 8) (y : S1x256x1024.Idx) : S4x512x1024.Idx :=
  ix3 ⟨t.val / 2, by have := t.isLt; omega⟩ ⟨t.val % 2 * 256 + (y 1).val, by have := (y 1).isLt; have h : (y 1).val < 256 := this; have := t.isLt; omega⟩ (y 2)

theorem emb1 (hO : Ok m) (t : Fin (cfgM m hO).N) (y : S1x256x1024.Idx) : (((cfgM m hO).win 1).blk t).view.emb y = place t y := by
  have h := (idx_val t).1
  have y0 : (y 0).val < 1 := (y 0).isLt
  funext a
  fin_cases a
  · exact Fin.ext (by show cc0_transform_1 (grid0.coords t) 0 * 1 + 1 * (y 0).val = t.val / 2; rw [h]; simp; try omega)
  · exact Fin.ext (by show cc0_transform_1 (grid0.coords t) 1 * 256 + 1 * (y 1).val = t.val % 2 * 256 + (y 1).val; rw [h]; simp)
  · exact Fin.ext (by show cc0_transform_1 (grid0.coords t) 2 * 1024 + 1 * (y 2).val = (y 2).val; rw [h]; simp)

theorem emb2 (hO : Ok m) (t : Fin (cfgM m hO).N) (y : S1x256x1024.Idx) : (((cfgM m hO).win 2).blk t).view.emb y = place t y := by
  have h := (idx_val t).2.1
  have y0 : (y 0).val < 1 := (y 0).isLt
  funext a
  fin_cases a
  · exact Fin.ext (by show cc0_transform_2 (grid0.coords t) 0 * 1 + 1 * (y 0).val = t.val / 2; rw [h]; simp; try omega)
  · exact Fin.ext (by show cc0_transform_2 (grid0.coords t) 1 * 256 + 1 * (y 1).val = t.val % 2 * 256 + (y 1).val; rw [h]; simp)
  · exact Fin.ext (by show cc0_transform_2 (grid0.coords t) 2 * 1024 + 1 * (y 2).val = (y 2).val; rw [h]; simp)

theorem emb3 (hO : Ok m) (t : Fin (cfgM m hO).N) (y : S1x256x1024.Idx) : (((cfgM m hO).win 3).blk t).view.emb y = place t y := by
  have h := (idx_val t).2.2
  have y0 : (y 0).val < 1 := (y 0).isLt
  funext a
  fin_cases a
  · exact Fin.ext (by show cc0_transform_3 (grid0.coords t) 0 * 1 + 1 * (y 0).val = t.val / 2; rw [h]; simp; try omega)
  · exact Fin.ext (by show cc0_transform_3 (grid0.coords t) 1 * 256 + 1 * (y 1).val = t.val % 2 * 256 + (y 1).val; rw [h]; simp)
  · exact Fin.ext (by show cc0_transform_3 (grid0.coords t) 2 * 1024 + 1 * (y 2).val = (y 2).val; rw [h]; simp)

/-- The half at place `k` of a chip's pair. -/
def own (k : Fin 2) (x : FVec Ideal S4x1024x1024 .f32) : FVec Ideal S4x512x1024 .f32 :=
  fun i => x (ix3 (i 0) ⟨k.val * 512 + (i 1).val, by have := (i 1).isLt; have h : (i 1).val < 512 := this; have := k.isLt; omega⟩ (i 2))

theorem block0 (hO : Ok m) (c : Dev nD) (hc : (core m).toNat < 2) (t : Fin (cfgM m hO).N) (y : S1x256x1024.Idx) :
    iblk m hO c 0 t y = own ⟨(core m).toNat, hc⟩ (m ((c : Thread nD τ).loc main_arg1)) (place t y) := by
  have h := idx0 m hc t
  have y0 : (y 0).val < 1 := (y 0).isLt
  refine congrArg (m ((c : Thread nD τ).loc main_arg1)) ?_
  funext a
  fin_cases a
  · exact Fin.ext (by show cc0_transform_0 inb_S2_S1_0 numel1_S1 (tbl m) (grid0.coords t) 0 * 1 + 1 * (y 0).val = t.val / 2; rw [h]; simp; try omega)
  · exact Fin.ext (by show cc0_transform_0 inb_S2_S1_0 numel1_S1 (tbl m) (grid0.coords t) 1 * 256 + 1 * (y 1).val = (core m).toNat * 512 + (t.val % 2 * 256 + (y 1).val); rw [h]; simp; try omega)
  · exact Fin.ext (by show cc0_transform_0 inb_S2_S1_0 numel1_S1 (tbl m) (grid0.coords t) 2 * 1024 + 1 * (y 2).val = (y 2).val; rw [h]; simp)

theorem block1 (hO : Ok m) (c : Dev nD) (t : Fin (cfgM m hO).N) (y : S1x256x1024.Idx) :
    iblk m hO c 1 t y = m ((c : Thread nD τ).loc main_arg2) (place t y) :=
  congrArg (m ((c : Thread nD τ).loc main_arg2)) (emb1 m hO t y)

/-- The sum over a chip's two devices: the own half and the part that came. -/
def total (k : Fin 2) (x : FVec Ideal S4x1024x1024 .f32) (y : FVec Ideal S4x512x1024 .f32) : FVec Ideal S4x512x1024 .f32 := fun i => own k x i + y i

/-- The same sum, as it is sent on. -/
def sent (k : Fin 2) (x : FVec Ideal S4x1024x1024 .f32) (y : FVec Ideal S4x512x1024 .f32) : FVec Ideal S4x512x1024 .bf16 := total k x y

theorem pay_total (x y : FVec Ideal S1x256x1024 .f32) (i : S1x256x1024.Idx) : k0_pay3 (F := Ideal) x y i = x i + y i := by pointwise [k0_pay3, k0_pay1, k0_pay2]

theorem pay_sent (x y : FVec Ideal S1x256x1024 .f32) (i : S1x256x1024.Idx) : k0_pay4 (F := Ideal) x y i = x i + y i := by pointwise [k0_pay4, k0_pay1, k0_pay2]

/-- A staged block read back. -/
theorem back {s : Shape} {e : EltTy} {r : Memref sig .tc .vmem s e} (h : r.IsWhole) (x : s.Idx → Elt Ideal e) :
    View.read (Elt Ideal) r.view (h.unread x) = x := Memref.IsWhole.read_unread h x

theorem final_total (hO : Ok m) (hc : (core m).toNat < 2) (c : Dev nD) : (dats m hO 0 c).arrAt 2 (cfgM m hO).N = total ⟨(core m).toNat, hc⟩ (m ((c : Thread nD τ).loc main_arg1)) (m ((c : Thread nD τ).loc main_arg2)) := by
  refine (dats m hO 0 c).arrAt_eq_of_covers 2 _ (covers2 _) fun t hf y => ?_
  rw [emb2 m hO t y]
  blk_simp; rw [after0_2]; unfold outsAt0; dsimp only; frame_out
  refine (pay_total _ _ y).trans ?_
  exact congr (congrArg HAdd.hAdd ((congrFun (back _ _) _).trans (block0 m hO c hc t y))) ((congrFun (back _ _) _).trans (block1 m hO c t y))

theorem final_sent (hO : Ok m) (hc : (core m).toNat < 2) (c : Dev nD) : (dats m hO 0 c).arrAt 3 (cfgM m hO).N = sent ⟨(core m).toNat, hc⟩ (m ((c : Thread nD τ).loc main_arg1)) (m ((c : Thread nD τ).loc main_arg2)) := by
  refine (dats m hO 0 c).arrAt_eq_of_covers 3 _ (covers3 _) fun t hf y => ?_
  rw [emb3 m hO t y]
  blk_simp; rw [after0_3]; unfold outsAt0; dsimp only; frame_out
  refine (pay_sent _ _ y).trans ?_
  exact congr (congrArg HAdd.hAdd ((congrFun (back _ _) _).trans (block0 m hO c hc t y))) ((congrFun (back _ _) _).trans (block1 m hO c t y))

end Cert.AddMlpIdeal.Result

end
-- ==== Proof.AddMlpAgrees.lean ====
/- The sum over a chip's two devices and its reference end with the same results: AddMlp. -/
module

public import proofs.«01_k».proof.Defs
public import proofs.«01_k».proof.Proof.Gen.AddMlpRefIdeal
public import proofs.«01_k».proof.Proof.Gen.AddMlpRefIdeal.Run
public import proofs.«01_k».proof.Proof.Gen.AddMlpIdeal
public import proofs.«01_k».proof.Proof.AddMlp
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open scoped BigOperators

namespace Cert.AddMlpIdeal.Result

open Cert.AddMlpIdeal Cert.AddMlpIdeal.Gen

theorem agree : algebraic_AddMlpIdeal_AddMlpRefIdeal (hAddMlpIdeal := AddMlpIdeal.Gen.facts) (hAddMlpRefIdeal := AddMlpRefIdeal.Gen.facts) (hPre_core_mlp := Cert.Pre_core_mlp.Gen.facts) := by
  intro m g m' g' hpre hagree
  have hc := core_lt m hpre
  have hO := okay m hc
  refine ⟨fun c => total ⟨(core m).toNat, hc⟩ (m (c.tc.loc AddMlpIdeal.main_arg1)) (m (c.tc.loc AddMlpIdeal.main_arg2)),
    fun c => sent ⟨(core m).toNat, hc⟩ (m (c.tc.loc AddMlpIdeal.main_arg1)) (m (c.tc.loc AddMlpIdeal.main_arg2)), ?_, ?_⟩
  · refine θ_run_mono (run_main m g hO) ?_
    intro r h c
    exact ⟨((h c).1 2).trans (final_total m hO hc c), ((h c).1 3).trans (final_sent m hO hc c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine θ_run_mono (AddMlpRefIdeal.Value.run m' g') ?_
    intro r hr c
    have H := (hr c).1
    have K := (hr c).2.1
    obtain ⟨a0, a1, a2⟩ := hagree c
    rw [a0, a1, a2] at H K
    obtain rfl : c = 0 := Subsingleton.elim _ _
    refine ⟨H.trans ?_, K.trans ?_, (hr 0).2.2⟩
    · funext i
      pointwise [total]
      exact congrArg (· + _) (Chip.half (core m) hc (fun k => own k (m (((0 : Dev nD) : Thread nD τ).loc main_arg1)) i) _ _ (by pointwise [own]) (by pointwise [own]))
    · funext i
      pointwise [sent, total]
      exact congrArg (· + _) (Chip.half (core m) hc (fun k => own k (m (((0 : Dev nD) : Thread nD τ).loc main_arg1)) i) _ _ (by pointwise [own]) (by pointwise [own]))

theorem quiet_any (m : (ℓ : Loc AddMlpRefIdeal.nD AddMlpRefIdeal.τ AddMlpRefIdeal.sig) → Buf (Elt Ideal) ℓ) (ρ : Dev AddMlpRefIdeal.nD → PrngReg) :
    θ_run AddMlpRefIdeal.defs (onTc (τ := AddMlpRefIdeal.τ) (AddMlpRefIdeal.main (F := Ideal))) ⟨m, fun _ => 0, ρ⟩ (fun r => (∀ c : Dev AddMlpRefIdeal.nD,
      r.2.mem ((c.tc : Thread AddMlpRefIdeal.nD AddMlpRefIdeal.τ).loc AddMlpRefIdeal.main_arg0) = m ((c.tc : Thread AddMlpRefIdeal.nD AddMlpRefIdeal.τ).loc AddMlpRefIdeal.main_arg0)
      ∧ r.2.mem ((c.tc : Thread AddMlpRefIdeal.nD AddMlpRefIdeal.τ).loc AddMlpRefIdeal.main_arg1) = m ((c.tc : Thread AddMlpRefIdeal.nD AddMlpRefIdeal.τ).loc AddMlpRefIdeal.main_arg1)
      ∧ r.2.mem ((c.tc : Thread AddMlpRefIdeal.nD AddMlpRefIdeal.τ).loc AddMlpRefIdeal.main_arg2) = m ((c.tc : Thread AddMlpRefIdeal.nD AddMlpRefIdeal.τ).loc AddMlpRefIdeal.main_arg2))
      ∧ r.2.sem = fun _ => 0) :=
  (θ_run _ _ _).mono (fun _ h => ⟨fun c => (h c).2.2, sem_eq_zero_of_no_sems (by decide) _⟩) (AddMlpRefIdeal.Value.run m ρ)

end Cert.AddMlpIdeal.Result

end
-- ==== Proof.AdaFwd.lean ====
/- The modulation vectors of the conditioning. -/
module

public import proofs.«01_k».proof.Proof.Products
public import proofs.«01_k».proof.Proof.Gen.AdaFwdIdeal.Frame
public import Idealize.ShloMosaic.Lib.Pipeline.ValueKit
public import proofs.«01_k».proof.Proof.Gates

@[expose] public section

set_option maxRecDepth 16384

noncomputable section

open Idealize.ShloMosaic Idealize.ShloMosaic.TcCoe Idealize.SL.Sem
open Idealize.ShloMosaic.Pipeline (Dat)
open scoped BigOperators

namespace Cert.AdaFwdIdeal.Result

open Cert.AdaFwdIdeal Cert.AdaFwdIdeal.Gen

variable (m : (ℓ : Loc nD τ sig) → Buf (Elt Ideal) ℓ)

theorem idx_val : ∀ t : Fin cfg0.N, win0_0.index t = ![0, 0] ∧ win0_1.index t = ![0, 0] ∧ win0_2.index t = ![0, 0] ∧ win0_3.index t = ![0, 0] :=
  (by decide +kernel : ∀ t : Fin grid0.N, _)

/-- The activated conditioning times the weight, with the bias added. -/
def modulation (x : FVec Ideal S8x1024 .f32) (w : FVec Ideal S1024x1536 .f32) (b : FVec Ideal S1x1536 .f32) : FVec Ideal S8x1536 .f32 :=
  fun i => (∑ k : Fin 1024, x (ix2 (i 0) k) * Ideal.logistic (x (ix2 (i 0) k)) * w (ix2 k (i 1))) + b (ix2 0 (i 1))

theorem final (c : Dev nD) : (dats m 0 c).arrAt 3 (cfgs 0).N = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  pointwise [k0_pay1, modulation]
  simp only [Gates.gate]
  blk_point [iblk, V, idx_val t]

end Cert.AdaFwdIdeal.Result

end
-- ==== Proof.AdaFwdAgrees.lean ====
/- The call and its reference end with the same results: AdaFwd. -/
module

public import proofs.«01_k».proof.Defs
public import proofs.«01_k».proof.Proof.Gen.AdaFwdRefIdeal
public import proofs.«01_k».proof.Proof.Gen.AdaFwdRefIdeal.Run
public import proofs.«01_k».proof.Proof.Gen.AdaFwdIdeal
public import proofs.«01_k».proof.Proof.AdaFwd
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.AdaFwdIdeal.Result

theorem agree : algebraic_AdaFwdIdeal_AdaFwdRefIdeal (hAdaFwdIdeal := AdaFwdIdeal.Gen.facts) (hAdaFwdRefIdeal := AdaFwdRefIdeal.Gen.facts) := by
  intro m g m' g' hpre hagree
  refine ⟨fun c => modulation (m (c.tc.loc AdaFwdIdeal.main_arg0)) (m (c.tc.loc AdaFwdIdeal.main_arg1)) (m (c.tc.loc AdaFwdIdeal.main_arg2)), ?_, ?_⟩
  · run_from AdaFwdIdeal.Gen.run_main m g
    · exact final m c
  · refine θ_run_mono (AdaFwdRefIdeal.Value.run m' g') ?_
    intro r hr c
    refine ⟨(hr c).1.trans ?_, (hr c).2⟩
    rw [(hagree c).1, (hagree c).2.1, (hagree c).2.2]
    funext i
    pointwise [modulation]
    rfl

theorem quiet : quiescent_AdaFwdRefIdeal (hAdaFwdRefIdeal := AdaFwdRefIdeal.Gen.facts) := by
  intro m ρ _
  exact (θ_run _ _ _).mono (fun _ h => ⟨fun c => (h c).2, sem_eq_zero_of_no_sems (by decide) _⟩) (AdaFwdRefIdeal.Value.run m ρ)

end Cert.AdaFwdIdeal.Result

end
-- ==== Proof.Premix.lean ====
/- The norm before the mixer. -/
module

public import proofs.«01_k».proof.Proof.Products
public import proofs.«01_k».proof.Proof.Gen.PremixIdeal.Frame
public import Idealize.ShloMosaic.Lib.Pipeline.ValueKit
public import proofs.«01_k».proof.Proof.Norms

@[expose] public section

set_option maxRecDepth 16384

noncomputable section

open Idealize.ShloMosaic Idealize.ShloMosaic.TcCoe Idealize.SL.Sem
open Idealize.ShloMosaic.Pipeline (Dat)
open scoped BigOperators

namespace Cert.PremixIdeal.Result

open Cert.PremixIdeal Cert.PremixIdeal.Gen

variable (m : (ℓ : Loc nD τ sig) → Buf (Elt Ideal) ℓ)

theorem idx_val : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The row of the whole array that a row of the block of point `t` is. -/
def row (t : Fin cfg0.N) (r : Fin 512) : Fin 4096 :=
  ⟨t.val * 512 + r.val, by have := t.isLt; have h : t.val < 8 := this; omega⟩

theorem rows0 (c : Dev nD) (t : Fin cfg0.N) (r : Fin 512) (k : Fin 1024) : (iblk m c 0 t : Vec Ideal S512x1024 .f32) (ix2 r k) = (m ((c : Thread nD τ).loc main_arg0)) (ix2 (row t r) k) := by
  blk_point [iblk, V, idx_val t, row]

theorem final (c : Dev nD) : (dats m 0 c).arrAt 4 (cfgs 0).N = Norms.modulated (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  pointwise [k0_pay1, Norms.modulated, Norms.normed, Norms.factor, Norms.spread]
  blk_point [iblk, V, row, idx_val t]

end Cert.PremixIdeal.Result

end
-- ==== Proof.PremixAgrees.lean ====
/- The call and its reference end with the same results: Premix. -/
module

public import proofs.«01_k».proof.Defs
public import proofs.«01_k».proof.Proof.Gen.PremixRefIdeal
public import proofs.«01_k».proof.Proof.Gen.PremixRefIdeal.Run
public import proofs.«01_k».proof.Proof.Gen.PremixIdeal
public import proofs.«01_k».proof.Proof.Premix
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.PremixIdeal.Result

theorem agree : algebraic_PremixIdeal_PremixRefIdeal (hPremixIdeal := PremixIdeal.Gen.facts) (hPremixRefIdeal := PremixRefIdeal.Gen.facts) := by
  intro m g m' g' hpre hagree
  refine ⟨fun c => Norms.modulated (m (c.tc.loc PremixIdeal.main_arg0)) (m (c.tc.loc PremixIdeal.main_arg1)) (m (c.tc.loc PremixIdeal.main_arg2)) (m (c.tc.loc PremixIdeal.main_arg3)), ?_, ?_⟩
  · run_from PremixIdeal.Gen.run_main m g
    · exact final m c
  · refine θ_run_mono (PremixRefIdeal.Value.run m' g') ?_
    intro r hr c
    refine ⟨(hr c).1.trans ?_, (hr c).2⟩
    rw [(hagree c).1, (hagree c).2.1, (hagree c).2.2.1, (hagree c).2.2.2]
    funext i
    pointwise [Norms.modulated, Norms.normed, Norms.factor, Norms.spread]

theorem quiet : quiescent_PremixRefIdeal (hPremixRefIdeal := PremixRefIdeal.Gen.facts) := by
  intro m ρ _
  exact (θ_run _ _ _).mono (fun _ h => ⟨fun c => (h c).2, sem_eq_zero_of_no_sems (by decide) _⟩) (PremixRefIdeal.Value.run m ρ)

end Cert.PremixIdeal.Result

end
-- ==== Proof.Merged.lean ====
/- The two branches, gated and added. -/
module

public import proofs.«01_k».proof.Proof.Products
public import proofs.«01_k».proof.Proof.Gen.MergedIdeal.Frame
public import Idealize.ShloMosaic.Lib.Pipeline.ValueKit
public import proofs.«01_k».proof.Proof.Gates

@[expose] public section

set_option maxRecDepth 16384

noncomputable section

open Idealize.ShloMosaic Idealize.ShloMosaic.TcCoe Idealize.SL.Sem
open Idealize.ShloMosaic.Pipeline (Dat)
open scoped BigOperators

namespace Cert.MergedIdeal.Result

open Cert.MergedIdeal Cert.MergedIdeal.Gen

variable (m : (ℓ : Loc nD τ sig) → Buf (Elt Ideal) ℓ)

theorem idx_val : ∀ t : Fin cfg0.N, win0_0.index t = ![t.val, 12] ∧ win0_1.index t = ![t.val, 13] ∧ win0_2.index t = ![t.val, 0] ∧ win0_3.index t = ![t.val, 0] ∧ win0_4.index t = ![t.val, 0] :=
  (by decide +kernel : ∀ t : Fin grid0.N, _)

/-- Column `n` of the projected activations, `a` columns further on. -/
def col (a : Nat) (h : a + 1024 ≤ 15360) (x : FVec Ideal S4096x15360 .f32) (r : Fin 4096) (n : Fin 1024) : EReal :=
  x (ix2 r ⟨a + n.val, by omega⟩)

/-- Each branch times its gate, the two added. -/
def merged (x : FVec Ideal S4096x15360 .f32) (ys yg : FVec Ideal S4096x1024 .bf16) : FVec Ideal S4096x1024 .bf16 :=
  fun i => Ideal.logistic (col 12288 (by omega) x (i 0) (i 1)) * ys i + Ideal.logistic (col 13312 (by omega) x (i 0) (i 1)) * yg i

theorem final (c : Dev nD) : (dats m 0 c).arrAt 4 (cfgs 0).N = merged (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  pointwise [k0_pay1, merged, col]
  simp only [Gates.gate]
  blk_point [iblk, V, idx_val t]

end Cert.MergedIdeal.Result

end
-- ==== Proof.MergedAgrees.lean ====
/- The call and its reference end with the same results: Merged. -/
module

public import proofs.«01_k».proof.Defs
public import proofs.«01_k».proof.Proof.Gen.MergedRefIdeal
public import proofs.«01_k».proof.Proof.Gen.MergedRefIdeal.Run
public import proofs.«01_k».proof.Proof.Gen.MergedIdeal
public import proofs.«01_k».proof.Proof.Merged
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.MergedIdeal.Result

theorem agree : algebraic_MergedIdeal_MergedRefIdeal (hMergedIdeal := MergedIdeal.Gen.facts) (hMergedRefIdeal := MergedRefIdeal.Gen.facts) := by
  intro m g m' g' hpre hagree
  refine ⟨fun c => merged (m (c.tc.loc MergedIdeal.main_arg0)) (m (c.tc.loc MergedIdeal.main_arg1)) (m (c.tc.loc MergedIdeal.main_arg2)), ?_, ?_⟩
  · run_from MergedIdeal.Gen.run_main m g
    · exact final m c
  · refine θ_run_mono (MergedRefIdeal.Value.run m' g') ?_
    intro r hr c
    refine ⟨(hr c).1.trans ?_, (hr c).2⟩
    rw [(hagree c).1, (hagree c).2.1, (hagree c).2.2]
    funext i
    pointwise [merged, col]
    rfl

theorem quiet : quiescent_MergedRefIdeal (hMergedRefIdeal := MergedRefIdeal.Gen.facts) := by
  intro m ρ _
  exact (θ_run _ _ _).mono (fun _ h => ⟨fun c => (h c).2, sem_eq_zero_of_no_sems (by decide) _⟩) (MergedRefIdeal.Value.run m ρ)

end Cert.MergedIdeal.Result

end
-- ==== Proof.Postmix.lean ====
/- The output projection, the residual and the norm after it. -/
module

public import proofs.«01_k».proof.Proof.Products
public import proofs.«01_k».proof.Proof.Gen.PostmixIdeal.Frame
public import Idealize.ShloMosaic.Lib.Pipeline.ValueKit
public import proofs.«01_k».proof.Proof.Norms

@[expose] public section

set_option maxRecDepth 16384

noncomputable section

open Idealize.ShloMosaic Idealize.ShloMosaic.TcCoe Idealize.SL.Sem
open Idealize.ShloMosaic.Pipeline (Dat)
open scoped BigOperators

namespace Cert.PostmixIdeal.Result

open Cert.PostmixIdeal Cert.PostmixIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] :=
  (by decide +kernel : ∀ t : Fin grid0.N, _)

/-- The row of a block that a row of the quarter starting at row `o` is. -/
def low (o : Nat) (h : o + 256 ≤ 1024) (r : Fin 256) : Fin 1024 := ⟨o + r.val, by omega⟩

theorem low_eq (y : S1024x1024.Idx) (x : S256x1024.Idx) (o : Nat) (ho : o + 256 ≤ 1024) (h0 : (y 0).val = o + (x 0).val) (h1 : (y 1).val = (x 1).val) :
    y = ix2 (low o ho (x 0)) (x 1) := by
  funext a; fin_cases a
  · exact Fin.ext h0
  · exact Fin.ext h1

theorem block8 (x0 x1 : Vec Ideal S1024x1024 .bf16) (x2 : Vec Ideal S1024x1024 .f32) (x3 x4 x5 x6 x7 : Vec Ideal S1x1024 .f32) (y : S1024x1024.Idx) :
    out0_8 x0 x1 x2 x3 x4 x5 x6 x7 y = Products.times x0 x1 y := by
  unfold_out out0_8
  canon_tiles x h
  · rw [low_eq y x 768 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, low]
  · rw [low_eq y x 512 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, low]
  · rw [low_eq y x 256 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, low]
  · rw [low_eq y x 0 (by omega) (by omega) h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, low]

theorem block9 (x0 x1 : Vec Ideal S1024x1024 .bf16) (x2 : Vec Ideal S1024x1024 .f32) (x3 x4 x5 x6 x7 : Vec Ideal S1x1024 .f32) (y : S1024x1024.Idx) :
    out0_9 x0 x1 x2 x3 x4 x5 x6 x7 y = Norms.residual x2 (Products.times x0 x1) x3 x4 y := by
  unfold_out out0_9
  canon_tiles x h
  · rw [low_eq y x 768 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.residual, Norms.normed, Norms.factor, Norms.spread, low]
  · rw [low_eq y x 512 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.residual, Norms.normed, Norms.factor, Norms.spread, low]
  · rw [low_eq y x 256 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.residual, Norms.normed, Norms.factor, Norms.spread, low]
  · rw [low_eq y x 0 (by omega) (by omega) h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.residual, Norms.normed, Norms.factor, Norms.spread, low]

theorem block10 (x0 x1 : Vec Ideal S1024x1024 .bf16) (x2 : Vec Ideal S1024x1024 .f32) (x3 x4 x5 x6 x7 : Vec Ideal S1x1024 .f32) (y : S1024x1024.Idx) :
    out0_10 x0 x1 x2 x3 x4 x5 x6 x7 y = Norms.modulated (Norms.residual x2 (Products.times x0 x1) x3 x4) x5 x6 x7 y := by
  unfold_out out0_10
  canon_tiles x h
  · rw [low_eq y x 768 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.modulated, Norms.residual, Norms.normed, Norms.factor, Norms.spread, low]
  · rw [low_eq y x 512 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.modulated, Norms.residual, Norms.normed, Norms.factor, Norms.spread, low]
  · rw [low_eq y x 256 (by omega) h0 h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.modulated, Norms.residual, Norms.normed, Norms.factor, Norms.spread, low]
  · rw [low_eq y x 0 (by omega) (by omega) h1]
    simp (disch := decide) only [View.ld_unit_lit', View.readAt_eq_ld]
    pointwise [k0_pay1, k0_pay2, k0_pay3, k0_pay4, k0_pay5, k0_pay6, k0_pay7, k0_pay8, k0_pay9, k0_pay10, k0_pay11, k0_pay12, k0_pay13, k0_pay14, k0_pay15, k0_pay16, Products.times, Norms.modulated, Norms.residual, Norms.normed, Norms.factor, Norms.spread, low]

/-- The product of the two arguments. -/
theorem final_product (c : Dev nD) : (dats m 0 c).arrAt 8 (cfgs 0).N = Products.times (m ((c : Thread nD τ).loc main_arg0)) (m ((c : Thread nD τ).loc main_arg1)) := by
  refine (dats m 0 c).arrAt_eq_of_covers 8 _ (by decide +kernel) fun t hf y => ?_
  blk_simp; rw [after0_8, block8]
  simp only [Products.times, Norms.modulated, Norms.residual, Norms.normed, Norms.factor, Norms.spread]
  blk_point [iblk, V, idx_val t]

/-- The residual. -/
theorem final_sum (c : Dev nD) : (dats m 0 c).arrAt 9 (cfgs 0).N = Norms.residual (m ((c : Thread nD τ).loc main_arg2)) (Products.times (m ((c : Thread nD τ).loc main_arg0)) (m ((c : Thread nD τ).loc main_arg1))) (m ((c : Thread nD τ).loc main_arg3)) (m ((c : Thread nD τ).loc main_arg4)) := by
  refine (dats m 0 c).arrAt_eq_of_covers 9 _ (by decide +kernel) fun t hf y => ?_
  blk_simp; rw [after0_9, block9]
  simp only [Products.times, Norms.modulated, Norms.residual, Norms.normed, Norms.factor, Norms.spread]
  blk_point [iblk, V, idx_val t]

/-- The norm after the residual. -/
theorem final_norm (c : Dev nD) : (dats m 0 c).arrAt 10 (cfgs 0).N = Norms.modulated (Norms.residual (m ((c : Thread nD τ).loc main_arg2)) (Products.times (m ((c : Thread nD τ).loc main_arg0)) (m ((c : Thread nD τ).loc main_arg1))) (m ((c : Thread nD τ).loc main_arg3)) (m ((c : Thread nD τ).loc main_arg4))) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp; rw [after0_10, block10]
  simp only [Products.times, Norms.modulated, Norms.residual, Norms.normed, Norms.factor, Norms.spread]
  blk_point [iblk, V, idx_val t]

end Cert.PostmixIdeal.Result

end
-- ==== Proof.PostmixAgrees.lean ====
/- The call and its reference end with the same results: Postmix. -/
module

public import proofs.«01_k».proof.Defs
public import proofs.«01_k».proof.Proof.Gen.PostmixRefIdeal
public import proofs.«01_k».proof.Proof.Gen.PostmixRefIdeal.Run
public import proofs.«01_k».proof.Proof.Gen.PostmixIdeal
public import proofs.«01_k».proof.Proof.Postmix
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.PostmixIdeal.Result

set_option maxHeartbeats 2000000 in
theorem agree : algebraic_PostmixIdeal_PostmixRefIdeal (hPostmixIdeal := PostmixIdeal.Gen.facts) (hPostmixRefIdeal := PostmixRefIdeal.Gen.facts) := by
  intro m g m' g' hpre hagree
  refine ⟨fun c => Products.times (m (c.tc.loc PostmixIdeal.main_arg0)) (m (c.tc.loc PostmixIdeal.main_arg1)), fun c => Norms.residual (m (c.tc.loc PostmixIdeal.main_arg2)) (Products.times (m (c.tc.loc PostmixIdeal.main_arg0)) (m (c.tc.loc PostmixIdeal.main_arg1))) (m (c.tc.loc PostmixIdeal.main_arg3)) (m (c.tc.loc PostmixIdeal.main_arg4)), fun c => Norms.modulated (Norms.residual (m (c.tc.loc PostmixIdeal.main_arg2)) (Products.times (m (c.tc.loc PostmixIdeal.main_arg0)) (m (c.tc.loc PostmixIdeal.main_arg1))) (m (c.tc.loc PostmixIdeal.main_arg3)) (m (c.tc.loc PostmixIdeal.main_arg4))) (m (c.tc.loc PostmixIdeal.main_arg5)) (m (c.tc.loc PostmixIdeal.main_arg6)) (m (c.tc.loc PostmixIdeal.main_arg7)), ?_, ?_⟩
  · run_from PostmixIdeal.Gen.run_main m g
    · exact final_product m c
    · exact final_sum m c
    · exact final_norm m c
  · refine θ_run_mono (PostmixRefIdeal.Value.run m' g') ?_
    intro r hr c
    refine ⟨(hr c).1.trans ?_, (hr c).2.1.trans ?_, (hr c).2.2.1.trans ?_, (hr c).2.2.2⟩
    · rw [(hagree c).1, (hagree c).2.1]
      funext i
      pointwise [Products.times]
    · rw [(hagree c).1, (hagree c).2.1, (hagree c).2.2.1, (hagree c).2.2.2.1, (hagree c).2.2.2.2.1]
      funext i
      pointwise [Products.times, Norms.modulated, Norms.residual, Norms.normed, Norms.factor, Norms.spread]
    · unfold PostmixRefIdeal.Value.res_main_v36
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      funext i
      pointwise [Products.times, Norms.modulated, Norms.residual, Norms.normed, Norms.factor, Norms.spread]

theorem quiet : quiescent_PostmixRefIdeal (hPostmixRefIdeal := PostmixRefIdeal.Gen.facts) := by
  intro m ρ _
  exact (θ_run _ _ _).mono (fun _ h => ⟨fun c => (h c).2.2.2, sem_eq_zero_of_no_sems (by decide) _⟩) (PostmixRefIdeal.Value.run m ρ)

end Cert.PostmixIdeal.Result

end
-- ==== Proof.Pieces.lean ====
/- Consecutive rows of a matrix, and sums over its rows taken piece by piece. -/
module

public import proofs.«01_k».proof.Proof.Norms
public import Idealize.ShloMosaic.Lib.Pipeline.ValueKit

@[expose] public section

noncomputable section

open Idealize.ShloMosaic
open scoped BigOperators

namespace Cert.Pieces

/-- Row `o + r`. -/
def at_ {n : Nat} (k o : Nat) (h : o + k ≤ n) (r : Fin k) : Fin n := ⟨o + r.val, by omega⟩

/-- The `k` rows from row `o` on. -/
def piece {n : Nat} (k o : Nat) (h : o + k ≤ n) (x : Norms.Rows n) : Norms.Rows k := fun i => x (ix2 (at_ k o h (i 0)) (i 1))

theorem piece_apply {n : Nat} (k o : Nat) (h : o + k ≤ n) (x : Norms.Rows n) (i : (⟨2, ![k, 1024]⟩ : Shape).Idx) :
    piece k o h x i = x (ix2 (at_ k o h (i 0)) (i 1)) := rfl

/-- What a load of these rows reads. -/
theorem ld_piece {n k o : Nat} (h : o + k ≤ n) (x : Norms.Rows n)
    (inb : ∀ a, (![o, 0] : Fin 2 → Nat) a + (![k, 1024] : Fin 2 → Nat) a ≤ (⟨2, ![n, 1024]⟩ : Shape).size a) :
    (View.ld (Val := Elt Ideal) (e' := .f32) x (Rect.unit (s := ⟨2, ![n, 1024]⟩) ![o, 0] ![k, 1024] inb)) = piece k o h x := by
  funext i
  rw [piece_apply]
  refine congrArg x ?_
  funext a
  refine Fin.ext ?_
  fin_cases a
  · show o + 1 * (i 0).val = o + (i 0).val; omega
  · show 0 + 1 * (i 1).val = (i 1).val; omega

/-- What a load reads of a buffer that one store has filled. -/
theorem read_filled {Val : EltTy → Type} [∀ e, Nonempty (Val e)] {S : Shape} {e : EltTy} {sig : RefSig} {κ : Kind} {sp : Space}
    (v : View sig κ sp S e) {off : Fin S.rank → Nat} (inb : ∀ a, off a + S.size a ≤ S.size a) (w : S.Idx → Val e)
    (h : ∀ a, off a = 0) (r : Rect S) :
    v.readCov [(⟨Rect.unit off S.size inb, w⟩ : View.Piece Val S e)] r.toLoadRect = View.ld w r := by
  obtain rfl : off = fun _ => 0 := funext h
  rw [View.readCov_eq_canon_ld _ _ _ (fun y => ⟨_, List.mem_cons_self, by
    show y ∈ (Rect.whole S).set; rw [Rect.set_whole]; exact Finset.mem_univ y⟩), View.canon_cons_unit_zero rfl]

theorem index_eq {n k : Nat} (y : (⟨2, ![n, 1024]⟩ : Shape).Idx) (x : (⟨2, ![k, 1024]⟩ : Shape).Idx) (o : Nat) (h : o + k ≤ n)
    (h0 : (y 0).val = o + (x 0).val) (h1 : (y 1).val = (x 1).val) : y = ix2 (at_ k o h (x 0)) (x 1) := by
  funext a
  refine Fin.ext ?_
  fin_cases a
  · exact h0
  · exact h1

/-- A sum over 4n rows, by quarters. -/
theorem sum_quarters {n N : Nat} (hN : N = 4 * n) (f : Fin N → EReal) :
    ∑ r : Fin N, f r = ∑ r : Fin n, f (at_ n 0 (by omega) r) + ∑ r : Fin n, f (at_ n (1 * n) (by omega) r)
      + ∑ r : Fin n, f (at_ n (2 * n) (by omega) r) + ∑ r : Fin n, f (at_ n (3 * n) (by omega) r) := by
  rw [← Fin.sum_mul_add_congr (S := 4) (n := n) (F := fun s k => f ⟨s.val * n + k.val, by
    have := s.isLt; have := k.isLt; subst hN
    calc s.val * n + k.val < s.val * n + n := by omega
      _ = (s.val + 1) * n := by ring
      _ ≤ 4 * n := Nat.mul_le_mul_right _ (by omega)⟩) (f := f) (fun s k hl => rfl) hN]
  rw [Fin.sum_univ_four]
  simp only [at_]
  congr 4
  funext r
  congr 2
  show 0 * n + r.val = 0 + r.val
  omega

/-- A nonnegative finite factor goes into a sum. -/
theorem mul_sum {ι : Type} (s : Finset ι) (a : EReal) (h0 : 0 ≤ a) (h1 : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- Eight steps of which the first starts from nothing, the odd ones add and the other even ones keep. -/
theorem odd_steps (f : (n : Nat) → n < 8 → EReal) (p : Fin 8 → EReal) (h0 : f 0 (by omega) = 0)
    (hodd : ∀ t : Fin 8, t.val % 2 = 1 → f t.val t.isLt = f (t.val - 1) (Nat.lt_of_le_of_lt (Nat.sub_le _ _) t.isLt) + p t)
    (heven : ∀ t : Fin 8, ¬t.val % 8 = 0 → t.val % 2 = 0 → f t.val t.isLt = f (t.val - 1) (Nat.lt_of_le_of_lt (Nat.sub_le _ _) t.isLt)) :
    f 7 (by omega) = p 1 + p 3 + p 5 + p 7 := by
  have e1 : f 1 (by omega) = f 0 (by omega) + p 1 := hodd 1 rfl
  have e2 : f 2 (by omega) = f 1 (by omega) := heven 2 (by decide) rfl
  have e3 : f 3 (by omega) = f 2 (by omega) + p 3 := hodd 3 rfl
  have e4 : f 4 (by omega) = f 3 (by omega) := heven 4 (by decide) rfl
  have e5 : f 5 (by omega) = f 4 (by omega) + p 5 := hodd 5 rfl
  have e6 : f 6 (by omega) = f 5 (by omega) := heven 6 (by decide) rfl
  have e7 : f 7 (by omega) = f 6 (by omega) + p 7 := hodd 7 rfl
  rw [e7, e6, e5, e4, e3, e2, e1, h0, zero_add]

/-- Eight steps in which four pieces of 1024 rows are added at the odd ones. -/
theorem total {N : Nat} (hN : N = 8) (f : (n : Nat) → n < N → EReal) (F : Fin 4096 → EReal) (h0 : f 0 (by omega) = 0)
    (hodd : ∀ t : Fin N, t.val % 2 = 1 → f t.val t.isLt = f (t.val - 1) (Nat.lt_of_le_of_lt (Nat.sub_le _ _) t.isLt)
      + ∑ r : Fin 1024, F (at_ 1024 (t.val / 2 * 1024) (by omega) r))
    (heven : ∀ t : Fin N, ¬t.val % 8 = 0 → t.val % 2 = 0 → f t.val t.isLt = f (t.val - 1) (Nat.lt_of_le_of_lt (Nat.sub_le _ _) t.isLt))
    (t : Fin N) (ht : t.val % 8 = 7) :
    f t.val t.isLt = ∑ r : Fin 4096, F r := by
  subst hN
  obtain rfl : t = 7 := Fin.ext (by show t.val = 7; omega)
  rw [sum_quarters (n := 1024) rfl]
  exact odd_steps f _ h0 hodd heven

end Cert.Pieces

end
-- ==== Proof.Loss.lean ====
/- Half the mean squared error of a residual's gated norm, with its gradient, over the extended reals, index by index. -/
module

public import proofs.«01_k».proof.Proof.Pieces
public import proofs.«01_k».proof.Proof.Gates

@[expose] public section

noncomputable section

open Idealize.ShloMosaic
open scoped BigOperators

namespace Cert.Loss

open Norms (Rows)

/-- The error: the residual less its target. -/
def error {n : Nat} (x t y : Rows n) (w g : Rows 1) : Rows n := fun i => Norms.residual x y w g i - t i

/-- A row's share of the loss. -/
def ofRow {n : Nat} (x t y : Rows n) (w g : Rows 1) (r : Fin n) : EReal :=
  Ideal.ofBits .f32 0x3F000000#32
    * Ideal.div (∑ k : Fin 1024, error x t y w g (ix2 r k) * error x t y w g (ix2 r k)) (Ideal.ofBits .f32 0x44800000#32)

/-- The loss. -/
def total {n : Nat} (x t y : Rows n) (w g : Rows 1) : (⟨2, ![1, 1]⟩ : Shape).Idx → EReal := fun _ => ∑ r : Fin n, ofRow x t y w g r

/-- The gradient at the residual. -/
def atResidual {n : Nat} (x t y : Rows n) (w g : Rows 1) : Rows n :=
  fun i => Ideal.div (error x t y w g i) (Ideal.ofBits .f32 0x44800000#32)

/-- The gradient at the weighted norm. -/
def atWeighted {n : Nat} (x t y : Rows n) (w g : Rows 1) : Rows n := fun i => g (ix2 0 (i 1)) * atResidual x t y w g i

/-- A gradient taken back through a row norm with weight `w`: at a row's mean square. -/
def through {n : Nat} (y d : Rows n) (w : Rows 1) (r : Fin n) : EReal :=
  Ideal.div ((∑ k : Fin 1024, y (ix2 r k) * (d (ix2 r k) * w (ix2 0 k))) * Norms.slope y r) (Ideal.ofBits .f32 0x44800000#32)

/-- A gradient taken back through a row norm with weight `w`. -/
def back {n : Nat} (y d : Rows n) (w : Rows 1) : Rows n :=
  fun i => d i * w (ix2 0 (i 1)) * Norms.factor y (i 0) + y i * through y d w (i 0) + through y d w (i 0) * y i

/-- What each row adds to the gradient at the weight. -/
def weightPart {n : Nat} (y d : Rows n) : Rows n := fun i => y i * Norms.factor y (i 0) * d i

/-- What each row adds to the gradient at the gate. -/
def gatePart {n : Nat} (x t y : Rows n) (w g : Rows 1) : Rows n := fun i => atResidual x t y w g i * Norms.normed y w i

theorem size : Ideal.ofBits .f32 0x44800000#32 = ((1024 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem half_nonneg : 0 ≤ Ideal.ofBits .f32 0x3F000000#32 := by
  rw [Gates.half]; exact_mod_cast (by norm_num : (0 : ℝ) ≤ 1 / 2)

theorem half_ne_top : Ideal.ofBits .f32 0x3F000000#32 ≠ ⊤ := by
  rw [Gates.half]; exact EReal.coe_ne_top _

/-- Half of a mean of squares has the error over the length for gradient. -/
theorem slope_eq (e : EReal) :
    Ideal.div (Ideal.ofBits .f32 0x3F000000#32) (Ideal.ofBits .f32 0x44800000#32)
        * (Ideal.ofBits .f32 0x40000000#32 * e)
      = Ideal.div e (Ideal.ofBits .f32 0x44800000#32) := by
  rw [Gates.half, size, two, Ideal.div_coe (by norm_num), Ideal.div_coe (by norm_num), ← mul_assoc,
    ← EReal.coe_mul, ← EReal.coe_mul, mul_comm e]
  norm_num

section Pieces

open Pieces (piece at_)

variable {n k o : Nat} (h : o + k ≤ n) (x t y d : Rows n) (w g : Rows 1)

theorem atResidual_piece : atResidual (piece k o h x) (piece k o h t) (piece k o h y) w g = piece k o h (atResidual x t y w g) := rfl

theorem atWeighted_piece : atWeighted (piece k o h x) (piece k o h t) (piece k o h y) w g = piece k o h (atWeighted x t y w g) := rfl

theorem back_piece : back (piece k o h y) (piece k o h d) w = piece k o h (back y d w) := rfl

theorem weightPart_piece : weightPart (piece k o h y) (piece k o h d) = piece k o h (weightPart y d) := rfl

theorem gatePart_piece : gatePart (piece k o h x) (piece k o h t) (piece k o h y) w g = piece k o h (gatePart x t y w g) := rfl

theorem ofRow_piece (r : Fin k) : ofRow (piece k o h x) (piece k o h t) (piece k o h y) w g r = ofRow x t y w g (at_ k o h r) := rfl

end Pieces

end Cert.Loss

end
-- ==== Proof.FinalPieces.lean ====
/- The second product of the channel mixer with the loss and its gradient: one grid point. -/
module

public import proofs.«01_k».proof.Proof.Products
public import proofs.«01_k».proof.Proof.Gen.FinalIdeal.Frame
public import Idealize.ShloMosaic.Lib.Pipeline.ValueKit
public import proofs.«01_k».proof.Proof.Loss

@[expose] public section

set_option maxRecDepth 16384

noncomputable section

open Idealize.ShloMosaic Idealize.ShloMosaic.TcCoe Idealize.SL.Sem
open Idealize.ShloMosaic.Pipeline (Dat)
open scoped BigOperators

namespace Cert.FinalIdeal.Result

open Cert.FinalIdeal Cert.FinalIdeal.Gen

variable (m : (ℓ : Loc nD τ sig) → Buf (Elt Ideal) ℓ)

theorem idx_val : ∀ t : Fin cfg0.N, win0_0.index t = ![t.val / 2, t.val % 2] ∧ win0_1.index t = ![t.val % 2, 0] ∧ win0_2.index t = ![t.val / 2, 0] ∧ win0_3.index t = ![t.val / 2, 0] ∧ win0_4.index t = ![0, 0] ∧ win0_5.index t = ![0, 0] ∧ win0_6.index t = ![t.val / 2, 0] ∧ win0_7.index t = ![t.val / 2, 0] ∧ win0_8.index t = ![0, 0] ∧ win0_9.index t = ![0, 0] ∧ win0_10.index t = ![0, 0] :=
  (by decide +kernel : ∀ t : Fin grid0.N, _)

theorem half_A (c : Dev nD) (t : Fin cfg0.N) (h0 : t.val % 8 = 0) (h1 : t.val % 2 = 0) (h2 : ¬t.val % 2 = 1) (y : S1024x1024.Idx) :
    (outsAt0 m c t.val t.isLt).2.2.2.2.2 y = 0 + Products.times (iblk m c 0 t : Vec Ideal S1024x2048 .bf16) (iblk m c 1 t : Vec Ideal S2048x1024 .bf16) y := by
  rw [outsAt0_A m c t h0 h1 h2]; dsimp only; frame_out
  pointwise [k0_pay4, k0_pay5, Products.times]

theorem half_C (c : Dev nD) (t : Fin cfg0.N) (h0 : ¬t.val % 8 = 0) (h1 : t.val % 2 = 0) (h2 : ¬t.val % 2 = 1) (y : S1024x1024.Idx) :
    (outsAt0 m c t.val t.isLt).2.2.2.2.2 y = 0 + Products.times (iblk m c 0 t : Vec Ideal S1024x2048 .bf16) (iblk m c 1 t : Vec Ideal S2048x1024 .bf16) y := by
  rw [outsAt0_C m c t h0 h1 h2]; dsimp only; frame_out
  pointwise [k0_pay4, k0_pay5, Products.times]

theorem loss_A (c : Dev nD) (t : Fin cfg0.N) (h0 : t.val % 8 = 0) (h1 : t.val % 2 = 0) (h2 : ¬t.val % 2 = 1) (y : S1x1.Idx) :
    (outsAt0 m c t.val t.isLt).2.2.1 y = 0 := by
  rw [outsAt0_A m c t h0 h1 h2]; dsimp only; frame_out
  pointwise [k0_pay1]

theorem loss_C (c : Dev nD) (t : Fin cfg0.N) (h0 : ¬t.val % 8 = 0) (h1 : t.val % 2 = 0) (h2 : ¬t.val % 2 = 1) (y : S1x1.Idx) :
    (outsAt0 m c t.val t.isLt).2.2.1 y = (outsAt0 m c (t.val - 1) (Nat.lt_of_le_of_lt (Nat.sub_le _ _) t.isLt)).2.2.1 y := by
  rw [outsAt0_C m c t h0 h1 h2]; rfl

theorem weight_A (c : Dev nD) (t : Fin cfg0.N) (h0 : t.val % 8 = 0) (h1 : t.val % 2 = 0) (h2 : ¬t.val % 2 = 1) (y : S1x1024.Idx) :
    (outsAt0 m c t.val t.isLt).2.2.2.1 y = 0 := by
  rw [outsAt0_A m c t h0 h1 h2]; dsimp only; frame_out
  pointwise [k0_pay2]

theorem weight_C (c : Dev nD) (t : Fin cfg0.N) (h0 : ¬t.val % 8 = 0) (h1 : t.val % 2 = 0) (h2 : ¬t.val % 2 = 1) (y : S1x1024.Idx) :
    (outsAt0 m c t.val t.isLt).2.2.2.1 y = (outsAt0 m c (t.val - 1) (Nat.lt_of_le_of_lt (Nat.sub_le _ _) t.isLt)).2.2.2.1 y := by
  rw [outsAt0_C m c t h0 h1 h2]; rfl

theorem gate_A (c : Dev nD) (t : Fin cfg0.N) (h0 : t.val % 8 = 0) (h1 : t.val % 2 = 0) (h2 : ¬t.val % 2 = 1) (y : S1x1024.Idx) :
    (outsAt0 m c t.val t.isLt).2.2.2.2.1 y = 0 := by
  rw [outsAt0_A m c t h0 h1 h2]; dsimp only; frame_out
  pointwise [k0_pay3]

theorem gate_C (c : Dev nD) (t : Fin cfg0.N) (h0 : ¬t.val % 8 = 0) (h1 : t.val % 2 = 0) (h2 : ¬t.val % 2 = 1) (y : S1x1024.Idx) :
    (outsAt0 m c t.val t.isLt).2.2.2.2.1 y = (outsAt0 m c (t.val - 1) (Nat.lt_of_le_of_lt (Nat.sub_le _ _) t.isLt)).2.2.2.2.1 y := by
  rw [outsAt0_C m c t h0 h1 h2]; rfl

section Pieces

variable (y x e : Vec Ideal S256x1024 .f32) (w g : Vec Ideal S1x1024 .f32)

theorem at_residual : k0_pay13 (F := Ideal) y x e w g = Loss.atResidual x e y w g := by
  funext i; pointwise [k0_pay6, k0_pay7, k0_pay8, k0_pay9, k0_pay10, k0_pay11, k0_pay12, k0_pay13, k0_pay14, k0_pay15, k0_pay16, k0_pay17, k0_pay18, k0_pay19, Loss.error, Loss.ofRow, Loss.atResidual, Loss.atWeighted, Loss.through, Loss.back, Loss.weightPart, Loss.gatePart, Norms.residual, Norms.normed, Norms.factor, Norms.spread, Norms.slope, Norms.down]

theorem at_weighted : k0_pay14 (F := Ideal) y x e w g = Loss.atWeighted x e y w g := by
  funext i; pointwise [k0_pay6, k0_pay7, k0_pay8, k0_pay9, k0_pay10, k0_pay11, k0_pay12, k0_pay13, k0_pay14, k0_pay15, k0_pay16, k0_pay17, k0_pay18, k0_pay19, Loss.error, Loss.ofRow, Loss.atResidual, Loss.atWeighted, Loss.through, Loss.back, Loss.weightPart, Loss.gatePart, Norms.residual, Norms.normed, Norms.factor, Norms.spread, Norms.slope, Norms.down]

theorem at_gate : k0_pay15 (F := Ideal) y x e w g = Norms.down (Loss.gatePart x e y w g) := by
  funext i; pointwise [k0_pay6, k0_pay7, k0_pay8, k0_pay9, k0_pay10, k0_pay11, k0_pay12, k0_pay13, k0_pay14, k0_pay15, k0_pay16, k0_pay17, k0_pay18, k0_pay19, Loss.error, Loss.ofRow, Loss.atResidual, Loss.atWeighted, Loss.through, Loss.back, Loss.weightPart, Loss.gatePart, Norms.residual, Norms.normed, Norms.factor, Norms.spread, Norms.slope, Norms.down]

theorem of_rows (i : S1x1.Idx) : k0_pay12 (F := Ideal) y x e w g i = ∑ r : Fin 256, Loss.ofRow x e y w g r := by
  pointwise [k0_pay6, k0_pay7, k0_pay8, k0_pay9, k0_pay10, k0_pay11, k0_pay12, k0_pay13, k0_pay14, k0_pay15, k0_pay16, k0_pay17, k0_pay18, k0_pay19]
  simp only [Loss.ofRow]
  rw [← Pieces.mul_sum _ _ Loss.half_nonneg Loss.half_ne_top]
  pointwise [Loss.error, Loss.ofRow, Loss.atResidual, Loss.atWeighted, Loss.through, Loss.back, Loss.weightPart, Loss.gatePart, Norms.residual, Norms.normed, Norms.factor, Norms.spread, Norms.slope, Norms.down]

theorem at_rows (d : Vec Ideal S256x1024 .f32) : k0_pay16 (F := Ideal) y w (k0_pay7 y) (k0_pay8 y) d = Loss.back y d w := by
  funext i; pointwise [k0_pay6, k0_pay7, k0_pay8, k0_pay9, k0_pay10, k0_pay11, k0_pay12, k0_pay13, k0_pay14, k0_pay15, k0_pay16, k0_pay17, k0_pay18, k0_pay19, Loss.error, Loss.ofRow, Loss.atResidual, Loss.atWeighted, Loss.through, Loss.back, Loss.weightPart, Loss.gatePart, Norms.residual, Norms.normed, Norms.factor, Norms.spread, Norms.slope, Norms.down]
  simp only [Fin.sum_univ_one]

theorem plus_one (a b : Vec Ideal S1x1 .f32) (i : S1x1.Idx) : k0_pay17 (F := Ideal) a b i = b i + a i := by
  pointwise [k0_pay17]

theorem plus_row (a b : Vec Ideal S1x1024 .f32) (i : S1x1024.Idx) : k0_pay19 (F := Ideal) a b i = b i + a i := by
  pointwise [k0_pay19]

theorem plus_weight (d : Vec Ideal S256x1024 .f32) (b : Vec Ideal S1x1024 .f32) (i : S1x1024.Idx) :
    k0_pay18 (F := Ideal) (k0_pay9 y) d b i = b i + Norms.down (Loss.weightPart y d) i := by
  pointwise [k0_pay6, k0_pay7, k0_pay8, k0_pay9, k0_pay10, k0_pay11, k0_pay12, k0_pay13, k0_pay14, k0_pay15, k0_pay16, k0_pay17, k0_pay18, k0_pay19, Loss.error, Loss.ofRow, Loss.atResidual, Loss.atWeighted, Loss.through, Loss.back, Loss.weightPart, Loss.gatePart, Norms.residual, Norms.normed, Norms.factor, Norms.spread, Norms.slope, Norms.down]

end Pieces

theorem plus_half (a : Vec Ideal S1024x2048 .bf16) (b : Vec Ideal S2048x1024 .bf16) (s : Vec Ideal S1024x1024 .f32) :
    k0_pay5 (F := Ideal) a b s = fun i => s i + Products.times a b i := by
  funext i; pointwise [k0_pay5, Products.times]

theorem same21 : k0_pay21 (F := Ideal) = k0_pay7 := rfl

theorem same22 : k0_pay22 (F := Ideal) = k0_pay8 := rfl

theorem same23 : k0_pay23 (F := Ideal) = k0_pay9 := rfl

theorem same26 : k0_pay26 (F := Ideal) = k0_pay12 := rfl

theorem same27 : k0_pay27 (F := Ideal) = k0_pay13 := rfl

theorem same28 : k0_pay28 (F := Ideal) = k0_pay14 := rfl

theorem same29 : k0_pay29 (F := Ideal) = k0_pay15 := rfl

theorem same30 : k0_pay30 (F := Ideal) = k0_pay16 := rfl

theorem same31 : k0_pay31 (F := Ideal) = k0_pay17 := rfl

theorem same32 : k0_pay32 (F := Ideal) = k0_pay18 := rfl

theorem same33 : k0_pay33 (F := Ideal) = k0_pay19 := rfl

theorem same35 : k0_pay35 (F := Ideal) = k0_pay7 := rfl

theorem same36 : k0_pay36 (F := Ideal) = k0_pay8 := rfl

theorem same37 : k0_pay37 (F := Ideal) = k0_pay9 := rfl

theorem same40 : k0_pay40 (F := Ideal) = k0_pay12 := rfl

theorem same41 : k0_pay41 (F := Ideal) = k0_pay13 := rfl

theorem same42 : k0_pay42 (F := Ideal) = k0_pay14 := rfl

theorem same43 : k0_pay43 (F := Ideal) = k0_pay15 := rfl

theorem same44 : k0_pay44 (F := Ideal) = k0_pay16 := rfl

theorem same45 : k0_pay45 (F := Ideal) = k0_pay17 := rfl

theorem same46 : k0_pay46 (F := Ideal) = k0_pay18 := rfl

theorem same47 : k0_pay47 (F := Ideal) = k0_pay19 := rfl

theorem same49 : k0_pay49 (F := Ideal) = k0_pay7 := rfl

theorem same50 : k0_pay50 (F := Ideal) = k0_pay8 := rfl

theorem same51 : k0_pay51 (F := Ideal) = k0_pay9 := rfl

theorem same54 : k0_pay54 (F := Ideal) = k0_pay12 := rfl

theorem same55 : k0_pay55 (F := Ideal) = k0_pay13 := rfl

theorem same56 : k0_pay56 (F := Ideal) = k0_pay14 := rfl

theorem same57 : k0_pay57 (F := Ideal) = k0_pay15 := rfl

theorem same58 : k0_pay58 (F := Ideal) = k0_pay16 := rfl

theorem same59 : k0_pay59 (F := Ideal) = k0_pay17 := rfl

theorem same60 : k0_pay60 (F := Ideal) = k0_pay18 := rfl

theorem same61 : k0_pay61 (F := Ideal) = k0_pay19 := rfl

end Cert.FinalIdeal.Result

end
-- ==== Proof.FinalPoint.lean ====
/- The second product of the channel mixer with the loss and its gradient: what one grid point adds. -/
module

public import proofs.«01_k».proof.Proof.Products
public import proofs.«01_k».proof.Proof.Gen.FinalIdeal.Frame
public import Idealize.ShloMosaic.Lib.Pipeline.ValueKit
public import proofs.«01_k».proof.Proof.FinalPieces

@[expose] public section

set_option maxRecDepth 16384

noncomputable section

open Idealize.ShloMosaic Idealize.ShloMosaic.TcCoe Idealize.SL.Sem
open Idealize.ShloMosaic.Pipeline (Dat)
open scoped BigOperators

namespace Cert.FinalIdeal.Result

open Cert.FinalIdeal Cert.FinalIdeal.Gen

variable (m : (ℓ : Loc nD τ sig) → Buf (Elt Ideal) ℓ)

/-- What the block of the product holds after two points. -/
def product (c : Dev nD) (t : Fin cfg0.N) : Norms.Rows 1024 := fun i =>
  (outsAt0 m c (t.val - 1) (Nat.lt_of_le_of_lt (Nat.sub_le _ _) t.isLt)).2.2.2.2.2 i
    + Products.times (iblk m c 0 t : Vec Ideal S1024x2048 .bf16) (iblk m c 1 t : Vec Ideal S2048x1024 .bf16) i

theorem load0 (c : Dev nD) (t : Fin cfg0.N) (o : Nat) (h : o + 256 ≤ 1024) (inb : ∀ a, (![o, 0] : Fin 2 → Nat) a + (![256, 1024] : Fin 2 → Nat) a ≤ S1024x1024.size a) :
    (View.whole cc0_scratch0).readCov [(⟨Rect.unit ![0, 0] ![1024, 1024] inb_S1024x1024_S1024x1024_0_0,
        k0_pay5 (iblk m c 0 t) (iblk m c 1 t) (View.read (Elt Ideal) (View.whole cc0_scratch0)
          ((Memref.isWhole_whole cc0_scratch0).unread (outsAt0 m c (t.val - 1) (Nat.lt_of_le_of_lt (Nat.sub_le _ _) t.isLt)).2.2.2.2.2))⟩ : View.Piece (Elt Ideal) S1024x1024 .f32)]
      (Rect.unit ![o, 0] ![256, 1024] inb).toLoadRect = Pieces.piece 256 o h (product m c t) := by
  refine (Pieces.read_filled (S := S1024x1024) _ _ _ (by decide) _).trans ?_
  refine (Pieces.ld_piece h _ inb).trans (congrArg _ ?_)
  rw [plus_half]; unfold product
  funext i
  exact congrArg (· + _) (congrFun (Memref.IsWhole.read_unread _ _) i)

theorem load2 (c : Dev nD) (t : Fin cfg0.N) (o : Nat) (h : o + 256 ≤ 1024) (inb : ∀ a, (![o, 0] : Fin 2 → Nat) a + (![256, 1024] : Fin 2 → Nat) a ≤ S1024x1024.size a) :
    View.ld (Val := Elt Ideal) (S := S1024x1024) (e' := .f32) (iblk m c 2 t) (Rect.unit (s := S1024x1024) ![o, 0] ![256, 1024] inb)
      = Pieces.piece 256 o h (iblk m c 2 t : Vec Ideal S1024x1024 .f32) := Pieces.ld_piece h _ inb

theorem load3 (c : Dev nD) (t : Fin cfg0.N) (o : Nat) (h : o + 256 ≤ 1024) (inb : ∀ a, (![o, 0] : Fin 2 → Nat) a + (![256, 1024] : Fin 2 → Nat) a ≤ S1024x1024.size a) :
    View.ld (Val := Elt Ideal) (S := S1024x1024) (e' := .f32) (iblk m c 3 t) (Rect.unit (s := S1024x1024) ![o, 0] ![256, 1024] inb)
      = Pieces.piece 256 o h (iblk m c 3 t : Vec Ideal S1024x1024 .f32) := Pieces.ld_piece h _ inb

theorem residual_B (c : Dev nD) (t : Fin cfg0.N) (h0 : ¬t.val % 8 = 0) (h1 : ¬t.val % 2 = 0) (h2 : t.val % 2 = 1) (y : S1024x1024.Idx) :
    (outsAt0 m c t.val t.isLt).1 y = Loss.atResidual (iblk m c 2 t : Vec Ideal S1024x1024 .f32) (iblk m c 3 t : Vec Ideal S1024x1024 .f32) (product m c t) (iblk m c 4 t : Vec Ideal S1x1024 .f32) (iblk m c 5 t : Vec Ideal S1x1024 .f32) y := by
  rw [outsAt0_B m c t h0 h1 h2]; dsimp only; frame_out
  canon_tiles x h
  · rw [Pieces.index_eq y x 768 (by omega) h0 h1, load0 m c t 768 (by omega), load2 m c t 768 (by omega), load3 m c t 768 (by omega), same55, at_residual]; rfl
  · rw [Pieces.index_eq y x 512 (by omega) h0 h1, load0 m c t 512 (by omega), load2 m c t 512 (by omega), load3 m c t 512 (by omega), same41, at_residual]; rfl
  · rw [Pieces.index_eq y x 256 (by omega) h0 h1, load0 m c t 256 (by omega), load2 m c t 256 (by omega), load3 m c t 256 (by omega), same27, at_residual]; rfl
  · rw [Pieces.index_eq y x 0 (by omega) (by omega) h1, load0 m c t 0 (by omega), load2 m c t 0 (by omega), load3 m c t 0 (by omega), at_residual]; rfl

theorem rows_B (c : Dev nD) (t : Fin cfg0.N) (h0 : ¬t.val % 8 = 0) (h1 : ¬t.val % 2 = 0) (h2 : t.val % 2 = 1) (y : S1024x1024.Idx) :
    (outsAt0 m c t.val t.isLt).2.1 y = Loss.back (product m c t) (Loss.atWeighted (iblk m c 2 t : Vec Ideal S1024x1024 .f32) (iblk m c 3 t : Vec Ideal S1024x1024 .f32) (product m c t) (iblk m c 4 t : Vec Ideal S1x1024 .f32) (iblk m c 5 t : Vec Ideal S1x1024 .f32)) (iblk m c 4 t : Vec Ideal S1x1024 .f32) y := by
  rw [outsAt0_B m c t h0 h1 h2]; dsimp only; frame_out
  canon_tiles x h
  · rw [Pieces.index_eq y x 768 (by omega) h0 h1, load0 m c t 768 (by omega), load2 m c t 768 (by omega), load3 m c t 768 (by omega), same58, same49, same50, same56, at_rows, at_weighted]; rfl
  · rw [Pieces.index_eq y x 512 (by omega) h0 h1, load0 m c t 512 (by omega), load2 m c t 512 (by omega), load3 m c t 512 (by omega), same44, same35, same36, same42, at_rows, at_weighted]; rfl
  · rw [Pieces.index_eq y x 256 (by omega) h0 h1, load0 m c t 256 (by omega), load2 m c t 256 (by omega), load3 m c t 256 (by omega), same30, same21, same22, same28, at_rows, at_weighted]; rfl
  · rw [Pieces.index_eq y x 0 (by omega) (by omega) h1, load0 m c t 0 (by omega), load2 m c t 0 (by omega), load3 m c t 0 (by omega), at_rows, at_weighted]; rfl

theorem loss_B (c : Dev nD) (t : Fin cfg0.N) (h0 : ¬t.val % 8 = 0) (h1 : ¬t.val % 2 = 0) (h2 : t.val % 2 = 1) (y : S1x1.Idx) :
    (outsAt0 m c t.val t.isLt).2.2.1 y
      = (outsAt0 m c (t.val - 1) (Nat.lt_of_le_of_lt (Nat.sub_le _ _) t.isLt)).2.2.1 y + ∑ r : Fin 1024, Loss.ofRow (iblk m c 2 t : Vec Ideal S1024x1024 .f32) (iblk m c 3 t : Vec Ideal S1024x1024 .f32) (product m c t) (iblk m c 4 t : Vec Ideal S1x1024 .f32) (iblk m c 5 t : Vec Ideal S1x1024 .f32) r := by
  rw [outsAt0_B m c t h0 h1 h2]; dsimp only; frame_out
  rw [load0 m c t 0 (by omega), load2 m c t 0 (by omega), load3 m c t 0 (by omega), load0 m c t 256 (by omega), load2 m c t 256 (by omega), load3 m c t 256 (by omega), load0 m c t 512 (by omega), load2 m c t 512 (by omega), load3 m c t 512 (by omega), load0 m c t 768 (by omega), load2 m c t 768 (by omega), load3 m c t 768 (by omega), same59, same54, same45, same40, same31, same26]
  simp only [plus_one, of_rows, Loss.ofRow_piece]
  rw [Pieces.sum_quarters (n := 256) rfl]
  simp only [add_assoc]

theorem weight_B (c : Dev nD) (t : Fin cfg0.N) (h0 : ¬t.val % 8 = 0) (h1 : ¬t.val % 2 = 0) (h2 : t.val % 2 = 1) (y : S1x1024.Idx) :
    (outsAt0 m c t.val t.isLt).2.2.2.1 y
      = (outsAt0 m c (t.val - 1) (Nat.lt_of_le_of_lt (Nat.sub_le _ _) t.isLt)).2.2.2.1 y + Norms.down (Loss.weightPart (product m c t) (Loss.atWeighted (iblk m c 2 t : Vec Ideal S1024x1024 .f32) (iblk m c 3 t : Vec Ideal S1024x1024 .f32) (product m c t) (iblk m c 4 t : Vec Ideal S1x1024 .f32) (iblk m c 5 t : Vec Ideal S1x1024 .f32))) y := by
  rw [outsAt0_B m c t h0 h1 h2]; dsimp only; frame_out
  rw [load0 m c t 0 (by omega), load2 m c t 0 (by omega), load3 m c t 0 (by omega), load0 m c t 256 (by omega), load2 m c t 256 (by omega), load3 m c t 256 (by omega), load0 m c t 512 (by omega), load2 m c t 512 (by omega), load3 m c t 512 (by omega), load0 m c t 768 (by omega), load2 m c t 768 (by omega), load3 m c t 768 (by omega), same60, same51, same56, same46, same37, same42, same32, same23, same28]
  simp only [plus_weight, at_weighted, Loss.atWeighted_piece, Loss.weightPart_piece, Norms.down]
  rw [Pieces.sum_quarters (n := 256) rfl]
  simp only [add_assoc]
  rfl

theorem gate_B (c : Dev nD) (t : Fin cfg0.N) (h0 : ¬t.val % 8 = 0) (h1 : ¬t.val % 2 = 0) (h2 : t.val % 2 = 1) (y : S1x1024.Idx) :
    (outsAt0 m c t.val t.isLt).2.2.2.2.1 y
      = (outsAt0 m c (t.val - 1) (Nat.lt_of_le_of_lt (Nat.sub_le _ _) t.isLt)).2.2.2.2.1 y + Norms.down (Loss.gatePart (iblk m c 2 t : Vec Ideal S1024x1024 .f32) (iblk m c 3 t : Vec Ideal S1024x1024 .f32) (product m c t) (iblk m c 4 t : Vec Ideal S1x1024 .f32) (iblk m c 5 t : Vec Ideal S1x1024 .f32)) y := by
  rw [outsAt0_B m c t h0 h1 h2]; dsimp only; frame_out
  rw [load0 m c t 0 (by omega), load2 m c t 0 (by omega), load3 m c t 0 (by omega), load0 m c t 256 (by omega), load2 m c t 256 (by omega), load3 m c t 256 (by omega), load0 m c t 512 (by omega), load2 m c t 512 (by omega), load3 m c t 512 (by omega), load0 m c t 768 (by omega), load2 m c t 768 (by omega), load3 m c t 768 (by omega), same61, same57, same47, same43, same33, same29]
  simp only [plus_row, at_gate, Loss.gatePart_piece, Norms.down]
  rw [Pieces.sum_quarters (n := 256) rfl]
  simp only [add_assoc]
  rfl

end Cert.FinalIdeal.Result

end
-- ==== Proof.Final.lean ====
/- The second product of the channel mixer with the loss and its gradient. -/
module

public import proofs.«01_k».proof.Proof.Products
public import proofs.«01_k».proof.Proof.Gen.FinalIdeal.Frame
public import Idealize.ShloMosaic.Lib.Pipeline.ValueKit
public import proofs.«01_k».proof.Proof.FinalPoint

@[expose] public section

set_option maxRecDepth 16384

noncomputable section

open Idealize.ShloMosaic Idealize.ShloMosaic.TcCoe Idealize.SL.Sem
open Idealize.ShloMosaic.Pipeline (Dat)
open scoped BigOperators

namespace Cert.FinalIdeal.Result

open Cert.FinalIdeal Cert.FinalIdeal.Gen

variable (m : (ℓ : Loc nD τ sig) → Buf (Elt Ideal) ℓ)

/-- The product of the whole arrays. -/
def whole (c : Dev nD) : Norms.Rows 4096 := Products.times (m ((c : Thread nD τ).loc main_arg0)) (m ((c : Thread nD τ).loc main_arg1))

theorem odd (t : Fin cfg0.N) : t.val / 2 * 1024 + 1024 ≤ 4096 := by
  have h : t.val < 8 := t.isLt
  omega

/-- One term of the product. -/
def term (a : Vec Ideal S4096x4096 .bf16) (b : Vec Ideal S4096x1024 .bf16) (r : Fin 4096) (k : Fin 1024) (l : Fin 4096) : EReal :=
  a (ix2 r l) * b (ix2 l k)

theorem half_eq (c : Dev nD) (t : Fin cfg0.N) (q s : Nat) (hq : t.val / 2 = q) (hs : t.val % 2 = s) (h : q * 1024 + 1024 ≤ 4096) (h' : s < 2) (i : S1024x1024.Idx) :
    Products.times (iblk m c 0 t : Vec Ideal S1024x2048 .bf16) (iblk m c 1 t : Vec Ideal S2048x1024 .bf16) i
      = ∑ l : Fin 2048, term (m ((c : Thread nD τ).loc main_arg0)) (m ((c : Thread nD τ).loc main_arg1)) (Pieces.at_ 1024 (q * 1024) h (i 0)) (i 1) ⟨s * 2048 + l.val, by omega⟩ := by
  subst hq hs
  unfold Products.times
  refine Finset.sum_congr rfl fun l _ => ?_
  blk_point [iblk, V, idx_val t, Pieces.at_, term]

theorem product_eq (c : Dev nD) (t : Fin cfg0.N) (ht : t.val % 2 = 1) : product m c t = Pieces.piece 1024 (t.val / 2 * 1024) (odd t) (whole m c) := by
  have hp : t.val - 1 < cfg0.N := Nat.lt_of_le_of_lt (Nat.sub_le _ _) t.isLt
  funext i
  have e : (outsAt0 m c (t.val - 1) hp).2.2.2.2.2 i
      = 0 + Products.times (iblk m c 0 ⟨t.val - 1, hp⟩ : Vec Ideal S1024x2048 .bf16) (iblk m c 1 ⟨t.val - 1, hp⟩ : Vec Ideal S2048x1024 .bf16) i := by
    by_cases h : (t.val - 1) % 8 = 0
    · exact half_A m c ⟨t.val - 1, hp⟩ h (by show (t.val - 1) % 2 = 0; omega) (by show ¬(t.val - 1) % 2 = 1; omega) i
    · exact half_C m c ⟨t.val - 1, hp⟩ h (by show (t.val - 1) % 2 = 0; omega) (by show ¬(t.val - 1) % 2 = 1; omega) i
  unfold product
  rw [e, zero_add, half_eq m c ⟨t.val - 1, hp⟩ (t.val / 2) 0 (by show (t.val - 1) / 2 = _; omega) (by show (t.val - 1) % 2 = 0; omega) (odd t) (by omega) i,
    half_eq m c t (t.val / 2) 1 rfl ht (odd t) (by omega) i]
  refine (Fin.sum_univ_two (fun s : Fin 2 => ∑ l : Fin 2048, term (m ((c : Thread nD τ).loc main_arg0)) (m ((c : Thread nD τ).loc main_arg1)) (Pieces.at_ 1024 (t.val / 2 * 1024) (odd t) (i 0)) (i 1)
    ⟨s.val * 2048 + l.val, by omega⟩)).symm.trans ?_
  exact Fin.sum_mul_add_congr fun s l hl => rfl

theorem block2 (c : Dev nD) (t : Fin cfg0.N) : (iblk m c 2 t : Vec Ideal S1024x1024 .f32) = Pieces.piece 1024 (t.val / 2 * 1024) (odd t) (m ((c : Thread nD τ).loc main_arg2)) := by
  funext i; blk_point [iblk, V, idx_val t, Pieces.piece, Pieces.at_]

theorem block3 (c : Dev nD) (t : Fin cfg0.N) : (iblk m c 3 t : Vec Ideal S1024x1024 .f32) = Pieces.piece 1024 (t.val / 2 * 1024) (odd t) (m ((c : Thread nD τ).loc main_arg3)) := by
  funext i; blk_point [iblk, V, idx_val t, Pieces.piece, Pieces.at_]

theorem whole4 (c : Dev nD) (t : Fin cfg0.N) : (iblk m c 4 t : Vec Ideal S1x1024 .f32) = (m ((c : Thread nD τ).loc main_arg4)) := by
  funext i; blk_point [iblk, V, idx_val t]

theorem whole5 (c : Dev nD) (t : Fin cfg0.N) : (iblk m c 5 t : Vec Ideal S1x1024 .f32) = (m ((c : Thread nD τ).loc main_arg5)) := by
  funext i; blk_point [iblk, V, idx_val t]

/-- The gradient at the residual. -/
theorem final_residual (c : Dev nD) : (dats m 0 c).arrAt 6 (cfgs 0).N = Loss.atResidual (m ((c : Thread nD τ).loc main_arg2)) (m ((c : Thread nD τ).loc main_arg3)) (whole m c) (m ((c : Thread nD τ).loc main_arg4)) (m ((c : Thread nD τ).loc main_arg5)) := by
  refine (dats m 0 c).arrAt_eq_of_covers 6 _ (by decide +kernel) fun t hf y => ?_
  have ht : t.val % 2 = 1 := (flush0_6 t).mp hf
  blk_simp
  rw [after0_6, residual_B m c t (by omega) (by omega) ht, block2, block3, product_eq m c t ht, whole4, whole5, Loss.atResidual_piece, Pieces.piece_apply]
  refine congrArg _ ?_
  blk_point [idx_val t, Pieces.at_]

/-- The gradient at the product. -/
theorem final_rows (c : Dev nD) : (dats m 0 c).arrAt 7 (cfgs 0).N = Loss.back (whole m c) (Loss.atWeighted (m ((c : Thread nD τ).loc main_arg2)) (m ((c : Thread nD τ).loc main_arg3)) (whole m c) (m ((c : Thread nD τ).loc main_arg4)) (m ((c : Thread nD τ).loc main_arg5))) (m ((c : Thread nD τ).loc main_arg4)) := by
  refine (dats m 0 c).arrAt_eq_of_covers 7 _ (by decide +kernel) fun t hf y => ?_
  have ht : t.val % 2 = 1 := (flush0_7 t).mp hf
  blk_simp
  rw [after0_7, rows_B m c t (by omega) (by omega) ht, block2, block3, product_eq m c t ht, whole4, whole5, Loss.atWeighted_piece, Loss.back_piece, Pieces.piece_apply]
  refine congrArg _ ?_
  blk_point [idx_val t, Pieces.at_]

theorem all_loss (c : Dev nD) (y : S1x1.Idx) (t : Fin cfg0.N) (ht : t.val % 8 = 7) : (outsAt0 m c t.val t.isLt).2.2.1 y = ∑ r : Fin 4096, Loss.ofRow (m ((c : Thread nD τ).loc main_arg2)) (m ((c : Thread nD τ).loc main_arg3)) (whole m c) (m ((c : Thread nD τ).loc main_arg4)) (m ((c : Thread nD τ).loc main_arg5)) r := by
  refine Pieces.total (N := cfg0.N) (by decide) (fun n h => (outsAt0 m c n h).2.2.1 y) (fun r => Loss.ofRow (m ((c : Thread nD τ).loc main_arg2)) (m ((c : Thread nD τ).loc main_arg3)) (whole m c) (m ((c : Thread nD τ).loc main_arg4)) (m ((c : Thread nD τ).loc main_arg5)) r) ?_ (fun t ht => ?_) (fun t h8 h2 => ?_) t ht
  · exact loss_A m c ⟨0, by decide⟩ rfl rfl (by decide) y
  · refine (loss_B m c t (by omega) (by omega) ht y).trans ?_
    rw [block2, block3, product_eq m c t ht, whole4, whole5]
    refine congrArg (_ + ·) ?_
    simp only [Loss.ofRow_piece]
  · exact loss_C m c t h8 h2 (by omega) y

/-- The loss. -/
theorem final_loss (c : Dev nD) : (dats m 0 c).arrAt 8 (cfgs 0).N = Loss.total (m ((c : Thread nD τ).loc main_arg2)) (m ((c : Thread nD τ).loc main_arg3)) (whole m c) (m ((c : Thread nD τ).loc main_arg4)) (m ((c : Thread nD τ).loc main_arg5)) := by
  refine (dats m 0 c).arrAt_eq_of_covers 8 _ (by decide +kernel) fun t hf y => ?_
  have ht : t.val % 8 = 7 := (flush0_8 t).mp hf
  blk_simp
  rw [after0_8]
  refine (all_loss m c y t ht).trans ?_
  rfl

theorem all_weight (c : Dev nD) (y : S1x1024.Idx) (t : Fin cfg0.N) (ht : t.val % 8 = 7) : (outsAt0 m c t.val t.isLt).2.2.2.1 y = ∑ r : Fin 4096, Loss.weightPart (whole m c) (Loss.atWeighted (m ((c : Thread nD τ).loc main_arg2)) (m ((c : Thread nD τ).loc main_arg3)) (whole m c) (m ((c : Thread nD τ).loc main_arg4)) (m ((c : Thread nD τ).loc main_arg5))) (ix2 r (y 1)) := by
  refine Pieces.total (N := cfg0.N) (by decide) (fun n h => (outsAt0 m c n h).2.2.2.1 y) (fun r => Loss.weightPart (whole m c) (Loss.atWeighted (m ((c : Thread nD τ).loc main_arg2)) (m ((c : Thread nD τ).loc main_arg3)) (whole m c) (m ((c : Thread nD τ).loc main_arg4)) (m ((c : Thread nD τ).loc main_arg5))) (ix2 r (y 1))) ?_ (fun t ht => ?_) (fun t h8 h2 => ?_) t ht
  · exact weight_A m c ⟨0, by decide⟩ rfl rfl (by decide) y
  · refine (weight_B m c t (by omega) (by omega) ht y).trans ?_
    rw [block2, block3, product_eq m c t ht, whole4, whole5, Loss.atWeighted_piece, Loss.weightPart_piece]
    refine congrArg (_ + ·) ?_
    unfold Norms.down; rfl
  · exact weight_C m c t h8 h2 (by omega) y

/-- The gradient at the norm's weight. -/
theorem final_weight (c : Dev nD) : (dats m 0 c).arrAt 9 (cfgs 0).N = Norms.down (Loss.weightPart (whole m c) (Loss.atWeighted (m ((c : Thread nD τ).loc main_arg2)) (m ((c : Thread nD τ).loc main_arg3)) (whole m c) (m ((c : Thread nD τ).loc main_arg4)) (m ((c : Thread nD τ).loc main_arg5)))) := by
  refine (dats m 0 c).arrAt_eq_of_covers 9 _ (by decide +kernel) fun t hf y => ?_
  have ht : t.val % 8 = 7 := (flush0_9 t).mp hf
  blk_simp
  rw [after0_9]
  refine (all_weight m c y t ht).trans ?_
  unfold Norms.down
  refine Finset.sum_congr rfl fun r _ => congrArg _ ?_
  blk_point [idx_val t]

theorem all_gate (c : Dev nD) (y : S1x1024.Idx) (t : Fin cfg0.N) (ht : t.val % 8 = 7) : (outsAt0 m c t.val t.isLt).2.2.2.2.1 y = ∑ r : Fin 4096, Loss.gatePart (m ((c : Thread nD τ).loc main_arg2)) (m ((c : Thread nD τ).loc main_arg3)) (whole m c) (m ((c : Thread nD τ).loc main_arg4)) (m ((c : Thread nD τ).loc main_arg5)) (ix2 r (y 1)) := by
  refine Pieces.total (N := cfg0.N) (by decide) (fun n h => (outsAt0 m c n h).2.2.2.2.1 y) (fun r => Loss.gatePart (m ((c : Thread nD τ).loc main_arg2)) (m ((c : Thread nD τ).loc main_arg3)) (whole m c) (m ((c : Thread nD τ).loc main_arg4)) (m ((c : Thread nD τ).loc main_arg5)) (ix2 r (y 1))) ?_ (fun t ht => ?_) (fun t h8 h2 => ?_) t ht
  · exact gate_A m c ⟨0, by decide⟩ rfl rfl (by decide) y
  · refine (gate_B m c t (by omega) (by omega) ht y).trans ?_
    rw [block2, block3, product_eq m c t ht, whole4, whole5, Loss.gatePart_piece]
    refine congrArg (_ + ·) ?_
    unfold Norms.down; rfl
  · exact gate_C m c t h8 h2 (by omega) y

/-- The gradient at the gate. -/
theorem final_gate (c : Dev nD) : (dats m 0 c).arrAt 10 (cfgs 0).N = Norms.down (Loss.gatePart (m ((c : Thread nD τ).loc main_arg2)) (m ((c : Thread nD τ).loc main_arg3)) (whole m c) (m ((c : Thread nD τ).loc main_arg4)) (m ((c : Thread nD τ).loc main_arg5))) := by
  refine (dats m 0 c).arrAt_eq_of_covers 10 _ (by decide +kernel) fun t hf y => ?_
  have ht : t.val % 8 = 7 := (flush0_10 t).mp hf
  blk_simp
  rw [after0_10]
  refine (all_gate m c y t ht).trans ?_
  unfold Norms.down
  refine Finset.sum_congr rfl fun r _ => congrArg _ ?_
  blk_point [idx_val t]

end Cert.FinalIdeal.Result

end
-- ==== Proof.FinalAgrees.lean ====
/- The call and its reference end with the same results: Final. -/
module

public import proofs.«01_k».proof.Defs
public import proofs.«01_k».proof.Proof.Gen.FinalRefIdeal
public import proofs.«01_k».proof.Proof.Gen.FinalRefIdeal.Run
public import proofs.«01_k».proof.Proof.Gen.FinalIdeal
public import proofs.«01_k».proof.Proof.Final
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.FinalIdeal.Result

set_option maxHeartbeats 4000000 in
theorem agree : algebraic_FinalIdeal_FinalRefIdeal (hFinalIdeal := FinalIdeal.Gen.facts) (hFinalRefIdeal := FinalRefIdeal.Gen.facts) := by
  intro m g m' g' hpre hagree
  refine ⟨fun c => Loss.atResidual (m (c.tc.loc FinalIdeal.main_arg2)) (m (c.tc.loc FinalIdeal.main_arg3)) (Products.times (m (c.tc.loc FinalIdeal.main_arg0)) (m (c.tc.loc FinalIdeal.main_arg1))) (m (c.tc.loc FinalIdeal.main_arg4)) (m (c.tc.loc FinalIdeal.main_arg5)), fun c => Loss.back (Products.times (m (c.tc.loc FinalIdeal.main_arg0)) (m (c.tc.loc FinalIdeal.main_arg1))) (Loss.atWeighted (m (c.tc.loc FinalIdeal.main_arg2)) (m (c.tc.loc FinalIdeal.main_arg3)) (Products.times (m (c.tc.loc FinalIdeal.main_arg0)) (m (c.tc.loc FinalIdeal.main_arg1))) (m (c.tc.loc FinalIdeal.main_arg4)) (m (c.tc.loc FinalIdeal.main_arg5))) (m (c.tc.loc FinalIdeal.main_arg4)), fun c => Loss.total (m (c.tc.loc FinalIdeal.main_arg2)) (m (c.tc.loc FinalIdeal.main_arg3)) (Products.times (m (c.tc.loc FinalIdeal.main_arg0)) (m (c.tc.loc FinalIdeal.main_arg1))) (m (c.tc.loc FinalIdeal.main_arg4)) (m (c.tc.loc FinalIdeal.main_arg5)), fun c => Norms.down (Loss.weightPart (Products.times (m (c.tc.loc FinalIdeal.main_arg0)) (m (c.tc.loc FinalIdeal.main_arg1))) (Loss.atWeighted (m (c.tc.loc FinalIdeal.main_arg2)) (m (c.tc.loc FinalIdeal.main_arg3)) (Products.times (m (c.tc.loc FinalIdeal.main_arg0)) (m (c.tc.loc FinalIdeal.main_arg1))) (m (c.tc.loc FinalIdeal.main_arg4)) (m (c.tc.loc FinalIdeal.main_arg5)))), fun c => Norms.down (Loss.gatePart (m (c.tc.loc FinalIdeal.main_arg2)) (m (c.tc.loc FinalIdeal.main_arg3)) (Products.times (m (c.tc.loc FinalIdeal.main_arg0)) (m (c.tc.loc FinalIdeal.main_arg1))) (m (c.tc.loc FinalIdeal.main_arg4)) (m (c.tc.loc FinalIdeal.main_arg5))), ?_, ?_⟩
  · run_from FinalIdeal.Gen.run_main m g
    · exact final_residual m c
    · exact final_rows m c
    · exact final_loss m c
    · exact final_weight m c
    · exact final_gate m c
  · refine θ_run_mono (FinalRefIdeal.Value.run m' g') ?_
    intro r hr c
    refine ⟨(hr c).1.trans ?_, (hr c).2.1.trans ?_, (hr c).2.2.1.trans ?_, (hr c).2.2.2.1.trans ?_, (hr c).2.2.2.2.1.trans ?_, (hr c).2.2.2.2.2⟩
    · rw [(hagree c).1, (hagree c).2.1, (hagree c).2.2.1, (hagree c).2.2.2.1, (hagree c).2.2.2.2.1, (hagree c).2.2.2.2.2]
      funext i
      pointwise [Products.times, Loss.error, Loss.ofRow, Loss.total, Loss.atResidual, Loss.atWeighted, Loss.through, Loss.back, Loss.weightPart, Loss.gatePart, Norms.residual, Norms.normed, Norms.factor, Norms.spread, Norms.slope, Norms.down]
      simp only [Loss.slope_eq]
    · unfold FinalRefIdeal.Value.res_main_v60
      rw [(hagree c).1, (hagree c).2.1, (hagree c).2.2.1, (hagree c).2.2.2.1, (hagree c).2.2.2.2.1, (hagree c).2.2.2.2.2]
      funext i
      pointwise [Products.times, Loss.error, Loss.ofRow, Loss.total, Loss.atResidual, Loss.atWeighted, Loss.through, Loss.back, Loss.weightPart, Loss.gatePart, Norms.residual, Norms.normed, Norms.factor, Norms.spread, Norms.slope, Norms.down]
      simp only [Fin.sum_univ_one, Loss.slope_eq]
    · rw [(hagree c).1, (hagree c).2.1, (hagree c).2.2.1, (hagree c).2.2.2.1, (hagree c).2.2.2.2.1, (hagree c).2.2.2.2.2]
      funext i
      pointwise [Products.times, Loss.error, Loss.ofRow, Loss.total, Loss.atResidual, Loss.atWeighted, Loss.through, Loss.back, Loss.weightPart, Loss.gatePart, Norms.residual, Norms.normed, Norms.factor, Norms.spread, Norms.slope, Norms.down]
      rw [Pieces.mul_sum _ _ Loss.half_nonneg Loss.half_ne_top]
    · rw [(hagree c).1, (hagree c).2.1, (hagree c).2.2.1, (hagree c).2.2.2.1, (hagree c).2.2.2.2.1, (hagree c).2.2.2.2.2]
      funext i
      pointwise [Products.times, Loss.error, Loss.ofRow, Loss.total, Loss.atResidual, Loss.atWeighted, Loss.through, Loss.back, Loss.weightPart, Loss.gatePart, Norms.residual, Norms.normed, Norms.factor, Norms.spread, Norms.slope, Norms.down]
      simp only [Loss.slope_eq]
    · rw [(hagree c).1, (hagree c).2.1, (hagree c).2.2.1, (hagree c).2.2.2.1, (hagree c).2.2.2.2.1, (hagree c).2.2.2.2.2]
      funext i
      pointwise [Products.times, Loss.error, Loss.ofRow, Loss.total, Loss.atResidual, Loss.atWeighted, Loss.through, Loss.back, Loss.weightPart, Loss.gatePart, Norms.residual, Norms.normed, Norms.factor, Norms.spread, Norms.slope, Norms.down]
      simp only [Loss.slope_eq]

theorem quiet : quiescent_FinalRefIdeal (hFinalRefIdeal := FinalRefIdeal.Gen.facts) := by
  intro m ρ _
  exact (θ_run _ _ _).mono (fun _ h => ⟨fun c => (h c).2.2.2.2.2, sem_eq_zero_of_no_sems (by decide) _⟩) (FinalRefIdeal.Value.run m ρ)

end Cert.FinalIdeal.Result

end
-- ==== Proof.Mixed.lean ====
/- The gradient of a residual's gated norm and of the modulated norm that follows it, over the extended reals, index by index. -/
module

public import proofs.«01_k».proof.Proof.Loss

@[expose] public section

noncomputable section

open Idealize.ShloMosaic
open scoped BigOperators

namespace Cert.Mixed

open Norms (Rows)

/-- The gradient at the residual `r`: what comes to it directly, and what comes through the modulated norm. -/
def atResidual {n : Nat} (r d e : Rows n) (p s : Rows 1) : Rows n :=
  fun i => d i + Norms.atNormed e p s i * Norms.factor r (i 0) + r i * Norms.through r e p s (i 0) + Norms.through r e p s (i 0) * r i

/-- A gradient times the gate. -/
def gated {n : Nat} (d : Rows n) (g : Rows 1) : Rows n := fun i => g (ix2 0 (i 1)) * d i

/-- What each row adds to the gradient at the gate. -/
def gatePart {n : Nat} (u d : Rows n) (w : Rows 1) : Rows n := fun i => d i * Norms.normed u w i

section Pieces

open Pieces (piece)

variable {n k o : Nat} (h : o + k ≤ n) (x u d e : Rows n) (w g : Rows 1)

theorem residual_piece : Norms.residual (piece k o h x) (piece k o h u) w g = piece k o h (Norms.residual x u w g) := rfl

theorem atResidual_piece : atResidual (piece k o h x) (piece k o h d) (piece k o h e) w g = piece k o h (atResidual x d e w g) := rfl

theorem gated_piece : gated (piece k o h d) g = piece k o h (gated d g) := rfl

theorem gatePart_piece : gatePart (piece k o h u) (piece k o h d) w = piece k o h (gatePart u d w) := rfl

theorem weightPart_piece : Norms.weightPart (piece k o h x) (piece k o h e) w = piece k o h (Norms.weightPart x e w) := rfl

theorem scalePart_piece : Norms.scalePart (piece k o h x) (piece k o h e) w = piece k o h (Norms.scalePart x e w) := rfl

end Pieces

end Cert.Mixed

end
-- ==== Proof.PostmixBwd.lean ====
/- The gradient of the two norms between the mixer and the channel mixer. -/
module

public import proofs.«01_k».proof.Proof.Products
public import proofs.«01_k».proof.Proof.Gen.PostmixBwdIdeal.Frame
public import Idealize.ShloMosaic.Lib.Pipeline.ValueKit
public import proofs.«01_k».proof.Proof.Mixed

@[expose] public section

set_option maxRecDepth 16384

noncomputable section

open Idealize.ShloMosaic Idealize.ShloMosaic.TcCoe Idealize.SL.Sem
open Idealize.ShloMosaic.Pipeline (Dat)
open scoped BigOperators

namespace Cert.PostmixBwdIdeal.Result

open Cert.PostmixBwdIdeal Cert.PostmixBwdIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

section Payloads

variable (x u d e : Vec Ideal S512x1024 .f32) (w g p s a : Vec Ideal S1x1024 .f32)

/-- The factor that norms a row, as a column. -/
def factors (r : Vec Ideal S512x1024 .f32) : FVec Ideal S512x1 .f32 := fun i => Norms.factor (n := 512) r (i 0)

/-- The factor over the spread, as a column. -/
def quotients (r : Vec Ideal S512x1024 .f32) : FVec Ideal S512x1 .f32 := fun i => Ideal.div (Norms.factor (n := 512) r (i 0)) (Norms.spread (n := 512) r (i 0))

theorem residual_eq : k0_pay8 (F := Ideal) x u w g = Norms.residual x u w g := by
  funext i; pointwise [k0_pay3, k0_pay4, k0_pay6, k0_pay7, k0_pay8, Norms.residual, Norms.normed, Norms.factor, Norms.spread]

theorem factors_eq : k0_pay10 (F := Ideal) x u w g = factors (Norms.residual x u w g) := by
  unfold k0_pay10 k0_pay9; rw [residual_eq]
  funext i; pointwise [factors, Norms.factor, Norms.spread]

theorem quotients_eq : k0_pay11 (F := Ideal) x u w g = quotients (Norms.residual x u w g) := by
  unfold k0_pay11; rw [factors_eq]; unfold k0_pay9; rw [residual_eq]
  funext i; pointwise [factors, quotients, Norms.factor, Norms.spread]

theorem at_residual (r : Vec Ideal S512x1024 .f32) : k0_pay18 (F := Ideal) d e p s r (factors r) (quotients r) (Scalar.ofBits .f32 0xBF000000#32) = Mixed.atResidual r d e p s := by
  funext i; pointwise [k0_pay18, k0_pay16, k0_pay13, factors, quotients, Mixed.atResidual, Norms.atNormed, Norms.unscaled, Norms.through, Norms.slope]
  simp only [Fin.sum_univ_one]

theorem at_residual' (r : Vec Ideal S512x1024 .f32) : k0_pay19 (F := Ideal) d e p s r (factors r) (quotients r) (Scalar.ofBits .f32 0xBF000000#32) = Mixed.atResidual r d e p s := by
  unfold k0_pay19; rw [at_residual]; funext i; pointwise []

theorem at_gated (r : Vec Ideal S512x1024 .f32) : k0_pay20 (F := Ideal) d e g p s r (factors r) (quotients r) (Scalar.ofBits .f32 0xBF000000#32) = Mixed.gated (Mixed.atResidual r d e p s) g := by
  unfold k0_pay20; rw [at_residual']; funext i; pointwise [Mixed.gated]

theorem at_rows (r : Vec Ideal S512x1024 .f32) : k0_pay25 (F := Ideal) u (k0_pay4 u) (k0_pay5 u)
      (k0_pay23 d e w g p s r (factors r) (quotients r) (Scalar.ofBits .f32 0xBF000000#32))
      (k0_pay24 u d e w g p s r (factors r) (quotients r) (Scalar.ofBits .f32 0xBF000000#32))
    = Loss.back u (Mixed.gated (Mixed.atResidual r d e p s) g) w := by
  unfold k0_pay24 k0_pay23; rw [at_gated]
  funext i; pointwise [k0_pay25, k0_pay3, k0_pay4, k0_pay5, Loss.back, Loss.through, Norms.slope, Norms.factor, Norms.spread]
  simp only [Fin.sum_univ_one]

theorem part_gate (r : Vec Ideal S512x1024 .f32) : k0_pay21 (F := Ideal) d e p s (k0_pay7 u w) r (factors r) (quotients r) (Scalar.ofBits .f32 0xBF000000#32) = Norms.down (Mixed.gatePart u (Mixed.atResidual r d e p s) w) := by
  unfold k0_pay21; rw [at_residual']
  funext i; pointwise [k0_pay3, k0_pay4, k0_pay6, k0_pay7, Norms.down, Mixed.gatePart, Norms.normed, Norms.factor, Norms.spread]

theorem part_post (r : Vec Ideal S512x1024 .f32) : k0_pay22 (F := Ideal) d e g p s (k0_pay6 u) r (factors r) (quotients r) (Scalar.ofBits .f32 0xBF000000#32) = Norms.down (Loss.weightPart u (Mixed.gated (Mixed.atResidual r d e p s) g)) := by
  unfold k0_pay22; rw [at_gated]
  funext i; pointwise [k0_pay3, k0_pay4, k0_pay6, Norms.down, Loss.weightPart, Norms.factor, Norms.spread]

theorem part_pre (r : Vec Ideal S512x1024 .f32) : k0_pay17 (F := Ideal) e s r (factors r) = Norms.down (Norms.weightPart r e s) := by
  funext i; pointwise [k0_pay17, k0_pay16, k0_pay13, k0_pay12, factors, Norms.down, Norms.weightPart, Norms.unscaled]

theorem part_scale (r : Vec Ideal S512x1024 .f32) : k0_pay15 (F := Ideal) e p r (factors r) = Norms.down (Norms.scalePart r e p) := by
  funext i; pointwise [k0_pay15, k0_pay13, k0_pay12, factors, Norms.down, Norms.scalePart]

theorem part_shift : k0_pay14 (F := Ideal) e = Norms.down (n := 512) e := by
  funext i; pointwise [k0_pay14, Norms.down]

theorem plus_post (b : Vec Ideal S1x1024 .f32) (i : S1x1024.Idx) : k0_pay31 (F := Ideal) a b i = b i + a i := by
  pointwise [k0_pay31]

theorem none_post (i : S1x1024.Idx) : k0_pay26 (F := Ideal) i = 0 := by
  pointwise [k0_pay26]

theorem plus_gate (b : Vec Ideal S1x1024 .f32) (i : S1x1024.Idx) : k0_pay32 (F := Ideal) a b i = b i + a i := by
  pointwise [k0_pay32]

theorem none_gate (i : S1x1024.Idx) : k0_pay27 (F := Ideal) i = 0 := by
  pointwise [k0_pay27]

theorem plus_pre (b : Vec Ideal S1x1024 .f32) (i : S1x1024.Idx) : k0_pay33 (F := Ideal) a b i = b i + a i := by
  pointwise [k0_pay33]

theorem none_pre (i : S1x1024.Idx) : k0_pay28 (F := Ideal) i = 0 := by
  pointwise [k0_pay28]

theorem plus_scale (b : Vec Ideal S1x1024 .f32) (i : S1x1024.Idx) : k0_pay1 (F := Ideal) a b i = b i + a i := by
  pointwise [k0_pay1]

theorem none_scale (i : S1x1024.Idx) : k0_pay29 (F := Ideal) i = 0 := by
  pointwise [k0_pay29]

theorem plus_shift (b : Vec Ideal S1x1024 .f32) (i : S1x1024.Idx) : k0_pay2 (F := Ideal) a b i = b i + a i := by
  pointwise [k0_pay2]

theorem none_shift (i : S1x1024.Idx) : k0_pay30 (F := Ideal) i = 0 := by
  pointwise [k0_pay30]

end Payloads

theorem inside (t : Fin cfg0.N) : t.val * 512 + 512 ≤ 4096 := by
  have h : t.val < 8 := t.isLt
  omega

theorem block0 (c : Dev nD) (t : Fin cfg0.N) : (iblk m c 0 t : Vec Ideal S512x1024 .f32) = Pieces.piece 512 (t.val * 512) (inside t) (m ((c : Thread nD τ).loc main_arg0)) := by
  funext i; blk_point [iblk, V, idx_val t, Pieces.piece, Pieces.at_]

theorem block1 (c : Dev nD) (t : Fin cfg0.N) : (iblk m c 1 t : Vec Ideal S512x1024 .f32) = Pieces.piece 512 (t.val * 512) (inside t) (m ((c : Thread nD τ).loc main_arg1)) := by
  funext i; blk_point [iblk, V, idx_val t, Pieces.piece, Pieces.at_]

theorem block2 (c : Dev nD) (t : Fin cfg0.N) : (iblk m c 2 t : Vec Ideal S512x1024 .f32) = Pieces.piece 512 (t.val * 512) (inside t) (m ((c : Thread nD τ).loc main_arg2)) := by
  funext i; blk_point [iblk, V, idx_val t, Pieces.piece, Pieces.at_]

theorem block3 (c : Dev nD) (t : Fin cfg0.N) : (iblk m c 3 t : Vec Ideal S512x1024 .f32) = Pieces.piece 512 (t.val * 512) (inside t) (m ((c : Thread nD τ).loc main_arg3)) := by
  funext i; blk_point [iblk, V, idx_val t, Pieces.piece, Pieces.at_]

theorem whole4 (c : Dev nD) (t : Fin cfg0.N) : (iblk m c 4 t : Vec Ideal S1x1024 .f32) = (m ((c : Thread nD τ).loc main_arg4)) := by
  funext i; blk_point [iblk, V, idx_val t]

theorem whole5 (c : Dev nD) (t : Fin cfg0.N) : (iblk m c 5 t : Vec Ideal S1x1024 .f32) = (m ((c : Thread nD τ).loc main_arg5)) := by
  funext i; blk_point [iblk, V, idx_val t]

theorem whole6 (c : Dev nD) (t : Fin cfg0.N) : (iblk m c 6 t : Vec Ideal S1x1024 .f32) = (m ((c : Thread nD τ).loc main_arg6)) := by
  funext i; blk_point [iblk, V, idx_val t]

theorem whole7 (c : Dev nD) (t : Fin cfg0.N) : (iblk m c 7 t : Vec Ideal S1x1024 .f32) = (m ((c : Thread nD τ).loc main_arg7)) := by
  funext i; blk_point [iblk, V, idx_val t]

theorem out_rows (c : Dev nD) (t : Fin cfg0.N) (y : S512x1024.Idx) :
    (outsAt0 m c t.val t.isLt).1 y = Mixed.atResidual (Norms.residual (iblk m c 0 t : Vec Ideal S512x1024 .f32) (iblk m c 1 t : Vec Ideal S512x1024 .f32) (iblk m c 4 t : Vec Ideal S1x1024 .f32) (iblk m c 5 t : Vec Ideal S1x1024 .f32)) (iblk m c 2 t : Vec Ideal S512x1024 .f32) (iblk m c 3 t : Vec Ideal S512x1024 .f32) (iblk m c 6 t : Vec Ideal S1x1024 .f32) (iblk m c 7 t : Vec Ideal S1x1024 .f32) y := by
  by_cases h : t.val % 8 = 0
  · rw [outsAt0_A m c t h]; dsimp only; frame_out
    rw [residual_eq, factors_eq, quotients_eq, at_residual]
  · rw [outsAt0_B m c t h]; dsimp only; frame_out
    rw [residual_eq, factors_eq, quotients_eq, at_residual]

/-- The gradient at the rows. -/
theorem final_rows (c : Dev nD) : (dats m 0 c).arrAt 9 (cfgs 0).N = Mixed.atResidual (Norms.residual (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7)) := by
  refine (dats m 0 c).arrAt_eq_of_covers 9 _ (by decide +kernel) fun t hf y => ?_
  blk_simp
  rw [after0_9, out_rows, block0, block1, block2, block3, whole4, whole5, whole6, whole7]
  simp only [Mixed.residual_piece, Mixed.atResidual_piece, Mixed.gated_piece, Mixed.gatePart_piece, Mixed.weightPart_piece, Mixed.scalePart_piece, Loss.back_piece, Loss.weightPart_piece]
  rw [Pieces.piece_apply]
  refine congrArg _ ?_
  blk_point [idx_val t, Pieces.at_]

theorem out_mixed (c : Dev nD) (t : Fin cfg0.N) (y : S512x1024.Idx) :
    (outsAt0 m c t.val t.isLt).2.1 y = Loss.back (iblk m c 1 t : Vec Ideal S512x1024 .f32) (Mixed.gated (Mixed.atResidual (Norms.residual (iblk m c 0 t : Vec Ideal S512x1024 .f32) (iblk m c 1 t : Vec Ideal S512x1024 .f32) (iblk m c 4 t : Vec Ideal S1x1024 .f32) (iblk m c 5 t : Vec Ideal S1x1024 .f32)) (iblk m c 2 t : Vec Ideal S512x1024 .f32) (iblk m c 3 t : Vec Ideal S512x1024 .f32) (iblk m c 6 t : Vec Ideal S1x1024 .f32) (iblk m c 7 t : Vec Ideal S1x1024 .f32)) (iblk m c 5 t : Vec Ideal S1x1024 .f32)) (iblk m c 4 t : Vec Ideal S1x1024 .f32) y := by
  by_cases h : t.val % 8 = 0
  · rw [outsAt0_A m c t h]; dsimp only; frame_out
    rw [residual_eq, factors_eq, quotients_eq, at_rows]
  · rw [outsAt0_B m c t h]; dsimp only; frame_out
    rw [residual_eq, factors_eq, quotients_eq, at_rows]

/-- The gradient at the mixed rows. -/
theorem final_mixed (c : Dev nD) : (dats m 0 c).arrAt 10 (cfgs 0).N = Loss.back (m ((c : Thread nD τ).loc main_arg1)) (Mixed.gated (Mixed.atResidual (Norms.residual (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg5))) (m ((c : Thread nD τ).loc main_arg4)) := by
  refine (dats m 0 c).arrAt_eq_of_covers 10 _ (by decide +kernel) fun t hf y => ?_
  blk_simp
  rw [after0_10, out_mixed, block0, block1, block2, block3, whole4, whole5, whole6, whole7]
  simp only [Mixed.residual_piece, Mixed.atResidual_piece, Mixed.gated_piece, Mixed.gatePart_piece, Mixed.weightPart_piece, Mixed.scalePart_piece, Loss.back_piece, Loss.weightPart_piece]
  rw [Pieces.piece_apply]
  refine congrArg _ ?_
  blk_point [idx_val t, Pieces.at_]

/-- What one grid point adds to the gradient at the weight of the norm of the mixed rows, row by row. -/
def of_post (c : Dev nD) (t : Fin cfg0.N) : Norms.Rows 512 := Loss.weightPart (iblk m c 1 t : Vec Ideal S512x1024 .f32) (Mixed.gated (Mixed.atResidual (Norms.residual (iblk m c 0 t : Vec Ideal S512x1024 .f32) (iblk m c 1 t : Vec Ideal S512x1024 .f32) (iblk m c 4 t : Vec Ideal S1x1024 .f32) (iblk m c 5 t : Vec Ideal S1x1024 .f32)) (iblk m c 2 t : Vec Ideal S512x1024 .f32) (iblk m c 3 t : Vec Ideal S512x1024 .f32) (iblk m c 6 t : Vec Ideal S1x1024 .f32) (iblk m c 7 t : Vec Ideal S1x1024 .f32)) (iblk m c 5 t : Vec Ideal S1x1024 .f32))

theorem of_post_eq (c : Dev nD) (t : Fin cfg0.N) : of_post m c t = Pieces.piece 512 (t.val * 512) (inside t) (Loss.weightPart (m ((c : Thread nD τ).loc main_arg1)) (Mixed.gated (Mixed.atResidual (Norms.residual (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg5)))) := by
  unfold of_post
  rw [block0, block1, block2, block3, whole4, whole5, whole6, whole7]
  simp only [Mixed.residual_piece, Mixed.atResidual_piece, Mixed.gated_piece, Mixed.gatePart_piece, Mixed.weightPart_piece, Mixed.scalePart_piece, Loss.back_piece, Loss.weightPart_piece]

theorem first_post (c : Dev nD) (t : Fin cfg0.N) (h : t.val % 8 = 0) (y : S1x1024.Idx) :
    (outsAt0 m c t.val t.isLt).2.2.1 y = 0 + Norms.down (of_post m c t) y := by
  rw [outsAt0_A m c t h]; dsimp only; frame_out
  rw [residual_eq, factors_eq, quotients_eq, plus_post, none_post, part_post]; rfl

theorem later_post (c : Dev nD) (t : Fin cfg0.N) (h : ¬t.val % 8 = 0) (y : S1x1024.Idx) :
    (outsAt0 m c t.val t.isLt).2.2.1 y
      = (outsAt0 m c (t.val - 1) (Nat.lt_of_le_of_lt (Nat.sub_le _ _) t.isLt)).2.2.1 y + Norms.down (of_post m c t) y := by
  rw [outsAt0_B m c t h]; dsimp only; frame_out
  rw [residual_eq, factors_eq, quotients_eq, plus_post, part_post]; rfl

/-- The gradient at the weight of the norm of the mixed rows. -/
theorem final_post (c : Dev nD) : (dats m 0 c).arrAt 11 (cfgs 0).N = Norms.down (Loss.weightPart (m ((c : Thread nD τ).loc main_arg1)) (Mixed.gated (Mixed.atResidual (Norms.residual (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg5)))) := by
  refine (dats m 0 c).arrAt_eq_of_covers 11 _ (by decide +kernel) fun t hf y => ?_
  blk_simp
  rw [after0_11,
    Pipeline.eq_sum_fin_of_reset_step_apply_of_flush (fun n h => (outsAt0 m c n h).2.2.1) 8 (fun _ => 0) (fun t => Norms.down (of_post m c t))
      (first_post m c) (later_post m c) t ((flush0_11 t).mp hf), zero_add]
  simp only [Norms.down, of_post_eq]
  refine Fin.sum_mul_add_congr fun s l hl => ?_
  rw [Pieces.piece_apply]
  refine congrArg _ ?_
  blk_point [idx_val t, Pieces.at_]

/-- What one grid point adds to the gradient at the gate, row by row. -/
def of_gate (c : Dev nD) (t : Fin cfg0.N) : Norms.Rows 512 := Mixed.gatePart (iblk m c 1 t : Vec Ideal S512x1024 .f32) (Mixed.atResidual (Norms.residual (iblk m c 0 t : Vec Ideal S512x1024 .f32) (iblk m c 1 t : Vec Ideal S512x1024 .f32) (iblk m c 4 t : Vec Ideal S1x1024 .f32) (iblk m c 5 t : Vec Ideal S1x1024 .f32)) (iblk m c 2 t : Vec Ideal S512x1024 .f32) (iblk m c 3 t : Vec Ideal S512x1024 .f32) (iblk m c 6 t : Vec Ideal S1x1024 .f32) (iblk m c 7 t : Vec Ideal S1x1024 .f32)) (iblk m c 4 t : Vec Ideal S1x1024 .f32)

theorem of_gate_eq (c : Dev nD) (t : Fin cfg0.N) : of_gate m c t = Pieces.piece 512 (t.val * 512) (inside t) (Mixed.gatePart (m ((c : Thread nD τ).loc main_arg1)) (Mixed.atResidual (Norms.residual (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg4))) := by
  unfold of_gate
  rw [block0, block1, block2, block3, whole4, whole5, whole6, whole7]
  simp only [Mixed.residual_piece, Mixed.atResidual_piece, Mixed.gated_piece, Mixed.gatePart_piece, Mixed.weightPart_piece, Mixed.scalePart_piece, Loss.back_piece, Loss.weightPart_piece]

theorem first_gate (c : Dev nD) (t : Fin cfg0.N) (h : t.val % 8 = 0) (y : S1x1024.Idx) :
    (outsAt0 m c t.val t.isLt).2.2.2.1 y = 0 + Norms.down (of_gate m c t) y := by
  rw [outsAt0_A m c t h]; dsimp only; frame_out
  rw [residual_eq, factors_eq, quotients_eq, plus_gate, none_gate, part_gate]; rfl

theorem later_gate (c : Dev nD) (t : Fin cfg0.N) (h : ¬t.val % 8 = 0) (y : S1x1024.Idx) :
    (outsAt0 m c t.val t.isLt).2.2.2.1 y
      = (outsAt0 m c (t.val - 1) (Nat.lt_of_le_of_lt (Nat.sub_le _ _) t.isLt)).2.2.2.1 y + Norms.down (of_gate m c t) y := by
  rw [outsAt0_B m c t h]; dsimp only; frame_out
  rw [residual_eq, factors_eq, quotients_eq, plus_gate, part_gate]; rfl

/-- The gradient at the gate. -/
theorem final_gate (c : Dev nD) : (dats m 0 c).arrAt 12 (cfgs 0).N = Norms.down (Mixed.gatePart (m ((c : Thread nD τ).loc main_arg1)) (Mixed.atResidual (Norms.residual (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg4))) := by
  refine (dats m 0 c).arrAt_eq_of_covers 12 _ (by decide +kernel) fun t hf y => ?_
  blk_simp
  rw [after0_12,
    Pipeline.eq_sum_fin_of_reset_step_apply_of_flush (fun n h => (outsAt0 m c n h).2.2.2.1) 8 (fun _ => 0) (fun t => Norms.down (of_gate m c t))
      (first_gate m c) (later_gate m c) t ((flush0_12 t).mp hf), zero_add]
  simp only [Norms.down, of_gate_eq]
  refine Fin.sum_mul_add_congr fun s l hl => ?_
  rw [Pieces.piece_apply]
  refine congrArg _ ?_
  blk_point [idx_val t, Pieces.at_]

/-- What one grid point adds to the gradient at the weight of the norm that follows, row by row. -/
def of_pre (c : Dev nD) (t : Fin cfg0.N) : Norms.Rows 512 := Norms.weightPart (Norms.residual (iblk m c 0 t : Vec Ideal S512x1024 .f32) (iblk m c 1 t : Vec Ideal S512x1024 .f32) (iblk m c 4 t : Vec Ideal S1x1024 .f32) (iblk m c 5 t : Vec Ideal S1x1024 .f32)) (iblk m c 3 t : Vec Ideal S512x1024 .f32) (iblk m c 7 t : Vec Ideal S1x1024 .f32)

theorem of_pre_eq (c : Dev nD) (t : Fin cfg0.N) : of_pre m c t = Pieces.piece 512 (t.val * 512) (inside t) (Norms.weightPart (Norms.residual (m ((c : Thread nD τ).loc main_arg0)) (m ((c : Thread nD τ).loc main_arg1)) (m ((c : Thread nD τ).loc main_arg4)) (m ((c : Thread nD τ).loc main_arg5))) (m ((c : Thread nD τ).loc main_arg3)) (m ((c : Thread nD τ).loc main_arg7))) := by
  unfold of_pre
  rw [block0, block1, block3, whole4, whole5, whole7]
  simp only [Mixed.residual_piece, Mixed.atResidual_piece, Mixed.gated_piece, Mixed.gatePart_piece, Mixed.weightPart_piece, Mixed.scalePart_piece, Loss.back_piece, Loss.weightPart_piece]

theorem first_pre (c : Dev nD) (t : Fin cfg0.N) (h : t.val % 8 = 0) (y : S1x1024.Idx) :
    (outsAt0 m c t.val t.isLt).2.2.2.2.1 y = 0 + Norms.down (of_pre m c t) y := by
  rw [outsAt0_A m c t h]; dsimp only; frame_out
  rw [residual_eq, factors_eq, plus_pre, none_pre, part_pre]; rfl

theorem later_pre (c : Dev nD) (t : Fin cfg0.N) (h : ¬t.val % 8 = 0) (y : S1x1024.Idx) :
    (outsAt0 m c t.val t.isLt).2.2.2.2.1 y
      = (outsAt0 m c (t.val - 1) (Nat.lt_of_le_of_lt (Nat.sub_le _ _) t.isLt)).2.2.2.2.1 y + Norms.down (of_pre m c t) y := by
  rw [outsAt0_B m c t h]; dsimp only; frame_out
  rw [residual_eq, factors_eq, plus_pre, part_pre]; rfl

/-- The gradient at the weight of the norm that follows. -/
theorem final_pre (c : Dev nD) : (dats m 0 c).arrAt 13 (cfgs 0).N = Norms.down (Norms.weightPart (Norms.residual (m ((c : Thread nD τ).loc main_arg0)) (m ((c : Thread nD τ).loc main_arg1)) (m ((c : Thread nD τ).loc main_arg4)) (m ((c : Thread nD τ).loc main_arg5))) (m ((c : Thread nD τ).loc main_arg3)) (m ((c : Thread nD τ).loc main_arg7))) := by
  refine (dats m 0 c).arrAt_eq_of_covers 13 _ (by decide +kernel) fun t hf y => ?_
  blk_simp
  rw [after0_13,
    Pipeline.eq_sum_fin_of_reset_step_apply_of_flush (fun n h => (outsAt0 m c n h).2.2.2.2.1) 8 (fun _ => 0) (fun t => Norms.down (of_pre m c t))
      (first_pre m c) (later_pre m c) t ((flush0_13 t).mp hf), zero_add]
  simp only [Norms.down, of_pre_eq]
  refine Fin.sum_mul_add_congr fun s l hl => ?_
  rw [Pieces.piece_apply]
  refine congrArg _ ?_
  blk_point [idx_val t, Pieces.at_]

/-- What one grid point adds to the gradient at the scale, row by row. -/
def of_scale (c : Dev nD) (t : Fin cfg0.N) : Norms.Rows 512 := Norms.scalePart (Norms.residual (iblk m c 0 t : Vec Ideal S512x1024 .f32) (iblk m c 1 t : Vec Ideal S512x1024 .f32) (iblk m c 4 t : Vec Ideal S1x1024 .f32) (iblk m c 5 t : Vec Ideal S1x1024 .f32)) (iblk m c 3 t : Vec Ideal S512x1024 .f32) (iblk m c 6 t : Vec Ideal S1x1024 .f32)

theorem of_scale_eq (c : Dev nD) (t : Fin cfg0.N) : of_scale m c t = Pieces.piece 512 (t.val * 512) (inside t) (Norms.scalePart (Norms.residual (m ((c : Thread nD τ).loc main_arg0)) (m ((c : Thread nD τ).loc main_arg1)) (m ((c : Thread nD τ).loc main_arg4)) (m ((c : Thread nD τ).loc main_arg5))) (m ((c : Thread nD τ).loc main_arg3)) (m ((c : Thread nD τ).loc main_arg6))) := by
  unfold of_scale
  rw [block0, block1, block3, whole4, whole5, whole6]
  simp only [Mixed.residual_piece, Mixed.atResidual_piece, Mixed.gated_piece, Mixed.gatePart_piece, Mixed.weightPart_piece, Mixed.scalePart_piece, Loss.back_piece, Loss.weightPart_piece]

theorem first_scale (c : Dev nD) (t : Fin cfg0.N) (h : t.val % 8 = 0) (y : S1x1024.Idx) :
    (outsAt0 m c t.val t.isLt).2.2.2.2.2.1 y = 0 + Norms.down (of_scale m c t) y := by
  rw [outsAt0_A m c t h]; dsimp only; frame_out
  rw [residual_eq, factors_eq, plus_scale, none_scale, part_scale]; rfl

theorem later_scale (c : Dev nD) (t : Fin cfg0.N) (h : ¬t.val % 8 = 0) (y : S1x1024.Idx) :
    (outsAt0 m c t.val t.isLt).2.2.2.2.2.1 y
      = (outsAt0 m c (t.val - 1) (Nat.lt_of_le_of_lt (Nat.sub_le _ _) t.isLt)).2.2.2.2.2.1 y + Norms.down (of_scale m c t) y := by
  rw [outsAt0_B m c t h]; dsimp only; frame_out
  rw [residual_eq, factors_eq, plus_scale, part_scale]; rfl

/-- The gradient at the scale. -/
theorem final_scale (c : Dev nD) : (dats m 0 c).arrAt 14 (cfgs 0).N = Norms.down (Norms.scalePart (Norms.residual (m ((c : Thread nD τ).loc main_arg0)) (m ((c : Thread nD τ).loc main_arg1)) (m ((c : Thread nD τ).loc main_arg4)) (m ((c : Thread nD τ).loc main_arg5))) (m ((c : Thread nD τ).loc main_arg3)) (m ((c : Thread nD τ).loc main_arg6))) := by
  refine (dats m 0 c).arrAt_eq_of_covers 14 _ (by decide +kernel) fun t hf y => ?_
  blk_simp
  rw [after0_14,
    Pipeline.eq_sum_fin_of_reset_step_apply_of_flush (fun n h => (outsAt0 m c n h).2.2.2.2.2.1) 8 (fun _ => 0) (fun t => Norms.down (of_scale m c t))
      (first_scale m c) (later_scale m c) t ((flush0_14 t).mp hf), zero_add]
  simp only [Norms.down, of_scale_eq]
  refine Fin.sum_mul_add_congr fun s l hl => ?_
  rw [Pieces.piece_apply]
  refine congrArg _ ?_
  blk_point [idx_val t, Pieces.at_]

/-- What one grid point adds to the gradient at the shift, row by row. -/
def of_shift (c : Dev nD) (t : Fin cfg0.N) : Norms.Rows 512 := (iblk m c 3 t : Vec Ideal S512x1024 .f32)

theorem of_shift_eq (c : Dev nD) (t : Fin cfg0.N) : of_shift m c t = Pieces.piece 512 (t.val * 512) (inside t) ((m ((c : Thread nD τ).loc main_arg3))) := by
  unfold of_shift
  rw [block3]
  try simp only [Mixed.residual_piece, Mixed.atResidual_piece, Mixed.gated_piece, Mixed.gatePart_piece, Mixed.weightPart_piece, Mixed.scalePart_piece, Loss.back_piece, Loss.weightPart_piece]

theorem first_shift (c : Dev nD) (t : Fin cfg0.N) (h : t.val % 8 = 0) (y : S1x1024.Idx) :
    (outsAt0 m c t.val t.isLt).2.2.2.2.2.2 y = 0 + Norms.down (of_shift m c t) y := by
  rw [outsAt0_A m c t h]; dsimp only; frame_out
  rw [plus_shift, none_shift, part_shift]; rfl

theorem later_shift (c : Dev nD) (t : Fin cfg0.N) (h : ¬t.val % 8 = 0) (y : S1x1024.Idx) :
    (outsAt0 m c t.val t.isLt).2.2.2.2.2.2 y
      = (outsAt0 m c (t.val - 1) (Nat.lt_of_le_of_lt (Nat.sub_le _ _) t.isLt)).2.2.2.2.2.2 y + Norms.down (of_shift m c t) y := by
  rw [outsAt0_B m c t h]; dsimp only; frame_out
  rw [plus_shift, part_shift]; rfl

/-- The gradient at the shift. -/
theorem final_shift (c : Dev nD) : (dats m 0 c).arrAt 15 (cfgs 0).N = Norms.down ((m ((c : Thread nD τ).loc main_arg3))) := by
  refine (dats m 0 c).arrAt_eq_of_covers 15 _ (by decide +kernel) fun t hf y => ?_
  blk_simp
  rw [after0_15,
    Pipeline.eq_sum_fin_of_reset_step_apply_of_flush (fun n h => (outsAt0 m c n h).2.2.2.2.2.2) 8 (fun _ => 0) (fun t => Norms.down (of_shift m c t))
      (first_shift m c) (later_shift m c) t ((flush0_15 t).mp hf), zero_add]
  simp only [Norms.down, of_shift_eq]
  refine Fin.sum_mul_add_congr fun s l hl => ?_
  rw [Pieces.piece_apply]
  refine congrArg _ ?_
  blk_point [idx_val t, Pieces.at_]

end Cert.PostmixBwdIdeal.Result

end
-- ==== Proof.PostmixBwdAgrees.lean ====
/- The call and its reference end with the same results: PostmixBwd. -/
module

public import proofs.«01_k».proof.Defs
public import proofs.«01_k».proof.Proof.Gen.PostmixBwdRefIdeal
public import proofs.«01_k».proof.Proof.Gen.PostmixBwdRefIdeal.Run
public import proofs.«01_k».proof.Proof.Gen.PostmixBwdIdeal
public import proofs.«01_k».proof.Proof.PostmixBwd
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.PostmixBwdIdeal.Result

set_option maxHeartbeats 8000000 in
theorem agree : algebraic_PostmixBwdIdeal_PostmixBwdRefIdeal (hPostmixBwdIdeal := PostmixBwdIdeal.Gen.facts) (hPostmixBwdRefIdeal := PostmixBwdRefIdeal.Gen.facts) := by
  intro m g m' g' hpre hagree
  refine ⟨fun c => Mixed.atResidual (Norms.residual (m (c.tc.loc PostmixBwdIdeal.main_arg0)) (m (c.tc.loc PostmixBwdIdeal.main_arg1)) (m (c.tc.loc PostmixBwdIdeal.main_arg4)) (m (c.tc.loc PostmixBwdIdeal.main_arg5))) (m (c.tc.loc PostmixBwdIdeal.main_arg2)) (m (c.tc.loc PostmixBwdIdeal.main_arg3)) (m (c.tc.loc PostmixBwdIdeal.main_arg6)) (m (c.tc.loc PostmixBwdIdeal.main_arg7)), fun c => Loss.back (m (c.tc.loc PostmixBwdIdeal.main_arg1)) (Mixed.gated (Mixed.atResidual (Norms.residual (m (c.tc.loc PostmixBwdIdeal.main_arg0)) (m (c.tc.loc PostmixBwdIdeal.main_arg1)) (m (c.tc.loc PostmixBwdIdeal.main_arg4)) (m (c.tc.loc PostmixBwdIdeal.main_arg5))) (m (c.tc.loc PostmixBwdIdeal.main_arg2)) (m (c.tc.loc PostmixBwdIdeal.main_arg3)) (m (c.tc.loc PostmixBwdIdeal.main_arg6)) (m (c.tc.loc PostmixBwdIdeal.main_arg7))) (m (c.tc.loc PostmixBwdIdeal.main_arg5))) (m (c.tc.loc PostmixBwdIdeal.main_arg4)), fun c => Norms.down (Loss.weightPart (m (c.tc.loc PostmixBwdIdeal.main_arg1)) (Mixed.gated (Mixed.atResidual (Norms.residual (m (c.tc.loc PostmixBwdIdeal.main_arg0)) (m (c.tc.loc PostmixBwdIdeal.main_arg1)) (m (c.tc.loc PostmixBwdIdeal.main_arg4)) (m (c.tc.loc PostmixBwdIdeal.main_arg5))) (m (c.tc.loc PostmixBwdIdeal.main_arg2)) (m (c.tc.loc PostmixBwdIdeal.main_arg3)) (m (c.tc.loc PostmixBwdIdeal.main_arg6)) (m (c.tc.loc PostmixBwdIdeal.main_arg7))) (m (c.tc.loc PostmixBwdIdeal.main_arg5)))), fun c => Norms.down (Mixed.gatePart (m (c.tc.loc PostmixBwdIdeal.main_arg1)) (Mixed.atResidual (Norms.residual (m (c.tc.loc PostmixBwdIdeal.main_arg0)) (m (c.tc.loc PostmixBwdIdeal.main_arg1)) (m (c.tc.loc PostmixBwdIdeal.main_arg4)) (m (c.tc.loc PostmixBwdIdeal.main_arg5))) (m (c.tc.loc PostmixBwdIdeal.main_arg2)) (m (c.tc.loc PostmixBwdIdeal.main_arg3)) (m (c.tc.loc PostmixBwdIdeal.main_arg6)) (m (c.tc.loc PostmixBwdIdeal.main_arg7))) (m (c.tc.loc PostmixBwdIdeal.main_arg4))), fun c => Norms.down (Norms.weightPart (Norms.residual (m (c.tc.loc PostmixBwdIdeal.main_arg0)) (m (c.tc.loc PostmixBwdIdeal.main_arg1)) (m (c.tc.loc PostmixBwdIdeal.main_arg4)) (m (c.tc.loc PostmixBwdIdeal.main_arg5))) (m (c.tc.loc PostmixBwdIdeal.main_arg3)) (m (c.tc.loc PostmixBwdIdeal.main_arg7))), fun c => Norms.down (Norms.scalePart (Norms.residual (m (c.tc.loc PostmixBwdIdeal.main_arg0)) (m (c.tc.loc PostmixBwdIdeal.main_arg1)) (m (c.tc.loc PostmixBwdIdeal.main_arg4)) (m (c.tc.loc PostmixBwdIdeal.main_arg5))) (m (c.tc.loc PostmixBwdIdeal.main_arg3)) (m (c.tc.loc PostmixBwdIdeal.main_arg6))), fun c => Norms.down ((m (c.tc.loc PostmixBwdIdeal.main_arg3))), ?_, ?_⟩
  · run_from PostmixBwdIdeal.Gen.run_main m g
    · exact final_rows m c
    · exact final_mixed m c
    · exact final_post m c
    · exact final_gate m c
    · exact final_pre m c
    · exact final_scale m c
    · exact final_shift m c
  · refine θ_run_mono (PostmixBwdRefIdeal.Value.run m' g') ?_
    intro r hr c
    refine ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2⟩
    · unfold PostmixBwdRefIdeal.Value.res_main_v66
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]
      simp only [Fin.sum_univ_one]
    · unfold PostmixBwdRefIdeal.Value.res_main_v92
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]
      simp only [Fin.sum_univ_one]
    · unfold PostmixBwdRefIdeal.Value.res_main_v75
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]
      simp only [Fin.sum_univ_one]
    · unfold PostmixBwdRefIdeal.Value.res_main_v72
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]
      simp only [Fin.sum_univ_one]
    · rw [(hagree c).1, (hagree c).2.1, (hagree c).2.2.2.1, (hagree c).2.2.2.2.1, (hagree c).2.2.2.2.2.1, (hagree c).2.2.2.2.2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]
    · rw [(hagree c).1, (hagree c).2.1, (hagree c).2.2.2.1, (hagree c).2.2.2.2.1, (hagree c).2.2.2.2.2.1, (hagree c).2.2.2.2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]
    · rw [(hagree c).2.2.2.1]
      funext i
      pointwise [Mixed.atResidual, Mixed.gated, Mixed.gatePart, Loss.back, Loss.through, Loss.weightPart, Norms.residual, Norms.normed, Norms.factor, Norms.spread, Norms.slope, Norms.unscaled, Norms.atNormed, Norms.through, Norms.weightPart, Norms.scalePart, Norms.down]

theorem quiet : quiescent_PostmixBwdRefIdeal (hPostmixBwdRefIdeal := PostmixBwdRefIdeal.Gen.facts) := by
  intro m ρ _
  exact (θ_run _ _ _).mono (fun _ h => ⟨fun c => (h c).2.2.2.2.2.2.2, sem_eq_zero_of_no_sems (by decide) _⟩) (PostmixBwdRefIdeal.Value.run m ρ)

end Cert.PostmixBwdIdeal.Result

end
-- ==== Proof.SmallCols.lean ====
/- The sum of the scans' narrow cotangents, put into the last columns of the projection's cotangent. -/
module

public import proofs.«01_k».proof.Proof.Products
public import proofs.«01_k».proof.Proof.Gen.SmallColsIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SmallColsIdeal.Result

open Cert.SmallColsIdeal Cert.SmallColsIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 14] :=
  (by decide +kernel : ∀ t : Fin grid0.N, _)

/-- Column `n` of the last columns: the sum of the two, and zero past their width. -/
def last (a b : FVec Ideal S4096x128 .f32) (r : Fin 4096) (n : Nat) : EReal :=
  if h : n - 14336 < 128 then a (ix2 r ⟨n - 14336, h⟩) + b (ix2 r ⟨n - 14336, h⟩) else 0

theorem last_sum (a b : FVec Ideal S4096x128 .f32) (r : Fin 4096) (n : Nat) (h : n - 14336 < 128) :
    last a b r n = a (ix2 r ⟨n - 14336, h⟩) + b (ix2 r ⟨n - 14336, h⟩) := dif_pos h

theorem last_zero (a b : FVec Ideal S4096x128 .f32) (r : Fin 4096) (n : Nat) (h : ¬n - 14336 < 128) : last a b r n = 0 := dif_neg h

/-- The projection's cotangent with its last columns filled in. -/
def filled (x : FVec Ideal S4096x15360 .bf16) (a b : FVec Ideal S4096x128 .f32) : FVec Ideal S4096x15360 .bf16 :=
  fun j => if 14336 ≤ (j 1).val then last a b (j 0) (j 1).val else x j

/-- One block of rows of the last columns. -/
theorem block2 (x0 x1 : Vec Ideal S512x128 .f32) (y : S512x1024.Idx) :
    k0_pay1 x0 x1 y = if h : (y 1).val < 128 then x0 (ix2 (y 0) ⟨(y 1).val, h⟩) + x1 (ix2 (y 0) ⟨(y 1).val, h⟩) else 0 := by
  pointwise [k0_pay1]

theorem final (c : Dev nD) : (dats m 0 c).arrAt 2 (cfgs 0).N
    = filled (m ((c : Thread nD τ).loc main_arg0)) (m ((c : Thread nD τ).loc main_arg1)) (m ((c : Thread nD τ).loc main_arg2)) := by
  funext j
  refine ((dats m 0 c).arrAt_apply_of_coversWhere 2 (fun j : S4096x15360.Idx => last (m ((c : Thread nD τ).loc main_arg1))
      (m ((c : Thread nD τ).loc main_arg2)) (j 0) (j 1).val)
    (P := fun j : S4096x15360.Idx => 14336 ≤ (j 1).val) (fun β => 14 ≤ β (1 : Fin 2))
    (by decide +kernel) (fun t hf y => ?_) (fun j => ?_) j).trans ?_
  · blk_simp; rw [after0_2]; unfold outsAt0; frame_out
    have e : win0_2.index t 1 * 1024 = 14336 := by rw [(idx_val t).2.2]; rfl
    rw [block2]; blk_simp
    rw [e, show ((win0 2).xinj (grid0.coords t) y 1).val = (y 1).val from rfl]
    by_cases k : (y 1).val < 128
    · rw [dif_pos k]
      refine Eq.trans ?_ (last_sum _ _ _ _ (by omega)).symm
      blk_point [iblk, V, idx_val t]
    · rw [dif_neg k]
      exact (last_zero _ _ _ _ (by omega)).symm
  · blk_simp [Pipeline.Window.cell_apply]; omega
  · unfold filled
    refine if_congr Iff.rfl rfl ?_
    rw [A_eq]
    rfl

end Cert.SmallColsIdeal.Result

end
-- ==== Proof.SmallColsAgrees.lean ====
/- The call and its reference end with the same results: SmallCols. -/
module

public import proofs.«01_k».proof.Defs
public import proofs.«01_k».proof.Proof.Gen.SmallColsRefIdeal
public import proofs.«01_k».proof.Proof.Gen.SmallColsRefIdeal.Run
public import proofs.«01_k».proof.Proof.Gen.SmallColsIdeal
public import proofs.«01_k».proof.Proof.SmallCols
public import Idealize.ShloMosaic.Lib.Claim
public import Idealize.ShloMosaic.Adequacy
public import Idealize.ShloMosaic.Init

@[expose] public section

set_option maxRecDepth 16384

noncomputable section

open Idealize.ShloMosaic Idealize.SL.Sem
open scoped BigOperators

namespace Cert.SmallColsIdeal.Result

theorem agree : algebraic_SmallColsIdeal_SmallColsRefIdeal (hSmallColsIdeal := SmallColsIdeal.Gen.facts) (hSmallColsRefIdeal := SmallColsRefIdeal.Gen.facts) := by
  intro m g m' g' hpre hagree
  refine ⟨fun c => filled (m (c.tc.loc SmallColsIdeal.main_arg0)) (m (c.tc.loc SmallColsIdeal.main_arg1)) (m (c.tc.loc SmallColsIdeal.main_arg2)), ?_, ?_⟩
  · run_from SmallColsIdeal.Gen.run_main m g
    · exact final m c
  · refine θ_run_mono (SmallColsRefIdeal.Value.run m' g') ?_
    intro r hr c
    refine ⟨(hr c).1.trans ?_, (hr c).2⟩
    rw [(hagree c).1, (hagree c).2.1, (hagree c).2.2]
    funext i
    pointwise [filled, last]
    by_cases k : (i 1).val < 14336
    · rw [dif_pos k, if_neg (Nat.not_le.mpr k)]
    · rw [dif_neg k, if_pos (Nat.not_lt.mp k)]

theorem quiet : quiescent_SmallColsRefIdeal (hSmallColsRefIdeal := SmallColsRefIdeal.Gen.facts) := by
  intro m ρ _
  exact (θ_run _ _ _).mono (fun _ h => ⟨fun c => (h c).2, sem_eq_zero_of_no_sems (by decide) _⟩) (SmallColsRefIdeal.Value.run m ρ)

end Cert.SmallColsIdeal.Result

end
-- ==== Proof.lean ====
/- The proof of the claim: every call keeps its frame, and every idealized call ends with its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpDownDx
public import proofs.«01_k».proof.Proof.Gen.MlpDownDx.Skeleton
public import proofs.«01_k».proof.Proof.Gen.MlpDownDx.Launch
public import proofs.«01_k».proof.Proof.Gen.MlpDownDx.Points
public import proofs.«01_k».proof.Proof.Gen.MlpDownDx.Frame
public import proofs.«01_k».proof.Proof.Gen.MlpDownDxIdeal
public import proofs.«01_k».proof.Proof.Gen.MlpDownDxIdeal.Skeleton
public import proofs.«01_k».proof.Proof.Gen.MlpDownDxIdeal.Launch
public import proofs.«01_k».proof.Proof.Gen.MlpDownDxIdeal.Points
public import proofs.«01_k».proof.Proof.Gen.MlpDownDxIdeal.Frame
public import proofs.«01_k».proof.Proof.Gen.MlpDownDxIdeal.Value
public import proofs.«01_k».proof.Proof.Gen.MlpDownDxRefIdeal
public import proofs.«01_k».proof.Proof.Gen.MlpDownDxRefIdeal.Run
public import proofs.«01_k».proof.Proof.Gen.MlpDownDw
public import proofs.«01_k».proof.Proof.Gen.MlpDownDw.Skeleton
public import proofs.«01_k».proof.Proof.Gen.MlpDownDw.Launch
public import proofs.«01_k».proof.Proof.Gen.MlpDownDw.Points
public import proofs.«01_k».proof.Proof.Gen.MlpDownDw.Frame
public import proofs.«01_k».proof.Proof.Gen.MlpDownDwIdeal
public import proofs.«01_k».proof.Proof.Gen.MlpDownDwIdeal.Skeleton
public import proofs.«01_k».proof.Proof.Gen.MlpDownDwIdeal.Launch
public import proofs.«01_k».proof.Proof.Gen.MlpDownDwIdeal.Points
public import proofs.«01_k».proof.Proof.Gen.MlpDownDwIdeal.Frame
public import proofs.«01_k».proof.Proof.Gen.MlpDownDwIdeal.Value
public import proofs.«01_k».proof.Proof.Gen.MlpDownDwRefIdeal
public import proofs.«01_k».proof.Proof.Gen.MlpDownDwRefIdeal.Run
public import proofs.«01_k».proof.Proof.Gen.MlpUpDx
public import proofs.«01_k».proof.Proof.Gen.MlpUpDx.Skeleton
public import proofs.«01_k».proof.Proof.Gen.MlpUpDx.Launch
public import proofs.«01_k».proof.Proof.Gen.MlpUpDx.Points
public import proofs.«01_k».proof.Proof.Gen.MlpUpDx.Frame
public import proofs.«01_k».proof.Proof.Gen.MlpUpDxIdeal
public import proofs.«01_k».proof.Proof.Gen.MlpUpDxIdeal.Skeleton
public import proofs.«01_k».proof.Proof.Gen.MlpUpDxIdeal.Launch
public import proofs.«01_k».proof.Proof.Gen.MlpUpDxIdeal.Points
public import proofs.«01_k».proof.Proof.Gen.MlpUpDxIdeal.Frame
public import proofs.«01_k».proof.Proof.Gen.MlpUpDxIdeal.Value
public import proofs.«01_k».proof.Proof.Gen.MlpUpDxRefIdeal
public import proofs.«01_k».proof.Proof.Gen.MlpUpDxRefIdeal.Run
public import proofs.«01_k».proof.Proof.Gen.MlpUpDw
public import proofs.«01_k».proof.Proof.Gen.MlpUpDw.Skeleton
public import proofs.«01_k».proof.Proof.Gen.MlpUpDw.Launch
public import proofs.«01_k».proof.Proof.Gen.MlpUpDw.Points
public import proofs.«01_k».proof.Proof.Gen.MlpUpDw.Frame
public import proofs.«01_k».proof.Proof.Gen.MlpUpDwIdeal
public import proofs.«01_k».proof.Proof.Gen.MlpUpDwIdeal.Skeleton
public import proofs.«01_k».proof.Proof.Gen.MlpUpDwIdeal.Launch
public import proofs.«01_k».proof.Proof.Gen.MlpUpDwIdeal.Points
public import proofs.«01_k».proof.Proof.Gen.MlpUpDwIdeal.Frame
public import proofs.«01_k».proof.Proof.Gen.MlpUpDwIdeal.Value
public import proofs.«01_k».proof.Proof.Gen.MlpUpDwRefIdeal
public import proofs.«01_k».proof.Proof.Gen.MlpUpDwRefIdeal.Run
public import proofs.«01_k».proof.Proof.Gen.WOutDx
public import proofs.«01_k».proof.Proof.Gen.WOutDx.Skeleton
public import proofs.«01_k».proof.Proof.Gen.WOutDx.Launch
public import proofs.«01_k».proof.Proof.Gen.WOutDx.Points
public import proofs.«01_k».proof.Proof.Gen.WOutDx.Frame
public import proofs.«01_k».proof.Proof.Gen.WOutDxIdeal
public import proofs.«01_k».proof.Proof.Gen.WOutDxIdeal.Skeleton
public import proofs.«01_k».proof.Proof.Gen.WOutDxIdeal.Launch
public import proofs.«01_k».proof.Proof.Gen.WOutDxIdeal.Points
public import proofs.«01_k».proof.Proof.Gen.WOutDxIdeal.Frame
public import proofs.«01_k».proof.Proof.Gen.WOutDxIdeal.Value
public import proofs.«01_k».proof.Proof.Gen.WOutDxRefIdeal
public import proofs.«01_k».proof.Proof.Gen.WOutDxRefIdeal.Run
public import proofs.«01_k».proof.Proof.Gen.WOutDw
public import proofs.«01_k».proof.Proof.Gen.WOutDw.Skeleton
public import proofs.«01_k».proof.Proof.Gen.WOutDw.Launch
public import proofs.«01_k».proof.Proof.Gen.WOutDw.Points
public import proofs.«01_k».proof.Proof.Gen.WOutDw.Frame
public import proofs.«01_k».proof.Proof.Gen.WOutDwIdeal
public import proofs.«01_k».proof.Proof.Gen.WOutDwIdeal.Skeleton
public import proofs.«01_k».proof.Proof.Gen.WOutDwIdeal.Launch
public import proofs.«01_k».proof.Proof.Gen.WOutDwIdeal.Points
public import proofs.«01_k».proof.Proof.Gen.WOutDwIdeal.Frame
public import proofs.«01_k».proof.Proof.Gen.WOutDwIdeal.Value
public import proofs.«01_k».proof.Proof.Gen.WOutDwRefIdeal
public import proofs.«01_k».proof.Proof.Gen.WOutDwRefIdeal.Run
public import proofs.«01_k».proof.Proof.Gen.SsmUp
public import proofs.«01_k».proof.Proof.Gen.SsmUp.Skeleton
public import proofs.«01_k».proof.Proof.Gen.SsmUp.Launch
public import proofs.«01_k».proof.Proof.Gen.SsmUp.Points
public import proofs.«01_k».proof.Proof.Gen.SsmUp.Frame
public import proofs.«01_k».proof.Proof.Gen.SsmUpIdeal
public import proofs.«01_k».proof.Proof.Gen.SsmUpIdeal.Skeleton
public import proofs.«01_k».proof.Proof.Gen.SsmUpIdeal.Launch
public import proofs.«01_k».proof.Proof.Gen.SsmUpIdeal.Points
public import proofs.«01_k».proof.Proof.Gen.SsmUpIdeal.Frame
public import proofs.«01_k».proof.Proof.Gen.SsmUpIdeal.Value
public import proofs.«01_k».proof.Proof.Gen.SsmUpRefIdeal
public import proofs.«01_k».proof.Proof.Gen.SsmUpRefIdeal.Run
public import proofs.«01_k».proof.Proof.Gen.GdnUp
public import proofs.«01_k».proof.Proof.Gen.GdnUp.Skeleton
public import proofs.«01_k».proof.Proof.Gen.GdnUp.Launch
public import proofs.«01_k».proof.Proof.Gen.GdnUp.Points
public import proofs.«01_k».proof.Proof.Gen.GdnUp.Frame
public import proofs.«01_k».proof.Proof.Gen.GdnUpIdeal
public import proofs.«01_k».proof.Proof.Gen.GdnUpIdeal.Skeleton
public import proofs.«01_k».proof.Proof.Gen.GdnUpIdeal.Launch
public import proofs.«01_k».proof.Proof.Gen.GdnUpIdeal.Points
public import proofs.«01_k».proof.Proof.Gen.GdnUpIdeal.Frame
public import proofs.«01_k».proof.Proof.Gen.GdnUpIdeal.Value
public import proofs.«01_k».proof.Proof.Gen.GdnUpRefIdeal
public import proofs.«01_k».proof.Proof.Gen.GdnUpRefIdeal.Run
public import proofs.«01_k».proof.Proof.Gen.SsmUpDx
public import proofs.«01_k».proof.Proof.Gen.SsmUpDx.Skeleton
public import proofs.«01_k».proof.Proof.Gen.SsmUpDx.Launch
public import proofs.«01_k».proof.Proof.Gen.SsmUpDx.Points
public import proofs.«01_k».proof.Proof.Gen.SsmUpDx.Frame
public import proofs.«01_k».proof.Proof.Gen.SsmUpDxIdeal
public import proofs.«01_k».proof.Proof.Gen.SsmUpDxIdeal.Skeleton
public import proofs.«01_k».proof.Proof.Gen.SsmUpDxIdeal.Launch
public import proofs.«01_k».proof.Proof.Gen.SsmUpDxIdeal.Points
public import proofs.«01_k».proof.Proof.Gen.SsmUpDxIdeal.Frame
public import proofs.«01_k».proof.Proof.Gen.SsmUpDxIdeal.Value
public import proofs.«01_k».proof.Proof.Gen.SsmUpDxRefIdeal
public import proofs.«01_k».proof.Proof.Gen.SsmUpDxRefIdeal.Run
public import proofs.«01_k».proof.Proof.Gen.GdnUpDx
public import proofs.«01_k».proof.Proof.Gen.GdnUpDx.Skeleton
public import proofs.«01_k».proof.Proof.Gen.GdnUpDx.Launch
public import proofs.«01_k».proof.Proof.Gen.GdnUpDx.Points
public import proofs.«01_k».proof.Proof.Gen.GdnUpDx.Frame
public import proofs.«01_k».proof.Proof.Gen.GdnUpDxIdeal
public import proofs.«01_k».proof.Proof.Gen.GdnUpDxIdeal.Skeleton
public import proofs.«01_k».proof.Proof.Gen.GdnUpDxIdeal.Launch
public import proofs.«01_k».proof.Proof.Gen.GdnUpDxIdeal.Points
public import proofs.«01_k».proof.Proof.Gen.GdnUpDxIdeal.Frame
public import proofs.«01_k».proof.Proof.Gen.GdnUpDxIdeal.Value
public import proofs.«01_k».proof.Proof.Gen.GdnUpDxRefIdeal
public import proofs.«01_k».proof.Proof.Gen.GdnUpDxRefIdeal.Run
public import proofs.«01_k».proof.Proof.Gen.GdnUpDw
public import proofs.«01_k».proof.Proof.Gen.GdnUpDw.Skeleton
public import proofs.«01_k».proof.Proof.Gen.GdnUpDw.Launch
public import proofs.«01_k».proof.Proof.Gen.GdnUpDw.Points
public import proofs.«01_k».proof.Proof.Gen.GdnUpDw.Frame
public import proofs.«01_k».proof.Proof.Gen.GdnUpDwIdeal
public import proofs.«01_k».proof.Proof.Gen.GdnUpDwIdeal.Skeleton
public import proofs.«01_k».proof.Proof.Gen.GdnUpDwIdeal.Launch
public import proofs.«01_k».proof.Proof.Gen.GdnUpDwIdeal.Points
public import proofs.«01_k».proof.Proof.Gen.GdnUpDwIdeal.Frame
public import proofs.«01_k».proof.Proof.Gen.GdnUpDwIdeal.Value
public import proofs.«01_k».proof.Proof.Gen.GdnUpDwRefIdeal
public import proofs.«01_k».proof.Proof.Gen.GdnUpDwRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjDx
public import proofs.«01_k».proof.Proof.Gen.InProjDx.Skeleton
public import proofs.«01_k».proof.Proof.Gen.InProjDx.Launch
public import proofs.«01_k».proof.Proof.Gen.InProjDx.Points
public import proofs.«01_k».proof.Proof.Gen.InProjDx.Frame
public import proofs.«01_k».proof.Proof.Gen.InProjDxIdeal
public import proofs.«01_k».proof.Proof.Gen.InProjDxIdeal.Skeleton
public import proofs.«01_k».proof.Proof.Gen.InProjDxIdeal.Launch
public import proofs.«01_k».proof.Proof.Gen.InProjDxIdeal.Points
public import proofs.«01_k».proof.Proof.Gen.InProjDxIdeal.Frame
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDw
public import proofs.«01_k».proof.Proof.Gen.InProjDw.Skeleton
public import proofs.«01_k».proof.Proof.Gen.InProjDw.Launch
public import proofs.«01_k».proof.Proof.Gen.InProjDw.Points
public import proofs.«01_k».proof.Proof.Gen.InProjDw.Frame
public import proofs.«01_k».proof.Proof.Gen.InProjDwIdeal
public import proofs.«01_k».proof.Proof.Gen.InProjDwIdeal.Skeleton
public import proofs.«01_k».proof.Proof.Gen.InProjDwIdeal.Launch
public import proofs.«01_k».proof.Proof.Gen.InProjDwIdeal.Points
public import proofs.«01_k».proof.Proof.Gen.InProjDwIdeal.Frame
public import proofs.«01_k».proof.Proof.Gen.InProjDwIdeal.Value
public import proofs.«01_k».proof.Proof.Gen.InProjDwRefIdeal
public import proofs.«01_k».proof.Proof.Gen.InProjDwRefIdeal.Run
public import proofs.«01_k».proof.Proof.Gen.SsmUpDw
public import proofs.«01_k».proof.Proof.Gen.SsmUpDw.Skeleton
public import proofs.«01_k».proof.Proof.Gen.SsmUpDw.Launch
public import proofs.«01_k».proof.Proof.Gen.SsmUpDw.Points
public import proofs.«01_k».proof.Proof.Gen.SsmUpDw.Frame
public import proofs.«01_k».proof.Proof.Gen.SsmUpDwIdeal
public import proofs.«01_k».proof.Proof.Gen.SsmUpDwIdeal.Skeleton
public import proofs.«01_k».proof.Proof.Gen.SsmUpDwIdeal.Launch
public import proofs.«01_k».proof.Proof.Gen.SsmUpDwIdeal.Points
public import proofs.«01_k».proof.Proof.Gen.SsmUpDwIdeal.Frame
public import proofs.«01_k».proof.Proof.Gen.SsmUpDwIdeal.Value
public import proofs.«01_k».proof.Proof.Gen.SsmUpDwRefIdeal
public import proofs.«01_k».proof.Proof.Gen.SsmUpDwRefIdeal.Run
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.PremixBwd
public import proofs.«01_k».proof.Proof.Gen.PremixBwd.Skeleton
public import proofs.«01_k».proof.Proof.Gen.PremixBwd.Launch
public import proofs.«01_k».proof.Proof.Gen.PremixBwd.Points
public import proofs.«01_k».proof.Proof.Gen.PremixBwd.Frame
public import proofs.«01_k».proof.Proof.Gen.PremixBwdIdeal
public import proofs.«01_k».proof.Proof.Gen.PremixBwdIdeal.Skeleton
public import proofs.«01_k».proof.Proof.Gen.PremixBwdIdeal.Launch
public import proofs.«01_k».proof.Proof.Gen.PremixBwdIdeal.Points
public import proofs.«01_k».proof.Proof.Gen.PremixBwdIdeal.Frame
public import proofs.«01_k».proof.Proof.Gen.PremixBwdIdeal.Value
public import proofs.«01_k».proof.Proof.Gen.PremixBwdRefIdeal
public import proofs.«01_k».proof.Proof.Gen.PremixBwdRefIdeal.Run
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInRefIdeal
public import proofs.«01_k».proof.Proof.Gen.AdamWInRefIdeal.Run
public import proofs.«01_k».proof.Proof.Gen.AdamSsmUp
public import proofs.«01_k».proof.Proof.Gen.AdamSsmUp.Skeleton
public import proofs.«01_k».proof.Proof.Gen.AdamSsmUp.Launch
public import proofs.«01_k».proof.Proof.Gen.AdamSsmUp.Points
public import proofs.«01_k».proof.Proof.Gen.AdamSsmUp.Frame
public import proofs.«01_k».proof.Proof.Gen.AdamSsmUpIdeal
public import proofs.«01_k».proof.Proof.Gen.AdamSsmUpIdeal.Skeleton
public import proofs.«01_k».proof.Proof.Gen.AdamSsmUpIdeal.Launch
public import proofs.«01_k».proof.Proof.Gen.AdamSsmUpIdeal.Points
public import proofs.«01_k».proof.Proof.Gen.AdamSsmUpIdeal.Frame
public import proofs.«01_k».proof.Proof.Gen.AdamSsmUpRefIdeal
public import proofs.«01_k».proof.Proof.Gen.AdamSsmUpRefIdeal.Run
public import proofs.«01_k».proof.Proof.Gen.AdamGdnUp
public import proofs.«01_k».proof.Proof.Gen.AdamGdnUp.Skeleton
public import proofs.«01_k».proof.Proof.Gen.AdamGdnUp.Launch
public import proofs.«01_k».proof.Proof.Gen.AdamGdnUp.Points
public import proofs.«01_k».proof.Proof.Gen.AdamGdnUp.Frame
public import proofs.«01_k».proof.Proof.Gen.AdamGdnUpIdeal
public import proofs.«01_k».proof.Proof.Gen.AdamGdnUpIdeal.Skeleton
public import proofs.«01_k».proof.Proof.Gen.AdamGdnUpIdeal.Launch
public import proofs.«01_k».proof.Proof.Gen.AdamGdnUpIdeal.Points
public import proofs.«01_k».proof.Proof.Gen.AdamGdnUpIdeal.Frame
public import proofs.«01_k».proof.Proof.Gen.AdamGdnUpRefIdeal
public import proofs.«01_k».proof.Proof.Gen.AdamGdnUpRefIdeal.Run
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutRefIdeal
public import proofs.«01_k».proof.Proof.Gen.AdamWOutRefIdeal.Run
public import proofs.«01_k».proof.Proof.Gen.AdamMlpUp
public import proofs.«01_k».proof.Proof.Gen.AdamMlpUp.Skeleton
public import proofs.«01_k».proof.Proof.Gen.AdamMlpUp.Launch
public import proofs.«01_k».proof.Proof.Gen.AdamMlpUp.Points
public import proofs.«01_k».proof.Proof.Gen.AdamMlpUp.Frame
public import proofs.«01_k».proof.Proof.Gen.AdamMlpUpIdeal
public import proofs.«01_k».proof.Proof.Gen.AdamMlpUpIdeal.Skeleton
public import proofs.«01_k».proof.Proof.Gen.AdamMlpUpIdeal.Launch
public import proofs.«01_k».proof.Proof.Gen.AdamMlpUpIdeal.Points
public import proofs.«01_k».proof.Proof.Gen.AdamMlpUpIdeal.Frame
public import proofs.«01_k».proof.Proof.Gen.AdamMlpUpRefIdeal
public import proofs.«01_k».proof.Proof.Gen.AdamMlpUpRefIdeal.Run
public import proofs.«01_k».proof.Proof.Gen.AdamMlpDown
public import proofs.«01_k».proof.Proof.Gen.AdamMlpDown.Skeleton
public import proofs.«01_k».proof.Proof.Gen.AdamMlpDown.Launch
public import proofs.«01_k».proof.Proof.Gen.AdamMlpDown.Points
public import proofs.«01_k».proof.Proof.Gen.AdamMlpDown.Frame
public import proofs.«01_k».proof.Proof.Gen.AdamMlpDownIdeal
public import proofs.«01_k».proof.Proof.Gen.AdamMlpDownIdeal.Skeleton
public import proofs.«01_k».proof.Proof.Gen.AdamMlpDownIdeal.Launch
public import proofs.«01_k».proof.Proof.Gen.AdamMlpDownIdeal.Points
public import proofs.«01_k».proof.Proof.Gen.AdamMlpDownIdeal.Frame
public import proofs.«01_k».proof.Proof.Gen.AdamMlpDownRefIdeal
public import proofs.«01_k».proof.Proof.Gen.AdamMlpDownRefIdeal.Run
public import proofs.«01_k».proof.Proof.Gen.SmallSum
public import proofs.«01_k».proof.Proof.Gen.SmallSum.Skeleton
public import proofs.«01_k».proof.Proof.Gen.SmallSum.Launch
public import proofs.«01_k».proof.Proof.Gen.SmallSum.Points
public import proofs.«01_k».proof.Proof.Gen.SmallSum.Frame
public import proofs.«01_k».proof.Proof.Gen.SmallSumIdeal
public import proofs.«01_k».proof.Proof.Gen.SmallSumIdeal.Skeleton
public import proofs.«01_k».proof.Proof.Gen.SmallSumIdeal.Launch
public import proofs.«01_k».proof.Proof.Gen.SmallSumIdeal.Points
public import proofs.«01_k».proof.Proof.Gen.SmallSumIdeal.Frame
public import proofs.«01_k».proof.Proof.Gen.SmallSumIdeal.Value
public import proofs.«01_k».proof.Proof.Gen.SmallSumRefIdeal
public import proofs.«01_k».proof.Proof.Gen.SmallSumRefIdeal.Run
public import proofs.«01_k».proof.Proof.Gen.SumIn
public import proofs.«01_k».proof.Proof.Gen.SumIn.Skeleton
public import proofs.«01_k».proof.Proof.Gen.SumIn.Launch
public import proofs.«01_k».proof.Proof.Gen.SumIn.Points
public import proofs.«01_k».proof.Proof.Gen.SumIn.Frame
public import proofs.«01_k».proof.Proof.Gen.SumInIdeal
public import proofs.«01_k».proof.Proof.Gen.SumInIdeal.Skeleton
public import proofs.«01_k».proof.Proof.Gen.SumInIdeal.Launch
public import proofs.«01_k».proof.Proof.Gen.SumInIdeal.Points
public import proofs.«01_k».proof.Proof.Gen.SumInIdeal.Frame
public import proofs.«01_k».proof.Proof.Gen.SumInRefIdeal
public import proofs.«01_k».proof.Proof.Gen.SumInRefIdeal.Run
public import proofs.«01_k».proof.Proof.Gen.SumUp
public import proofs.«01_k».proof.Proof.Gen.SumUp.Skeleton
public import proofs.«01_k».proof.Proof.Gen.SumUp.Launch
public import proofs.«01_k».proof.Proof.Gen.SumUp.Points
public import proofs.«01_k».proof.Proof.Gen.SumUp.Frame
public import proofs.«01_k».proof.Proof.Gen.SumUpIdeal
public import proofs.«01_k».proof.Proof.Gen.SumUpIdeal.Skeleton
public import proofs.«01_k».proof.Proof.Gen.SumUpIdeal.Launch
public import proofs.«01_k».proof.Proof.Gen.SumUpIdeal.Points
public import proofs.«01_k».proof.Proof.Gen.SumUpIdeal.Frame
public import proofs.«01_k».proof.Proof.Gen.SumUpRefIdeal
public import proofs.«01_k».proof.Proof.Gen.SumUpRefIdeal.Run
public import proofs.«01_k».proof.Proof.Gen.SumOut
public import proofs.«01_k».proof.Proof.Gen.SumOut.Skeleton
public import proofs.«01_k».proof.Proof.Gen.SumOut.Launch
public import proofs.«01_k».proof.Proof.Gen.SumOut.Points
public import proofs.«01_k».proof.Proof.Gen.SumOut.Frame
public import proofs.«01_k».proof.Proof.Gen.SumOutIdeal
public import proofs.«01_k».proof.Proof.Gen.SumOutIdeal.Skeleton
public import proofs.«01_k».proof.Proof.Gen.SumOutIdeal.Launch
public import proofs.«01_k».proof.Proof.Gen.SumOutIdeal.Points
public import proofs.«01_k».proof.Proof.Gen.SumOutIdeal.Frame
public import proofs.«01_k».proof.Proof.Gen.SumOutRefIdeal
public import proofs.«01_k».proof.Proof.Gen.SumOutRefIdeal.Run
public import proofs.«01_k».proof.Proof.Gen.SumMlp
public import proofs.«01_k».proof.Proof.Gen.SumMlp.Skeleton
public import proofs.«01_k».proof.Proof.Gen.SumMlp.Launch
public import proofs.«01_k».proof.Proof.Gen.SumMlp.Points
public import proofs.«01_k».proof.Proof.Gen.SumMlp.Frame
public import proofs.«01_k».proof.Proof.Gen.SumMlpIdeal
public import proofs.«01_k».proof.Proof.Gen.SumMlpIdeal.Skeleton
public import proofs.«01_k».proof.Proof.Gen.SumMlpIdeal.Launch
public import proofs.«01_k».proof.Proof.Gen.SumMlpIdeal.Points
public import proofs.«01_k».proof.Proof.Gen.SumMlpIdeal.Frame
public import proofs.«01_k».proof.Proof.Gen.SumMlpRefIdeal
public import proofs.«01_k».proof.Proof.Gen.SumMlpRefIdeal.Run
public import proofs.«01_k».proof.Proof.Gen.AddIn
public import proofs.«01_k».proof.Proof.Gen.AddIn.Skeleton
public import proofs.«01_k».proof.Proof.Gen.AddIn.Launch
public import proofs.«01_k».proof.Proof.Gen.AddIn.Points
public import proofs.«01_k».proof.Proof.Gen.AddIn.Frame
public import proofs.«01_k».proof.Proof.Gen.AddInIdeal
public import proofs.«01_k».proof.Proof.Gen.AddInIdeal.Skeleton
public import proofs.«01_k».proof.Proof.Gen.AddInIdeal.Launch
public import proofs.«01_k».proof.Proof.Gen.AddInIdeal.Points
public import proofs.«01_k».proof.Proof.Gen.AddInIdeal.Frame
public import proofs.«01_k».proof.Proof.Gen.AddInRefIdeal
public import proofs.«01_k».proof.Proof.Gen.AddInRefIdeal.Run
public import proofs.«01_k».proof.Proof.Gen.AddUp
public import proofs.«01_k».proof.Proof.Gen.AddUp.Skeleton
public import proofs.«01_k».proof.Proof.Gen.AddUp.Launch
public import proofs.«01_k».proof.Proof.Gen.AddUp.Points
public import proofs.«01_k».proof.Proof.Gen.AddUp.Frame
public import proofs.«01_k».proof.Proof.Gen.AddUpIdeal
public import proofs.«01_k».proof.Proof.Gen.AddUpIdeal.Skeleton
public import proofs.«01_k».proof.Proof.Gen.AddUpIdeal.Launch
public import proofs.«01_k».proof.Proof.Gen.AddUpIdeal.Points
public import proofs.«01_k».proof.Proof.Gen.AddUpIdeal.Frame
public import proofs.«01_k».proof.Proof.Gen.AddUpRefIdeal
public import proofs.«01_k».proof.Proof.Gen.AddUpRefIdeal.Run
public import proofs.«01_k».proof.Proof.Gen.AddOut
public import proofs.«01_k».proof.Proof.Gen.AddOut.Skeleton
public import proofs.«01_k».proof.Proof.Gen.AddOut.Launch
public import proofs.«01_k».proof.Proof.Gen.AddOut.Points
public import proofs.«01_k».proof.Proof.Gen.AddOut.Frame
public import proofs.«01_k».proof.Proof.Gen.AddOutIdeal
public import proofs.«01_k».proof.Proof.Gen.AddOutIdeal.Skeleton
public import proofs.«01_k».proof.Proof.Gen.AddOutIdeal.Launch
public import proofs.«01_k».proof.Proof.Gen.AddOutIdeal.Points
public import proofs.«01_k».proof.Proof.Gen.AddOutIdeal.Frame
public import proofs.«01_k».proof.Proof.Gen.AddOutRefIdeal
public import proofs.«01_k».proof.Proof.Gen.AddOutRefIdeal.Run
public import proofs.«01_k».proof.Proof.Gen.AddMlp
public import proofs.«01_k».proof.Proof.Gen.AddMlp.Skeleton
public import proofs.«01_k».proof.Proof.Gen.AddMlp.Launch
public import proofs.«01_k».proof.Proof.Gen.AddMlp.Points
public import proofs.«01_k».proof.Proof.Gen.AddMlp.Frame
public import proofs.«01_k».proof.Proof.Gen.AddMlpIdeal
public import proofs.«01_k».proof.Proof.Gen.AddMlpIdeal.Skeleton
public import proofs.«01_k».proof.Proof.Gen.AddMlpIdeal.Launch
public import proofs.«01_k».proof.Proof.Gen.AddMlpIdeal.Points
public import proofs.«01_k».proof.Proof.Gen.AddMlpIdeal.Frame
public import proofs.«01_k».proof.Proof.Gen.AddMlpRefIdeal
public import proofs.«01_k».proof.Proof.Gen.AddMlpRefIdeal.Run
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.Premix
public import proofs.«01_k».proof.Proof.Gen.Premix.Skeleton
public import proofs.«01_k».proof.Proof.Gen.Premix.Launch
public import proofs.«01_k».proof.Proof.Gen.Premix.Points
public import proofs.«01_k».proof.Proof.Gen.Premix.Frame
public import proofs.«01_k».proof.Proof.Gen.PremixIdeal
public import proofs.«01_k».proof.Proof.Gen.PremixIdeal.Skeleton
public import proofs.«01_k».proof.Proof.Gen.PremixIdeal.Launch
public import proofs.«01_k».proof.Proof.Gen.PremixIdeal.Points
public import proofs.«01_k».proof.Proof.Gen.PremixIdeal.Frame
public import proofs.«01_k».proof.Proof.Gen.PremixIdeal.Value
public import proofs.«01_k».proof.Proof.Gen.PremixRefIdeal
public import proofs.«01_k».proof.Proof.Gen.PremixRefIdeal.Run
public import proofs.«01_k».proof.Proof.Gen.Merged
public import proofs.«01_k».proof.Proof.Gen.Merged.Skeleton
public import proofs.«01_k».proof.Proof.Gen.Merged.Launch
public import proofs.«01_k».proof.Proof.Gen.Merged.Points
public import proofs.«01_k».proof.Proof.Gen.Merged.Frame
public import proofs.«01_k».proof.Proof.Gen.MergedIdeal
public import proofs.«01_k».proof.Proof.Gen.MergedIdeal.Skeleton
public import proofs.«01_k».proof.Proof.Gen.MergedIdeal.Launch
public import proofs.«01_k».proof.Proof.Gen.MergedIdeal.Points
public import proofs.«01_k».proof.Proof.Gen.MergedIdeal.Frame
public import proofs.«01_k».proof.Proof.Gen.MergedIdeal.Value
public import proofs.«01_k».proof.Proof.Gen.MergedRefIdeal
public import proofs.«01_k».proof.Proof.Gen.MergedRefIdeal.Run
public import proofs.«01_k».proof.Proof.Gen.Postmix
public import proofs.«01_k».proof.Proof.Gen.Postmix.Skeleton
public import proofs.«01_k».proof.Proof.Gen.Postmix.Launch
public import proofs.«01_k».proof.Proof.Gen.Postmix.Points
public import proofs.«01_k».proof.Proof.Gen.Postmix.Frame
public import proofs.«01_k».proof.Proof.Gen.PostmixIdeal
public import proofs.«01_k».proof.Proof.Gen.PostmixIdeal.Skeleton
public import proofs.«01_k».proof.Proof.Gen.PostmixIdeal.Launch
public import proofs.«01_k».proof.Proof.Gen.PostmixIdeal.Points
public import proofs.«01_k».proof.Proof.Gen.PostmixIdeal.Frame
public import proofs.«01_k».proof.Proof.Gen.PostmixIdeal.Value
public import proofs.«01_k».proof.Proof.Gen.PostmixRefIdeal
public import proofs.«01_k».proof.Proof.Gen.PostmixRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.PostmixBwd
public import proofs.«01_k».proof.Proof.Gen.PostmixBwd.Skeleton
public import proofs.«01_k».proof.Proof.Gen.PostmixBwd.Launch
public import proofs.«01_k».proof.Proof.Gen.PostmixBwd.Points
public import proofs.«01_k».proof.Proof.Gen.PostmixBwd.Frame
public import proofs.«01_k».proof.Proof.Gen.PostmixBwdIdeal
public import proofs.«01_k».proof.Proof.Gen.PostmixBwdIdeal.Skeleton
public import proofs.«01_k».proof.Proof.Gen.PostmixBwdIdeal.Launch
public import proofs.«01_k».proof.Proof.Gen.PostmixBwdIdeal.Points
public import proofs.«01_k».proof.Proof.Gen.PostmixBwdIdeal.Frame
public import proofs.«01_k».proof.Proof.Gen.PostmixBwdIdeal.Value
public import proofs.«01_k».proof.Proof.Gen.PostmixBwdRefIdeal
public import proofs.«01_k».proof.Proof.Gen.PostmixBwdRefIdeal.Run
public import proofs.«01_k».proof.Proof.Gen.SmallCols
public import proofs.«01_k».proof.Proof.Gen.SmallCols.Skeleton
public import proofs.«01_k».proof.Proof.Gen.SmallCols.Launch
public import proofs.«01_k».proof.Proof.Gen.SmallCols.Points
public import proofs.«01_k».proof.Proof.Gen.SmallCols.Frame
public import proofs.«01_k».proof.Proof.Gen.SmallColsIdeal
public import proofs.«01_k».proof.Proof.Gen.SmallColsIdeal.Skeleton
public import proofs.«01_k».proof.Proof.Gen.SmallColsIdeal.Launch
public import proofs.«01_k».proof.Proof.Gen.SmallColsIdeal.Points
public import proofs.«01_k».proof.Proof.Gen.SmallColsIdeal.Frame
public import proofs.«01_k».proof.Proof.Gen.SmallColsIdeal.Value
public import proofs.«01_k».proof.Proof.Gen.SmallColsRefIdeal
public import proofs.«01_k».proof.Proof.Gen.SmallColsRefIdeal.Run
public import proofs.«01_k».proof.Proof.Gen.Pre_place_in
public import proofs.«01_k».proof.Proof.Gen.Pre_place_up
public import proofs.«01_k».proof.Proof.Gen.Pre_place_out
public import proofs.«01_k».proof.Proof.Gen.Pre_place_mlp
public import proofs.«01_k».proof.Proof.Gen.Pre_core_in
public import proofs.«01_k».proof.Proof.Gen.Pre_core_up
public import proofs.«01_k».proof.Proof.Gen.Pre_core_out
public import proofs.«01_k».proof.Proof.Gen.Pre_core_mlp
public import proofs.«01_k».proof.Proof.Gen.On_gate_columns
public import proofs.«01_k».proof.Proof.MergeAgrees
public import proofs.«01_k».proof.Proof.MlpUpAgrees
public import proofs.«01_k».proof.Proof.MlpDownDxAgrees
public import proofs.«01_k».proof.Proof.MlpDownDwAgrees
public import proofs.«01_k».proof.Proof.MlpUpDxAgrees
public import proofs.«01_k».proof.Proof.MlpUpDwAgrees
public import proofs.«01_k».proof.Proof.WOutDxAgrees
public import proofs.«01_k».proof.Proof.WOutDwAgrees
public import proofs.«01_k».proof.Proof.SsmUpAgrees
public import proofs.«01_k».proof.Proof.GdnUpAgrees
public import proofs.«01_k».proof.Proof.SsmUpDxAgrees
public import proofs.«01_k».proof.Proof.GdnUpDxAgrees
public import proofs.«01_k».proof.Proof.GdnUpDwAgrees
public import proofs.«01_k».proof.Proof.InProjAgrees
public import proofs.«01_k».proof.Proof.InProjDxAgrees
public import proofs.«01_k».proof.Proof.InProjDwAgrees
public import proofs.«01_k».proof.Proof.SsmUpDwAgrees
public import proofs.«01_k».proof.Proof.AdaBwdAgrees
public import proofs.«01_k».proof.Proof.PremixBwdAgrees
public import proofs.«01_k».proof.Proof.AdamAdaAgrees
public import proofs.«01_k».proof.Proof.AdamSmallAgrees
public import proofs.«01_k».proof.Proof.AdamWInAgrees
public import proofs.«01_k».proof.Proof.AdamSsmUpAgrees
public import proofs.«01_k».proof.Proof.AdamGdnUpAgrees
public import proofs.«01_k».proof.Proof.AdamWOutAgrees
public import proofs.«01_k».proof.Proof.AdamMlpUpAgrees
public import proofs.«01_k».proof.Proof.AdamMlpDownAgrees
public import proofs.«01_k».proof.Proof.SmallSumAgrees
public import proofs.«01_k».proof.Proof.SumInAgrees
public import proofs.«01_k».proof.Proof.SumUpAgrees
public import proofs.«01_k».proof.Proof.SumOutAgrees
public import proofs.«01_k».proof.Proof.SumMlpAgrees
public import proofs.«01_k».proof.Proof.AddInAgrees
public import proofs.«01_k».proof.Proof.AddUpAgrees
public import proofs.«01_k».proof.Proof.AddOutAgrees
public import proofs.«01_k».proof.Proof.AddMlpAgrees
public import proofs.«01_k».proof.Proof.AdaFwdAgrees
public import proofs.«01_k».proof.Proof.PremixAgrees
public import proofs.«01_k».proof.Proof.MergedAgrees
public import proofs.«01_k».proof.Proof.PostmixAgrees
public import proofs.«01_k».proof.Proof.FinalAgrees
public import proofs.«01_k».proof.Proof.PostmixBwdAgrees
public import proofs.«01_k».proof.Proof.SmallColsAgrees
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.MlpUp.Gen.facts, Cert.MlpUpIdeal.Gen.facts, Cert.MlpUpRefIdeal.Gen.facts, Cert.MlpDownDx.Gen.facts, Cert.MlpDownDxIdeal.Gen.facts, Cert.MlpDownDxRefIdeal.Gen.facts, Cert.MlpDownDw.Gen.facts, Cert.MlpDownDwIdeal.Gen.facts, Cert.MlpDownDwRefIdeal.Gen.facts, Cert.MlpUpDx.Gen.facts, Cert.MlpUpDxIdeal.Gen.facts, Cert.MlpUpDxRefIdeal.Gen.facts, Cert.MlpUpDw.Gen.facts, Cert.MlpUpDwIdeal.Gen.facts, Cert.MlpUpDwRefIdeal.Gen.facts, Cert.WOutDx.Gen.facts, Cert.WOutDxIdeal.Gen.facts, Cert.WOutDxRefIdeal.Gen.facts, Cert.WOutDw.Gen.facts, Cert.WOutDwIdeal.Gen.facts, Cert.WOutDwRefIdeal.Gen.facts, Cert.SsmUp.Gen.facts, Cert.SsmUpIdeal.Gen.facts, Cert.SsmUpRefIdeal.Gen.facts, Cert.GdnUp.Gen.facts, Cert.GdnUpIdeal.Gen.facts, Cert.GdnUpRefIdeal.Gen.facts, Cert.SsmUpDx.Gen.facts, Cert.SsmUpDxIdeal.Gen.facts, Cert.SsmUpDxRefIdeal.Gen.facts, Cert.GdnUpDx.Gen.facts, Cert.GdnUpDxIdeal.Gen.facts, Cert.GdnUpDxRefIdeal.Gen.facts, Cert.GdnUpDw.Gen.facts, Cert.GdnUpDwIdeal.Gen.facts, Cert.GdnUpDwRefIdeal.Gen.facts, Cert.InProj.Gen.facts, Cert.InProjIdeal.Gen.facts, Cert.InProjRefIdeal.Gen.facts, Cert.InProjDx.Gen.facts, Cert.InProjDxIdeal.Gen.facts, Cert.InProjDxRefIdeal.Gen.facts, Cert.InProjDw.Gen.facts, Cert.InProjDwIdeal.Gen.facts, Cert.InProjDwRefIdeal.Gen.facts, Cert.SsmUpDw.Gen.facts, Cert.SsmUpDwIdeal.Gen.facts, Cert.SsmUpDwRefIdeal.Gen.facts, Cert.AdaBwd.Gen.facts, Cert.AdaBwdIdeal.Gen.facts, Cert.AdaBwdRefIdeal.Gen.facts, Cert.PremixBwd.Gen.facts, Cert.PremixBwdIdeal.Gen.facts, Cert.PremixBwdRefIdeal.Gen.facts, Cert.AdamAda.Gen.facts, Cert.AdamAdaIdeal.Gen.facts, Cert.AdamAdaRefIdeal.Gen.facts, Cert.AdamSmall.Gen.facts, Cert.AdamSmallIdeal.Gen.facts, Cert.AdamSmallRefIdeal.Gen.facts, Cert.AdamWIn.Gen.facts, Cert.AdamWInIdeal.Gen.facts, Cert.AdamWInRefIdeal.Gen.facts, Cert.AdamSsmUp.Gen.facts, Cert.AdamSsmUpIdeal.Gen.facts, Cert.AdamSsmUpRefIdeal.Gen.facts, Cert.AdamGdnUp.Gen.facts, Cert.AdamGdnUpIdeal.Gen.facts, Cert.AdamGdnUpRefIdeal.Gen.facts, Cert.AdamWOut.Gen.facts, Cert.AdamWOutIdeal.Gen.facts, Cert.AdamWOutRefIdeal.Gen.facts, Cert.AdamMlpUp.Gen.facts, Cert.AdamMlpUpIdeal.Gen.facts, Cert.AdamMlpUpRefIdeal.Gen.facts, Cert.AdamMlpDown.Gen.facts, Cert.AdamMlpDownIdeal.Gen.facts, Cert.AdamMlpDownRefIdeal.Gen.facts, Cert.SmallSum.Gen.facts, Cert.SmallSumIdeal.Gen.facts, Cert.SmallSumRefIdeal.Gen.facts, Cert.SumIn.Gen.facts, Cert.SumInIdeal.Gen.facts, Cert.SumInRefIdeal.Gen.facts, Cert.SumUp.Gen.facts, Cert.SumUpIdeal.Gen.facts, Cert.SumUpRefIdeal.Gen.facts, Cert.SumOut.Gen.facts, Cert.SumOutIdeal.Gen.facts, Cert.SumOutRefIdeal.Gen.facts, Cert.SumMlp.Gen.facts, Cert.SumMlpIdeal.Gen.facts, Cert.SumMlpRefIdeal.Gen.facts, Cert.AddIn.Gen.facts, Cert.AddInIdeal.Gen.facts, Cert.AddInRefIdeal.Gen.facts, Cert.AddUp.Gen.facts, Cert.AddUpIdeal.Gen.facts, Cert.AddUpRefIdeal.Gen.facts, Cert.AddOut.Gen.facts, Cert.AddOutIdeal.Gen.facts, Cert.AddOutRefIdeal.Gen.facts, Cert.AddMlp.Gen.facts, Cert.AddMlpIdeal.Gen.facts, Cert.AddMlpRefIdeal.Gen.facts, Cert.AdaFwd.Gen.facts, Cert.AdaFwdIdeal.Gen.facts, Cert.AdaFwdRefIdeal.Gen.facts, Cert.Premix.Gen.facts, Cert.PremixIdeal.Gen.facts, Cert.PremixRefIdeal.Gen.facts, Cert.Merged.Gen.facts, Cert.MergedIdeal.Gen.facts, Cert.MergedRefIdeal.Gen.facts, Cert.Postmix.Gen.facts, Cert.PostmixIdeal.Gen.facts, Cert.PostmixRefIdeal.Gen.facts, Cert.Final.Gen.facts, Cert.FinalIdeal.Gen.facts, Cert.FinalRefIdeal.Gen.facts, Cert.PostmixBwd.Gen.facts, Cert.PostmixBwdIdeal.Gen.facts, Cert.PostmixBwdRefIdeal.Gen.facts, Cert.SmallCols.Gen.facts, Cert.SmallColsIdeal.Gen.facts, Cert.SmallColsRefIdeal.Gen.facts, Cert.Pre_place_in.Gen.facts, Cert.Pre_place_up.Gen.facts, Cert.Pre_place_out.Gen.facts, Cert.Pre_place_mlp.Gen.facts, Cert.Pre_core_in.Gen.facts, Cert.Pre_core_up.Gen.facts, Cert.Pre_core_out.Gen.facts, Cert.Pre_core_mlp.Gen.facts, Cert.On_gate_columns.Gen.facts,
  fun m ρ _ => Cert.Kernel.Gen.frame m ρ,
  fun m ρ _ => Cert.KernelIdeal.Gen.frame m ρ,
  Cert.KernelIdeal.MergeBwd.quiet,
  fun m ρ _ => Cert.MlpUp.Gen.frame m ρ,
  fun m ρ _ => Cert.MlpUpIdeal.Gen.frame m ρ,
  Cert.MlpUpIdeal.Result.quiet,
  fun m ρ _ => Cert.MlpDownDx.Gen.frame m ρ,
  fun m ρ _ => Cert.MlpDownDxIdeal.Gen.frame m ρ,
  Cert.MlpDownDxIdeal.Result.quiet,
  fun m ρ _ => Cert.MlpDownDw.Gen.frame m ρ,
  fun m ρ _ => Cert.MlpDownDwIdeal.Gen.frame m ρ,
  Cert.MlpDownDwIdeal.Result.quiet,
  fun m ρ _ => Cert.MlpUpDx.Gen.frame m ρ,
  fun m ρ _ => Cert.MlpUpDxIdeal.Gen.frame m ρ,
  Cert.MlpUpDxIdeal.Result.quiet,
  fun m ρ _ => Cert.MlpUpDw.Gen.frame m ρ,
  fun m ρ _ => Cert.MlpUpDwIdeal.Gen.frame m ρ,
  Cert.MlpUpDwIdeal.Result.quiet,
  fun m ρ _ => Cert.WOutDx.Gen.frame m ρ,
  fun m ρ _ => Cert.WOutDxIdeal.Gen.frame m ρ,
  Cert.WOutDxIdeal.Result.quiet,
  fun m ρ _ => Cert.WOutDw.Gen.frame m ρ,
  fun m ρ _ => Cert.WOutDwIdeal.Gen.frame m ρ,
  Cert.WOutDwIdeal.Result.quiet,
  fun m ρ _ => Cert.SsmUp.Gen.frame m ρ,
  fun m ρ _ => Cert.SsmUpIdeal.Gen.frame m ρ,
  Cert.SsmUpIdeal.Result.quiet,
  fun m ρ _ => Cert.GdnUp.Gen.frame m ρ,
  fun m ρ _ => Cert.GdnUpIdeal.Gen.frame m ρ,
  Cert.GdnUpIdeal.Result.quiet,
  fun m ρ _ => Cert.SsmUpDx.Gen.frame m ρ,
  fun m ρ _ => Cert.SsmUpDxIdeal.Gen.frame m ρ,
  Cert.SsmUpDxIdeal.Result.quiet,
  fun m ρ _ => Cert.GdnUpDx.Gen.frame m ρ,
  fun m ρ _ => Cert.GdnUpDxIdeal.Gen.frame m ρ,
  Cert.GdnUpDxIdeal.Result.quiet,
  fun m ρ _ => Cert.GdnUpDw.Gen.frame m ρ,
  fun m ρ _ => Cert.GdnUpDwIdeal.Gen.frame m ρ,
  Cert.GdnUpDwIdeal.Result.quiet,
  fun m ρ _ => Cert.InProj.Gen.frame m ρ,
  fun m ρ _ => Cert.InProjIdeal.Gen.frame m ρ,
  Cert.InProjIdeal.Result.quiet,
  fun m ρ _ => Cert.InProjDx.Gen.frame m ρ,
  fun m ρ _ => Cert.InProjDxIdeal.Gen.frame m ρ,
  Cert.InProjDxIdeal.Result.quiet,
  fun m ρ _ => Cert.InProjDw.Gen.frame m ρ,
  fun m ρ _ => Cert.InProjDwIdeal.Gen.frame m ρ,
  Cert.InProjDwIdeal.Result.quiet,
  fun m ρ _ => Cert.SsmUpDw.Gen.frame m ρ,
  fun m ρ _ => Cert.SsmUpDwIdeal.Gen.frame m ρ,
  Cert.SsmUpDwIdeal.Result.quiet,
  fun m ρ _ => Cert.AdaBwd.Gen.frame m ρ,
  fun m ρ _ => Cert.AdaBwdIdeal.Gen.frame m ρ,
  Cert.AdaBwdIdeal.Result.quiet,
  fun m ρ _ => Cert.PremixBwd.Gen.frame m ρ,
  fun m ρ _ => Cert.PremixBwdIdeal.Gen.frame m ρ,
  Cert.PremixBwdIdeal.Result.quiet,
  fun m ρ _ => Cert.AdamAda.Gen.frame m ρ,
  fun m ρ _ => Cert.AdamAdaIdeal.Gen.frame m ρ,
  Cert.AdamAdaIdeal.Result.quiet,
  fun m ρ _ => Cert.AdamSmall.Gen.frame m ρ,
  fun m ρ _ => Cert.AdamSmallIdeal.Gen.frame m ρ,
  Cert.AdamSmallIdeal.Result.quiet,
  fun m ρ _ => Cert.AdamWIn.Gen.frame m ρ trivial,
  fun m ρ _ => Cert.AdamWInIdeal.Gen.frame m ρ trivial,
  Cert.AdamWInIdeal.Result.quiet,
  fun m ρ _ => Cert.AdamSsmUp.Gen.frame m ρ trivial,
  fun m ρ _ => Cert.AdamSsmUpIdeal.Gen.frame m ρ trivial,
  Cert.AdamSsmUpIdeal.Result.quiet,
  fun m ρ _ => Cert.AdamGdnUp.Gen.frame m ρ trivial,
  fun m ρ _ => Cert.AdamGdnUpIdeal.Gen.frame m ρ trivial,
  Cert.AdamGdnUpIdeal.Result.quiet,
  fun m ρ _ => Cert.AdamWOut.Gen.frame m ρ trivial,
  fun m ρ _ => Cert.AdamWOutIdeal.Gen.frame m ρ trivial,
  Cert.AdamWOutIdeal.Result.quiet,
  fun m ρ _ => Cert.AdamMlpUp.Gen.frame m ρ trivial,
  fun m ρ _ => Cert.AdamMlpUpIdeal.Gen.frame m ρ trivial,
  Cert.AdamMlpUpIdeal.Result.quiet,
  fun m ρ _ => Cert.AdamMlpDown.Gen.frame m ρ trivial,
  fun m ρ _ => Cert.AdamMlpDownIdeal.Gen.frame m ρ trivial,
  Cert.AdamMlpDownIdeal.Result.quiet,
  fun m ρ _ => Cert.SmallSum.Gen.frame m ρ,
  fun m ρ _ => Cert.SmallSumIdeal.Gen.frame m ρ,
  Cert.SmallSumIdeal.Result.quiet,
  fun m ρ h => Cert.SumIn.Gen.frame m ρ (Cert.SumIn.Result.okay m (Cert.SumIn.Result.chip_lt m h)),
  fun m ρ h => Cert.SumInIdeal.Gen.frame m ρ (Cert.SumInIdeal.Result.okay m (Cert.SumInIdeal.Result.chip_lt m h)),
  fun m ρ _ => Cert.SumInIdeal.Result.quiet_any m ρ,
  fun m ρ _ => Cert.SumInIdeal.Result.quiet_any m ρ,
  fun m ρ h => Cert.SumUp.Gen.frame m ρ (Cert.SumUp.Result.okay m (Cert.SumUp.Result.chip_lt m h)),
  fun m ρ h => Cert.SumUpIdeal.Gen.frame m ρ (Cert.SumUpIdeal.Result.okay m (Cert.SumUpIdeal.Result.chip_lt m h)),
  fun m ρ _ => Cert.SumUpIdeal.Result.quiet_any m ρ,
  fun m ρ _ => Cert.SumUpIdeal.Result.quiet_any m ρ,
  fun m ρ h => Cert.SumOut.Gen.frame m ρ (Cert.SumOut.Result.okay m (Cert.SumOut.Result.chip_lt m h)),
  fun m ρ h => Cert.SumOutIdeal.Gen.frame m ρ (Cert.SumOutIdeal.Result.okay m (Cert.SumOutIdeal.Result.chip_lt m h)),
  fun m ρ _ => Cert.SumOutIdeal.Result.quiet_any m ρ,
  fun m ρ _ => Cert.SumOutIdeal.Result.quiet_any m ρ,
  fun m ρ h => Cert.SumMlp.Gen.frame m ρ (Cert.SumMlp.Result.okay m (Cert.SumMlp.Result.chip_lt m h)),
  fun m ρ h => Cert.SumMlpIdeal.Gen.frame m ρ (Cert.SumMlpIdeal.Result.okay m (Cert.SumMlpIdeal.Result.chip_lt m h)),
  fun m ρ _ => Cert.SumMlpIdeal.Result.quiet_any m ρ,
  fun m ρ _ => Cert.SumMlpIdeal.Result.quiet_any m ρ,
  fun m ρ h => Cert.AddIn.Gen.frame m ρ (Cert.AddIn.Result.okay m (Cert.AddIn.Result.core_lt m h)),
  fun m ρ h => Cert.AddInIdeal.Gen.frame m ρ (Cert.AddInIdeal.Result.okay m (Cert.AddInIdeal.Result.core_lt m h)),
  fun m ρ _ => Cert.AddInIdeal.Result.quiet_any m ρ,
  fun m ρ _ => Cert.AddInIdeal.Result.quiet_any m ρ,
  fun m ρ h => Cert.AddUp.Gen.frame m ρ (Cert.AddUp.Result.okay m (Cert.AddUp.Result.core_lt m h)),
  fun m ρ h => Cert.AddUpIdeal.Gen.frame m ρ (Cert.AddUpIdeal.Result.okay m (Cert.AddUpIdeal.Result.core_lt m h)),
  fun m ρ _ => Cert.AddUpIdeal.Result.quiet_any m ρ,
  fun m ρ _ => Cert.AddUpIdeal.Result.quiet_any m ρ,
  fun m ρ h => Cert.AddOut.Gen.frame m ρ (Cert.AddOut.Result.okay m (Cert.AddOut.Result.core_lt m h)),
  fun m ρ h => Cert.AddOutIdeal.Gen.frame m ρ (Cert.AddOutIdeal.Result.okay m (Cert.AddOutIdeal.Result.core_lt m h)),
  fun m ρ _ => Cert.AddOutIdeal.Result.quiet_any m ρ,
  fun m ρ _ => Cert.AddOutIdeal.Result.quiet_any m ρ,
  fun m ρ h => Cert.AddMlp.Gen.frame m ρ (Cert.AddMlp.Result.okay m (Cert.AddMlp.Result.core_lt m h)),
  fun m ρ h => Cert.AddMlpIdeal.Gen.frame m ρ (Cert.AddMlpIdeal.Result.okay m (Cert.AddMlpIdeal.Result.core_lt m h)),
  fun m ρ _ => Cert.AddMlpIdeal.Result.quiet_any m ρ,
  fun m ρ _ => Cert.AddMlpIdeal.Result.quiet_any m ρ,
  fun m ρ _ => Cert.AdaFwd.Gen.frame m ρ,
  fun m ρ _ => Cert.AdaFwdIdeal.Gen.frame m ρ,
  Cert.AdaFwdIdeal.Result.quiet,
  fun m ρ _ => Cert.Premix.Gen.frame m ρ,
  fun m ρ _ => Cert.PremixIdeal.Gen.frame m ρ,
  Cert.PremixIdeal.Result.quiet,
  fun m ρ _ => Cert.Merged.Gen.frame m ρ,
  fun m ρ _ => Cert.MergedIdeal.Gen.frame m ρ,
  Cert.MergedIdeal.Result.quiet,
  fun m ρ _ => Cert.Postmix.Gen.frame m ρ,
  fun m ρ _ => Cert.PostmixIdeal.Gen.frame m ρ,
  Cert.PostmixIdeal.Result.quiet,
  fun m ρ _ => Cert.Final.Gen.frame m ρ,
  fun m ρ _ => Cert.FinalIdeal.Gen.frame m ρ,
  Cert.FinalIdeal.Result.quiet,
  fun m ρ _ => Cert.PostmixBwd.Gen.frame m ρ,
  fun m ρ _ => Cert.PostmixBwdIdeal.Gen.frame m ρ,
  Cert.PostmixBwdIdeal.Result.quiet,
  fun m ρ _ => Cert.SmallCols.Gen.frame m ρ,
  fun m ρ _ => Cert.SmallColsIdeal.Gen.frame m ρ,
  Cert.SmallColsIdeal.Result.quiet,
  trivial,
  Cert.KernelIdeal.MergeBwd.agree,
  trivial,
  Cert.MlpUpIdeal.Result.agree,
  trivial,
  Cert.MlpDownDxIdeal.Result.agree,
  trivial,
  Cert.MlpDownDwIdeal.Result.agree,
  trivial,
  Cert.MlpUpDxIdeal.Result.agree,
  trivial,
  Cert.MlpUpDwIdeal.Result.agree,
  trivial,
  Cert.WOutDxIdeal.Result.agree,
  trivial,
  Cert.WOutDwIdeal.Result.agree,
  trivial,
  Cert.SsmUpIdeal.Result.agree,
  trivial,
  Cert.GdnUpIdeal.Result.agree,
  trivial,
  Cert.SsmUpDxIdeal.Result.agree,
  trivial,
  Cert.GdnUpDxIdeal.Result.agree,
  trivial,
  Cert.GdnUpDwIdeal.Result.agree,
  trivial,
  Cert.InProjIdeal.Result.agree,
  trivial,
  Cert.InProjDxIdeal.Result.agree,
  trivial,
  Cert.InProjDwIdeal.Result.agree,
  trivial,
  Cert.SsmUpDwIdeal.Result.agree,
  trivial,
  Cert.AdaBwdIdeal.Result.agree,
  trivial,
  Cert.PremixBwdIdeal.Result.agree,
  trivial,
  Cert.AdamAdaIdeal.Result.agree,
  trivial,
  Cert.AdamSmallIdeal.Result.agree,
  trivial,
  Cert.AdamWInIdeal.Result.agree,
  trivial,
  Cert.AdamSsmUpIdeal.Result.agree,
  trivial,
  Cert.AdamGdnUpIdeal.Result.agree,
  trivial,
  Cert.AdamWOutIdeal.Result.agree,
  trivial,
  Cert.AdamMlpUpIdeal.Result.agree,
  trivial,
  Cert.AdamMlpDownIdeal.Result.agree,
  trivial,
  Cert.SmallSumIdeal.Result.agree,
  trivial,
  Cert.SumInIdeal.Result.agree,
  trivial,
  Cert.SumUpIdeal.Result.agree,
  trivial,
  Cert.SumOutIdeal.Result.agree,
  trivial,
  Cert.SumMlpIdeal.Result.agree,
  trivial,
  Cert.AddInIdeal.Result.agree,
  trivial,
  Cert.AddUpIdeal.Result.agree,
  trivial,
  Cert.AddOutIdeal.Result.agree,
  trivial,
  Cert.AddMlpIdeal.Result.agree,
  trivial,
  Cert.AdaFwdIdeal.Result.agree,
  trivial,
  Cert.PremixIdeal.Result.agree,
  trivial,
  Cert.MergedIdeal.Result.agree,
  trivial,
  Cert.PostmixIdeal.Result.agree,
  trivial,
  Cert.FinalIdeal.Result.agree,
  trivial,
  Cert.PostmixBwdIdeal.Result.agree,
  trivial,
  Cert.SmallColsIdeal.Result.agree⟩

end Cert.Proof

end
